-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatheredIdeal (m : (ℓ : Loc Cert.GatheredIdeal.nD Cert.GatheredIdeal.τ Cert.GatheredIdeal.sig) → Buf (Elt Ideal) ℓ) : Prop :=
  True

def Pre_Gathered (m : (ℓ : Loc Cert.Gathered.nD Cert.Gathered.τ Cert.Gathered.sig) → Buf (Elt Bits) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_GradXIdeal (m : (ℓ : Loc Cert.GradXIdeal.nD Cert.GradXIdeal.τ Cert.GradXIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwA (m : (ℓ : Loc Cert.DwA.nD Cert.DwA.τ Cert.DwA.sig) → Buf (Elt Bits) ℓ) : Prop :=
  True

def Pre_DwAIdeal (m : (ℓ : Loc Cert.DwAIdeal.nD Cert.DwAIdeal.τ Cert.DwAIdeal.sig) → Buf (Elt Ideal) ℓ) : Prop :=
  True

def Pre_DwARefIdeal (m : (ℓ : Loc Cert.DwARefIdeal.nD Cert.DwARefIdeal.τ Cert.DwARefIdeal.sig) → Buf (Elt Ideal) ℓ) : Prop :=
  True

def Pre_DwB (m : (ℓ : Loc Cert.DwB.nD Cert.DwB.τ Cert.DwB.sig) → Buf (Elt Bits) ℓ) : Prop :=
  True

def Pre_DwBIdeal (m : (ℓ : Loc Cert.DwBIdeal.nD Cert.DwBIdeal.τ Cert.DwBIdeal.sig) → Buf (Elt Ideal) ℓ) : Prop :=
  True

def Pre_DwBRefIdeal (m : (ℓ : Loc Cert.DwBRefIdeal.nD Cert.DwBRefIdeal.τ Cert.DwBRefIdeal.sig) → Buf (Elt Ideal) ℓ) : Prop :=
  True

def Pre_BranchA (m : (ℓ : Loc Cert.BranchA.nD Cert.BranchA.τ Cert.BranchA.sig) → Buf (Elt Bits) ℓ) : Prop :=
  True

def Pre_BranchAIdeal (m : (ℓ : Loc Cert.BranchAIdeal.nD Cert.BranchAIdeal.τ Cert.BranchAIdeal.sig) → Buf (Elt Ideal) ℓ) : Prop :=
  True

def Pre_BranchARefIdeal (m : (ℓ : Loc Cert.BranchARefIdeal.nD Cert.BranchARefIdeal.τ Cert.BranchARefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInStepIdeal (m : (ℓ : Loc Cert.NormInStepIdeal.nD Cert.NormInStepIdeal.τ Cert.NormInStepIdeal.sig) → Buf (Elt Ideal) ℓ) : Prop :=
  True

def Pre_NormV (m : (ℓ : Loc Cert.NormV.nD Cert.NormV.τ Cert.NormV.sig) → Buf (Elt Bits) ℓ) : Prop :=
  True

def Pre_NormVIdeal (m : (ℓ : Loc Cert.NormVIdeal.nD Cert.NormVIdeal.τ Cert.NormVIdeal.sig) → Buf (Elt Ideal) ℓ) : Prop :=
  True

def Pre_NormVStepIdeal (m : (ℓ : Loc Cert.NormVStepIdeal.nD Cert.NormVStepIdeal.τ Cert.NormVStepIdeal.sig) → Buf (Elt Ideal) ℓ) : Prop :=
  True

def Pre_NormFinal (m : (ℓ : Loc Cert.NormFinal.nD Cert.NormFinal.τ Cert.NormFinal.sig) → Buf (Elt Bits) ℓ) : Prop :=
  True

def Pre_NormFinalIdeal (m : (ℓ : Loc Cert.NormFinalIdeal.nD Cert.NormFinalIdeal.τ Cert.NormFinalIdeal.sig) → Buf (Elt Ideal) ℓ) : Prop :=
  True

def Pre_NormFinalStepIdeal (m : (ℓ : Loc Cert.NormFinalStepIdeal.nD Cert.NormFinalStepIdeal.τ Cert.NormFinalStepIdeal.sig) → Buf (Elt Ideal) ℓ) : Prop :=
  True

def Pre_Spatial (m : (ℓ : Loc Cert.Spatial.nD Cert.Spatial.τ Cert.Spatial.sig) → Buf (Elt Bits) ℓ) : Prop :=
  True

def Pre_SpatialIdeal (m : (ℓ : Loc Cert.SpatialIdeal.nD Cert.SpatialIdeal.τ Cert.SpatialIdeal.sig) → Buf (Elt Ideal) ℓ) : Prop :=
  True

def Pre_SpatialStepIdeal (m : (ℓ : Loc Cert.SpatialStepIdeal.nD Cert.SpatialStepIdeal.τ Cert.SpatialStepIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasStepIdeal (m : (ℓ : Loc Cert.BiasStepIdeal.nD Cert.BiasStepIdeal.τ Cert.BiasStepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_GatheredIdeal [hGatheredIdeal : Cert.GatheredIdeal.Facts] : Prop :=
  ∀ (m : (ℓ : Loc Cert.GatheredIdeal.nD Cert.GatheredIdeal.τ Cert.GatheredIdeal.sig) → Buf (Elt Ideal) ℓ) (g : Dev Cert.GatheredIdeal.nD → PrngReg), Pre_GatheredIdeal m →
    θ_run (Cert.GatheredIdeal.defs (F := Ideal)) (onTc (τ := Cert.GatheredIdeal.τ) (Cert.GatheredIdeal.main (F := Ideal))) ⟨m, fun _ => 0, g⟩ (fun r => (∀ c : Dev Cert.GatheredIdeal.nD,
      r.2.mem ((c.tc : Thread Cert.GatheredIdeal.nD Cert.GatheredIdeal.τ).loc Cert.GatheredIdeal.main_arg0) = m ((c.tc : Thread Cert.GatheredIdeal.nD Cert.GatheredIdeal.τ).loc Cert.GatheredIdeal.main_arg0)
      ∧ r.2.mem ((c.tc : Thread Cert.GatheredIdeal.nD Cert.GatheredIdeal.τ).loc Cert.GatheredIdeal.main_arg1) = m ((c.tc : Thread Cert.GatheredIdeal.nD Cert.GatheredIdeal.τ).loc Cert.GatheredIdeal.main_arg1)
      ∧ r.2.mem ((c.tc : Thread Cert.GatheredIdeal.nD Cert.GatheredIdeal.τ).loc Cert.GatheredIdeal.main_arg2) = m ((c.tc : Thread Cert.GatheredIdeal.nD Cert.GatheredIdeal.τ).loc Cert.GatheredIdeal.main_arg2)
      ∧ r.2.mem ((c.tc : Thread Cert.GatheredIdeal.nD Cert.GatheredIdeal.τ).loc Cert.GatheredIdeal.main_arg3) = m ((c.tc : Thread Cert.GatheredIdeal.nD Cert.GatheredIdeal.τ).loc Cert.GatheredIdeal.main_arg3))
      ∧ r.2.sem = fun _ => 0)

def quiescent_Gathered [hGathered : Cert.Gathered.Facts] : Prop :=
  ∀ (m : (ℓ : Loc Cert.Gathered.nD Cert.Gathered.τ Cert.Gathered.sig) → Buf (Elt Bits) ℓ) (g : Dev Cert.Gathered.nD → PrngReg), Pre_Gathered m →
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0)
      ∧ r.2.mem ((c.tc : Thread Cert.Gathered.nD Cert.Gathered.τ).loc Cert.Gathered.main_arg1) = m ((c.tc : Thread Cert.Gathered.nD Cert.Gathered.τ).loc Cert.Gathered.main_arg1)
      ∧ r.2.mem ((c.tc : Thread Cert.Gathered.nD Cert.Gathered.τ).loc Cert.Gathered.main_arg2) = m ((c.tc : Thread Cert.Gathered.nD Cert.Gathered.τ).loc Cert.Gathered.main_arg2)
      ∧ r.2.mem ((c.tc : Thread Cert.Gathered.nD Cert.Gathered.τ).loc Cert.Gathered.main_arg3) = m ((c.tc : Thread Cert.Gathered.nD Cert.Gathered.τ).loc Cert.Gathered.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwA [hDwA : Cert.DwA.Facts] : Prop :=
  ∀ (m : (ℓ : Loc Cert.DwA.nD Cert.DwA.τ Cert.DwA.sig) → Buf (Elt Bits) ℓ) (g : Dev Cert.DwA.nD → PrngReg), Pre_DwA m →
    θ_run (Cert.DwA.defs (F := Bits)) (onTc (τ := Cert.DwA.τ) (Cert.DwA.main (F := Bits))) ⟨m, fun _ => 0, g⟩ (fun r => (∀ c : Dev Cert.DwA.nD,
      r.2.mem ((c.tc : Thread Cert.DwA.nD Cert.DwA.τ).loc Cert.DwA.main_arg0) = m ((c.tc : Thread Cert.DwA.nD Cert.DwA.τ).loc Cert.DwA.main_arg0)
      ∧ r.2.mem ((c.tc : Thread Cert.DwA.nD Cert.DwA.τ).loc Cert.DwA.main_arg1) = m ((c.tc : Thread Cert.DwA.nD Cert.DwA.τ).loc Cert.DwA.main_arg1))
      ∧ r.2.sem = fun _ => 0)

def quiescent_DwAIdeal [hDwAIdeal : Cert.DwAIdeal.Facts] : Prop :=
  ∀ (m : (ℓ : Loc Cert.DwAIdeal.nD Cert.DwAIdeal.τ Cert.DwAIdeal.sig) → Buf (Elt Ideal) ℓ) (g : Dev Cert.DwAIdeal.nD → PrngReg), Pre_DwAIdeal m →
    θ_run (Cert.DwAIdeal.defs (F := Ideal)) (onTc (τ := Cert.DwAIdeal.τ) (Cert.DwAIdeal.main (F := Ideal))) ⟨m, fun _ => 0, g⟩ (fun r => (∀ c : Dev Cert.DwAIdeal.nD,
      r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
      ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ r.2.sem = fun _ => 0)

def quiescent_DwARefIdeal [hDwARefIdeal : Cert.DwARefIdeal.Facts] : Prop :=
  ∀ (m : (ℓ : Loc Cert.DwARefIdeal.nD Cert.DwARefIdeal.τ Cert.DwARefIdeal.sig) → Buf (Elt Ideal) ℓ) (g : Dev Cert.DwARefIdeal.nD → PrngReg), Pre_DwARefIdeal m →
    θ_run (Cert.DwARefIdeal.defs (F := Ideal)) (onTc (τ := Cert.DwARefIdeal.τ) (Cert.DwARefIdeal.main (F := Ideal))) ⟨m, fun _ => 0, g⟩ (fun r => (∀ c : Dev Cert.DwARefIdeal.nD,
      r.2.mem ((c.tc : Thread Cert.DwARefIdeal.nD Cert.DwARefIdeal.τ).loc Cert.DwARefIdeal.main_arg0) = m ((c.tc : Thread Cert.DwARefIdeal.nD Cert.DwARefIdeal.τ).loc Cert.DwARefIdeal.main_arg0)
      ∧ r.2.mem ((c.tc : Thread Cert.DwARefIdeal.nD Cert.DwARefIdeal.τ).loc Cert.DwARefIdeal.main_arg1) = m ((c.tc : Thread Cert.DwARefIdeal.nD Cert.DwARefIdeal.τ).loc Cert.DwARefIdeal.main_arg1))
      ∧ r.2.sem = fun _ => 0)

def quiescent_DwB [hDwB : Cert.DwB.Facts] : Prop :=
  ∀ (m : (ℓ : Loc Cert.DwB.nD Cert.DwB.τ Cert.DwB.sig) → Buf (Elt Bits) ℓ) (g : Dev Cert.DwB.nD → PrngReg), Pre_DwB m →
    θ_run (Cert.DwB.defs (F := Bits)) (onTc (τ := Cert.DwB.τ) (Cert.DwB.main (F := Bits))) ⟨m, fun _ => 0, g⟩ (fun r => (∀ c : Dev Cert.DwB.nD,
      r.2.mem ((c.tc : Thread Cert.DwB.nD Cert.DwB.τ).loc Cert.DwB.main_arg0) = m ((c.tc : Thread Cert.DwB.nD Cert.DwB.τ).loc Cert.DwB.main_arg0)
      ∧ r.2.mem ((c.tc : Thread Cert.DwB.nD Cert.DwB.τ).loc Cert.DwB.main_arg1) = m ((c.tc : Thread Cert.DwB.nD Cert.DwB.τ).loc Cert.DwB.main_arg1))
      ∧ r.2.sem = fun _ => 0)

def quiescent_DwBIdeal [hDwBIdeal : Cert.DwBIdeal.Facts] : Prop :=
  ∀ (m : (ℓ : Loc Cert.DwBIdeal.nD Cert.DwBIdeal.τ Cert.DwBIdeal.sig) → Buf (Elt Ideal) ℓ) (g : Dev Cert.DwBIdeal.nD → PrngReg), Pre_DwBIdeal m →
    θ_run (Cert.DwBIdeal.defs (F := Ideal)) (onTc (τ := Cert.DwBIdeal.τ) (Cert.DwBIdeal.main (F := Ideal))) ⟨m, fun _ => 0, g⟩ (fun r => (∀ c : Dev Cert.DwBIdeal.nD,
      r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
      ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ r.2.sem = fun _ => 0)

def quiescent_DwBRefIdeal [hDwBRefIdeal : Cert.DwBRefIdeal.Facts] : Prop :=
  ∀ (m : (ℓ : Loc Cert.DwBRefIdeal.nD Cert.DwBRefIdeal.τ Cert.DwBRefIdeal.sig) → Buf (Elt Ideal) ℓ) (g : Dev Cert.DwBRefIdeal.nD → PrngReg), Pre_DwBRefIdeal m →
    θ_run (Cert.DwBRefIdeal.defs (F := Ideal)) (onTc (τ := Cert.DwBRefIdeal.τ) (Cert.DwBRefIdeal.main (F := Ideal))) ⟨m, fun _ => 0, g⟩ (fun r => (∀ c : Dev Cert.DwBRefIdeal.nD,
      r.2.mem ((c.tc : Thread Cert.DwBRefIdeal.nD Cert.DwBRefIdeal.τ).loc Cert.DwBRefIdeal.main_arg0) = m ((c.tc : Thread Cert.DwBRefIdeal.nD Cert.DwBRefIdeal.τ).loc Cert.DwBRefIdeal.main_arg0)
      ∧ r.2.mem ((c.tc : Thread Cert.DwBRefIdeal.nD Cert.DwBRefIdeal.τ).loc Cert.DwBRefIdeal.main_arg1) = m ((c.tc : Thread Cert.DwBRefIdeal.nD Cert.DwBRefIdeal.τ).loc Cert.DwBRefIdeal.main_arg1))
      ∧ r.2.sem = fun _ => 0)

def quiescent_BranchA [hBranchA : Cert.BranchA.Facts] : Prop :=
  ∀ (m : (ℓ : Loc Cert.BranchA.nD Cert.BranchA.τ Cert.BranchA.sig) → Buf (Elt Bits) ℓ) (g : Dev Cert.BranchA.nD → PrngReg), Pre_BranchA m →
    θ_run (Cert.BranchA.defs (F := Bits)) (onTc (τ := Cert.BranchA.τ) (Cert.BranchA.main (F := Bits))) ⟨m, fun _ => 0, g⟩ (fun r => (∀ c : Dev Cert.BranchA.nD,
      r.2.mem ((c.tc : Thread Cert.BranchA.nD Cert.BranchA.τ).loc Cert.BranchA.main_arg0) = m ((c.tc : Thread Cert.BranchA.nD Cert.BranchA.τ).loc Cert.BranchA.main_arg0)
      ∧ r.2.mem ((c.tc : Thread Cert.BranchA.nD Cert.BranchA.τ).loc Cert.BranchA.main_arg1) = m ((c.tc : Thread Cert.BranchA.nD Cert.BranchA.τ).loc Cert.BranchA.main_arg1)
      ∧ r.2.mem ((c.tc : Thread Cert.BranchA.nD Cert.BranchA.τ).loc Cert.BranchA.main_arg2) = m ((c.tc : Thread Cert.BranchA.nD Cert.BranchA.τ).loc Cert.BranchA.main_arg2)
      ∧ r.2.mem ((c.tc : Thread Cert.BranchA.nD Cert.BranchA.τ).loc Cert.BranchA.main_arg3) = m ((c.tc : Thread Cert.BranchA.nD Cert.BranchA.τ).loc Cert.BranchA.main_arg3))
      ∧ r.2.sem = fun _ => 0)

def quiescent_BranchAIdeal [hBranchAIdeal : Cert.BranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg), Pre_BranchAIdeal m →
    θ_run (Cert.BranchAIdeal.defs (F := Ideal)) (onTc (τ := Cert.BranchAIdeal.τ) (Cert.BranchAIdeal.main (F := Ideal))) ⟨m, fun _ => 0, g⟩ (fun r => (∀ c : Dev Cert.BranchAIdeal.nD,
      r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
      ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1)
      ∧ r.2.mem ((c.tc : Thread Cert.BranchAIdeal.nD Cert.BranchAIdeal.τ).loc Cert.BranchAIdeal.main_arg2) = m ((c.tc : Thread Cert.BranchAIdeal.nD Cert.BranchAIdeal.τ).loc Cert.BranchAIdeal.main_arg2)
      ∧ r.2.mem ((c.tc : Thread Cert.BranchAIdeal.nD Cert.BranchAIdeal.τ).loc Cert.BranchAIdeal.main_arg3) = m ((c.tc : Thread Cert.BranchAIdeal.nD Cert.BranchAIdeal.τ).loc Cert.BranchAIdeal.main_arg3))
      ∧ r.2.sem = fun _ => 0)

def quiescent_BranchARefIdeal [hBranchARefIdeal : Cert.BranchARefIdeal.Facts] : Prop :=
  ∀ (m : (ℓ : Loc Cert.BranchARefIdeal.nD Cert.BranchARefIdeal.τ Cert.BranchARefIdeal.sig) → Buf (Elt Ideal) ℓ) (g : Dev Cert.BranchARefIdeal.nD → PrngReg), Pre_BranchARefIdeal m →
    θ_run (Cert.BranchARefIdeal.defs (F := Ideal)) (onTc (τ := Cert.BranchARefIdeal.τ) (Cert.BranchARefIdeal.main (F := Ideal))) ⟨m, fun _ => 0, g⟩ (fun r => (∀ c : Dev Cert.BranchARefIdeal.nD,
      r.2.mem ((c.tc : Thread Cert.BranchARefIdeal.nD Cert.BranchARefIdeal.τ).loc Cert.BranchARefIdeal.main_arg0) = m ((c.tc : Thread Cert.BranchARefIdeal.nD Cert.BranchARefIdeal.τ).loc Cert.BranchARefIdeal.main_arg0)
      ∧ r.2.mem ((c.tc : Thread Cert.BranchARefIdeal.nD Cert.BranchARefIdeal.τ).loc Cert.BranchARefIdeal.main_arg1) = m ((c.tc : Thread Cert.BranchARefIdeal.nD Cert.BranchARefIdeal.τ).loc Cert.BranchARefIdeal.main_arg1)
      ∧ r.2.mem ((c.tc : Thread Cert.BranchARefIdeal.nD Cert.BranchARefIdeal.τ).loc Cert.BranchARefIdeal.main_arg2) = m ((c.tc : Thread Cert.BranchARefIdeal.nD Cert.BranchARefIdeal.τ).loc Cert.BranchARefIdeal.main_arg2)
      ∧ r.2.mem ((c.tc : Thread Cert.BranchARefIdeal.nD Cert.BranchARefIdeal.τ).loc Cert.BranchARefIdeal.main_arg3) = m ((c.tc : Thread Cert.BranchARefIdeal.nD Cert.BranchARefIdeal.τ).loc Cert.BranchARefIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInStepIdeal [hNormInStepIdeal : Cert.NormInStepIdeal.Facts] : Prop :=
  ∀ (m : (ℓ : Loc Cert.NormInStepIdeal.nD Cert.NormInStepIdeal.τ Cert.NormInStepIdeal.sig) → Buf (Elt Ideal) ℓ) (g : Dev Cert.NormInStepIdeal.nD → PrngReg), Pre_NormInStepIdeal m →
    θ_run (Cert.NormInStepIdeal.defs (F := Ideal)) (onTc (τ := Cert.NormInStepIdeal.τ) (Cert.NormInStepIdeal.main (F := Ideal))) ⟨m, fun _ => 0, g⟩ (fun r => (∀ c : Dev Cert.NormInStepIdeal.nD,
      r.2.mem ((c.tc : Thread Cert.NormInStepIdeal.nD Cert.NormInStepIdeal.τ).loc Cert.NormInStepIdeal.main_arg0) = m ((c.tc : Thread Cert.NormInStepIdeal.nD Cert.NormInStepIdeal.τ).loc Cert.NormInStepIdeal.main_arg0)
      ∧ r.2.mem ((c.tc : Thread Cert.NormInStepIdeal.nD Cert.NormInStepIdeal.τ).loc Cert.NormInStepIdeal.main_arg1) = m ((c.tc : Thread Cert.NormInStepIdeal.nD Cert.NormInStepIdeal.τ).loc Cert.NormInStepIdeal.main_arg1)
      ∧ r.2.mem ((c.tc : Thread Cert.NormInStepIdeal.nD Cert.NormInStepIdeal.τ).loc Cert.NormInStepIdeal.main_arg2) = m ((c.tc : Thread Cert.NormInStepIdeal.nD Cert.NormInStepIdeal.τ).loc Cert.NormInStepIdeal.main_arg2)
      ∧ r.2.mem ((c.tc : Thread Cert.NormInStepIdeal.nD Cert.NormInStepIdeal.τ).loc Cert.NormInStepIdeal.main_arg3) = m ((c.tc : Thread Cert.NormInStepIdeal.nD Cert.NormInStepIdeal.τ).loc Cert.NormInStepIdeal.main_arg3))
      ∧ r.2.sem = fun _ => 0)

def quiescent_NormV [hNormV : Cert.NormV.Facts] : Prop :=
  ∀ (m : (ℓ : Loc Cert.NormV.nD Cert.NormV.τ Cert.NormV.sig) → Buf (Elt Bits) ℓ) (g : Dev Cert.NormV.nD → PrngReg), Pre_NormV m →
    θ_run (Cert.NormV.defs (F := Bits)) (onTc (τ := Cert.NormV.τ) (Cert.NormV.main (F := Bits))) ⟨m, fun _ => 0, g⟩ (fun r => (∀ c : Dev Cert.NormV.nD,
      r.2.mem ((c.tc : Thread Cert.NormV.nD Cert.NormV.τ).loc Cert.NormV.main_arg0) = m ((c.tc : Thread Cert.NormV.nD Cert.NormV.τ).loc Cert.NormV.main_arg0)
      ∧ r.2.mem ((c.tc : Thread Cert.NormV.nD Cert.NormV.τ).loc Cert.NormV.main_arg1) = m ((c.tc : Thread Cert.NormV.nD Cert.NormV.τ).loc Cert.NormV.main_arg1)
      ∧ r.2.mem ((c.tc : Thread Cert.NormV.nD Cert.NormV.τ).loc Cert.NormV.main_arg2) = m ((c.tc : Thread Cert.NormV.nD Cert.NormV.τ).loc Cert.NormV.main_arg2)
      ∧ r.2.mem ((c.tc : Thread Cert.NormV.nD Cert.NormV.τ).loc Cert.NormV.main_arg3) = m ((c.tc : Thread Cert.NormV.nD Cert.NormV.τ).loc Cert.NormV.main_arg3))
      ∧ r.2.sem = fun _ => 0)

def quiescent_NormVIdeal [hNormVIdeal : Cert.NormVIdeal.Facts] : Prop :=
  ∀ (m : (ℓ : Loc Cert.NormVIdeal.nD Cert.NormVIdeal.τ Cert.NormVIdeal.sig) → Buf (Elt Ideal) ℓ) (g : Dev Cert.NormVIdeal.nD → PrngReg), Pre_NormVIdeal m →
    θ_run (Cert.NormVIdeal.defs (F := Ideal)) (onTc (τ := Cert.NormVIdeal.τ) (Cert.NormVIdeal.main (F := Ideal))) ⟨m, fun _ => 0, g⟩ (fun r => (∀ c : Dev Cert.NormVIdeal.nD,
      r.2.mem ((c.tc : Thread Cert.NormVIdeal.nD Cert.NormVIdeal.τ).loc Cert.NormVIdeal.main_arg0) = m ((c.tc : Thread Cert.NormVIdeal.nD Cert.NormVIdeal.τ).loc Cert.NormVIdeal.main_arg0)
      ∧ r.2.mem ((c.tc : Thread Cert.NormVIdeal.nD Cert.NormVIdeal.τ).loc Cert.NormVIdeal.main_arg1) = m ((c.tc : Thread Cert.NormVIdeal.nD Cert.NormVIdeal.τ).loc Cert.NormVIdeal.main_arg1)
      ∧ r.2.mem ((c.tc : Thread Cert.NormVIdeal.nD Cert.NormVIdeal.τ).loc Cert.NormVIdeal.main_arg2) = m ((c.tc : Thread Cert.NormVIdeal.nD Cert.NormVIdeal.τ).loc Cert.NormVIdeal.main_arg2)
      ∧ r.2.mem ((c.tc : Thread Cert.NormVIdeal.nD Cert.NormVIdeal.τ).loc Cert.NormVIdeal.main_arg3) = m ((c.tc : Thread Cert.NormVIdeal.nD Cert.NormVIdeal.τ).loc Cert.NormVIdeal.main_arg3))
      ∧ r.2.sem = fun _ => 0)

def quiescent_NormVStepIdeal [hNormVStepIdeal : Cert.NormVStepIdeal.Facts] : Prop :=
  ∀ (m : (ℓ : Loc Cert.NormVStepIdeal.nD Cert.NormVStepIdeal.τ Cert.NormVStepIdeal.sig) → Buf (Elt Ideal) ℓ) (g : Dev Cert.NormVStepIdeal.nD → PrngReg), Pre_NormVStepIdeal m →
    θ_run (Cert.NormVStepIdeal.defs (F := Ideal)) (onTc (τ := Cert.NormVStepIdeal.τ) (Cert.NormVStepIdeal.main (F := Ideal))) ⟨m, fun _ => 0, g⟩ (fun r => (∀ c : Dev Cert.NormVStepIdeal.nD,
      r.2.mem ((c.tc : Thread Cert.NormVStepIdeal.nD Cert.NormVStepIdeal.τ).loc Cert.NormVStepIdeal.main_arg0) = m ((c.tc : Thread Cert.NormVStepIdeal.nD Cert.NormVStepIdeal.τ).loc Cert.NormVStepIdeal.main_arg0)
      ∧ r.2.mem ((c.tc : Thread Cert.NormVStepIdeal.nD Cert.NormVStepIdeal.τ).loc Cert.NormVStepIdeal.main_arg1) = m ((c.tc : Thread Cert.NormVStepIdeal.nD Cert.NormVStepIdeal.τ).loc Cert.NormVStepIdeal.main_arg1)
      ∧ r.2.mem ((c.tc : Thread Cert.NormVStepIdeal.nD Cert.NormVStepIdeal.τ).loc Cert.NormVStepIdeal.main_arg2) = m ((c.tc : Thread Cert.NormVStepIdeal.nD Cert.NormVStepIdeal.τ).loc Cert.NormVStepIdeal.main_arg2)
      ∧ r.2.mem ((c.tc : Thread Cert.NormVStepIdeal.nD Cert.NormVStepIdeal.τ).loc Cert.NormVStepIdeal.main_arg3) = m ((c.tc : Thread Cert.NormVStepIdeal.nD Cert.NormVStepIdeal.τ).loc Cert.NormVStepIdeal.main_arg3))
      ∧ r.2.sem = fun _ => 0)

def quiescent_NormFinal [hNormFinal : Cert.NormFinal.Facts] : Prop :=
  ∀ (m : (ℓ : Loc Cert.NormFinal.nD Cert.NormFinal.τ Cert.NormFinal.sig) → Buf (Elt Bits) ℓ) (g : Dev Cert.NormFinal.nD → PrngReg), Pre_NormFinal m →
    θ_run (Cert.NormFinal.defs (F := Bits)) (onTc (τ := Cert.NormFinal.τ) (Cert.NormFinal.main (F := Bits))) ⟨m, fun _ => 0, g⟩ (fun r => (∀ c : Dev Cert.NormFinal.nD,
      r.2.mem ((c.tc : Thread Cert.NormFinal.nD Cert.NormFinal.τ).loc Cert.NormFinal.main_arg0) = m ((c.tc : Thread Cert.NormFinal.nD Cert.NormFinal.τ).loc Cert.NormFinal.main_arg0)
      ∧ r.2.mem ((c.tc : Thread Cert.NormFinal.nD Cert.NormFinal.τ).loc Cert.NormFinal.main_arg1) = m ((c.tc : Thread Cert.NormFinal.nD Cert.NormFinal.τ).loc Cert.NormFinal.main_arg1)
      ∧ r.2.mem ((c.tc : Thread Cert.NormFinal.nD Cert.NormFinal.τ).loc Cert.NormFinal.main_arg2) = m ((c.tc : Thread Cert.NormFinal.nD Cert.NormFinal.τ).loc Cert.NormFinal.main_arg2)
      ∧ r.2.mem ((c.tc : Thread Cert.NormFinal.nD Cert.NormFinal.τ).loc Cert.NormFinal.main_arg3) = m ((c.tc : Thread Cert.NormFinal.nD Cert.NormFinal.τ).loc Cert.NormFinal.main_arg3))
      ∧ r.2.sem = fun _ => 0)

def quiescent_NormFinalIdeal [hNormFinalIdeal : Cert.NormFinalIdeal.Facts] : Prop :=
  ∀ (m : (ℓ : Loc Cert.NormFinalIdeal.nD Cert.NormFinalIdeal.τ Cert.NormFinalIdeal.sig) → Buf (Elt Ideal) ℓ) (g : Dev Cert.NormFinalIdeal.nD → PrngReg), Pre_NormFinalIdeal m →
    θ_run (Cert.NormFinalIdeal.defs (F := Ideal)) (onTc (τ := Cert.NormFinalIdeal.τ) (Cert.NormFinalIdeal.main (F := Ideal))) ⟨m, fun _ => 0, g⟩ (fun r => (∀ c : Dev Cert.NormFinalIdeal.nD,
      r.2.mem ((c.tc : Thread Cert.NormFinalIdeal.nD Cert.NormFinalIdeal.τ).loc Cert.NormFinalIdeal.main_arg0) = m ((c.tc : Thread Cert.NormFinalIdeal.nD Cert.NormFinalIdeal.τ).loc Cert.NormFinalIdeal.main_arg0)
      ∧ r.2.mem ((c.tc : Thread Cert.NormFinalIdeal.nD Cert.NormFinalIdeal.τ).loc Cert.NormFinalIdeal.main_arg1) = m ((c.tc : Thread Cert.NormFinalIdeal.nD Cert.NormFinalIdeal.τ).loc Cert.NormFinalIdeal.main_arg1)
      ∧ r.2.mem ((c.tc : Thread Cert.NormFinalIdeal.nD Cert.NormFinalIdeal.τ).loc Cert.NormFinalIdeal.main_arg2) = m ((c.tc : Thread Cert.NormFinalIdeal.nD Cert.NormFinalIdeal.τ).loc Cert.NormFinalIdeal.main_arg2)
      ∧ r.2.mem ((c.tc : Thread Cert.NormFinalIdeal.nD Cert.NormFinalIdeal.τ).loc Cert.NormFinalIdeal.main_arg3) = m ((c.tc : Thread Cert.NormFinalIdeal.nD Cert.NormFinalIdeal.τ).loc Cert.NormFinalIdeal.main_arg3))
      ∧ r.2.sem = fun _ => 0)

def quiescent_NormFinalStepIdeal [hNormFinalStepIdeal : Cert.NormFinalStepIdeal.Facts] : Prop :=
  ∀ (m : (ℓ : Loc Cert.NormFinalStepIdeal.nD Cert.NormFinalStepIdeal.τ Cert.NormFinalStepIdeal.sig) → Buf (Elt Ideal) ℓ) (g : Dev Cert.NormFinalStepIdeal.nD → PrngReg), Pre_NormFinalStepIdeal m →
    θ_run (Cert.NormFinalStepIdeal.defs (F := Ideal)) (onTc (τ := Cert.NormFinalStepIdeal.τ) (Cert.NormFinalStepIdeal.main (F := Ideal))) ⟨m, fun _ => 0, g⟩ (fun r => (∀ c : Dev Cert.NormFinalStepIdeal.nD,
      r.2.mem ((c.tc : Thread Cert.NormFinalStepIdeal.nD Cert.NormFinalStepIdeal.τ).loc Cert.NormFinalStepIdeal.main_arg0) = m ((c.tc : Thread Cert.NormFinalStepIdeal.nD Cert.NormFinalStepIdeal.τ).loc Cert.NormFinalStepIdeal.main_arg0)
      ∧ r.2.mem ((c.tc : Thread Cert.NormFinalStepIdeal.nD Cert.NormFinalStepIdeal.τ).loc Cert.NormFinalStepIdeal.main_arg1) = m ((c.tc : Thread Cert.NormFinalStepIdeal.nD Cert.NormFinalStepIdeal.τ).loc Cert.NormFinalStepIdeal.main_arg1)
      ∧ r.2.mem ((c.tc : Thread Cert.NormFinalStepIdeal.nD Cert.NormFinalStepIdeal.τ).loc Cert.NormFinalStepIdeal.main_arg2) = m ((c.tc : Thread Cert.NormFinalStepIdeal.nD Cert.NormFinalStepIdeal.τ).loc Cert.NormFinalStepIdeal.main_arg2)
      ∧ r.2.mem ((c.tc : Thread Cert.NormFinalStepIdeal.nD Cert.NormFinalStepIdeal.τ).loc Cert.NormFinalStepIdeal.main_arg3) = m ((c.tc : Thread Cert.NormFinalStepIdeal.nD Cert.NormFinalStepIdeal.τ).loc Cert.NormFinalStepIdeal.main_arg3))
      ∧ r.2.sem = fun _ => 0)

def quiescent_Spatial [hSpatial : Cert.Spatial.Facts] : Prop :=
  ∀ (m : (ℓ : Loc Cert.Spatial.nD Cert.Spatial.τ Cert.Spatial.sig) → Buf (Elt Bits) ℓ) (g : Dev Cert.Spatial.nD → PrngReg), Pre_Spatial m →
    θ_run (Cert.Spatial.defs (F := Bits)) (onTc (τ := Cert.Spatial.τ) (Cert.Spatial.main (F := Bits))) ⟨m, fun _ => 0, g⟩ (fun r => (∀ c : Dev Cert.Spatial.nD,
      r.2.mem ((c.tc : Thread Cert.Spatial.nD Cert.Spatial.τ).loc Cert.Spatial.main_arg0) = m ((c.tc : Thread Cert.Spatial.nD Cert.Spatial.τ).loc Cert.Spatial.main_arg0)
      ∧ r.2.mem ((c.tc : Thread Cert.Spatial.nD Cert.Spatial.τ).loc Cert.Spatial.main_arg1) = m ((c.tc : Thread Cert.Spatial.nD Cert.Spatial.τ).loc Cert.Spatial.main_arg1)
      ∧ r.2.mem ((c.tc : Thread Cert.Spatial.nD Cert.Spatial.τ).loc Cert.Spatial.main_arg2) = m ((c.tc : Thread Cert.Spatial.nD Cert.Spatial.τ).loc Cert.Spatial.main_arg2)
      ∧ r.2.mem ((c.tc : Thread Cert.Spatial.nD Cert.Spatial.τ).loc Cert.Spatial.main_arg3) = m ((c.tc : Thread Cert.Spatial.nD Cert.Spatial.τ).loc Cert.Spatial.main_arg3))
      ∧ r.2.sem = fun _ => 0)

def quiescent_SpatialIdeal [hSpatialIdeal : Cert.SpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
      ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3))
      ∧ r.2.sem = fun _ => 0)

def quiescent_SpatialStepIdeal [hSpatialStepIdeal : Cert.SpatialStepIdeal.Facts] : Prop :=
  ∀ (m : (ℓ : Loc Cert.SpatialStepIdeal.nD Cert.SpatialStepIdeal.τ Cert.SpatialStepIdeal.sig) → Buf (Elt Ideal) ℓ) (g : Dev Cert.SpatialStepIdeal.nD → PrngReg), Pre_SpatialStepIdeal m →
    θ_run (Cert.SpatialStepIdeal.defs (F := Ideal)) (onTc (τ := Cert.SpatialStepIdeal.τ) (Cert.SpatialStepIdeal.main (F := Ideal))) ⟨m, fun _ => 0, g⟩ (fun r => (∀ c : Dev Cert.SpatialStepIdeal.nD,
      r.2.mem ((c.tc : Thread Cert.SpatialStepIdeal.nD Cert.SpatialStepIdeal.τ).loc Cert.SpatialStepIdeal.main_arg0) = m ((c.tc : Thread Cert.SpatialStepIdeal.nD Cert.SpatialStepIdeal.τ).loc Cert.SpatialStepIdeal.main_arg0)
      ∧ r.2.mem ((c.tc : Thread Cert.SpatialStepIdeal.nD Cert.SpatialStepIdeal.τ).loc Cert.SpatialStepIdeal.main_arg1) = m ((c.tc : Thread Cert.SpatialStepIdeal.nD Cert.SpatialStepIdeal.τ).loc Cert.SpatialStepIdeal.main_arg1)
      ∧ r.2.mem ((c.tc : Thread Cert.SpatialStepIdeal.nD Cert.SpatialStepIdeal.τ).loc Cert.SpatialStepIdeal.main_arg2) = m ((c.tc : Thread Cert.SpatialStepIdeal.nD Cert.SpatialStepIdeal.τ).loc Cert.SpatialStepIdeal.main_arg2)
      ∧ r.2.mem ((c.tc : Thread Cert.SpatialStepIdeal.nD Cert.SpatialStepIdeal.τ).loc Cert.SpatialStepIdeal.main_arg3) = m ((c.tc : Thread Cert.SpatialStepIdeal.nD Cert.SpatialStepIdeal.τ).loc Cert.SpatialStepIdeal.main_arg3))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1)
      ∧ r.2.mem ((c.tc : Thread Cert.Bias.nD Cert.Bias.τ).loc Cert.Bias.main_arg2) = m ((c.tc : Thread Cert.Bias.nD Cert.Bias.τ).loc Cert.Bias.main_arg2)
      ∧ r.2.mem ((c.tc : Thread Cert.Bias.nD Cert.Bias.τ).loc Cert.Bias.main_arg3) = m ((c.tc : Thread Cert.Bias.nD Cert.Bias.τ).loc Cert.Bias.main_arg3))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
      ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3))
      ∧ r.2.sem = fun _ => 0)

def quiescent_BiasStepIdeal [hBiasStepIdeal : Cert.BiasStepIdeal.Facts] : Prop :=
  ∀ (m : (ℓ : Loc Cert.BiasStepIdeal.nD Cert.BiasStepIdeal.τ Cert.BiasStepIdeal.sig) → Buf (Elt Ideal) ℓ) (g : Dev Cert.BiasStepIdeal.nD → PrngReg), Pre_BiasStepIdeal m →
    θ_run (Cert.BiasStepIdeal.defs (F := Ideal)) (onTc (τ := Cert.BiasStepIdeal.τ) (Cert.BiasStepIdeal.main (F := Ideal))) ⟨m, fun _ => 0, g⟩ (fun r => (∀ c : Dev Cert.BiasStepIdeal.nD,
      r.2.mem ((c.tc : Thread Cert.BiasStepIdeal.nD Cert.BiasStepIdeal.τ).loc Cert.BiasStepIdeal.main_arg0) = m ((c.tc : Thread Cert.BiasStepIdeal.nD Cert.BiasStepIdeal.τ).loc Cert.BiasStepIdeal.main_arg0)
      ∧ r.2.mem ((c.tc : Thread Cert.BiasStepIdeal.nD Cert.BiasStepIdeal.τ).loc Cert.BiasStepIdeal.main_arg1) = m ((c.tc : Thread Cert.BiasStepIdeal.nD Cert.BiasStepIdeal.τ).loc Cert.BiasStepIdeal.main_arg1)
      ∧ r.2.mem ((c.tc : Thread Cert.BiasStepIdeal.nD Cert.BiasStepIdeal.τ).loc Cert.BiasStepIdeal.main_arg2) = m ((c.tc : Thread Cert.BiasStepIdeal.nD Cert.BiasStepIdeal.τ).loc Cert.BiasStepIdeal.main_arg2)
      ∧ r.2.mem ((c.tc : Thread Cert.BiasStepIdeal.nD Cert.BiasStepIdeal.τ).loc Cert.BiasStepIdeal.main_arg3) = m ((c.tc : Thread Cert.BiasStepIdeal.nD Cert.BiasStepIdeal.τ).loc Cert.BiasStepIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 1024, 1152]⟩ ⟨3, ![64, 1024, 1152]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1152]⟩ ⟨2, ![1024, 9216]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg6))
      ∧ m ((c.tc : Thread Cert.KernelIdeal.nD Cert.KernelIdeal.τ).loc Cert.KernelIdeal.main_arg7) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![1024, 1152]⟩ ⟨2, ![1024, 9216]⟩ 1 8 c (m' (((0 : Dev Cert.ReferenceIdeal.nD).tc : Thread Cert.ReferenceIdeal.nD Cert.ReferenceIdeal.τ).loc Cert.ReferenceIdeal.main_arg8))
      ∧ m ((c.tc : Thread Cert.KernelIdeal.nD Cert.KernelIdeal.τ).loc Cert.KernelIdeal.main_arg9) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg9))
      ∧ m ((c.tc : Thread Cert.KernelIdeal.nD Cert.KernelIdeal.τ).loc Cert.KernelIdeal.main_arg10) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg10))
      ∧ m ((c.tc : Thread Cert.KernelIdeal.nD Cert.KernelIdeal.τ).loc Cert.KernelIdeal.main_arg11) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg11))
      ∧ m ((c.tc : Thread Cert.KernelIdeal.nD Cert.KernelIdeal.τ).loc Cert.KernelIdeal.main_arg12) = Layout.block ⟨2, ![1024, 1152]⟩ ⟨2, ![1024, 9216]⟩ 1 8 c (m' (((0 : Dev Cert.ReferenceIdeal.nD).tc : Thread Cert.ReferenceIdeal.nD Cert.ReferenceIdeal.τ).loc Cert.ReferenceIdeal.main_arg12))
      ∧ m ((c.tc : Thread Cert.KernelIdeal.nD Cert.KernelIdeal.τ).loc Cert.KernelIdeal.main_arg13) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg13))
      ∧ m ((c.tc : Thread Cert.KernelIdeal.nD Cert.KernelIdeal.τ).loc Cert.KernelIdeal.main_arg14) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg14))
      ∧ m ((c.tc : Thread Cert.KernelIdeal.nD Cert.KernelIdeal.τ).loc Cert.KernelIdeal.main_arg15) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg15))) →
    ∃ (v0 : Buf (Elt Ideal) (((0 : Dev Cert.ReferenceIdeal.nD).tc : Thread Cert.ReferenceIdeal.nD Cert.ReferenceIdeal.τ).loc Cert.ReferenceIdeal.main_v3)) (v1 : Buf (Elt Ideal) (((0 : Dev Cert.ReferenceIdeal.nD).tc : Thread Cert.ReferenceIdeal.nD Cert.ReferenceIdeal.τ).loc Cert.ReferenceIdeal.main_v33)) (v2 : Buf (Elt Ideal) (((0 : Dev Cert.ReferenceIdeal.nD).tc : Thread Cert.ReferenceIdeal.nD Cert.ReferenceIdeal.τ).loc Cert.ReferenceIdeal.main_v14)) (v3 : Buf (Elt Ideal) (((0 : Dev Cert.ReferenceIdeal.nD).tc : Thread Cert.ReferenceIdeal.nD Cert.ReferenceIdeal.τ).loc Cert.ReferenceIdeal.main_v20)) (v4 : Buf (Elt Ideal) (((0 : Dev Cert.ReferenceIdeal.nD).tc : Thread Cert.ReferenceIdeal.nD Cert.ReferenceIdeal.τ).loc Cert.ReferenceIdeal.main_v5)) (v5 : Buf (Elt Ideal) (((0 : Dev Cert.ReferenceIdeal.nD).tc : Thread Cert.ReferenceIdeal.nD Cert.ReferenceIdeal.τ).loc Cert.ReferenceIdeal.main_v57)) (v6 : Buf (Elt Ideal) (((0 : Dev Cert.ReferenceIdeal.nD).tc : Thread Cert.ReferenceIdeal.nD Cert.ReferenceIdeal.τ).loc Cert.ReferenceIdeal.main_v38)) (v7 : Buf (Elt Ideal) (((0 : Dev Cert.ReferenceIdeal.nD).tc : Thread Cert.ReferenceIdeal.nD Cert.ReferenceIdeal.τ).loc Cert.ReferenceIdeal.main_v44)) (v8 : Buf (Elt Ideal) (((0 : Dev Cert.ReferenceIdeal.nD).tc : Thread Cert.ReferenceIdeal.nD Cert.ReferenceIdeal.τ).loc Cert.ReferenceIdeal.main_v7)) (v9 : Buf (Elt Ideal) (((0 : Dev Cert.ReferenceIdeal.nD).tc : Thread Cert.ReferenceIdeal.nD Cert.ReferenceIdeal.τ).loc Cert.ReferenceIdeal.main_v81)) (v10 : Buf (Elt Ideal) (((0 : Dev Cert.ReferenceIdeal.nD).tc : Thread Cert.ReferenceIdeal.nD Cert.ReferenceIdeal.τ).loc Cert.ReferenceIdeal.main_v62)) (v11 : Buf (Elt Ideal) (((0 : Dev Cert.ReferenceIdeal.nD).tc : Thread Cert.ReferenceIdeal.nD Cert.ReferenceIdeal.τ).loc Cert.ReferenceIdeal.main_v68)) (v12 : Buf (Elt Ideal) (((0 : Dev Cert.ReferenceIdeal.nD).tc : Thread Cert.ReferenceIdeal.nD Cert.ReferenceIdeal.τ).loc Cert.ReferenceIdeal.main_v9)) (v13 : Buf (Elt Ideal) (((0 : Dev Cert.ReferenceIdeal.nD).tc : Thread Cert.ReferenceIdeal.nD Cert.ReferenceIdeal.τ).loc Cert.ReferenceIdeal.main_v105)) (v14 : Buf (Elt Ideal) (((0 : Dev Cert.ReferenceIdeal.nD).tc : Thread Cert.ReferenceIdeal.nD Cert.ReferenceIdeal.τ).loc Cert.ReferenceIdeal.main_v86)) (v15 : Buf (Elt Ideal) (((0 : Dev Cert.ReferenceIdeal.nD).tc : Thread Cert.ReferenceIdeal.nD Cert.ReferenceIdeal.τ).loc Cert.ReferenceIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.block ⟨2, ![1024, 1152]⟩ ⟨2, ![1024, 9216]⟩ 1 8 c v0
          ∧ r.2.mem ((c.tc : Thread Cert.KernelIdeal.nD Cert.KernelIdeal.τ).loc Cert.KernelIdeal.main_v2_1) = Layout.block ⟨2, ![1024, 1152]⟩ ⟨2, ![1024, 9216]⟩ 1 8 c v1
          ∧ r.2.mem ((c.tc : Thread Cert.KernelIdeal.nD Cert.KernelIdeal.τ).loc Cert.KernelIdeal.main_v2_2) = Layout.block ⟨2, ![1024, 1152]⟩ ⟨2, ![1024, 9216]⟩ 1 8 c v2
          ∧ r.2.mem ((c.tc : Thread Cert.KernelIdeal.nD Cert.KernelIdeal.τ).loc Cert.KernelIdeal.main_v2_3) = Layout.block ⟨2, ![1024, 1152]⟩ ⟨2, ![1024, 9216]⟩ 1 8 c v3
          ∧ r.2.mem ((c.tc : Thread Cert.KernelIdeal.nD Cert.KernelIdeal.τ).loc Cert.KernelIdeal.main_v3_0) = Layout.block ⟨2, ![128, 1024]⟩ ⟨2, ![1024, 1024]⟩ 0 8 c v4
          ∧ r.2.mem ((c.tc : Thread Cert.KernelIdeal.nD Cert.KernelIdeal.τ).loc Cert.KernelIdeal.main_v3_1) = Layout.block ⟨2, ![128, 1024]⟩ ⟨2, ![1024, 1024]⟩ 0 8 c v5
          ∧ r.2.mem ((c.tc : Thread Cert.KernelIdeal.nD Cert.KernelIdeal.τ).loc Cert.KernelIdeal.main_v3_2) = Layout.block ⟨2, ![128, 1024]⟩ ⟨2, ![1024, 1024]⟩ 0 8 c v6
          ∧ r.2.mem ((c.tc : Thread Cert.KernelIdeal.nD Cert.KernelIdeal.τ).loc Cert.KernelIdeal.main_v3_3) = Layout.block ⟨2, ![128, 1024]⟩ ⟨2, ![1024, 1024]⟩ 0 8 c v7
          ∧ r.2.mem ((c.tc : Thread Cert.KernelIdeal.nD Cert.KernelIdeal.τ).loc Cert.KernelIdeal.main_v4_0) = Layout.block ⟨2, ![128, 1024]⟩ ⟨2, ![1024, 1024]⟩ 0 8 c v8
          ∧ r.2.mem ((c.tc : Thread Cert.KernelIdeal.nD Cert.KernelIdeal.τ).loc Cert.KernelIdeal.main_v4_1) = Layout.block ⟨2, ![128, 1024]⟩ ⟨2, ![1024, 1024]⟩ 0 8 c v9
          ∧ r.2.mem ((c.tc : Thread Cert.KernelIdeal.nD Cert.KernelIdeal.τ).loc Cert.KernelIdeal.main_v4_2) = Layout.block ⟨2, ![128, 1024]⟩ ⟨2, ![1024, 1024]⟩ 0 8 c v10
          ∧ r.2.mem ((c.tc : Thread Cert.KernelIdeal.nD Cert.KernelIdeal.τ).loc Cert.KernelIdeal.main_v4_3) = Layout.block ⟨2, ![128, 1024]⟩ ⟨2, ![1024, 1024]⟩ 0 8 c v11
          ∧ r.2.mem ((c.tc : Thread Cert.KernelIdeal.nD Cert.KernelIdeal.τ).loc Cert.KernelIdeal.main_v5_0) = Layout.block ⟨2, ![128, 1024]⟩ ⟨2, ![1024, 1024]⟩ 0 8 c v12
          ∧ r.2.mem ((c.tc : Thread Cert.KernelIdeal.nD Cert.KernelIdeal.τ).loc Cert.KernelIdeal.main_v5_1) = Layout.block ⟨2, ![128, 1024]⟩ ⟨2, ![1024, 1024]⟩ 0 8 c v13
          ∧ r.2.mem ((c.tc : Thread Cert.KernelIdeal.nD Cert.KernelIdeal.τ).loc Cert.KernelIdeal.main_v5_2) = Layout.block ⟨2, ![128, 1024]⟩ ⟨2, ![1024, 1024]⟩ 0 8 c v14
          ∧ r.2.mem ((c.tc : Thread Cert.KernelIdeal.nD Cert.KernelIdeal.τ).loc Cert.KernelIdeal.main_v5_3) = Layout.block ⟨2, ![128, 1024]⟩ ⟨2, ![1024, 1024]⟩ 0 8 c v15
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_v33) = v1
          ∧ r.2.mem (((0 : Dev Cert.ReferenceIdeal.nD).tc : Thread Cert.ReferenceIdeal.nD Cert.ReferenceIdeal.τ).loc Cert.ReferenceIdeal.main_v14) = v2
          ∧ r.2.mem (((0 : Dev Cert.ReferenceIdeal.nD).tc : Thread Cert.ReferenceIdeal.nD Cert.ReferenceIdeal.τ).loc Cert.ReferenceIdeal.main_v20) = v3
          ∧ r.2.mem (((0 : Dev Cert.ReferenceIdeal.nD).tc : Thread Cert.ReferenceIdeal.nD Cert.ReferenceIdeal.τ).loc Cert.ReferenceIdeal.main_v5) = v4
          ∧ r.2.mem (((0 : Dev Cert.ReferenceIdeal.nD).tc : Thread Cert.ReferenceIdeal.nD Cert.ReferenceIdeal.τ).loc Cert.ReferenceIdeal.main_v57) = v5
          ∧ r.2.mem (((0 : Dev Cert.ReferenceIdeal.nD).tc : Thread Cert.ReferenceIdeal.nD Cert.ReferenceIdeal.τ).loc Cert.ReferenceIdeal.main_v38) = v6
          ∧ r.2.mem (((0 : Dev Cert.ReferenceIdeal.nD).tc : Thread Cert.ReferenceIdeal.nD Cert.ReferenceIdeal.τ).loc Cert.ReferenceIdeal.main_v44) = v7
          ∧ r.2.mem (((0 : Dev Cert.ReferenceIdeal.nD).tc : Thread Cert.ReferenceIdeal.nD Cert.ReferenceIdeal.τ).loc Cert.ReferenceIdeal.main_v7) = v8
          ∧ r.2.mem (((0 : Dev Cert.ReferenceIdeal.nD).tc : Thread Cert.ReferenceIdeal.nD Cert.ReferenceIdeal.τ).loc Cert.ReferenceIdeal.main_v81) = v9
          ∧ r.2.mem (((0 : Dev Cert.ReferenceIdeal.nD).tc : Thread Cert.ReferenceIdeal.nD Cert.ReferenceIdeal.τ).loc Cert.ReferenceIdeal.main_v62) = v10
          ∧ r.2.mem (((0 : Dev Cert.ReferenceIdeal.nD).tc : Thread Cert.ReferenceIdeal.nD Cert.ReferenceIdeal.τ).loc Cert.ReferenceIdeal.main_v68) = v11
          ∧ r.2.mem (((0 : Dev Cert.ReferenceIdeal.nD).tc : Thread Cert.ReferenceIdeal.nD Cert.ReferenceIdeal.τ).loc Cert.ReferenceIdeal.main_v9) = v12
          ∧ r.2.mem (((0 : Dev Cert.ReferenceIdeal.nD).tc : Thread Cert.ReferenceIdeal.nD Cert.ReferenceIdeal.τ).loc Cert.ReferenceIdeal.main_v105) = v13
          ∧ r.2.mem (((0 : Dev Cert.ReferenceIdeal.nD).tc : Thread Cert.ReferenceIdeal.nD Cert.ReferenceIdeal.τ).loc Cert.ReferenceIdeal.main_v86) = v14
          ∧ r.2.mem (((0 : Dev Cert.ReferenceIdeal.nD).tc : Thread Cert.ReferenceIdeal.nD Cert.ReferenceIdeal.τ).loc Cert.ReferenceIdeal.main_v92) = v15
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8)
          ∧ r.2.mem (((0 : Dev Cert.ReferenceIdeal.nD).tc : Thread Cert.ReferenceIdeal.nD Cert.ReferenceIdeal.τ).loc Cert.ReferenceIdeal.main_arg9) = m' (((0 : Dev Cert.ReferenceIdeal.nD).tc : Thread Cert.ReferenceIdeal.nD Cert.ReferenceIdeal.τ).loc Cert.ReferenceIdeal.main_arg9)
          ∧ r.2.mem (((0 : Dev Cert.ReferenceIdeal.nD).tc : Thread Cert.ReferenceIdeal.nD Cert.ReferenceIdeal.τ).loc Cert.ReferenceIdeal.main_arg10) = m' (((0 : Dev Cert.ReferenceIdeal.nD).tc : Thread Cert.ReferenceIdeal.nD Cert.ReferenceIdeal.τ).loc Cert.ReferenceIdeal.main_arg10)
          ∧ r.2.mem (((0 : Dev Cert.ReferenceIdeal.nD).tc : Thread Cert.ReferenceIdeal.nD Cert.ReferenceIdeal.τ).loc Cert.ReferenceIdeal.main_arg11) = m' (((0 : Dev Cert.ReferenceIdeal.nD).tc : Thread Cert.ReferenceIdeal.nD Cert.ReferenceIdeal.τ).loc Cert.ReferenceIdeal.main_arg11)
          ∧ r.2.mem (((0 : Dev Cert.ReferenceIdeal.nD).tc : Thread Cert.ReferenceIdeal.nD Cert.ReferenceIdeal.τ).loc Cert.ReferenceIdeal.main_arg12) = m' (((0 : Dev Cert.ReferenceIdeal.nD).tc : Thread Cert.ReferenceIdeal.nD Cert.ReferenceIdeal.τ).loc Cert.ReferenceIdeal.main_arg12)
          ∧ r.2.mem (((0 : Dev Cert.ReferenceIdeal.nD).tc : Thread Cert.ReferenceIdeal.nD Cert.ReferenceIdeal.τ).loc Cert.ReferenceIdeal.main_arg13) = m' (((0 : Dev Cert.ReferenceIdeal.nD).tc : Thread Cert.ReferenceIdeal.nD Cert.ReferenceIdeal.τ).loc Cert.ReferenceIdeal.main_arg13)
          ∧ r.2.mem (((0 : Dev Cert.ReferenceIdeal.nD).tc : Thread Cert.ReferenceIdeal.nD Cert.ReferenceIdeal.τ).loc Cert.ReferenceIdeal.main_arg14) = m' (((0 : Dev Cert.ReferenceIdeal.nD).tc : Thread Cert.ReferenceIdeal.nD Cert.ReferenceIdeal.τ).loc Cert.ReferenceIdeal.main_arg14)
          ∧ r.2.mem (((0 : Dev Cert.ReferenceIdeal.nD).tc : Thread Cert.ReferenceIdeal.nD Cert.ReferenceIdeal.τ).loc Cert.ReferenceIdeal.main_arg15) = m' (((0 : Dev Cert.ReferenceIdeal.nD).tc : Thread Cert.ReferenceIdeal.nD Cert.ReferenceIdeal.τ).loc Cert.ReferenceIdeal.main_arg15))

def preserves_Gather_GatherIdeal : Prop :=
  True

def algebraic_GatherIdeal_GatheredIdeal [hGatherIdeal : Cert.GatherIdeal.Facts] [hGatheredIdeal : Cert.GatheredIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatheredIdeal.nD Cert.GatheredIdeal.τ Cert.GatheredIdeal.sig) → Buf (Elt Ideal) ℓ) (g' : Dev Cert.GatheredIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1024, 1152]⟩ ⟨2, ![1024, 9216]⟩ 1 8 c (m' (((0 : Dev Cert.GatheredIdeal.nD).tc : Thread Cert.GatheredIdeal.nD Cert.GatheredIdeal.τ).loc Cert.GatheredIdeal.main_arg0))
      ∧ m ((c.tc : Thread Cert.GatherIdeal.nD Cert.GatherIdeal.τ).loc Cert.GatherIdeal.main_arg1) = Layout.block ⟨2, ![128, 1024]⟩ ⟨2, ![1024, 1024]⟩ 0 8 c (m' (((0 : Dev Cert.GatheredIdeal.nD).tc : Thread Cert.GatheredIdeal.nD Cert.GatheredIdeal.τ).loc Cert.GatheredIdeal.main_arg1))
      ∧ m ((c.tc : Thread Cert.GatherIdeal.nD Cert.GatherIdeal.τ).loc Cert.GatherIdeal.main_arg2) = Layout.block ⟨2, ![128, 1024]⟩ ⟨2, ![1024, 1024]⟩ 0 8 c (m' (((0 : Dev Cert.GatheredIdeal.nD).tc : Thread Cert.GatheredIdeal.nD Cert.GatheredIdeal.τ).loc Cert.GatheredIdeal.main_arg2))
      ∧ m ((c.tc : Thread Cert.GatherIdeal.nD Cert.GatherIdeal.τ).loc Cert.GatherIdeal.main_arg3) = Layout.block ⟨2, ![128, 1024]⟩ ⟨2, ![1024, 1024]⟩ 0 8 c (m' (((0 : Dev Cert.GatheredIdeal.nD).tc : Thread Cert.GatheredIdeal.nD Cert.GatheredIdeal.τ).loc Cert.GatheredIdeal.main_arg3))) →
    ∃ (v0 : Buf (Elt Ideal) (((0 : Dev Cert.GatheredIdeal.nD).tc : Thread Cert.GatheredIdeal.nD Cert.GatheredIdeal.τ).loc Cert.GatheredIdeal.main_v5)) (v1 : Buf (Elt Ideal) (((0 : Dev Cert.GatheredIdeal.nD).tc : Thread Cert.GatheredIdeal.nD Cert.GatheredIdeal.τ).loc Cert.GatheredIdeal.main_v10)) (v2 : Buf (Elt Ideal) (((0 : Dev Cert.GatheredIdeal.nD).tc : Thread Cert.GatheredIdeal.nD Cert.GatheredIdeal.τ).loc Cert.GatheredIdeal.main_v15)) (v3 : Buf (Elt Ideal) (((0 : Dev Cert.GatheredIdeal.nD).tc : Thread Cert.GatheredIdeal.nD Cert.GatheredIdeal.τ).loc Cert.GatheredIdeal.main_v20)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = Layout.block ⟨3, ![8, 1024, 1152]⟩ ⟨3, ![64, 1024, 1152]⟩ 0 8 c v0
          ∧ r.2.mem ((c.tc : Thread Cert.GatherIdeal.nD Cert.GatherIdeal.τ).loc Cert.GatherIdeal.main_v1_1) = Layout.block ⟨3, ![8, 128, 1024]⟩ ⟨3, ![64, 128, 1024]⟩ 0 8 c v1
          ∧ r.2.mem ((c.tc : Thread Cert.GatherIdeal.nD Cert.GatherIdeal.τ).loc Cert.GatherIdeal.main_v1_2) = Layout.block ⟨3, ![8, 128, 1024]⟩ ⟨3, ![64, 128, 1024]⟩ 0 8 c v2
          ∧ r.2.mem ((c.tc : Thread Cert.GatherIdeal.nD Cert.GatherIdeal.τ).loc Cert.GatherIdeal.main_v1_3) = Layout.block ⟨3, ![8, 128, 1024]⟩ ⟨3, ![64, 128, 1024]⟩ 0 8 c v3
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ θ_run (Cert.GatheredIdeal.defs (F := Ideal)) (onTc (τ := Cert.GatheredIdeal.τ) (Cert.GatheredIdeal.main (F := Ideal))) ⟨m', fun _ => 0, g'⟩ (fun r =>
          r.2.mem (((0 : Dev Cert.GatheredIdeal.nD).tc : Thread Cert.GatheredIdeal.nD Cert.GatheredIdeal.τ).loc Cert.GatheredIdeal.main_v5) = v0
          ∧ r.2.mem (((0 : Dev Cert.GatheredIdeal.nD).tc : Thread Cert.GatheredIdeal.nD Cert.GatheredIdeal.τ).loc Cert.GatheredIdeal.main_v10) = v1
          ∧ r.2.mem (((0 : Dev Cert.GatheredIdeal.nD).tc : Thread Cert.GatheredIdeal.nD Cert.GatheredIdeal.τ).loc Cert.GatheredIdeal.main_v15) = v2
          ∧ r.2.mem (((0 : Dev Cert.GatheredIdeal.nD).tc : Thread Cert.GatheredIdeal.nD Cert.GatheredIdeal.τ).loc Cert.GatheredIdeal.main_v20) = v3
          ∧ r.2.mem (((0 : Dev Cert.GatheredIdeal.nD).tc : Thread Cert.GatheredIdeal.nD Cert.GatheredIdeal.τ).loc Cert.GatheredIdeal.main_arg0) = m' (((0 : Dev Cert.GatheredIdeal.nD).tc : Thread Cert.GatheredIdeal.nD Cert.GatheredIdeal.τ).loc Cert.GatheredIdeal.main_arg0)
          ∧ r.2.mem (((0 : Dev Cert.GatheredIdeal.nD).tc : Thread Cert.GatheredIdeal.nD Cert.GatheredIdeal.τ).loc Cert.GatheredIdeal.main_arg1) = m' (((0 : Dev Cert.GatheredIdeal.nD).tc : Thread Cert.GatheredIdeal.nD Cert.GatheredIdeal.τ).loc Cert.GatheredIdeal.main_arg1)
          ∧ r.2.mem (((0 : Dev Cert.GatheredIdeal.nD).tc : Thread Cert.GatheredIdeal.nD Cert.GatheredIdeal.τ).loc Cert.GatheredIdeal.main_arg2) = m' (((0 : Dev Cert.GatheredIdeal.nD).tc : Thread Cert.GatheredIdeal.nD Cert.GatheredIdeal.τ).loc Cert.GatheredIdeal.main_arg2)
          ∧ r.2.mem (((0 : Dev Cert.GatheredIdeal.nD).tc : Thread Cert.GatheredIdeal.nD Cert.GatheredIdeal.τ).loc Cert.GatheredIdeal.main_arg3) = m' (((0 : Dev Cert.GatheredIdeal.nD).tc : Thread Cert.GatheredIdeal.nD Cert.GatheredIdeal.τ).loc Cert.GatheredIdeal.main_arg3))

def bitexact_Gather_Gathered [hGather : Cert.Gather.Facts] [hGathered : Cert.Gathered.Facts] : Prop :=
  ∀ (m : (ℓ : Loc Cert.Gather.nD Cert.Gather.τ Cert.Gather.sig) → Buf (Elt Bits) ℓ) (g : Dev Cert.Gather.nD → PrngReg)
    (m' : (ℓ : Loc Cert.Gathered.nD Cert.Gathered.τ Cert.Gathered.sig) → Buf (Elt Bits) ℓ) (g' : Dev Cert.Gathered.nD → PrngReg), Pre_Gather m →
    (∀ c : Dev Cert.Gather.nD,
      m ((c.tc : Thread Cert.Gather.nD Cert.Gather.τ).loc Cert.Gather.main_arg0) = Layout.block ⟨2, ![1024, 1152]⟩ ⟨2, ![1024, 9216]⟩ 1 8 c (m' (((0 : Dev Cert.Gathered.nD).tc : Thread Cert.Gathered.nD Cert.Gathered.τ).loc Cert.Gathered.main_arg0))
      ∧ m ((c.tc : Thread Cert.Gather.nD Cert.Gather.τ).loc Cert.Gather.main_arg1) = Layout.block ⟨2, ![128, 1024]⟩ ⟨2, ![1024, 1024]⟩ 0 8 c (m' (((0 : Dev Cert.Gathered.nD).tc : Thread Cert.Gathered.nD Cert.Gathered.τ).loc Cert.Gathered.main_arg1))
      ∧ m ((c.tc : Thread Cert.Gather.nD Cert.Gather.τ).loc Cert.Gather.main_arg2) = Layout.block ⟨2, ![128, 1024]⟩ ⟨2, ![1024, 1024]⟩ 0 8 c (m' (((0 : Dev Cert.Gathered.nD).tc : Thread Cert.Gathered.nD Cert.Gathered.τ).loc Cert.Gathered.main_arg2))
      ∧ m ((c.tc : Thread Cert.Gather.nD Cert.Gather.τ).loc Cert.Gather.main_arg3) = Layout.block ⟨2, ![128, 1024]⟩ ⟨2, ![1024, 1024]⟩ 0 8 c (m' (((0 : Dev Cert.Gathered.nD).tc : Thread Cert.Gathered.nD Cert.Gathered.τ).loc Cert.Gathered.main_arg3))) →
    ∃ (v0 : Buf (Elt Bits) (((0 : Dev Cert.Gathered.nD).tc : Thread Cert.Gathered.nD Cert.Gathered.τ).loc Cert.Gathered.main_v5)) (v1 : Buf (Elt Bits) (((0 : Dev Cert.Gathered.nD).tc : Thread Cert.Gathered.nD Cert.Gathered.τ).loc Cert.Gathered.main_v10)) (v2 : Buf (Elt Bits) (((0 : Dev Cert.Gathered.nD).tc : Thread Cert.Gathered.nD Cert.Gathered.τ).loc Cert.Gathered.main_v15)) (v3 : Buf (Elt Bits) (((0 : Dev Cert.Gathered.nD).tc : Thread Cert.Gathered.nD Cert.Gathered.τ).loc Cert.Gathered.main_v20)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = Layout.block ⟨3, ![8, 1024, 1152]⟩ ⟨3, ![64, 1024, 1152]⟩ 0 8 c v0
          ∧ r.2.mem ((c.tc : Thread Cert.Gather.nD Cert.Gather.τ).loc Cert.Gather.main_v1_1) = Layout.block ⟨3, ![8, 128, 1024]⟩ ⟨3, ![64, 128, 1024]⟩ 0 8 c v1
          ∧ r.2.mem ((c.tc : Thread Cert.Gather.nD Cert.Gather.τ).loc Cert.Gather.main_v1_2) = Layout.block ⟨3, ![8, 128, 1024]⟩ ⟨3, ![64, 128, 1024]⟩ 0 8 c v2
          ∧ r.2.mem ((c.tc : Thread Cert.Gather.nD Cert.Gather.τ).loc Cert.Gather.main_v1_3) = Layout.block ⟨3, ![8, 128, 1024]⟩ ⟨3, ![64, 128, 1024]⟩ 0 8 c v3
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3))
      ∧ θ_run (Cert.Gathered.defs (F := Bits)) (onTc (τ := Cert.Gathered.τ) (Cert.Gathered.main (F := Bits))) ⟨m', fun _ => 0, g'⟩ (fun r =>
          r.2.mem (((0 : Dev Cert.Gathered.nD).tc : Thread Cert.Gathered.nD Cert.Gathered.τ).loc Cert.Gathered.main_v5) = v0
          ∧ r.2.mem (((0 : Dev Cert.Gathered.nD).tc : Thread Cert.Gathered.nD Cert.Gathered.τ).loc Cert.Gathered.main_v10) = v1
          ∧ r.2.mem (((0 : Dev Cert.Gathered.nD).tc : Thread Cert.Gathered.nD Cert.Gathered.τ).loc Cert.Gathered.main_v15) = v2
          ∧ r.2.mem (((0 : Dev Cert.Gathered.nD).tc : Thread Cert.Gathered.nD Cert.Gathered.τ).loc Cert.Gathered.main_v20) = v3
          ∧ r.2.mem (((0 : Dev Cert.Gathered.nD).tc : Thread Cert.Gathered.nD Cert.Gathered.τ).loc Cert.Gathered.main_arg0) = m' (((0 : Dev Cert.Gathered.nD).tc : Thread Cert.Gathered.nD Cert.Gathered.τ).loc Cert.Gathered.main_arg0)
          ∧ r.2.mem (((0 : Dev Cert.Gathered.nD).tc : Thread Cert.Gathered.nD Cert.Gathered.τ).loc Cert.Gathered.main_arg1) = m' (((0 : Dev Cert.Gathered.nD).tc : Thread Cert.Gathered.nD Cert.Gathered.τ).loc Cert.Gathered.main_arg1)
          ∧ r.2.mem (((0 : Dev Cert.Gathered.nD).tc : Thread Cert.Gathered.nD Cert.Gathered.τ).loc Cert.Gathered.main_arg2) = m' (((0 : Dev Cert.Gathered.nD).tc : Thread Cert.Gathered.nD Cert.Gathered.τ).loc Cert.Gathered.main_arg2)
          ∧ r.2.mem (((0 : Dev Cert.Gathered.nD).tc : Thread Cert.Gathered.nD Cert.Gathered.τ).loc Cert.Gathered.main_arg3) = m' (((0 : Dev Cert.Gathered.nD).tc : Thread Cert.Gathered.nD Cert.Gathered.τ).loc Cert.Gathered.main_arg3))

def preserves_Dx_DxIdeal : Prop :=
  True

def algebraic_DxIdeal_GradXIdeal [hDxIdeal : Cert.DxIdeal.Facts] [hGradXIdeal : Cert.GradXIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.GradXIdeal.nD Cert.GradXIdeal.τ Cert.GradXIdeal.sig) → Buf (Elt Ideal) ℓ) (g' : Dev Cert.GradXIdeal.nD → PrngReg), Pre_DxIdeal m →
    (∀ c : Dev Cert.DxIdeal.nD,
      m' ((c.tc : Thread Cert.GradXIdeal.nD Cert.GradXIdeal.τ).loc Cert.GradXIdeal.main_arg0) = m ((c.tc : Thread Cert.DxIdeal.nD Cert.DxIdeal.τ).loc Cert.DxIdeal.main_arg0)
      ∧ m' ((c.tc : Thread Cert.GradXIdeal.nD Cert.GradXIdeal.τ).loc Cert.GradXIdeal.main_arg1) = m ((c.tc : Thread Cert.DxIdeal.nD Cert.DxIdeal.τ).loc Cert.DxIdeal.main_arg1)
      ∧ m' ((c.tc : Thread Cert.GradXIdeal.nD Cert.GradXIdeal.τ).loc Cert.GradXIdeal.main_arg2) = m ((c.tc : Thread Cert.DxIdeal.nD Cert.DxIdeal.τ).loc Cert.DxIdeal.main_arg2)
      ∧ m' ((c.tc : Thread Cert.GradXIdeal.nD Cert.GradXIdeal.τ).loc Cert.GradXIdeal.main_arg3) = m ((c.tc : Thread Cert.DxIdeal.nD Cert.DxIdeal.τ).loc Cert.DxIdeal.main_arg3)
      ∧ m' ((c.tc : Thread Cert.GradXIdeal.nD Cert.GradXIdeal.τ).loc Cert.GradXIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.GradXIdeal.defs (F := Ideal)) (onTc (τ := Cert.GradXIdeal.τ) (Cert.GradXIdeal.main (F := Ideal))) ⟨m', fun _ => 0, g'⟩ (fun r => ∀ c : Dev Cert.GradXIdeal.nD,
          r.2.mem ((c.tc : Thread Cert.GradXIdeal.nD Cert.GradXIdeal.τ).loc Cert.GradXIdeal.main_v40) = v0 c
          ∧ r.2.mem ((c.tc : Thread Cert.GradXIdeal.nD Cert.GradXIdeal.τ).loc Cert.GradXIdeal.main_v23) = v1 c
          ∧ r.2.mem ((c.tc : Thread Cert.GradXIdeal.nD Cert.GradXIdeal.τ).loc Cert.GradXIdeal.main_arg0) = m' ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m' ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m' ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m' ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m' ((c.tc : Thread Cert.GradXIdeal.nD Cert.GradXIdeal.τ).loc Cert.GradXIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v5) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v2) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwA_DwAIdeal : Prop :=
  True

def algebraic_DwAIdeal_DwARefIdeal [hDwAIdeal : Cert.DwAIdeal.Facts] [hDwARefIdeal : Cert.DwARefIdeal.Facts] : Prop :=
  ∀ (m : (ℓ : Loc Cert.DwAIdeal.nD Cert.DwAIdeal.τ Cert.DwAIdeal.sig) → Buf (Elt Ideal) ℓ) (g : Dev Cert.DwAIdeal.nD → PrngReg)
    (m' : (ℓ : Loc Cert.DwARefIdeal.nD Cert.DwARefIdeal.τ Cert.DwARefIdeal.sig) → Buf (Elt Ideal) ℓ) (g' : Dev Cert.DwARefIdeal.nD → PrngReg), Pre_DwAIdeal m →
    (∀ c : Dev Cert.DwAIdeal.nD,
      m' ((c.tc : Thread Cert.DwARefIdeal.nD Cert.DwARefIdeal.τ).loc Cert.DwARefIdeal.main_arg0) = m ((c.tc : Thread Cert.DwAIdeal.nD Cert.DwAIdeal.τ).loc Cert.DwAIdeal.main_arg0)
      ∧ m' ((c.tc : Thread Cert.DwARefIdeal.nD Cert.DwARefIdeal.τ).loc Cert.DwARefIdeal.main_arg1) = m ((c.tc : Thread Cert.DwAIdeal.nD Cert.DwAIdeal.τ).loc Cert.DwAIdeal.main_arg1)) →
    ∃ (v0 : (c : Dev Cert.DwAIdeal.nD) → Buf (Elt Ideal) ((c.tc : Thread Cert.DwAIdeal.nD Cert.DwAIdeal.τ).loc Cert.DwAIdeal.main_v0)),
      θ_run (Cert.DwAIdeal.defs (F := Ideal)) (onTc (τ := Cert.DwAIdeal.τ) (Cert.DwAIdeal.main (F := Ideal))) ⟨m, fun _ => 0, g⟩ (fun r => ∀ c : Dev Cert.DwAIdeal.nD,
          r.2.mem ((c.tc : Thread Cert.DwAIdeal.nD Cert.DwAIdeal.τ).loc Cert.DwAIdeal.main_v0) = v0 c
          ∧ r.2.mem ((c.tc : Thread Cert.DwAIdeal.nD Cert.DwAIdeal.τ).loc Cert.DwAIdeal.main_arg0) = m ((c.tc : Thread Cert.DwAIdeal.nD Cert.DwAIdeal.τ).loc Cert.DwAIdeal.main_arg0)
          ∧ r.2.mem ((c.tc : Thread Cert.DwAIdeal.nD Cert.DwAIdeal.τ).loc Cert.DwAIdeal.main_arg1) = m ((c.tc : Thread Cert.DwAIdeal.nD Cert.DwAIdeal.τ).loc Cert.DwAIdeal.main_arg1))
      ∧ θ_run (Cert.DwARefIdeal.defs (F := Ideal)) (onTc (τ := Cert.DwARefIdeal.τ) (Cert.DwARefIdeal.main (F := Ideal))) ⟨m', fun _ => 0, g'⟩ (fun r => ∀ c : Dev Cert.DwARefIdeal.nD,
          r.2.mem ((c.tc : Thread Cert.DwARefIdeal.nD Cert.DwARefIdeal.τ).loc Cert.DwARefIdeal.main_v3) = v0 c
          ∧ r.2.mem ((c.tc : Thread Cert.DwARefIdeal.nD Cert.DwARefIdeal.τ).loc Cert.DwARefIdeal.main_arg0) = m' ((c.tc : Thread Cert.DwARefIdeal.nD Cert.DwARefIdeal.τ).loc Cert.DwARefIdeal.main_arg0)
          ∧ r.2.mem ((c.tc : Thread Cert.DwARefIdeal.nD Cert.DwARefIdeal.τ).loc Cert.DwARefIdeal.main_arg1) = m' ((c.tc : Thread Cert.DwARefIdeal.nD Cert.DwARefIdeal.τ).loc Cert.DwARefIdeal.main_arg1))

def preserves_DwB_DwBIdeal : Prop :=
  True

def algebraic_DwBIdeal_DwBRefIdeal [hDwBIdeal : Cert.DwBIdeal.Facts] [hDwBRefIdeal : Cert.DwBRefIdeal.Facts] : Prop :=
  ∀ (m : (ℓ : Loc Cert.DwBIdeal.nD Cert.DwBIdeal.τ Cert.DwBIdeal.sig) → Buf (Elt Ideal) ℓ) (g : Dev Cert.DwBIdeal.nD → PrngReg)
    (m' : (ℓ : Loc Cert.DwBRefIdeal.nD Cert.DwBRefIdeal.τ Cert.DwBRefIdeal.sig) → Buf (Elt Ideal) ℓ) (g' : Dev Cert.DwBRefIdeal.nD → PrngReg), Pre_DwBIdeal m →
    (∀ c : Dev Cert.DwBIdeal.nD,
      m' ((c.tc : Thread Cert.DwBRefIdeal.nD Cert.DwBRefIdeal.τ).loc Cert.DwBRefIdeal.main_arg0) = m ((c.tc : Thread Cert.DwBIdeal.nD Cert.DwBIdeal.τ).loc Cert.DwBIdeal.main_arg0)
      ∧ m' ((c.tc : Thread Cert.DwBRefIdeal.nD Cert.DwBRefIdeal.τ).loc Cert.DwBRefIdeal.main_arg1) = m ((c.tc : Thread Cert.DwBIdeal.nD Cert.DwBIdeal.τ).loc Cert.DwBIdeal.main_arg1)) →
    ∃ (v0 : (c : Dev Cert.DwBIdeal.nD) → Buf (Elt Ideal) ((c.tc : Thread Cert.DwBIdeal.nD Cert.DwBIdeal.τ).loc Cert.DwBIdeal.main_v0)),
      θ_run (Cert.DwBIdeal.defs (F := Ideal)) (onTc (τ := Cert.DwBIdeal.τ) (Cert.DwBIdeal.main (F := Ideal))) ⟨m, fun _ => 0, g⟩ (fun r => ∀ c : Dev Cert.DwBIdeal.nD,
          r.2.mem ((c.tc : Thread Cert.DwBIdeal.nD Cert.DwBIdeal.τ).loc Cert.DwBIdeal.main_v0) = v0 c
          ∧ r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
          ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ θ_run (Cert.DwBRefIdeal.defs (F := Ideal)) (onTc (τ := Cert.DwBRefIdeal.τ) (Cert.DwBRefIdeal.main (F := Ideal))) ⟨m', fun _ => 0, g'⟩ (fun r => ∀ c : Dev Cert.DwBRefIdeal.nD,
          r.2.mem ((c.tc : Thread Cert.DwBRefIdeal.nD Cert.DwBRefIdeal.τ).loc Cert.DwBRefIdeal.main_v3) = v0 c
          ∧ r.2.mem ((c.tc : Thread Cert.DwBRefIdeal.nD Cert.DwBRefIdeal.τ).loc Cert.DwBRefIdeal.main_arg0) = m' ((c.tc : Thread Cert.DwBRefIdeal.nD Cert.DwBRefIdeal.τ).loc Cert.DwBRefIdeal.main_arg0)
          ∧ r.2.mem ((c.tc : Thread Cert.DwBRefIdeal.nD Cert.DwBRefIdeal.τ).loc Cert.DwBRefIdeal.main_arg1) = m' ((c.tc : Thread Cert.DwBRefIdeal.nD Cert.DwBRefIdeal.τ).loc Cert.DwBRefIdeal.main_arg1))

def preserves_BranchA_BranchAIdeal : Prop :=
  True

def algebraic_BranchAIdeal_BranchARefIdeal [hBranchAIdeal : Cert.BranchAIdeal.Facts] [hBranchARefIdeal : Cert.BranchARefIdeal.Facts] : Prop :=
  ∀ (m : (ℓ : Loc Cert.BranchAIdeal.nD Cert.BranchAIdeal.τ Cert.BranchAIdeal.sig) → Buf (Elt Ideal) ℓ) (g : Dev Cert.BranchAIdeal.nD → PrngReg)
    (m' : (ℓ : Loc Cert.BranchARefIdeal.nD Cert.BranchARefIdeal.τ Cert.BranchARefIdeal.sig) → Buf (Elt Ideal) ℓ) (g' : Dev Cert.BranchARefIdeal.nD → PrngReg), Pre_BranchAIdeal m →
    (∀ c : Dev Cert.BranchAIdeal.nD,
      m' ((c.tc : Thread Cert.BranchARefIdeal.nD Cert.BranchARefIdeal.τ).loc Cert.BranchARefIdeal.main_arg0) = m ((c.tc : Thread Cert.BranchAIdeal.nD Cert.BranchAIdeal.τ).loc Cert.BranchAIdeal.main_arg0)
      ∧ m' ((c.tc : Thread Cert.BranchARefIdeal.nD Cert.BranchARefIdeal.τ).loc Cert.BranchARefIdeal.main_arg1) = m ((c.tc : Thread Cert.BranchAIdeal.nD Cert.BranchAIdeal.τ).loc Cert.BranchAIdeal.main_arg1)
      ∧ m' ((c.tc : Thread Cert.BranchARefIdeal.nD Cert.BranchARefIdeal.τ).loc Cert.BranchARefIdeal.main_arg2) = m ((c.tc : Thread Cert.BranchAIdeal.nD Cert.BranchAIdeal.τ).loc Cert.BranchAIdeal.main_arg2)
      ∧ m' ((c.tc : Thread Cert.BranchARefIdeal.nD Cert.BranchARefIdeal.τ).loc Cert.BranchARefIdeal.main_arg3) = m ((c.tc : Thread Cert.BranchAIdeal.nD Cert.BranchAIdeal.τ).loc Cert.BranchAIdeal.main_arg3)) →
    ∃ (v0 : (c : Dev Cert.BranchAIdeal.nD) → Buf (Elt Ideal) ((c.tc : Thread Cert.BranchAIdeal.nD Cert.BranchAIdeal.τ).loc Cert.BranchAIdeal.main_v0)),
      θ_run (Cert.BranchAIdeal.defs (F := Ideal)) (onTc (τ := Cert.BranchAIdeal.τ) (Cert.BranchAIdeal.main (F := Ideal))) ⟨m, fun _ => 0, g⟩ (fun r => ∀ c : Dev Cert.BranchAIdeal.nD,
          r.2.mem ((c.tc : Thread Cert.BranchAIdeal.nD Cert.BranchAIdeal.τ).loc Cert.BranchAIdeal.main_v0) = v0 c
          ∧ r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
          ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1)
          ∧ r.2.mem ((c.tc : Thread Cert.BranchAIdeal.nD Cert.BranchAIdeal.τ).loc Cert.BranchAIdeal.main_arg2) = m ((c.tc : Thread Cert.BranchAIdeal.nD Cert.BranchAIdeal.τ).loc Cert.BranchAIdeal.main_arg2)
          ∧ r.2.mem ((c.tc : Thread Cert.BranchAIdeal.nD Cert.BranchAIdeal.τ).loc Cert.BranchAIdeal.main_arg3) = m ((c.tc : Thread Cert.BranchAIdeal.nD Cert.BranchAIdeal.τ).loc Cert.BranchAIdeal.main_arg3))
      ∧ θ_run (Cert.BranchARefIdeal.defs (F := Ideal)) (onTc (τ := Cert.BranchARefIdeal.τ) (Cert.BranchARefIdeal.main (F := Ideal))) ⟨m', fun _ => 0, g'⟩ (fun r => ∀ c : Dev Cert.BranchARefIdeal.nD,
          r.2.mem ((c.tc : Thread Cert.BranchARefIdeal.nD Cert.BranchARefIdeal.τ).loc Cert.BranchARefIdeal.main_v57) = v0 c
          ∧ r.2.mem ((c.tc : Thread Cert.BranchARefIdeal.nD Cert.BranchARefIdeal.τ).loc Cert.BranchARefIdeal.main_arg0) = m' ((c.tc : Thread Cert.BranchARefIdeal.nD Cert.BranchARefIdeal.τ).loc Cert.BranchARefIdeal.main_arg0)
          ∧ r.2.mem ((c.tc : Thread Cert.BranchARefIdeal.nD Cert.BranchARefIdeal.τ).loc Cert.BranchARefIdeal.main_arg1) = m' ((c.tc : Thread Cert.BranchARefIdeal.nD Cert.BranchARefIdeal.τ).loc Cert.BranchARefIdeal.main_arg1)
          ∧ r.2.mem ((c.tc : Thread Cert.BranchARefIdeal.nD Cert.BranchARefIdeal.τ).loc Cert.BranchARefIdeal.main_arg2) = m' ((c.tc : Thread Cert.BranchARefIdeal.nD Cert.BranchARefIdeal.τ).loc Cert.BranchARefIdeal.main_arg2)
          ∧ r.2.mem ((c.tc : Thread Cert.BranchARefIdeal.nD Cert.BranchARefIdeal.τ).loc Cert.BranchARefIdeal.main_arg3) = m' ((c.tc : Thread Cert.BranchARefIdeal.nD Cert.BranchARefIdeal.τ).loc Cert.BranchARefIdeal.main_arg3))

def preserves_NormIn_NormInIdeal : Prop :=
  True

def algebraic_NormInIdeal_NormInStepIdeal [hNormInIdeal : Cert.NormInIdeal.Facts] [hNormInStepIdeal : Cert.NormInStepIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInStepIdeal.nD Cert.NormInStepIdeal.τ Cert.NormInStepIdeal.sig) → Buf (Elt Ideal) ℓ) (g' : Dev Cert.NormInStepIdeal.nD → PrngReg), Pre_NormInIdeal m →
    (∀ c : Dev Cert.NormInIdeal.nD,
      m' ((c.tc : Thread Cert.NormInStepIdeal.nD Cert.NormInStepIdeal.τ).loc Cert.NormInStepIdeal.main_arg0) = m ((c.tc : Thread Cert.NormInIdeal.nD Cert.NormInIdeal.τ).loc Cert.NormInIdeal.main_arg0)
      ∧ m' ((c.tc : Thread Cert.NormInStepIdeal.nD Cert.NormInStepIdeal.τ).loc Cert.NormInStepIdeal.main_arg1) = m ((c.tc : Thread Cert.NormInIdeal.nD Cert.NormInIdeal.τ).loc Cert.NormInIdeal.main_arg1)
      ∧ m' ((c.tc : Thread Cert.NormInStepIdeal.nD Cert.NormInStepIdeal.τ).loc Cert.NormInStepIdeal.main_arg2) = m ((c.tc : Thread Cert.NormInIdeal.nD Cert.NormInIdeal.τ).loc Cert.NormInIdeal.main_arg2)
      ∧ m' ((c.tc : Thread Cert.NormInStepIdeal.nD Cert.NormInStepIdeal.τ).loc Cert.NormInStepIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)) (v2 : (c : Dev Cert.NormInIdeal.nD) → Buf (Elt Ideal) ((c.tc : Thread Cert.NormInIdeal.nD Cert.NormInIdeal.τ).loc Cert.NormInIdeal.main_v0_2)) (v3 : (c : Dev Cert.NormInIdeal.nD) → Buf (Elt Ideal) ((c.tc : Thread Cert.NormInIdeal.nD Cert.NormInIdeal.τ).loc Cert.NormInIdeal.main_v0_3)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_v0_2) = v2 c
          ∧ r.2.mem ((c.tc : Thread Cert.NormInIdeal.nD Cert.NormInIdeal.τ).loc Cert.NormInIdeal.main_v0_3) = v3 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInStepIdeal.defs (F := Ideal)) (onTc (τ := Cert.NormInStepIdeal.τ) (Cert.NormInStepIdeal.main (F := Ideal))) ⟨m', fun _ => 0, g'⟩ (fun r => ∀ c : Dev Cert.NormInStepIdeal.nD,
          r.2.mem ((c.tc : Thread Cert.NormInStepIdeal.nD Cert.NormInStepIdeal.τ).loc Cert.NormInStepIdeal.main_arg0) = v0 c
          ∧ r.2.mem ((c.tc : Thread Cert.NormInStepIdeal.nD Cert.NormInStepIdeal.τ).loc Cert.NormInStepIdeal.main_v23) = v1 c
          ∧ r.2.mem ((c.tc : Thread Cert.NormInStepIdeal.nD Cert.NormInStepIdeal.τ).loc Cert.NormInStepIdeal.main_v4) = v2 c
          ∧ r.2.mem ((c.tc : Thread Cert.NormInStepIdeal.nD Cert.NormInStepIdeal.τ).loc Cert.NormInStepIdeal.main_v10) = v3 c
          ∧ r.2.mem ((c.tc : Thread Cert.NormInStepIdeal.nD Cert.NormInStepIdeal.τ).loc Cert.NormInStepIdeal.main_arg0) = m' ((c.tc : Thread Cert.NormInStepIdeal.nD Cert.NormInStepIdeal.τ).loc Cert.NormInStepIdeal.main_arg0)
          ∧ r.2.mem ((c.tc : Thread Cert.NormInStepIdeal.nD Cert.NormInStepIdeal.τ).loc Cert.NormInStepIdeal.main_arg1) = m' ((c.tc : Thread Cert.NormInStepIdeal.nD Cert.NormInStepIdeal.τ).loc Cert.NormInStepIdeal.main_arg1)
          ∧ r.2.mem ((c.tc : Thread Cert.NormInStepIdeal.nD Cert.NormInStepIdeal.τ).loc Cert.NormInStepIdeal.main_arg2) = m' ((c.tc : Thread Cert.NormInStepIdeal.nD Cert.NormInStepIdeal.τ).loc Cert.NormInStepIdeal.main_arg2)
          ∧ r.2.mem ((c.tc : Thread Cert.NormInStepIdeal.nD Cert.NormInStepIdeal.τ).loc Cert.NormInStepIdeal.main_arg3) = m' ((c.tc : Thread Cert.NormInStepIdeal.nD Cert.NormInStepIdeal.τ).loc Cert.NormInStepIdeal.main_arg3))

def preserves_NormV_NormVIdeal : Prop :=
  True

def algebraic_NormVIdeal_NormVStepIdeal [hNormVIdeal : Cert.NormVIdeal.Facts] [hNormVStepIdeal : Cert.NormVStepIdeal.Facts] : Prop :=
  ∀ (m : (ℓ : Loc Cert.NormVIdeal.nD Cert.NormVIdeal.τ Cert.NormVIdeal.sig) → Buf (Elt Ideal) ℓ) (g : Dev Cert.NormVIdeal.nD → PrngReg)
    (m' : (ℓ : Loc Cert.NormVStepIdeal.nD Cert.NormVStepIdeal.τ Cert.NormVStepIdeal.sig) → Buf (Elt Ideal) ℓ) (g' : Dev Cert.NormVStepIdeal.nD → PrngReg), Pre_NormVIdeal m →
    (∀ c : Dev Cert.NormVIdeal.nD,
      m' ((c.tc : Thread Cert.NormVStepIdeal.nD Cert.NormVStepIdeal.τ).loc Cert.NormVStepIdeal.main_arg0) = m ((c.tc : Thread Cert.NormVIdeal.nD Cert.NormVIdeal.τ).loc Cert.NormVIdeal.main_arg0)
      ∧ m' ((c.tc : Thread Cert.NormVStepIdeal.nD Cert.NormVStepIdeal.τ).loc Cert.NormVStepIdeal.main_arg1) = m ((c.tc : Thread Cert.NormVIdeal.nD Cert.NormVIdeal.τ).loc Cert.NormVIdeal.main_arg1)
      ∧ m' ((c.tc : Thread Cert.NormVStepIdeal.nD Cert.NormVStepIdeal.τ).loc Cert.NormVStepIdeal.main_arg2) = m ((c.tc : Thread Cert.NormVIdeal.nD Cert.NormVIdeal.τ).loc Cert.NormVIdeal.main_arg2)
      ∧ m' ((c.tc : Thread Cert.NormVStepIdeal.nD Cert.NormVStepIdeal.τ).loc Cert.NormVStepIdeal.main_arg3) = m ((c.tc : Thread Cert.NormVIdeal.nD Cert.NormVIdeal.τ).loc Cert.NormVIdeal.main_arg3)) →
    ∃ (v0 : (c : Dev Cert.NormVIdeal.nD) → Buf (Elt Ideal) ((c.tc : Thread Cert.NormVIdeal.nD Cert.NormVIdeal.τ).loc Cert.NormVIdeal.main_v0_0)) (v1 : (c : Dev Cert.NormVIdeal.nD) → Buf (Elt Ideal) ((c.tc : Thread Cert.NormVIdeal.nD Cert.NormVIdeal.τ).loc Cert.NormVIdeal.main_v0_1)) (v2 : (c : Dev Cert.NormVIdeal.nD) → Buf (Elt Ideal) ((c.tc : Thread Cert.NormVIdeal.nD Cert.NormVIdeal.τ).loc Cert.NormVIdeal.main_v0_2)) (v3 : (c : Dev Cert.NormVIdeal.nD) → Buf (Elt Ideal) ((c.tc : Thread Cert.NormVIdeal.nD Cert.NormVIdeal.τ).loc Cert.NormVIdeal.main_v0_3)),
      θ_run (Cert.NormVIdeal.defs (F := Ideal)) (onTc (τ := Cert.NormVIdeal.τ) (Cert.NormVIdeal.main (F := Ideal))) ⟨m, fun _ => 0, g⟩ (fun r => ∀ c : Dev Cert.NormVIdeal.nD,
          r.2.mem ((c.tc : Thread Cert.NormVIdeal.nD Cert.NormVIdeal.τ).loc Cert.NormVIdeal.main_v0_0) = v0 c
          ∧ r.2.mem ((c.tc : Thread Cert.NormVIdeal.nD Cert.NormVIdeal.τ).loc Cert.NormVIdeal.main_v0_1) = v1 c
          ∧ r.2.mem ((c.tc : Thread Cert.NormVIdeal.nD Cert.NormVIdeal.τ).loc Cert.NormVIdeal.main_v0_2) = v2 c
          ∧ r.2.mem ((c.tc : Thread Cert.NormVIdeal.nD Cert.NormVIdeal.τ).loc Cert.NormVIdeal.main_v0_3) = v3 c
          ∧ r.2.mem ((c.tc : Thread Cert.NormVIdeal.nD Cert.NormVIdeal.τ).loc Cert.NormVIdeal.main_arg0) = m ((c.tc : Thread Cert.NormVIdeal.nD Cert.NormVIdeal.τ).loc Cert.NormVIdeal.main_arg0)
          ∧ r.2.mem ((c.tc : Thread Cert.NormVIdeal.nD Cert.NormVIdeal.τ).loc Cert.NormVIdeal.main_arg1) = m ((c.tc : Thread Cert.NormVIdeal.nD Cert.NormVIdeal.τ).loc Cert.NormVIdeal.main_arg1)
          ∧ r.2.mem ((c.tc : Thread Cert.NormVIdeal.nD Cert.NormVIdeal.τ).loc Cert.NormVIdeal.main_arg2) = m ((c.tc : Thread Cert.NormVIdeal.nD Cert.NormVIdeal.τ).loc Cert.NormVIdeal.main_arg2)
          ∧ r.2.mem ((c.tc : Thread Cert.NormVIdeal.nD Cert.NormVIdeal.τ).loc Cert.NormVIdeal.main_arg3) = m ((c.tc : Thread Cert.NormVIdeal.nD Cert.NormVIdeal.τ).loc Cert.NormVIdeal.main_arg3))
      ∧ θ_run (Cert.NormVStepIdeal.defs (F := Ideal)) (onTc (τ := Cert.NormVStepIdeal.τ) (Cert.NormVStepIdeal.main (F := Ideal))) ⟨m', fun _ => 0, g'⟩ (fun r => ∀ c : Dev Cert.NormVStepIdeal.nD,
          r.2.mem ((c.tc : Thread Cert.NormVStepIdeal.nD Cert.NormVStepIdeal.τ).loc Cert.NormVStepIdeal.main_arg0) = v0 c
          ∧ r.2.mem ((c.tc : Thread Cert.NormVStepIdeal.nD Cert.NormVStepIdeal.τ).loc Cert.NormVStepIdeal.main_v23) = v1 c
          ∧ r.2.mem ((c.tc : Thread Cert.NormVStepIdeal.nD Cert.NormVStepIdeal.τ).loc Cert.NormVStepIdeal.main_v4) = v2 c
          ∧ r.2.mem ((c.tc : Thread Cert.NormVStepIdeal.nD Cert.NormVStepIdeal.τ).loc Cert.NormVStepIdeal.main_v10) = v3 c
          ∧ r.2.mem ((c.tc : Thread Cert.NormVStepIdeal.nD Cert.NormVStepIdeal.τ).loc Cert.NormVStepIdeal.main_arg0) = m' ((c.tc : Thread Cert.NormVStepIdeal.nD Cert.NormVStepIdeal.τ).loc Cert.NormVStepIdeal.main_arg0)
          ∧ r.2.mem ((c.tc : Thread Cert.NormVStepIdeal.nD Cert.NormVStepIdeal.τ).loc Cert.NormVStepIdeal.main_arg1) = m' ((c.tc : Thread Cert.NormVStepIdeal.nD Cert.NormVStepIdeal.τ).loc Cert.NormVStepIdeal.main_arg1)
          ∧ r.2.mem ((c.tc : Thread Cert.NormVStepIdeal.nD Cert.NormVStepIdeal.τ).loc Cert.NormVStepIdeal.main_arg2) = m' ((c.tc : Thread Cert.NormVStepIdeal.nD Cert.NormVStepIdeal.τ).loc Cert.NormVStepIdeal.main_arg2)
          ∧ r.2.mem ((c.tc : Thread Cert.NormVStepIdeal.nD Cert.NormVStepIdeal.τ).loc Cert.NormVStepIdeal.main_arg3) = m' ((c.tc : Thread Cert.NormVStepIdeal.nD Cert.NormVStepIdeal.τ).loc Cert.NormVStepIdeal.main_arg3))

def preserves_NormFinal_NormFinalIdeal : Prop :=
  True

def algebraic_NormFinalIdeal_NormFinalStepIdeal [hNormFinalIdeal : Cert.NormFinalIdeal.Facts] [hNormFinalStepIdeal : Cert.NormFinalStepIdeal.Facts] : Prop :=
  ∀ (m : (ℓ : Loc Cert.NormFinalIdeal.nD Cert.NormFinalIdeal.τ Cert.NormFinalIdeal.sig) → Buf (Elt Ideal) ℓ) (g : Dev Cert.NormFinalIdeal.nD → PrngReg)
    (m' : (ℓ : Loc Cert.NormFinalStepIdeal.nD Cert.NormFinalStepIdeal.τ Cert.NormFinalStepIdeal.sig) → Buf (Elt Ideal) ℓ) (g' : Dev Cert.NormFinalStepIdeal.nD → PrngReg), Pre_NormFinalIdeal m →
    (∀ c : Dev Cert.NormFinalIdeal.nD,
      m' ((c.tc : Thread Cert.NormFinalStepIdeal.nD Cert.NormFinalStepIdeal.τ).loc Cert.NormFinalStepIdeal.main_arg0) = m ((c.tc : Thread Cert.NormFinalIdeal.nD Cert.NormFinalIdeal.τ).loc Cert.NormFinalIdeal.main_arg0)
      ∧ m' ((c.tc : Thread Cert.NormFinalStepIdeal.nD Cert.NormFinalStepIdeal.τ).loc Cert.NormFinalStepIdeal.main_arg1) = m ((c.tc : Thread Cert.NormFinalIdeal.nD Cert.NormFinalIdeal.τ).loc Cert.NormFinalIdeal.main_arg1)
      ∧ m' ((c.tc : Thread Cert.NormFinalStepIdeal.nD Cert.NormFinalStepIdeal.τ).loc Cert.NormFinalStepIdeal.main_arg2) = m ((c.tc : Thread Cert.NormFinalIdeal.nD Cert.NormFinalIdeal.τ).loc Cert.NormFinalIdeal.main_arg2)
      ∧ m' ((c.tc : Thread Cert.NormFinalStepIdeal.nD Cert.NormFinalStepIdeal.τ).loc Cert.NormFinalStepIdeal.main_arg3) = m ((c.tc : Thread Cert.NormFinalIdeal.nD Cert.NormFinalIdeal.τ).loc Cert.NormFinalIdeal.main_arg3)) →
    ∃ (v0 : (c : Dev Cert.NormFinalIdeal.nD) → Buf (Elt Ideal) ((c.tc : Thread Cert.NormFinalIdeal.nD Cert.NormFinalIdeal.τ).loc Cert.NormFinalIdeal.main_v0_0)) (v1 : (c : Dev Cert.NormFinalIdeal.nD) → Buf (Elt Ideal) ((c.tc : Thread Cert.NormFinalIdeal.nD Cert.NormFinalIdeal.τ).loc Cert.NormFinalIdeal.main_v0_1)) (v2 : (c : Dev Cert.NormFinalIdeal.nD) → Buf (Elt Ideal) ((c.tc : Thread Cert.NormFinalIdeal.nD Cert.NormFinalIdeal.τ).loc Cert.NormFinalIdeal.main_v0_2)) (v3 : (c : Dev Cert.NormFinalIdeal.nD) → Buf (Elt Ideal) ((c.tc : Thread Cert.NormFinalIdeal.nD Cert.NormFinalIdeal.τ).loc Cert.NormFinalIdeal.main_v0_3)),
      θ_run (Cert.NormFinalIdeal.defs (F := Ideal)) (onTc (τ := Cert.NormFinalIdeal.τ) (Cert.NormFinalIdeal.main (F := Ideal))) ⟨m, fun _ => 0, g⟩ (fun r => ∀ c : Dev Cert.NormFinalIdeal.nD,
          r.2.mem ((c.tc : Thread Cert.NormFinalIdeal.nD Cert.NormFinalIdeal.τ).loc Cert.NormFinalIdeal.main_v0_0) = v0 c
          ∧ r.2.mem ((c.tc : Thread Cert.NormFinalIdeal.nD Cert.NormFinalIdeal.τ).loc Cert.NormFinalIdeal.main_v0_1) = v1 c
          ∧ r.2.mem ((c.tc : Thread Cert.NormFinalIdeal.nD Cert.NormFinalIdeal.τ).loc Cert.NormFinalIdeal.main_v0_2) = v2 c
          ∧ r.2.mem ((c.tc : Thread Cert.NormFinalIdeal.nD Cert.NormFinalIdeal.τ).loc Cert.NormFinalIdeal.main_v0_3) = v3 c
          ∧ r.2.mem ((c.tc : Thread Cert.NormFinalIdeal.nD Cert.NormFinalIdeal.τ).loc Cert.NormFinalIdeal.main_arg0) = m ((c.tc : Thread Cert.NormFinalIdeal.nD Cert.NormFinalIdeal.τ).loc Cert.NormFinalIdeal.main_arg0)
          ∧ r.2.mem ((c.tc : Thread Cert.NormFinalIdeal.nD Cert.NormFinalIdeal.τ).loc Cert.NormFinalIdeal.main_arg1) = m ((c.tc : Thread Cert.NormFinalIdeal.nD Cert.NormFinalIdeal.τ).loc Cert.NormFinalIdeal.main_arg1)
          ∧ r.2.mem ((c.tc : Thread Cert.NormFinalIdeal.nD Cert.NormFinalIdeal.τ).loc Cert.NormFinalIdeal.main_arg2) = m ((c.tc : Thread Cert.NormFinalIdeal.nD Cert.NormFinalIdeal.τ).loc Cert.NormFinalIdeal.main_arg2)
          ∧ r.2.mem ((c.tc : Thread Cert.NormFinalIdeal.nD Cert.NormFinalIdeal.τ).loc Cert.NormFinalIdeal.main_arg3) = m ((c.tc : Thread Cert.NormFinalIdeal.nD Cert.NormFinalIdeal.τ).loc Cert.NormFinalIdeal.main_arg3))
      ∧ θ_run (Cert.NormFinalStepIdeal.defs (F := Ideal)) (onTc (τ := Cert.NormFinalStepIdeal.τ) (Cert.NormFinalStepIdeal.main (F := Ideal))) ⟨m', fun _ => 0, g'⟩ (fun r => ∀ c : Dev Cert.NormFinalStepIdeal.nD,
          r.2.mem ((c.tc : Thread Cert.NormFinalStepIdeal.nD Cert.NormFinalStepIdeal.τ).loc Cert.NormFinalStepIdeal.main_arg0) = v0 c
          ∧ r.2.mem ((c.tc : Thread Cert.NormFinalStepIdeal.nD Cert.NormFinalStepIdeal.τ).loc Cert.NormFinalStepIdeal.main_v23) = v1 c
          ∧ r.2.mem ((c.tc : Thread Cert.NormFinalStepIdeal.nD Cert.NormFinalStepIdeal.τ).loc Cert.NormFinalStepIdeal.main_v4) = v2 c
          ∧ r.2.mem ((c.tc : Thread Cert.NormFinalStepIdeal.nD Cert.NormFinalStepIdeal.τ).loc Cert.NormFinalStepIdeal.main_v10) = v3 c
          ∧ r.2.mem ((c.tc : Thread Cert.NormFinalStepIdeal.nD Cert.NormFinalStepIdeal.τ).loc Cert.NormFinalStepIdeal.main_arg0) = m' ((c.tc : Thread Cert.NormFinalStepIdeal.nD Cert.NormFinalStepIdeal.τ).loc Cert.NormFinalStepIdeal.main_arg0)
          ∧ r.2.mem ((c.tc : Thread Cert.NormFinalStepIdeal.nD Cert.NormFinalStepIdeal.τ).loc Cert.NormFinalStepIdeal.main_arg1) = m' ((c.tc : Thread Cert.NormFinalStepIdeal.nD Cert.NormFinalStepIdeal.τ).loc Cert.NormFinalStepIdeal.main_arg1)
          ∧ r.2.mem ((c.tc : Thread Cert.NormFinalStepIdeal.nD Cert.NormFinalStepIdeal.τ).loc Cert.NormFinalStepIdeal.main_arg2) = m' ((c.tc : Thread Cert.NormFinalStepIdeal.nD Cert.NormFinalStepIdeal.τ).loc Cert.NormFinalStepIdeal.main_arg2)
          ∧ r.2.mem ((c.tc : Thread Cert.NormFinalStepIdeal.nD Cert.NormFinalStepIdeal.τ).loc Cert.NormFinalStepIdeal.main_arg3) = m' ((c.tc : Thread Cert.NormFinalStepIdeal.nD Cert.NormFinalStepIdeal.τ).loc Cert.NormFinalStepIdeal.main_arg3))

def preserves_Spatial_SpatialIdeal : Prop :=
  True

def algebraic_SpatialIdeal_SpatialStepIdeal [hSpatialIdeal : Cert.SpatialIdeal.Facts] [hSpatialStepIdeal : Cert.SpatialStepIdeal.Facts] : Prop :=
  ∀ (m : (ℓ : Loc Cert.SpatialIdeal.nD Cert.SpatialIdeal.τ Cert.SpatialIdeal.sig) → Buf (Elt Ideal) ℓ) (g : Dev Cert.SpatialIdeal.nD → PrngReg)
    (m' : (ℓ : Loc Cert.SpatialStepIdeal.nD Cert.SpatialStepIdeal.τ Cert.SpatialStepIdeal.sig) → Buf (Elt Ideal) ℓ) (g' : Dev Cert.SpatialStepIdeal.nD → PrngReg), Pre_SpatialIdeal m →
    (∀ c : Dev Cert.SpatialIdeal.nD,
      m' ((c.tc : Thread Cert.SpatialStepIdeal.nD Cert.SpatialStepIdeal.τ).loc Cert.SpatialStepIdeal.main_arg0) = m ((c.tc : Thread Cert.SpatialIdeal.nD Cert.SpatialIdeal.τ).loc Cert.SpatialIdeal.main_arg0)
      ∧ m' ((c.tc : Thread Cert.SpatialStepIdeal.nD Cert.SpatialStepIdeal.τ).loc Cert.SpatialStepIdeal.main_arg1) = m ((c.tc : Thread Cert.SpatialIdeal.nD Cert.SpatialIdeal.τ).loc Cert.SpatialIdeal.main_arg1)
      ∧ m' ((c.tc : Thread Cert.SpatialStepIdeal.nD Cert.SpatialStepIdeal.τ).loc Cert.SpatialStepIdeal.main_arg2) = m ((c.tc : Thread Cert.SpatialIdeal.nD Cert.SpatialIdeal.τ).loc Cert.SpatialIdeal.main_arg2)
      ∧ m' ((c.tc : Thread Cert.SpatialStepIdeal.nD Cert.SpatialStepIdeal.τ).loc Cert.SpatialStepIdeal.main_arg3) = m ((c.tc : Thread Cert.SpatialIdeal.nD Cert.SpatialIdeal.τ).loc Cert.SpatialIdeal.main_arg3)) →
    ∃ (v0 : (c : Dev Cert.SpatialIdeal.nD) → Buf (Elt Ideal) ((c.tc : Thread Cert.SpatialIdeal.nD Cert.SpatialIdeal.τ).loc Cert.SpatialIdeal.main_v0_0)) (v1 : (c : Dev Cert.SpatialIdeal.nD) → Buf (Elt Ideal) ((c.tc : Thread Cert.SpatialIdeal.nD Cert.SpatialIdeal.τ).loc Cert.SpatialIdeal.main_v0_1)) (v2 : (c : Dev Cert.SpatialIdeal.nD) → Buf (Elt Ideal) ((c.tc : Thread Cert.SpatialIdeal.nD Cert.SpatialIdeal.τ).loc Cert.SpatialIdeal.main_v0_2)) (v3 : (c : Dev Cert.SpatialIdeal.nD) → Buf (Elt Ideal) ((c.tc : Thread Cert.SpatialIdeal.nD Cert.SpatialIdeal.τ).loc Cert.SpatialIdeal.main_v0_3)),
      θ_run (Cert.SpatialIdeal.defs (F := Ideal)) (onTc (τ := Cert.SpatialIdeal.τ) (Cert.SpatialIdeal.main (F := Ideal))) ⟨m, fun _ => 0, g⟩ (fun r => ∀ c : Dev Cert.SpatialIdeal.nD,
          r.2.mem ((c.tc : Thread Cert.SpatialIdeal.nD Cert.SpatialIdeal.τ).loc Cert.SpatialIdeal.main_v0_0) = v0 c
          ∧ r.2.mem ((c.tc : Thread Cert.SpatialIdeal.nD Cert.SpatialIdeal.τ).loc Cert.SpatialIdeal.main_v0_1) = v1 c
          ∧ r.2.mem ((c.tc : Thread Cert.SpatialIdeal.nD Cert.SpatialIdeal.τ).loc Cert.SpatialIdeal.main_v0_2) = v2 c
          ∧ r.2.mem ((c.tc : Thread Cert.SpatialIdeal.nD Cert.SpatialIdeal.τ).loc Cert.SpatialIdeal.main_v0_3) = v3 c
          ∧ r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
          ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
          ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
          ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3))
      ∧ θ_run (Cert.SpatialStepIdeal.defs (F := Ideal)) (onTc (τ := Cert.SpatialStepIdeal.τ) (Cert.SpatialStepIdeal.main (F := Ideal))) ⟨m', fun _ => 0, g'⟩ (fun r => ∀ c : Dev Cert.SpatialStepIdeal.nD,
          r.2.mem ((c.tc : Thread Cert.SpatialStepIdeal.nD Cert.SpatialStepIdeal.τ).loc Cert.SpatialStepIdeal.main_arg0) = v0 c
          ∧ r.2.mem ((c.tc : Thread Cert.SpatialStepIdeal.nD Cert.SpatialStepIdeal.τ).loc Cert.SpatialStepIdeal.main_v23) = v1 c
          ∧ r.2.mem ((c.tc : Thread Cert.SpatialStepIdeal.nD Cert.SpatialStepIdeal.τ).loc Cert.SpatialStepIdeal.main_v4) = v2 c
          ∧ r.2.mem ((c.tc : Thread Cert.SpatialStepIdeal.nD Cert.SpatialStepIdeal.τ).loc Cert.SpatialStepIdeal.main_v10) = v3 c
          ∧ r.2.mem ((c.tc : Thread Cert.SpatialStepIdeal.nD Cert.SpatialStepIdeal.τ).loc Cert.SpatialStepIdeal.main_arg0) = m' ((c.tc : Thread Cert.SpatialStepIdeal.nD Cert.SpatialStepIdeal.τ).loc Cert.SpatialStepIdeal.main_arg0)
          ∧ r.2.mem ((c.tc : Thread Cert.SpatialStepIdeal.nD Cert.SpatialStepIdeal.τ).loc Cert.SpatialStepIdeal.main_arg1) = m' ((c.tc : Thread Cert.SpatialStepIdeal.nD Cert.SpatialStepIdeal.τ).loc Cert.SpatialStepIdeal.main_arg1)
          ∧ r.2.mem ((c.tc : Thread Cert.SpatialStepIdeal.nD Cert.SpatialStepIdeal.τ).loc Cert.SpatialStepIdeal.main_arg2) = m' ((c.tc : Thread Cert.SpatialStepIdeal.nD Cert.SpatialStepIdeal.τ).loc Cert.SpatialStepIdeal.main_arg2)
          ∧ r.2.mem ((c.tc : Thread Cert.SpatialStepIdeal.nD Cert.SpatialStepIdeal.τ).loc Cert.SpatialStepIdeal.main_arg3) = m' ((c.tc : Thread Cert.SpatialStepIdeal.nD Cert.SpatialStepIdeal.τ).loc Cert.SpatialStepIdeal.main_arg3))

def preserves_Bias_BiasIdeal : Prop :=
  True

def algebraic_BiasIdeal_BiasStepIdeal [hBiasIdeal : Cert.BiasIdeal.Facts] [hBiasStepIdeal : Cert.BiasStepIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasStepIdeal.nD Cert.BiasStepIdeal.τ Cert.BiasStepIdeal.sig) → Buf (Elt Ideal) ℓ) (g' : Dev Cert.BiasStepIdeal.nD → PrngReg), Pre_BiasIdeal m →
    (∀ c : Dev Cert.BiasIdeal.nD,
      m' ((c.tc : Thread Cert.BiasStepIdeal.nD Cert.BiasStepIdeal.τ).loc Cert.BiasStepIdeal.main_arg0) = m ((c.tc : Thread Cert.BiasIdeal.nD Cert.BiasIdeal.τ).loc Cert.BiasIdeal.main_arg0)
      ∧ m' ((c.tc : Thread Cert.BiasStepIdeal.nD Cert.BiasStepIdeal.τ).loc Cert.BiasStepIdeal.main_arg1) = m ((c.tc : Thread Cert.BiasIdeal.nD Cert.BiasIdeal.τ).loc Cert.BiasIdeal.main_arg1)
      ∧ m' ((c.tc : Thread Cert.BiasStepIdeal.nD Cert.BiasStepIdeal.τ).loc Cert.BiasStepIdeal.main_arg2) = m ((c.tc : Thread Cert.BiasIdeal.nD Cert.BiasIdeal.τ).loc Cert.BiasIdeal.main_arg2)
      ∧ m' ((c.tc : Thread Cert.BiasStepIdeal.nD Cert.BiasStepIdeal.τ).loc Cert.BiasStepIdeal.main_arg3) = m ((c.tc : Thread Cert.BiasIdeal.nD Cert.BiasIdeal.τ).loc Cert.BiasIdeal.main_arg3)) →
    ∃ (v0 : (c : Dev Cert.BiasIdeal.nD) → Buf (Elt Ideal) ((c.tc : Thread Cert.BiasIdeal.nD Cert.BiasIdeal.τ).loc Cert.BiasIdeal.main_v0_0)) (v1 : (c : Dev Cert.BiasIdeal.nD) → Buf (Elt Ideal) ((c.tc : Thread Cert.BiasIdeal.nD Cert.BiasIdeal.τ).loc Cert.BiasIdeal.main_v0_1)) (v2 : (c : Dev Cert.BiasIdeal.nD) → Buf (Elt Ideal) ((c.tc : Thread Cert.BiasIdeal.nD Cert.BiasIdeal.τ).loc Cert.BiasIdeal.main_v0_2)) (v3 : (c : Dev Cert.BiasIdeal.nD) → Buf (Elt Ideal) ((c.tc : Thread Cert.BiasIdeal.nD Cert.BiasIdeal.τ).loc Cert.BiasIdeal.main_v0_3)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0_0) = v0 c
          ∧ r.2.mem ((c.tc : Thread Cert.BiasIdeal.nD Cert.BiasIdeal.τ).loc Cert.BiasIdeal.main_v0_1) = v1 c
          ∧ r.2.mem ((c.tc : Thread Cert.BiasIdeal.nD Cert.BiasIdeal.τ).loc Cert.BiasIdeal.main_v0_2) = v2 c
          ∧ r.2.mem ((c.tc : Thread Cert.BiasIdeal.nD Cert.BiasIdeal.τ).loc Cert.BiasIdeal.main_v0_3) = v3 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
          ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
          ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3))
      ∧ θ_run (Cert.BiasStepIdeal.defs (F := Ideal)) (onTc (τ := Cert.BiasStepIdeal.τ) (Cert.BiasStepIdeal.main (F := Ideal))) ⟨m', fun _ => 0, g'⟩ (fun r => ∀ c : Dev Cert.BiasStepIdeal.nD,
          r.2.mem ((c.tc : Thread Cert.BiasStepIdeal.nD Cert.BiasStepIdeal.τ).loc Cert.BiasStepIdeal.main_arg0) = v0 c
          ∧ r.2.mem ((c.tc : Thread Cert.BiasStepIdeal.nD Cert.BiasStepIdeal.τ).loc Cert.BiasStepIdeal.main_v23) = v1 c
          ∧ r.2.mem ((c.tc : Thread Cert.BiasStepIdeal.nD Cert.BiasStepIdeal.τ).loc Cert.BiasStepIdeal.main_v4) = v2 c
          ∧ r.2.mem ((c.tc : Thread Cert.BiasStepIdeal.nD Cert.BiasStepIdeal.τ).loc Cert.BiasStepIdeal.main_v10) = v3 c
          ∧ r.2.mem ((c.tc : Thread Cert.BiasStepIdeal.nD Cert.BiasStepIdeal.τ).loc Cert.BiasStepIdeal.main_arg0) = m' ((c.tc : Thread Cert.BiasStepIdeal.nD Cert.BiasStepIdeal.τ).loc Cert.BiasStepIdeal.main_arg0)
          ∧ r.2.mem ((c.tc : Thread Cert.BiasStepIdeal.nD Cert.BiasStepIdeal.τ).loc Cert.BiasStepIdeal.main_arg1) = m' ((c.tc : Thread Cert.BiasStepIdeal.nD Cert.BiasStepIdeal.τ).loc Cert.BiasStepIdeal.main_arg1)
          ∧ r.2.mem ((c.tc : Thread Cert.BiasStepIdeal.nD Cert.BiasStepIdeal.τ).loc Cert.BiasStepIdeal.main_arg2) = m' ((c.tc : Thread Cert.BiasStepIdeal.nD Cert.BiasStepIdeal.τ).loc Cert.BiasStepIdeal.main_arg2)
          ∧ r.2.mem ((c.tc : Thread Cert.BiasStepIdeal.nD Cert.BiasStepIdeal.τ).loc Cert.BiasStepIdeal.main_arg3) = m' ((c.tc : Thread Cert.BiasStepIdeal.nD Cert.BiasStepIdeal.τ).loc Cert.BiasStepIdeal.main_arg3))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatheredIdeal : Cert.GatheredIdeal.Facts) (hGathered : Cert.Gathered.Facts) (hDx : Cert.Dx.Facts) (hDxIdeal : Cert.DxIdeal.Facts) (hGradXIdeal : Cert.GradXIdeal.Facts) (hInProj : Cert.InProj.Facts) (hInProjIdeal : Cert.InProjIdeal.Facts) (hInProjRefIdeal : Cert.InProjRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hDwA : Cert.DwA.Facts) (hDwAIdeal : Cert.DwAIdeal.Facts) (hDwARefIdeal : Cert.DwARefIdeal.Facts) (hDwB : Cert.DwB.Facts) (hDwBIdeal : Cert.DwBIdeal.Facts) (hDwBRefIdeal : Cert.DwBRefIdeal.Facts) (hBranchA : Cert.BranchA.Facts) (hBranchAIdeal : Cert.BranchAIdeal.Facts) (hBranchARefIdeal : Cert.BranchARefIdeal.Facts) (hNormIn : Cert.NormIn.Facts) (hNormInIdeal : Cert.NormInIdeal.Facts) (hNormInStepIdeal : Cert.NormInStepIdeal.Facts) (hNormV : Cert.NormV.Facts) (hNormVIdeal : Cert.NormVIdeal.Facts) (hNormVStepIdeal : Cert.NormVStepIdeal.Facts) (hNormFinal : Cert.NormFinal.Facts) (hNormFinalIdeal : Cert.NormFinalIdeal.Facts) (hNormFinalStepIdeal : Cert.NormFinalStepIdeal.Facts) (hSpatial : Cert.Spatial.Facts) (hSpatialIdeal : Cert.SpatialIdeal.Facts) (hSpatialStepIdeal : Cert.SpatialStepIdeal.Facts) (hBias : Cert.Bias.Facts) (hBiasIdeal : Cert.BiasIdeal.Facts) (hBiasStepIdeal : Cert.BiasStepIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_GatheredIdeal (hGatheredIdeal := hGatheredIdeal)
    ∧ quiescent_Gathered (hGathered := hGathered)
    ∧ quiescent_Dx (hDx := hDx)
    ∧ quiescent_DxIdeal (hDxIdeal := hDxIdeal)
    ∧ quiescent_GradXIdeal (hGradXIdeal := hGradXIdeal)
    ∧ quiescent_InProj (hInProj := hInProj)
    ∧ quiescent_InProjIdeal (hInProjIdeal := hInProjIdeal)
    ∧ quiescent_InProjRefIdeal (hInProjRefIdeal := hInProjRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwA (hDwA := hDwA)
    ∧ quiescent_DwAIdeal (hDwAIdeal := hDwAIdeal)
    ∧ quiescent_DwARefIdeal (hDwARefIdeal := hDwARefIdeal)
    ∧ quiescent_DwB (hDwB := hDwB)
    ∧ quiescent_DwBIdeal (hDwBIdeal := hDwBIdeal)
    ∧ quiescent_DwBRefIdeal (hDwBRefIdeal := hDwBRefIdeal)
    ∧ quiescent_BranchA (hBranchA := hBranchA)
    ∧ quiescent_BranchAIdeal (hBranchAIdeal := hBranchAIdeal)
    ∧ quiescent_BranchARefIdeal (hBranchARefIdeal := hBranchARefIdeal)
    ∧ quiescent_NormIn (hNormIn := hNormIn)
    ∧ quiescent_NormInIdeal (hNormInIdeal := hNormInIdeal)
    ∧ quiescent_NormInStepIdeal (hNormInStepIdeal := hNormInStepIdeal)
    ∧ quiescent_NormV (hNormV := hNormV)
    ∧ quiescent_NormVIdeal (hNormVIdeal := hNormVIdeal)
    ∧ quiescent_NormVStepIdeal (hNormVStepIdeal := hNormVStepIdeal)
    ∧ quiescent_NormFinal (hNormFinal := hNormFinal)
    ∧ quiescent_NormFinalIdeal (hNormFinalIdeal := hNormFinalIdeal)
    ∧ quiescent_NormFinalStepIdeal (hNormFinalStepIdeal := hNormFinalStepIdeal)
    ∧ quiescent_Spatial (hSpatial := hSpatial)
    ∧ quiescent_SpatialIdeal (hSpatialIdeal := hSpatialIdeal)
    ∧ quiescent_SpatialStepIdeal (hSpatialStepIdeal := hSpatialStepIdeal)
    ∧ quiescent_Bias (hBias := hBias)
    ∧ quiescent_BiasIdeal (hBiasIdeal := hBiasIdeal)
    ∧ quiescent_BiasStepIdeal (hBiasStepIdeal := hBiasStepIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatheredIdeal (hGatherIdeal := hGatherIdeal) (hGatheredIdeal := hGatheredIdeal)
    ∧ bitexact_Gather_Gathered (hGather := hGather) (hGathered := hGathered)
    ∧ preserves_Dx_DxIdeal
    ∧ algebraic_DxIdeal_GradXIdeal (hDxIdeal := hDxIdeal) (hGradXIdeal := hGradXIdeal)
    ∧ preserves_InProj_InProjIdeal
    ∧ algebraic_InProjIdeal_InProjRefIdeal (hInProjIdeal := hInProjIdeal) (hInProjRefIdeal := hInProjRefIdeal)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_DwA_DwAIdeal
    ∧ algebraic_DwAIdeal_DwARefIdeal (hDwAIdeal := hDwAIdeal) (hDwARefIdeal := hDwARefIdeal)
    ∧ preserves_DwB_DwBIdeal
    ∧ algebraic_DwBIdeal_DwBRefIdeal (hDwBIdeal := hDwBIdeal) (hDwBRefIdeal := hDwBRefIdeal)
    ∧ preserves_BranchA_BranchAIdeal
    ∧ algebraic_BranchAIdeal_BranchARefIdeal (hBranchAIdeal := hBranchAIdeal) (hBranchARefIdeal := hBranchARefIdeal)
    ∧ preserves_NormIn_NormInIdeal
    ∧ algebraic_NormInIdeal_NormInStepIdeal (hNormInIdeal := hNormInIdeal) (hNormInStepIdeal := hNormInStepIdeal)
    ∧ preserves_NormV_NormVIdeal
    ∧ algebraic_NormVIdeal_NormVStepIdeal (hNormVIdeal := hNormVIdeal) (hNormVStepIdeal := hNormVStepIdeal)
    ∧ preserves_NormFinal_NormFinalIdeal
    ∧ algebraic_NormFinalIdeal_NormFinalStepIdeal (hNormFinalIdeal := hNormFinalIdeal) (hNormFinalStepIdeal := hNormFinalStepIdeal)
    ∧ preserves_Spatial_SpatialIdeal
    ∧ algebraic_SpatialIdeal_SpatialStepIdeal (hSpatialIdeal := hSpatialIdeal) (hSpatialStepIdeal := hSpatialStepIdeal)
    ∧ preserves_Bias_BiasIdeal
    ∧ algebraic_BiasIdeal_BiasStepIdeal (hBiasIdeal := hBiasIdeal) (hBiasStepIdeal := hBiasStepIdeal)
-- ==== Kernel.lean ====
abbrev S8x1024x1152 : Shape := ⟨3, ![8, 1024, 1152]⟩
abbrev S8x128x1024 : Shape := ⟨3, ![8, 128, 1024]⟩
abbrev S1024x1152 : Shape := ⟨2, ![1024, 1152]⟩
abbrev S128x1024 : Shape := ⟨2, ![128, 1024]⟩
abbrev S28 : Shape := ⟨1, ![28]⟩
abbrev S4 : Shape := ⟨1, ![4]⟩
abbrev S1 : Shape := ⟨1, ![1]⟩
abbrev S_ : Shape := ⟨0, ![]⟩
abbrev S1x1024x1152 : Shape := ⟨3, ![1, 1024, 1152]⟩
abbrev S1x128x1024 : Shape := ⟨3, ![1, 128, 1024]⟩
abbrev S8x128x1152 : Shape := ⟨3, ![8, 128, 1152]⟩
abbrev S128x1152 : Shape := ⟨2, ![128, 1152]⟩
abbrev S1x128x1152 : Shape := ⟨3, ![1, 128, 1152]⟩

abbrev nBuf : Space → Nat
  | .hbm => 36
  | .vmem => 40
  | .smem => 0
  | _ => 0

abbrev bufTy : (tb : Table) → Fin (tcTables nBuf tb) → BufTy
  | .hbm, ⟨0, _⟩ => ⟨S8x1024x1152, .f32⟩
  | .hbm, ⟨1, _⟩ => ⟨S8x128x1024, .f32⟩
  | .hbm, ⟨2, _⟩ => ⟨S8x128x1024, .f32⟩
  | .hbm, ⟨3, _⟩ => ⟨S8x128x1024, .f32⟩
  | .hbm, ⟨4, _⟩ => ⟨S1024x1152, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S1024x1152, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S1024x1152, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S8x1024x1152, .f32⟩
  | .hbm, ⟨17, _⟩ => ⟨S8x128x1024, .f32⟩
  | .hbm, ⟨18, _⟩ => ⟨S8x128x1024, .f32⟩
  | .hbm, ⟨19, _⟩ => ⟨S8x128x1024, .f32⟩
  | .hbm, ⟨20, _⟩ => ⟨S1024x1152, .f32⟩
  | .hbm, ⟨21, _⟩ => ⟨S1024x1152, .f32⟩
  | .hbm, ⟨22, _⟩ => ⟨S1024x1152, .f32⟩
  | .hbm, ⟨23, _⟩ => ⟨S1024x1152, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S128x1024, .f32⟩
  | .local _ .vmem, ⟨0, _⟩ => ⟨S8x128x1152, .f32⟩
  | .local _ .vmem, ⟨1, _⟩ => ⟨S8x128x1152, .f32⟩
  | .local _ .vmem, ⟨2, _⟩ => ⟨S128x1152, .f32⟩
  | .local _ .vmem, ⟨3, _⟩ => ⟨S128x1152, .f32⟩
  | .local _ .vmem, ⟨4, _⟩ => ⟨S128x1152, .f32⟩
  | .local _ .vmem, ⟨5, _⟩ => ⟨S128x1152, .f32⟩
  | .local _ .vmem, ⟨6, _⟩ => ⟨S128x1152, .f32⟩
  | .local _ .vmem, ⟨7, _⟩ => ⟨S128x1152, .f32⟩
  | .local _ .vmem, ⟨8, _⟩ => ⟨S128x1152, .f32⟩
  | .local _ .vmem, ⟨9, _⟩ => ⟨S128x1152, .f32⟩
  | .local _ .vmem, ⟨10, _⟩ => ⟨S128x1152, .f32⟩
  | .local _ .vmem, ⟨11, _⟩ => ⟨S128x1152, .f32⟩
  | .local _ .vmem, ⟨12, _⟩ => ⟨S128x1152, .f32⟩
  | .local _ .vmem, ⟨13, _⟩ => ⟨S128x1152, .f32⟩
  | .local _ .vmem, ⟨14, _⟩ => ⟨S128x1152, .f32⟩
  | .local _ .vmem, ⟨15, _⟩ => ⟨S128x1152, .f32⟩
  | .local _ .vmem, ⟨16, _⟩ => ⟨S8x128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S8x128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S8x128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | _, _ => ⟨S8x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v2_3 : Ref sig .tc := ⟨.hbm, 23, rfl⟩
abbrev main_v3_0 : Ref sig .tc := ⟨.hbm, 24, rfl⟩
abbrev main_v3_1 : Ref sig .tc := ⟨.hbm, 25, rfl⟩
abbrev main_v3_2 : Ref sig .tc := ⟨.hbm, 26, rfl⟩
abbrev main_v3_3 : Ref sig .tc := ⟨.hbm, 27, rfl⟩
abbrev main_v4_0 : Ref sig .tc := ⟨.hbm, 28, rfl⟩
abbrev main_v4_1 : Ref sig .tc := ⟨.hbm, 29, rfl⟩
abbrev main_v4_2 : Ref sig .tc := ⟨.hbm, 30, rfl⟩
abbrev main_v4_3 : Ref sig .tc := ⟨.hbm, 31, rfl⟩
abbrev main_v5_0 : Ref sig .tc := ⟨.hbm, 32, rfl⟩
abbrev main_v5_1 : Ref sig .tc := ⟨.hbm, 33, rfl⟩
abbrev main_v5_2 : Ref sig .tc := ⟨.hbm, 34, rfl⟩
abbrev main_v5_3 : Ref sig .tc := ⟨.hbm, 35, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc1_sem0_0 : DmaSem sig := 60
abbrev cc1_sem0_1 : DmaSem sig := 61
abbrev cc1_sem1_0 : DmaSem sig := 62
abbrev cc1_sem1_1 : DmaSem sig := 63
abbrev cc1_sem2_0 : DmaSem sig := 64
abbrev cc1_sem2_1 : DmaSem sig := 65
abbrev cc1_sem3_0 : DmaSem sig := 66
abbrev cc1_sem3_1 : DmaSem sig := 67
abbrev cc1_sem4_0 : DmaSem sig := 68
abbrev cc1_sem4_1 : DmaSem sig := 69
abbrev cc1_sem5_0 : DmaSem sig := 70
abbrev cc1_sem5_1 : DmaSem sig := 71
abbrev cc1_sem6_0 : DmaSem sig := 72
abbrev cc1_sem6_1 : DmaSem sig := 73
abbrev cc1_sem7_0 : DmaSem sig := 74
abbrev cc1_sem7_1 : DmaSem sig := 75
abbrev cc2_sem0_0 : DmaSem sig := 76
abbrev cc2_sem1_0 : DmaSem sig := 77
abbrev cc2_sem2_0 : DmaSem sig := 78
abbrev cc2_sem3_0 : DmaSem sig := 79
abbrev cc2_sem4_0 : DmaSem sig := 80
abbrev cc2_sem5_0 : DmaSem sig := 81
abbrev cc2_sem6_0 : DmaSem sig := 82
abbrev cc2_sem7_0 : DmaSem sig := 83
abbrev cc3_sem0_0 : DmaSem sig := 84
abbrev cc3_sem1_0 : DmaSem sig := 85
abbrev cc3_sem2_0 : DmaSem sig := 86
abbrev cc3_sem3_0 : DmaSem sig := 87
abbrev cc3_sem4_0 : DmaSem sig := 88
abbrev cc3_sem5_0 : DmaSem sig := 89
abbrev cc3_sem6_0 : DmaSem sig := 90
abbrev cc3_sem7_0 : DmaSem sig := 91
abbrev cc4_sem0_0 : DmaSem sig := 92
abbrev cc4_sem1_0 : DmaSem sig := 93
abbrev cc4_sem2_0 : DmaSem sig := 94
abbrev cc4_sem3_0 : DmaSem sig := 95
abbrev cc4_sem4_0 : DmaSem sig := 96
abbrev cc4_sem5_0 : DmaSem sig := 97
abbrev cc4_sem6_0 : DmaSem sig := 98
abbrev cc4_sem7_0 : DmaSem sig := 99

abbrev nD : Nat := 8
abbrev τ : Topo := Topo.v7x

variable {F : FTy → Type} [FloatOps F]

abbrev grid0 : Pipeline.Grid := .none

def k0_off1 (d0 : Dev nD) : Fin 3 → Nat :=
  let c4_i32_5 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c4_i32_5 v2
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_6 v5
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c0_i32_7 : BitVec 32 := 0#32
  let c0_i32_8 : BitVec 32 := 0#32
  ![v16.toNat, 0, 0]
def k0_off2 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.muli c4_i32_13 v2
  let c2_i32_14 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.muli c2_i32_14 v5
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.addi v29 v8
  let c0_i32_16 : BitVec 32 := 0#32
  let c0_i32_17 : BitVec 32 := 0#32
  ![v30.toNat, 0, 0]
def k0_off3 (d0 : Dev nD) : Fin 3 → Nat :=
  let c4_i32_38 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v66 : BitVec 32 := Scalar.muli c4_i32_38 v2
  let c2_i32_39 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v67 : BitVec 32 := Scalar.muli c2_i32_39 v5
  let v68 : BitVec 32 := Scalar.addi v66 v67
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_37 v8
  let v69 : BitVec 32 := Scalar.addi v68 v65
  let c0_i32_50 : BitVec 32 := 0#32
  let c0_i32_51 : BitVec 32 := 0#32
  ![v69.toNat, 0, 0]
def k0_dev1 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v74 : BitVec 32 := Scalar.muli v2 c4_i32_44
  let v75 : BitVec 32 := Scalar.addi c0_i32_45 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v76 : BitVec 32 := Scalar.muli v5 c2_i32_46
  let v77 : BitVec 32 := Scalar.addi v75 v76
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v65 : BitVec 32 := Scalar.subi c1_i32_37 v8
  let c1_i32_47 : BitVec 32 := 1#32
  let v78 : BitVec 32 := Scalar.muli v65 c1_i32_47
  let v79 : BitVec 32 := Scalar.addi v77 v78
  v79.toNat
def k0_off4 (d0 : Dev nD) : Fin 3 → Nat :=
  let c4_i32_53 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v89 : BitVec 32 := Scalar.muli c4_i32_53 v2
  let c2_i32_54 : BitVec 32 := 2#32
  let c1_i32_52 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v88 : BitVec 32 := Scalar.subi c1_i32_52 v5
  let v90 : BitVec 32 := Scalar.muli c2_i32_54 v88
  let v91 : BitVec 32 := Scalar.addi v89 v90
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.addi v91 v8
  let c0_i32_65 : BitVec 32 := 0#32
  let c0_i32_66 : BitVec 32 := 0#32
  ![v92.toNat, 0, 0]
def k0_dev2 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_59 : BitVec 32 := 4#32
  let v97 : BitVec 32 := Scalar.muli v2 c4_i32_59
  let v98 : BitVec 32 := Scalar.addi c0_i32_60 v97
  let c1_i32_52 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v88 : BitVec 32 := Scalar.subi c1_i32_52 v5
  let c2_i32_61 : BitVec 32 := 2#32
  let v99 : BitVec 32 := Scalar.muli v88 c2_i32_61
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v101 : BitVec 32 := Scalar.muli v8 c1_i32_62
  let v102 : BitVec 32 := Scalar.addi v100 v101
  v102.toNat
def k0_off5 (d0 : Dev nD) : Fin 3 → Nat :=
  let c4_i32_69 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v113 : BitVec 32 := Scalar.muli c4_i32_69 v2
  let c2_i32_70 : BitVec 32 := 2#32
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_67 v5
  let v114 : BitVec 32 := Scalar.muli c2_i32_70 v111
  let v115 : BitVec 32 := Scalar.addi v113 v114
  let c1_i32_68 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v112 : BitVec 32 := Scalar.subi c1_i32_68 v8
  let v116 : BitVec 32 := Scalar.addi v115 v112
  let c0_i32_81 : BitVec 32 := 0#32
  let c0_i32_82 : BitVec 32 := 0#32
  ![v116.toNat, 0, 0]
def k0_dev3 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v121 : BitVec 32 := Scalar.muli v2 c4_i32_75
  let v122 : BitVec 32 := Scalar.addi c0_i32_76 v121
  let c1_i32_67 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_67 v5
  let c2_i32_77 : BitVec 32 := 2#32
  let v123 : BitVec 32 := Scalar.muli v111 c2_i32_77
  let v124 : BitVec 32 := Scalar.addi v122 v123
  let c1_i32_68 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v112 : BitVec 32 := Scalar.subi c1_i32_68 v8
  let c1_i32_78 : BitVec 32 := 1#32
  let v125 : BitVec 32 := Scalar.muli v112 c1_i32_78
  let v126 : BitVec 32 := Scalar.addi v124 v125
  v126.toNat
def k0_off6 (d0 : Dev nD) : Fin 3 → Nat :=
  let c4_i32_84 : BitVec 32 := 4#32
  let c1_i32_83 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v135 : BitVec 32 := Scalar.subi c1_i32_83 v2
  let v136 : BitVec 32 := Scalar.muli c4_i32_84 v135
  let c2_i32_85 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.muli c2_i32_85 v5
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v139 : BitVec 32 := Scalar.addi v138 v8
  let c0_i32_96 : BitVec 32 := 0#32
  let c0_i32_97 : BitVec 32 := 0#32
  ![v139.toNat, 0, 0]
def k0_dev4 (d0 : Dev nD) : Nat :=
  let c0_i32_91 : BitVec 32 := 0#32
  let c1_i32_83 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v135 : BitVec 32 := Scalar.subi c1_i32_83 v2
  let c4_i32_90 : BitVec 32 := 4#32
  let v144 : BitVec 32 := Scalar.muli v135 c4_i32_90
  let v145 : BitVec 32 := Scalar.addi c0_i32_91 v144
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v146 : BitVec 32 := Scalar.muli v5 c2_i32_92
  let v147 : BitVec 32 := Scalar.addi v145 v146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v148 : BitVec 32 := Scalar.muli v8 c1_i32_93
  let v149 : BitVec 32 := Scalar.addi v147 v148
  v149.toNat
def k0_off7 (d0 : Dev nD) : Fin 3 → Nat :=
  let c4_i32_100 : BitVec 32 := 4#32
  let c1_i32_98 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.subi c1_i32_98 v2
  let v160 : BitVec 32 := Scalar.muli c4_i32_100 v158
  let c2_i32_101 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.muli c2_i32_101 v5
  let v162 : BitVec 32 := Scalar.addi v160 v161
  let c1_i32_99 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v159 : BitVec 32 := Scalar.subi c1_i32_99 v8
  let v163 : BitVec 32 := Scalar.addi v162 v159
  let c0_i32_112 : BitVec 32 := 0#32
  let c0_i32_113 : BitVec 32 := 0#32
  ![v163.toNat, 0, 0]
def k0_dev5 (d0 : Dev nD) : Nat :=
  let c0_i32_107 : BitVec 32 := 0#32
  let c1_i32_98 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v158 : BitVec 32 := Scalar.subi c1_i32_98 v2
  let c4_i32_106 : BitVec 32 := 4#32
  let v168 : BitVec 32 := Scalar.muli v158 c4_i32_106
  let v169 : BitVec 32 := Scalar.addi c0_i32_107 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v170 : BitVec 32 := Scalar.muli v5 c2_i32_108
  let v171 : BitVec 32 := Scalar.addi v169 v170
  let c1_i32_99 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v159 : BitVec 32 := Scalar.subi c1_i32_99 v8
  let c1_i32_109 : BitVec 32 := 1#32
  let v172 : BitVec 32 := Scalar.muli v159 c1_i32_109
  let v173 : BitVec 32 := Scalar.addi v171 v172
  v173.toNat
def k0_off8 (d0 : Dev nD) : Fin 3 → Nat :=
  let c4_i32_116 : BitVec 32 := 4#32
  let c1_i32_114 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v182 : BitVec 32 := Scalar.subi c1_i32_114 v2
  let v184 : BitVec 32 := Scalar.muli c4_i32_116 v182
  let c2_i32_117 : BitVec 32 := 2#32
  let c1_i32_115 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v183 : BitVec 32 := Scalar.subi c1_i32_115 v5
  let v185 : BitVec 32 := Scalar.muli c2_i32_117 v183
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v187 : BitVec 32 := Scalar.addi v186 v8
  let c0_i32_127 : BitVec 32 := 0#32
  let c0_i32_128 : BitVec 32 := 0#32
  ![v187.toNat, 0, 0]
def k0_dev6 (d0 : Dev nD) : Nat :=
  let c0_i32_122 : BitVec 32 := 0#32
  let c1_i32_114 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v182 : BitVec 32 := Scalar.subi c1_i32_114 v2
  let c4_i32_121 : BitVec 32 := 4#32
  let v192 : BitVec 32 := Scalar.muli v182 c4_i32_121
  let v193 : BitVec 32 := Scalar.addi c0_i32_122 v192
  let c1_i32_115 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v183 : BitVec 32 := Scalar.subi c1_i32_115 v5
  let c2_i32_123 : BitVec 32 := 2#32
  let v194 : BitVec 32 := Scalar.muli v183 c2_i32_123
  let v195 : BitVec 32 := Scalar.addi v193 v194
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v196 : BitVec 32 := Scalar.muli v8 c1_i32_124
  let v197 : BitVec 32 := Scalar.addi v195 v196
  v197.toNat
def k0_off9 (d0 : Dev nD) : Fin 3 → Nat :=
  let c4_i32_132 : BitVec 32 := 4#32
  let c1_i32_129 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v206 : BitVec 32 := Scalar.subi c1_i32_129 v2
  let v209 : BitVec 32 := Scalar.muli c4_i32_132 v206
  let c2_i32_133 : BitVec 32 := 2#32
  let c1_i32_130 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v207 : BitVec 32 := Scalar.subi c1_i32_130 v5
  let v210 : BitVec 32 := Scalar.muli c2_i32_133 v207
  let v211 : BitVec 32 := Scalar.addi v209 v210
  let c1_i32_131 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v208 : BitVec 32 := Scalar.subi c1_i32_131 v8
  let v212 : BitVec 32 := Scalar.addi v211 v208
  let c0_i32_143 : BitVec 32 := 0#32
  let c0_i32_144 : BitVec 32 := 0#32
  ![v212.toNat, 0, 0]
def k0_dev7 (d0 : Dev nD) : Nat :=
  let c0_i32_138 : BitVec 32 := 0#32
  let c1_i32_129 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v206 : BitVec 32 := Scalar.subi c1_i32_129 v2
  let c4_i32_137 : BitVec 32 := 4#32
  let v217 : BitVec 32 := Scalar.muli v206 c4_i32_137
  let v218 : BitVec 32 := Scalar.addi c0_i32_138 v217
  let c1_i32_130 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v207 : BitVec 32 := Scalar.subi c1_i32_130 v5
  let c2_i32_139 : BitVec 32 := 2#32
  let v219 : BitVec 32 := Scalar.muli v207 c2_i32_139
  let v220 : BitVec 32 := Scalar.addi v218 v219
  let c1_i32_131 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v208 : BitVec 32 := Scalar.subi c1_i32_131 v8
  let c1_i32_140 : BitVec 32 := 1#32
  let v221 : BitVec 32 := Scalar.muli v208 c1_i32_140
  let v222 : BitVec 32 := Scalar.addi v220 v221
  v222.toNat
def k0_off10 (d0 : Dev nD) : Fin 3 → Nat :=
  let c4_i32_146 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v232 : BitVec 32 := Scalar.muli c4_i32_146 v2
  let c2_i32_147 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v233 : BitVec 32 := Scalar.muli c2_i32_147 v5
  let v234 : BitVec 32 := Scalar.addi v232 v233
  let c1_i32_145 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v231 : BitVec 32 := Scalar.subi c1_i32_145 v8
  let v235 : BitVec 32 := Scalar.addi v234 v231
  let c0_i32_157 : BitVec 32 := 0#32
  let c0_i32_158 : BitVec 32 := 0#32
  ![v235.toNat, 0, 0]
def k0_dev8 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_151 : BitVec 32 := 4#32
  let v240 : BitVec 32 := Scalar.muli v2 c4_i32_151
  let v241 : BitVec 32 := Scalar.addi c0_i32_152 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v242 : BitVec 32 := Scalar.muli v5 c2_i32_153
  let v243 : BitVec 32 := Scalar.addi v241 v242
  let c1_i32_145 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v231 : BitVec 32 := Scalar.subi c1_i32_145 v8
  let c1_i32_154 : BitVec 32 := 1#32
  let v244 : BitVec 32 := Scalar.muli v231 c1_i32_154
  let v245 : BitVec 32 := Scalar.addi v243 v244
  v245.toNat
def k0_off11 (d0 : Dev nD) : Fin 3 → Nat :=
  let c4_i32_160 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v255 : BitVec 32 := Scalar.muli c4_i32_160 v2
  let c2_i32_161 : BitVec 32 := 2#32
  let c1_i32_159 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v254 : BitVec 32 := Scalar.subi c1_i32_159 v5
  let v256 : BitVec 32 := Scalar.muli c2_i32_161 v254
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v258 : BitVec 32 := Scalar.addi v257 v8
  let c0_i32_171 : BitVec 32 := 0#32
  let c0_i32_172 : BitVec 32 := 0#32
  ![v258.toNat, 0, 0]
def k0_dev9 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_165 : BitVec 32 := 4#32
  let v263 : BitVec 32 := Scalar.muli v2 c4_i32_165
  let v264 : BitVec 32 := Scalar.addi c0_i32_166 v263
  let c1_i32_159 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v254 : BitVec 32 := Scalar.subi c1_i32_159 v5
  let c2_i32_167 : BitVec 32 := 2#32
  let v265 : BitVec 32 := Scalar.muli v254 c2_i32_167
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v267 : BitVec 32 := Scalar.muli v8 c1_i32_168
  let v268 : BitVec 32 := Scalar.addi v266 v267
  v268.toNat
def k0_off12 (d0 : Dev nD) : Fin 3 → Nat :=
  let c4_i32_175 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v279 : BitVec 32 := Scalar.muli c4_i32_175 v2
  let c2_i32_176 : BitVec 32 := 2#32
  let c1_i32_173 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v277 : BitVec 32 := Scalar.subi c1_i32_173 v5
  let v280 : BitVec 32 := Scalar.muli c2_i32_176 v277
  let v281 : BitVec 32 := Scalar.addi v279 v280
  let c1_i32_174 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v278 : BitVec 32 := Scalar.subi c1_i32_174 v8
  let v282 : BitVec 32 := Scalar.addi v281 v278
  let c0_i32_186 : BitVec 32 := 0#32
  let c0_i32_187 : BitVec 32 := 0#32
  ![v282.toNat, 0, 0]
def k0_dev10 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v287 : BitVec 32 := Scalar.muli v2 c4_i32_180
  let v288 : BitVec 32 := Scalar.addi c0_i32_181 v287
  let c1_i32_173 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v277 : BitVec 32 := Scalar.subi c1_i32_173 v5
  let c2_i32_182 : BitVec 32 := 2#32
  let v289 : BitVec 32 := Scalar.muli v277 c2_i32_182
  let v290 : BitVec 32 := Scalar.addi v288 v289
  let c1_i32_174 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v278 : BitVec 32 := Scalar.subi c1_i32_174 v8
  let c1_i32_183 : BitVec 32 := 1#32
  let v291 : BitVec 32 := Scalar.muli v278 c1_i32_183
  let v292 : BitVec 32 := Scalar.addi v290 v291
  v292.toNat
def k0_off13 (d0 : Dev nD) : Fin 3 → Nat :=
  let c4_i32_189 : BitVec 32 := 4#32
  let c1_i32_188 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v301 : BitVec 32 := Scalar.subi c1_i32_188 v2
  let v302 : BitVec 32 := Scalar.muli c4_i32_189 v301
  let c2_i32_190 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v303 : BitVec 32 := Scalar.muli c2_i32_190 v5
  let v304 : BitVec 32 := Scalar.addi v302 v303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v305 : BitVec 32 := Scalar.addi v304 v8
  let c0_i32_200 : BitVec 32 := 0#32
  let c0_i32_201 : BitVec 32 := 0#32
  ![v305.toNat, 0, 0]
def k0_dev11 (d0 : Dev nD) : Nat :=
  let c0_i32_195 : BitVec 32 := 0#32
  let c1_i32_188 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v301 : BitVec 32 := Scalar.subi c1_i32_188 v2
  let c4_i32_194 : BitVec 32 := 4#32
  let v310 : BitVec 32 := Scalar.muli v301 c4_i32_194
  let v311 : BitVec 32 := Scalar.addi c0_i32_195 v310
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v312 : BitVec 32 := Scalar.muli v5 c2_i32_196
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v314 : BitVec 32 := Scalar.muli v8 c1_i32_197
  let v315 : BitVec 32 := Scalar.addi v313 v314
  v315.toNat
def k0_off14 (d0 : Dev nD) : Fin 3 → Nat :=
  let c4_i32_204 : BitVec 32 := 4#32
  let c1_i32_202 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v324 : BitVec 32 := Scalar.subi c1_i32_202 v2
  let v326 : BitVec 32 := Scalar.muli c4_i32_204 v324
  let c2_i32_205 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v327 : BitVec 32 := Scalar.muli c2_i32_205 v5
  let v328 : BitVec 32 := Scalar.addi v326 v327
  let c1_i32_203 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v325 : BitVec 32 := Scalar.subi c1_i32_203 v8
  let v329 : BitVec 32 := Scalar.addi v328 v325
  let c0_i32_215 : BitVec 32 := 0#32
  let c0_i32_216 : BitVec 32 := 0#32
  ![v329.toNat, 0, 0]
def k0_dev12 (d0 : Dev nD) : Nat :=
  let c0_i32_210 : BitVec 32 := 0#32
  let c1_i32_202 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v324 : BitVec 32 := Scalar.subi c1_i32_202 v2
  let c4_i32_209 : BitVec 32 := 4#32
  let v334 : BitVec 32 := Scalar.muli v324 c4_i32_209
  let v335 : BitVec 32 := Scalar.addi c0_i32_210 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_211 : BitVec 32 := 2#32
  let v336 : BitVec 32 := Scalar.muli v5 c2_i32_211
  let v337 : BitVec 32 := Scalar.addi v335 v336
  let c1_i32_203 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v325 : BitVec 32 := Scalar.subi c1_i32_203 v8
  let c1_i32_212 : BitVec 32 := 1#32
  let v338 : BitVec 32 := Scalar.muli v325 c1_i32_212
  let v339 : BitVec 32 := Scalar.addi v337 v338
  v339.toNat
def k0_off15 (d0 : Dev nD) : Fin 3 → Nat :=
  let c4_i32_219 : BitVec 32 := 4#32
  let c1_i32_217 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v348 : BitVec 32 := Scalar.subi c1_i32_217 v2
  let v350 : BitVec 32 := Scalar.muli c4_i32_219 v348
  let c2_i32_220 : BitVec 32 := 2#32
  let c1_i32_218 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v349 : BitVec 32 := Scalar.subi c1_i32_218 v5
  let v351 : BitVec 32 := Scalar.muli c2_i32_220 v349
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v353 : BitVec 32 := Scalar.addi v352 v8
  let c0_i32_230 : BitVec 32 := 0#32
  let c0_i32_231 : BitVec 32 := 0#32
  ![v353.toNat, 0, 0]
def k0_dev13 (d0 : Dev nD) : Nat :=
  let c0_i32_225 : BitVec 32 := 0#32
  let c1_i32_217 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v348 : BitVec 32 := Scalar.subi c1_i32_217 v2
  let c4_i32_224 : BitVec 32 := 4#32
  let v358 : BitVec 32 := Scalar.muli v348 c4_i32_224
  let v359 : BitVec 32 := Scalar.addi c0_i32_225 v358
  let c1_i32_218 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v349 : BitVec 32 := Scalar.subi c1_i32_218 v5
  let c2_i32_226 : BitVec 32 := 2#32
  let v360 : BitVec 32 := Scalar.muli v349 c2_i32_226
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_227 : BitVec 32 := 1#32
  let v362 : BitVec 32 := Scalar.muli v8 c1_i32_227
  let v363 : BitVec 32 := Scalar.addi v361 v362
  v363.toNat
def k0_off16 (d0 : Dev nD) : Fin 3 → Nat :=
  let c4_i32_235 : BitVec 32 := 4#32
  let c1_i32_232 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v372 : BitVec 32 := Scalar.subi c1_i32_232 v2
  let v375 : BitVec 32 := Scalar.muli c4_i32_235 v372
  let c2_i32_236 : BitVec 32 := 2#32
  let c1_i32_233 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v373 : BitVec 32 := Scalar.subi c1_i32_233 v5
  let v376 : BitVec 32 := Scalar.muli c2_i32_236 v373
  let v377 : BitVec 32 := Scalar.addi v375 v376
  let c1_i32_234 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v374 : BitVec 32 := Scalar.subi c1_i32_234 v8
  let v378 : BitVec 32 := Scalar.addi v377 v374
  let c0_i32_246 : BitVec 32 := 0#32
  let c0_i32_247 : BitVec 32 := 0#32
  ![v378.toNat, 0, 0]
def k0_dev14 (d0 : Dev nD) : Nat :=
  let c0_i32_241 : BitVec 32 := 0#32
  let c1_i32_232 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v372 : BitVec 32 := Scalar.subi c1_i32_232 v2
  let c4_i32_240 : BitVec 32 := 4#32
  let v383 : BitVec 32 := Scalar.muli v372 c4_i32_240
  let v384 : BitVec 32 := Scalar.addi c0_i32_241 v383
  let c1_i32_233 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v373 : BitVec 32 := Scalar.subi c1_i32_233 v5
  let c2_i32_242 : BitVec 32 := 2#32
  let v385 : BitVec 32 := Scalar.muli v373 c2_i32_242
  let v386 : BitVec 32 := Scalar.addi v384 v385
  let c1_i32_234 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v374 : BitVec 32 := Scalar.subi c1_i32_234 v8
  let c1_i32_243 : BitVec 32 := 1#32
  let v387 : BitVec 32 := Scalar.muli v374 c1_i32_243
  let v388 : BitVec 32 := Scalar.addi v386 v387
  v388.toNat
def k0_dev15 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v406 : BitVec 32 := Scalar.muli v2 c4_i32_254
  let v407 : BitVec 32 := Scalar.addi c0_i32_255 v406
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_256 : BitVec 32 := 2#32
  let v408 : BitVec 32 := Scalar.muli v5 c2_i32_256
  let v409 : BitVec 32 := Scalar.addi v407 v408
  let c1_i32_248 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v397 : BitVec 32 := Scalar.subi c1_i32_248 v8
  let c1_i32_257 : BitVec 32 := 1#32
  let v410 : BitVec 32 := Scalar.muli v397 c1_i32_257
  let v411 : BitVec 32 := Scalar.addi v409 v410
  v411.toNat
def k0_dev16 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v429 : BitVec 32 := Scalar.muli v2 c4_i32_268
  let v430 : BitVec 32 := Scalar.addi c0_i32_269 v429
  let c1_i32_262 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v420 : BitVec 32 := Scalar.subi c1_i32_262 v5
  let c2_i32_270 : BitVec 32 := 2#32
  let v431 : BitVec 32 := Scalar.muli v420 c2_i32_270
  let v432 : BitVec 32 := Scalar.addi v430 v431
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v433 : BitVec 32 := Scalar.muli v8 c1_i32_271
  let v434 : BitVec 32 := Scalar.addi v432 v433
  v434.toNat
def k0_dev17 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v453 : BitVec 32 := Scalar.muli v2 c4_i32_283
  let v454 : BitVec 32 := Scalar.addi c0_i32_284 v453
  let c1_i32_276 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v443 : BitVec 32 := Scalar.subi c1_i32_276 v5
  let c2_i32_285 : BitVec 32 := 2#32
  let v455 : BitVec 32 := Scalar.muli v443 c2_i32_285
  let v456 : BitVec 32 := Scalar.addi v454 v455
  let c1_i32_277 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v444 : BitVec 32 := Scalar.subi c1_i32_277 v8
  let c1_i32_286 : BitVec 32 := 1#32
  let v457 : BitVec 32 := Scalar.muli v444 c1_i32_286
  let v458 : BitVec 32 := Scalar.addi v456 v457
  v458.toNat
def k0_dev18 (d0 : Dev nD) : Nat :=
  let c0_i32_298 : BitVec 32 := 0#32
  let c1_i32_291 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v467 : BitVec 32 := Scalar.subi c1_i32_291 v2
  let c4_i32_297 : BitVec 32 := 4#32
  let v476 : BitVec 32 := Scalar.muli v467 c4_i32_297
  let v477 : BitVec 32 := Scalar.addi c0_i32_298 v476
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v478 : BitVec 32 := Scalar.muli v5 c2_i32_299
  let v479 : BitVec 32 := Scalar.addi v477 v478
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v480 : BitVec 32 := Scalar.muli v8 c1_i32_300
  let v481 : BitVec 32 := Scalar.addi v479 v480
  v481.toNat
def k0_dev19 (d0 : Dev nD) : Nat :=
  let c0_i32_313 : BitVec 32 := 0#32
  let c1_i32_305 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v490 : BitVec 32 := Scalar.subi c1_i32_305 v2
  let c4_i32_312 : BitVec 32 := 4#32
  let v500 : BitVec 32 := Scalar.muli v490 c4_i32_312
  let v501 : BitVec 32 := Scalar.addi c0_i32_313 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_314 : BitVec 32 := 2#32
  let v502 : BitVec 32 := Scalar.muli v5 c2_i32_314
  let v503 : BitVec 32 := Scalar.addi v501 v502
  let c1_i32_306 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v491 : BitVec 32 := Scalar.subi c1_i32_306 v8
  let c1_i32_315 : BitVec 32 := 1#32
  let v504 : BitVec 32 := Scalar.muli v491 c1_i32_315
  let v505 : BitVec 32 := Scalar.addi v503 v504
  v505.toNat
def k0_dev20 (d0 : Dev nD) : Nat :=
  let c0_i32_328 : BitVec 32 := 0#32
  let c1_i32_320 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v514 : BitVec 32 := Scalar.subi c1_i32_320 v2
  let c4_i32_327 : BitVec 32 := 4#32
  let v524 : BitVec 32 := Scalar.muli v514 c4_i32_327
  let v525 : BitVec 32 := Scalar.addi c0_i32_328 v524
  let c1_i32_321 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v515 : BitVec 32 := Scalar.subi c1_i32_321 v5
  let c2_i32_329 : BitVec 32 := 2#32
  let v526 : BitVec 32 := Scalar.muli v515 c2_i32_329
  let v527 : BitVec 32 := Scalar.addi v525 v526
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_330 : BitVec 32 := 1#32
  let v528 : BitVec 32 := Scalar.muli v8 c1_i32_330
  let v529 : BitVec 32 := Scalar.addi v527 v528
  v529.toNat
def k0_dev21 (d0 : Dev nD) : Nat :=
  let c0_i32_344 : BitVec 32 := 0#32
  let c1_i32_335 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v538 : BitVec 32 := Scalar.subi c1_i32_335 v2
  let c4_i32_343 : BitVec 32 := 4#32
  let v549 : BitVec 32 := Scalar.muli v538 c4_i32_343
  let v550 : BitVec 32 := Scalar.addi c0_i32_344 v549
  let c1_i32_336 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v539 : BitVec 32 := Scalar.subi c1_i32_336 v5
  let c2_i32_345 : BitVec 32 := 2#32
  let v551 : BitVec 32 := Scalar.muli v539 c2_i32_345
  let v552 : BitVec 32 := Scalar.addi v550 v551
  let c1_i32_337 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v540 : BitVec 32 := Scalar.subi c1_i32_337 v8
  let c1_i32_346 : BitVec 32 := 1#32
  let v553 : BitVec 32 := Scalar.muli v540 c1_i32_346
  let v554 : BitVec 32 := Scalar.addi v552 v553
  v554.toNat
def k0_dev22 (d0 : Dev nD) : Nat :=
  let c0_i32_358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_357 : BitVec 32 := 4#32
  let v572 : BitVec 32 := Scalar.muli v2 c4_i32_357
  let v573 : BitVec 32 := Scalar.addi c0_i32_358 v572
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_359 : BitVec 32 := 2#32
  let v574 : BitVec 32 := Scalar.muli v5 c2_i32_359
  let v575 : BitVec 32 := Scalar.addi v573 v574
  let c1_i32_351 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v563 : BitVec 32 := Scalar.subi c1_i32_351 v8
  let c1_i32_360 : BitVec 32 := 1#32
  let v576 : BitVec 32 := Scalar.muli v563 c1_i32_360
  let v577 : BitVec 32 := Scalar.addi v575 v576
  v577.toNat
def k0_dev23 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v595 : BitVec 32 := Scalar.muli v2 c4_i32_371
  let v596 : BitVec 32 := Scalar.addi c0_i32_372 v595
  let c1_i32_365 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v586 : BitVec 32 := Scalar.subi c1_i32_365 v5
  let c2_i32_373 : BitVec 32 := 2#32
  let v597 : BitVec 32 := Scalar.muli v586 c2_i32_373
  let v598 : BitVec 32 := Scalar.addi v596 v597
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_374 : BitVec 32 := 1#32
  let v599 : BitVec 32 := Scalar.muli v8 c1_i32_374
  let v600 : BitVec 32 := Scalar.addi v598 v599
  v600.toNat
def k0_dev24 (d0 : Dev nD) : Nat :=
  let c0_i32_387 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_386 : BitVec 32 := 4#32
  let v619 : BitVec 32 := Scalar.muli v2 c4_i32_386
  let v620 : BitVec 32 := Scalar.addi c0_i32_387 v619
  let c1_i32_379 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v609 : BitVec 32 := Scalar.subi c1_i32_379 v5
  let c2_i32_388 : BitVec 32 := 2#32
  let v621 : BitVec 32 := Scalar.muli v609 c2_i32_388
  let v622 : BitVec 32 := Scalar.addi v620 v621
  let c1_i32_380 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v610 : BitVec 32 := Scalar.subi c1_i32_380 v8
  let c1_i32_389 : BitVec 32 := 1#32
  let v623 : BitVec 32 := Scalar.muli v610 c1_i32_389
  let v624 : BitVec 32 := Scalar.addi v622 v623
  v624.toNat
def k0_dev25 (d0 : Dev nD) : Nat :=
  let c0_i32_401 : BitVec 32 := 0#32
  let c1_i32_394 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v633 : BitVec 32 := Scalar.subi c1_i32_394 v2
  let c4_i32_400 : BitVec 32 := 4#32
  let v642 : BitVec 32 := Scalar.muli v633 c4_i32_400
  let v643 : BitVec 32 := Scalar.addi c0_i32_401 v642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_402 : BitVec 32 := 2#32
  let v644 : BitVec 32 := Scalar.muli v5 c2_i32_402
  let v645 : BitVec 32 := Scalar.addi v643 v644
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_403 : BitVec 32 := 1#32
  let v646 : BitVec 32 := Scalar.muli v8 c1_i32_403
  let v647 : BitVec 32 := Scalar.addi v645 v646
  v647.toNat
def k0_dev26 (d0 : Dev nD) : Nat :=
  let c0_i32_416 : BitVec 32 := 0#32
  let c1_i32_408 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v656 : BitVec 32 := Scalar.subi c1_i32_408 v2
  let c4_i32_415 : BitVec 32 := 4#32
  let v666 : BitVec 32 := Scalar.muli v656 c4_i32_415
  let v667 : BitVec 32 := Scalar.addi c0_i32_416 v666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_417 : BitVec 32 := 2#32
  let v668 : BitVec 32 := Scalar.muli v5 c2_i32_417
  let v669 : BitVec 32 := Scalar.addi v667 v668
  let c1_i32_409 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v657 : BitVec 32 := Scalar.subi c1_i32_409 v8
  let c1_i32_418 : BitVec 32 := 1#32
  let v670 : BitVec 32 := Scalar.muli v657 c1_i32_418
  let v671 : BitVec 32 := Scalar.addi v669 v670
  v671.toNat
def k0_dev27 (d0 : Dev nD) : Nat :=
  let c0_i32_431 : BitVec 32 := 0#32
  let c1_i32_423 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v680 : BitVec 32 := Scalar.subi c1_i32_423 v2
  let c4_i32_430 : BitVec 32 := 4#32
  let v690 : BitVec 32 := Scalar.muli v680 c4_i32_430
  let v691 : BitVec 32 := Scalar.addi c0_i32_431 v690
  let c1_i32_424 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v681 : BitVec 32 := Scalar.subi c1_i32_424 v5
  let c2_i32_432 : BitVec 32 := 2#32
  let v692 : BitVec 32 := Scalar.muli v681 c2_i32_432
  let v693 : BitVec 32 := Scalar.addi v691 v692
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_433 : BitVec 32 := 1#32
  let v694 : BitVec 32 := Scalar.muli v8 c1_i32_433
  let v695 : BitVec 32 := Scalar.addi v693 v694
  v695.toNat
def k0_dev28 (d0 : Dev nD) : Nat :=
  let c0_i32_447 : BitVec 32 := 0#32
  let c1_i32_438 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v704 : BitVec 32 := Scalar.subi c1_i32_438 v2
  let c4_i32_446 : BitVec 32 := 4#32
  let v715 : BitVec 32 := Scalar.muli v704 c4_i32_446
  let v716 : BitVec 32 := Scalar.addi c0_i32_447 v715
  let c1_i32_439 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v705 : BitVec 32 := Scalar.subi c1_i32_439 v5
  let c2_i32_448 : BitVec 32 := 2#32
  let v717 : BitVec 32 := Scalar.muli v705 c2_i32_448
  let v718 : BitVec 32 := Scalar.addi v716 v717
  let c1_i32_440 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v706 : BitVec 32 := Scalar.subi c1_i32_440 v8
  let c1_i32_449 : BitVec 32 := 1#32
  let v719 : BitVec 32 := Scalar.muli v706 c1_i32_449
  let v720 : BitVec 32 := Scalar.addi v718 v719
  v720.toNat
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x128x1152 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1152 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1152 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1152 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1152 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1152 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x1152 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1152 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S8x128x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S128x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S128x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S128x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S128x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S128x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S128x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S8x128x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S128x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S128x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S128x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S128x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S128x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S128x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S8x128x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S128x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S128x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S128x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S128x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S128x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S128x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev stage4_7 : Fin 1 → Memref sig .tc .vmem S128x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true]
-- ==== ReferenceIdeal.lean ====
abbrev S64x1024x1152 : Shape := ⟨3, ![64, 1024, 1152]⟩
abbrev S64x128x1024 : Shape := ⟨3, ![64, 128, 1024]⟩
abbrev S1024x9216 : Shape := ⟨2, ![1024, 9216]⟩
abbrev S1024x1024 : Shape := ⟨2, ![1024, 1024]⟩
abbrev S8x8x1024x1152 : Shape := ⟨4, ![8, 8, 1024, 1152]⟩
abbrev S_ : Shape := ⟨0, ![]⟩
abbrev S8x1024x1152 : Shape := ⟨3, ![8, 1024, 1152]⟩
abbrev S1024x8x1152 : Shape := ⟨3, ![1024, 8, 1152]⟩
abbrev S8x1024x1024 : Shape := ⟨3, ![8, 1024, 1024]⟩

abbrev nBuf : Space → Nat
  | .hbm => 162
  | .vmem => 0
  | .smem => 0
  | _ => 0

abbrev hbmTy0_0 (i : Nat) : BufTy := match i % 128 with
  | 0 => ⟨S64x1024x1152, .f32⟩
  | 1 => ⟨S64x128x1024, .f32⟩
  | 2 => ⟨S64x128x1024, .f32⟩
  | 3 => ⟨S64x128x1024, .f32⟩
  | 4 => ⟨S1024x9216, .f32⟩
  | 5 => ⟨S1024x1024, .f32⟩
  | 6 => ⟨S1024x1024, .f32⟩
  | 7 => ⟨S1024x1024, .f32⟩
  | 8 => ⟨S1024x9216, .f32⟩
  | 9 => ⟨S1024x1024, .f32⟩
  | 10 => ⟨S1024x1024, .f32⟩
  | 11 => ⟨S1024x1024, .f32⟩
  | 12 => ⟨S1024x9216, .f32⟩
  | 13 => ⟨S1024x1024, .f32⟩
  | 14 => ⟨S1024x1024, .f32⟩
  | 15 => ⟨S1024x1024, .f32⟩
  | 16 => ⟨S8x8x1024x1152, .f32⟩
  | 17 => ⟨S_, .f32⟩
  | 18 => ⟨S8x1024x1152, .f32⟩
  | 19 => ⟨S1024x8x1152, .f32⟩
  | 20 => ⟨S1024x9216, .f32⟩
  | 21 => ⟨S8x1024x1024, .f32⟩
  | 22 => ⟨S_, .f32⟩
  | 23 => ⟨S1024x1024, .f32⟩
  | 24 => ⟨S8x1024x1024, .f32⟩
  | 25 => ⟨S_, .f32⟩
  | 26 => ⟨S1024x1024, .f32⟩
  | 27 => ⟨S8x1024x1024, .f32⟩
  | 28 => ⟨S_, .f32⟩
  | 29 => ⟨S1024x1024, .f32⟩
  | 30 => ⟨S_, .f32⟩
  | 31 => ⟨S1024x9216, .f32⟩
  | 32 => ⟨S1024x9216, .f32⟩
  | 33 => ⟨S_, .f32⟩
  | 34 => ⟨S1024x9216, .f32⟩
  | 35 => ⟨S1024x9216, .f32⟩
  | 36 => ⟨S1024x9216, .f32⟩
  | 37 => ⟨S_, .f32⟩
  | 38 => ⟨S1024x9216, .f32⟩
  | 39 => ⟨S1024x9216, .f32⟩
  | 40 => ⟨S1024x9216, .f32⟩
  | 41 => ⟨S_, .f32⟩
  | 42 => ⟨S1024x9216, .f32⟩
  | 43 => ⟨S1024x9216, .f32⟩
  | 44 => ⟨S1024x9216, .f32⟩
  | 45 => ⟨S_, .f32⟩
  | 46 => ⟨S1024x9216, .f32⟩
  | 47 => ⟨S1024x9216, .f32⟩
  | 48 => ⟨S_, .f32⟩
  | 49 => ⟨S1024x9216, .f32⟩
  | 50 => ⟨S1024x9216, .f32⟩
  | 51 => ⟨S1024x9216, .f32⟩
  | 52 => ⟨S_, .f32⟩
  | 53 => ⟨S1024x9216, .f32⟩
  | 54 => ⟨S1024x9216, .f32⟩
  | 55 => ⟨S1024x9216, .f32⟩
  | 56 => ⟨S_, .f32⟩
  | 57 => ⟨S1024x9216, .f32⟩
  | 58 => ⟨S1024x9216, .f32⟩
  | 59 => ⟨S1024x9216, .f32⟩
  | 60 => ⟨S_, .f32⟩
  | 61 => ⟨S1024x9216, .f32⟩
  | 62 => ⟨S1024x9216, .f32⟩
  | 63 => ⟨S_, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S1024x1024, .f32⟩
  | 70 => ⟨S_, .f32⟩
  | 71 => ⟨S1024x1024, .f32⟩
  | 72 => ⟨S1024x1024, .f32⟩
  | 73 => ⟨S1024x1024, .f32⟩
  | 74 => ⟨S_, .f32⟩
  | 75 => ⟨S1024x1024, .f32⟩
  | 76 => ⟨S1024x1024, .f32⟩
  | 77 => ⟨S1024x1024, .f32⟩
  | 78 => ⟨S_, .f32⟩
  | 79 => ⟨S1024x1024, .f32⟩
  | 80 => ⟨S1024x1024, .f32⟩
  | 81 => ⟨S_, .f32⟩
  | 82 => ⟨S1024x1024, .f32⟩
  | 83 => ⟨S1024x1024, .f32⟩
  | 84 => ⟨S1024x1024, .f32⟩
  | 85 => ⟨S_, .f32⟩
  | 86 => ⟨S1024x1024, .f32⟩
  | 87 => ⟨S1024x1024, .f32⟩
  | 88 => ⟨S1024x1024, .f32⟩
  | 89 => ⟨S_, .f32⟩
  | 90 => ⟨S1024x1024, .f32⟩
  | 91 => ⟨S1024x1024, .f32⟩
  | 92 => ⟨S1024x1024, .f32⟩
  | 93 => ⟨S_, .f32⟩
  | 94 => ⟨S1024x1024, .f32⟩
  | 95 => ⟨S1024x1024, .f32⟩
  | 96 => ⟨S_, .f32⟩
  | 97 => ⟨S1024x1024, .f32⟩
  | 98 => ⟨S1024x1024, .f32⟩
  | 99 => ⟨S_, .f32⟩
  | 100 => ⟨S1024x1024, .f32⟩
  | 101 => ⟨S1024x1024, .f32⟩
  | 102 => ⟨S1024x1024, .f32⟩
  | 103 => ⟨S_, .f32⟩
  | 104 => ⟨S1024x1024, .f32⟩
  | 105 => ⟨S1024x1024, .f32⟩
  | 106 => ⟨S1024x1024, .f32⟩
  | 107 => ⟨S_, .f32⟩
  | 108 => ⟨S1024x1024, .f32⟩
  | 109 => ⟨S1024x1024, .f32⟩
  | 110 => ⟨S1024x1024, .f32⟩
  | 111 => ⟨S_, .f32⟩
  | 112 => ⟨S1024x1024, .f32⟩
  | 113 => ⟨S1024x1024, .f32⟩
  | 114 => ⟨S_, .f32⟩
  | 115 => ⟨S1024x1024, .f32⟩
  | 116 => ⟨S1024x1024, .f32⟩
  | 117 => ⟨S1024x1024, .f32⟩
  | 118 => ⟨S_, .f32⟩
  | 119 => ⟨S1024x1024, .f32⟩
  | 120 => ⟨S1024x1024, .f32⟩
  | 121 => ⟨S1024x1024, .f32⟩
  | 122 => ⟨S_, .f32⟩
  | 123 => ⟨S1024x1024, .f32⟩
  | 124 => ⟨S1024x1024, .f32⟩
  | 125 => ⟨S1024x1024, .f32⟩
  | 126 => ⟨S_, .f32⟩
  | 127 => ⟨S1024x1024, .f32⟩
  | _ => ⟨S64x1024x1152, .f32⟩

abbrev hbmTy0_1 (i : Nat) : BufTy := match i % 128 with
  | 0 => ⟨S1024x1024, .f32⟩
  | 1 => ⟨S_, .f32⟩
  | 2 => ⟨S1024x1024, .f32⟩
  | 3 => ⟨S1024x1024, .f32⟩
  | 4 => ⟨S_, .f32⟩
  | 5 => ⟨S1024x1024, .f32⟩
  | 6 => ⟨S1024x1024, .f32⟩
  | 7 => ⟨S1024x1024, .f32⟩
  | 8 => ⟨S_, .f32⟩
  | 9 => ⟨S1024x1024, .f32⟩
  | 10 => ⟨S1024x1024, .f32⟩
  | 11 => ⟨S1024x1024, .f32⟩
  | 12 => ⟨S_, .f32⟩
  | 13 => ⟨S1024x1024, .f32⟩
  | 14 => ⟨S1024x1024, .f32⟩
  | 15 => ⟨S1024x1024, .f32⟩
  | 16 => ⟨S_, .f32⟩
  | 17 => ⟨S1024x1024, .f32⟩
  | 18 => ⟨S1024x1024, .f32⟩
  | 19 => ⟨S_, .f32⟩
  | 20 => ⟨S1024x1024, .f32⟩
  | 21 => ⟨S1024x1024, .f32⟩
  | 22 => ⟨S1024x1024, .f32⟩
  | 23 => ⟨S_, .f32⟩
  | 24 => ⟨S1024x1024, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S1024x1024, .f32⟩
  | 31 => ⟨S_, .f32⟩
  | 32 => ⟨S1024x1024, .f32⟩
  | 33 => ⟨S1024x1024, .f32⟩
  | _ => ⟨S64x1024x1152, .f32⟩

abbrev hbmTy (i : Nat) : BufTy := match i / 128 with
  | 0 => hbmTy0_0 i
  | 1 => hbmTy0_1 i
  | _ => ⟨S64x1024x1152, .f32⟩

abbrev bufTy : (tb : Table) → Fin (tcTables nBuf tb) → BufTy
  | .hbm, ⟨i, _⟩ => hbmTy i
  | _, _ => ⟨S64x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_7 : Ref sig .tc := ⟨.hbm, 45, rfl⟩
abbrev main_v21 : Ref sig .tc := ⟨.hbm, 46, rfl⟩
abbrev main_v22 : Ref sig .tc := ⟨.hbm, 47, rfl⟩
abbrev main_cst_8 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_cst_12 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_14 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_15 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_16 : Ref sig .tc := ⟨.hbm, 78, rfl⟩
abbrev main_v45 : Ref sig .tc := ⟨.hbm, 79, rfl⟩
abbrev main_v46 : Ref sig .tc := ⟨.hbm, 80, rfl⟩
abbrev main_cst_17 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_cst_21 : Ref sig .tc := ⟨.hbm, 96, rfl⟩
abbrev main_v58 : Ref sig .tc := ⟨.hbm, 97, rfl⟩
abbrev main_v59 : Ref sig .tc := ⟨.hbm, 98, rfl⟩
abbrev main_cst_22 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_23 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_24 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_25 : Ref sig .tc := ⟨.hbm, 111, rfl⟩
abbrev main_v69 : Ref sig .tc := ⟨.hbm, 112, rfl⟩
abbrev main_v70 : Ref sig .tc := ⟨.hbm, 113, rfl⟩
abbrev main_cst_26 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_cst_30 : Ref sig .tc := ⟨.hbm, 129, rfl⟩
abbrev main_v82 : Ref sig .tc := ⟨.hbm, 130, rfl⟩
abbrev main_v83 : Ref sig .tc := ⟨.hbm, 131, rfl⟩
abbrev main_cst_31 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_32 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_33 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_34 : Ref sig .tc := ⟨.hbm, 144, rfl⟩
abbrev main_v93 : Ref sig .tc := ⟨.hbm, 145, rfl⟩
abbrev main_v94 : Ref sig .tc := ⟨.hbm, 146, rfl⟩
abbrev main_cst_35 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_36 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_37 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_38 : Ref sig .tc := ⟨.hbm, 159, rfl⟩
abbrev main_v104 : Ref sig .tc := ⟨.hbm, 160, rfl⟩
abbrev main_v105 : Ref sig .tc := ⟨.hbm, 161, rfl⟩

abbrev nD : Nat := 1
abbrev τ : Topo := Topo.v7x

variable {F : FTy → Type} [FloatOps F]
-- ==== Gather.lean ====
abbrev S1024x1152 : Shape := ⟨2, ![1024, 1152]⟩
abbrev S128x1024 : Shape := ⟨2, ![128, 1024]⟩
abbrev S8x1024x1152 : Shape := ⟨3, ![8, 1024, 1152]⟩
abbrev S8x128x1024 : Shape := ⟨3, ![8, 128, 1024]⟩
abbrev S28 : Shape := ⟨1, ![28]⟩
abbrev S4 : Shape := ⟨1, ![4]⟩
abbrev S1 : Shape := ⟨1, ![1]⟩
abbrev S_ : Shape := ⟨0, ![]⟩
abbrev S1x1024x1152 : Shape := ⟨3, ![1, 1024, 1152]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1024x1152, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x1024x1152, .bf16⟩
  | .hbm, ⟨5, _⟩ => ⟨S8x128x1024, .bf16⟩
  | .hbm, ⟨6, _⟩ => ⟨S8x128x1024, .bf16⟩
  | .hbm, ⟨7, _⟩ => ⟨S8x128x1024, .bf16⟩
  | .local _ .vmem, ⟨0, _⟩ => ⟨S1024x1152, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1024x1152, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 8
abbrev τ : Topo := Topo.v7x

variable {F : FTy → Type} [FloatOps F]

abbrev grid0 : Pipeline.Grid := .none

def k0_off1 (d0 : Dev nD) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c4_i32_11 v2
  let c2_i32_12 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.muli c2_i32_12 v5
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.addi v22 v8
  let c0_i32_13 : BitVec 32 := 0#32
  let c0_i32_14 : BitVec 32 := 0#32
  ![v23.toNat, 0, 0]
def k0_off2 (d0 : Dev nD) : Fin 3 → Nat :=
  let c4_i32_19 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c4_i32_19 v2
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_20 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_22 : BitVec 32 := 0#32
  let c0_i32_23 : BitVec 32 := 0#32
  ![v37.toNat, 0, 0]
def k0_dev1 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v134 : BitVec 32 := Scalar.muli v2 c4_i32_75
  let v135 : BitVec 32 := Scalar.addi c0_i32_76 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v136 : BitVec 32 := Scalar.muli v5 c2_i32_77
  let v137 : BitVec 32 := Scalar.addi v135 v136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_78 : BitVec 32 := 1#32
  let v138 : BitVec 32 := Scalar.muli v9 c1_i32_78
  let v139 : BitVec 32 := Scalar.addi v137 v138
  v139.toNat
def k0_dev2 (d0 : Dev nD) : Nat :=
  let c0_i32_84 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_83 : BitVec 32 := 4#32
  let v146 : BitVec 32 := Scalar.muli v10 c4_i32_83
  let v147 : BitVec 32 := Scalar.addi c0_i32_84 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v148 : BitVec 32 := Scalar.muli v5 c2_i32_85
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v150 : BitVec 32 := Scalar.muli v8 c1_i32_86
  let v151 : BitVec 32 := Scalar.addi v149 v150
  v151.toNat
def k0_dev3 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v158 : BitVec 32 := Scalar.muli v2 c4_i32_91
  let v159 : BitVec 32 := Scalar.addi c0_i32_92 v158
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_93 : BitVec 32 := 2#32
  let v160 : BitVec 32 := Scalar.muli v11 c2_i32_93
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v162 : BitVec 32 := Scalar.muli v8 c1_i32_94
  let v163 : BitVec 32 := Scalar.addi v161 v162
  v163.toNat
def k0_dev4 (d0 : Dev nD) : Nat :=
  let c0_i32_100 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_99 : BitVec 32 := 4#32
  let v170 : BitVec 32 := Scalar.muli v12 c4_i32_99
  let v171 : BitVec 32 := Scalar.addi c0_i32_100 v170
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_101 : BitVec 32 := 2#32
  let v172 : BitVec 32 := Scalar.muli v13 c2_i32_101
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v174 : BitVec 32 := Scalar.muli v8 c1_i32_102
  let v175 : BitVec 32 := Scalar.addi v173 v174
  v175.toNat
def k0_dev5 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v182 : BitVec 32 := Scalar.muli v2 c4_i32_106
  let v183 : BitVec 32 := Scalar.addi c0_i32_107 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v184 : BitVec 32 := Scalar.muli v5 c2_i32_108
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_109 : BitVec 32 := 1#32
  let v186 : BitVec 32 := Scalar.muli v9 c1_i32_109
  let v187 : BitVec 32 := Scalar.addi v185 v186
  v187.toNat
def k0_dev6 (d0 : Dev nD) : Nat :=
  let c0_i32_114 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_113 : BitVec 32 := 4#32
  let v194 : BitVec 32 := Scalar.muli v10 c4_i32_113
  let v195 : BitVec 32 := Scalar.addi c0_i32_114 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v196 : BitVec 32 := Scalar.muli v5 c2_i32_115
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v198 : BitVec 32 := Scalar.muli v8 c1_i32_116
  let v199 : BitVec 32 := Scalar.addi v197 v198
  v199.toNat
def k0_dev7 (d0 : Dev nD) : Nat :=
  let c0_i32_121 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_120 : BitVec 32 := 4#32
  let v206 : BitVec 32 := Scalar.muli v2 c4_i32_120
  let v207 : BitVec 32 := Scalar.addi c0_i32_121 v206
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_122 : BitVec 32 := 2#32
  let v208 : BitVec 32 := Scalar.muli v11 c2_i32_122
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v210 : BitVec 32 := Scalar.muli v8 c1_i32_123
  let v211 : BitVec 32 := Scalar.addi v209 v210
  v211.toNat
def k0_dev8 (d0 : Dev nD) : Nat :=
  let c0_i32_128 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_127 : BitVec 32 := 4#32
  let v218 : BitVec 32 := Scalar.muli v12 c4_i32_127
  let v219 : BitVec 32 := Scalar.addi c0_i32_128 v218
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_129 : BitVec 32 := 2#32
  let v220 : BitVec 32 := Scalar.muli v13 c2_i32_129
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v222 : BitVec 32 := Scalar.muli v8 c1_i32_130
  let v223 : BitVec 32 := Scalar.addi v221 v222
  v223.toNat
def k0_dev9 (d0 : Dev nD) : Nat :=
  let c0_i32_135 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_134 : BitVec 32 := 4#32
  let v230 : BitVec 32 := Scalar.muli v2 c4_i32_134
  let v231 : BitVec 32 := Scalar.addi c0_i32_135 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_136 : BitVec 32 := 2#32
  let v232 : BitVec 32 := Scalar.muli v5 c2_i32_136
  let v233 : BitVec 32 := Scalar.addi v231 v232
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_137 : BitVec 32 := 1#32
  let v234 : BitVec 32 := Scalar.muli v9 c1_i32_137
  let v235 : BitVec 32 := Scalar.addi v233 v234
  v235.toNat
def k0_dev10 (d0 : Dev nD) : Nat :=
  let c0_i32_142 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_141 : BitVec 32 := 4#32
  let v242 : BitVec 32 := Scalar.muli v10 c4_i32_141
  let v243 : BitVec 32 := Scalar.addi c0_i32_142 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v244 : BitVec 32 := Scalar.muli v5 c2_i32_143
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v246 : BitVec 32 := Scalar.muli v8 c1_i32_144
  let v247 : BitVec 32 := Scalar.addi v245 v246
  v247.toNat
def k0_dev11 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_148 : BitVec 32 := 4#32
  let v254 : BitVec 32 := Scalar.muli v2 c4_i32_148
  let v255 : BitVec 32 := Scalar.addi c0_i32_149 v254
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_150 : BitVec 32 := 2#32
  let v256 : BitVec 32 := Scalar.muli v11 c2_i32_150
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v258 : BitVec 32 := Scalar.muli v8 c1_i32_151
  let v259 : BitVec 32 := Scalar.addi v257 v258
  v259.toNat
def k0_dev12 (d0 : Dev nD) : Nat :=
  let c0_i32_156 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_155 : BitVec 32 := 4#32
  let v266 : BitVec 32 := Scalar.muli v12 c4_i32_155
  let v267 : BitVec 32 := Scalar.addi c0_i32_156 v266
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_157 : BitVec 32 := 2#32
  let v268 : BitVec 32 := Scalar.muli v13 c2_i32_157
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v270 : BitVec 32 := Scalar.muli v8 c1_i32_158
  let v271 : BitVec 32 := Scalar.addi v269 v270
  v271.toNat
def k0_dev13 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v278 : BitVec 32 := Scalar.muli v2 c4_i32_162
  let v279 : BitVec 32 := Scalar.addi c0_i32_163 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_164 : BitVec 32 := 2#32
  let v280 : BitVec 32 := Scalar.muli v5 c2_i32_164
  let v281 : BitVec 32 := Scalar.addi v279 v280
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_165 : BitVec 32 := 1#32
  let v282 : BitVec 32 := Scalar.muli v9 c1_i32_165
  let v283 : BitVec 32 := Scalar.addi v281 v282
  v283.toNat
def k0_dev14 (d0 : Dev nD) : Nat :=
  let c0_i32_170 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_169 : BitVec 32 := 4#32
  let v290 : BitVec 32 := Scalar.muli v10 c4_i32_169
  let v291 : BitVec 32 := Scalar.addi c0_i32_170 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v292 : BitVec 32 := Scalar.muli v5 c2_i32_171
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v294 : BitVec 32 := Scalar.muli v8 c1_i32_172
  let v295 : BitVec 32 := Scalar.addi v293 v294
  v295.toNat
def k0_dev15 (d0 : Dev nD) : Nat :=
  let c0_i32_177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_176 : BitVec 32 := 4#32
  let v302 : BitVec 32 := Scalar.muli v2 c4_i32_176
  let v303 : BitVec 32 := Scalar.addi c0_i32_177 v302
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_178 : BitVec 32 := 2#32
  let v304 : BitVec 32 := Scalar.muli v11 c2_i32_178
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v306 : BitVec 32 := Scalar.muli v8 c1_i32_179
  let v307 : BitVec 32 := Scalar.addi v305 v306
  v307.toNat
def k0_dev16 (d0 : Dev nD) : Nat :=
  let c0_i32_184 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_183 : BitVec 32 := 4#32
  let v314 : BitVec 32 := Scalar.muli v12 c4_i32_183
  let v315 : BitVec 32 := Scalar.addi c0_i32_184 v314
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_185 : BitVec 32 := 2#32
  let v316 : BitVec 32 := Scalar.muli v13 c2_i32_185
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_186 : BitVec 32 := 1#32
  let v318 : BitVec 32 := Scalar.muli v8 c1_i32_186
  let v319 : BitVec 32 := Scalar.addi v317 v318
  v319.toNat
def k0_off3 (d0 : Dev nD) : Fin 3 → Nat :=
  let c4_i32_189 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v326 : BitVec 32 := Scalar.muli c4_i32_189 v10
  let c2_i32_190 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v327 : BitVec 32 := Scalar.muli c2_i32_190 v5
  let v328 : BitVec 32 := Scalar.addi v326 v327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v329 : BitVec 32 := Scalar.addi v328 v8
  let c0_i32_197 : BitVec 32 := 0#32
  let c0_i32_198 : BitVec 32 := 0#32
  ![v329.toNat, 0, 0]
def k0_dev17 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v346 : BitVec 32 := Scalar.muli v2 c4_i32_205
  let v347 : BitVec 32 := Scalar.addi c0_i32_206 v346
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v348 : BitVec 32 := Scalar.muli v5 c2_i32_207
  let v349 : BitVec 32 := Scalar.addi v347 v348
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_208 : BitVec 32 := 1#32
  let v350 : BitVec 32 := Scalar.muli v9 c1_i32_208
  let v351 : BitVec 32 := Scalar.addi v349 v350
  v351.toNat
def k0_off4 (d0 : Dev nD) : Fin 3 → Nat :=
  let c4_i32_213 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v360 : BitVec 32 := Scalar.muli c4_i32_213 v2
  let c2_i32_214 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v361 : BitVec 32 := Scalar.muli c2_i32_214 v11
  let v362 : BitVec 32 := Scalar.addi v360 v361
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v363 : BitVec 32 := Scalar.addi v362 v8
  let c0_i32_221 : BitVec 32 := 0#32
  let c0_i32_222 : BitVec 32 := 0#32
  ![v363.toNat, 0, 0]
def k0_dev18 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v380 : BitVec 32 := Scalar.muli v2 c4_i32_228
  let v381 : BitVec 32 := Scalar.addi c0_i32_229 v380
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v382 : BitVec 32 := Scalar.muli v5 c2_i32_230
  let v383 : BitVec 32 := Scalar.addi v381 v382
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_231 : BitVec 32 := 1#32
  let v384 : BitVec 32 := Scalar.muli v9 c1_i32_231
  let v385 : BitVec 32 := Scalar.addi v383 v384
  v385.toNat
def k0_off5 (d0 : Dev nD) : Fin 3 → Nat :=
  let c4_i32_236 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v394 : BitVec 32 := Scalar.muli c4_i32_236 v12
  let c2_i32_237 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v395 : BitVec 32 := Scalar.muli c2_i32_237 v13
  let v396 : BitVec 32 := Scalar.addi v394 v395
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v397 : BitVec 32 := Scalar.addi v396 v8
  let c0_i32_244 : BitVec 32 := 0#32
  let c0_i32_245 : BitVec 32 := 0#32
  ![v397.toNat, 0, 0]
def k0_dev19 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_251 : BitVec 32 := 4#32
  let v414 : BitVec 32 := Scalar.muli v2 c4_i32_251
  let v415 : BitVec 32 := Scalar.addi c0_i32_252 v414
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_253 : BitVec 32 := 2#32
  let v416 : BitVec 32 := Scalar.muli v5 c2_i32_253
  let v417 : BitVec 32 := Scalar.addi v415 v416
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_254 : BitVec 32 := 1#32
  let v418 : BitVec 32 := Scalar.muli v9 c1_i32_254
  let v419 : BitVec 32 := Scalar.addi v417 v418
  v419.toNat
def k0_off6 (d0 : Dev nD) : Fin 3 → Nat :=
  let c4_i32_259 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v428 : BitVec 32 := Scalar.muli c4_i32_259 v10
  let c2_i32_260 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v429 : BitVec 32 := Scalar.muli c2_i32_260 v5
  let v430 : BitVec 32 := Scalar.addi v428 v429
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v431 : BitVec 32 := Scalar.addi v430 v8
  let c0_i32_267 : BitVec 32 := 0#32
  let c0_i32_268 : BitVec 32 := 0#32
  ![v431.toNat, 0, 0]
def k0_dev20 (d0 : Dev nD) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v448 : BitVec 32 := Scalar.muli v2 c4_i32_274
  let v449 : BitVec 32 := Scalar.addi c0_i32_275 v448
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v450 : BitVec 32 := Scalar.muli v5 c2_i32_276
  let v451 : BitVec 32 := Scalar.addi v449 v450
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_277 : BitVec 32 := 1#32
  let v452 : BitVec 32 := Scalar.muli v9 c1_i32_277
  let v453 : BitVec 32 := Scalar.addi v451 v452
  v453.toNat
def k0_off7 (d0 : Dev nD) : Fin 3 → Nat :=
  let c4_i32_282 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v462 : BitVec 32 := Scalar.muli c4_i32_282 v2
  let c2_i32_283 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v463 : BitVec 32 := Scalar.muli c2_i32_283 v11
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v465 : BitVec 32 := Scalar.addi v464 v8
  let c0_i32_290 : BitVec 32 := 0#32
  let c0_i32_291 : BitVec 32 := 0#32
  ![v465.toNat, 0, 0]
def k0_dev21 (d0 : Dev nD) : Nat :=
  let c0_i32_298 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_297 : BitVec 32 := 4#32
  let v482 : BitVec 32 := Scalar.muli v2 c4_i32_297
  let v483 : BitVec 32 := Scalar.addi c0_i32_298 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v484 : BitVec 32 := Scalar.muli v5 c2_i32_299
  let v485 : BitVec 32 := Scalar.addi v483 v484
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_300 : BitVec 32 := 1#32
  let v486 : BitVec 32 := Scalar.muli v9 c1_i32_300
  let v487 : BitVec 32 := Scalar.addi v485 v486
  v487.toNat
def k0_off8 (d0 : Dev nD) : Fin 3 → Nat :=
  let c4_i32_305 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v496 : BitVec 32 := Scalar.muli c4_i32_305 v12
  let c2_i32_306 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v497 : BitVec 32 := Scalar.muli c2_i32_306 v13
  let v498 : BitVec 32 := Scalar.addi v496 v497
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v499 : BitVec 32 := Scalar.addi v498 v8
  let c0_i32_313 : BitVec 32 := 0#32
  let c0_i32_314 : BitVec 32 := 0#32
  ![v499.toNat, 0, 0]
def k0_dev22 (d0 : Dev nD) : Nat :=
  let c0_i32_321 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_320 : BitVec 32 := 4#32
  let v516 : BitVec 32 := Scalar.muli v2 c4_i32_320
  let v517 : BitVec 32 := Scalar.addi c0_i32_321 v516
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_322 : BitVec 32 := 2#32
  let v518 : BitVec 32 := Scalar.muli v5 c2_i32_322
  let v519 : BitVec 32 := Scalar.addi v517 v518
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_323 : BitVec 32 := 1#32
  let v520 : BitVec 32 := Scalar.muli v9 c1_i32_323
  let v521 : BitVec 32 := Scalar.addi v519 v520
  v521.toNat
def k0_dev23 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v550 : BitVec 32 := Scalar.muli v2 c4_i32_343
  let v551 : BitVec 32 := Scalar.addi c0_i32_344 v550
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v552 : BitVec 32 := Scalar.muli v5 c2_i32_345
  let v553 : BitVec 32 := Scalar.addi v551 v552
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_346 : BitVec 32 := 1#32
  let v554 : BitVec 32 := Scalar.muli v9 c1_i32_346
  let v555 : BitVec 32 := Scalar.addi v553 v554
  v555.toNat
def k0_dev24 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_366 : BitVec 32 := 4#32
  let v584 : BitVec 32 := Scalar.muli v2 c4_i32_366
  let v585 : BitVec 32 := Scalar.addi c0_i32_367 v584
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_368 : BitVec 32 := 2#32
  let v586 : BitVec 32 := Scalar.muli v5 c2_i32_368
  let v587 : BitVec 32 := Scalar.addi v585 v586
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_369 : BitVec 32 := 1#32
  let v588 : BitVec 32 := Scalar.muli v9 c1_i32_369
  let v589 : BitVec 32 := Scalar.addi v587 v588
  v589.toNat
def k0_dev25 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v618 : BitVec 32 := Scalar.muli v2 c4_i32_389
  let v619 : BitVec 32 := Scalar.addi c0_i32_390 v618
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v620 : BitVec 32 := Scalar.muli v5 c2_i32_391
  let v621 : BitVec 32 := Scalar.addi v619 v620
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_392 : BitVec 32 := 1#32
  let v622 : BitVec 32 := Scalar.muli v9 c1_i32_392
  let v623 : BitVec 32 := Scalar.addi v621 v622
  v623.toNat
def k0_dev26 (d0 : Dev nD) : Nat :=
  let c0_i32_413 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_412 : BitVec 32 := 4#32
  let v652 : BitVec 32 := Scalar.muli v2 c4_i32_412
  let v653 : BitVec 32 := Scalar.addi c0_i32_413 v652
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_414 : BitVec 32 := 2#32
  let v654 : BitVec 32 := Scalar.muli v5 c2_i32_414
  let v655 : BitVec 32 := Scalar.addi v653 v654
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_415 : BitVec 32 := 1#32
  let v656 : BitVec 32 := Scalar.muli v9 c1_i32_415
  let v657 : BitVec 32 := Scalar.addi v655 v656
  v657.toNat
def k0_dev27 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_435 : BitVec 32 := 4#32
  let v686 : BitVec 32 := Scalar.muli v2 c4_i32_435
  let v687 : BitVec 32 := Scalar.addi c0_i32_436 v686
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_437 : BitVec 32 := 2#32
  let v688 : BitVec 32 := Scalar.muli v5 c2_i32_437
  let v689 : BitVec 32 := Scalar.addi v687 v688
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_438 : BitVec 32 := 1#32
  let v690 : BitVec 32 := Scalar.muli v9 c1_i32_438
  let v691 : BitVec 32 := Scalar.addi v689 v690
  v691.toNat
def k0_dev28 (d0 : Dev nD) : Nat :=
  let c0_i32_459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_458 : BitVec 32 := 4#32
  let v720 : BitVec 32 := Scalar.muli v2 c4_i32_458
  let v721 : BitVec 32 := Scalar.addi c0_i32_459 v720
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_460 : BitVec 32 := 2#32
  let v722 : BitVec 32 := Scalar.muli v5 c2_i32_460
  let v723 : BitVec 32 := Scalar.addi v721 v722
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_461 : BitVec 32 := 1#32
  let v724 : BitVec 32 := Scalar.muli v9 c1_i32_461
  let v725 : BitVec 32 := Scalar.addi v723 v724
  v725.toNat
def k0_off9 (d0 : Dev nD) : Fin 3 → Nat :=
  let c4_i32_466 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v734 : BitVec 32 := Scalar.muli c4_i32_466 v2
  let c2_i32_467 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v735 : BitVec 32 := Scalar.muli c2_i32_467 v5
  let v736 : BitVec 32 := Scalar.addi v734 v735
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v737 : BitVec 32 := Scalar.addi v736 v9
  let c0_i32_474 : BitVec 32 := 0#32
  let c0_i32_475 : BitVec 32 := 0#32
  ![v737.toNat, 0, 0]
def k0_off10 (d0 : Dev nD) : Fin 3 → Nat :=
  let c4_i32_479 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v751 : BitVec 32 := Scalar.muli c4_i32_479 v10
  let c2_i32_480 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v752 : BitVec 32 := Scalar.muli c2_i32_480 v5
  let v753 : BitVec 32 := Scalar.addi v751 v752
  let c1_i32_478 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v750 : BitVec 32 := Scalar.subi c1_i32_478 v8
  let v754 : BitVec 32 := Scalar.addi v753 v750
  let c0_i32_487 : BitVec 32 := 0#32
  let c0_i32_488 : BitVec 32 := 0#32
  ![v754.toNat, 0, 0]
def k0_off11 (d0 : Dev nD) : Fin 3 → Nat :=
  let c4_i32_492 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v768 : BitVec 32 := Scalar.muli c4_i32_492 v2
  let c2_i32_493 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v769 : BitVec 32 := Scalar.muli c2_i32_493 v11
  let v770 : BitVec 32 := Scalar.addi v768 v769
  let c1_i32_491 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v767 : BitVec 32 := Scalar.subi c1_i32_491 v8
  let v771 : BitVec 32 := Scalar.addi v770 v767
  let c0_i32_500 : BitVec 32 := 0#32
  let c0_i32_501 : BitVec 32 := 0#32
  ![v771.toNat, 0, 0]
def k0_off12 (d0 : Dev nD) : Fin 3 → Nat :=
  let c4_i32_505 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v785 : BitVec 32 := Scalar.muli c4_i32_505 v12
  let c2_i32_506 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v786 : BitVec 32 := Scalar.muli c2_i32_506 v13
  let v787 : BitVec 32 := Scalar.addi v785 v786
  let c1_i32_504 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v784 : BitVec 32 := Scalar.subi c1_i32_504 v8
  let v788 : BitVec 32 := Scalar.addi v787 v784
  let c0_i32_513 : BitVec 32 := 0#32
  let c0_i32_514 : BitVec 32 := 0#32
  ![v788.toNat, 0, 0]
def k0_off13 (d0 : Dev nD) : Fin 3 → Nat :=
  let c4_i32_517 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v801 : BitVec 32 := Scalar.muli c4_i32_517 v2
  let c2_i32_518 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v802 : BitVec 32 := Scalar.muli c2_i32_518 v5
  let v803 : BitVec 32 := Scalar.addi v801 v802
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v804 : BitVec 32 := Scalar.addi v803 v9
  let c0_i32_525 : BitVec 32 := 0#32
  let c0_i32_526 : BitVec 32 := 0#32
  ![v804.toNat, 0, 0]
def k0_off14 (d0 : Dev nD) : Fin 3 → Nat :=
  let c4_i32_530 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v818 : BitVec 32 := Scalar.muli c4_i32_530 v10
  let c2_i32_531 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v819 : BitVec 32 := Scalar.muli c2_i32_531 v5
  let v820 : BitVec 32 := Scalar.addi v818 v819
  let c1_i32_529 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v817 : BitVec 32 := Scalar.subi c1_i32_529 v8
  let v821 : BitVec 32 := Scalar.addi v820 v817
  let c0_i32_538 : BitVec 32 := 0#32
  let c0_i32_539 : BitVec 32 := 0#32
  ![v821.toNat, 0, 0]
def k0_off15 (d0 : Dev nD) : Fin 3 → Nat :=
  let c4_i32_543 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v835 : BitVec 32 := Scalar.muli c4_i32_543 v2
  let c2_i32_544 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v836 : BitVec 32 := Scalar.muli c2_i32_544 v11
  let v837 : BitVec 32 := Scalar.addi v835 v836
  let c1_i32_542 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v834 : BitVec 32 := Scalar.subi c1_i32_542 v8
  let v838 : BitVec 32 := Scalar.addi v837 v834
  let c0_i32_551 : BitVec 32 := 0#32
  let c0_i32_552 : BitVec 32 := 0#32
  ![v838.toNat, 0, 0]
def k0_off16 (d0 : Dev nD) : Fin 3 → Nat :=
  let c4_i32_556 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v852 : BitVec 32 := Scalar.muli c4_i32_556 v12
  let c2_i32_557 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v853 : BitVec 32 := Scalar.muli c2_i32_557 v13
  let v854 : BitVec 32 := Scalar.addi v852 v853
  let c1_i32_555 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v851 : BitVec 32 := Scalar.subi c1_i32_555 v8
  let v855 : BitVec 32 := Scalar.addi v854 v851
  let c0_i32_564 : BitVec 32 := 0#32
  let c0_i32_565 : BitVec 32 := 0#32
  ![v855.toNat, 0, 0]
abbrev stage0_0 : Fin 1 → Memref sig .tc .vmem S1024x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Gathered.lean ====
abbrev S1024x9216 : Shape := ⟨2, ![1024, 9216]⟩
abbrev S1024x1024 : Shape := ⟨2, ![1024, 1024]⟩
abbrev S1024x8x1152 : Shape := ⟨3, ![1024, 8, 1152]⟩
abbrev S8x1024x1152 : Shape := ⟨3, ![8, 1024, 1152]⟩
abbrev S1x8x1024x1152 : Shape := ⟨4, ![1, 8, 1024, 1152]⟩
abbrev S8x8x1024x1152 : Shape := ⟨4, ![8, 8, 1024, 1152]⟩
abbrev S64x1024x1152 : Shape := ⟨3, ![64, 1024, 1152]⟩
abbrev S8x128x1024 : Shape := ⟨3, ![8, 128, 1024]⟩
abbrev S1x8x128x1024 : Shape := ⟨4, ![1, 8, 128, 1024]⟩
abbrev S8x8x128x1024 : Shape := ⟨4, ![8, 8, 128, 1024]⟩
abbrev S64x128x1024 : Shape := ⟨3, ![64, 128, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1024x9216, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x9216, .bf16⟩
  | .hbm, ⟨5, _⟩ => ⟨S1024x8x1152, .bf16⟩
  | .hbm, ⟨6, _⟩ => ⟨S8x1024x1152, .bf16⟩
  | .hbm, ⟨7, _⟩ => ⟨S1x8x1024x1152, .bf16⟩
  | .hbm, ⟨8, _⟩ => ⟨S8x8x1024x1152, .bf16⟩
  | .hbm, ⟨9, _⟩ => ⟨S64x1024x1152, .bf16⟩
  | .hbm, ⟨10, _⟩ => ⟨S1024x1024, .bf16⟩
  | .hbm, ⟨11, _⟩ => ⟨S8x128x1024, .bf16⟩
  | .hbm, ⟨12, _⟩ => ⟨S1x8x128x1024, .bf16⟩
  | .hbm, ⟨13, _⟩ => ⟨S8x8x128x1024, .bf16⟩
  | .hbm, ⟨14, _⟩ => ⟨S64x128x1024, .bf16⟩
  | .hbm, ⟨15, _⟩ => ⟨S1024x1024, .bf16⟩
  | .hbm, ⟨16, _⟩ => ⟨S8x128x1024, .bf16⟩
  | .hbm, ⟨17, _⟩ => ⟨S1x8x128x1024, .bf16⟩
  | .hbm, ⟨18, _⟩ => ⟨S8x8x128x1024, .bf16⟩
  | .hbm, ⟨19, _⟩ => ⟨S64x128x1024, .bf16⟩
  | .hbm, ⟨20, _⟩ => ⟨S1024x1024, .bf16⟩
  | .hbm, ⟨21, _⟩ => ⟨S8x128x1024, .bf16⟩
  | .hbm, ⟨22, _⟩ => ⟨S1x8x128x1024, .bf16⟩
  | .hbm, ⟨23, _⟩ => ⟨S8x8x128x1024, .bf16⟩
  | .hbm, ⟨24, _⟩ => ⟨S64x128x1024, .bf16⟩
  | _, _ => ⟨S1024x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Dx.lean ====
abbrev S8192x9216 : Shape := ⟨2, ![8192, 9216]⟩
abbrev S8x1024x1152 : Shape := ⟨3, ![8, 1024, 1152]⟩
abbrev S8192x1024 : Shape := ⟨2, ![8192, 1024]⟩
abbrev S1x1024 : Shape := ⟨2, ![1, 1024]⟩
abbrev S1024x1152 : Shape := ⟨2, ![1024, 1152]⟩
abbrev S1x1024x1152 : Shape := ⟨3, ![1, 1024, 1152]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x9216, .bf16⟩
  | .hbm, ⟨1, _⟩ => ⟨S8x1024x1152, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DxIdeal.lean ====
abbrev S8192x9216 : Shape := ⟨2, ![8192, 9216]⟩
abbrev S8x1024x1152 : Shape := ⟨3, ![8, 1024, 1152]⟩
abbrev S8192x1024 : Shape := ⟨2, ![8192, 1024]⟩
abbrev S1x1024 : Shape := ⟨2, ![1, 1024]⟩
abbrev S1024x1152 : Shape := ⟨2, ![1024, 1152]⟩
abbrev S1x1024x1152 : Shape := ⟨3, ![1, 1024, 1152]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x9216, .bf16⟩
  | .hbm, ⟨1, _⟩ => ⟨S8x1024x1152, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GradXIdeal.lean ====
abbrev S8192x9216 : Shape := ⟨2, ![8192, 9216]⟩
abbrev S8x1024x1152 : Shape := ⟨3, ![8, 1024, 1152]⟩
abbrev S8192x1024 : Shape := ⟨2, ![8192, 1024]⟩
abbrev S1x1024 : Shape := ⟨2, ![1, 1024]⟩
abbrev S1024x8x1152 : Shape := ⟨3, ![1024, 8, 1152]⟩
abbrev S1024x9216 : Shape := ⟨2, ![1024, 9216]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S8x1024x1152, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8x1024x1152, .f32⟩
  | .hbm, ⟨6, _⟩ => ⟨S1024x8x1152, .f32⟩
  | .hbm, ⟨7, _⟩ => ⟨S1024x9216, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x9216, .f32⟩
  | .hbm, ⟨28, _⟩ => ⟨S8192x9216, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S8x1024x1152 : Shape := ⟨3, ![8, 1024, 1152]⟩
abbrev S8192x9216 : Shape := ⟨2, ![8192, 9216]⟩
abbrev S1024x1024 : Shape := ⟨2, ![1024, 1024]⟩
abbrev S1x1024x1152 : Shape := ⟨3, ![1, 1024, 1152]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x1152, .bf16⟩
  | .hbm, ⟨3, _⟩ => ⟨S8192x9216, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1152, .bf16⟩
  | .local _ .vmem, ⟨4, _⟩ => ⟨S1x1024x1152, .bf16⟩
  | .local _ .vmem, ⟨5, _⟩ => ⟨S1024x1152, .f32⟩
  | .local _ .vmem, ⟨6, _⟩ => ⟨S1024x1152, .f32⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjIdeal.lean ====
abbrev S8192x1024 : Shape := ⟨2, ![8192, 1024]⟩
abbrev S1x1024 : Shape := ⟨2, ![1, 1024]⟩
abbrev S8x1024x1152 : Shape := ⟨3, ![8, 1024, 1152]⟩
abbrev S8192x9216 : Shape := ⟨2, ![8192, 9216]⟩
abbrev S1024x1024 : Shape := ⟨2, ![1024, 1024]⟩
abbrev S1x1024x1152 : Shape := ⟨3, ![1, 1024, 1152]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x1152, .bf16⟩
  | .hbm, ⟨3, _⟩ => ⟨S8192x9216, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1152, .bf16⟩
  | .local _ .vmem, ⟨4, _⟩ => ⟨S1x1024x1152, .bf16⟩
  | .local _ .vmem, ⟨5, _⟩ => ⟨S1024x1152, .f32⟩
  | .local _ .vmem, ⟨6, _⟩ => ⟨S1024x1152, .f32⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjRefIdeal.lean ====
abbrev S8192x1024 : Shape := ⟨2, ![8192, 1024]⟩
abbrev S1x1024 : Shape := ⟨2, ![1, 1024]⟩
abbrev S8x1024x1152 : Shape := ⟨3, ![8, 1024, 1152]⟩
abbrev S1024x8x1152 : Shape := ⟨3, ![1024, 8, 1152]⟩
abbrev S1024x9216 : Shape := ⟨2, ![1024, 9216]⟩
abbrev S_ : Shape := ⟨0, ![]⟩
abbrev S8192 : Shape := ⟨1, ![8192]⟩
abbrev S8192x1 : Shape := ⟨2, ![8192, 1]⟩
abbrev S8192x9216 : Shape := ⟨2, ![8192, 9216]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x1152, .bf16⟩
  | .hbm, ⟨3, _⟩ => ⟨S8x1024x1152, .f32⟩
  | .hbm, ⟨4, _⟩ => ⟨S1024x8x1152, .f32⟩
  | .hbm, ⟨5, _⟩ => ⟨S1024x9216, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x9216, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== DwIn.lean ====
abbrev S8192x1024 : Shape := ⟨2, ![8192, 1024]⟩
abbrev S8192x9216 : Shape := ⟨2, ![8192, 9216]⟩
abbrev S8x1024x1152 : Shape := ⟨3, ![8, 1024, 1152]⟩
abbrev S512x1024 : Shape := ⟨2, ![512, 1024]⟩
abbrev S512x1152 : Shape := ⟨2, ![512, 1152]⟩
abbrev S1x1024x1152 : Shape := ⟨3, ![1, 1024, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S8x1024x1152, .f32⟩
  | .local _ .vmem, ⟨0, _⟩ => ⟨S512x1024, .bf16⟩
  | .local _ .vmem, ⟨1, _⟩ => ⟨S512x1024, .bf16⟩
  | .local _ .vmem, ⟨2, _⟩ => ⟨S512x1152, .bf16⟩
  | .local _ .vmem, ⟨3, _⟩ => ⟨S512x1152, .bf16⟩
  | .local _ .vmem, ⟨4, _⟩ => ⟨S1x1024x1152, .f32⟩
  | .local _ .vmem, ⟨5, _⟩ => ⟨S1x1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInIdeal.lean ====
abbrev S8192x1024 : Shape := ⟨2, ![8192, 1024]⟩
abbrev S8192x9216 : Shape := ⟨2, ![8192, 9216]⟩
abbrev S8x1024x1152 : Shape := ⟨3, ![8, 1024, 1152]⟩
abbrev S512x1024 : Shape := ⟨2, ![512, 1024]⟩
abbrev S512x1152 : Shape := ⟨2, ![512, 1152]⟩
abbrev S1x1024x1152 : Shape := ⟨3, ![1, 1024, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S8x1024x1152, .f32⟩
  | .local _ .vmem, ⟨0, _⟩ => ⟨S512x1024, .bf16⟩
  | .local _ .vmem, ⟨1, _⟩ => ⟨S512x1024, .bf16⟩
  | .local _ .vmem, ⟨2, _⟩ => ⟨S512x1152, .bf16⟩
  | .local _ .vmem, ⟨3, _⟩ => ⟨S512x1152, .bf16⟩
  | .local _ .vmem, ⟨4, _⟩ => ⟨S1x1024x1152, .f32⟩
  | .local _ .vmem, ⟨5, _⟩ => ⟨S1x1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S8192x1024 : Shape := ⟨2, ![8192, 1024]⟩
abbrev S8192x9216 : Shape := ⟨2, ![8192, 9216]⟩
abbrev S9216x1024 : Shape := ⟨2, ![9216, 1024]⟩
abbrev S1024x9216 : Shape := ⟨2, ![1024, 9216]⟩
abbrev S1024x8x1152 : Shape := ⟨3, ![1024, 8, 1152]⟩
abbrev S8x1024x1152 : Shape := ⟨3, ![8, 1024, 1152]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S8192x1024, .f32⟩
  | .hbm, ⟨3, _⟩ => ⟨S8192x9216, .f32⟩
  | .hbm, ⟨4, _⟩ => ⟨S9216x1024, .f32⟩
  | .hbm, ⟨5, _⟩ => ⟨S1024x9216, .f32⟩
  | .hbm, ⟨6, _⟩ => ⟨S1024x8x1152, .f32⟩
  | .hbm, ⟨7, _⟩ => ⟨S8x1024x1152, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwOutIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwA.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwAIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwARefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwB.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwBIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwBRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchA.lean ====
abbrev S8192x9216 : Shape := ⟨2, ![8192, 9216]⟩
abbrev S1x1024 : Shape := ⟨2, ![1, 1024]⟩
abbrev S8x128x128 : Shape := ⟨3, ![8, 128, 128]⟩
abbrev S8x128x1 : Shape := ⟨3, ![8, 128, 1]⟩
abbrev S8192x1024 : Shape := ⟨2, ![8192, 1024]⟩
abbrev S512x1024 : Shape := ⟨2, ![512, 1024]⟩
abbrev S128x128 : Shape := ⟨2, ![128, 128]⟩
abbrev S512 : Shape := ⟨1, ![512]⟩
abbrev S512x1 : Shape := ⟨2, ![512, 1]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 5
  | .vmem => 13
  | .smem => 0
  | _ => 0

abbrev bufTy : (tb : Table) → Fin (tcTables nBuf tb) → BufTy
  | .hbm, ⟨0, _⟩ => ⟨S8192x9216, .f32⟩
  | .hbm, ⟨1, _⟩ => ⟨S1x1024, .f32⟩
  | .hbm, ⟨2, _⟩ => ⟨S8x128x128, .f32⟩
  | .hbm, ⟨3, _⟩ => ⟨S8x128x1, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x128x128, .f32⟩
  | .local _ .vmem, ⟨8, _⟩ => ⟨S8x128x1, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BranchARefIdeal.lean ====
abbrev S8192x9216 : Shape := ⟨2, ![8192, 9216]⟩
abbrev S1x1024 : Shape := ⟨2, ![1, 1024]⟩
abbrev S8x128x128 : Shape := ⟨3, ![8, 128, 128]⟩
abbrev S8x128x1 : Shape := ⟨3, ![8, 128, 1]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 94
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S1x1024, .f32⟩
  | .hbm, ⟨2, _⟩ => ⟨S8x128x128, .f32⟩
  | .hbm, ⟨3, _⟩ => ⟨S8x128x1, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S64x128x8x128, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S_, .f32⟩
  | .hbm, ⟨71, _⟩ => ⟨S8x128x128, .i1⟩
  | .hbm, ⟨72, _⟩ => ⟨S8x128x128, .f32⟩
  | .hbm, ⟨73, _⟩ => ⟨S8x128x128, .f32⟩
  | .hbm, ⟨74, _⟩ => ⟨S8x64x128x128, .f32⟩
  | .hbm, ⟨75, _⟩ => ⟨S64x128x8x128, .f32⟩
  | .hbm, ⟨76, _⟩ => ⟨S8x128, .f32⟩
  | .hbm, ⟨77, _⟩ => ⟨S128x8, .f32⟩
  | .hbm, ⟨78, _⟩ => ⟨S1x128x8x1, .f32⟩
  | .hbm, ⟨79, _⟩ => ⟨S64x128x8x128, .f32⟩
  | .hbm, ⟨80, _⟩ => ⟨S64x128x8x128, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .bf16⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_v42 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩

abbrev nD : Nat := 1
abbrev τ : Topo := Topo.v7x

variable {F : FTy → Type} [FloatOps F]
-- ==== NormIn.lean ====
abbrev S8x128 : Shape := ⟨2, ![8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== NormInStepIdeal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormV.lean ====
abbrev S8x128 : Shape := ⟨2, ![8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== NormVStepIdeal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormFinal.lean ====
abbrev S8x128 : Shape := ⟨2, ![8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== NormFinalStepIdeal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Spatial.lean ====
abbrev S1024x128 : Shape := ⟨2, ![1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SpatialIdeal.lean ====
abbrev S1024x128 : Shape := ⟨2, ![1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SpatialStepIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Bias.lean ====
abbrev S8x128 : Shape := ⟨2, ![8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== BiasStepIdeal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Proto.lean ====
/-
  The exchange of the partial gradients, as a protocol. Every device holds four arrays of eight slots, one slot per
  device, and four result arrays of the same shapes. Device `c` copies its own slot of each array into its own slot of
  the result on itself, and for every other device `d` sends slot `d` of each array into slot `c` of the result on `d`.
  So slot `s` of the result on device `d` ends up with slot `d` of the array on device `s`.

  Nobody asks for permission: a result slot is written exactly once, by one device known in advance, so the slot is
  given to that device before anything runs. A device only waits for what arrives (28 receive semaphores), for what it
  sent to have left (28 send semaphores) and for its own four local copies.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ViewIndex
public import Idealize.ShloMosaic.Lib.Tactic

@[expose] public section

set_option Elab.async false

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The two ghost states: the staging semaphores of the optimiser's kernels, and the exchange's semaphores. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Peers -/

/-- The device reached from `c` by flipping the mesh axes that the bits of `k + 1` name. -/
def peer (c : Dev nD) (k : Fin 7) : Dev nD := ⟨c.val ^^^ (k.val + 1), by revert c k; decide +kernel⟩

theorem peer_peer (c : Dev nD) (k : Fin 7) : peer (peer c k) k = c := by revert c k; decide +kernel
theorem peer_ne (c : Dev nD) (k : Fin 7) : peer c k ≠ c := by revert c k; decide +kernel
theorem peer_inj (c : Dev nD) : Function.Injective (peer c) := by revert c; decide +kernel

/-- Flipping by `k + 1` as a permutation of the devices. -/
def flip (k : Fin 7) : Dev nD ≃ Dev nD := ⟨fun c => peer c k, fun c => peer c k, fun c => peer_peer c k, fun c => peer_peer c k⟩

/-- The devices are oneself and the seven peers. -/
theorem univ_eq (c : Dev nD) : (Finset.univ : Finset (Dev nD)) = insert c (Finset.univ.image (peer c)) := by revert c; decide +kernel

/-! ## The arrays and their slots -/

abbrev Sh3 (r k : ℕ) : Shape := ⟨3, ![8, r, k]⟩
abbrev Sh1 (r k : ℕ) : Shape := ⟨3, ![1, r, k]⟩
abbrev Sh2 (r k : ℕ) : Shape := ⟨2, ![r, k]⟩

/-- The rows and columns of one slot of the four arrays. -/
def rr : Fin 4 → ℕ | 0 => 1024 | _ => 128
def kk : Fin 4 → ℕ | 0 => 1152 | _ => 1024

/-- The four arrays of partial gradients and the four arrays they are scattered into. -/
def inM : (a : Fin 4) → Memref sig .tc .hbm (Sh3 (rr a) (kk a)) .f32
  | 0 => Memref.whole main_arg0 | 1 => Memref.whole main_arg1 | 2 => Memref.whole main_arg2 | 3 => Memref.whole main_arg3
def outM : (a : Fin 4) → Memref sig .tc .hbm (Sh3 (rr a) (kk a)) .f32
  | 0 => Memref.whole main_v1_0 | 1 => Memref.whole main_v1_1 | 2 => Memref.whole main_v1_2 | 3 => Memref.whole main_v1_3

theorem sq : (a : Fin 4) → (Sh1 (rr a) (kk a)).Squeezes (Sh2 (rr a) (kk a))
  | 0 => squeezes_S1x1024x1152_S1024x1152 | 1 => squeezes_S1x128x1024_S128x1024
  | 2 => squeezes_S1x128x1024_S128x1024 | 3 => squeezes_S1x128x1024_S128x1024

theorem slot_inb (r k : ℕ) (s : Dev nD) : ∀ a, (![s.val, 0, 0] : Fin 3 → ℕ) a + (Sh1 r k).size a ≤ (Sh3 r k).size a := by
  have hs : s.val < 8 := s.isLt
  intro a; fin_cases a <;> simp [Sh1, Sh3] ; omega

/-- One slot of an array, as the kernel names it: a slice of one slot with the unit axis dropped. -/
abbrev pc {r k : ℕ} (M : Memref sig .tc .hbm (Sh3 r k) .f32) (off : Fin 3 → ℕ) (inb : ∀ a, off a + (Sh1 r k).size a ≤ (Sh3 r k).size a)
    (hq : (Sh1 r k).Squeezes (Sh2 r k)) : Memref sig .tc .hbm (Sh2 r k) .f32 :=
  (M.slice (Rect.unit (s := Sh3 r k) off (Sh1 r k).size inb) (fun _ => rfl)).squeeze (Sh2 r k) hq

abbrev pI (a : Fin 4) (s : Dev nD) : Memref sig .tc .hbm (Sh2 (rr a) (kk a)) .f32 := pc (inM a) ![s.val, 0, 0] (slot_inb _ _ s) (sq a)
abbrev pO (a : Fin 4) (s : Dev nD) : Memref sig .tc .hbm (Sh2 (rr a) (kk a)) .f32 := pc (outM a) ![s.val, 0, 0] (slot_inb _ _ s) (sq a)

/-- What one slot of array `a` credits a semaphore. -/
def amt (a : Fin 4) : ℕ := (pO a 0).view.dmaCredit
theorem amt_pos (a : Fin 4) : 0 < amt a := by
  refine View.dmaCredit_pos _ ?_
  fin_cases a <;> decide
theorem amt_out (a : Fin 4) (s : Dev nD) : (pO a s).view.dmaCredit = amt a := rfl
theorem amt_in (a : Fin 4) (s : Dev nD) : (pI a s).view.dmaCredit = amt a := by fin_cases a <;> rfl

/-! ## Contents -/

variable (m : (ℓ : Loc nD τ sig) → Buf (Elt F) ℓ)

/-- The array `a` of device `d` at launch. -/
def inB (a : Fin 4) (d : Dev nD) : Buf (Elt F) ((inM a).view.loc (d : Thread nD τ)) := m _

/-- Slot `s` of the result on device `d` is slot `d` of the array on device `s`. -/
def gathOf {r k : ℕ} {α : Type} (f : Dev nD → (Sh3 r k).Idx → α) (d : Dev nD) : (Sh3 r k).Idx → α :=
  fun i => f (i 0) (Function.update i (0 : Fin 3) d)

def gath : (a : Fin 4) → (d : Dev nD) → Buf (Elt F) ((outM a).view.loc (d : Thread nD τ))
  | 0, d => gathOf (r := 1024) (k := 1152) (α := Elt F .f32) (fun s => m ((s : Thread nD τ).loc main_arg0)) d
  | 1, d => gathOf (r := 128) (k := 1024) (α := Elt F .f32) (fun s => m ((s : Thread nD τ).loc main_arg1)) d
  | 2, d => gathOf (r := 128) (k := 1024) (α := Elt F .f32) (fun s => m ((s : Thread nD τ).loc main_arg2)) d
  | 3, d => gathOf (r := 128) (k := 1024) (α := Elt F .f32) (fun s => m ((s : Thread nD τ).loc main_arg3)) d

theorem unit_emb_val {r k : ℕ} (s : Dev nD) (y : (Sh1 r k).Idx) :
    (((Rect.unit (s := Sh3 r k) ![s.val, 0, 0] (Sh1 r k).size (slot_inb r k s)).emb y) 0).val = s.val
    ∧ (((Rect.unit (s := Sh3 r k) ![s.val, 0, 0] (Sh1 r k).size (slot_inb r k s)).emb y) 1).val = (y 1).val
    ∧ (((Rect.unit (s := Sh3 r k) ![s.val, 0, 0] (Sh1 r k).size (slot_inb r k s)).emb y) 2).val = (y 2).val := by
  have h0 : (y 0).val < 1 := (y 0).isLt
  refine ⟨?_, ?_, ?_⟩ <;> rw [Rect.emb_apply] <;> simp [Rect.off_unit, Rect.stride_unit] <;> omega

theorem gathOf_emb {r k : ℕ} {α : Type} (f : Dev nD → (Sh3 r k).Idx → α) (c d : Dev nD) (y : (Sh1 r k).Idx) :
    gathOf f d ((Rect.unit (s := Sh3 r k) ![c.val, 0, 0] (Sh1 r k).size (slot_inb r k c)).emb y)
      = f c ((Rect.unit (s := Sh3 r k) ![d.val, 0, 0] (Sh1 r k).size (slot_inb r k d)).emb y) := by
  obtain ⟨a0, a1, a2⟩ := unit_emb_val c y
  obtain ⟨b0, b1, b2⟩ := unit_emb_val d y
  unfold gathOf
  have e0 : ((Rect.unit (s := Sh3 r k) ![c.val, 0, 0] (Sh1 r k).size (slot_inb r k c)).emb y) 0 = c := Fin.ext a0
  rw [e0]
  refine congrArg (f c) (funext fun b => Fin.ext ?_)
  fin_cases b
  · exact b0.symm
  · exact a1.trans b1.symm
  · exact a2.trans b2.symm

/-- The slot that lands is the slot that was sent. -/
theorem read_gath (a : Fin 4) (c d : Dev nD) : (pO a c).view.read (Elt F) (gath m a d) = (pI a d).view.read (Elt F) (inB m a c) := by
  funext x
  match a with
  | 0 => exact gathOf_emb (r := 1024) (k := 1152) (α := Elt F .f32) (fun s => m ((s : Thread nD τ).loc main_arg0)) c d _
  | 1 => exact gathOf_emb (r := 128) (k := 1024) (α := Elt F .f32) (fun s => m ((s : Thread nD τ).loc main_arg1)) c d _
  | 2 => exact gathOf_emb (r := 128) (k := 1024) (α := Elt F .f32) (fun s => m ((s : Thread nD τ).loc main_arg2)) c d _
  | 3 => exact gathOf_emb (r := 128) (k := 1024) (α := Elt F .f32) (fun s => m ((s : Thread nD τ).loc main_arg3)) c d _

theorem land {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  subst h
  rw [View.write_read_eq_piecewise]; exact Finset.piecewise_eq_of_mem _ _ _ hi

/-! ## Points-tos -/

/-- Slot `s` of the array `a` on device `d`, at its launch contents. -/
def inP (a : Fin 4) (d s : Dev nD) : sProp 𝕄 := (pI a s).view.loc (d : Thread nD τ) ↦[(pI a s).view.set]{fullShare} inB m a d
/-- Slot `s` of the result `a` on device `d`, at given contents. -/
def outP (a : Fin 4) (d s : Dev nD) (f : Buf (Elt F) ((outM a).view.loc (d : Thread nD τ))) : sProp 𝕄 :=
  (pO a s).view.loc (d : Thread nD τ) ↦[(pO a s).view.set]{fullShare} f
/-- Slot `s` of the result `a` on device `d` at whatever it holds. -/
def outE (a : Fin 4) (d s : Dev nD) : sProp 𝕄 := iprop(∃ f, outP (F := F) a d s f)

omit [FloatOps F] in
instance inP_storable (a : Fin 4) (d s : Dev nD) : BI.Storable (upEmb : UEmb _ 𝕄) (inP (F := F) m a d s) := by unfold inP; infer_instance
omit [FloatOps F] in
instance outP_storable (a : Fin 4) (d s : Dev nD) (f) : BI.Storable (upEmb : UEmb _ 𝕄) (outP (F := F) a d s f) := by unfold outP; infer_instance

/-! ## The cells -/

/-- The 60 semaphores of the exchange: 28 to send with, 28 to receive with, 4 for the local copies. -/
def smm (j : Fin 60) : DmaSem sig := ⟨j.val, lt_trans j.isLt (by decide)⟩
theorem smm_inj : Function.Injective smm := fun i j h => Fin.ext (show i.val = j.val from congrArg (fun x : DmaSem sig => x.val) h)

abbrev osem (j : Fin 60) : SemLoc sig := .dma (smm j)
abbrev cell (c : Dev nD) (j : Fin 60) : GSem nD τ sig := ((c : Thread nD τ), osem j)
abbrev kcell (ck : Dev nD × Fin 60) : GSem nD τ sig := cell ck.1 ck.2

def sC (a : Fin 4) (k : Fin 7) : Fin 60 := ⟨7 * a.val + k.val, by omega⟩
def rC (a : Fin 4) (k : Fin 7) : Fin 60 := ⟨28 + (7 * a.val + k.val), by omega⟩
def lC (a : Fin 4) : Fin 60 := ⟨56 + a.val, by omega⟩

/-- Which of the three a semaphore is. -/
inductive Role | send (a : Fin 4) (k : Fin 7) | recv (a : Fin 4) (k : Fin 7) | loc (a : Fin 4)

def role (j : Fin 60) : Role :=
  if h : j.val < 28 then .send ⟨j.val / 7, by omega⟩ ⟨j.val % 7, by omega⟩
  else if h : j.val < 56 then .recv ⟨(j.val - 28) / 7, by omega⟩ ⟨(j.val - 28) % 7, by omega⟩
  else .loc ⟨j.val - 56, by omega⟩

theorem role_sC (a : Fin 4) (k : Fin 7) : role (sC a k) = .send a k := by fin_cases a <;> fin_cases k <;> rfl
theorem role_rC (a : Fin 4) (k : Fin 7) : role (rC a k) = .recv a k := by fin_cases a <;> fin_cases k <;> rfl
theorem role_lC (a : Fin 4) : role (lC a) = .loc a := by fin_cases a <;> rfl

def roleAmt : Role → ℕ | .send a _ => amt a | .recv a _ => amt a | .loc a => amt a
/-- What a semaphore's one instalment hands its owner `c`. -/
def rolePay (c : Dev nD) : Role → sProp 𝕄
  | .send a k => inP m a c (peer c k)
  | .recv a k => outP a c (peer c k) (gath m a c)
  | .loc a => iprop(inP m a c c ∗ outP a c c (gath m a c))

def am (j : Fin 60) : ℕ := roleAmt (role j)
def pay (c : Dev nD) (j : Fin 60) : sProp 𝕄 := rolePay m c (role j)
theorem am_pos (j : Fin 60) : 0 < am j := by unfold am roleAmt; split <;> exact amt_pos _

omit [FloatOps F] in
instance pay_storable (c : Dev nD) (j : Fin 60) : BI.Storable (upEmb : UEmb _ 𝕄) (pay (F := F) m c j) := by
  unfold pay rolePay; split <;> infer_instance

/-! ## The schedule -/

abbrev IsOurs (g : GSem nD τ sig) : Prop := g.1.2 = .tc ∧ ∃ j, g.2 = osem j

open Classical in
/-- Each of the 60 semaphores of a device takes one instalment, in round 0. -/
def Rd : Rounds.Schedule (GSem nD τ sig) Unit 𝕄 where
  duties g r := if r = 0 ∧ IsOurs g then {()} else ∅
  unitless _ := False
  amount g _ _ := if h : IsOurs g then am h.2.choose else 1
  payload g _ _ := if h : IsOurs g then pay m g.1.1 h.2.choose else iprop(emp)
  amount_pos g _ _ _ := by
    by_cases h : IsOurs g
    · rw [dif_pos h]; exact am_pos _
    · rw [dif_neg h]; exact Nat.one_pos

omit [FloatOps F] in
instance Rd_payload_storable (g : GSem nD τ sig) (r : ℕ) (d : Unit) : BI.Storable (upEmb : UEmb _ 𝕄) ((Rd (F := F) m).payload g r d) := by
  unfold Rd; dsimp only; split <;> infer_instance

theorem ours (c : Dev nD) (j : Fin 60) : IsOurs (cell c j) := ⟨rfl, j, rfl⟩
theorem ours_choose (c : Dev nD) (j : Fin 60) (h : ∃ i, (cell c j).2 = osem i) : h.choose = j := by
  have hs := h.choose_spec
  have : smm j = smm h.choose := by injection hs
  exact (smm_inj this).symm

section Sched
variable (c : Dev nD) (j : Fin 60)

omit [FloatOps F] in
theorem duties_eq : (Rd (F := F) m).duties (cell c j) 0 = {()} := by dsimp only [Rd]; exact if_pos ⟨rfl, ours c j⟩
omit [FloatOps F] in
theorem duties_later (g : GSem nD τ sig) : ∀ r, 1 ≤ r → (Rd (F := F) m).duties g r = ∅ :=
  fun r hr => by dsimp only [Rd]; exact if_neg fun h => by omega
omit [FloatOps F] in
theorem mem_duties : () ∈ (Rd (F := F) m).duties (cell c j) 0 := by rw [duties_eq]; exact Finset.mem_singleton_self _
omit [FloatOps F] in
theorem amount_eq (u : Unit) : (Rd (F := F) m).amount (cell c j) 0 u = am j := by
  dsimp only [Rd]; rw [dif_pos (ours c j), ours_choose]
omit [FloatOps F] in
theorem payload_eq (u : Unit) : (Rd (F := F) m).payload (cell c j) 0 u = pay m c j := by
  dsimp only [Rd]; rw [dif_pos (ours c j), ours_choose]
omit [FloatOps F] in
theorem expect_eq : (Rd (F := F) m).expect (cell c j) 0 = am j := by
  unfold Schedule.expect Schedule.amountOf; rw [duties_eq, Finset.sum_singleton, amount_eq]
omit [FloatOps F] in
theorem rest_eq : bigSep ((Rd (F := F) m).duties (cell c j) 0 \ ∅) (fun u => (Rd (F := F) m).payload (cell c j) 0 u) = pay m c j := by
  rw [Finset.sdiff_empty, duties_eq, bigSep_singleton, payload_eq]

end Sched

theorem am_sC (a : Fin 4) (k : Fin 7) : am (sC a k) = amt a := by unfold am; rw [role_sC]; rfl
theorem am_rC (a : Fin 4) (k : Fin 7) : am (rC a k) = amt a := by unfold am; rw [role_rC]; rfl
theorem am_lC (a : Fin 4) : am (lC a) = amt a := by unfold am; rw [role_lC]; rfl
omit [FloatOps F] in
theorem pay_sC (c : Dev nD) (a : Fin 4) (k : Fin 7) : pay (F := F) m c (sC a k) = inP m a c (peer c k) := by unfold pay; rw [role_sC]; rfl
omit [FloatOps F] in
theorem pay_rC (c : Dev nD) (a : Fin 4) (k : Fin 7) : pay (F := F) m c (rC a k) = outP a c (peer c k) (gath m a c) := by unfold pay; rw [role_rC]; rfl
omit [FloatOps F] in
theorem pay_lC (c : Dev nD) (a : Fin 4) : pay (F := F) m c (lC a) = iprop(inP m a c c ∗ outP a c c (gath m a c)) := by unfold pay; rw [role_lC]; rfl

/-! ## What a device owes; the levels -/

def L (g : GSem nD τ sig) : Finset Unit := if g.1.2 = .tc then {()} else ∅
def lv (_ : GSem nD τ sig) (_ : Unit) : ℕ := 0
theorem L_of_ne (g : GSem nD τ sig) (h : g.1.2 ≠ .tc) : L g = ∅ := if_neg h

/-- The array and the peer of the `j`-th transfer. -/
def aOf (j : Fin 28) : Fin 4 := ⟨j.val / 7, by omega⟩
def kOf (j : Fin 28) : Fin 7 := ⟨j.val % 7, by omega⟩
def rOf (j : Fin 28) : Fin 60 := ⟨28 + j.val, by omega⟩
def sOf (j : Fin 28) : Fin 60 := ⟨j.val, by omega⟩
theorem rOf_eq (j : Fin 28) : rOf j = rC (aOf j) (kOf j) := by
  apply Fin.ext; show 28 + j.val = 28 + (7 * (j.val / 7) + j.val % 7); rw [Nat.div_add_mod]
theorem sOf_eq (j : Fin 28) : sOf j = sC (aOf j) (kOf j) := by
  apply Fin.ext; show j.val = 7 * (j.val / 7) + j.val % 7; rw [Nat.div_add_mod]

/-- What the `j`-th transfer of device `c` owes its target. -/
def tal (c : Dev nD) (j : Fin 28) : CellTallies nD τ sig Unit := tallyAt (cell (peer c (kOf j)) (rOf j)) () (am (rOf j))
/-- What device `c` owes before its `n`-th transfer. -/
def O (c : Dev nD) (n : ℕ) : CellTallies nD τ sig Unit := ∑ j ∈ Finset.univ.filter (fun j : Fin 28 => n ≤ j.val), tal c j

theorem filter_step {N : ℕ} (n : ℕ) (h : n < N) :
    Finset.univ.filter (fun j : Fin N => n ≤ j.val) = insert ⟨n, h⟩ (Finset.univ.filter fun j : Fin N => n + 1 ≤ j.val) := by
  ext j; simp only [Finset.mem_filter, Finset.mem_univ, true_and, Finset.mem_insert, Fin.ext_iff]; omega
theorem filter_lt_step {N : ℕ} (n : ℕ) (h : n < N) :
    Finset.univ.filter (fun j : Fin N => j.val < n + 1) = insert ⟨n, h⟩ (Finset.univ.filter fun j : Fin N => j.val < n) := by
  ext j; simp only [Finset.mem_filter, Finset.mem_univ, true_and, Finset.mem_insert, Fin.ext_iff]; omega

theorem O_step (c : Dev nD) (n : ℕ) (h : n < 28) : O c n = O c (n + 1) + tal c ⟨n, h⟩ := by
  unfold O
  rw [filter_step n h, Finset.sum_insert (by simp), add_comm]
theorem O_end (c : Dev nD) : O c 28 = 0 := by
  unfold O
  rw [Finset.filter_false_of_mem (fun j _ => by omega), Finset.sum_empty]

/-! ## A list of things to do, some of them done -/

/-- The first `n` of `N` things are done. -/
def Two {N : ℕ} (A B : Fin N → sProp 𝕄) (n : ℕ) : sProp 𝕄 :=
  iprop((bigSep (Finset.univ.filter fun j : Fin N => n ≤ j.val) A) ∗ bigSep (Finset.univ.filter fun j : Fin N => j.val < n) B)

omit [FloatOps F] in
theorem two_start {N : ℕ} (A B : Fin N → sProp 𝕄) : bigSep Finset.univ A ⊢ Two A B 0 := by
  unfold Two
  rw [Finset.filter_true_of_mem (fun j _ => Nat.zero_le _), Finset.filter_false_of_mem (fun j _ => Nat.not_lt_zero _), bigSep_empty]
  iintro H
  isplitl [H]; · iexact H
  iempintro

omit [FloatOps F] in
theorem two_end {N : ℕ} (A B : Fin N → sProp 𝕄) : Two A B N ⊢ bigSep Finset.univ B := by
  unfold Two
  rw [Finset.filter_true_of_mem (p := fun j : Fin N => j.val < N) (fun j _ => j.isLt)]
  iintro ⟨-, H⟩
  iexact H

omit [FloatOps F] in
theorem two_step {N : ℕ} (A B : Fin N → sProp 𝕄) (n : ℕ) (h : n < N) :
    Two A B n ⊢ iprop(A ⟨n, h⟩ ∗ (B ⟨n, h⟩ -∗ Two A B (n + 1))) := by
  unfold Two
  rw [filter_step n h, filter_lt_step n h, bigSep_insert (by simp), bigSep_insert (by simp)]
  show iprop((A ⟨n, h⟩ ∗ bigSep _ A) ∗ bigSep _ B) ⊢ iprop(A ⟨n, h⟩ ∗ (B ⟨n, h⟩ -∗ (bigSep _ A) ∗ (B ⟨n, h⟩ ∗ bigSep _ B)))
  iintro ⟨⟨H1, H2⟩, H3⟩
  isplitl [H1]; · iexact H1
  iintro H4
  isplitl [H2]; · iexact H2
  isplitl [H4] <;> iassumption

end Cert.Exchange

end
-- ==== Proof.Steps.lean ====
/-
  The exchange's operations, each as one step on what a device holds: starting a local copy, starting a transfer to a
  peer, waiting for a semaphore. A device keeps three lists — local copies, transfers, waits — and each operation ticks
  off the next entry of its list.
-/
module

public import proofs.«01_k».proof.Proof.Proto

@[expose] public section

set_option Elab.async false

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Fin 60 → ℕ)

/-! ## What every device knows -/

def records : sProp 𝕄 :=
  iprop((bigSep Finset.univ fun ck : Dev nD × Fin 60 => cellInv ER (Rd m) (K ck) (kcell ck))
    ∗ bigSep Finset.univ fun ck : Dev nD × Fin 60 => reached ER (kcell ck) 0)
instance records_persistent : BI.Persistent (records m K) := by unfold records; infer_instance

theorem inv_at (c : Dev nD) (j : Fin 60) : records m K ⊢ cellInv ER (Rd m) (K (c, j)) (cell c j) := by
  have h : (bigSep Finset.univ fun ck : Dev nD × Fin 60 => (cellInv ER (Rd m) (K ck) (kcell ck) : sProp 𝕄)) ⊢ cellInv ER (Rd m) (K (c, j)) (cell c j) :=
    bigSep_elim (Finset.mem_univ (c, j))
  unfold records
  iintro ⟨H, -⟩
  iapply h; iexact H
theorem reached_at (c : Dev nD) (j : Fin 60) : records m K ⊢ reached ER (cell c j) 0 := by
  have h : (bigSep Finset.univ fun ck : Dev nD × Fin 60 => (reached ER (kcell ck) 0 : sProp 𝕄)) ⊢ reached ER (cell c j) 0 :=
    bigSep_elim (Finset.mem_univ (c, j))
  unfold records
  iintro ⟨-, H⟩
  iapply h; iexact H

/-! ## The three lists -/

def locPre (c : Dev nD) (a : Fin 4) : sProp 𝕄 := iprop(inP m a c c ∗ outE a c c ∗ dutyTok ER (cell c (lC a)) 0 ())
def locPost (c : Dev nD) (a : Fin 4) : sProp 𝕄 := cred (tallyAt (cell c (lC a)) () (am (lC a)))

def sendPre (c : Dev nD) (j : Fin 28) : sProp 𝕄 :=
  iprop(inP m (aOf j) c (peer c (kOf j)) ∗ outE (aOf j) (peer c (kOf j)) c
    ∗ dutyTok ER (cell c (sOf j)) 0 () ∗ dutyTok ER (cell (peer c (kOf j)) (rOf j)) 0 ())
def sendPost (c : Dev nD) (j : Fin 28) : sProp 𝕄 := cred (tallyAt (cell c (sOf j)) () (am (sOf j)))

/-- The order of the waits: receives, sends, local copies. -/
def ord (i : Fin 60) : Fin 60 := if i.val < 28 then ⟨(28 + i.val) % 60, by omega⟩ else if i.val < 56 then ⟨i.val - 28, by omega⟩ else i

def waitPre (c : Dev nD) (i : Fin 60) : sProp 𝕄 := iprop(cred (tallyAt (cell c (ord i)) () (am (ord i))) ∗ atPos ER (cell c (ord i)) 0 ∅ 0)
def waitPost (c : Dev nD) (i : Fin 60) : sProp 𝕄 := iprop(pay m c (ord i) ∗ semVal (cell c (ord i)) 0)

def LS (c : Dev nD) (n : ℕ) : sProp 𝕄 := Two (locPre m c) (locPost c) n
def SS (c : Dev nD) (n : ℕ) : sProp 𝕄 := iprop(Two (sendPre m c) (sendPost c) n ∗ owes (c : Thread nD τ) (O c n) ∅)
def WS (c : Dev nD) (n : ℕ) : sProp 𝕄 := iprop(Two (waitPre c) (waitPost m c) n ∗ ∃ W, owes (c : Thread nD τ) 0 W)

/-! ## The steps -/

theorem pc_congr {r k : ℕ} (M : Memref sig .tc .hbm (Sh3 r k) .f32) {off off' : Fin 3 → ℕ} (h : off = off')
    (i : ∀ a, off a + (Sh1 r k).size a ≤ (Sh3 r k).size a) (i' : ∀ a, off' a + (Sh1 r k).size a ≤ (Sh3 r k).size a)
    (hq : (Sh1 r k).Squeezes (Sh2 r k)) : pc M off i hq = pc M off' i' hq := by subst h; rfl

/-! ## The slots as the kernel names them -/

theorem slotI0 (s : Dev nD) {off : Fin 3 → ℕ} (h : off = ![s.val, 0, 0]) (i : ∀ a, off a + (Sh1 1024 1152).size a ≤ (Sh3 1024 1152).size a) :
    pc (r := 1024) (k := 1152) (Memref.whole main_arg0) off i squeezes_S1x1024x1152_S1024x1152 = pI 0 s := pc_congr _ h _ _ _
theorem credI0 (s : Dev nD) {off : Fin 3 → ℕ} (h : off = ![s.val, 0, 0]) (i : ∀ a, off a + (Sh1 1024 1152).size a ≤ (Sh3 1024 1152).size a) :
    (pc (r := 1024) (k := 1152) (Memref.whole main_arg0) off i squeezes_S1x1024x1152_S1024x1152).view.dmaCredit = amt 0 :=
  (congrArg (fun v : Memref sig .tc .hbm (Sh2 1024 1152) .f32 => v.view.dmaCredit) (slotI0 s h i)).trans (amt_in 0 s)
theorem slotO0 (s : Dev nD) {off : Fin 3 → ℕ} (h : off = ![s.val, 0, 0]) (i : ∀ a, off a + (Sh1 1024 1152).size a ≤ (Sh3 1024 1152).size a) :
    pc (r := 1024) (k := 1152) (Memref.whole main_v1_0) off i squeezes_S1x1024x1152_S1024x1152 = pO 0 s := pc_congr _ h _ _ _
theorem credO0 (s : Dev nD) {off : Fin 3 → ℕ} (h : off = ![s.val, 0, 0]) (i : ∀ a, off a + (Sh1 1024 1152).size a ≤ (Sh3 1024 1152).size a) :
    (pc (r := 1024) (k := 1152) (Memref.whole main_v1_0) off i squeezes_S1x1024x1152_S1024x1152).view.dmaCredit = amt 0 :=
  (congrArg (fun v : Memref sig .tc .hbm (Sh2 1024 1152) .f32 => v.view.dmaCredit) (slotO0 s h i)).trans (amt_out 0 s)
theorem slotI1 (s : Dev nD) {off : Fin 3 → ℕ} (h : off = ![s.val, 0, 0]) (i : ∀ a, off a + (Sh1 128 1024).size a ≤ (Sh3 128 1024).size a) :
    pc (r := 128) (k := 1024) (Memref.whole main_arg1) off i squeezes_S1x128x1024_S128x1024 = pI 1 s := pc_congr _ h _ _ _
theorem credI1 (s : Dev nD) {off : Fin 3 → ℕ} (h : off = ![s.val, 0, 0]) (i : ∀ a, off a + (Sh1 128 1024).size a ≤ (Sh3 128 1024).size a) :
    (pc (r := 128) (k := 1024) (Memref.whole main_arg1) off i squeezes_S1x128x1024_S128x1024).view.dmaCredit = amt 1 :=
  (congrArg (fun v : Memref sig .tc .hbm (Sh2 128 1024) .f32 => v.view.dmaCredit) (slotI1 s h i)).trans (amt_in 1 s)
theorem slotO1 (s : Dev nD) {off : Fin 3 → ℕ} (h : off = ![s.val, 0, 0]) (i : ∀ a, off a + (Sh1 128 1024).size a ≤ (Sh3 128 1024).size a) :
    pc (r := 128) (k := 1024) (Memref.whole main_v1_1) off i squeezes_S1x128x1024_S128x1024 = pO 1 s := pc_congr _ h _ _ _
theorem credO1 (s : Dev nD) {off : Fin 3 → ℕ} (h : off = ![s.val, 0, 0]) (i : ∀ a, off a + (Sh1 128 1024).size a ≤ (Sh3 128 1024).size a) :
    (pc (r := 128) (k := 1024) (Memref.whole main_v1_1) off i squeezes_S1x128x1024_S128x1024).view.dmaCredit = amt 1 :=
  (congrArg (fun v : Memref sig .tc .hbm (Sh2 128 1024) .f32 => v.view.dmaCredit) (slotO1 s h i)).trans (amt_out 1 s)
theorem slotI2 (s : Dev nD) {off : Fin 3 → ℕ} (h : off = ![s.val, 0, 0]) (i : ∀ a, off a + (Sh1 128 1024).size a ≤ (Sh3 128 1024).size a) :
    pc (r := 128) (k := 1024) (Memref.whole main_arg2) off i squeezes_S1x128x1024_S128x1024 = pI 2 s := pc_congr _ h _ _ _
theorem credI2 (s : Dev nD) {off : Fin 3 → ℕ} (h : off = ![s.val, 0, 0]) (i : ∀ a, off a + (Sh1 128 1024).size a ≤ (Sh3 128 1024).size a) :
    (pc (r := 128) (k := 1024) (Memref.whole main_arg2) off i squeezes_S1x128x1024_S128x1024).view.dmaCredit = amt 2 :=
  (congrArg (fun v : Memref sig .tc .hbm (Sh2 128 1024) .f32 => v.view.dmaCredit) (slotI2 s h i)).trans (amt_in 2 s)
theorem slotO2 (s : Dev nD) {off : Fin 3 → ℕ} (h : off = ![s.val, 0, 0]) (i : ∀ a, off a + (Sh1 128 1024).size a ≤ (Sh3 128 1024).size a) :
    pc (r := 128) (k := 1024) (Memref.whole main_v1_2) off i squeezes_S1x128x1024_S128x1024 = pO 2 s := pc_congr _ h _ _ _
theorem credO2 (s : Dev nD) {off : Fin 3 → ℕ} (h : off = ![s.val, 0, 0]) (i : ∀ a, off a + (Sh1 128 1024).size a ≤ (Sh3 128 1024).size a) :
    (pc (r := 128) (k := 1024) (Memref.whole main_v1_2) off i squeezes_S1x128x1024_S128x1024).view.dmaCredit = amt 2 :=
  (congrArg (fun v : Memref sig .tc .hbm (Sh2 128 1024) .f32 => v.view.dmaCredit) (slotO2 s h i)).trans (amt_out 2 s)
theorem slotI3 (s : Dev nD) {off : Fin 3 → ℕ} (h : off = ![s.val, 0, 0]) (i : ∀ a, off a + (Sh1 128 1024).size a ≤ (Sh3 128 1024).size a) :
    pc (r := 128) (k := 1024) (Memref.whole main_arg3) off i squeezes_S1x128x1024_S128x1024 = pI 3 s := pc_congr _ h _ _ _
theorem credI3 (s : Dev nD) {off : Fin 3 → ℕ} (h : off = ![s.val, 0, 0]) (i : ∀ a, off a + (Sh1 128 1024).size a ≤ (Sh3 128 1024).size a) :
    (pc (r := 128) (k := 1024) (Memref.whole main_arg3) off i squeezes_S1x128x1024_S128x1024).view.dmaCredit = amt 3 :=
  (congrArg (fun v : Memref sig .tc .hbm (Sh2 128 1024) .f32 => v.view.dmaCredit) (slotI3 s h i)).trans (amt_in 3 s)
theorem slotO3 (s : Dev nD) {off : Fin 3 → ℕ} (h : off = ![s.val, 0, 0]) (i : ∀ a, off a + (Sh1 128 1024).size a ≤ (Sh3 128 1024).size a) :
    pc (r := 128) (k := 1024) (Memref.whole main_v1_3) off i squeezes_S1x128x1024_S128x1024 = pO 3 s := pc_congr _ h _ _ _
theorem credO3 (s : Dev nD) {off : Fin 3 → ℕ} (h : off = ![s.val, 0, 0]) (i : ∀ a, off a + (Sh1 128 1024).size a ≤ (Sh3 128 1024).size a) :
    (pc (r := 128) (k := 1024) (Memref.whole main_v1_3) off i squeezes_S1x128x1024_S128x1024).view.dmaCredit = amt 3 :=
  (congrArg (fun v : Memref sig .tc .hbm (Sh2 128 1024) .f32 => v.view.dmaCredit) (slotO3 s h i)).trans (amt_out 3 s)

/-! ## The operations -/

theorem wp_loc (c : Dev nD) (n : ℕ) (h : n < 4) (a : Fin 4) (ha : ⟨n, h⟩ = a) {src dst : Memref sig .tc .hbm (Sh2 (rr a) (kk a)) .f32}
    (hs : src = pI a c) (hd : dst = pO a c) {q : DmaSem sig} (hq : q = smm (lC a))
    {hsrc : src.view.WordExact} {hdst : dst.view.WordExact}
    {hsem : DmaTarget.Typed (nD := nD) (τ := τ) (p := .tc) .hbm (.dma q) (.here dst)}
    {α : Type} {Q : α → sProp 𝕄} {k : PUnit → Prog (TpuEff nD τ sig (Elt F) Λ₀ .tc) α} :
    iprop(records m K ∗ LS m c n)
      ⊢ iprop((LS m c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma q) hsrc hdst hsem) k) Q) := by
  subst ha; subst hs; subst hd; subst hq
  unfold LS
  iintro ⟨#HR, HT⟩ Hk
  ihave H := (two_step (locPre m c) (locPost c) n h) $$ HT
  unfold locPre locPost outE
  icases H with ⟨⟨Hin, ⟨%f, Hout⟩, Htok⟩, Hback⟩
  unfold inP outP
  have hN : (pO ⟨n, h⟩ c).view.amount (.dma (smm (lC ⟨n, h⟩)) : SemLoc sig) = am (lC ⟨n, h⟩) := (am_lC _).symm
  have hp : iprop(((pO ⟨n, h⟩ c).view.loc (c : Thread nD τ) ↦[(pO ⟨n, h⟩ c).view.set]{fullShare}
        ((pO ⟨n, h⟩ c).view.write (Elt F) f ((pI ⟨n, h⟩ c).view.read (Elt F) (inB m ⟨n, h⟩ c)) Finset.univ))
      ∗ ((pI ⟨n, h⟩ c).view.loc (c : Thread nD τ) ↦[(pI ⟨n, h⟩ c).view.set]{fullShare} inB m ⟨n, h⟩ c))
      ⊢ (Rd m).payload (cell c (lC ⟨n, h⟩)) 0 () := by
    rw [payload_eq, pay_lC]
    unfold inP outP
    rw [pointsTo_congr (land (pO ⟨n, h⟩ c).view f (gath m ⟨n, h⟩ c) _ (read_gath m ⟨n, h⟩ c c))]
    iintro ⟨H1, H2⟩
    isplitl [H2] <;> iassumption
  have ha := amount_eq m c (lC ⟨n, h⟩) ()
  have hm := mem_duties m c (lC ⟨n, h⟩)
  iapply (Rounds.wp_copy_pointsTo 𝒱₀ ER (Rd m) (c : Thread nD τ) none (src := pI ⟨n, h⟩ c) (dst := pO ⟨n, h⟩ c) (sem := .dma (smm (lC ⟨n, h⟩)))
      (q := fullShare) (fs := inB m ⟨n, h⟩ c) (fd := f) (κ := K (c, lC ⟨n, h⟩)) (r := 0) (d := ()) hm () (am (lC ⟨n, h⟩)) hN ha hp) $$ [Hin Hout Htok]
  · isplitr; · iapply (inv_at m K c (lC ⟨n, h⟩)); iexact HR
    isplitl [Hin]; · iexact Hin
    isplitl [Hout]; · iexact Hout
    isplitl [Htok]; · iexact Htok
    iapply (reached_at m K c (lC ⟨n, h⟩)); iexact HR
  iintro Hc
  iapply Hk
  iapply Hback
  iexact Hc

theorem wp_snd (c : Dev nD) (n : ℕ) (h : n < 28) (a : Fin 4) (p : Fin 7) (ha : aOf ⟨n, h⟩ = a) (hp : kOf ⟨n, h⟩ = p)
    {src dst : Memref sig .tc .hbm (Sh2 (rr a) (kk a)) .f32} (hs : src = pI a (peer c p)) (hd : dst = pO a c)
    {d : Dev nD} (hdv : d = peer c p) {q₁ q₂ : DmaSem sig} (hq₁ : q₁ = smm (sC a p)) (hq₂ : q₂ = smm (rC a p))
    {hsc : dst.view.ref.isScScratch = false} {hsrc : src.view.WordExact} {hdst : dst.view.WordExact}
    {hsem : DmaTarget.Typed (p := .tc) .hbm (.dma q₂) (.remote (Dev.tc d : Thread nD τ) dst (.dma q₁) hsc)}
    {α : Type} {Q : α → sProp 𝕄} {k : PUnit → Prog (TpuEff nD τ sig (Elt F) Λ₀ .tc) α} :
    iprop(records m K ∗ SS m c n)
      ⊢ iprop((SS m c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma q₁) hsc) (.dma q₂) hsrc hdst hsem) k) Q) := by
  subst ha; subst hp; rw [← sOf_eq] at hq₁; rw [← rOf_eq] at hq₂
  subst hs; subst hd; subst hdv; subst hq₁; subst hq₂
  unfold SS
  iintro ⟨#HR, HT, Ho⟩ Hk
  ihave H := (two_step (sendPre m c) (sendPost c) n h) $$ HT
  unfold sendPre sendPost outE
  icases H with ⟨⟨Hin, ⟨%f, Hout⟩, Ht1, Ht2⟩, Hback⟩
  unfold inP outP
  generalize hj : (⟨n, h⟩ : Fin 28) = j at *
  have hN : (pO (aOf j) c).view.amount (.dma (smm (rOf j)) : SemLoc sig) = am (rOf j) := by rw [rOf_eq, am_rC]; rfl
  have hp₁ : ((pI (aOf j) (peer c (kOf j))).view.loc (c : Thread nD τ) ↦[(pI (aOf j) (peer c (kOf j))).view.set]{fullShare} inB m (aOf j) c)
      ⊢ (Rd m).payload (cell c (sOf j)) 0 () := by
    rw [payload_eq, sOf_eq, pay_sC]; exact BI.Entails.refl _
  have hp₂ : ((pO (aOf j) c).view.loc (peer c (kOf j) : Thread nD τ) ↦[(pO (aOf j) c).view.set]{fullShare}
        ((pO (aOf j) c).view.write (Elt F) f ((pI (aOf j) (peer c (kOf j))).view.read (Elt F) (inB m (aOf j) c)) Finset.univ))
      ⊢ (Rd m).payload (cell (peer c (kOf j)) (rOf j)) 0 () := by
    rw [payload_eq, rOf_eq, pay_rC, peer_peer]
    unfold outP
    exact Entails.of_eq (pointsTo_congr (land (pO (aOf j) c).view f (gath m (aOf j) (peer c (kOf j))) _ (read_gath m (aOf j) c (peer c (kOf j)))))
  have ha₁ : (Rd m).amount (cell c (sOf j)) 0 () = am (rOf j) := by rw [amount_eq, rOf_eq, sOf_eq, am_rC, am_sC]
  have ha₂ : (Rd m).amount (cell (peer c (kOf j)) (rOf j)) 0 () = am (rOf j) := amount_eq m _ _ ()
  have hm₁ := mem_duties m c (sOf j)
  have hm₂ := mem_duties m (peer c (kOf j)) (rOf j)
  have hO : O c n = O c (n + 1) + tallyAt (cell (peer c (kOf j)) (rOf j)) () (am (rOf j)) := by rw [O_step c n h, hj]; rfl
  iapply (Rounds.wp_send_pointsTo 𝒱₀ ER (Rd m) (c : Thread nD τ) none (c' := (peer c (kOf j) : Thread nD τ))
      (src := pI (aOf j) (peer c (kOf j))) (dst := pO (aOf j) c) (sS := .dma (smm (sOf j))) (sem := .dma (smm (rOf j)))
      (q := fullShare) (fs := inB m (aOf j) c) (fd := f)
      (κ₁ := K (c, sOf j)) (κ₂ := K (peer c (kOf j), rOf j)) (r₁ := 0) (r₂ := 0) (d₁ := ()) (d₂ := ())
      hm₁ hm₂ () () (am (rOf j)) hN ha₁ ha₂ (O c (n + 1)) hO (W := ∅) hp₁ hp₂) $$ [Hin Hout Ho Ht1 Ht2]
  · isplitr; · iapply (inv_at m K c (sOf j)); iexact HR
    isplitr; · iapply (inv_at m K (peer c (kOf j)) (rOf j)); iexact HR
    isplitl [Hin]; · iexact Hin
    isplitl [Hout]; · iexact Hout
    isplitl [Ho]; · iexact Ho
    isplitl [Ht1]; · iexact Ht1
    isplitr; · iapply (reached_at m K c (sOf j)); iexact HR
    isplitl [Ht2]; · iexact Ht2
    iapply (reached_at m K (peer c (kOf j)) (rOf j)); iexact HR
  rw [show am (rOf j) = am (sOf j) from by rw [rOf_eq, sOf_eq, am_rC, am_sC]]
  iintro ⟨Hc, Ho⟩
  iapply Hk
  isplitl [Hback Hc]
  · iapply Hback; iexact Hc
  iexact Ho

theorem wp_wt (c : Dev nD) (n : ℕ) (h : n < 60) (j : Fin 60) (hj : ord ⟨n, h⟩ = j) {q : DmaSem sig} (hq : q = smm j)
    {s s' : Shape} {e e' : EltTy} {src : Memref sig .tc .hbm s' e'} {dst : Memref sig .tc .hbm s e} {hsrc : src.view.WordExact} {hdst : dst.view.WordExact}
    (hN : dst.view.dmaCredit = am j)
    {α : Type} {Q : α → sProp 𝕄} {k : PUnit → Prog (TpuEff nD τ sig (Elt F) Λ₀ .tc) α} :
    iprop(records m K ∗ WS m c n)
      ⊢ iprop((WS m c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hj; subst hq
  unfold WS
  iintro ⟨#HR, HT, ⟨%W, Ho⟩⟩ Hk
  ihave H := (two_step (waitPre c) (waitPost m c) n h) $$ HT
  unfold waitPre waitPost
  icases H with ⟨⟨Hc, Hat⟩, Hback⟩
  have hk : 0 + dst.view.dmaCredit = (Rd m).expect (cell c (ord ⟨n, h⟩)) 0 := by rw [Nat.zero_add, expect_eq, hN]
  iapply (Rounds.wp_wait_rest_token 𝒱₀ ER (Rd m) (c : Thread nD τ) none (κ := K (c, ord ⟨n, h⟩))
      (wpE_waitDma2_eq 𝒱₀ (c : Thread nD τ) none Set.univ) (Set.mem_univ _) () (O := 0) (W := W) (R := 0) (m := 0) (T := ∅)
      hk) $$ [Hc Ho Hat]
  · isplitr; · iapply (inv_at m K c (ord ⟨n, h⟩)); iexact HR
    isplitl [Hc]; · rw [hN]; iexact Hc
    isplitl [Ho]; · iexact Ho
    isplitr; · rw [MayWait_zero]; iempintro
    iexact Hat
  iintro ⟨Ho, Hat, -, Hpay⟩
  ihave Hp := (Entails.of_eq (rest_eq m c (ord ⟨n, h⟩))) $$ Hpay
  imod (Rounds.cell_close ER (Rd m) (Set.mem_univ (K (c, ord ⟨n, h⟩))) (fun h => h) (R := 0 + 1) (duties_later m (cell c (ord ⟨n, h⟩)))) $$ [Hat] with Hz
  · isplitr; · iapply (inv_at m K c (ord ⟨n, h⟩)); iexact HR
    iexact Hat
  iapply Hk
  isplitl [Hback Hp Hz]
  · iapply Hback
    isplitl [Hp] <;> iassumption
  iexists (insert (osem (ord ⟨n, h⟩), ()) W); iexact Ho

end Cert.Exchange

end
-- ==== Proof.Parts.lean ====
/-
  The exchange's body, part by part: each part of the printed body starts or waits for the next few transfers on the
  device's lists.
-/
module

public import proofs.«01_k».proof.Proof.Steps
public import proofs.«01_k».proof.Proof.Gen.KernelIdeal.Skeleton

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 60 → ℕ)

set_option maxRecDepth 65536
set_option maxHeartbeats 1000000

/-! ## Slots and devices named -/

theorem off1_own : ∀ c : Dev nD, k0_off1 c = ![c.val, 0, 0] := by decide +kernel
theorem off2_own : ∀ c : Dev nD, k0_off2 c = ![c.val, 0, 0] := by decide +kernel
theorem off3_peer : ∀ c : Dev nD, k0_off3 c = ![(peer c 0).val, 0, 0] := by decide +kernel
theorem off4_peer : ∀ c : Dev nD, k0_off4 c = ![(peer c 1).val, 0, 0] := by decide +kernel
theorem off5_peer : ∀ c : Dev nD, k0_off5 c = ![(peer c 2).val, 0, 0] := by decide +kernel
theorem off6_peer : ∀ c : Dev nD, k0_off6 c = ![(peer c 3).val, 0, 0] := by decide +kernel
theorem off7_peer : ∀ c : Dev nD, k0_off7 c = ![(peer c 4).val, 0, 0] := by decide +kernel
theorem off8_peer : ∀ c : Dev nD, k0_off8 c = ![(peer c 5).val, 0, 0] := by decide +kernel
theorem off9_peer : ∀ c : Dev nD, k0_off9 c = ![(peer c 6).val, 0, 0] := by decide +kernel
theorem off10_peer : ∀ c : Dev nD, k0_off10 c = ![(peer c 0).val, 0, 0] := by decide +kernel
theorem off11_peer : ∀ c : Dev nD, k0_off11 c = ![(peer c 1).val, 0, 0] := by decide +kernel
theorem off12_peer : ∀ c : Dev nD, k0_off12 c = ![(peer c 2).val, 0, 0] := by decide +kernel
theorem off13_peer : ∀ c : Dev nD, k0_off13 c = ![(peer c 3).val, 0, 0] := by decide +kernel
theorem off14_peer : ∀ c : Dev nD, k0_off14 c = ![(peer c 4).val, 0, 0] := by decide +kernel
theorem off15_peer : ∀ c : Dev nD, k0_off15 c = ![(peer c 5).val, 0, 0] := by decide +kernel
theorem off16_peer : ∀ c : Dev nD, k0_off16 c = ![(peer c 6).val, 0, 0] := by decide +kernel
theorem dev1_peer : ∀ c : Dev nD, (⟨k0_dev1 c, k0_dev1_lt c⟩ : Dev nD) = peer c 0 := by decide +kernel
theorem dev2_peer : ∀ c : Dev nD, (⟨k0_dev2 c, k0_dev2_lt c⟩ : Dev nD) = peer c 1 := by decide +kernel
theorem dev3_peer : ∀ c : Dev nD, (⟨k0_dev3 c, k0_dev3_lt c⟩ : Dev nD) = peer c 2 := by decide +kernel
theorem dev4_peer : ∀ c : Dev nD, (⟨k0_dev4 c, k0_dev4_lt c⟩ : Dev nD) = peer c 3 := by decide +kernel
theorem dev5_peer : ∀ c : Dev nD, (⟨k0_dev5 c, k0_dev5_lt c⟩ : Dev nD) = peer c 4 := by decide +kernel
theorem dev6_peer : ∀ c : Dev nD, (⟨k0_dev6 c, k0_dev6_lt c⟩ : Dev nD) = peer c 5 := by decide +kernel
theorem dev7_peer : ∀ c : Dev nD, (⟨k0_dev7 c, k0_dev7_lt c⟩ : Dev nD) = peer c 6 := by decide +kernel
theorem dev8_peer : ∀ c : Dev nD, (⟨k0_dev8 c, k0_dev8_lt c⟩ : Dev nD) = peer c 0 := by decide +kernel
theorem dev9_peer : ∀ c : Dev nD, (⟨k0_dev9 c, k0_dev9_lt c⟩ : Dev nD) = peer c 1 := by decide +kernel
theorem dev10_peer : ∀ c : Dev nD, (⟨k0_dev10 c, k0_dev10_lt c⟩ : Dev nD) = peer c 2 := by decide +kernel
theorem dev11_peer : ∀ c : Dev nD, (⟨k0_dev11 c, k0_dev11_lt c⟩ : Dev nD) = peer c 3 := by decide +kernel
theorem dev12_peer : ∀ c : Dev nD, (⟨k0_dev12 c, k0_dev12_lt c⟩ : Dev nD) = peer c 4 := by decide +kernel
theorem dev13_peer : ∀ c : Dev nD, (⟨k0_dev13 c, k0_dev13_lt c⟩ : Dev nD) = peer c 5 := by decide +kernel
theorem dev14_peer : ∀ c : Dev nD, (⟨k0_dev14 c, k0_dev14_lt c⟩ : Dev nD) = peer c 6 := by decide +kernel
theorem dev15_peer : ∀ c : Dev nD, (⟨k0_dev15 c, k0_dev15_lt c⟩ : Dev nD) = peer c 0 := by decide +kernel
theorem dev16_peer : ∀ c : Dev nD, (⟨k0_dev16 c, k0_dev16_lt c⟩ : Dev nD) = peer c 1 := by decide +kernel
theorem dev17_peer : ∀ c : Dev nD, (⟨k0_dev17 c, k0_dev17_lt c⟩ : Dev nD) = peer c 2 := by decide +kernel
theorem dev18_peer : ∀ c : Dev nD, (⟨k0_dev18 c, k0_dev18_lt c⟩ : Dev nD) = peer c 3 := by decide +kernel
theorem dev19_peer : ∀ c : Dev nD, (⟨k0_dev19 c, k0_dev19_lt c⟩ : Dev nD) = peer c 4 := by decide +kernel
theorem dev20_peer : ∀ c : Dev nD, (⟨k0_dev20 c, k0_dev20_lt c⟩ : Dev nD) = peer c 5 := by decide +kernel
theorem dev21_peer : ∀ c : Dev nD, (⟨k0_dev21 c, k0_dev21_lt c⟩ : Dev nD) = peer c 6 := by decide +kernel
theorem dev22_peer : ∀ c : Dev nD, (⟨k0_dev22 c, k0_dev22_lt c⟩ : Dev nD) = peer c 0 := by decide +kernel
theorem dev23_peer : ∀ c : Dev nD, (⟨k0_dev23 c, k0_dev23_lt c⟩ : Dev nD) = peer c 1 := by decide +kernel
theorem dev24_peer : ∀ c : Dev nD, (⟨k0_dev24 c, k0_dev24_lt c⟩ : Dev nD) = peer c 2 := by decide +kernel
theorem dev25_peer : ∀ c : Dev nD, (⟨k0_dev25 c, k0_dev25_lt c⟩ : Dev nD) = peer c 3 := by decide +kernel
theorem dev26_peer : ∀ c : Dev nD, (⟨k0_dev26 c, k0_dev26_lt c⟩ : Dev nD) = peer c 4 := by decide +kernel
theorem dev27_peer : ∀ c : Dev nD, (⟨k0_dev27 c, k0_dev27_lt c⟩ : Dev nD) = peer c 5 := by decide +kernel
theorem dev28_peer : ∀ c : Dev nD, (⟨k0_dev28 c, k0_dev28_lt c⟩ : Dev nD) = peer c 6 := by decide +kernel
/-- A part of the body on the exchange's buffers and transfer counts. -/
abbrev onBuffers {α : Sort*}
    (f : (a0 : Memref sig .tc .hbm S8x1024x1152 .f32) → a0.IsWhole → (a1 : Memref sig .tc .hbm S8x128x1024 .f32) → a1.IsWhole →
      (a2 : Memref sig .tc .hbm S8x128x1024 .f32) → a2.IsWhole → (a3 : Memref sig .tc .hbm S8x128x1024 .f32) → a3.IsWhole →
      (b0 : Memref sig .tc .hbm S8x1024x1152 .f32) → b0.IsWhole → (b1 : Memref sig .tc .hbm S8x128x1024 .f32) → b1.IsWhole →
      (b2 : Memref sig .tc .hbm S8x128x1024 .f32) → b2.IsWhole → (b3 : Memref sig .tc .hbm S8x128x1024 .f32) → b3.IsWhole →
      DmaSems sig S28 → DmaSems sig S28 → DmaSems sig S4 → α) : α :=
  f (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2

theorem part1 (c : Dev nD) {Q : (Σ' (d0 : Dev nD) (v2 : BitVec 32) (v5 : BitVec 32), BitVec 32) → sProp 𝕄} :
    iprop(records m K ∗ LS m c 0)
      ⊢ iprop((∀ v2 v5 v8, LS m c 1 -∗ Q ⟨c, v2, v5, v8⟩) -∗ wp frame (wpE (defs₀ (F := F)) 𝒱₀ (c : Thread nD τ) none) Set.univ
          (onBuffers k0_part1 ) Q) := by
  rw [k0_part1_eq_skeleton]
  unfold onBuffers k0_part1_skel
  simp only [Prog.lift, Prog.bind_op, Prog.bind_ret, Prog.pure_eq_ret]
  iintro ⟨#HR, H⟩ HQ
  rw [wp_deviceId]
  iapply (wp_loc m K c 0 (by decide) 0 rfl (slotI0 c (off1_own c) (k0_off1_inb c)) (slotO0 c (off1_own c) (k0_off1_inb c)) rfl) $$ [H]
  · isplitr; · iexact HR
    iexact H
  iintro H
  rw [wp_ret]
  imodintro
  iapply HQ
  iexact H

theorem part2 (c : Dev nD) (v2 v5 v8 : BitVec 32) {Q : (BitVec 32) → sProp 𝕄} :
    iprop(records m K ∗ LS m c 1)
      ⊢ iprop((∀ r, LS m c 4 -∗ Q r) -∗ wp frame (wpE (defs₀ (F := F)) 𝒱₀ (c : Thread nD τ) none) Set.univ
          (onBuffers k0_part2 c v2 v5 v8) Q) := by
  rw [k0_part2_eq_skeleton]
  unfold onBuffers k0_part2_skel
  simp only [Prog.lift, Prog.bind_op, Prog.bind_ret, Prog.pure_eq_ret]
  iintro ⟨#HR, H⟩ HQ
  iapply (wp_loc m K c 1 (by decide) 1 rfl (slotI1 c (off2_own c) (k0_off2_inb c)) (slotO1 c (off2_own c) (k0_off2_inb c)) rfl) $$ [H]
  · isplitr; · iexact HR
    iexact H
  iintro H
  iapply (wp_loc m K c 2 (by decide) 2 rfl (slotI2 c (off2_own c) (k0_off2_inb c)) (slotO2 c (off2_own c) (k0_off2_inb c)) rfl) $$ [H]
  · isplitr; · iexact HR
    iexact H
  iintro H
  iapply (wp_loc m K c 3 (by decide) 3 rfl (slotI3 c (off2_own c) (k0_off2_inb c)) (slotO3 c (off2_own c) (k0_off2_inb c)) rfl) $$ [H]
  · isplitr; · iexact HR
    iexact H
  iintro H
  rw [wp_ret]
  imodintro
  iapply HQ
  iexact H

theorem part3 (c : Dev nD) (v2 v5 v8 v65 : BitVec 32) {Q : (PUnit) → sProp 𝕄} :
    iprop(records m K ∗ SS m c 0)
      ⊢ iprop((∀ r, SS m c 1 -∗ Q r) -∗ wp frame (wpE (defs₀ (F := F)) 𝒱₀ (c : Thread nD τ) none) Set.univ
          (onBuffers k0_part3 c v2 v5 v8 v65) Q) := by
  rw [k0_part3_eq_skeleton]
  unfold onBuffers k0_part3_skel
  simp only [Prog.lift, Prog.bind_op, Prog.bind_ret, Prog.pure_eq_ret]
  iintro ⟨#HR, H⟩ HQ
  iapply (wp_snd m K c 0 (by decide) 0 0 rfl rfl (slotI0 (peer c 0) (off3_peer c) (k0_off3_inb c)) (slotO0 c (off1_own c) (k0_off1_inb c)) (dev1_peer c) rfl rfl) $$ [H]
  · isplitr; · iexact HR
    iexact H
  iintro H
  rw [wp_ret]
  imodintro
  iapply HQ
  iexact H

theorem part4 (c : Dev nD) (v2 v5 v8 : BitVec 32) {Q : (Σ' (v135 : BitVec 32), BitVec 32) → sProp 𝕄} :
    iprop(records m K ∗ SS m c 1)
      ⊢ iprop((∀ r, SS m c 3 -∗ Q r) -∗ wp frame (wpE (defs₀ (F := F)) 𝒱₀ (c : Thread nD τ) none) Set.univ
          (onBuffers k0_part4 c v2 v5 v8) Q) := by
  rw [k0_part4_eq_skeleton]
  unfold onBuffers k0_part4_skel
  simp only [Prog.lift, Prog.bind_op, Prog.bind_ret, Prog.pure_eq_ret]
  iintro ⟨#HR, H⟩ HQ
  iapply (wp_snd m K c 1 (by decide) 0 1 rfl rfl (slotI0 (peer c 1) (off4_peer c) (k0_off4_inb c)) (slotO0 c (off1_own c) (k0_off1_inb c)) (dev2_peer c) rfl rfl) $$ [H]
  · isplitr; · iexact HR
    iexact H
  iintro H
  iapply (wp_snd m K c 2 (by decide) 0 2 rfl rfl (slotI0 (peer c 2) (off5_peer c) (k0_off5_inb c)) (slotO0 c (off1_own c) (k0_off1_inb c)) (dev3_peer c) rfl rfl) $$ [H]
  · isplitr; · iexact HR
    iexact H
  iintro H
  rw [wp_ret]
  imodintro
  iapply HQ
  iexact H

theorem part5 (c : Dev nD) (v2 v5 v8 v135 c4_i32_86 : BitVec 32) {Q : (PUnit) → sProp 𝕄} :
    iprop(records m K ∗ SS m c 3)
      ⊢ iprop((∀ r, SS m c 4 -∗ Q r) -∗ wp frame (wpE (defs₀ (F := F)) 𝒱₀ (c : Thread nD τ) none) Set.univ
          (onBuffers k0_part5 c v2 v5 v8 v135 c4_i32_86) Q) := by
  rw [k0_part5_eq_skeleton]
  unfold onBuffers k0_part5_skel
  simp only [Prog.lift, Prog.bind_op, Prog.bind_ret, Prog.pure_eq_ret]
  iintro ⟨#HR, H⟩ HQ
  iapply (wp_snd m K c 3 (by decide) 0 3 rfl rfl (slotI0 (peer c 3) (off6_peer c) (k0_off6_inb c)) (slotO0 c (off1_own c) (k0_off1_inb c)) (dev4_peer c) rfl rfl) $$ [H]
  · isplitr; · iexact HR
    iexact H
  iintro H
  rw [wp_ret]
  imodintro
  iapply HQ
  iexact H

theorem part6 (c : Dev nD) (v2 v5 v8 : BitVec 32) {Q : (Σ' (v206 : BitVec 32) (v207 : BitVec 32) (v208 : BitVec 32), BitVec 32) → sProp 𝕄} :
    iprop(records m K ∗ SS m c 4)
      ⊢ iprop((∀ r, SS m c 6 -∗ Q r) -∗ wp frame (wpE (defs₀ (F := F)) 𝒱₀ (c : Thread nD τ) none) Set.univ
          (onBuffers k0_part6 c v2 v5 v8) Q) := by
  rw [k0_part6_eq_skeleton]
  unfold onBuffers k0_part6_skel
  simp only [Prog.lift, Prog.bind_op, Prog.bind_ret, Prog.pure_eq_ret]
  iintro ⟨#HR, H⟩ HQ
  iapply (wp_snd m K c 4 (by decide) 0 4 rfl rfl (slotI0 (peer c 4) (off7_peer c) (k0_off7_inb c)) (slotO0 c (off1_own c) (k0_off1_inb c)) (dev5_peer c) rfl rfl) $$ [H]
  · isplitr; · iexact HR
    iexact H
  iintro H
  iapply (wp_snd m K c 5 (by decide) 0 5 rfl rfl (slotI0 (peer c 5) (off8_peer c) (k0_off8_inb c)) (slotO0 c (off1_own c) (k0_off1_inb c)) (dev6_peer c) rfl rfl) $$ [H]
  · isplitr; · iexact HR
    iexact H
  iintro H
  rw [wp_ret]
  imodintro
  iapply HQ
  iexact H

theorem part7 (c : Dev nD) (v2 v5 v8 v206 v207 v208 v209 : BitVec 32) {Q : (Σ' (v243 : BitVec 32), BitVec 32) → sProp 𝕄} :
    iprop(records m K ∗ SS m c 6)
      ⊢ iprop((∀ r, SS m c 7 -∗ Q r) -∗ wp frame (wpE (defs₀ (F := F)) 𝒱₀ (c : Thread nD τ) none) Set.univ
          (onBuffers k0_part7 c v2 v5 v8 v206 v207 v208 v209) Q) := by
  rw [k0_part7_eq_skeleton]
  unfold onBuffers k0_part7_skel
  simp only [Prog.lift, Prog.bind_op, Prog.bind_ret, Prog.pure_eq_ret]
  iintro ⟨#HR, H⟩ HQ
  iapply (wp_snd m K c 6 (by decide) 0 6 rfl rfl (slotI0 (peer c 6) (off9_peer c) (k0_off9_inb c)) (slotO0 c (off1_own c) (k0_off1_inb c)) (dev7_peer c) rfl rfl) $$ [H]
  · isplitr; · iexact HR
    iexact H
  iintro H
  rw [wp_ret]
  imodintro
  iapply HQ
  iexact H

theorem part8 (c : Dev nD) (v2 v5 v8 v243 v244 : BitVec 32) {Q : (Σ' (v277 : BitVec 32) (v278 : BitVec 32) (v279 : BitVec 32), BitVec 32) → sProp 𝕄} :
    iprop(records m K ∗ SS m c 7)
      ⊢ iprop((∀ r, SS m c 9 -∗ Q r) -∗ wp frame (wpE (defs₀ (F := F)) 𝒱₀ (c : Thread nD τ) none) Set.univ
          (onBuffers k0_part8 c v2 v5 v8 v243 v244) Q) := by
  rw [k0_part8_eq_skeleton]
  unfold onBuffers k0_part8_skel
  simp only [Prog.lift, Prog.bind_op, Prog.bind_ret, Prog.pure_eq_ret]
  iintro ⟨#HR, H⟩ HQ
  iapply (wp_snd m K c 7 (by decide) 1 0 rfl rfl (slotI1 (peer c 0) (off10_peer c) (k0_off10_inb c)) (slotO1 c (off2_own c) (k0_off2_inb c)) (dev8_peer c) rfl rfl) $$ [H]
  · isplitr; · iexact HR
    iexact H
  iintro H
  iapply (wp_snd m K c 8 (by decide) 1 1 rfl rfl (slotI1 (peer c 1) (off11_peer c) (k0_off11_inb c)) (slotO1 c (off2_own c) (k0_off2_inb c)) (dev9_peer c) rfl rfl) $$ [H]
  · isplitr; · iexact HR
    iexact H
  iintro H
  rw [wp_ret]
  imodintro
  iapply HQ
  iexact H

theorem part9 (c : Dev nD) (v2 v5 v8 v277 v278 v279 c2_i32_176 : BitVec 32) {Q : (PUnit) → sProp 𝕄} :
    iprop(records m K ∗ SS m c 9)
      ⊢ iprop((∀ r, SS m c 10 -∗ Q r) -∗ wp frame (wpE (defs₀ (F := F)) 𝒱₀ (c : Thread nD τ) none) Set.univ
          (onBuffers k0_part9 c v2 v5 v8 v277 v278 v279 c2_i32_176) Q) := by
  rw [k0_part9_eq_skeleton]
  unfold onBuffers k0_part9_skel
  simp only [Prog.lift, Prog.bind_op, Prog.bind_ret, Prog.pure_eq_ret]
  iintro ⟨#HR, H⟩ HQ
  iapply (wp_snd m K c 9 (by decide) 1 2 rfl rfl (slotI1 (peer c 2) (off12_peer c) (k0_off12_inb c)) (slotO1 c (off2_own c) (k0_off2_inb c)) (dev10_peer c) rfl rfl) $$ [H]
  · isplitr; · iexact HR
    iexact H
  iintro H
  rw [wp_ret]
  imodintro
  iapply HQ
  iexact H

theorem part10 (c : Dev nD) (v2 v5 v8 : BitVec 32) {Q : (Σ' (v348 : BitVec 32) (v349 : BitVec 32), BitVec 32) → sProp 𝕄} :
    iprop(records m K ∗ SS m c 10)
      ⊢ iprop((∀ r, SS m c 12 -∗ Q r) -∗ wp frame (wpE (defs₀ (F := F)) 𝒱₀ (c : Thread nD τ) none) Set.univ
          (onBuffers k0_part10 c v2 v5 v8) Q) := by
  rw [k0_part10_eq_skeleton]
  unfold onBuffers k0_part10_skel
  simp only [Prog.lift, Prog.bind_op, Prog.bind_ret, Prog.pure_eq_ret]
  iintro ⟨#HR, H⟩ HQ
  iapply (wp_snd m K c 10 (by decide) 1 3 rfl rfl (slotI1 (peer c 3) (off13_peer c) (k0_off13_inb c)) (slotO1 c (off2_own c) (k0_off2_inb c)) (dev11_peer c) rfl rfl) $$ [H]
  · isplitr; · iexact HR
    iexact H
  iintro H
  iapply (wp_snd m K c 11 (by decide) 1 4 rfl rfl (slotI1 (peer c 4) (off14_peer c) (k0_off14_inb c)) (slotO1 c (off2_own c) (k0_off2_inb c)) (dev12_peer c) rfl rfl) $$ [H]
  · isplitr; · iexact HR
    iexact H
  iintro H
  rw [wp_ret]
  imodintro
  iapply HQ
  iexact H

theorem part11 (c : Dev nD) (v2 v5 v8 v348 v349 v350 : BitVec 32) {Q : (Σ' (v373 : BitVec 32) (v374 : BitVec 32) (v384 : BitVec 32), BitVec 32) → sProp 𝕄} :
    iprop(records m K ∗ SS m c 12)
      ⊢ iprop((∀ r, SS m c 13 -∗ Q r) -∗ wp frame (wpE (defs₀ (F := F)) 𝒱₀ (c : Thread nD τ) none) Set.univ
          (onBuffers k0_part11 c v2 v5 v8 v348 v349 v350) Q) := by
  rw [k0_part11_eq_skeleton]
  unfold onBuffers k0_part11_skel
  simp only [Prog.lift, Prog.bind_op, Prog.bind_ret, Prog.pure_eq_ret]
  iintro ⟨#HR, H⟩ HQ
  iapply (wp_snd m K c 12 (by decide) 1 5 rfl rfl (slotI1 (peer c 5) (off15_peer c) (k0_off15_inb c)) (slotO1 c (off2_own c) (k0_off2_inb c)) (dev13_peer c) rfl rfl) $$ [H]
  · isplitr; · iexact HR
    iexact H
  iintro H
  rw [wp_ret]
  imodintro
  iapply HQ
  iexact H

theorem part12 (c : Dev nD) (v2 v5 v8 v373 v374 v384 c2_i32_242 : BitVec 32) {Q : (Σ' (v420 : BitVec 32), BitVec 32) → sProp 𝕄} :
    iprop(records m K ∗ SS m c 13)
      ⊢ iprop((∀ r, SS m c 15 -∗ Q r) -∗ wp frame (wpE (defs₀ (F := F)) 𝒱₀ (c : Thread nD τ) none) Set.univ
          (onBuffers k0_part12 c v2 v5 v8 v373 v374 v384 c2_i32_242) Q) := by
  rw [k0_part12_eq_skeleton]
  unfold onBuffers k0_part12_skel
  simp only [Prog.lift, Prog.bind_op, Prog.bind_ret, Prog.pure_eq_ret]
  iintro ⟨#HR, H⟩ HQ
  iapply (wp_snd m K c 13 (by decide) 1 6 rfl rfl (slotI1 (peer c 6) (off16_peer c) (k0_off16_inb c)) (slotO1 c (off2_own c) (k0_off2_inb c)) (dev14_peer c) rfl rfl) $$ [H]
  · isplitr; · iexact HR
    iexact H
  iintro H
  iapply (wp_snd m K c 14 (by decide) 2 0 rfl rfl (slotI2 (peer c 0) (off10_peer c) (k0_off10_inb c)) (slotO2 c (off2_own c) (k0_off2_inb c)) (dev15_peer c) rfl rfl) $$ [H]
  · isplitr; · iexact HR
    iexact H
  iintro H
  rw [wp_ret]
  imodintro
  iapply HQ
  iexact H

theorem part13 (c : Dev nD) (v2 v5 v8 v420 c4_i32_263 : BitVec 32) {Q : (Σ' (v444 : BitVec 32) (v454 : BitVec 32), BitVec 32) → sProp 𝕄} :
    iprop(records m K ∗ SS m c 15)
      ⊢ iprop((∀ r, SS m c 16 -∗ Q r) -∗ wp frame (wpE (defs₀ (F := F)) 𝒱₀ (c : Thread nD τ) none) Set.univ
          (onBuffers k0_part13 c v2 v5 v8 v420 c4_i32_263) Q) := by
  rw [k0_part13_eq_skeleton]
  unfold onBuffers k0_part13_skel
  simp only [Prog.lift, Prog.bind_op, Prog.bind_ret, Prog.pure_eq_ret]
  iintro ⟨#HR, H⟩ HQ
  iapply (wp_snd m K c 15 (by decide) 2 1 rfl rfl (slotI2 (peer c 1) (off11_peer c) (k0_off11_inb c)) (slotO2 c (off2_own c) (k0_off2_inb c)) (dev16_peer c) rfl rfl) $$ [H]
  · isplitr; · iexact HR
    iexact H
  iintro H
  rw [wp_ret]
  imodintro
  iapply HQ
  iexact H

theorem part14 (c : Dev nD) (v2 v5 v8 v444 v454 v455 : BitVec 32) {Q : (Σ' (v490 : BitVec 32), BitVec 32) → sProp 𝕄} :
    iprop(records m K ∗ SS m c 16)
      ⊢ iprop((∀ r, SS m c 18 -∗ Q r) -∗ wp frame (wpE (defs₀ (F := F)) 𝒱₀ (c : Thread nD τ) none) Set.univ
          (onBuffers k0_part14 c v2 v5 v8 v444 v454 v455) Q) := by
  rw [k0_part14_eq_skeleton]
  unfold onBuffers k0_part14_skel
  simp only [Prog.lift, Prog.bind_op, Prog.bind_ret, Prog.pure_eq_ret]
  iintro ⟨#HR, H⟩ HQ
  iapply (wp_snd m K c 16 (by decide) 2 2 rfl rfl (slotI2 (peer c 2) (off12_peer c) (k0_off12_inb c)) (slotO2 c (off2_own c) (k0_off2_inb c)) (dev17_peer c) rfl rfl) $$ [H]
  · isplitr; · iexact HR
    iexact H
  iintro H
  iapply (wp_snd m K c 17 (by decide) 2 3 rfl rfl (slotI2 (peer c 3) (off13_peer c) (k0_off13_inb c)) (slotO2 c (off2_own c) (k0_off2_inb c)) (dev18_peer c) rfl rfl) $$ [H]
  · isplitr; · iexact HR
    iexact H
  iintro H
  rw [wp_ret]
  imodintro
  iapply HQ
  iexact H

theorem part15 (c : Dev nD) (v2 v5 v8 v490 v491 : BitVec 32) {Q : (Σ' (v515 : BitVec 32) (v525 : BitVec 32), BitVec 32) → sProp 𝕄} :
    iprop(records m K ∗ SS m c 18)
      ⊢ iprop((∀ r, SS m c 19 -∗ Q r) -∗ wp frame (wpE (defs₀ (F := F)) 𝒱₀ (c : Thread nD τ) none) Set.univ
          (onBuffers k0_part15 c v2 v5 v8 v490 v491) Q) := by
  rw [k0_part15_eq_skeleton]
  unfold onBuffers k0_part15_skel
  simp only [Prog.lift, Prog.bind_op, Prog.bind_ret, Prog.pure_eq_ret]
  iintro ⟨#HR, H⟩ HQ
  iapply (wp_snd m K c 18 (by decide) 2 4 rfl rfl (slotI2 (peer c 4) (off14_peer c) (k0_off14_inb c)) (slotO2 c (off2_own c) (k0_off2_inb c)) (dev19_peer c) rfl rfl) $$ [H]
  · isplitr; · iexact HR
    iexact H
  iintro H
  rw [wp_ret]
  imodintro
  iapply HQ
  iexact H

theorem part16 (c : Dev nD) (v2 v5 v8 v515 v525 c2_i32_329 : BitVec 32) {Q : (PUnit) → sProp 𝕄} :
    iprop(records m K ∗ SS m c 19)
      ⊢ iprop((∀ r, SS m c 20 -∗ Q r) -∗ wp frame (wpE (defs₀ (F := F)) 𝒱₀ (c : Thread nD τ) none) Set.univ
          (onBuffers k0_part16 c v2 v5 v8 v515 v525 c2_i32_329) Q) := by
  rw [k0_part16_eq_skeleton]
  unfold onBuffers k0_part16_skel
  simp only [Prog.lift, Prog.bind_op, Prog.bind_ret, Prog.pure_eq_ret]
  iintro ⟨#HR, H⟩ HQ
  iapply (wp_snd m K c 19 (by decide) 2 5 rfl rfl (slotI2 (peer c 5) (off15_peer c) (k0_off15_inb c)) (slotO2 c (off2_own c) (k0_off2_inb c)) (dev20_peer c) rfl rfl) $$ [H]
  · isplitr; · iexact HR
    iexact H
  iintro H
  rw [wp_ret]
  imodintro
  iapply HQ
  iexact H

theorem part17 (c : Dev nD) (v2 v5 v8 : BitVec 32) {Q : (Σ' (v586 : BitVec 32), BitVec 32) → sProp 𝕄} :
    iprop(records m K ∗ SS m c 20)
      ⊢ iprop((∀ r, SS m c 22 -∗ Q r) -∗ wp frame (wpE (defs₀ (F := F)) 𝒱₀ (c : Thread nD τ) none) Set.univ
          (onBuffers k0_part17 c v2 v5 v8) Q) := by
  rw [k0_part17_eq_skeleton]
  unfold onBuffers k0_part17_skel
  simp only [Prog.lift, Prog.bind_op, Prog.bind_ret, Prog.pure_eq_ret]
  iintro ⟨#HR, H⟩ HQ
  iapply (wp_snd m K c 20 (by decide) 2 6 rfl rfl (slotI2 (peer c 6) (off16_peer c) (k0_off16_inb c)) (slotO2 c (off2_own c) (k0_off2_inb c)) (dev21_peer c) rfl rfl) $$ [H]
  · isplitr; · iexact HR
    iexact H
  iintro H
  iapply (wp_snd m K c 21 (by decide) 3 0 rfl rfl (slotI3 (peer c 0) (off10_peer c) (k0_off10_inb c)) (slotO3 c (off2_own c) (k0_off2_inb c)) (dev22_peer c) rfl rfl) $$ [H]
  · isplitr; · iexact HR
    iexact H
  iintro H
  rw [wp_ret]
  imodintro
  iapply HQ
  iexact H

theorem part18 (c : Dev nD) (v2 v5 v8 v586 v596 : BitVec 32) {Q : (PUnit) → sProp 𝕄} :
    iprop(records m K ∗ SS m c 22)
      ⊢ iprop((∀ r, SS m c 24 -∗ Q r) -∗ wp frame (wpE (defs₀ (F := F)) 𝒱₀ (c : Thread nD τ) none) Set.univ
          (onBuffers k0_part18 c v2 v5 v8 v586 v596) Q) := by
  rw [k0_part18_eq_skeleton]
  unfold onBuffers k0_part18_skel
  simp only [Prog.lift, Prog.bind_op, Prog.bind_ret, Prog.pure_eq_ret]
  iintro ⟨#HR, H⟩ HQ
  iapply (wp_snd m K c 22 (by decide) 3 1 rfl rfl (slotI3 (peer c 1) (off11_peer c) (k0_off11_inb c)) (slotO3 c (off2_own c) (k0_off2_inb c)) (dev23_peer c) rfl rfl) $$ [H]
  · isplitr; · iexact HR
    iexact H
  iintro H
  iapply (wp_snd m K c 23 (by decide) 3 2 rfl rfl (slotI3 (peer c 2) (off12_peer c) (k0_off12_inb c)) (slotO3 c (off2_own c) (k0_off2_inb c)) (dev24_peer c) rfl rfl) $$ [H]
  · isplitr; · iexact HR
    iexact H
  iintro H
  rw [wp_ret]
  imodintro
  iapply HQ
  iexact H

theorem part19 (c : Dev nD) (v2 v5 v8 : BitVec 32) {Q : (Σ' (v657 : BitVec 32) (v666 : BitVec 32), BitVec 32) → sProp 𝕄} :
    iprop(records m K ∗ SS m c 24)
      ⊢ iprop((∀ r, SS m c 25 -∗ Q r) -∗ wp frame (wpE (defs₀ (F := F)) 𝒱₀ (c : Thread nD τ) none) Set.univ
          (onBuffers k0_part19 c v2 v5 v8) Q) := by
  rw [k0_part19_eq_skeleton]
  unfold onBuffers k0_part19_skel
  simp only [Prog.lift, Prog.bind_op, Prog.bind_ret, Prog.pure_eq_ret]
  iintro ⟨#HR, H⟩ HQ
  iapply (wp_snd m K c 24 (by decide) 3 3 rfl rfl (slotI3 (peer c 3) (off13_peer c) (k0_off13_inb c)) (slotO3 c (off2_own c) (k0_off2_inb c)) (dev25_peer c) rfl rfl) $$ [H]
  · isplitr; · iexact HR
    iexact H
  iintro H
  rw [wp_ret]
  imodintro
  iapply HQ
  iexact H

theorem part20 (c : Dev nD) (v2 v5 v8 v657 v666 c0_i32_416 : BitVec 32) {Q : (PUnit) → sProp 𝕄} :
    iprop(records m K ∗ SS m c 25)
      ⊢ iprop((∀ r, SS m c 26 -∗ Q r) -∗ wp frame (wpE (defs₀ (F := F)) 𝒱₀ (c : Thread nD τ) none) Set.univ
          (onBuffers k0_part20 c v2 v5 v8 v657 v666 c0_i32_416) Q) := by
  rw [k0_part20_eq_skeleton]
  unfold onBuffers k0_part20_skel
  simp only [Prog.lift, Prog.bind_op, Prog.bind_ret, Prog.pure_eq_ret]
  iintro ⟨#HR, H⟩ HQ
  iapply (wp_snd m K c 25 (by decide) 3 4 rfl rfl (slotI3 (peer c 4) (off14_peer c) (k0_off14_inb c)) (slotO3 c (off2_own c) (k0_off2_inb c)) (dev26_peer c) rfl rfl) $$ [H]
  · isplitr; · iexact HR
    iexact H
  iintro H
  rw [wp_ret]
  imodintro
  iapply HQ
  iexact H

theorem part21 (c : Dev nD) (v2 v5 v8 : BitVec 32) {Q : (Σ' (v729 : BitVec 32) (v735 : BitVec 32), BitVec 32) → sProp 𝕄} :
    iprop(records m K ∗ SS m c 26)
      ⊢ iprop((∀ r, SS m c 28 -∗ Q r) -∗ wp frame (wpE (defs₀ (F := F)) 𝒱₀ (c : Thread nD τ) none) Set.univ
          (onBuffers k0_part21 c v2 v5 v8) Q) := by
  rw [k0_part21_eq_skeleton]
  unfold onBuffers k0_part21_skel
  simp only [Prog.lift, Prog.bind_op, Prog.bind_ret, Prog.pure_eq_ret]
  iintro ⟨#HR, H⟩ HQ
  iapply (wp_snd m K c 26 (by decide) 3 5 rfl rfl (slotI3 (peer c 5) (off15_peer c) (k0_off15_inb c)) (slotO3 c (off2_own c) (k0_off2_inb c)) (dev27_peer c) rfl rfl) $$ [H]
  · isplitr; · iexact HR
    iexact H
  iintro H
  iapply (wp_snd m K c 27 (by decide) 3 6 rfl rfl (slotI3 (peer c 6) (off16_peer c) (k0_off16_inb c)) (slotO3 c (off2_own c) (k0_off2_inb c)) (dev28_peer c) rfl rfl) $$ [H]
  · isplitr; · iexact HR
    iexact H
  iintro H
  rw [wp_ret]
  imodintro
  iapply HQ
  iexact H

theorem part22 (c : Dev nD) (v2 v5 v8 v729 v735 v736 : BitVec 32) {Q : (Σ' (v763 : BitVec 32) (v764 : BitVec 32), BitVec 32) → sProp 𝕄} :
    iprop(records m K ∗ WS m c 0)
      ⊢ iprop((∀ r, WS m c 2 -∗ Q r) -∗ wp frame (wpE (defs₀ (F := F)) 𝒱₀ (c : Thread nD τ) none) Set.univ
          (onBuffers k0_part22 c v2 v5 v8 v729 v735 v736) Q) := by
  rw [k0_part22_eq_skeleton]
  unfold onBuffers k0_part22_skel
  simp only [Prog.lift, Prog.bind_op, Prog.bind_ret, Prog.pure_eq_ret]
  iintro ⟨#HR, H⟩ HQ
  iapply (wp_wt m K c 0 (by decide) (rC 0 0) rfl rfl (src := (pc (Memref.whole main_v1_0) (k0_off3 c) (k0_off3_inb c) squeezes_S1x1024x1152_S1024x1152)) ((credO0 (peer c 0) (off3_peer c) (k0_off3_inb c)).trans (am_rC 0 0).symm)) $$ [H]
  · isplitr; · iexact HR
    iexact H
  iintro H
  iapply (wp_wt m K c 1 (by decide) (rC 0 1) rfl rfl (src := (pc (Memref.whole main_v1_0) (k0_off4 c) (k0_off4_inb c) squeezes_S1x1024x1152_S1024x1152)) ((credO0 (peer c 1) (off4_peer c) (k0_off4_inb c)).trans (am_rC 0 1).symm)) $$ [H]
  · isplitr; · iexact HR
    iexact H
  iintro H
  rw [wp_ret]
  imodintro
  iapply HQ
  iexact H

theorem part23 (c : Dev nD) (v2 v5 v8 v763 v764 v769 : BitVec 32) {Q : (Σ' (v798 : BitVec 32), BitVec 32) → sProp 𝕄} :
    iprop(records m K ∗ WS m c 2)
      ⊢ iprop((∀ r, WS m c 4 -∗ Q r) -∗ wp frame (wpE (defs₀ (F := F)) 𝒱₀ (c : Thread nD τ) none) Set.univ
          (onBuffers k0_part23 c v2 v5 v8 v763 v764 v769) Q) := by
  rw [k0_part23_eq_skeleton]
  unfold onBuffers k0_part23_skel
  simp only [Prog.lift, Prog.bind_op, Prog.bind_ret, Prog.pure_eq_ret]
  iintro ⟨#HR, H⟩ HQ
  iapply (wp_wt m K c 2 (by decide) (rC 0 2) rfl rfl (src := (pc (Memref.whole main_v1_0) (k0_off5 c) (k0_off5_inb c) squeezes_S1x1024x1152_S1024x1152)) ((credO0 (peer c 2) (off5_peer c) (k0_off5_inb c)).trans (am_rC 0 2).symm)) $$ [H]
  · isplitr; · iexact HR
    iexact H
  iintro H
  iapply (wp_wt m K c 3 (by decide) (rC 0 3) rfl rfl (src := (pc (Memref.whole main_v1_0) (k0_off6 c) (k0_off6_inb c) squeezes_S1x1024x1152_S1024x1152)) ((credO0 (peer c 3) (off6_peer c) (k0_off6_inb c)).trans (am_rC 0 3).symm)) $$ [H]
  · isplitr; · iexact HR
    iexact H
  iintro H
  rw [wp_ret]
  imodintro
  iapply HQ
  iexact H

theorem part24 (c : Dev nD) (v2 v5 v8 v798 v799 : BitVec 32) {Q : (Σ' (v834 : BitVec 32), BitVec 32) → sProp 𝕄} :
    iprop(records m K ∗ WS m c 4)
      ⊢ iprop((∀ r, WS m c 6 -∗ Q r) -∗ wp frame (wpE (defs₀ (F := F)) 𝒱₀ (c : Thread nD τ) none) Set.univ
          (onBuffers k0_part24 c v2 v5 v8 v798 v799) Q) := by
  rw [k0_part24_eq_skeleton]
  unfold onBuffers k0_part24_skel
  simp only [Prog.lift, Prog.bind_op, Prog.bind_ret, Prog.pure_eq_ret]
  iintro ⟨#HR, H⟩ HQ
  iapply (wp_wt m K c 4 (by decide) (rC 0 4) rfl rfl (src := (pc (Memref.whole main_v1_0) (k0_off7 c) (k0_off7_inb c) squeezes_S1x1024x1152_S1024x1152)) ((credO0 (peer c 4) (off7_peer c) (k0_off7_inb c)).trans (am_rC 0 4).symm)) $$ [H]
  · isplitr; · iexact HR
    iexact H
  iintro H
  iapply (wp_wt m K c 5 (by decide) (rC 0 5) rfl rfl (src := (pc (Memref.whole main_v1_0) (k0_off8 c) (k0_off8_inb c) squeezes_S1x1024x1152_S1024x1152)) ((credO0 (peer c 5) (off8_peer c) (k0_off8_inb c)).trans (am_rC 0 5).symm)) $$ [H]
  · isplitr; · iexact HR
    iexact H
  iintro H
  rw [wp_ret]
  imodintro
  iapply HQ
  iexact H

theorem part25 (c : Dev nD) (v2 v5 v8 v834 v835 : BitVec 32) {Q : (PUnit) → sProp 𝕄} :
    iprop(records m K ∗ WS m c 6)
      ⊢ iprop((∀ r, WS m c 7 -∗ Q r) -∗ wp frame (wpE (defs₀ (F := F)) 𝒱₀ (c : Thread nD τ) none) Set.univ
          (onBuffers k0_part25 c v2 v5 v8 v834 v835) Q) := by
  rw [k0_part25_eq_skeleton]
  unfold onBuffers k0_part25_skel
  simp only [Prog.lift, Prog.bind_op, Prog.bind_ret, Prog.pure_eq_ret]
  iintro ⟨#HR, H⟩ HQ
  iapply (wp_wt m K c 6 (by decide) (rC 0 6) rfl rfl (src := (pc (Memref.whole main_v1_0) (k0_off9 c) (k0_off9_inb c) squeezes_S1x1024x1152_S1024x1152)) ((credO0 (peer c 6) (off9_peer c) (k0_off9_inb c)).trans (am_rC 0 6).symm)) $$ [H]
  · isplitr; · iexact HR
    iexact H
  iintro H
  rw [wp_ret]
  imodintro
  iapply HQ
  iexact H

theorem part26 (c : Dev nD) (v2 v5 v8 : BitVec 32) {Q : (PUnit) → sProp 𝕄} :
    iprop(records m K ∗ WS m c 7)
      ⊢ iprop((∀ r, WS m c 9 -∗ Q r) -∗ wp frame (wpE (defs₀ (F := F)) 𝒱₀ (c : Thread nD τ) none) Set.univ
          (onBuffers k0_part26 c v2 v5 v8) Q) := by
  rw [k0_part26_eq_skeleton]
  unfold onBuffers k0_part26_skel
  simp only [Prog.lift, Prog.bind_op, Prog.bind_ret, Prog.pure_eq_ret]
  iintro ⟨#HR, H⟩ HQ
  iapply (wp_wt m K c 7 (by decide) (rC 1 0) rfl rfl (src := (pc (Memref.whole main_v1_1) (k0_off10 c) (k0_off10_inb c) squeezes_S1x128x1024_S128x1024)) ((credO1 (peer c 0) (off10_peer c) (k0_off10_inb c)).trans (am_rC 1 0).symm)) $$ [H]
  · isplitr; · iexact HR
    iexact H
  iintro H
  iapply (wp_wt m K c 8 (by decide) (rC 1 1) rfl rfl (src := (pc (Memref.whole main_v1_1) (k0_off11 c) (k0_off11_inb c) squeezes_S1x128x1024_S128x1024)) ((credO1 (peer c 1) (off11_peer c) (k0_off11_inb c)).trans (am_rC 1 1).symm)) $$ [H]
  · isplitr; · iexact HR
    iexact H
  iintro H
  rw [wp_ret]
  imodintro
  iapply HQ
  iexact H

theorem part27 (c : Dev nD) (v2 v5 v8 : BitVec 32) {Q : (PUnit) → sProp 𝕄} :
    iprop(records m K ∗ WS m c 9)
      ⊢ iprop((∀ r, WS m c 11 -∗ Q r) -∗ wp frame (wpE (defs₀ (F := F)) 𝒱₀ (c : Thread nD τ) none) Set.univ
          (onBuffers k0_part27 c v2 v5 v8) Q) := by
  rw [k0_part27_eq_skeleton]
  unfold onBuffers k0_part27_skel
  simp only [Prog.lift, Prog.bind_op, Prog.bind_ret, Prog.pure_eq_ret]
  iintro ⟨#HR, H⟩ HQ
  iapply (wp_wt m K c 9 (by decide) (rC 1 2) rfl rfl (src := (pc (Memref.whole main_v1_1) (k0_off12 c) (k0_off12_inb c) squeezes_S1x128x1024_S128x1024)) ((credO1 (peer c 2) (off12_peer c) (k0_off12_inb c)).trans (am_rC 1 2).symm)) $$ [H]
  · isplitr; · iexact HR
    iexact H
  iintro H
  iapply (wp_wt m K c 10 (by decide) (rC 1 3) rfl rfl (src := (pc (Memref.whole main_v1_1) (k0_off13 c) (k0_off13_inb c) squeezes_S1x128x1024_S128x1024)) ((credO1 (peer c 3) (off13_peer c) (k0_off13_inb c)).trans (am_rC 1 3).symm)) $$ [H]
  · isplitr; · iexact HR
    iexact H
  iintro H
  rw [wp_ret]
  imodintro
  iapply HQ
  iexact H

theorem part28 (c : Dev nD) (v2 v5 v8 : BitVec 32) {Q : (Σ' (v959 : BitVec 32) (v960 : BitVec 32) (v965 : BitVec 32), BitVec 32) → sProp 𝕄} :
    iprop(records m K ∗ WS m c 11)
      ⊢ iprop((∀ r, WS m c 13 -∗ Q r) -∗ wp frame (wpE (defs₀ (F := F)) 𝒱₀ (c : Thread nD τ) none) Set.univ
          (onBuffers k0_part28 c v2 v5 v8) Q) := by
  rw [k0_part28_eq_skeleton]
  unfold onBuffers k0_part28_skel
  simp only [Prog.lift, Prog.bind_op, Prog.bind_ret, Prog.pure_eq_ret]
  iintro ⟨#HR, H⟩ HQ
  iapply (wp_wt m K c 11 (by decide) (rC 1 4) rfl rfl (src := (pc (Memref.whole main_v1_1) (k0_off14 c) (k0_off14_inb c) squeezes_S1x128x1024_S128x1024)) ((credO1 (peer c 4) (off14_peer c) (k0_off14_inb c)).trans (am_rC 1 4).symm)) $$ [H]
  · isplitr; · iexact HR
    iexact H
  iintro H
  iapply (wp_wt m K c 12 (by decide) (rC 1 5) rfl rfl (src := (pc (Memref.whole main_v1_1) (k0_off15 c) (k0_off15_inb c) squeezes_S1x128x1024_S128x1024)) ((credO1 (peer c 5) (off15_peer c) (k0_off15_inb c)).trans (am_rC 1 5).symm)) $$ [H]
  · isplitr; · iexact HR
    iexact H
  iintro H
  rw [wp_ret]
  imodintro
  iapply HQ
  iexact H

theorem part29 (c : Dev nD) (v2 v5 v8 v959 v960 v965 c0_i32_639 : BitVec 32) {Q : (Σ' (v994 : BitVec 32), BitVec 32) → sProp 𝕄} :
    iprop(records m K ∗ WS m c 13)
      ⊢ iprop((∀ r, WS m c 15 -∗ Q r) -∗ wp frame (wpE (defs₀ (F := F)) 𝒱₀ (c : Thread nD τ) none) Set.univ
          (onBuffers k0_part29 c v2 v5 v8 v959 v960 v965 c0_i32_639) Q) := by
  rw [k0_part29_eq_skeleton]
  unfold onBuffers k0_part29_skel
  simp only [Prog.lift, Prog.bind_op, Prog.bind_ret, Prog.pure_eq_ret]
  iintro ⟨#HR, H⟩ HQ
  iapply (wp_wt m K c 13 (by decide) (rC 1 6) rfl rfl (src := (pc (Memref.whole main_v1_1) (k0_off16 c) (k0_off16_inb c) squeezes_S1x128x1024_S128x1024)) ((credO1 (peer c 6) (off16_peer c) (k0_off16_inb c)).trans (am_rC 1 6).symm)) $$ [H]
  · isplitr; · iexact HR
    iexact H
  iintro H
  iapply (wp_wt m K c 14 (by decide) (rC 2 0) rfl rfl (src := (pc (Memref.whole main_v1_2) (k0_off10 c) (k0_off10_inb c) squeezes_S1x128x1024_S128x1024)) ((credO2 (peer c 0) (off10_peer c) (k0_off10_inb c)).trans (am_rC 2 0).symm)) $$ [H]
  · isplitr; · iexact HR
    iexact H
  iintro H
  rw [wp_ret]
  imodintro
  iapply HQ
  iexact H

theorem part30 (c : Dev nD) (v2 v5 v8 v994 c4_i32_664 : BitVec 32) {Q : (Σ' (v1029 : BitVec 32), BitVec 32) → sProp 𝕄} :
    iprop(records m K ∗ WS m c 15)
      ⊢ iprop((∀ r, WS m c 17 -∗ Q r) -∗ wp frame (wpE (defs₀ (F := F)) 𝒱₀ (c : Thread nD τ) none) Set.univ
          (onBuffers k0_part30 c v2 v5 v8 v994 c4_i32_664) Q) := by
  rw [k0_part30_eq_skeleton]
  unfold onBuffers k0_part30_skel
  simp only [Prog.lift, Prog.bind_op, Prog.bind_ret, Prog.pure_eq_ret]
  iintro ⟨#HR, H⟩ HQ
  iapply (wp_wt m K c 15 (by decide) (rC 2 1) rfl rfl (src := (pc (Memref.whole main_v1_2) (k0_off11 c) (k0_off11_inb c) squeezes_S1x128x1024_S128x1024)) ((credO2 (peer c 1) (off11_peer c) (k0_off11_inb c)).trans (am_rC 2 1).symm)) $$ [H]
  · isplitr; · iexact HR
    iexact H
  iintro H
  iapply (wp_wt m K c 16 (by decide) (rC 2 2) rfl rfl (src := (pc (Memref.whole main_v1_2) (k0_off12 c) (k0_off12_inb c) squeezes_S1x128x1024_S128x1024)) ((credO2 (peer c 2) (off12_peer c) (k0_off12_inb c)).trans (am_rC 2 2).symm)) $$ [H]
  · isplitr; · iexact HR
    iexact H
  iintro H
  rw [wp_ret]
  imodintro
  iapply HQ
  iexact H

theorem part31 (c : Dev nD) (v2 v5 v8 v1029 v1032 : BitVec 32) {Q : (Σ' (v1064 : BitVec 32), BitVec 32) → sProp 𝕄} :
    iprop(records m K ∗ WS m c 17)
      ⊢ iprop((∀ r, WS m c 19 -∗ Q r) -∗ wp frame (wpE (defs₀ (F := F)) 𝒱₀ (c : Thread nD τ) none) Set.univ
          (onBuffers k0_part31 c v2 v5 v8 v1029 v1032) Q) := by
  rw [k0_part31_eq_skeleton]
  unfold onBuffers k0_part31_skel
  simp only [Prog.lift, Prog.bind_op, Prog.bind_ret, Prog.pure_eq_ret]
  iintro ⟨#HR, H⟩ HQ
  iapply (wp_wt m K c 17 (by decide) (rC 2 3) rfl rfl (src := (pc (Memref.whole main_v1_2) (k0_off13 c) (k0_off13_inb c) squeezes_S1x128x1024_S128x1024)) ((credO2 (peer c 3) (off13_peer c) (k0_off13_inb c)).trans (am_rC 2 3).symm)) $$ [H]
  · isplitr; · iexact HR
    iexact H
  iintro H
  iapply (wp_wt m K c 18 (by decide) (rC 2 4) rfl rfl (src := (pc (Memref.whole main_v1_2) (k0_off14 c) (k0_off14_inb c) squeezes_S1x128x1024_S128x1024)) ((credO2 (peer c 4) (off14_peer c) (k0_off14_inb c)).trans (am_rC 2 4).symm)) $$ [H]
  · isplitr; · iexact HR
    iexact H
  iintro H
  rw [wp_ret]
  imodintro
  iapply HQ
  iexact H

theorem part32 (c : Dev nD) (v2 v5 v8 v1064 c1_i32_714 : BitVec 32) {Q : (PUnit) → sProp 𝕄} :
    iprop(records m K ∗ WS m c 19)
      ⊢ iprop((∀ r, WS m c 20 -∗ Q r) -∗ wp frame (wpE (defs₀ (F := F)) 𝒱₀ (c : Thread nD τ) none) Set.univ
          (onBuffers k0_part32 c v2 v5 v8 v1064 c1_i32_714) Q) := by
  rw [k0_part32_eq_skeleton]
  unfold onBuffers k0_part32_skel
  simp only [Prog.lift, Prog.bind_op, Prog.bind_ret, Prog.pure_eq_ret]
  iintro ⟨#HR, H⟩ HQ
  iapply (wp_wt m K c 19 (by decide) (rC 2 5) rfl rfl (src := (pc (Memref.whole main_v1_2) (k0_off15 c) (k0_off15_inb c) squeezes_S1x128x1024_S128x1024)) ((credO2 (peer c 5) (off15_peer c) (k0_off15_inb c)).trans (am_rC 2 5).symm)) $$ [H]
  · isplitr; · iexact HR
    iexact H
  iintro H
  rw [wp_ret]
  imodintro
  iapply HQ
  iexact H

theorem part33 (c : Dev nD) (v2 v5 v8 : BitVec 32) {Q : (PUnit) → sProp 𝕄} :
    iprop(records m K ∗ WS m c 20)
      ⊢ iprop((∀ r, WS m c 22 -∗ Q r) -∗ wp frame (wpE (defs₀ (F := F)) 𝒱₀ (c : Thread nD τ) none) Set.univ
          (onBuffers k0_part33 c v2 v5 v8) Q) := by
  rw [k0_part33_eq_skeleton]
  unfold onBuffers k0_part33_skel
  simp only [Prog.lift, Prog.bind_op, Prog.bind_ret, Prog.pure_eq_ret]
  iintro ⟨#HR, H⟩ HQ
  iapply (wp_wt m K c 20 (by decide) (rC 2 6) rfl rfl (src := (pc (Memref.whole main_v1_2) (k0_off16 c) (k0_off16_inb c) squeezes_S1x128x1024_S128x1024)) ((credO2 (peer c 6) (off16_peer c) (k0_off16_inb c)).trans (am_rC 2 6).symm)) $$ [H]
  · isplitr; · iexact HR
    iexact H
  iintro H
  iapply (wp_wt m K c 21 (by decide) (rC 3 0) rfl rfl (src := (pc (Memref.whole main_v1_3) (k0_off10 c) (k0_off10_inb c) squeezes_S1x128x1024_S128x1024)) ((credO3 (peer c 0) (off10_peer c) (k0_off10_inb c)).trans (am_rC 3 0).symm)) $$ [H]
  · isplitr; · iexact HR
    iexact H
  iintro H
  rw [wp_ret]
  imodintro
  iapply HQ
  iexact H

theorem part34 (c : Dev nD) (v2 v5 v8 : BitVec 32) {Q : (PUnit) → sProp 𝕄} :
    iprop(records m K ∗ WS m c 22)
      ⊢ iprop((∀ r, WS m c 24 -∗ Q r) -∗ wp frame (wpE (defs₀ (F := F)) 𝒱₀ (c : Thread nD τ) none) Set.univ
          (onBuffers k0_part34 c v2 v5 v8) Q) := by
  rw [k0_part34_eq_skeleton]
  unfold onBuffers k0_part34_skel
  simp only [Prog.lift, Prog.bind_op, Prog.bind_ret, Prog.pure_eq_ret]
  iintro ⟨#HR, H⟩ HQ
  iapply (wp_wt m K c 22 (by decide) (rC 3 1) rfl rfl (src := (pc (Memref.whole main_v1_3) (k0_off11 c) (k0_off11_inb c) squeezes_S1x128x1024_S128x1024)) ((credO3 (peer c 1) (off11_peer c) (k0_off11_inb c)).trans (am_rC 3 1).symm)) $$ [H]
  · isplitr; · iexact HR
    iexact H
  iintro H
  iapply (wp_wt m K c 23 (by decide) (rC 3 2) rfl rfl (src := (pc (Memref.whole main_v1_3) (k0_off12 c) (k0_off12_inb c) squeezes_S1x128x1024_S128x1024)) ((credO3 (peer c 2) (off12_peer c) (k0_off12_inb c)).trans (am_rC 3 2).symm)) $$ [H]
  · isplitr; · iexact HR
    iexact H
  iintro H
  rw [wp_ret]
  imodintro
  iapply HQ
  iexact H

theorem part35 (c : Dev nD) (v2 v5 v8 : BitVec 32) {Q : (Σ' (v1189 : BitVec 32), BitVec 32) → sProp 𝕄} :
    iprop(records m K ∗ WS m c 24)
      ⊢ iprop((∀ r, WS m c 26 -∗ Q r) -∗ wp frame (wpE (defs₀ (F := F)) 𝒱₀ (c : Thread nD τ) none) Set.univ
          (onBuffers k0_part35 c v2 v5 v8) Q) := by
  rw [k0_part35_eq_skeleton]
  unfold onBuffers k0_part35_skel
  simp only [Prog.lift, Prog.bind_op, Prog.bind_ret, Prog.pure_eq_ret]
  iintro ⟨#HR, H⟩ HQ
  iapply (wp_wt m K c 24 (by decide) (rC 3 3) rfl rfl (src := (pc (Memref.whole main_v1_3) (k0_off13 c) (k0_off13_inb c) squeezes_S1x128x1024_S128x1024)) ((credO3 (peer c 3) (off13_peer c) (k0_off13_inb c)).trans (am_rC 3 3).symm)) $$ [H]
  · isplitr; · iexact HR
    iexact H
  iintro H
  iapply (wp_wt m K c 25 (by decide) (rC 3 4) rfl rfl (src := (pc (Memref.whole main_v1_3) (k0_off14 c) (k0_off14_inb c) squeezes_S1x128x1024_S128x1024)) ((credO3 (peer c 4) (off14_peer c) (k0_off14_inb c)).trans (am_rC 3 4).symm)) $$ [H]
  · isplitr; · iexact HR
    iexact H
  iintro H
  rw [wp_ret]
  imodintro
  iapply HQ
  iexact H

theorem part36 (c : Dev nD) (v2 v5 v8 v1189 v1195 : BitVec 32) {Q : (PUnit) → sProp 𝕄} :
    iprop(records m K ∗ WS m c 26)
      ⊢ iprop((∀ r, WS m c 28 -∗ Q r) -∗ wp frame (wpE (defs₀ (F := F)) 𝒱₀ (c : Thread nD τ) none) Set.univ
          (onBuffers k0_part36 c v2 v5 v8 v1189 v1195) Q) := by
  rw [k0_part36_eq_skeleton]
  unfold onBuffers k0_part36_skel
  simp only [Prog.lift, Prog.bind_op, Prog.bind_ret, Prog.pure_eq_ret]
  iintro ⟨#HR, H⟩ HQ
  iapply (wp_wt m K c 26 (by decide) (rC 3 5) rfl rfl (src := (pc (Memref.whole main_v1_3) (k0_off15 c) (k0_off15_inb c) squeezes_S1x128x1024_S128x1024)) ((credO3 (peer c 5) (off15_peer c) (k0_off15_inb c)).trans (am_rC 3 5).symm)) $$ [H]
  · isplitr; · iexact HR
    iexact H
  iintro H
  iapply (wp_wt m K c 27 (by decide) (rC 3 6) rfl rfl (src := (pc (Memref.whole main_v1_3) (k0_off16 c) (k0_off16_inb c) squeezes_S1x128x1024_S128x1024)) ((credO3 (peer c 6) (off16_peer c) (k0_off16_inb c)).trans (am_rC 3 6).symm)) $$ [H]
  · isplitr; · iexact HR
    iexact H
  iintro H
  rw [wp_ret]
  imodintro
  iapply HQ
  iexact H

theorem part37 (c : Dev nD) {Q : (PUnit) → sProp 𝕄} :
    iprop(records m K ∗ WS m c 28)
      ⊢ iprop((∀ r, WS m c 32 -∗ Q r) -∗ wp frame (wpE (defs₀ (F := F)) 𝒱₀ (c : Thread nD τ) none) Set.univ
          (onBuffers k0_part37 c) Q) := by
  rw [k0_part37_eq_skeleton]
  unfold onBuffers k0_part37_skel
  simp only [Prog.lift, Prog.bind_op, Prog.bind_ret, Prog.pure_eq_ret]
  iintro ⟨#HR, H⟩ HQ
  iapply (wp_wt m K c 28 (by decide) (sC 0 0) rfl rfl (src := (pc (Memref.whole main_v1_0) (k0_off1 c) (k0_off1_inb c) squeezes_S1x1024x1152_S1024x1152)) ((credI0 (peer c 0) (off3_peer c) (k0_off3_inb c)).trans (am_sC 0 0).symm)) $$ [H]
  · isplitr; · iexact HR
    iexact H
  iintro H
  iapply (wp_wt m K c 29 (by decide) (sC 0 1) rfl rfl (src := (pc (Memref.whole main_v1_0) (k0_off1 c) (k0_off1_inb c) squeezes_S1x1024x1152_S1024x1152)) ((credI0 (peer c 1) (off4_peer c) (k0_off4_inb c)).trans (am_sC 0 1).symm)) $$ [H]
  · isplitr; · iexact HR
    iexact H
  iintro H
  iapply (wp_wt m K c 30 (by decide) (sC 0 2) rfl rfl (src := (pc (Memref.whole main_v1_0) (k0_off1 c) (k0_off1_inb c) squeezes_S1x1024x1152_S1024x1152)) ((credI0 (peer c 2) (off5_peer c) (k0_off5_inb c)).trans (am_sC 0 2).symm)) $$ [H]
  · isplitr; · iexact HR
    iexact H
  iintro H
  iapply (wp_wt m K c 31 (by decide) (sC 0 3) rfl rfl (src := (pc (Memref.whole main_v1_0) (k0_off1 c) (k0_off1_inb c) squeezes_S1x1024x1152_S1024x1152)) ((credI0 (peer c 3) (off6_peer c) (k0_off6_inb c)).trans (am_sC 0 3).symm)) $$ [H]
  · isplitr; · iexact HR
    iexact H
  iintro H
  rw [wp_ret]
  imodintro
  iapply HQ
  iexact H

theorem part38 (c : Dev nD) {Q : (PUnit) → sProp 𝕄} :
    iprop(records m K ∗ WS m c 32)
      ⊢ iprop((∀ r, WS m c 37 -∗ Q r) -∗ wp frame (wpE (defs₀ (F := F)) 𝒱₀ (c : Thread nD τ) none) Set.univ
          (onBuffers k0_part38 c) Q) := by
  rw [k0_part38_eq_skeleton]
  unfold onBuffers k0_part38_skel
  simp only [Prog.lift, Prog.bind_op, Prog.bind_ret, Prog.pure_eq_ret]
  iintro ⟨#HR, H⟩ HQ
  iapply (wp_wt m K c 32 (by decide) (sC 0 4) rfl rfl (src := (pc (Memref.whole main_v1_0) (k0_off1 c) (k0_off1_inb c) squeezes_S1x1024x1152_S1024x1152)) ((credI0 (peer c 4) (off7_peer c) (k0_off7_inb c)).trans (am_sC 0 4).symm)) $$ [H]
  · isplitr; · iexact HR
    iexact H
  iintro H
  iapply (wp_wt m K c 33 (by decide) (sC 0 5) rfl rfl (src := (pc (Memref.whole main_v1_0) (k0_off1 c) (k0_off1_inb c) squeezes_S1x1024x1152_S1024x1152)) ((credI0 (peer c 5) (off8_peer c) (k0_off8_inb c)).trans (am_sC 0 5).symm)) $$ [H]
  · isplitr; · iexact HR
    iexact H
  iintro H
  iapply (wp_wt m K c 34 (by decide) (sC 0 6) rfl rfl (src := (pc (Memref.whole main_v1_0) (k0_off1 c) (k0_off1_inb c) squeezes_S1x1024x1152_S1024x1152)) ((credI0 (peer c 6) (off9_peer c) (k0_off9_inb c)).trans (am_sC 0 6).symm)) $$ [H]
  · isplitr; · iexact HR
    iexact H
  iintro H
  iapply (wp_wt m K c 35 (by decide) (sC 1 0) rfl rfl (src := (pc (Memref.whole main_v1_1) (k0_off2 c) (k0_off2_inb c) squeezes_S1x128x1024_S128x1024)) ((credI1 (peer c 0) (off10_peer c) (k0_off10_inb c)).trans (am_sC 1 0).symm)) $$ [H]
  · isplitr; · iexact HR
    iexact H
  iintro H
  iapply (wp_wt m K c 36 (by decide) (sC 1 1) rfl rfl (src := (pc (Memref.whole main_v1_1) (k0_off2 c) (k0_off2_inb c) squeezes_S1x128x1024_S128x1024)) ((credI1 (peer c 1) (off11_peer c) (k0_off11_inb c)).trans (am_sC 1 1).symm)) $$ [H]
  · isplitr; · iexact HR
    iexact H
  iintro H
  rw [wp_ret]
  imodintro
  iapply HQ
  iexact H

theorem part39 (c : Dev nD) {Q : (PUnit) → sProp 𝕄} :
    iprop(records m K ∗ WS m c 37)
      ⊢ iprop((∀ r, WS m c 41 -∗ Q r) -∗ wp frame (wpE (defs₀ (F := F)) 𝒱₀ (c : Thread nD τ) none) Set.univ
          (onBuffers k0_part39 c) Q) := by
  rw [k0_part39_eq_skeleton]
  unfold onBuffers k0_part39_skel
  simp only [Prog.lift, Prog.bind_op, Prog.bind_ret, Prog.pure_eq_ret]
  iintro ⟨#HR, H⟩ HQ
  iapply (wp_wt m K c 37 (by decide) (sC 1 2) rfl rfl (src := (pc (Memref.whole main_v1_1) (k0_off2 c) (k0_off2_inb c) squeezes_S1x128x1024_S128x1024)) ((credI1 (peer c 2) (off12_peer c) (k0_off12_inb c)).trans (am_sC 1 2).symm)) $$ [H]
  · isplitr; · iexact HR
    iexact H
  iintro H
  iapply (wp_wt m K c 38 (by decide) (sC 1 3) rfl rfl (src := (pc (Memref.whole main_v1_1) (k0_off2 c) (k0_off2_inb c) squeezes_S1x128x1024_S128x1024)) ((credI1 (peer c 3) (off13_peer c) (k0_off13_inb c)).trans (am_sC 1 3).symm)) $$ [H]
  · isplitr; · iexact HR
    iexact H
  iintro H
  iapply (wp_wt m K c 39 (by decide) (sC 1 4) rfl rfl (src := (pc (Memref.whole main_v1_1) (k0_off2 c) (k0_off2_inb c) squeezes_S1x128x1024_S128x1024)) ((credI1 (peer c 4) (off14_peer c) (k0_off14_inb c)).trans (am_sC 1 4).symm)) $$ [H]
  · isplitr; · iexact HR
    iexact H
  iintro H
  iapply (wp_wt m K c 40 (by decide) (sC 1 5) rfl rfl (src := (pc (Memref.whole main_v1_1) (k0_off2 c) (k0_off2_inb c) squeezes_S1x128x1024_S128x1024)) ((credI1 (peer c 5) (off15_peer c) (k0_off15_inb c)).trans (am_sC 1 5).symm)) $$ [H]
  · isplitr; · iexact HR
    iexact H
  iintro H
  rw [wp_ret]
  imodintro
  iapply HQ
  iexact H

theorem part40 (c : Dev nD) {Q : (PUnit) → sProp 𝕄} :
    iprop(records m K ∗ WS m c 41)
      ⊢ iprop((∀ r, WS m c 45 -∗ Q r) -∗ wp frame (wpE (defs₀ (F := F)) 𝒱₀ (c : Thread nD τ) none) Set.univ
          (onBuffers k0_part40 c) Q) := by
  rw [k0_part40_eq_skeleton]
  unfold onBuffers k0_part40_skel
  simp only [Prog.lift, Prog.bind_op, Prog.bind_ret, Prog.pure_eq_ret]
  iintro ⟨#HR, H⟩ HQ
  iapply (wp_wt m K c 41 (by decide) (sC 1 6) rfl rfl (src := (pc (Memref.whole main_v1_1) (k0_off2 c) (k0_off2_inb c) squeezes_S1x128x1024_S128x1024)) ((credI1 (peer c 6) (off16_peer c) (k0_off16_inb c)).trans (am_sC 1 6).symm)) $$ [H]
  · isplitr; · iexact HR
    iexact H
  iintro H
  iapply (wp_wt m K c 42 (by decide) (sC 2 0) rfl rfl (src := (pc (Memref.whole main_v1_2) (k0_off2 c) (k0_off2_inb c) squeezes_S1x128x1024_S128x1024)) ((credI2 (peer c 0) (off10_peer c) (k0_off10_inb c)).trans (am_sC 2 0).symm)) $$ [H]
  · isplitr; · iexact HR
    iexact H
  iintro H
  iapply (wp_wt m K c 43 (by decide) (sC 2 1) rfl rfl (src := (pc (Memref.whole main_v1_2) (k0_off2 c) (k0_off2_inb c) squeezes_S1x128x1024_S128x1024)) ((credI2 (peer c 1) (off11_peer c) (k0_off11_inb c)).trans (am_sC 2 1).symm)) $$ [H]
  · isplitr; · iexact HR
    iexact H
  iintro H
  iapply (wp_wt m K c 44 (by decide) (sC 2 2) rfl rfl (src := (pc (Memref.whole main_v1_2) (k0_off2 c) (k0_off2_inb c) squeezes_S1x128x1024_S128x1024)) ((credI2 (peer c 2) (off12_peer c) (k0_off12_inb c)).trans (am_sC 2 2).symm)) $$ [H]
  · isplitr; · iexact HR
    iexact H
  iintro H
  rw [wp_ret]
  imodintro
  iapply HQ
  iexact H

theorem part41 (c : Dev nD) {Q : (PUnit) → sProp 𝕄} :
    iprop(records m K ∗ WS m c 45)
      ⊢ iprop((∀ r, WS m c 50 -∗ Q r) -∗ wp frame (wpE (defs₀ (F := F)) 𝒱₀ (c : Thread nD τ) none) Set.univ
          (onBuffers k0_part41 c) Q) := by
  rw [k0_part41_eq_skeleton]
  unfold onBuffers k0_part41_skel
  simp only [Prog.lift, Prog.bind_op, Prog.bind_ret, Prog.pure_eq_ret]
  iintro ⟨#HR, H⟩ HQ
  iapply (wp_wt m K c 45 (by decide) (sC 2 3) rfl rfl (src := (pc (Memref.whole main_v1_2) (k0_off2 c) (k0_off2_inb c) squeezes_S1x128x1024_S128x1024)) ((credI2 (peer c 3) (off13_peer c) (k0_off13_inb c)).trans (am_sC 2 3).symm)) $$ [H]
  · isplitr; · iexact HR
    iexact H
  iintro H
  iapply (wp_wt m K c 46 (by decide) (sC 2 4) rfl rfl (src := (pc (Memref.whole main_v1_2) (k0_off2 c) (k0_off2_inb c) squeezes_S1x128x1024_S128x1024)) ((credI2 (peer c 4) (off14_peer c) (k0_off14_inb c)).trans (am_sC 2 4).symm)) $$ [H]
  · isplitr; · iexact HR
    iexact H
  iintro H
  iapply (wp_wt m K c 47 (by decide) (sC 2 5) rfl rfl (src := (pc (Memref.whole main_v1_2) (k0_off2 c) (k0_off2_inb c) squeezes_S1x128x1024_S128x1024)) ((credI2 (peer c 5) (off15_peer c) (k0_off15_inb c)).trans (am_sC 2 5).symm)) $$ [H]
  · isplitr; · iexact HR
    iexact H
  iintro H
  iapply (wp_wt m K c 48 (by decide) (sC 2 6) rfl rfl (src := (pc (Memref.whole main_v1_2) (k0_off2 c) (k0_off2_inb c) squeezes_S1x128x1024_S128x1024)) ((credI2 (peer c 6) (off16_peer c) (k0_off16_inb c)).trans (am_sC 2 6).symm)) $$ [H]
  · isplitr; · iexact HR
    iexact H
  iintro H
  iapply (wp_wt m K c 49 (by decide) (sC 3 0) rfl rfl (src := (pc (Memref.whole main_v1_3) (k0_off2 c) (k0_off2_inb c) squeezes_S1x128x1024_S128x1024)) ((credI3 (peer c 0) (off10_peer c) (k0_off10_inb c)).trans (am_sC 3 0).symm)) $$ [H]
  · isplitr; · iexact HR
    iexact H
  iintro H
  rw [wp_ret]
  imodintro
  iapply HQ
  iexact H

theorem part42 (c : Dev nD) {Q : (PUnit) → sProp 𝕄} :
    iprop(records m K ∗ WS m c 50)
      ⊢ iprop((∀ r, WS m c 54 -∗ Q r) -∗ wp frame (wpE (defs₀ (F := F)) 𝒱₀ (c : Thread nD τ) none) Set.univ
          (onBuffers k0_part42 c) Q) := by
  rw [k0_part42_eq_skeleton]
  unfold onBuffers k0_part42_skel
  simp only [Prog.lift, Prog.bind_op, Prog.bind_ret, Prog.pure_eq_ret]
  iintro ⟨#HR, H⟩ HQ
  iapply (wp_wt m K c 50 (by decide) (sC 3 1) rfl rfl (src := (pc (Memref.whole main_v1_3) (k0_off2 c) (k0_off2_inb c) squeezes_S1x128x1024_S128x1024)) ((credI3 (peer c 1) (off11_peer c) (k0_off11_inb c)).trans (am_sC 3 1).symm)) $$ [H]
  · isplitr; · iexact HR
    iexact H
  iintro H
  iapply (wp_wt m K c 51 (by decide) (sC 3 2) rfl rfl (src := (pc (Memref.whole main_v1_3) (k0_off2 c) (k0_off2_inb c) squeezes_S1x128x1024_S128x1024)) ((credI3 (peer c 2) (off12_peer c) (k0_off12_inb c)).trans (am_sC 3 2).symm)) $$ [H]
  · isplitr; · iexact HR
    iexact H
  iintro H
  iapply (wp_wt m K c 52 (by decide) (sC 3 3) rfl rfl (src := (pc (Memref.whole main_v1_3) (k0_off2 c) (k0_off2_inb c) squeezes_S1x128x1024_S128x1024)) ((credI3 (peer c 3) (off13_peer c) (k0_off13_inb c)).trans (am_sC 3 3).symm)) $$ [H]
  · isplitr; · iexact HR
    iexact H
  iintro H
  iapply (wp_wt m K c 53 (by decide) (sC 3 4) rfl rfl (src := (pc (Memref.whole main_v1_3) (k0_off2 c) (k0_off2_inb c) squeezes_S1x128x1024_S128x1024)) ((credI3 (peer c 4) (off14_peer c) (k0_off14_inb c)).trans (am_sC 3 4).symm)) $$ [H]
  · isplitr; · iexact HR
    iexact H
  iintro H
  rw [wp_ret]
  imodintro
  iapply HQ
  iexact H

theorem part43 (c : Dev nD) {Q : (PUnit) → sProp 𝕄} :
    iprop(records m K ∗ WS m c 54)
      ⊢ iprop((∀ r, WS m c 59 -∗ Q r) -∗ wp frame (wpE (defs₀ (F := F)) 𝒱₀ (c : Thread nD τ) none) Set.univ
          (onBuffers k0_part43 c) Q) := by
  rw [k0_part43_eq_skeleton]
  unfold onBuffers k0_part43_skel
  simp only [Prog.lift, Prog.bind_op, Prog.bind_ret, Prog.pure_eq_ret]
  iintro ⟨#HR, H⟩ HQ
  iapply (wp_wt m K c 54 (by decide) (sC 3 5) rfl rfl (src := (pc (Memref.whole main_v1_3) (k0_off2 c) (k0_off2_inb c) squeezes_S1x128x1024_S128x1024)) ((credI3 (peer c 5) (off15_peer c) (k0_off15_inb c)).trans (am_sC 3 5).symm)) $$ [H]
  · isplitr; · iexact HR
    iexact H
  iintro H
  iapply (wp_wt m K c 55 (by decide) (sC 3 6) rfl rfl (src := (pc (Memref.whole main_v1_3) (k0_off2 c) (k0_off2_inb c) squeezes_S1x128x1024_S128x1024)) ((credI3 (peer c 6) (off16_peer c) (k0_off16_inb c)).trans (am_sC 3 6).symm)) $$ [H]
  · isplitr; · iexact HR
    iexact H
  iintro H
  iapply (wp_wt m K c 56 (by decide) (lC 0) rfl rfl (src := (pc (Memref.whole main_arg0) (k0_off1 c) (k0_off1_inb c) squeezes_S1x1024x1152_S1024x1152)) ((credO0 c (off1_own c) (k0_off1_inb c)).trans (am_lC 0).symm)) $$ [H]
  · isplitr; · iexact HR
    iexact H
  iintro H
  iapply (wp_wt m K c 57 (by decide) (lC 1) rfl rfl (src := (pc (Memref.whole main_arg1) (k0_off2 c) (k0_off2_inb c) squeezes_S1x128x1024_S128x1024)) ((credO1 c (off2_own c) (k0_off2_inb c)).trans (am_lC 1).symm)) $$ [H]
  · isplitr; · iexact HR
    iexact H
  iintro H
  iapply (wp_wt m K c 58 (by decide) (lC 2) rfl rfl (src := (pc (Memref.whole main_arg2) (k0_off2 c) (k0_off2_inb c) squeezes_S1x128x1024_S128x1024)) ((credO2 c (off2_own c) (k0_off2_inb c)).trans (am_lC 2).symm)) $$ [H]
  · isplitr; · iexact HR
    iexact H
  iintro H
  rw [wp_ret]
  imodintro
  iapply HQ
  iexact H

end Cert.Exchange

end
-- ==== Proof.Body.lean ====
/-
  The exchange's body, whole: from a device's lists with nothing ticked off and its semaphores' positions to every wait's
  post, through the forty-three printed parts.
-/
module

public import proofs.«01_k».proof.Proof.Parts

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 60 → ℕ)

set_option maxRecDepth 65536
set_option maxHeartbeats 1000000

/-! ## From what was started to what is waited for -/

omit [FloatOps F] in
theorem ord_bij : Function.Bijective ord := by decide +kernel

def semOf : Fin 28 ⊕ (Fin 28 ⊕ Fin 4) → Fin 60 | .inl j => sOf j | .inr (.inl j) => rOf j | .inr (.inr a) => lC a
theorem semOf_bij : Function.Bijective semOf := by decide +kernel

omit [FloatOps F] in
/-- What is said of every semaphore is said of the sends', of the receives' and of the local copies'. -/
theorem by_role (Φ : Fin 60 → sProp 𝕄) :
    bigSep Finset.univ Φ = iprop((bigSep Finset.univ fun j => Φ (sOf j)) ∗ (bigSep Finset.univ fun j => Φ (rOf j)) ∗ bigSep Finset.univ fun a => Φ (lC a)) := by
  rw [bigSep_univ_equiv (Equiv.ofBijective semOf semOf_bij) Φ, bigSep_univ_sum, bigSep_univ_sum]
  rfl

omit [FloatOps F] in
theorem by_ord (Φ : Fin 60 → sProp 𝕄) : bigSep Finset.univ Φ = bigSep Finset.univ fun i => Φ (ord i) := by
  rw [bigSep_univ_equiv (Equiv.ofBijective ord ord_bij) Φ]; rfl

def recvCreds (c : Dev nD) : sProp 𝕄 := bigSep Finset.univ fun j : Fin 28 => cred (tallyAt (cell c (rOf j)) () (am (rOf j)))
def positions (c : Dev nD) : sProp 𝕄 := bigSep Finset.univ fun j : Fin 60 => atPos ER (cell c j) 0 ∅ 0

omit [FloatOps F] in
theorem waits_ready (c : Dev nD) :
    iprop((bigSep Finset.univ (locPost c)) ∗ (bigSep Finset.univ (sendPost c)) ∗ recvCreds c ∗ positions c)
      ⊢ (bigSep Finset.univ (waitPre c) : sProp 𝕄) := by
  have h1 : (bigSep Finset.univ (waitPre c) : sProp 𝕄)
      = iprop((bigSep Finset.univ fun j : Fin 60 => cred (tallyAt (cell c j) () (am j))) ∗ positions c) := by
    unfold positions
    rw [by_ord (fun j => cred (tallyAt (cell c j) () (am j))), by_ord (fun j => atPos ER (cell c j) 0 ∅ 0), ← bigSep_sep']
    rfl
  rw [h1, by_role (fun j => cred (tallyAt (cell c j) () (am j)))]
  unfold recvCreds
  iintro ⟨H1, H2, H3, H4⟩
  isplitr [H4]
  · isplitl [H2]; · iexact H2
    isplitl [H3]; · iexact H3
    iexact H1
  iexact H4

/-! ## The body -/

theorem body (c : Dev nD) {Q : PUnit → sProp 𝕄} :
    iprop(records m K ∗ LS m c 0 ∗ SS m c 0 ∗ recvCreds c ∗ positions c)
      ⊢ iprop((∀ r, WS m c 60 -∗ Q r) -∗ wp frame (wpE (defs₀ (F := F)) 𝒱₀ (c : Thread nD τ) none) Set.univ
          (cc0_scatter_partials (Memref.whole main_arg0) (Memref.isWhole_whole _) (Memref.whole main_arg1) (Memref.isWhole_whole _) (Memref.whole main_arg2) (Memref.isWhole_whole _) (Memref.whole main_arg3) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) cc0_scratch0 cc0_scratch1 cc0_scratch2) Q) := by
  rw [cc0_scatter_partials_eq_skeleton]
  unfold cc0_scatter_partials_skel
  iintro ⟨#HR, HL, HS, Hrc, Hat⟩ HQ
  rw [wp_bind]
  iapply (part1 m K c) $$ [HL]
  · isplitr; · iexact HR
    iexact HL
  iintro %v2 %v5 %v8 HL
  dsimp only
  rw [wp_bind]
  iapply (part2 m K c _ _ _) $$ [HL]
  · isplitr; · iexact HR
    iexact HL
  iintro %r HL
  rw [wp_bind]
  iapply (part3 m K c _ _ _ _) $$ [HS]
  · isplitr; · iexact HR
    iexact HS
  iintro %r HS
  rw [wp_bind]
  iapply (part4 m K c _ _ _) $$ [HS]
  · isplitr; · iexact HR
    iexact HS
  iintro %r HS
  obtain ⟨r0, r1⟩ := r
  dsimp only
  rw [wp_bind]
  iapply (part5 m K c _ _ _ _ _) $$ [HS]
  · isplitr; · iexact HR
    iexact HS
  iintro %r HS
  rw [wp_bind]
  iapply (part6 m K c _ _ _) $$ [HS]
  · isplitr; · iexact HR
    iexact HS
  iintro %r HS
  obtain ⟨r0, r1, r2, r3⟩ := r
  dsimp only
  rw [wp_bind]
  iapply (part7 m K c _ _ _ _ _ _ _) $$ [HS]
  · isplitr; · iexact HR
    iexact HS
  iintro %r HS
  obtain ⟨r0, r1⟩ := r
  dsimp only
  rw [wp_bind]
  iapply (part8 m K c _ _ _ _ _) $$ [HS]
  · isplitr; · iexact HR
    iexact HS
  iintro %r HS
  obtain ⟨r0, r1, r2, r3⟩ := r
  dsimp only
  rw [wp_bind]
  iapply (part9 m K c _ _ _ _ _ _ _) $$ [HS]
  · isplitr; · iexact HR
    iexact HS
  iintro %r HS
  rw [wp_bind]
  iapply (part10 m K c _ _ _) $$ [HS]
  · isplitr; · iexact HR
    iexact HS
  iintro %r HS
  obtain ⟨r0, r1, r2⟩ := r
  dsimp only
  rw [wp_bind]
  iapply (part11 m K c _ _ _ _ _ _) $$ [HS]
  · isplitr; · iexact HR
    iexact HS
  iintro %r HS
  obtain ⟨r0, r1, r2, r3⟩ := r
  dsimp only
  rw [wp_bind]
  iapply (part12 m K c _ _ _ _ _ _ _) $$ [HS]
  · isplitr; · iexact HR
    iexact HS
  iintro %r HS
  obtain ⟨r0, r1⟩ := r
  dsimp only
  rw [wp_bind]
  iapply (part13 m K c _ _ _ _ _) $$ [HS]
  · isplitr; · iexact HR
    iexact HS
  iintro %r HS
  obtain ⟨r0, r1, r2⟩ := r
  dsimp only
  rw [wp_bind]
  iapply (part14 m K c _ _ _ _ _ _) $$ [HS]
  · isplitr; · iexact HR
    iexact HS
  iintro %r HS
  obtain ⟨r0, r1⟩ := r
  dsimp only
  rw [wp_bind]
  iapply (part15 m K c _ _ _ _ _) $$ [HS]
  · isplitr; · iexact HR
    iexact HS
  iintro %r HS
  obtain ⟨r0, r1, r2⟩ := r
  dsimp only
  rw [wp_bind]
  iapply (part16 m K c _ _ _ _ _ _) $$ [HS]
  · isplitr; · iexact HR
    iexact HS
  iintro %r HS
  rw [wp_bind]
  iapply (part17 m K c _ _ _) $$ [HS]
  · isplitr; · iexact HR
    iexact HS
  iintro %r HS
  obtain ⟨r0, r1⟩ := r
  dsimp only
  rw [wp_bind]
  iapply (part18 m K c _ _ _ _ _) $$ [HS]
  · isplitr; · iexact HR
    iexact HS
  iintro %r HS
  rw [wp_bind]
  iapply (part19 m K c _ _ _) $$ [HS]
  · isplitr; · iexact HR
    iexact HS
  iintro %r HS
  obtain ⟨r0, r1, r2⟩ := r
  dsimp only
  rw [wp_bind]
  iapply (part20 m K c _ _ _ _ _ _) $$ [HS]
  · isplitr; · iexact HR
    iexact HS
  iintro %r HS
  rw [wp_bind]
  iapply (part21 m K c _ _ _) $$ [HS]
  · isplitr; · iexact HR
    iexact HS
  iintro %r HS
  obtain ⟨r0, r1, r2⟩ := r
  dsimp only
  ihave HLe := (two_end (locPre m c) (locPost c)) $$ [HL]
  · unfold LS; iexact HL
  unfold SS
  icases HS with ⟨HS, Ho⟩
  ihave HSe := (two_end (sendPre m c) (sendPost c)) $$ HS
  rw [show O c (27 + 1) = 0 from O_end c]
  ihave HW := (waits_ready c) $$ [HLe HSe Hrc Hat]
  · isplitl [HLe]; · iexact HLe
    isplitl [HSe]; · iexact HSe
    isplitl [Hrc]; · iexact Hrc
    iexact Hat
  ihave HS : WS m c 0 $$ [HW Ho]
  · unfold WS
    isplitl [HW]
    · iapply (two_start (waitPre c) (waitPost m c)); iexact HW
    iexists ∅; iexact Ho
  rw [wp_bind]
  iapply (part22 m K c _ _ _ _ _ _) $$ [HS]
  · isplitr; · iexact HR
    iexact HS
  iintro %r HS
  obtain ⟨r0, r1, r2⟩ := r
  dsimp only
  rw [wp_bind]
  iapply (part23 m K c _ _ _ _ _ _) $$ [HS]
  · isplitr; · iexact HR
    iexact HS
  iintro %r HS
  obtain ⟨r0, r1⟩ := r
  dsimp only
  rw [wp_bind]
  iapply (part24 m K c _ _ _ _ _) $$ [HS]
  · isplitr; · iexact HR
    iexact HS
  iintro %r HS
  obtain ⟨r0, r1⟩ := r
  dsimp only
  rw [wp_bind]
  iapply (part25 m K c _ _ _ _ _) $$ [HS]
  · isplitr; · iexact HR
    iexact HS
  iintro %r HS
  rw [wp_bind]
  iapply (part26 m K c _ _ _) $$ [HS]
  · isplitr; · iexact HR
    iexact HS
  iintro %r HS
  rw [wp_bind]
  iapply (part27 m K c _ _ _) $$ [HS]
  · isplitr; · iexact HR
    iexact HS
  iintro %r HS
  rw [wp_bind]
  iapply (part28 m K c _ _ _) $$ [HS]
  · isplitr; · iexact HR
    iexact HS
  iintro %r HS
  obtain ⟨r0, r1, r2, r3⟩ := r
  dsimp only
  rw [wp_bind]
  iapply (part29 m K c _ _ _ _ _ _ _) $$ [HS]
  · isplitr; · iexact HR
    iexact HS
  iintro %r HS
  obtain ⟨r0, r1⟩ := r
  dsimp only
  rw [wp_bind]
  iapply (part30 m K c _ _ _ _ _) $$ [HS]
  · isplitr; · iexact HR
    iexact HS
  iintro %r HS
  obtain ⟨r0, r1⟩ := r
  dsimp only
  rw [wp_bind]
  iapply (part31 m K c _ _ _ _ _) $$ [HS]
  · isplitr; · iexact HR
    iexact HS
  iintro %r HS
  obtain ⟨r0, r1⟩ := r
  dsimp only
  rw [wp_bind]
  iapply (part32 m K c _ _ _ _ _) $$ [HS]
  · isplitr; · iexact HR
    iexact HS
  iintro %r HS
  rw [wp_bind]
  iapply (part33 m K c _ _ _) $$ [HS]
  · isplitr; · iexact HR
    iexact HS
  iintro %r HS
  rw [wp_bind]
  iapply (part34 m K c _ _ _) $$ [HS]
  · isplitr; · iexact HR
    iexact HS
  iintro %r HS
  rw [wp_bind]
  iapply (part35 m K c _ _ _) $$ [HS]
  · isplitr; · iexact HR
    iexact HS
  iintro %r HS
  obtain ⟨r0, r1⟩ := r
  dsimp only
  rw [wp_bind]
  iapply (part36 m K c _ _ _ _ _) $$ [HS]
  · isplitr; · iexact HR
    iexact HS
  iintro %r HS
  rw [wp_bind]
  iapply (part37 m K c) $$ [HS]
  · isplitr; · iexact HR
    iexact HS
  iintro %r HS
  rw [wp_bind]
  iapply (part38 m K c) $$ [HS]
  · isplitr; · iexact HR
    iexact HS
  iintro %r HS
  rw [wp_bind]
  iapply (part39 m K c) $$ [HS]
  · isplitr; · iexact HR
    iexact HS
  iintro %r HS
  rw [wp_bind]
  iapply (part40 m K c) $$ [HS]
  · isplitr; · iexact HR
    iexact HS
  iintro %r HS
  rw [wp_bind]
  iapply (part41 m K c) $$ [HS]
  · isplitr; · iexact HR
    iexact HS
  iintro %r HS
  rw [wp_bind]
  iapply (part42 m K c) $$ [HS]
  · isplitr; · iexact HR
    iexact HS
  iintro %r HS
  rw [wp_bind]
  iapply (part43 m K c) $$ [HS]
  · isplitr; · iexact HR
    iexact HS
  iintro %r HS
  simp only [Prog.lift, Prog.bind_op, Prog.bind_ret, Prog.pure_eq_ret]
  iapply (wp_wt m K c 59 (by decide) (lC 3) rfl rfl (src := (pc (Memref.whole main_arg3) (k0_off2 c) (k0_off2_inb c) squeezes_S1x128x1024_S128x1024)) ((credO3 c (off2_own c) (k0_off2_inb c)).trans (am_lC 3).symm)) $$ [HS]
  · isplitr; · iexact HR
    iexact HS
  iintro HS
  rw [wp_ret]
  imodintro
  iapply HQ
  iexact HS

end Cert.Exchange

end
-- ==== Proof.Slots.lean ====
module

public import proofs.«01_k».proof.Proof.Body
public import Idealize.ShloMosaic.Lib.ViewIndex
public import Idealize.ShloMosaic.Lib.Pipeline.Frame

/-! The exchanged arrays as wholes and as slots: each array of a device is its eight slots, one's own and the
    seven peers', and what every device keeps for a peer, every peer has from that device. -/

@[expose] public section
noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices and transfers -/

omit [FloatOps F] in
/-- Said of every device: said of oneself and of the seven peers. -/
theorem by_peer (c : Dev nD) (Φ : Dev nD → sProp 𝕄) :
    bigSep Finset.univ Φ = iprop(Φ c ∗ bigSep Finset.univ fun k : Fin 7 => Φ (peer c k)) := by
  have hn : c ∉ Finset.univ.image (peer c) := by
    intro h
    obtain ⟨k, -, hk⟩ := Finset.mem_image.mp h
    exact peer_ne c k hk
  conv_lhs => rw [univ_eq c, bigSep_insert hn, bigSep_image_of_injOn (fun _ _ _ _ h => peer_inj c h)]
  rfl

theorem pair_bij : Function.Bijective (fun j : Fin 28 => (aOf j, kOf j)) := by decide +kernel

omit [FloatOps F] in
/-- Said of every array and every peer: said of every transfer. -/
theorem by_pair (Φ : Fin 4 → Fin 7 → sProp 𝕄) :
    (bigSep Finset.univ fun a => bigSep Finset.univ fun k => Φ a k) = bigSep Finset.univ fun j : Fin 28 => Φ (aOf j) (kOf j) := by
  rw [← bigSep_univ_prod (fun ak : Fin 4 × Fin 7 => Φ ak.1 ak.2), bigSep_univ_equiv (Equiv.ofBijective _ pair_bij)]
  rfl

omit [FloatOps F] in
/-- What each device has for the peer of a transfer goes to that peer, which is in turn the peer's peer. -/
theorem around (Ψ : Fin 28 → Dev nD → Dev nD → sProp 𝕄) :
    (bigSep Finset.univ fun c : Dev nD => bigSep Finset.univ fun j : Fin 28 => Ψ j c (peer c (kOf j)))
      = bigSep Finset.univ fun c : Dev nD => bigSep Finset.univ fun j : Fin 28 => Ψ j (peer c (kOf j)) c := by
  rw [bigSep_univ_comm, bigSep_univ_comm (fun (c : Dev nD) (j : Fin 28) => Ψ j (peer c (kOf j)) c)]
  refine bigSep_congr fun j _ => ?_
  rw [bigSep_univ_equiv (flip (kOf j))]
  refine bigSep_congr fun c _ => ?_
  show Ψ j (peer c (kOf j)) (peer (peer c (kOf j)) (kOf j)) = _
  rw [peer_peer]

/-! ## An array is its slots -/

section Pieces
variable {r k : ℕ} (M : Memref sig .tc .hbm (Sh3 r k) .f32) (hM : M.IsWhole) (hq : (Sh1 r k).Squeezes (Sh2 r k))

/-- The elements of one slot. -/
abbrev pcSet (s : Dev nD) : Finset M.view.ty.Idx := (pc M ![s.val, 0, 0] (slot_inb r k s) hq).view.set

theorem pc_set (s : Dev nD) : pcSet M hq s = (Rect.unit (s := Sh3 r k) ![s.val, 0, 0] (Sh1 r k).size (slot_inb r k s)).set.map M.view.emb :=
  (View.set_reshape _ _).trans (View.set_slice _ _)

include hM in
theorem pc_cover : (Finset.univ : Finset (Dev nD)).biUnion (pcSet M hq) = Finset.univ := by
  refine Finset.eq_univ_iff_forall.mpr fun i => ?_
  have hi : i ∈ M.view.set := by rw [hM.set_eq_univ]; exact Finset.mem_univ i
  obtain ⟨x, -, rfl⟩ := Finset.mem_map.mp hi
  refine Finset.mem_biUnion.mpr ⟨(x 0 : Fin 8), Finset.mem_univ _, ?_⟩
  refine (Finset.ext_iff.mp (pc_set M hq (x 0 : Fin 8)) _).mpr (Finset.mem_map.mpr ⟨x, Rect.mem_set_unit.mpr fun a => ?_, rfl⟩)
  have h := (x a).isLt
  fin_cases a
  · exact ⟨le_refl _, Nat.lt_succ_self _⟩
  · exact ⟨Nat.zero_le _, by simpa using h⟩
  · exact ⟨Nat.zero_le _, by simpa using h⟩

theorem pc_disjoint (s s' : Dev nD) (h : s ≠ s') : Disjoint (pcSet M hq s) (pcSet M hq s') := by
  rw [pc_set, pc_set]
  refine (Finset.disjoint_map _).mpr (Rect.unit_disjoint (s := Sh3 r k) (0 : Fin 3) ?_)
  have : s.val ≠ s'.val := fun e => h (Fin.ext e)
  show s.val + 1 ≤ s'.val ∨ s'.val + 1 ≤ s.val
  omega

include hM in
omit [FloatOps F] in
theorem slots (d : Dev nD) (f : Buf (Elt F) (M.view.loc (d : Thread nD τ))) :
    ((M.view.loc (d : Thread nD τ) ↦{fullShare} f : sProp 𝕄))
      = bigSep Finset.univ fun s : Dev nD =>
          (pc M ![s.val, 0, 0] (slot_inb r k s) hq).view.loc (d : Thread nD τ) ↦[(pc M ![s.val, 0, 0] (slot_inb r k s) hq).view.set]{fullShare} f := by
  have h := pointsTo_biUnion (Ix := Unit) (Name := ℕ) (U := UU) (Lvl := ℕ) (ℓ := M.view.loc (d : Thread nD τ)) (q := fullShare) (f := f) (Finset.univ : Finset (Dev nD))
    (pcSet M hq) (fun s _ s' _ => pc_disjoint M hq s s')
  rw [pc_cover M hM hq] at h
  exact h

end Pieces

variable (m : (ℓ : Loc nD τ sig) → Buf (Elt F) ℓ)

theorem inM_whole : (a : Fin 4) → (inM a).IsWhole
  | 0 => Memref.isWhole_whole _ | 1 => Memref.isWhole_whole _ | 2 => Memref.isWhole_whole _ | 3 => Memref.isWhole_whole _
theorem outM_whole : (a : Fin 4) → (outM a).IsWhole
  | 0 => Memref.isWhole_whole _ | 1 => Memref.isWhole_whole _ | 2 => Memref.isWhole_whole _ | 3 => Memref.isWhole_whole _

/-- The whole of array `a` on device `d`, at its launch contents; the whole of result `a`, at given contents. -/
def inW (a : Fin 4) (d : Dev nD) : sProp 𝕄 := (inM a).view.loc (d : Thread nD τ) ↦{fullShare} inB m a d
def outW (a : Fin 4) (d : Dev nD) (f : Buf (Elt F) ((outM a).view.loc (d : Thread nD τ))) : sProp 𝕄 :=
  (outM a).view.loc (d : Thread nD τ) ↦{fullShare} f

omit [FloatOps F] in
theorem inW_slots (a : Fin 4) (d : Dev nD) : inW m a d = iprop(inP m a d d ∗ bigSep Finset.univ fun k : Fin 7 => inP m a d (peer d k)) := by
  rw [← by_peer d (fun s => inP m a d s)]
  exact slots (inM a) (inM_whole a) (sq a) d (inB m a d)
omit [FloatOps F] in
theorem outW_slots (a : Fin 4) (d : Dev nD) (f) : outW (F := F) a d f = iprop(outP a d d f ∗ bigSep Finset.univ fun k : Fin 7 => outP a d (peer d k) f) := by
  rw [← by_peer d (fun s => outP a d s f)]
  exact slots (outM a) (outM_whole a) (sq a) d f

/-! ## The arrays among the buffers of a device -/

def inR : Fin 4 → Ref sig .tc | 0 => main_arg0 | 1 => main_arg1 | 2 => main_arg2 | 3 => main_arg3
def outR : Fin 4 → Ref sig .tc | 0 => main_v1_0 | 1 => main_v1_1 | 2 => main_v1_2 | 3 => main_v1_3

def exR : Fin 4 ⊕ Fin 4 → DevRef τ sig | .inl a => Proc.devRef .tc (inR a) | .inr a => Proc.devRef .tc (outR a)
theorem exR_inj : Function.Injective exR := by decide +kernel
/-- The eight exchanged arrays. -/
def exch : Finset (DevRef τ sig) := Finset.univ.map ⟨exR, exR_inj⟩
theorem exch_sub : exch ⊆ Pipeline.ucRefs τ sig := by
  intro b hb
  obtain ⟨x, -, rfl⟩ := Finset.mem_map.mp hb
  rcases x with a | a <;> fin_cases a <;> exact Finset.mem_filter.mpr ⟨StableHlo.devRef_mem_tcRefs _, by decide⟩

/-- The four results as the exchange leaves them, every other buffer as at launch. -/
abbrev W0 (c : Dev nD) : Valuation τ sig (Elt F) := fun b => m (c, b)
def res0 (c : Dev nD) : Buf (Elt F) ((c : Thread nD τ).loc main_v1_0) := gath m 0 c
def res1 (c : Dev nD) : Buf (Elt F) ((c : Thread nD τ).loc main_v1_1) := gath m 1 c
def res2 (c : Dev nD) : Buf (Elt F) ((c : Thread nD τ).loc main_v1_2) := gath m 2 c
def res3 (c : Dev nD) : Buf (Elt F) ((c : Thread nD τ).loc main_v1_3) := gath m 3 c
def W1 (c : Dev nD) : Valuation τ sig (Elt F) :=
  Function.update (Function.update (Function.update (Function.update (W0 m c) main_v1_0 (res0 m c)) main_v1_1 (res1 m c))
    main_v1_2 (res2 m c)) main_v1_3 (res3 m c)

section Val
variable (c : Dev nD)
omit [FloatOps F] in
theorem W1_of (b : DevRef τ sig) (h0 : b ≠ Proc.devRef .tc main_v1_0) (h1 : b ≠ Proc.devRef .tc main_v1_1) (h2 : b ≠ Proc.devRef .tc main_v1_2)
    (h3 : b ≠ Proc.devRef .tc main_v1_3) : W1 m c b = W0 m c b := by
  unfold W1
  rw [Function.update_of_ne h3, Function.update_of_ne h2, Function.update_of_ne h1, Function.update_of_ne h0]
omit [FloatOps F] in
theorem W1_0 : W1 m c (Proc.devRef .tc main_v1_0) = res0 m c := by
  unfold W1
  rw [Function.update_of_ne (by decide), Function.update_of_ne (by decide), Function.update_of_ne (by decide), Function.update_self]
omit [FloatOps F] in
theorem W1_1 : W1 m c (Proc.devRef .tc main_v1_1) = res1 m c := by
  unfold W1
  rw [Function.update_of_ne (by decide), Function.update_of_ne (by decide), Function.update_self]
omit [FloatOps F] in
theorem W1_2 : W1 m c (Proc.devRef .tc main_v1_2) = res2 m c := by
  unfold W1
  rw [Function.update_of_ne (by decide), Function.update_self]
omit [FloatOps F] in
theorem W1_3 : W1 m c (Proc.devRef .tc main_v1_3) = res3 m c := by
  unfold W1
  rw [Function.update_self]
end Val

omit [FloatOps F] in
theorem held_exch (c : Dev nD) (V : Valuation τ sig (Elt F)) :
    (StableHlo.held (c : Thread nD τ) exch V : sProp 𝕄)
      = iprop((bigSep Finset.univ fun a : Fin 4 => ((c, exR (.inl a)) : Loc nD τ sig) ↦{fullShare} V (exR (.inl a)))
          ∗ bigSep Finset.univ fun a : Fin 4 => ((c, exR (.inr a)) : Loc nD τ sig) ↦{fullShare} V (exR (.inr a))) := by
  unfold StableHlo.held exch
  rw [bigSep_map, bigSep_univ_sum]
  rfl

omit [FloatOps F] in
/-- Before the exchange, -/
theorem exch_before (c : Dev nD) :
    (StableHlo.held (c : Thread nD τ) exch (W0 m c) : sProp 𝕄)
      ⊢ iprop((bigSep Finset.univ fun a : Fin 4 => inW m a c) ∗ bigSep Finset.univ fun a : Fin 4 => iprop(∃ f, outW (F := F) a c f)) := by
  have h1 (a : Fin 4) : ((((c, exR (.inl a)) : Loc nD τ sig) ↦{fullShare} W0 m c (exR (.inl a))) : sProp 𝕄) ⊢ inW m a c := by
    match a with
    | 0 => exact BI.Entails.refl _
    | 1 => exact BI.Entails.refl _
    | 2 => exact BI.Entails.refl _
    | 3 => exact BI.Entails.refl _
  have h2 (a : Fin 4) : ((((c, exR (.inr a)) : Loc nD τ sig) ↦{fullShare} W0 m c (exR (.inr a))) : sProp 𝕄) ⊢ iprop(∃ f, outW (F := F) a c f) := by
    have h3 (f) : outW (F := F) a c f ⊢ (iprop(∃ f, outW (F := F) a c f) : sProp 𝕄) := by iintro H; iexists f; iexact H
    match a with
    | 0 => exact h3 (m ((c : Thread nD τ).loc main_v1_0))
    | 1 => exact h3 (m ((c : Thread nD τ).loc main_v1_1))
    | 2 => exact h3 (m ((c : Thread nD τ).loc main_v1_2))
    | 3 => exact h3 (m ((c : Thread nD τ).loc main_v1_3))
  rw [held_exch]
  exact BIClass.sep_mono (bigSep_mono fun a _ => h1 a) (bigSep_mono fun a _ => h2 a)

omit [FloatOps F] in
/-- and after it. -/
theorem exch_after (c : Dev nD) :
    iprop((bigSep Finset.univ fun a : Fin 4 => inW m a c) ∗ bigSep Finset.univ fun a : Fin 4 => outW (F := F) a c (gath m a c))
      ⊢ (StableHlo.held (c : Thread nD τ) exch (W1 m c) : sProp 𝕄) := by
  have h1 (a : Fin 4) : inW m a c ⊢ ((((c, exR (.inl a)) : Loc nD τ sig) ↦{fullShare} W1 m c (exR (.inl a))) : sProp 𝕄) := by
    have h : W1 m c (exR (.inl a)) = W0 m c (exR (.inl a)) := by
      match a with
      | 0 => exact W1_of m c (Proc.devRef .tc main_arg0) (by decide) (by decide) (by decide) (by decide)
      | 1 => exact W1_of m c (Proc.devRef .tc main_arg1) (by decide) (by decide) (by decide) (by decide)
      | 2 => exact W1_of m c (Proc.devRef .tc main_arg2) (by decide) (by decide) (by decide) (by decide)
      | 3 => exact W1_of m c (Proc.devRef .tc main_arg3) (by decide) (by decide) (by decide) (by decide)
    rw [h]
    match a with
    | 0 => exact BI.Entails.refl _
    | 1 => exact BI.Entails.refl _
    | 2 => exact BI.Entails.refl _
    | 3 => exact BI.Entails.refl _
  have h2 (a : Fin 4) : outW (F := F) a c (gath m a c) ⊢ ((((c, exR (.inr a)) : Loc nD τ sig) ↦{fullShare} W1 m c (exR (.inr a))) : sProp 𝕄) := by
    match a with
    | 0 => rw [show W1 m c (exR (.inr 0)) = res0 m c from W1_0 m c]; exact BI.Entails.refl _
    | 1 => rw [show W1 m c (exR (.inr 1)) = res1 m c from W1_1 m c]; exact BI.Entails.refl _
    | 2 => rw [show W1 m c (exR (.inr 2)) = res2 m c from W1_2 m c]; exact BI.Entails.refl _
    | 3 => rw [show W1 m c (exR (.inr 3)) = res3 m c from W1_3 m c]; exact BI.Entails.refl _
  rw [held_exch]
  exact BIClass.sep_mono (bigSep_mono fun a _ => h1 a) (bigSep_mono fun a _ => h2 a)

omit [FloatOps F] in
/-- The buffers the exchange has nothing to do with. -/
theorem rest_same (c : Dev nD) :
    (StableHlo.held (c : Thread nD τ) (Pipeline.ucRefs τ sig \ exch) (W0 m c) : sProp 𝕄) = StableHlo.held (c : Thread nD τ) (Pipeline.ucRefs τ sig \ exch) (W1 m c) := by
  refine StableHlo.held_congr _ fun b hb => ?_
  have hn := (Finset.mem_sdiff.mp hb).2
  have hx (a : Fin 4) : b ≠ exR (.inr a) := fun e => hn (e ▸ Finset.mem_map.mpr ⟨.inr a, Finset.mem_univ _, rfl⟩)
  exact (W1_of m c b (hx 0) (hx 1) (hx 2) (hx 3)).symm

/-! ## The launch arrays dealt out -/

/-- A device's own slots, the slots of its arrays it sends, and the slots of its results it is to receive into. -/
theorem arrays_deal (c : Dev nD) :
    iprop((bigSep Finset.univ fun a : Fin 4 => inW m a c) ∗ bigSep Finset.univ fun a : Fin 4 => iprop(∃ f, outW (F := F) a c f))
      ⊢ (iprop((bigSep Finset.univ fun a : Fin 4 => iprop(inP m a c c ∗ outE (F := F) a c c))
          ∗ (bigSep Finset.univ fun j : Fin 28 => inP m (aOf j) c (peer c (kOf j)))
          ∗ bigSep Finset.univ fun j : Fin 28 => outE (F := F) (aOf j) c (peer c (kOf j))) : sProp 𝕄) := by
  have hp (a : Fin 4) (f) (s : Dev nD) : (outP a c s f : sProp 𝕄) ⊢ outE (F := F) a c s := by
    unfold outE; iintro H; iexists f; iexact H
  have h (a : Fin 4) : iprop(∃ f, outW (F := F) a c f) ⊢ (iprop(outE a c c ∗ bigSep Finset.univ fun k : Fin 7 => outE a c (peer c k)) : sProp 𝕄) := by
    iintro ⟨%f, H⟩
    ihave H' := (Entails.of_eq (outW_slots a c f)) $$ H
    icases H' with ⟨H1, H2⟩
    isplitl [H1]; · unfold outE; iexists f; iexact H1
    have hm : (bigSep Finset.univ fun k : Fin 7 => outP a c (peer c k) f) ⊢ (bigSep Finset.univ fun k : Fin 7 => outE (F := F) a c (peer c k) : sProp 𝕄) :=
      bigSep_mono fun k _ => hp a f (peer c k)
    iapply hm; iexact H2
  rw [← by_pair (fun a k => inP m a c (peer c k)), ← by_pair (fun a k => outE (F := F) a c (peer c k)), bigSep_sep']
  iintro ⟨H1, H2⟩
  have e1 : (bigSep Finset.univ fun a : Fin 4 => inW m a c)
      ⊢ (iprop((bigSep Finset.univ fun a : Fin 4 => inP m a c c) ∗ bigSep Finset.univ fun a : Fin 4 => bigSep Finset.univ fun k : Fin 7 => inP m a c (peer c k)) : sProp 𝕄) := by
    rw [← bigSep_sep']; exact bigSep_mono fun a _ => Entails.of_eq (inW_slots m a c)
  have e2 : (bigSep Finset.univ fun a : Fin 4 => iprop(∃ f, outW (F := F) a c f))
      ⊢ (iprop((bigSep Finset.univ fun a : Fin 4 => outE a c c) ∗ bigSep Finset.univ fun a : Fin 4 => bigSep Finset.univ fun k : Fin 7 => outE a c (peer c k)) : sProp 𝕄) := by
    rw [← bigSep_sep']; exact bigSep_mono fun a _ => h a
  ihave G1 := e1 $$ H1
  ihave G2 := e2 $$ H2
  icases G1 with ⟨A, B⟩
  icases G2 with ⟨C, D⟩
  isplitl [A C]
  · isplitl [A] <;> iassumption
  isplitl [B]; · iexact B
  iexact D

/-! ## The results put together -/

/-- What the waits hand out is the counters at zero, the arrays as launched and the results full. -/
theorem waits_join (c : Dev nD) :
    (bigSep Finset.univ (waitPost m c) : sProp 𝕄)
      ⊢ iprop((bigSep Finset.univ fun j : Fin 60 => semVal (cell c j) 0)
          ∗ (bigSep Finset.univ fun a : Fin 4 => inW m a c) ∗ bigSep Finset.univ fun a : Fin 4 => outW (F := F) a c (gath m a c)) := by
  have h1 : (bigSep Finset.univ (waitPost m c) : sProp 𝕄)
      = iprop((bigSep Finset.univ fun j : Fin 60 => pay m c j) ∗ bigSep Finset.univ fun j : Fin 60 => semVal (cell c j) 0) := by
    rw [by_ord (fun j => pay m c j), by_ord (fun j => semVal (cell c j) 0), ← bigSep_sep']
    rfl
  have h2 : (bigSep Finset.univ fun j : Fin 60 => pay m c j)
      = (iprop((bigSep Finset.univ fun j : Fin 28 => inP m (aOf j) c (peer c (kOf j)))
          ∗ (bigSep Finset.univ fun j : Fin 28 => outP (aOf j) c (peer c (kOf j)) (gath m (aOf j) c))
          ∗ bigSep Finset.univ fun a : Fin 4 => iprop(inP m a c c ∗ outP a c c (gath m a c))) : sProp 𝕄) := by
    rw [by_role]
    rw [bigSep_congr (s := Finset.univ) (fun (j : Fin 28) _ => show pay m c (sOf j) = _ by rw [sOf_eq, pay_sC]),
      bigSep_congr (s := Finset.univ) (fun (j : Fin 28) _ => show pay m c (rOf j) = _ by rw [rOf_eq, pay_rC]),
      bigSep_congr (s := Finset.univ) (fun (a : Fin 4) _ => pay_lC m c a)]
  have e1 : (iprop((bigSep Finset.univ fun a : Fin 4 => inP m a c c) ∗ bigSep Finset.univ fun a : Fin 4 => bigSep Finset.univ fun k : Fin 7 => inP m a c (peer c k)) : sProp 𝕄)
      ⊢ bigSep Finset.univ fun a : Fin 4 => inW m a c := by
    rw [← bigSep_sep']; exact bigSep_mono fun a _ => Entails.of_eq (inW_slots m a c).symm
  have e2 : (iprop((bigSep Finset.univ fun a : Fin 4 => outP a c c (gath m a c)) ∗ bigSep Finset.univ fun a : Fin 4 => bigSep Finset.univ fun k : Fin 7 => outP a c (peer c k) (gath m a c)) : sProp 𝕄)
      ⊢ bigSep Finset.univ fun a : Fin 4 => outW (F := F) a c (gath m a c) := by
    rw [← bigSep_sep']; exact bigSep_mono fun a _ => Entails.of_eq (outW_slots a c (gath m a c)).symm
  rw [h1, h2, ← by_pair (fun a k => inP m a c (peer c k)), ← by_pair (fun a k => outP a c (peer c k) (gath m a c)), bigSep_sep']
  iintro ⟨⟨HB, HD, HA, HC⟩, Hv⟩
  isplitl [Hv]; · iexact Hv
  isplitl [HA HB]
  · iapply e1; isplitl [HA] <;> iassumption
  · iapply e2; isplitl [HC] <;> iassumption

end Cert.Exchange
-- ==== Proof.Launch.lean ====
/-
  How the program starts. The first kernel exchanges blocks between the devices and waits for nobody before it sends:
  a device writes straight into the result arrays of its peers. So before any device takes its first step the places
  in memory it is going to write must already be its own, though they lie on other devices, and every receive
  semaphore must already be under its protocol. The theorem here starts a program in that way: all devices'
  arrays, all their counters of the first kernel's own semaphores and all they owe are put on one table, dealt out
  again as the protocol wants them, and only then does each device run on its own.
-/
module

public import Idealize.ShloMosaic.Lib.Pipeline.Regions

@[expose] public section

set_option Elab.async false

noncomputable section

namespace Cert.Exchange

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Idealize.SL.Sem.Labels} {P : Type} [Fintype P] [DecidableEq P]
variable (pcs : P → PCfg sig Λ₀ Val) (a : Dev nD → (p : P) → (pcs p).Adm)
  (phinj : Function.Injective (PerCore.cellOf (nD := nD) (pinD pcs a))) (p : P)
  {K : Type} [Fintype K] {osem : K → SemLoc sig} (hw : WinFacts₀ (pcs p).spec) (ho : OwnSemFacts (pcs p).spec osem)
  (EP : Emb (URounds (GSem nD τ sig) Unit) (MT nD τ sig Ix Val Name U Lvl))
  (defs₀ : Defs nD τ sig Val Λ₀) (𝒱₀ : Variants) (L : GSem nD τ sig → Finset Ix) (lv : GSem nD τ sig → Ix → Lvl)

/-- What stays with device `c` when the first kernel's own semaphores go to the common table: its scoped buffers, the
    staging semaphores of that kernel, the scoped semaphores the kernel never names, and the idle slot. -/
def homeShare (c : Dev nD) : sProp 𝕄 :=
  iprop(scopedBufs (c.tc : Thread nD τ) ∗ PerCore.cellsSems0 (pinD pcs a) p c
    ∗ PerCore.idleSems0 (pinD pcs a) phinj p (fun _ => ho) c ∗ opIdle (c.tc : Thread nD τ))

/-- What device `c` puts on the table: the first kernel's own counters at zero, its arrays as launched, the unscoped
    counters, what it owes, its launch credit and its generator register. -/
def tableShare (osem : K → SemLoc sig) (O₀ : Dev nD → CellTallies nD τ sig Ix) (m : (ℓ : Loc nD τ sig) → Buf Val ℓ) (g : Dev nD → PrngReg)
    (c : Dev nD) : sProp 𝕄 :=
  iprop(ownSems0 osem c ∗ unscopedBufs c (fun b => m ((c.tc : Thread nD τ).loc b)) ∗ unscopedSems0 c
    ∗ owes (c.tc : Thread nD τ) (O₀ c) ∅ ∗ launchCred O₀ c ∗ prngReg c (g c))

include phinj hw ho in
omit [Fintype P] [DecidableEq P] [Preorder Lvl] in
/-- The region boundary is the home share and the kernel's own counters. -/
theorem boundary_home (c : Dev nD) :
    (boundary (c.tc : Thread nD τ) : sProp 𝕄) ⊢ iprop(homeShare pcs a phinj p ho c ∗ ownSems0 osem c) := by
  unfold boundary homeShare
  rw [PerCore.scopedSems0_split (pinD pcs a) phinj p (fun _ => hw) (fun _ => ho) c]
  iintro ⟨Hsc, ⟨⟨Hcells, Hos⟩, Hidle⟩, Hidl⟩
  isplitr [Hos]
  · isplitl [Hsc]; · iexact Hsc
    isplitl [Hcells]; · iexact Hcells
    isplitl [Hidle]; · iexact Hidle
    iexact Hidl
  · iexact Hos

include phinj hw ho in
omit [Fintype P] [DecidableEq P] in
/-- One device's launch holdings, sorted. -/
theorem launch_sort (O₀ : Dev nD → CellTallies nD τ sig Ix) (m : (ℓ : Loc nD τ sig) → Buf Val ℓ) (g : Dev nD → PrngReg) (c : Dev nD) :
    coreInit (Ix := Ix) (Name := Name) (U := U) (Lvl := Lvl) (owing O₀) 0 ⟨m, fun _ => 0, g⟩ (c.tc : Thread nD τ)
      ⊢ iprop(homeShare pcs a phinj p ho c ∗ tableShare osem O₀ m g c ∗ levels0 c) := by
  refine (coreInit_boundary_owing O₀ m g c).trans ?_
  unfold tableShare
  iintro ⟨Hb, Hub, Hus, HL, Hlv, Hpr, Hcr⟩
  ihave H := (boundary_home pcs a phinj p hw ho c) $$ Hb
  icases H with ⟨Hh, Hos⟩
  isplitl [Hh]; · iexact Hh
  isplitr [Hlv]
  · isplitl [Hos]; · iexact Hos
    isplitl [Hub]; · iexact Hub
    isplitl [Hus]; · iexact Hus
    isplitl [HL]; · iexact HL
    isplitl [Hcr] <;> iassumption
  · iexact Hlv

/-- The levels of every semaphore of every device, assigned at once; only TensorCores have any. -/
theorem levels_assign (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hrest : (bigSep Finset.univ fun d : Dev nD => bigSep (Finset.univ.erase Proc.tc) fun q => (coreLevAts ((d, q) : Thread nD τ) L lv : sProp 𝕄)) = BI.emp := by
    refine (bigSep_congr (Ψ := fun _ : Dev nD => (BI.emp : sProp 𝕄)) fun d _ => ?_).trans (BI.bigSep_emp_const _)
    refine (bigSep_congr (Ψ := fun _ : Proc τ => (BI.emp : sProp 𝕄)) fun q hq => ?_).trans (BI.bigSep_emp_const _)
    unfold coreLevAts
    refine (bigSep_congr (Ψ := fun _ : SemLoc sig => (BI.emp : sProp 𝕄)) fun sm _ => ?_).trans (BI.bigSep_emp_const _)
    rw [hL (((d, q) : Thread nD τ), sm) (Finset.ne_of_mem_erase hq), BI.bigSep_empty]
  have hall : iprop((bigSep Finset.univ fun c : Dev nD => bigSep Finset.univ fun sm : SemLoc sig => (levels ((c.tc : Thread nD τ), sm) (L ((c.tc : Thread nD τ), sm)) : sProp 𝕄))
        ∗ (bigSep Finset.univ fun c : Dev nD => coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun q => (coreLevAts ((d, q) : Thread nD τ) L lv : sProp 𝕄)) := by
    rw [hrest]
    iintro ⟨-, H⟩
    isplitl [H]; · iexact H
    iempintro
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), bigSep_sep']
  exact hall

include phinj hw ho in
/-- THE LAUNCH. Every device's table share is dealt at once (`hdeal`), each device then runs `main` from its home
    share, its part `T₀ c` of the deal, the level facts and the pipelines' ghost state (`hrun`), and ends at a region
    boundary with `Tₙ c`, owing nothing. Then every fair execution ends, and the final memory satisfies `Q`. -/
theorem launch [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Ix) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj)))
          ∗ bigSep Finset.univ G))
    (T₀ Tₙ : Dev nD → sProp 𝕄)
    (hdeal : iprop((bigSep Finset.univ fun c : Dev nD => iprop(tableShare osem O₀ m g c ∗ G c)) ∗ levAts L lv)
      ⊢ |={Set.univ}=> bigSep Finset.univ T₀)
    (hrun : ∀ c : Dev nD, iprop(homeShare pcs a phinj p ho c ∗ T₀ c ∗ levAts L lv ∗ PerCore.ghostOn pcs a EP Finset.univ c)
      ⊢ wp frame (wpE (Pipeline.defs pcs defs₀) (Variants.lift 𝒱₀) (c.tc : Thread nD τ) none) Set.univ (main c)
          fun _ => iprop((Tₙ c ∗ boundary (c.tc : Thread nD τ)) ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  let pre : Dev nD → sProp 𝕄 := fun c => iprop(homeShare pcs a phinj p ho c ∗ T₀ c ∗ levAts L lv ∗ PerCore.ghostOn pcs a EP Finset.univ c)
  let fin : Dev nD → sProp 𝕄 := fun c => iprop(Tₙ c ∗ boundary (c.tc : Thread nD τ))
  refine (θ_run (Pipeline.defs pcs defs₀) _ _).mono (Q := fun r =>
      (∀ c : Dev nD, QY c r.2 ∧ ∀ sm : SemLoc sig, sm.isScoped .tc = true → r.2.sem ((c.tc : Thread nD τ), sm) = 0)
        ∧ ∀ g' : GSem nD τ sig, g'.1.2 ≠ .tc → r.2.sem g' = 0)
    (fun r hr => hQ r.2 (fun c => (hr.1 c).1) (sems_of_reads (fun c => (hr.1 c).2) hr.2))
    (adequate_tpu (Pipeline.defs pcs defs₀) _ _ _ (reflect_intro_fupd_tc_sems (X := Unit) (Variants.lift 𝒱₀) (owing O₀) 0
      (noBookings fun _ => le_rfl) (owing_of_ne O₀) u₀ (fun _ => pre) (fun _ => fin) (fun _ => iprop(emp)) Set.univ ?_ (fun _ c => ?_) fun _ => ?_))
  · have hsort : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => homeShare pcs a phinj p ho c)
            ∗ (bigSep Finset.univ fun c : Dev nD => tableShare osem O₀ m g c)
            ∗ (bigSep Finset.univ fun c : Dev nD => levels0 (Ix := Ix) (Val := Val) (Name := Name) (U := U) (Lvl := Lvl) (τ := τ) (sig := sig) c) : sProp 𝕄) := by
      refine (bigSep_mono fun c _ => launch_sort pcs a phinj p hw ho O₀ m g c).trans ?_
      rw [bigSep_sep', bigSep_sep']; exact BI.Entails.refl _
    have hghost : iprop((bigSep Finset.univ fun c : Dev nD => bigSep Finset.univ fun q => PerCore.cellsGhost (pinD pcs a) EP q c)
          ∗ (bigSep Finset.univ fun c : Dev nD => bigSep Finset.univ fun q => (PerCore.toksInit (pinD pcs a) EP q c : sProp 𝕄)))
        ⊢ bigSep Finset.univ fun c : Dev nD => PerCore.ghostOn pcs a EP Finset.univ c := by
      rw [← bigSep_sep']
      exact bigSep_mono fun c _ => show iprop((bigSep Finset.univ fun q => PerCore.cellsGhost (pinD pcs a) EP q c)
            ∗ bigSep Finset.univ fun q => (PerCore.toksInit (pinD pcs a) EP q c : sProp 𝕄)) ⊢ PerCore.ghostOn pcs a EP Finset.univ c
        from Entails.of_eq (by unfold PerCore.ghostOn; rw [bigSep_sep'])
    iintro ⟨Hcores, Hu⟩
    ihave Hc := hsort $$ Hcores
    icases Hc with ⟨Hh, Ht, Hlv⟩
    imod (levels_assign L lv hL) $$ Hlv with #Hla
    imod hu₀ $$ Hu with ⟨HP, HG⟩
    imod (PerCore.fund_ghost (pinD pcs a) EP phinj) $$ HP with ⟨Hg, Hk⟩
    imod hdeal $$ [Ht HG] with HT
    · isplitr [Hla]
      · rw [bigSep_sep']
        isplitl [Ht] <;> iassumption
      · iexact Hla
    imodintro
    iexists ()
    isplitr []
    · simp only [pre, bigSep_sep']
      isplitl [Hh]; · iexact Hh
      isplitl [HT]; · iexact HT
      isplitr; · iapply (BI.bigSep_intro_persistent (S := Finset.univ) fun (c : Dev nD) _ => (BI.Entails.refl (levAts L lv : sProp 𝕄))); iexact Hla
      iapply hghost
      isplitl [Hg] <;> iassumption
    · iempintro
  · refine (hrun c).trans (wp_mono _ _ _ fun _ => ?_)
    unfold post; simp only [liftTc_tc, fin]; exact .rfl
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Exchange

end
-- ==== Proof.Fund.lean ====
module

public import proofs.«01_k».proof.Proof.Slots
public import proofs.«01_k».proof.Proof.Launch

/-! What the launch makes of the arrays, the counters and the credits: what each device holds when it enters the
    exchange, and what it holds when it has left it. -/

@[expose] public section
noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The ghost state -/

theorem kcell_injective : Function.Injective kcell := by
  rintro ⟨c, j⟩ ⟨c', j'⟩ h
  have h1 : c = c' := congrArg (fun g : GSem nD τ sig => g.1.1) h
  subst h1
  have h2 : osem j = osem j' := congrArg Prod.snd h
  have h3 : smm j = smm j' := by injection h2
  rw [smm_inj h3]

def ourCells : Finset (GSem nD τ sig) := Finset.univ.map ⟨kcell, kcell_injective⟩
def ourToks : Finset (GSem nD τ sig × ℕ × Unit) :=
  Finset.univ.map ⟨fun ck : Dev nD × Fin 60 => (kcell ck, 0, ()), fun _ _ h => kcell_injective (congrArg Prod.fst h)⟩

/-- The initial ghost state: of the optimiser's staging semaphores, and of the exchange's. -/
def u₀ : UU := (initOf (Pipeline.cells cfgs cellOf_inj) (Pipeline.launchToks cfgs cellOf_inj), initOf ourCells ourToks)

def tokens (c : Dev nD) : sProp 𝕄 := bigSep Finset.univ fun j : Fin 60 => dutyTok ER (cell c j) 0 ()

/-- What the ghost state gives device `c`. -/
def G (c : Dev nD) : sProp 𝕄 :=
  iprop((bigSep Finset.univ fun j : Fin 60 => roundState ER (Rd m) (cell c j) 0)
    ∗ positions c ∗ (bigSep Finset.univ fun j : Fin 60 => reached ER (cell c j) 0) ∗ tokens c)

omit [FloatOps F] in
theorem fund_ours : BI.own (ER (initOf ourCells ourToks)) ⊢ (|==> bigSep Finset.univ (G m) : sProp 𝕄) := by
  have hX (Φ : GSem nD τ sig → sProp 𝕄) : bigSep ourCells Φ = bigSep Finset.univ fun c : Dev nD => bigSep Finset.univ fun j : Fin 60 => Φ (cell c j) := by
    unfold ourCells; rw [bigSep_map, bigSep_univ_prod]; rfl
  have hT : bigSep ourToks (fun x => (dutyTok ER x.1 x.2.1 x.2.2 : sProp 𝕄)) = bigSep Finset.univ fun c : Dev nD => tokens c := by
    unfold ourToks; rw [bigSep_map, bigSep_univ_prod]; rfl
  iintro HX
  imod (Rounds.fund ER (Rd m) ourCells ourToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G positions; simp only [bigSep_sep']
  isplitl [Hst']; · iexact Hst'
  isplitl [Hat']; · iexact Hat'
  isplitl [Hr']; · iexact Hr'
  iexact Htok'

theorem hu₀ : (ownU u₀ : sProp 𝕄) ⊢ |={Set.univ}=> iprop(BI.own (EP (initOf (Pipeline.cells cfgs cellOf_inj) (Pipeline.launchToks cfgs cellOf_inj)))
    ∗ bigSep Finset.univ (G m)) := by
  have hp : (ownU u₀ : sProp 𝕄) ⊢ iprop(BI.own (EP (initOf (Pipeline.cells cfgs cellOf_inj) (Pipeline.launchToks cfgs cellOf_inj)))
      ∗ BI.own (ER (initOf ourCells ourToks))) := ownU_pair _ _
  iintro Hu
  ihave H := hp $$ Hu
  icases H with ⟨HP, HX⟩
  imod (fund_ours m) $$ HX with HG
  imodintro
  isplitl [HP]; · iexact HP
  iexact HG

/-! ## The credits -/

omit [FloatOps F] in
theorem rcell_iff (c d : Dev nD) (i j : Fin 28) : cell c (rOf i) = cell d (rOf j) ↔ c = d ∧ i = j := by
  constructor
  · intro h
    have h' := kcell_injective (a₁ := (c, rOf i)) (a₂ := (d, rOf j)) h
    have e1 : c = d := congrArg Prod.fst h'
    have e2 : rOf i = rOf j := congrArg Prod.snd h'
    refine ⟨e1, Fin.ext ?_⟩
    have := congrArg Fin.val e2
    change 28 + i.val = 28 + j.val at this
    omega
  · rintro ⟨rfl, rfl⟩; rfl

omit [FloatOps F] in
/-- Of a receive semaphore, the peer that fills it owes the whole amount and no other device owes anything. -/
theorem owed (d c : Dev nD) (j : Fin 28) : O d 0 (cell c (rOf j)) () = if d = peer c (kOf j) then am (rOf j) else 0 := by
  have ht (i : Fin 28) : tal d i (cell c (rOf j)) () = if i = j then (if d = peer c (kOf j) then am (rOf j) else 0) else 0 := by
    unfold tal
    by_cases hi : i = j
    · subst hi
      rw [if_pos rfl]
      by_cases h : d = peer c (kOf i)
      · subst h
        rw [peer_peer, if_pos rfl, tallyAt_apply, if_pos ⟨rfl, rfl⟩]
      · rw [if_neg h, tallyAt_ne_cell, Finsupp.zero_apply]
        intro e
        have := ((rcell_iff _ _ _ _).mp e).1
        exact h (by rw [this, peer_peer])
    · rw [if_neg hi, tallyAt_ne_cell, Finsupp.zero_apply]
      intro e
      first
        | exact hi ((rcell_iff _ _ _ _).mp e).2
        | exact hi ((rcell_iff _ _ _ _).mp e).2.symm
  unfold O
  rw [Finset.filter_true_of_mem (fun i _ => Nat.zero_le _), Finset.sum_apply, Finsupp.finsetSum_apply, Finset.sum_congr rfl fun i _ => ht i,
    Finset.sum_ite_eq' Finset.univ j, if_pos (Finset.mem_univ _)]

abbrev O₀ (c : Dev nD) : CellTallies nD τ sig Unit := O c 0

omit [FloatOps F] in
theorem launch_credit (c : Dev nD) (j : Fin 28) :
    tallyOn (cell c (rOf j)) (launchCredit (Pipeline.owing O₀) 0 (cell c (rOf j))) = (tallyAt (cell c (rOf j)) () (am (rOf j)) : CellTallies nD τ sig Unit) := by
  unfold tallyAt; refine congrArg _ (Finsupp.ext fun u => ?_); cases u
  rw [Pipeline.launchCredit_owing, Finsupp.single_eq_same, Finset.sum_congr rfl fun d _ => owed d c j,
    Finset.sum_ite_eq' Finset.univ (peer c (kOf j)) fun _ => am (rOf j), if_pos (Finset.mem_univ _)]

omit [FloatOps F] in
theorem rsem_inj : Function.Injective (fun j : Fin 28 => osem (rOf j)) := by
  intro i j h
  have h3 : smm (rOf i) = smm (rOf j) := by injection h
  have := congrArg Fin.val (smm_inj h3)
  change 28 + i.val = 28 + j.val at this
  exact Fin.ext (by omega)

omit [FloatOps F] in
theorem credits (c : Dev nD) : (Pipeline.launchCred O₀ c : sProp 𝕄) ⊢ recvCreds c := by
  unfold Pipeline.launchCred recvCreds
  refine (bigSep_subset (Finset.subset_univ (Finset.univ.map ⟨_, rsem_inj⟩))).trans ?_
  rw [bigSep_map]
  exact bigSep_mono fun j _ => Entails.of_eq (congrArg cred (launch_credit c j))

/-! ## What a device holds on entering -/

/-- What is left beside the exchange on device `c`. -/
def aside (c : Dev nD) : sProp 𝕄 :=
  iprop(StableHlo.held (c : Thread nD τ) (Pipeline.ucRefs τ sig \ exch) (W0 m c) ∗ ∃ r, prngReg c r)

def T₀ (c : Dev nD) : sProp 𝕄 :=
  iprop(∃ K, records m K ∗ LS m c 0 ∗ SS m c 0 ∗ recvCreds c ∗ positions c ∗ aside m c)

def readyOf (c : Dev nD) : sProp 𝕄 := iprop(LS m c 0 ∗ SS m c 0 ∗ recvCreds c ∗ positions c ∗ aside m c)

/-- The share of one device, sorted; what is for a peer stands apart. -/
def sorted (c : Dev nD) : sProp 𝕄 :=
  iprop((bigSep Finset.univ fun a : Fin 4 => iprop((inP m a c c ∗ outE (F := F) a c c) ∗ dutyTok ER (cell c (lC a)) 0 ()))
    ∗ (bigSep Finset.univ fun j : Fin 28 => iprop(inP m (aOf j) c (peer c (kOf j)) ∗ dutyTok ER (cell c (sOf j)) 0 ()))
    ∗ (bigSep Finset.univ fun j : Fin 28 => iprop(outE (F := F) (aOf j) c (peer c (kOf j)) ∗ dutyTok ER (cell c (rOf j)) 0 ()))
    ∗ owes (c : Thread nD τ) (O c 0) ∅ ∗ recvCreds c ∗ positions c ∗ aside m c)

theorem sort_one (g : Dev nD → PrngReg) (c : Dev nD) :
    iprop(unscopedBufs c (fun b => m ((c.tc : Thread nD τ).loc b)) ∗ owes (c.tc : Thread nD τ) (O₀ c) ∅ ∗ Pipeline.launchCred O₀ c ∗ prngReg c (g c)
        ∗ positions c ∗ tokens c) ⊢ sorted m c := by
  have hb : (unscopedBufs (Ix := Unit) (Name := ℕ) (U := UU) (Lvl := ℕ) c (fun b => m ((c.tc : Thread nD τ).loc b)) : sProp 𝕄)
      ⊢ iprop(StableHlo.held (c : Thread nD τ) exch (W0 m c) ∗ StableHlo.held (c : Thread nD τ) (Pipeline.ucRefs τ sig \ exch) (W0 m c)) := by
    rw [← StableHlo.held_sub_split _ exch_sub (W0 m c), ← Pipeline.unscopedBufs_held]
  have h1 : iprop((bigSep Finset.univ fun a : Fin 4 => iprop(inP m a c c ∗ outE (F := F) a c c)) ∗ bigSep Finset.univ fun a : Fin 4 => dutyTok ER (cell c (lC a)) 0 ())
      ⊢ bigSep Finset.univ fun a : Fin 4 => iprop((inP m a c c ∗ outE (F := F) a c c) ∗ dutyTok ER (cell c (lC a)) 0 ()) := by
    rw [← bigSep_sep']
  have h2 : iprop((bigSep Finset.univ fun j : Fin 28 => inP m (aOf j) c (peer c (kOf j))) ∗ bigSep Finset.univ fun j : Fin 28 => dutyTok ER (cell c (sOf j)) 0 ())
      ⊢ bigSep Finset.univ fun j : Fin 28 => iprop(inP m (aOf j) c (peer c (kOf j)) ∗ dutyTok ER (cell c (sOf j)) 0 ()) := by
    rw [← bigSep_sep']
  have h3 : iprop((bigSep Finset.univ fun j : Fin 28 => outE (F := F) (aOf j) c (peer c (kOf j))) ∗ bigSep Finset.univ fun j : Fin 28 => dutyTok ER (cell c (rOf j)) 0 ())
      ⊢ bigSep Finset.univ fun j : Fin 28 => iprop(outE (F := F) (aOf j) c (peer c (kOf j)) ∗ dutyTok ER (cell c (rOf j)) 0 ()) := by
    rw [← bigSep_sep']
  unfold sorted aside
  iintro ⟨Hb, Ho, Hc, Hg, Hp, Ht⟩
  ihave Hb' := hb $$ Hb
  icases Hb' with ⟨He, Hr⟩
  ihave He' := ((exch_before m c).trans (arrays_deal m c)) $$ He
  icases He' with ⟨H1, H2, H3⟩
  unfold tokens
  ihave Ht' := (Entails.of_eq (by_role (fun j => dutyTok ER (cell c j) 0 ()))) $$ Ht
  icases Ht' with ⟨T1, T2, T3⟩
  ihave Hc' := (credits c) $$ Hc
  isplitl [H1 T3]
  · iapply h1; isplitl [H1] <;> iassumption
  isplitl [H2 T1]
  · iapply h2; isplitl [H2] <;> iassumption
  isplitl [H3 T2]
  · iapply h3; isplitl [H3] <;> iassumption
  isplitl [Ho]; · iexact Ho
  isplitl [Hc']; · iexact Hc'
  isplitl [Hp]; · iexact Hp
  isplitl [Hr]; · iexact Hr
  iexists _; iexact Hg

/-- What stands apart goes to the peers. -/
theorem handed_round : (bigSep Finset.univ fun c : Dev nD => sorted m c) ⊢ bigSep Finset.univ fun c : Dev nD => readyOf m c := by
  have hLS (c : Dev nD) : (bigSep Finset.univ fun a : Fin 4 => iprop((inP m a c c ∗ outE (F := F) a c c) ∗ dutyTok ER (cell c (lC a)) 0 ())) ⊢ LS m c 0 := by
    have h0 (a : Fin 4) : iprop((inP m a c c ∗ outE (F := F) a c c) ∗ dutyTok ER (cell c (lC a)) 0 ()) ⊢ locPre m c a := by
      unfold locPre
      iintro ⟨⟨H1, H2⟩, H3⟩
      isplitl [H1]; · iexact H1
      isplitl [H2] <;> iassumption
    unfold LS
    exact (bigSep_mono fun a _ => h0 a).trans (two_start _ _)
  have hSS (c : Dev nD) : iprop((bigSep Finset.univ fun j : Fin 28 => iprop(inP m (aOf j) c (peer c (kOf j)) ∗ dutyTok ER (cell c (sOf j)) 0 ()))
      ∗ (bigSep Finset.univ fun j : Fin 28 => iprop(outE (F := F) (aOf j) (peer c (kOf j)) c ∗ dutyTok ER (cell (peer c (kOf j)) (rOf j)) 0 ()))
      ∗ owes (c : Thread nD τ) (O c 0) ∅) ⊢ SS m c 0 := by
    have h0 (j : Fin 28) : iprop((inP m (aOf j) c (peer c (kOf j)) ∗ dutyTok ER (cell c (sOf j)) 0 ())
        ∗ (outE (F := F) (aOf j) (peer c (kOf j)) c ∗ dutyTok ER (cell (peer c (kOf j)) (rOf j)) 0 ())) ⊢ sendPre m c j := by
      unfold sendPre
      iintro ⟨⟨H1, H2⟩, H3, H4⟩
      isplitl [H1]; · iexact H1
      isplitl [H3]; · iexact H3
      isplitl [H2] <;> iassumption
    have h1 : iprop((bigSep Finset.univ fun j : Fin 28 => iprop(inP m (aOf j) c (peer c (kOf j)) ∗ dutyTok ER (cell c (sOf j)) 0 ()))
        ∗ (bigSep Finset.univ fun j : Fin 28 => iprop(outE (F := F) (aOf j) (peer c (kOf j)) c ∗ dutyTok ER (cell (peer c (kOf j)) (rOf j)) 0 ())))
        ⊢ bigSep Finset.univ (sendPre m c) := by
      rw [← bigSep_sep']; exact bigSep_mono fun j _ => h0 j
    unfold SS
    iintro ⟨H1, H2, H3⟩
    isplitr [H3]
    · iapply (two_start (sendPre m c) (sendPost c))
      iapply h1
      isplitl [H1] <;> iassumption
    iexact H3
  have hone (c : Dev nD) : iprop((bigSep Finset.univ fun a : Fin 4 => iprop((inP m a c c ∗ outE (F := F) a c c) ∗ dutyTok ER (cell c (lC a)) 0 ()))
    ∗ (bigSep Finset.univ fun j : Fin 28 => iprop(inP m (aOf j) c (peer c (kOf j)) ∗ dutyTok ER (cell c (sOf j)) 0 ()))
    ∗ (bigSep Finset.univ fun j : Fin 28 => iprop(outE (F := F) (aOf j) (peer c (kOf j)) c ∗ dutyTok ER (cell (peer c (kOf j)) (rOf j)) 0 ()))
    ∗ owes (c : Thread nD τ) (O c 0) ∅ ∗ recvCreds c ∗ positions c ∗ aside m c) ⊢ readyOf m c := by
    unfold readyOf
    iintro ⟨H1, H2, H3, H4, H5, H6, H7⟩
    isplitl [H1]; · iapply (hLS c); iexact H1
    isplitl [H2 H3 H4]
    · iapply (hSS c)
      isplitl [H2]; · iexact H2
      isplitl [H3] <;> iassumption
    isplitl [H5]; · iexact H5
    isplitl [H6] <;> iassumption
  have e : (bigSep Finset.univ fun c : Dev nD => sorted m c) = bigSep Finset.univ fun c : Dev nD =>
      (iprop((bigSep Finset.univ fun a : Fin 4 => iprop((inP m a c c ∗ outE (F := F) a c c) ∗ dutyTok ER (cell c (lC a)) 0 ()))
      ∗ (bigSep Finset.univ fun j : Fin 28 => iprop(inP m (aOf j) c (peer c (kOf j)) ∗ dutyTok ER (cell c (sOf j)) 0 ()))
      ∗ (bigSep Finset.univ fun j : Fin 28 => iprop(outE (F := F) (aOf j) (peer c (kOf j)) c ∗ dutyTok ER (cell (peer c (kOf j)) (rOf j)) 0 ()))
      ∗ owes (c : Thread nD τ) (O c 0) ∅ ∗ recvCreds c ∗ positions c ∗ aside m c) : sProp 𝕄) := by
    unfold sorted
    rw [bigSep_sep', bigSep_sep', bigSep_sep', bigSep_sep', bigSep_sep', bigSep_sep',
      around (fun j d e => (iprop(outE (F := F) (aOf j) d e ∗ dutyTok ER (cell d (rOf j)) 0 ()) : sProp 𝕄)),
      bigSep_sep', bigSep_sep', bigSep_sep', bigSep_sep', bigSep_sep', bigSep_sep']
  rw [e]
  exact bigSep_mono fun c _ => hone c

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BIClass.sep_mono (BI.bigSep_of_persistent S R) (BI.Entails.refl _)).trans (by rw [← bigSep_sep']; exact bigSep_mono h)

/-- The counters go into the invariants. -/
theorem allocate :
    iprop((bigSep Finset.univ fun c : Dev nD => bigSep Finset.univ fun j : Fin 60 => semVal (cell c j) 0)
        ∗ bigSep Finset.univ fun c : Dev nD => bigSep Finset.univ fun j : Fin 60 => roundState ER (Rd m) (cell c j) 0)
      ⊢ (|={Set.univ}=> (∃ K : Dev nD × Fin 60 → ℕ, bigSep Finset.univ fun ck : Dev nD × Fin 60 => cellInv ER (Rd m) (K ck) (kcell ck)) : sProp 𝕄) := by
  have h1 : iprop((bigSep Finset.univ fun c : Dev nD => bigSep Finset.univ fun j : Fin 60 => semVal (cell c j) 0)
        ∗ bigSep Finset.univ fun c : Dev nD => bigSep Finset.univ fun j : Fin 60 => roundState ER (Rd m) (cell c j) 0)
      ⊢ (|={Set.univ}=> bigSep Finset.univ fun ck : Dev nD × Fin 60 => iprop(∃ κ : ℕ, cellInv ER (Rd m) κ (kcell ck)) : sProp 𝕄) := by
    rw [← bigSep_univ_prod (fun ck : Dev nD × Fin 60 => (semVal (kcell ck) 0 : sProp 𝕄)),
      ← bigSep_univ_prod (fun ck : Dev nD × Fin 60 => (roundState ER (Rd m) (kcell ck) 0 : sProp 𝕄)), ← bigSep_sep']
    exact (bigSep_mono fun ck _ => (Rounds.body_intro ER (Rd m) (kcell ck)).trans inv_alloc).trans (bigSep_fupd _ _)
  iintro H
  imod h1 $$ H with HI
  imodintro
  iapply (BI.bigSep_exists_pi Finset.univ (fun (ck : Dev nD × Fin 60) (κ : ℕ) => (cellInv ER (Rd m) κ (kcell ck) : sProp 𝕄)))
  iexact HI

theorem deal (g : Dev nD → PrngReg) (L' : sProp 𝕄) :
    iprop((bigSep Finset.univ fun c : Dev nD => iprop(tableShare osem O₀ m g c ∗ G m c)) ∗ L') ⊢ (|={Set.univ}=> bigSep Finset.univ (T₀ m) : sProp 𝕄) := by
  have hs (c : Dev nD) : iprop(tableShare osem O₀ m g c ∗ G m c)
      ⊢ (iprop((bigSep Finset.univ fun j : Fin 60 => semVal (cell c j) 0) ∗ (bigSep Finset.univ fun j : Fin 60 => roundState ER (Rd m) (cell c j) 0)
          ∗ (bigSep Finset.univ fun j : Fin 60 => reached ER (cell c j) 0) ∗ sorted m c) : sProp 𝕄) := by
    unfold tableShare G
    iintro ⟨⟨Hv, Hb, -, Ho, Hc, Hg⟩, Hst, Hp, Hr, Ht⟩
    isplitl [Hv]; · unfold Pipeline.ownSems0; iexact Hv
    isplitl [Hst]; · iexact Hst
    isplitl [Hr]; · iexact Hr
    iapply (sort_one m g c)
    isplitl [Hb]; · iexact Hb
    isplitl [Ho]; · iexact Ho
    isplitl [Hc]; · iexact Hc
    isplitl [Hg]; · iexact Hg
    isplitl [Hp] <;> iassumption
  have ha : (bigSep Finset.univ fun c : Dev nD => iprop(tableShare osem O₀ m g c ∗ G m c))
      ⊢ (iprop((bigSep Finset.univ fun c : Dev nD => bigSep Finset.univ fun j : Fin 60 => semVal (cell c j) 0)
          ∗ (bigSep Finset.univ fun c : Dev nD => bigSep Finset.univ fun j : Fin 60 => roundState ER (Rd m) (cell c j) 0)
          ∗ (bigSep Finset.univ fun ck : Dev nD × Fin 60 => reached ER (kcell ck) 0) ∗ bigSep Finset.univ fun c : Dev nD => sorted m c) : sProp 𝕄) := by
    refine (bigSep_mono fun c _ => hs c).trans ?_
    rw [bigSep_sep', bigSep_sep', bigSep_sep', bigSep_univ_prod (fun ck : Dev nD × Fin 60 => (reached ER (kcell ck) 0 : sProp 𝕄))]
    exact BI.Entails.refl _
  have hK (K : Dev nD × Fin 60 → ℕ) (c : Dev nD) : iprop(records m K ∗ readyOf m c) ⊢ T₀ m c := by
    unfold T₀ readyOf
    iintro ⟨HR, H1, H2, H3, H4, H5⟩
    iexists K
    isplitl [HR]; · iexact HR
    isplitl [H1]; · iexact H1
    isplitl [H2]; · iexact H2
    isplitl [H3]; · iexact H3
    isplitl [H4] <;> iassumption
  iintro ⟨H, -⟩
  ihave H' := ha $$ H
  icases H' with ⟨Hv, Hst, #Hr, Hs⟩
  imod (allocate m) $$ [Hv Hst] with ⟨%K, #HI⟩
  · isplitl [Hv] <;> iassumption
  imodintro
  have hw : iprop(records m K ∗ bigSep Finset.univ fun c : Dev nD => readyOf m c) ⊢ (bigSep Finset.univ (T₀ m) : sProp 𝕄) :=
    with_persistent fun c _ => hK K c
  iapply hw
  isplitr
  · unfold records; isplitl; · iexact HI
    iexact Hr
  · iapply (handed_round m); iexact Hs

/-! ## What a device holds on leaving -/

/-- The places of device `c` after the exchange: its four stacks as launched, its four results filled. -/
def arrived (c : Dev nD) : sProp 𝕄 :=
  iprop((bigSep Finset.univ fun a : Fin 4 => inW m a c) ∗ bigSep Finset.univ fun a : Fin 4 => outW a c (gath m a c))

theorem settle (c : Dev nD) :
    iprop(arrived m c ∗ aside m c)
      ⊢ (iprop(StableHlo.held (c : Thread nD τ) (Pipeline.ucRefs τ sig) (W1 m c) ∗ ∃ r, prngReg c r) : sProp 𝕄) := by
  unfold arrived aside
  iintro ⟨Ha, H3, H4⟩
  ihave Ha' := (exch_after m c) $$ Ha
  isplitr [H4]
  · ihave H3' := (Entails.of_eq (rest_same m c)) $$ H3
    iapply (Entails.of_eq (StableHlo.held_sub_split _ exch_sub (W1 m c)).symm)
    isplitl [Ha']; · iexact Ha'
    iexact H3'
  iexact H4

end Cert.Exchange
-- ==== Proof.Adamw.lean ====
module

public import proofs.«01_k».proof.Proof.Proto
public import Idealize.ShloMosaic.Lib.Pipeline.FrameBody
public import Idealize.ShloMosaic.Lib.Pipeline.ValueKit.Tiles
public import Idealize.ShloMosaic.Lib.Pipeline.ValueKit.Basic

@[expose] public section
noncomputable section

namespace Cert.Exchange

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! The optimiser step, element by element: what one element of each of the four results is, as a
    function of the eight partial gradients, the weight and the two moments at that element. -/

/-- The first moment after the step. -/
def mom (g m : F .f32) : F .f32 :=
  FloatOps.addf (FloatOps.mulf (Scalar.ofBits .f32 0x3F666666#32) m) (FloatOps.mulf (Scalar.ofBits .f32 0x3DCCCCCD#32) g)

/-- The second moment after the step. -/
def sec (g v : F .f32) : F .f32 :=
  FloatOps.addf (FloatOps.mulf (Scalar.ofBits .f32 0x3F7FBE77#32) v)
    (FloatOps.mulf (Scalar.ofBits .f32 0x3A83126F#32) (FloatOps.mulf g g))

/-- The change of the weight: the corrected first moment over the root of the corrected second, plus the decay. -/
def stp (g w m v : F .f32) : F .f32 :=
  FloatOps.mulf (Scalar.ofBits .f32 0xBA83126F#32)
    (FloatOps.addf
      (FloatOps.divf (FloatOps.divf (mom g m) (Scalar.ofBits .f32 0x3F26BD02#32))
        (FloatOps.addf (FloatOps.sqrt (FloatOps.divf (sec g v) (Scalar.ofBits .f32 0x3C231ACC#32)))
          (Scalar.ofBits .f32 0x322BCC77#32)))
      (FloatOps.mulf (Scalar.ofBits .f32 0x3C23D70A#32) w))

/-- Eight values added from the first on. -/
def sum8 (f : Fin 8 → F .f32) : F .f32 :=
  FloatOps.addf (FloatOps.addf (FloatOps.addf (FloatOps.addf (FloatOps.addf (FloatOps.addf (FloatOps.addf
    (f 0) (f 1)) (f 2)) (f 3)) (f 4)) (f 5)) (f 6)) (f 7)

variable {R C : ℕ}

/-- The gradient: the eight leading slices added elementwise. -/
def gradV (x : Vec F ⟨3, ![8, R, C]⟩ .f32) : Vec F ⟨2, ![R, C]⟩ .f32 := fun i =>
  sum8 fun k => x (show (⟨3, ![8, R, C]⟩ : Shape).Idx from Fin.cons k i)

/-- The weight's change, elementwise. -/
def stepV (x : Vec F ⟨3, ![8, R, C]⟩ .f32) (w m v : Vec F ⟨2, ![R, C]⟩ .f32) : Vec F ⟨2, ![R, C]⟩ .f32 := fun i =>
  stp (gradV x i) (w i) (m i) (v i)

/-- The first moment, elementwise. -/
def momV (x : Vec F ⟨3, ![8, R, C]⟩ .f32) (m : Vec F ⟨2, ![R, C]⟩ .f32) : Vec F ⟨2, ![R, C]⟩ .f32 := fun i =>
  mom (gradV x i) (m i)

/-- The second moment, elementwise. -/
def secV (x : Vec F ⟨3, ![8, R, C]⟩ .f32) (v : Vec F ⟨2, ![R, C]⟩ .f32) : Vec F ⟨2, ![R, C]⟩ .f32 := fun i =>
  sec (gradV x i) (v i)

/-- One leading slice loaded and its unit axis dropped, at an index. -/
theorem slice_at (x : Vec F ⟨3, ![8, R, C]⟩ .f32) (k : Fin 8) (off : Fin 3 → ℕ) (ho : off = ![k.val, 0, 0])
    (inb : ∀ a, off a + (⟨3, ![1, R, C]⟩ : Shape).size a ≤ (⟨3, ![8, R, C]⟩ : Shape).size a)
    (h : (⟨3, ![1, R, C]⟩ : Shape).ShapeCasts ⟨2, ![R, C]⟩) (i : (⟨2, ![R, C]⟩ : Shape).Idx) :
    shapeCast ⟨2, ![R, C]⟩ (View.ld (S := ⟨3, ![8, R, C]⟩) x (Rect.unit off (⟨3, ![1, R, C]⟩ : Shape).size inb)) h i
      = x (show (⟨3, ![8, R, C]⟩ : Shape).Idx from Fin.cons k i) := by
  subst ho
  refine (shapeCast_dropUnit_apply (d := ![R, C]) _ h i).trans (View.ld_unit_apply_of _ _ _ _ _ _ fun a => ?_)
  refine Fin.cases ?_ (fun b => ?_) a
  · rfl
  · show (i b : ℕ) = (![k.val, 0, 0] : Fin 3 → ℕ) b.succ + (i b : ℕ)
    match b with
    | 0 => simp
    | 1 => simp

/-- A buffer of two axes filled by one store over the whole of it holds what was stored. -/
theorem read_store (v : View sig .tc .vmem ⟨2, ![R, C]⟩ .f32) (f : v.ty.Contents (Elt F)) (off : Fin 2 → ℕ)
    (ho : off = ![0, 0]) (inb : ∀ a, off a + (⟨2, ![R, C]⟩ : Shape).size a ≤ (⟨2, ![R, C]⟩ : Shape).size a)
    (p : Vec F ⟨2, ![R, C]⟩ .f32) :
    v.read (Elt F) (v.writes (Elt F) f [⟨Rect.unit (s := ⟨2, ![R, C]⟩) off (⟨2, ![R, C]⟩ : Shape).size inb, p⟩]) = p := by
  have hz : off = fun _ => 0 := by subst ho; funext a; match a with | 0 => rfl | 1 => rfl
  refine (View.read_writes_eq_canon _ _ _ fun y => ⟨_, List.mem_singleton_self _, ?_⟩).trans
    (View.canon_cons_unit_zero hz inb p [])
  subst hz
  show y ∈ (Rect.whole (⟨2, ![R, C]⟩ : Shape)).set
  rw [Rect.set_whole]; exact Finset.mem_univ y

/-- A load over the whole of a buffer of two axes reads what it holds. -/
theorem ld_whole (x : Vec F ⟨2, ![R, C]⟩ .f32) (off : Fin 2 → ℕ) (ho : off = ![0, 0])
    (inb : ∀ a, off a + (⟨2, ![R, C]⟩ : Shape).size a ≤ (⟨2, ![R, C]⟩ : Shape).size a) :
    View.ld (S := ⟨2, ![R, C]⟩) x (Rect.unit off (⟨2, ![R, C]⟩ : Shape).size inb) = x :=
  View.ld_unit_zero (by subst ho; funext a; match a with | 0 => rfl | 1 => rfl) inb x

end Cert.Exchange
-- ==== Proof.Adam1.lean ====
module

public import proofs.«01_k».proof.Proof.Adamw
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameSuffix
public import Idealize.ShloMosaic.Lib.Tactic
public import Idealize.ShloMosaic.Lib.WordCmp
public import Idealize.ShloMosaic.Lib.Exec

@[expose] public section
noncomputable section

namespace Cert.Exchange.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! The optimiser step for the input weight: what one point of its grid does, from the arrays as the step finds them (`V`). -/

variable (V : (c : Dev nD) → (b : Ref sig .tc) → Buf (Elt F) ((c : Thread nD τ).loc b))

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The values stored -/

theorem grad_eq (x : Vec F S8x128x1152 .f32) :
    k1_pay4 (View.ld x (Rect.unit (s := S8x128x1152) ![0, 0, 0] S1x128x1152.size inb_S8x128x1152_S1x128x1152_0_0_0)) (View.ld x (Rect.unit (s := S8x128x1152) ![1, 0, 0] S1x128x1152.size inb_S8x128x1152_S1x128x1152_1_0_0)) (View.ld x (Rect.unit (s := S8x128x1152) ![2, 0, 0] S1x128x1152.size inb_S8x128x1152_S1x128x1152_2_0_0)) (View.ld x (Rect.unit (s := S8x128x1152) ![3, 0, 0] S1x128x1152.size inb_S8x128x1152_S1x128x1152_3_0_0)) (View.ld x (Rect.unit (s := S8x128x1152) ![4, 0, 0] S1x128x1152.size inb_S8x128x1152_S1x128x1152_4_0_0)) (View.ld x (Rect.unit (s := S8x128x1152) ![5, 0, 0] S1x128x1152.size inb_S8x128x1152_S1x128x1152_5_0_0)) (View.ld x (Rect.unit (s := S8x128x1152) ![6, 0, 0] S1x128x1152.size inb_S8x128x1152_S1x128x1152_6_0_0)) (View.ld x (Rect.unit (s := S8x128x1152) ![7, 0, 0] S1x128x1152.size inb_S8x128x1152_S1x128x1152_7_0_0)) = gradV x := by
  funext i
  unfold k1_pay4
  simp only [addf]
  unfold gradV sum8
  congr 1; congr 1; congr 1; congr 1; congr 1; congr 1; congr 1
  all_goals first
    | exact slice_at x 0 _ rfl _ _ i
    | exact slice_at x 1 _ rfl _ _ i
    | exact slice_at x 2 _ rfl _ _ i
    | exact slice_at x 3 _ rfl _ _ i
    | exact slice_at x 4 _ rfl _ _ i
    | exact slice_at x 5 _ rfl _ _ i
    | exact slice_at x 6 _ rfl _ _ i
    | exact slice_at x 7 _ rfl _ _ i

theorem mom_eq (x : Vec F S8x128x1152 .f32) (m : Vec F S128x1152 .f32) : k1_pay1 (gradV x) m = momV x m := rfl
theorem sec_eq (x : Vec F S8x128x1152 .f32) (v : Vec F S128x1152 .f32) : k1_pay2 (gradV x) v = secV x v := rfl
theorem step_eq (x : Vec F S8x128x1152 .f32) (w m v : Vec F S128x1152 .f32) : k1_pay3 (gradV x) w m v = stepV x w m v := rfl
theorem pass5 (v : Vec F S128x1152 .f32) : k1_pay5 v = v := by unfold k1_pay5; exact shapeCast_self _ _
theorem pass6 (v : Vec F S128x1152 .f32) : k1_pay6 v = v := by unfold k1_pay6; exact shapeCast_self _ _
theorem pass7 (v : Vec F S128x1152 .f32) : k1_pay7 v = v := by unfold k1_pay7; exact shapeCast_self _ _

/-! ## The body -/

set_option maxHeartbeats 1600000 in
/-- The body run once: the inputs are unchanged, the four outputs hold the four results. -/
theorem step (c : Dev nD) (i : grid1.Coords) (arg1 : Memref sig .tc .vmem S8x128x1152 .f32) (harg1 : arg1.IsWhole) (arg2 : Memref sig .tc .vmem S128x1152 .f32) (harg2 : arg2.IsWhole) (arg3 : Memref sig .tc .vmem S128x1152 .f32) (harg3 : arg3.IsWhole) (arg4 : Memref sig .tc .vmem S128x1152 .f32) (harg4 : arg4.IsWhole) (arg5 : Memref sig .tc .vmem S128x1152 .f32) (harg5 : arg5.IsWhole) (arg6 : Memref sig .tc .vmem S128x1152 .f32) (harg6 : arg6.IsWhole) (arg7 : Memref sig .tc .vmem S128x1152 .f32) (harg7 : arg7.IsWhole) (arg8 : Memref sig .tc .vmem S128x1152 .f32) (harg8 : arg8.IsWhole)
    (x0 : Vec F S8x128x1152 .f32) (x1 x2 x3 : Vec F S128x1152 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (gradV x0) ∗ owns (c : Thread nD τ) arg6 fullShare (stepV x0 x1 x2 x3)
            ∗ owns (c : Thread nD τ) arg7 fullShare (momV x0 x2) ∗ owns (c : Thread nD τ) arg8 fullShare (secV x0 x3)) -∗ K ⟨⟩))
      ⊢ wp frame (wpE (defs₀ (F := F)) Variants.none c none) Set.univ (cc1_adamw_w_in i arg1 harg1 arg2 harg2 arg3 harg3 arg4 harg4 arg5 harg5 arg6 harg6 arg7 harg7 arg8 harg8) K := by
  simp only [cc1_adamw_w_in_eq_skeleton]; unfold cc1_adamw_w_in_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact (read_store _ _ _ rfl _ _).trans (grad_eq _)
  isplitl [H5]
  · iexists _; isplitr
    swap; · iexact H5
    ipureintro
    refine (read_store _ _ _ rfl _ _).trans (Eq.trans ?_ (step_eq _ _ _ _))
    rw [← grad_eq]
    exact congr (congr (congrArg _ ((pass5 _).trans (ld_whole _ _ rfl _))) ((pass6 _).trans (ld_whole _ _ rfl _))) ((pass7 _).trans (ld_whole _ _ rfl _))
  isplitl [H6]
  · iexists _; isplitr
    swap; · iexact H6
    ipureintro
    refine (read_store _ _ _ rfl _ _).trans (Eq.trans ?_ (mom_eq _ _))
    rw [← grad_eq]
    exact congrArg _ ((pass6 _).trans (ld_whole _ _ rfl _))
  iexists _; isplitr
  swap; · iexact H7
  ipureintro
  refine (read_store _ _ _ rfl _ _).trans (Eq.trans ?_ (sec_eq _ _))
  rw [← grad_eq]
  exact congrArg _ ((pass7 _).trans (ld_whole _ _ rfl _))

/-! ## The proof data of the step's pipeline -/

/-- The arrays as the step finds them; the inputs' buffers keep their blocks, the outputs' get the results; nothing is owed. -/
def dat (c : Dev nD) : Dat τ (Elt F) Unit ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => gradV (iblk V c 0 t)
    | ⟨5, _⟩ => stepV (iblk V c 0 t) (iblk V c 1 t) (iblk V c 2 t) (iblk V c 3 t)
    | ⟨6, _⟩ => momV (iblk V c 0 t) (iblk V c 2 t)
    | ⟨7, _⟩ => secV (iblk V c 0 t) (iblk V c 3 t)
  Φ _ := iprop(Pipeline.scopedRest (Ix := Unit) (Name := ℕ) (U := UU) (Lvl := ℕ) (Val := Elt F) spec1 c ∗ ∃ r, prngReg c r)
  q _ := fullShare
  owed _ := 0

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = gradV (iblk V c 0 t) := by dsimp only [dat]
theorem after_5 (c : Dev nD) (t : Fin cfg1.N) : (dat V c).after 5 t = stepV (iblk V c 0 t) (iblk V c 1 t) (iblk V c 2 t) (iblk V c 3 t) := by dsimp only [dat]
theorem after_6 (c : Dev nD) (t : Fin cfg1.N) : (dat V c).after 6 t = momV (iblk V c 0 t) (iblk V c 2 t) := by dsimp only [dat]
theorem after_7 (c : Dev nD) (t : Fin cfg1.N) : (dat V c).after 7 t = secV (iblk V c 0 t) (iblk V c 3 t) := by dsimp only [dat]

/-! An input's buffer holds its block whenever the body is entered. -/

theorem before_0 (c : Dev nD) (t : Fin cfg1.N) (d) : (dat V c).before 0 t d = iblk V c 0 t :=
  ((dat V c).before_in_eq_fetched 0 rfl (fun _ => rfl) (fun _ _ _ => rfl) (fun t => by rw [after_0]; rfl) t d).trans rfl
theorem before_1 (c : Dev nD) (t : Fin cfg1.N) (d) : (dat V c).before 1 t d = iblk V c 1 t :=
  ((dat V c).before_in_eq_fetched 1 rfl (fun _ => rfl) (fun _ _ _ => rfl) (fun t => by rw [after_1]; rfl) t d).trans rfl
theorem before_2 (c : Dev nD) (t : Fin cfg1.N) (d) : (dat V c).before 2 t d = iblk V c 2 t :=
  ((dat V c).before_in_eq_fetched 2 rfl (fun _ => rfl) (fun _ _ _ => rfl) (fun t => by rw [after_2]; rfl) t d).trans rfl
theorem before_3 (c : Dev nD) (t : Fin cfg1.N) (d) : (dat V c).before 3 t d = iblk V c 3 t :=
  ((dat V c).before_in_eq_fetched 3 rfl (fun _ => rfl) (fun _ _ _ => rfl) (fun t => by rw [after_3]; rfl) t d).trans rfl

set_option maxHeartbeats 800000 in
/-- The pipeline's obligation for the body: at any point of the grid, the body run once. -/
theorem obligation (c : Dev nD) : BodyObligation (dat V c) (defs₀ (F := F)) Variants.none () Set.univ := fun t => by
  have hrow : defs₀ (F := F) .tc cfg1.body (cfg1.bodyArgs t (cfg1.slots t)) = bodyAt1 t := by
    unfold defs₀; rw [Defs.onTc_tc]
  rw [bigSep_W1, bigSep_W1, hrow]
  unfold bodyAt1
  simp only [before_0, before_1, before_2, before_3]
  rw [show (dat V c).Φ t.castSucc = (dat V c).Φ t.succ from rfl,
    show (dat V c).owesAt () t.castSucc = (dat V c).owesAt () t.succ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step c (grid1.coords t) _ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Exchange.K1
-- ==== Proof.Adam2.lean ====
module

public import proofs.«01_k».proof.Proof.Adamw
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameSuffix
public import Idealize.ShloMosaic.Lib.Tactic
public import Idealize.ShloMosaic.Lib.WordCmp
public import Idealize.ShloMosaic.Lib.Exec

@[expose] public section
noncomputable section

namespace Cert.Exchange.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! The optimiser step for the first output weight: what one point of its grid does, from the arrays as the step finds them (`V`). -/

variable (V : (c : Dev nD) → (b : Ref sig .tc) → Buf (Elt F) ((c : Thread nD τ).loc b))

/-- Window `w`'s block at point `t`, read off its array. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The values stored -/

theorem grad_eq (x : Vec F S8x128x1024 .f32) :
    k2_pay4 (View.ld x (Rect.unit (s := S8x128x1024) ![0, 0, 0] S1x128x1024.size inb_S8x128x1024_S1x128x1024_0_0_0)) (View.ld x (Rect.unit (s := S8x128x1024) ![1, 0, 0] S1x128x1024.size inb_S8x128x1024_S1x128x1024_1_0_0)) (View.ld x (Rect.unit (s := S8x128x1024) ![2, 0, 0] S1x128x1024.size inb_S8x128x1024_S1x128x1024_2_0_0)) (View.ld x (Rect.unit (s := S8x128x1024) ![3, 0, 0] S1x128x1024.size inb_S8x128x1024_S1x128x1024_3_0_0)) (View.ld x (Rect.unit (s := S8x128x1024) ![4, 0, 0] S1x128x1024.size inb_S8x128x1024_S1x128x1024_4_0_0)) (View.ld x (Rect.unit (s := S8x128x1024) ![5, 0, 0] S1x128x1024.size inb_S8x128x1024_S1x128x1024_5_0_0)) (View.ld x (Rect.unit (s := S8x128x1024) ![6, 0, 0] S1x128x1024.size inb_S8x128x1024_S1x128x1024_6_0_0)) (View.ld x (Rect.unit (s := S8x128x1024) ![7, 0, 0] S1x128x1024.size inb_S8x128x1024_S1x128x1024_7_0_0)) = gradV x := by
  funext i
  unfold k2_pay4
  simp only [addf]
  unfold gradV sum8
  congr 1; congr 1; congr 1; congr 1; congr 1; congr 1; congr 1
  all_goals first
    | exact slice_at x 0 _ rfl _ _ i
    | exact slice_at x 1 _ rfl _ _ i
    | exact slice_at x 2 _ rfl _ _ i
    | exact slice_at x 3 _ rfl _ _ i
    | exact slice_at x 4 _ rfl _ _ i
    | exact slice_at x 5 _ rfl _ _ i
    | exact slice_at x 6 _ rfl _ _ i
    | exact slice_at x 7 _ rfl _ _ i

theorem mom_eq (x : Vec F S8x128x1024 .f32) (m : Vec F S128x1024 .f32) : k2_pay1 (gradV x) m = momV x m := rfl
theorem sec_eq (x : Vec F S8x128x1024 .f32) (v : Vec F S128x1024 .f32) : k2_pay2 (gradV x) v = secV x v := rfl
theorem step_eq (x : Vec F S8x128x1024 .f32) (w m v : Vec F S128x1024 .f32) : k2_pay3 (gradV x) w m v = stepV x w m v := rfl
theorem pass5 (v : Vec F S128x1024 .f32) : k2_pay5 v = v := by unfold k2_pay5; exact shapeCast_self _ _
theorem pass6 (v : Vec F S128x1024 .f32) : k2_pay6 v = v := by unfold k2_pay6; exact shapeCast_self _ _
theorem pass7 (v : Vec F S128x1024 .f32) : k2_pay7 v = v := by unfold k2_pay7; exact shapeCast_self _ _

/-! ## The body -/

set_option maxHeartbeats 1600000 in
/-- The body run once: the inputs are unchanged, the four outputs hold the four results. -/
theorem step (c : Dev nD) (i : grid2.Coords) (arg1 : Memref sig .tc .vmem S8x128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S128x1024 .f32) (harg7 : arg7.IsWhole) (arg8 : Memref sig .tc .vmem S128x1024 .f32) (harg8 : arg8.IsWhole)
    (x0 : Vec F S8x128x1024 .f32) (x1 x2 x3 : Vec F S128x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (gradV x0) ∗ owns (c : Thread nD τ) arg6 fullShare (stepV x0 x1 x2 x3)
            ∗ owns (c : Thread nD τ) arg7 fullShare (momV x0 x2) ∗ owns (c : Thread nD τ) arg8 fullShare (secV x0 x3)) -∗ K ⟨⟩))
      ⊢ wp frame (wpE (defs₀ (F := F)) Variants.none c none) Set.univ (cc2_adamw_w_o_gmlp i arg1 harg1 arg2 harg2 arg3 harg3 arg4 harg4 arg5 harg5 arg6 harg6 arg7 harg7 arg8 harg8) K := by
  simp only [cc2_adamw_w_o_gmlp_eq_skeleton]; unfold cc2_adamw_w_o_gmlp_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact (read_store _ _ _ rfl _ _).trans (grad_eq _)
  isplitl [H5]
  · iexists _; isplitr
    swap; · iexact H5
    ipureintro
    refine (read_store _ _ _ rfl _ _).trans (Eq.trans ?_ (step_eq _ _ _ _))
    rw [← grad_eq]
    exact congr (congr (congrArg _ ((pass5 _).trans (ld_whole _ _ rfl _))) ((pass6 _).trans (ld_whole _ _ rfl _))) ((pass7 _).trans (ld_whole _ _ rfl _))
  isplitl [H6]
  · iexists _; isplitr
    swap; · iexact H6
    ipureintro
    refine (read_store _ _ _ rfl _ _).trans (Eq.trans ?_ (mom_eq _ _))
    rw [← grad_eq]
    exact congrArg _ ((pass6 _).trans (ld_whole _ _ rfl _))
  iexists _; isplitr
  swap; · iexact H7
  ipureintro
  refine (read_store _ _ _ rfl _ _).trans (Eq.trans ?_ (sec_eq _ _))
  rw [← grad_eq]
  exact congrArg _ ((pass7 _).trans (ld_whole _ _ rfl _))

/-! ## The proof data of the step's pipeline -/

/-- The arrays as the step finds them; the inputs' buffers keep their blocks, the outputs' get the results; nothing is owed. -/
def dat (c : Dev nD) : Dat τ (Elt F) Unit ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => gradV (iblk V c 0 t)
    | ⟨5, _⟩ => stepV (iblk V c 0 t) (iblk V c 1 t) (iblk V c 2 t) (iblk V c 3 t)
    | ⟨6, _⟩ => momV (iblk V c 0 t) (iblk V c 2 t)
    | ⟨7, _⟩ => secV (iblk V c 0 t) (iblk V c 3 t)
  Φ _ := iprop(Pipeline.scopedRest (Ix := Unit) (Name := ℕ) (U := UU) (Lvl := ℕ) (Val := Elt F) spec2 c ∗ ∃ r, prngReg c r)
  q _ := fullShare
  owed _ := 0

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = gradV (iblk V c 0 t) := by dsimp only [dat]
theorem after_5 (c : Dev nD) (t : Fin cfg2.N) : (dat V c).after 5 t = stepV (iblk V c 0 t) (iblk V c 1 t) (iblk V c 2 t) (iblk V c 3 t) := by dsimp only [dat]
theorem after_6 (c : Dev nD) (t : Fin cfg2.N) : (dat V c).after 6 t = momV (iblk V c 0 t) (iblk V c 2 t) := by dsimp only [dat]
theorem after_7 (c : Dev nD) (t : Fin cfg2.N) : (dat V c).after 7 t = secV (iblk V c 0 t) (iblk V c 3 t) := by dsimp only [dat]

/-! An input's buffer holds its block whenever the body is entered. -/

theorem before_0 (c : Dev nD) (t : Fin cfg2.N) (d) : (dat V c).before 0 t d = iblk V c 0 t :=
  ((dat V c).before_in_eq_fetched 0 rfl (fun _ => rfl) (fun _ _ _ => rfl) (fun t => by rw [after_0]; rfl) t d).trans rfl
theorem before_1 (c : Dev nD) (t : Fin cfg2.N) (d) : (dat V c).before 1 t d = iblk V c 1 t :=
  ((dat V c).before_in_eq_fetched 1 rfl (fun _ => rfl) (fun _ _ _ => rfl) (fun t => by rw [after_1]; rfl) t d).trans rfl
theorem before_2 (c : Dev nD) (t : Fin cfg2.N) (d) : (dat V c).before 2 t d = iblk V c 2 t :=
  ((dat V c).before_in_eq_fetched 2 rfl (fun _ => rfl) (fun _ _ _ => rfl) (fun t => by rw [after_2]; rfl) t d).trans rfl
theorem before_3 (c : Dev nD) (t : Fin cfg2.N) (d) : (dat V c).before 3 t d = iblk V c 3 t :=
  ((dat V c).before_in_eq_fetched 3 rfl (fun _ => rfl) (fun _ _ _ => rfl) (fun t => by rw [after_3]; rfl) t d).trans rfl

set_option maxHeartbeats 800000 in
/-- The pipeline's obligation for the body: at any point of the grid, the body run once. -/
theorem obligation (c : Dev nD) : BodyObligation (dat V c) (defs₀ (F := F)) Variants.none () Set.univ := fun t => by
  have hrow : defs₀ (F := F) .tc cfg2.body (cfg2.bodyArgs t (cfg2.slots t)) = bodyAt2 t := by
    unfold defs₀; rw [Defs.onTc_tc]
  rw [bigSep_W2, bigSep_W2, hrow]
  unfold bodyAt2
  simp only [before_0, before_1, before_2, before_3]
  rw [show (dat V c).Φ t.castSucc = (dat V c).Φ t.succ from rfl,
    show (dat V c).owesAt () t.castSucc = (dat V c).owesAt () t.succ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (step c (grid2.coords t) _ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Exchange.K2
-- ==== Proof.Adam3.lean ====
module

public import proofs.«01_k».proof.Proof.Adam2

@[expose] public section
noncomputable section

namespace Cert.Exchange.K3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

/-! The optimiser step for the second output weight: what one point of its grid does, from the arrays as the step finds them (`V`). -/

variable (V : (c : Dev nD) → (b : Ref sig .tc) → Buf (Elt F) ((c : Thread nD τ).loc b))

/-- Window `w`'s block at point `t`, read off its array. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The proof data of the step's pipeline -/

/-- The arrays as the step finds them; the inputs' buffers keep their blocks, the outputs' get the results; nothing is owed. -/
def dat (c : Dev nD) : Dat τ (Elt F) Unit ℕ UU ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => gradV (iblk V c 0 t)
    | ⟨5, _⟩ => stepV (iblk V c 0 t) (iblk V c 1 t) (iblk V c 2 t) (iblk V c 3 t)
    | ⟨6, _⟩ => momV (iblk V c 0 t) (iblk V c 2 t)
    | ⟨7, _⟩ => secV (iblk V c 0 t) (iblk V c 3 t)
  Φ _ := iprop(Pipeline.scopedRest (Ix := Unit) (Name := ℕ) (U := UU) (Lvl := ℕ) (Val := Elt F) spec3 c ∗ ∃ r, prngReg c r)
  q _ := fullShare
  owed _ := 0

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = gradV (iblk V c 0 t) := by dsimp only [dat]
theorem after_5 (c : Dev nD) (t : Fin cfg3.N) : (dat V c).after 5 t = stepV (iblk V c 0 t) (iblk V c 1 t) (iblk V c 2 t) (iblk V c 3 t) := by dsimp only [dat]
theorem after_6 (c : Dev nD) (t : Fin cfg3.N) : (dat V c).after 6 t = momV (iblk V c 0 t) (iblk V c 2 t) := by dsimp only [dat]
theorem after_7 (c : Dev nD) (t : Fin cfg3.N) : (dat V c).after 7 t = secV (iblk V c 0 t) (iblk V c 3 t) := by dsimp only [dat]

/-- The body is the first output weight's, in the same shapes. -/
theorem body_same : @cc3_adamw_w_o_sb F _ = @cc2_adamw_w_o_gmlp F _ := rfl

/-! An input's buffer holds its block whenever the body is entered. -/

theorem before_0 (c : Dev nD) (t : Fin cfg3.N) (d) : (dat V c).before 0 t d = iblk V c 0 t :=
  ((dat V c).before_in_eq_fetched 0 rfl (fun _ => rfl) (fun _ _ _ => rfl) (fun t => by rw [after_0]; rfl) t d).trans rfl
theorem before_1 (c : Dev nD) (t : Fin cfg3.N) (d) : (dat V c).before 1 t d = iblk V c 1 t :=
  ((dat V c).before_in_eq_fetched 1 rfl (fun _ => rfl) (fun _ _ _ => rfl) (fun t => by rw [after_1]; rfl) t d).trans rfl
theorem before_2 (c : Dev nD) (t : Fin cfg3.N) (d) : (dat V c).before 2 t d = iblk V c 2 t :=
  ((dat V c).before_in_eq_fetched 2 rfl (fun _ => rfl) (fun _ _ _ => rfl) (fun t => by rw [after_2]; rfl) t d).trans rfl
theorem before_3 (c : Dev nD) (t : Fin cfg3.N) (d) : (dat V c).before 3 t d = iblk V c 3 t :=
  ((dat V c).before_in_eq_fetched 3 rfl (fun _ => rfl) (fun _ _ _ => rfl) (fun t => by rw [after_3]; rfl) t d).trans rfl

set_option maxHeartbeats 800000 in
/-- The pipeline's obligation for the body: at any point of the grid, the body run once. -/
theorem obligation (c : Dev nD) : BodyObligation (dat V c) (defs₀ (F := F)) Variants.none () Set.univ := fun t => by
  have hrow : defs₀ (F := F) .tc cfg3.body (cfg3.bodyArgs t (cfg3.slots t)) = bodyAt3 t := by
    unfold defs₀; rw [Defs.onTc_tc]
  rw [bigSep_W3, bigSep_W3, hrow]
  unfold bodyAt3
  rw [body_same]
  simp only [before_0, before_1, before_2, before_3]
  rw [show (dat V c).Φ t.castSucc = (dat V c).Φ t.succ from rfl,
    show (dat V c).owesAt () t.castSucc = (dat V c).owesAt () t.succ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (K2.step c (grid3.coords t) _ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Exchange.K3
-- ==== Proof.Adam4.lean ====
module

public import proofs.«01_k».proof.Proof.Adam2

@[expose] public section
noncomputable section

namespace Cert.Exchange.K4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

/-! The optimiser step for the third output weight: what one point of its grid does, from the arrays as the step finds them (`V`). -/

variable (V : (c : Dev nD) → (b : Ref sig .tc) → Buf (Elt F) ((c : Thread nD τ).loc b))

/-- Window `w`'s block at point `t`, read off its array. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The proof data of the step's pipeline -/

/-- The arrays as the step finds them; the inputs' buffers keep their blocks, the outputs' get the results; nothing is owed. -/
def dat (c : Dev nD) : Dat τ (Elt F) Unit ℕ UU ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => gradV (iblk V c 0 t)
    | ⟨5, _⟩ => stepV (iblk V c 0 t) (iblk V c 1 t) (iblk V c 2 t) (iblk V c 3 t)
    | ⟨6, _⟩ => momV (iblk V c 0 t) (iblk V c 2 t)
    | ⟨7, _⟩ => secV (iblk V c 0 t) (iblk V c 3 t)
  Φ _ := iprop(Pipeline.scopedRest (Ix := Unit) (Name := ℕ) (U := UU) (Lvl := ℕ) (Val := Elt F) spec4 c ∗ ∃ r, prngReg c r)
  q _ := fullShare
  owed _ := 0

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = gradV (iblk V c 0 t) := by dsimp only [dat]
theorem after_5 (c : Dev nD) (t : Fin cfg4.N) : (dat V c).after 5 t = stepV (iblk V c 0 t) (iblk V c 1 t) (iblk V c 2 t) (iblk V c 3 t) := by dsimp only [dat]
theorem after_6 (c : Dev nD) (t : Fin cfg4.N) : (dat V c).after 6 t = momV (iblk V c 0 t) (iblk V c 2 t) := by dsimp only [dat]
theorem after_7 (c : Dev nD) (t : Fin cfg4.N) : (dat V c).after 7 t = secV (iblk V c 0 t) (iblk V c 3 t) := by dsimp only [dat]

/-- The body is the first output weight's, in the same shapes. -/
theorem body_same : @cc4_adamw_w_out F _ = @cc2_adamw_w_o_gmlp F _ := rfl

/-! An input's buffer holds its block whenever the body is entered. -/

theorem before_0 (c : Dev nD) (t : Fin cfg4.N) (d) : (dat V c).before 0 t d = iblk V c 0 t :=
  ((dat V c).before_in_eq_fetched 0 rfl (fun _ => rfl) (fun _ _ _ => rfl) (fun t => by rw [after_0]; rfl) t d).trans rfl
theorem before_1 (c : Dev nD) (t : Fin cfg4.N) (d) : (dat V c).before 1 t d = iblk V c 1 t :=
  ((dat V c).before_in_eq_fetched 1 rfl (fun _ => rfl) (fun _ _ _ => rfl) (fun t => by rw [after_1]; rfl) t d).trans rfl
theorem before_2 (c : Dev nD) (t : Fin cfg4.N) (d) : (dat V c).before 2 t d = iblk V c 2 t :=
  ((dat V c).before_in_eq_fetched 2 rfl (fun _ => rfl) (fun _ _ _ => rfl) (fun t => by rw [after_2]; rfl) t d).trans rfl
theorem before_3 (c : Dev nD) (t : Fin cfg4.N) (d) : (dat V c).before 3 t d = iblk V c 3 t :=
  ((dat V c).before_in_eq_fetched 3 rfl (fun _ => rfl) (fun _ _ _ => rfl) (fun t => by rw [after_3]; rfl) t d).trans rfl

set_option maxHeartbeats 800000 in
/-- The pipeline's obligation for the body: at any point of the grid, the body run once. -/
theorem obligation (c : Dev nD) : BodyObligation (dat V c) (defs₀ (F := F)) Variants.none () Set.univ := fun t => by
  have hrow : defs₀ (F := F) .tc cfg4.body (cfg4.bodyArgs t (cfg4.slots t)) = bodyAt4 t := by
    unfold defs₀; rw [Defs.onTc_tc]
  rw [bigSep_W4, bigSep_W4, hrow]
  unfold bodyAt4
  rw [body_same]
  simp only [before_0, before_1, before_2, before_3]
  rw [show (dat V c).Φ t.castSucc = (dat V c).Φ t.succ from rfl,
    show (dat V c).owesAt () t.castSucc = (dat V c).owesAt () t.succ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (K2.step c (grid4.coords t) _ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Exchange.K4
-- ==== Proof.Regs.lean ====
module

public import proofs.«01_k».proof.Proof.Fund
public import proofs.«01_k».proof.Proof.Adam1
public import proofs.«01_k».proof.Proof.Adam2
public import proofs.«01_k».proof.Proof.Adam3
public import proofs.«01_k».proof.Proof.Adam4
public import proofs.«01_k».proof.Proof.Gen.KernelIdeal.Regions
public import Idealize.ShloMosaic.Lib.Pipeline.RegionArraysS

/-! The whole program on one device: the exchange, then the four optimiser kernels one after another, each over the arrays
    the kernels before it left. -/

@[expose] public section
noncomputable section

namespace Cert.Exchange

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The contents of the arrays after each kernel -/

abbrev vals (W : (c : Dev nD) → Valuation τ sig (Elt F)) : (c : Dev nD) → (b : Ref sig .tc) → Buf (Elt F) ((c : Thread nD τ).loc b) :=
  fun c b => W c (Proc.devRef .tc b)

def W2 (c : Dev nD) : Valuation τ sig (Elt F) := Pipeline.afterRegion (K1.dat (vals (W1 m)) c) (W1 m c)
def W3 (c : Dev nD) : Valuation τ sig (Elt F) := Pipeline.afterRegion (K2.dat (vals (W2 m)) c) (W2 m c)
def W4 (c : Dev nD) : Valuation τ sig (Elt F) := Pipeline.afterRegion (K3.dat (vals (W3 m)) c) (W3 m c)
def W5 (c : Dev nD) : Valuation τ sig (Elt F) := Pipeline.afterRegion (K4.dat (vals (W4 m)) c) (W4 m c)

/-! ## The exchange as a pipeline of no windows -/

/-- What the exchange enters with, beside what it owes. -/
def enterX (c : Dev nD) : sProp 𝕄 :=
  iprop(∃ K, records m K ∗ LS m c 0 ∗ Two (sendPre m c) (sendPost c) 0 ∗ recvCreds c ∗ positions c)

/-- What it leaves with. -/
def leaveX (c : Dev nD) : sProp 𝕄 := Two (waitPre c) (waitPost m c) 60

def exDat (c : Dev nD) : Dat τ (Elt F) Unit ℕ UU ℕ cfg0 c where
  A w := w.elim0
  after w := w.elim0
  Φ t := iprop(Pipeline.scopedRest (Ix := Unit) (Name := ℕ) (U := UU) (Lvl := ℕ) (Val := Elt F) cfg0.spec c ∗ if t.val = 0 then enterX m c else leaveX m c)
  q _ := fullShare
  owed t := if t.val = 0 then O c 0 else 0
  recorded t := if t.val = 0 then ∅ else Set.univ

theorem no_pairs : cfg0.waitPairs () = ∅ := by
  unfold Cfg.waitPairs
  ext x
  simp only [Set.mem_setOf_eq, Set.mem_empty_iff_false, iff_false]
  rintro ⟨w, -⟩
  exact w.elim0

theorem ex_obligation (c : Dev nD) : BodyObligation (exDat m c) (defs₀ (F := F)) 𝒱₀ () Set.univ := fun t => by
  obtain rfl : t = t0_0 := fin_N0 t
  have hrow : defs₀ (F := F) .tc cfg0.body (cfg0.bodyArgs t0_0 (cfg0.slots t0_0)) = bodyAt0 t0_0 := by
    unfold defs₀; rw [Defs.onTc_tc]
  have hin : iprop((exDat m c).Φ t0_0.castSucc ∗ (exDat m c).owesAt () t0_0.castSucc)
      ⊢ iprop(Pipeline.scopedRest (Ix := Unit) (Name := ℕ) (U := UU) (Lvl := ℕ) (Val := Elt F) cfg0.spec c
          ∗ ∃ K, records m K ∗ LS m c 0 ∗ SS m c 0 ∗ recvCreds c ∗ positions c) := by
    have e0 : (exDat m c).Φ t0_0.castSucc = iprop(Pipeline.scopedRest (Ix := Unit) (Name := ℕ) (U := UU) (Lvl := ℕ) (Val := Elt F) cfg0.spec c ∗ enterX m c) := rfl
    have e1 : (exDat m c).owesAt () t0_0.castSucc = (iprop(∃ W : Finset (SemLoc sig × Unit), ⌜(↑W : Set (SemLoc sig × Unit)) ⊆ ∅ ∪ cfg0.waitPairs ()⌝ ∗ owes (c : Thread nD τ) (O c 0) W) : sProp 𝕄) := rfl
    rw [e0, e1, no_pairs, Set.union_empty]
    unfold enterX SS
    iintro ⟨⟨Hr, %K, #HR, HL, HS, Hc, Hp⟩, %W, %hW, Ho⟩
    obtain rfl : W = ∅ := Finset.coe_eq_empty.mp (Set.subset_empty_iff.mp hW)
    isplitl [Hr]; · iexact Hr
    iexists K
    isplitr; · iexact HR
    isplitl [HL]; · iexact HL
    isplitl [HS Ho]
    · isplitl [HS] <;> iassumption
    isplitl [Hc] <;> iassumption
  have hout : iprop(Pipeline.scopedRest (Ix := Unit) (Name := ℕ) (U := UU) (Lvl := ℕ) (Val := Elt F) cfg0.spec c ∗ WS m c 60)
      ⊢ iprop((exDat m c).Φ t0_0.succ ∗ (exDat m c).owesAt () t0_0.succ) := by
    have e0 : (exDat m c).Φ t0_0.succ = iprop(Pipeline.scopedRest (Ix := Unit) (Name := ℕ) (U := UU) (Lvl := ℕ) (Val := Elt F) cfg0.spec c ∗ leaveX m c) := rfl
    have e1 : (exDat m c).owesAt () t0_0.succ = (iprop(∃ W : Finset (SemLoc sig × Unit), ⌜(↑W : Set (SemLoc sig × Unit)) ⊆ Set.univ ∪ cfg0.waitPairs ()⌝ ∗ owes (c : Thread nD τ) 0 W) : sProp 𝕄) := rfl
    rw [e0, e1]
    unfold WS leaveX
    iintro ⟨Hr, Hw, %W, Ho⟩
    isplitl [Hr Hw]
    · isplitl [Hr] <;> iassumption
    iexists W
    isplitr
    · ipureintro; exact fun x _ => Or.inl (Set.mem_univ x)
    iexact Ho
  rw [hrow]
  iintro ⟨HΦ, Ho, -⟩
  ihave H := hin $$ [HΦ Ho]
  · isplitl [HΦ] <;> iassumption
  icases H with ⟨Hr, %K, H⟩
  iapply (body m K c) $$ H
  iintro %r Hw
  ihave H := hout $$ [Hr Hw]
  · isplitl [Hr] <;> iassumption
  icases H with ⟨H1, H2⟩
  isplitl [H1]; · iexact H1
  isplitl [H2]; · iexact H2
  rw [Finset.univ_eq_empty, BI.bigSep_empty]
  iempintro

/-! ## The optimiser kernels as segments -/

def pdats : (p : Fin 5) → (c : Dev nD) → Dat τ (Elt F) Unit ℕ UU ℕ (cfgs p) c
  | 0, c => exDat m c
  | 1, c => K1.dat (vals (W1 m)) c
  | 2, c => K2.dat (vals (W2 m)) c
  | 3, c => K3.dat (vals (W3 m)) c
  | 4, c => K4.dat (vals (W4 m)) c

theorem cut (p : Fin 5) : Pipeline.LevelCut (pcfgs (F := F)) adm () L lv p (fun _ : Dev nD => (0 : CellTallies nD τ sig Unit)) fun _ => 0 where
  hι _ _ _ := by unfold L; rw [if_pos rfl]; exact Finset.mem_singleton_self _
  hιb _ _ _ := le_rfl
  hD c g i h := absurd h (lt_irrefl 0)

abbrev gen (c : Dev nD) : sProp 𝕄 := iprop(∃ r, prngReg c r)

def R1 : RegionSeg (pcfgs (F := F)) adm (pdats m) () defs₀ 𝒱₀ L lv 1 :=
  RegionSeg.ofHeldIn (pcfgs (F := F)) adm (pdats m) () defs₀ 𝒱₀ L lv 1 (fun _ => 0) (Pipeline.ucRefs τ sig) gen gen launch1.toP rfl
    (fun c => (K1.obligation (vals (W1 m)) c).loose) (fun _ _ => rfl) (fun _ => rfl)
    (fun c w => show (K1.dat (vals (W1 m)) c).share w = fullShare by unfold Dat.share; exact ite_self _)
    (fun _ => .rfl) (fun _ => .rfl) (fun _ => 0) (cut 1) (fun _ => iprop(emp)) (W1 m) (fun _ _ => rfl)
theorem sub1 : Pipeline.arrRefs (pcfgs (F := F) 1).spec ⊆ Pipeline.ucRefs τ sig := Pipeline.arrRefs_sub_ucRefs _ winFacts1.arr_unscoped

def R2 : RegionSeg (pcfgs (F := F)) adm (pdats m) () defs₀ 𝒱₀ L lv 2 :=
  RegionSeg.ofHeldIn (pcfgs (F := F)) adm (pdats m) () defs₀ 𝒱₀ L lv 2 (fun _ => 0) (Pipeline.ucRefs τ sig) gen gen launch2.toP rfl
    (fun c => (K2.obligation (vals (W2 m)) c).loose) (fun _ _ => rfl) (fun _ => rfl)
    (fun c w => show (K2.dat (vals (W2 m)) c).share w = fullShare by unfold Dat.share; exact ite_self _)
    (fun _ => .rfl) (fun _ => .rfl) (fun _ => 0) (cut 2) (fun _ => iprop(emp)) (W2 m) (fun _ _ => rfl)
theorem sub2 : Pipeline.arrRefs (pcfgs (F := F) 2).spec ⊆ Pipeline.ucRefs τ sig := Pipeline.arrRefs_sub_ucRefs _ winFacts2.arr_unscoped

def R3 : RegionSeg (pcfgs (F := F)) adm (pdats m) () defs₀ 𝒱₀ L lv 3 :=
  RegionSeg.ofHeldIn (pcfgs (F := F)) adm (pdats m) () defs₀ 𝒱₀ L lv 3 (fun _ => 0) (Pipeline.ucRefs τ sig) gen gen launch3.toP rfl
    (fun c => (K3.obligation (vals (W3 m)) c).loose) (fun _ _ => rfl) (fun _ => rfl)
    (fun c w => show (K3.dat (vals (W3 m)) c).share w = fullShare by unfold Dat.share; exact ite_self _)
    (fun _ => .rfl) (fun _ => .rfl) (fun _ => 0) (cut 3) (fun _ => iprop(emp)) (W3 m) (fun _ _ => rfl)
theorem sub3 : Pipeline.arrRefs (pcfgs (F := F) 3).spec ⊆ Pipeline.ucRefs τ sig := Pipeline.arrRefs_sub_ucRefs _ winFacts3.arr_unscoped

def R4 : RegionSeg (pcfgs (F := F)) adm (pdats m) () defs₀ 𝒱₀ L lv 4 :=
  RegionSeg.ofHeldIn (pcfgs (F := F)) adm (pdats m) () defs₀ 𝒱₀ L lv 4 (fun _ => 0) (Pipeline.ucRefs τ sig) gen gen launch4.toP rfl
    (fun c => (K4.obligation (vals (W4 m)) c).loose) (fun _ _ => rfl) (fun _ => rfl)
    (fun c w => show (K4.dat (vals (W4 m)) c).share w = fullShare by unfold Dat.share; exact ite_self _)
    (fun _ => .rfl) (fun _ => .rfl) (fun _ => 0) (cut 4) (fun _ => iprop(emp)) (W4 m) (fun _ _ => rfl)
theorem sub4 : Pipeline.arrRefs (pcfgs (F := F) 4).spec ⊆ Pipeline.ucRefs τ sig := Pipeline.arrRefs_sub_ucRefs _ winFacts4.arr_unscoped

/-- The state between two kernels. -/
def between (W : (c : Dev nD) → Valuation τ sig (Elt F)) (c : Dev nD) : sProp 𝕄 :=
  iprop(StableHlo.held (c : Thread nD τ) (Pipeline.ucRefs τ sig) (W c) ∗ (∃ Wd, owes (c : Thread nD τ) 0 Wd) ∗ gen c ∗ emp)

theorem pre1 (c : Dev nD) : between (W1 m) c ⊢ (R1 m).pre c := by
  unfold R1
  refine (?_ : between (W1 m) c ⊢ _).trans (RegionSeg.ofHeldIn_pre sub1 c)
  exact .rfl
theorem post1 (c : Dev nD) : (R1 m).post c ⊢ between (W2 m) c := RegionSeg.ofHeldIn_post sub1 c
theorem pre2 (c : Dev nD) : between (W2 m) c ⊢ (R2 m).pre c := by
  unfold R2
  refine (?_ : between (W2 m) c ⊢ _).trans (RegionSeg.ofHeldIn_pre sub2 c)
  exact .rfl
theorem post2 (c : Dev nD) : (R2 m).post c ⊢ between (W3 m) c := RegionSeg.ofHeldIn_post sub2 c
theorem pre3 (c : Dev nD) : between (W3 m) c ⊢ (R3 m).pre c := by
  unfold R3
  refine (?_ : between (W3 m) c ⊢ _).trans (RegionSeg.ofHeldIn_pre sub3 c)
  exact .rfl
theorem post3 (c : Dev nD) : (R3 m).post c ⊢ between (W4 m) c := RegionSeg.ofHeldIn_post sub3 c
theorem pre4 (c : Dev nD) : between (W4 m) c ⊢ (R4 m).pre c := by
  unfold R4
  refine (?_ : between (W4 m) c ⊢ _).trans (RegionSeg.ofHeldIn_pre sub4 c)
  exact .rfl
theorem post4 (c : Dev nD) : (R4 m).post c ⊢ between (W5 m) c := RegionSeg.ofHeldIn_post sub4 c

abbrev tail : List (Seg (pcfgs (F := F)) adm (pdats m) () defs₀ 𝒱₀ L lv) := [.region (R1 m), .region (R2 m), .region (R3 m), .region (R4 m)]

theorem tail_chains : Seg.Chains (between (W1 m)) (tail m) (between (W5 m)) :=
  ⟨pre1 m, fun c => (post1 m c).trans (pre2 m c), fun c => (post2 m c).trans (pre3 m c), fun c => (post3 m c).trans (pre4 m c), post4 m⟩

end Cert.Exchange
-- ==== Proof.Run.lean ====
module

public import proofs.«01_k».proof.Proof.Regs

/-! The run of the whole program on all devices, over any float values: it ends, every counter is zero, and the memory of
    every device is the last of the valuations of Regs.lean. -/

@[expose] public section
noncomputable section

namespace Cert.Exchange

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev admD : Dev nD → (p : Fin 5) → (pcfgs (F := F) p).Adm := fun _ => adm

theorem cells_inj : Function.Injective (PerCore.cellOf (nD := nD) (τ := τ) (pinD (pcfgs (F := F)) admD)) := cellOf_inj

theorem own_facts : OwnSemFacts cfg0.spec osem := by decide

instance lands : (EP (F := F)).LandsIn (upEmb : UEmb _ 𝕄) := by unfold EP; infer_instance

theorem rest_run (c : Dev nD) {Q : PUnit → sProp 𝕄} :
    iprop((iprop(boundary (c.tc : Thread nD τ) ∗ between (W5 m) c) -∗ Q ⟨⟩)
      ∗ boundary (c.tc : Thread nD τ) ∗ between (W1 m) c ∗ levAts L lv ∗ PerCore.ghostOn (pcfgs (F := F)) admD EP (Finset.univ.erase 0) c)
    ⊢ wp frame (wpE (Pipeline.defs (pcfgs (F := F)) (defs₀ (F := F))) (Variants.lift 𝒱₀) (c.tc : Thread nD τ) none) Set.univ
        (Pipeline.chain [Prog.lift (.customCall (Pipeline.entry 1) ()), Prog.lift (.customCall (Pipeline.entry 2) ()),
          Prog.lift (.customCall (Pipeline.entry 3) ()), Prog.lift (.customCall (Pipeline.entry 4) ())]) Q := by
  have h := Pipeline.wp_segs (pcfgs (F := F)) adm (pdats m) () (cells_inj (F := F)) EP defs₀ 𝒱₀ L lv c (Q := Q) (tail m) (Finset.univ.erase 0)
    (between (W1 m)) (between (W5 m)) (by simp only [Seg.pipes_region, Seg.pipes_nil]; decide) (by simp only [Seg.pipes_region, Seg.pipes_nil]; decide) (tail_chains m)
  rewrite [Seg.run_eq_chain, show (tail m).map Seg.prog = [Prog.lift (.customCall (Pipeline.entry 1) ()), Prog.lift (.customCall (Pipeline.entry 2) ()),
          Prog.lift (.customCall (Pipeline.entry 3) ()), Prog.lift (.customCall (Pipeline.entry 4) ())] from rfl] at h
  exact h

def Tn (c : Dev nD) : sProp 𝕄 := StableHlo.held (c : Thread nD τ) (Pipeline.ucRefs τ sig) (W5 m c)

theorem ends (c : Dev nD) : iprop(boundary (c.tc : Thread nD τ) ∗ between (W5 m) c)
    ⊢ (iprop((Tn m c ∗ boundary (c.tc : Thread nD τ)) ∗ ∃ W, owes (c.tc : Thread nD τ) (0 : CellTallies nD τ sig Unit) W) : sProp 𝕄) := by
  unfold between Tn
  iintro ⟨Hb, Hh, Ho, -, -⟩
  isplitr [Ho]
  · isplitl [Hh] <;> iassumption
  iexact Ho

theorem hrun (c : Dev nD) :
    iprop(homeShare (pcfgs (F := F)) admD (cells_inj (F := F)) 0 own_facts c ∗ T₀ m c ∗ levAts L lv ∗ PerCore.ghostOn (pcfgs (F := F)) admD EP Finset.univ c)
      ⊢ wp frame (wpE (Pipeline.defs (pcfgs (F := F)) (defs₀ (F := F))) (Variants.lift 𝒱₀) (c.tc : Thread nD τ) none) Set.univ (main c)
          fun _ => iprop((Tn m c ∗ boundary (c.tc : Thread nD τ)) ∗ ∃ W, owes (c.tc : Thread nD τ) (0 : CellTallies nD τ sig Unit) W) := by
  have hss : (scopedSems0 (c.tc : Thread nD τ) : sProp 𝕄)
      = iprop((PerCore.cellsSems0 (pinD (pcfgs (F := F)) admD) 0 c ∗ ownSems0 osem c) ∗ PerCore.idleSems0 (pinD (pcfgs (F := F)) admD) (cells_inj (F := F)) 0 (fun _ : Dev nD => own_facts) c) :=
    PerCore.scopedSems0_split (pinD (pcfgs (F := F)) admD) (cells_inj (F := F)) 0 (fun _ => winFacts0.to₀) (fun _ : Dev nD => own_facts) c
  have hsb : (scopedBufs (c.tc : Thread nD τ) : sProp 𝕄) = iprop(Dat.staging (pinD (pcfgs (F := F)) admD c 0) c ∗ Pipeline.scopedRest (pinD (pcfgs (F := F)) admD c 0).spec c) :=
    PerCore.scopedBufs_split (pinD (pcfgs (F := F)) admD) 0 c winFacts0.stage_scoped winFacts0.stage_inj stage_whole0
  have hT : T₀ m c ⊢ (iprop(enterX m c ∗ owes (c : Thread nD τ) (O c 0) ∅ ∗ aside m c) : sProp 𝕄) := by
    unfold T₀ enterX SS
    iintro ⟨%K, HR, HL, ⟨HS, Ho⟩, Hc, Hp, Ha⟩
    isplitr [Ho Ha]
    · iexists K
      isplitl [HR]; · iexact HR
      isplitl [HL]; · iexact HL
      isplitl [HS]; · iexact HS
      isplitl [Hc] <;> iassumption
    isplitl [Ho] <;> iassumption
  have hin : iprop(enterX m c ∗ prefHeld (pcfgs (F := F) 0).pre c (fun _ => fullShare) (admD (F := F) c 0).1 ∗ Pipeline.scopedRest (pinD (pcfgs (F := F)) admD c 0).spec c) ⊢ (pdats m 0 c).Φ 0 := by
    have e : (pdats m 0 c).Φ 0 = iprop(Pipeline.scopedRest (Ix := Unit) (Name := ℕ) (U := UU) (Lvl := ℕ) (Val := Elt F) cfg0.spec c ∗ enterX m c) := rfl
    rw [e]
    iintro ⟨HX, -, HR⟩
    isplitl [HR]; · iexact HR
    iexact HX
  have hout : iprop((pdats m 0 c).Φ (Fin.last (pinD (pcfgs (F := F)) admD c 0).N) ∗ PerCore.cellsSems0 (pinD (pcfgs (F := F)) admD) 0 c
        ∗ Dat.staging (pinD (pcfgs (F := F)) admD c 0) c ∗ PerCore.idleSems0 (pinD (pcfgs (F := F)) admD) (cells_inj (F := F)) 0 (fun _ : Dev nD => own_facts) c)
      ⊢ iprop(arrived m c ∗ scopedSems0 (c.tc : Thread nD τ) ∗ scopedBufs (c.tc : Thread nD τ)) := by
    have e : (pdats m 0 c).Φ (Fin.last (pinD (pcfgs (F := F)) admD c 0).N)
        = iprop(Pipeline.scopedRest (Ix := Unit) (Name := ℕ) (U := UU) (Lvl := ℕ) (Val := Elt F) cfg0.spec c ∗ leaveX m c) := rfl
    have hl : leaveX m c ⊢ iprop(ownSems0 osem c ∗ arrived m c) := by
      unfold leaveX ownSems0 arrived
      exact (two_end (waitPre c) (waitPost m c)).trans (waits_join m c)
    rw [e, hss, hsb]
    iintro ⟨⟨Hr, Hx⟩, Hcs, Hst, Hid⟩
    ihave Hx' := hl $$ Hx
    icases Hx' with ⟨Hos, Ha⟩
    isplitl [Ha]; · iexact Ha
    isplitl [Hcs Hos Hid]
    · isplitl [Hcs Hos]
      · isplitl [Hcs] <;> iassumption
      iexact Hid
    isplitl [Hst] <;> iassumption
  have hw : (levAts L lv : sProp 𝕄) ⊢ PerCore.cellsWaits (pinD (pcfgs (F := F)) admD) (pdats m) () 0 c :=
    PerCore.cellsWaits_intro (pinD (pcfgs (F := F)) admD) (pdats m) () 0 c fun w => w.elim0
  have hA : (emp : sProp 𝕄) ⊢ (pdats m 0 c).arrays ((pdats m 0 c).arrAt · 0) := by
    unfold Dat.arrays
    have e : (Finset.univ : Finset (Fin (cfgs 0).W)) = ∅ := Finset.univ_eq_empty (α := Fin 0)
    rw [e, BI.bigSep_empty]
    exact .rfl
  have hpf : (emp : sProp 𝕄) ⊢ prefHeld (pcfgs (F := F) 0).pre c (fun _ => fullShare) (admD (F := F) c 0).1 :=
    Entails.of_eq (prefHeld_of_none _ rfl c _ _).symm
  have hO : (owes (c : Thread nD τ) (O c 0) ∅ : sProp 𝕄) ⊢ (pdats m 0 c).owesAt () 0 := by
    have e : (pdats m 0 c).owesAt () 0 = (iprop(∃ W : Finset (SemLoc sig × Unit), ⌜(↑W : Set (SemLoc sig × Unit)) ⊆ ∅ ∪ cfg0.waitPairs ()⌝ ∗ owes (c : Thread nD τ) (O c 0) W) : sProp 𝕄) := rfl
    rw [e]
    iintro Ho
    iexists ∅
    isplitr; · ipureintro; rw [Finset.coe_empty]; exact Set.empty_subset _
    iexact Ho
  have hO' : (pdats m 0 c).owesAt () (Fin.last (pinD (pcfgs (F := F)) admD c 0).N) ⊢ (iprop(∃ W, owes (c : Thread nD τ) 0 W) : sProp 𝕄) := by
    have e : (pdats m 0 c).owesAt () (Fin.last (pinD (pcfgs (F := F)) admD c 0).N) = (iprop(∃ W : Finset (SemLoc sig × Unit), ⌜(↑W : Set (SemLoc sig × Unit)) ⊆ Set.univ ∪ cfg0.waitPairs ()⌝ ∗ owes (c : Thread nD τ) 0 W) : sProp 𝕄) := rfl
    rw [e]
    iintro ⟨%W, -, Ho⟩
    iexists W; iexact Ho
  rw [main_chain c, Pipeline.chain_cons, wp_bind]
  have hg : (PerCore.ghostOn (pcfgs (F := F)) admD EP Finset.univ c : sProp 𝕄)
      ⊢ iprop((PerCore.cellsGhost (pinD (pcfgs (F := F)) admD) EP 0 c ∗ PerCore.toksInit (pinD (pcfgs (F := F)) admD) EP 0 c)
          ∗ PerCore.ghostOn (pcfgs (F := F)) admD EP (Finset.univ.erase 0) c) :=
    Entails.of_eq (PerCore.ghostOn_erase (pcfgs (F := F)) admD EP (Finset.mem_univ 0) c)
  unfold homeShare
  iintro ⟨⟨Hsc, Hcells, Hidle, Hidl⟩, HT, #Hla, HG⟩
  ihave HT' := hT $$ HT
  icases HT' with ⟨HX, HO, HZ⟩
  ihave HG' := hg $$ HG
  icases HG' with ⟨⟨Hg, Ht⟩, Hrest⟩
  ihave Hw := hw $$ Hla
  iapply (fupd_wp frame (wpE (Pipeline.defs (pcfgs (F := F)) (defs₀ (F := F))) (Variants.lift 𝒱₀) (c.tc : Thread nD τ) none) Set.univ _ _)
  imod (PerCore.cellsInit_alloc (pinD (pcfgs (F := F)) admD) (pdats m) EP (cells_inj (F := F)) 0 c) $$ [Hcells Hg] with ⟨%κ, -, Hinit⟩
  · isplitl [Hcells] <;> iassumption
  imodintro
  iapply (PerCore.wp_customCall_entry_frame (pcfgs (F := F)) admD (pdats m) () EP κ (cells_inj (F := F)) 0 defs₀ 𝒱₀ (fun _ => fullShare) c Set.univ (fun _ _ => Set.mem_univ _)
      (ex_obligation m c).loose (fun w => w.elim0) none (fun u h => nomatch h) (X := enterX m c) (Y := arrived m c)
      (R := Pipeline.scopedRest (pinD (pcfgs (F := F)) admD c 0).spec c) (I := PerCore.idleSems0 (pinD (pcfgs (F := F)) admD) (cells_inj (F := F)) 0 (fun _ : Dev nD => own_facts) c)
      (Entails.of_eq hsb) hin hout (k := fun r => .ret r)) $$ [HO Hinit Ht HX Hidle Hsc Hw]
  · isplitl [HO Hinit Ht Hw]
    · unfold PerCore.EntryPre
      isplitr; · iapply hA; iempintro
      isplitl [HO]; · iapply hO; iexact HO
      isplitl [Hw]; · iexact Hw
      isplitl [Hinit] <;> iassumption
    isplitr; · iapply hpf; iempintro
    isplitl [HX]; · iexact HX
    isplitl [Hidle]; · iexact Hidle
    iexact Hsc
  iintro ⟨Hpost, HY, Hss2, Hsc2⟩
  unfold PerCore.EntryPost
  icases Hpost with ⟨-, HO⟩
  ihave HO' := hO' $$ HO
  ihave Hb2 := (show iprop(scopedBufs (c.tc : Thread nD τ) ∗ scopedSems0 (c.tc : Thread nD τ) ∗ opIdle (c.tc : Thread nD τ))
      ⊢ boundary (c.tc : Thread nD τ) from BI.Entails.refl _) $$ [Hsc2 Hss2 Hidl]
  · isplitl [Hsc2]; · iexact Hsc2
    isplitl [Hss2]; · iexact Hss2
    iexact Hidl
  ihave Hs := (settle m c) $$ [HY HZ]
  · isplitl [HY] <;> iassumption
  icases Hs with ⟨Hh, Hgen⟩
  rw [wp_ret]
  imodintro
  iapply (rest_run m c)
  isplitr [Hb2 Hh HO' Hgen Hrest]
  · iintro H
    iapply (ends m c); iexact H
  isplitl [Hb2]; · iexact Hb2
  isplitl [Hh HO' Hgen]
  · unfold between
    isplitl [Hh]; · iexact Hh
    isplitl [HO']; · iexact HO'
    isplitl [Hgen]; · iexact Hgen
    iempintro
  isplitr; · iexact Hla
  iexact Hrest

/-- Device `c`'s memory is the last valuation. -/
def Done (c : Dev nD) (s : MemSt nD τ sig (Elt F)) : Prop :=
  ∀ b : Ref sig .tc, b.isScoped = false → s.mem ((c : Thread nD τ).loc b) = W5 m c (Proc.devRef .tc b)

theorem run_main (ρ : Dev nD → PrngReg) :
    θ_run (defs (F := F)) (onTc (τ := τ) (main (F := F))) ⟨m, fun _ => 0, ρ⟩ (fun r => (∀ c : Dev nD, Done m c r.2) ∧ r.2.sem = fun _ => 0) := by
  refine launch (pcfgs (F := F)) admD (cells_inj (F := F)) 0 winFacts0.to₀ own_facts EP defs₀ 𝒱₀ L lv m ρ main O₀ L_of_ne (G m) u₀ (hu₀ m) (T₀ m) (Tn m)
    (deal m ρ _) (hrun m) (Done m) (fun c s' => ?_) fun s h hz => ⟨h, funext fun g => hz g (.inr (regions_no_unscoped g.2))⟩
  unfold Tn StableHlo.held
  iintro ⟨Hh, HSI⟩
  ihave Hr := (pointsTo_read_all (Pipeline.ucRefs τ sig) (fun b => ((c : Thread nD τ).1, b)) (W5 m c) s') $$ [Hh HSI]
  · isplitl [Hh] <;> iassumption
  icases Hr with ⟨%h, HSI⟩
  imodintro
  isplitr
  · ipureintro
    exact fun b hb => h (Proc.devRef .tc b) (Finset.mem_filter.mpr ⟨StableHlo.devRef_mem_tcRefs b, fun h' => Bool.false_ne_true (hb.symm.trans h')⟩)
  · iexact HSI

end Cert.Exchange
-- ==== Proof.Out1.lean ====
module

public import proofs.«01_k».proof.Proof.Adam1
public import Idealize.ShloMosaic.Lib.Pipeline.ValueKit.Geometry

@[expose] public section
noncomputable section

namespace Cert.Exchange.K1

open Cert.KernelIdeal Cert.KernelIdeal.Gen Cert.Exchange
open Idealize.ShloMosaic Idealize.ShloMosaic.TcCoe
open Idealize.SL Idealize.SL.RA Idealize.SL.BI
open Idealize.ShloMosaic.Pipeline (Dat Cfg Window BodyObligation cellOf)

variable {F : FTy → Type} [FloatOps F]
variable (V : (c : Dev nD) → (b : Ref sig .tc) → Buf (Elt F) ((c : Thread nD τ).loc b))

/-! What the step leaves in its four result arrays, as whole arrays: every point of the grid writes its
    block, the blocks cover the arrays, and all windows move alike. -/

theorem index_head (t : Fin cfg1.N) : win1_0.index t 0 = 0 := by revert t; decide
theorem index_tail (t : Fin cfg1.N) (b : Fin 2) : win1_0.index t b.succ = win1_4.index t b := by revert t b; decide

/-- The stack's block at a point, at slice `k`: the array's slice `k` at the place the same point's other blocks have. -/
theorem place (t : Fin cfg1.N) (k : Fin 8) (y : (⟨2, ![128, 1152]⟩ : Shape).Idx) :
    ((cfg1.win 0).blk t).view.emb (show (⟨3, ![8, 128, 1152]⟩ : Shape).Idx from Fin.cons k y)
      = (show (⟨3, ![8, 1024, 1152]⟩ : Shape).Idx from Fin.cons k (((cfg1.win 4).blk t).view.emb y)) := by
  funext a
  refine Fin.ext ((win1_0.rect_emb_val t _ a).trans ?_)
  refine Fin.cases ?_ (fun b => ?_) a
  · rw [index_head]
    show 0 * 8 + k.val = k.val; omega
  · refine Eq.trans ?_ (win1_4.rect_emb_val t y b).symm
    rw [index_tail]
    match b with
    | 0 => rfl
    | 1 => rfl

/-- The gradient of a point's block of the stack, at an index: that of the whole stack, where the block lies. -/
theorem grad_at (c : Dev nD) (t : Fin cfg1.N) (y : (⟨2, ![128, 1152]⟩ : Shape).Idx) :
    gradV (iblk V c 0 t) y = gradV (V c main_v1_0) (((cfg1.win 4).blk t).view.emb y) := by
  unfold gradV
  refine congrArg sum8 (funext fun k => ?_)
  exact congrArg (V c main_v1_0) (place t k y)

theorem in_1 (c : Dev nD) (t : Fin cfg1.N) (y : (⟨2, ![128, 1152]⟩ : Shape).Idx) :
    iblk V c 1 t y = V c main_arg4 (((cfg1.win 4).blk t).view.emb y) := rfl
theorem in_2 (c : Dev nD) (t : Fin cfg1.N) (y : (⟨2, ![128, 1152]⟩ : Shape).Idx) :
    iblk V c 2 t y = V c main_arg8 (((cfg1.win 4).blk t).view.emb y) := rfl
theorem in_3 (c : Dev nD) (t : Fin cfg1.N) (y : (⟨2, ![128, 1152]⟩ : Shape).Idx) :
    iblk V c 3 t y = V c main_arg12 (((cfg1.win 4).blk t).view.emb y) := rfl

theorem covers_4 : win1_4.Covers := by decide +kernel
theorem covers_5 : win1_5.Covers := by decide +kernel
theorem covers_6 : win1_6.Covers := by decide +kernel
theorem covers_7 : win1_7.Covers := by decide +kernel

theorem out_4 (c : Dev nD) : (dat V c).arrAt 4 cfg1.N = gradV (V c main_v1_0) := by
  refine (dat V c).arrAt_eq_of_covers 4 _ covers_4 fun t _ y => ?_
  rw [after_4]
  exact grad_at V c t y

theorem out_5 (c : Dev nD) : (dat V c).arrAt 5 cfg1.N = stepV (V c main_v1_0) (V c main_arg4) (V c main_arg8) (V c main_arg12) := by
  refine (dat V c).arrAt_eq_of_covers 5 _ covers_5 fun t _ y => ?_
  rw [after_5]
  show stp (gradV (iblk V c 0 t) y) (iblk V c 1 t y) (iblk V c 2 t y) (iblk V c 3 t y) = _
  rw [grad_at, in_1, in_2, in_3]
  rfl

theorem out_6 (c : Dev nD) : (dat V c).arrAt 6 cfg1.N = momV (V c main_v1_0) (V c main_arg8) := by
  refine (dat V c).arrAt_eq_of_covers 6 _ covers_6 fun t _ y => ?_
  rw [after_6]
  show mom (gradV (iblk V c 0 t) y) (iblk V c 2 t y) = _
  rw [grad_at, in_2]
  rfl

theorem out_7 (c : Dev nD) : (dat V c).arrAt 7 cfg1.N = secV (V c main_v1_0) (V c main_arg12) := by
  refine (dat V c).arrAt_eq_of_covers 7 _ covers_7 fun t _ y => ?_
  rw [after_7]
  show sec (gradV (iblk V c 0 t) y) (iblk V c 3 t y) = _
  rw [grad_at, in_3]
  rfl

end Cert.Exchange.K1
-- ==== Proof.Out2.lean ====
module

public import proofs.«01_k».proof.Proof.Adam2
public import Idealize.ShloMosaic.Lib.Pipeline.ValueKit.Geometry

@[expose] public section
noncomputable section

namespace Cert.Exchange.K2

open Cert.KernelIdeal Cert.KernelIdeal.Gen Cert.Exchange
open Idealize.ShloMosaic Idealize.ShloMosaic.TcCoe
open Idealize.SL Idealize.SL.RA Idealize.SL.BI
open Idealize.ShloMosaic.Pipeline (Dat Cfg Window BodyObligation cellOf)

variable {F : FTy → Type} [FloatOps F]
variable (V : (c : Dev nD) → (b : Ref sig .tc) → Buf (Elt F) ((c : Thread nD τ).loc b))

/-! What the step leaves in its four result arrays, as whole arrays: every point of the grid writes its
    block, the blocks cover the arrays, and all windows move alike. -/

theorem index_head (t : Fin cfg2.N) : win2_0.index t 0 = 0 := by revert t; decide
theorem index_tail (t : Fin cfg2.N) (b : Fin 2) : win2_0.index t b.succ = win2_4.index t b := by revert t b; decide

/-- The stack's block at a point, at slice `k`: the array's slice `k` at the place the same point's other blocks have. -/
theorem place (t : Fin cfg2.N) (k : Fin 8) (y : (⟨2, ![128, 1024]⟩ : Shape).Idx) :
    ((cfg2.win 0).blk t).view.emb (show (⟨3, ![8, 128, 1024]⟩ : Shape).Idx from Fin.cons k y)
      = (show (⟨3, ![8, 128, 1024]⟩ : Shape).Idx from Fin.cons k (((cfg2.win 4).blk t).view.emb y)) := by
  funext a
  refine Fin.ext ((win2_0.rect_emb_val t _ a).trans ?_)
  refine Fin.cases ?_ (fun b => ?_) a
  · rw [index_head]
    show 0 * 8 + k.val = k.val; omega
  · refine Eq.trans ?_ (win2_4.rect_emb_val t y b).symm
    rw [index_tail]
    match b with
    | 0 => rfl
    | 1 => rfl

/-- The gradient of a point's block of the stack, at an index: that of the whole stack, where the block lies. -/
theorem grad_at (c : Dev nD) (t : Fin cfg2.N) (y : (⟨2, ![128, 1024]⟩ : Shape).Idx) :
    gradV (iblk V c 0 t) y = gradV (V c main_v1_1) (((cfg2.win 4).blk t).view.emb y) := by
  unfold gradV
  refine congrArg sum8 (funext fun k => ?_)
  exact congrArg (V c main_v1_1) (place t k y)

theorem in_1 (c : Dev nD) (t : Fin cfg2.N) (y : (⟨2, ![128, 1024]⟩ : Shape).Idx) :
    iblk V c 1 t y = V c main_arg5 (((cfg2.win 4).blk t).view.emb y) := rfl
theorem in_2 (c : Dev nD) (t : Fin cfg2.N) (y : (⟨2, ![128, 1024]⟩ : Shape).Idx) :
    iblk V c 2 t y = V c main_arg9 (((cfg2.win 4).blk t).view.emb y) := rfl
theorem in_3 (c : Dev nD) (t : Fin cfg2.N) (y : (⟨2, ![128, 1024]⟩ : Shape).Idx) :
    iblk V c 3 t y = V c main_arg13 (((cfg2.win 4).blk t).view.emb y) := rfl

theorem covers_4 : win2_4.Covers := by decide +kernel
theorem covers_5 : win2_5.Covers := by decide +kernel
theorem covers_6 : win2_6.Covers := by decide +kernel
theorem covers_7 : win2_7.Covers := by decide +kernel

theorem out_4 (c : Dev nD) : (dat V c).arrAt 4 cfg2.N = gradV (V c main_v1_1) := by
  refine (dat V c).arrAt_eq_of_covers 4 _ covers_4 fun t _ y => ?_
  rw [after_4]
  exact grad_at V c t y

theorem out_5 (c : Dev nD) : (dat V c).arrAt 5 cfg2.N = stepV (V c main_v1_1) (V c main_arg5) (V c main_arg9) (V c main_arg13) := by
  refine (dat V c).arrAt_eq_of_covers 5 _ covers_5 fun t _ y => ?_
  rw [after_5]
  show stp (gradV (iblk V c 0 t) y) (iblk V c 1 t y) (iblk V c 2 t y) (iblk V c 3 t y) = _
  rw [grad_at, in_1, in_2, in_3]
  rfl

theorem out_6 (c : Dev nD) : (dat V c).arrAt 6 cfg2.N = momV (V c main_v1_1) (V c main_arg9) := by
  refine (dat V c).arrAt_eq_of_covers 6 _ covers_6 fun t _ y => ?_
  rw [after_6]
  show mom (gradV (iblk V c 0 t) y) (iblk V c 2 t y) = _
  rw [grad_at, in_2]
  rfl

theorem out_7 (c : Dev nD) : (dat V c).arrAt 7 cfg2.N = secV (V c main_v1_1) (V c main_arg13) := by
  refine (dat V c).arrAt_eq_of_covers 7 _ covers_7 fun t _ y => ?_
  rw [after_7]
  show sec (gradV (iblk V c 0 t) y) (iblk V c 3 t y) = _
  rw [grad_at, in_3]
  rfl

end Cert.Exchange.K2
-- ==== Proof.Out3.lean ====
module

public import proofs.«01_k».proof.Proof.Adam3
public import proofs.«01_k».proof.Proof.Out2

@[expose] public section
noncomputable section

namespace Cert.Exchange.K3

open Cert.KernelIdeal Cert.KernelIdeal.Gen Cert.Exchange
open Idealize.ShloMosaic Idealize.ShloMosaic.TcCoe
open Idealize.SL Idealize.SL.RA Idealize.SL.BI
open Idealize.ShloMosaic.Pipeline (Dat Cfg Window BodyObligation cellOf)

variable {F : FTy → Type} [FloatOps F]
variable (V : (c : Dev nD) → (b : Ref sig .tc) → Buf (Elt F) ((c : Thread nD τ).loc b))

/-! What the step leaves in its four result arrays, as whole arrays: every point of the grid writes its
    block, the blocks cover the arrays, and all windows move alike. -/

/-- The stack's block at a point, at slice `k`: the array's slice `k` at the place the same point's other blocks have. -/
theorem place (t : Fin cfg3.N) (k : Fin 8) (y : (⟨2, ![128, 1024]⟩ : Shape).Idx) :
    ((cfg3.win 0).blk t).view.emb (show (⟨3, ![8, 128, 1024]⟩ : Shape).Idx from Fin.cons k y)
      = (show (⟨3, ![8, 128, 1024]⟩ : Shape).Idx from Fin.cons k (((cfg3.win 4).blk t).view.emb y)) :=
  K2.place t k y

/-- The gradient of a point's block of the stack, at an index: that of the whole stack, where the block lies. -/
theorem grad_at (c : Dev nD) (t : Fin cfg3.N) (y : (⟨2, ![128, 1024]⟩ : Shape).Idx) :
    gradV (iblk V c 0 t) y = gradV (V c main_v1_2) (((cfg3.win 4).blk t).view.emb y) := by
  unfold gradV
  refine congrArg sum8 (funext fun k => ?_)
  exact congrArg (V c main_v1_2) (place t k y)

theorem in_1 (c : Dev nD) (t : Fin cfg3.N) (y : (⟨2, ![128, 1024]⟩ : Shape).Idx) :
    iblk V c 1 t y = V c main_arg6 (((cfg3.win 4).blk t).view.emb y) := rfl
theorem in_2 (c : Dev nD) (t : Fin cfg3.N) (y : (⟨2, ![128, 1024]⟩ : Shape).Idx) :
    iblk V c 2 t y = V c main_arg10 (((cfg3.win 4).blk t).view.emb y) := rfl
theorem in_3 (c : Dev nD) (t : Fin cfg3.N) (y : (⟨2, ![128, 1024]⟩ : Shape).Idx) :
    iblk V c 3 t y = V c main_arg14 (((cfg3.win 4).blk t).view.emb y) := rfl

theorem covers_4 : win3_4.Covers := by decide +kernel
theorem covers_5 : win3_5.Covers := by decide +kernel
theorem covers_6 : win3_6.Covers := by decide +kernel
theorem covers_7 : win3_7.Covers := by decide +kernel

theorem out_4 (c : Dev nD) : (dat V c).arrAt 4 cfg3.N = gradV (V c main_v1_2) := by
  refine (dat V c).arrAt_eq_of_covers 4 _ covers_4 fun t _ y => ?_
  rw [after_4]
  exact grad_at V c t y

theorem out_5 (c : Dev nD) : (dat V c).arrAt 5 cfg3.N = stepV (V c main_v1_2) (V c main_arg6) (V c main_arg10) (V c main_arg14) := by
  refine (dat V c).arrAt_eq_of_covers 5 _ covers_5 fun t _ y => ?_
  rw [after_5]
  show stp (gradV (iblk V c 0 t) y) (iblk V c 1 t y) (iblk V c 2 t y) (iblk V c 3 t y) = _
  rw [grad_at, in_1, in_2, in_3]
  rfl

theorem out_6 (c : Dev nD) : (dat V c).arrAt 6 cfg3.N = momV (V c main_v1_2) (V c main_arg10) := by
  refine (dat V c).arrAt_eq_of_covers 6 _ covers_6 fun t _ y => ?_
  rw [after_6]
  show mom (gradV (iblk V c 0 t) y) (iblk V c 2 t y) = _
  rw [grad_at, in_2]
  rfl

theorem out_7 (c : Dev nD) : (dat V c).arrAt 7 cfg3.N = secV (V c main_v1_2) (V c main_arg14) := by
  refine (dat V c).arrAt_eq_of_covers 7 _ covers_7 fun t _ y => ?_
  rw [after_7]
  show sec (gradV (iblk V c 0 t) y) (iblk V c 3 t y) = _
  rw [grad_at, in_3]
  rfl

end Cert.Exchange.K3
-- ==== Proof.Out4.lean ====
module

public import proofs.«01_k».proof.Proof.Adam4
public import proofs.«01_k».proof.Proof.Out2

@[expose] public section
noncomputable section

namespace Cert.Exchange.K4

open Cert.KernelIdeal Cert.KernelIdeal.Gen Cert.Exchange
open Idealize.ShloMosaic Idealize.ShloMosaic.TcCoe
open Idealize.SL Idealize.SL.RA Idealize.SL.BI
open Idealize.ShloMosaic.Pipeline (Dat Cfg Window BodyObligation cellOf)

variable {F : FTy → Type} [FloatOps F]
variable (V : (c : Dev nD) → (b : Ref sig .tc) → Buf (Elt F) ((c : Thread nD τ).loc b))

/-! What the step leaves in its four result arrays, as whole arrays: every point of the grid writes its
    block, the blocks cover the arrays, and all windows move alike. -/

/-- The stack's block at a point, at slice `k`: the array's slice `k` at the place the same point's other blocks have. -/
theorem place (t : Fin cfg4.N) (k : Fin 8) (y : (⟨2, ![128, 1024]⟩ : Shape).Idx) :
    ((cfg4.win 0).blk t).view.emb (show (⟨3, ![8, 128, 1024]⟩ : Shape).Idx from Fin.cons k y)
      = (show (⟨3, ![8, 128, 1024]⟩ : Shape).Idx from Fin.cons k (((cfg4.win 4).blk t).view.emb y)) :=
  K2.place t k y

/-- The gradient of a point's block of the stack, at an index: that of the whole stack, where the block lies. -/
theorem grad_at (c : Dev nD) (t : Fin cfg4.N) (y : (⟨2, ![128, 1024]⟩ : Shape).Idx) :
    gradV (iblk V c 0 t) y = gradV (V c main_v1_3) (((cfg4.win 4).blk t).view.emb y) := by
  unfold gradV
  refine congrArg sum8 (funext fun k => ?_)
  exact congrArg (V c main_v1_3) (place t k y)

theorem in_1 (c : Dev nD) (t : Fin cfg4.N) (y : (⟨2, ![128, 1024]⟩ : Shape).Idx) :
    iblk V c 1 t y = V c main_arg7 (((cfg4.win 4).blk t).view.emb y) := rfl
theorem in_2 (c : Dev nD) (t : Fin cfg4.N) (y : (⟨2, ![128, 1024]⟩ : Shape).Idx) :
    iblk V c 2 t y = V c main_arg11 (((cfg4.win 4).blk t).view.emb y) := rfl
theorem in_3 (c : Dev nD) (t : Fin cfg4.N) (y : (⟨2, ![128, 1024]⟩ : Shape).Idx) :
    iblk V c 3 t y = V c main_arg15 (((cfg4.win 4).blk t).view.emb y) := rfl

theorem covers_4 : win4_4.Covers := by decide +kernel
theorem covers_5 : win4_5.Covers := by decide +kernel
theorem covers_6 : win4_6.Covers := by decide +kernel
theorem covers_7 : win4_7.Covers := by decide +kernel

theorem out_4 (c : Dev nD) : (dat V c).arrAt 4 cfg4.N = gradV (V c main_v1_3) := by
  refine (dat V c).arrAt_eq_of_covers 4 _ covers_4 fun t _ y => ?_
  rw [after_4]
  exact grad_at V c t y

theorem out_5 (c : Dev nD) : (dat V c).arrAt 5 cfg4.N = stepV (V c main_v1_3) (V c main_arg7) (V c main_arg11) (V c main_arg15) := by
  refine (dat V c).arrAt_eq_of_covers 5 _ covers_5 fun t _ y => ?_
  rw [after_5]
  show stp (gradV (iblk V c 0 t) y) (iblk V c 1 t y) (iblk V c 2 t y) (iblk V c 3 t y) = _
  rw [grad_at, in_1, in_2, in_3]
  rfl

theorem out_6 (c : Dev nD) : (dat V c).arrAt 6 cfg4.N = momV (V c main_v1_3) (V c main_arg11) := by
  refine (dat V c).arrAt_eq_of_covers 6 _ covers_6 fun t _ y => ?_
  rw [after_6]
  show mom (gradV (iblk V c 0 t) y) (iblk V c 2 t y) = _
  rw [grad_at, in_2]
  rfl

theorem out_7 (c : Dev nD) : (dat V c).arrAt 7 cfg4.N = secV (V c main_v1_3) (V c main_arg15) := by
  refine (dat V c).arrAt_eq_of_covers 7 _ covers_7 fun t _ y => ?_
  rw [after_7]
  show sec (gradV (iblk V c 0 t) y) (iblk V c 3 t y) = _
  rw [grad_at, in_3]
  rfl

end Cert.Exchange.K4
-- ==== Proof.Final.lean ====
module

public import proofs.«01_k».proof.Proof.Run
public import proofs.«01_k».proof.Proof.Out1
public import proofs.«01_k».proof.Proof.Out2
public import proofs.«01_k».proof.Proof.Out3
public import proofs.«01_k».proof.Proof.Out4

@[expose] public section
noncomputable section

namespace Cert.Exchange

open Cert.KernelIdeal Cert.KernelIdeal.Gen
open Idealize.ShloMosaic Idealize.ShloMosaic.TcCoe
open Idealize.SL Idealize.SL.RA Idealize.SL.BI Idealize.SL.Sem

variable {F : FTy → Type} [FloatOps F]
variable (m : (ℓ : Loc nD τ sig) → Buf (Elt F) ℓ) (c : Dev nD)

/-! What the arrays hold at the end of the run: the arguments what they held at its start, the results
    functions of the arguments. -/

theorem keep1 (r : Ref sig .tc) (h : ∀ w : Fin cfg1.W, Pipeline.arrRef cfg1.spec w = r → (cfg1.win w).isOut = false) :
    W2 m c (Proc.devRef .tc r) = W1 m c (Proc.devRef .tc r) :=
  Pipeline.afterRegion_keeps (K1.dat (vals (W1 m)) c) (W1 m c) winFacts1.arr_inj (fun _ => rfl) r h
theorem keep2 (r : Ref sig .tc) (h : ∀ w : Fin cfg2.W, Pipeline.arrRef cfg2.spec w = r → (cfg2.win w).isOut = false) :
    W3 m c (Proc.devRef .tc r) = W2 m c (Proc.devRef .tc r) :=
  Pipeline.afterRegion_keeps (K2.dat (vals (W2 m)) c) (W2 m c) winFacts2.arr_inj (fun _ => rfl) r h
theorem keep3 (r : Ref sig .tc) (h : ∀ w : Fin cfg3.W, Pipeline.arrRef cfg3.spec w = r → (cfg3.win w).isOut = false) :
    W4 m c (Proc.devRef .tc r) = W3 m c (Proc.devRef .tc r) :=
  Pipeline.afterRegion_keeps (K3.dat (vals (W3 m)) c) (W3 m c) winFacts3.arr_inj (fun _ => rfl) r h
theorem keep4 (r : Ref sig .tc) (h : ∀ w : Fin cfg4.W, Pipeline.arrRef cfg4.spec w = r → (cfg4.win w).isOut = false) :
    W5 m c (Proc.devRef .tc r) = W4 m c (Proc.devRef .tc r) :=
  Pipeline.afterRegion_keeps (K4.dat (vals (W4 m)) c) (W4 m c) winFacts4.arr_inj (fun _ => rfl) r h

/-- A buffer that neither the exchange nor a step writes. -/
structure Kept (r : Ref sig .tc) : Prop where
  ex : Proc.devRef (τ := τ) .tc r ≠ Proc.devRef .tc main_v1_0 ∧ Proc.devRef (τ := τ) .tc r ≠ Proc.devRef .tc main_v1_1
    ∧ Proc.devRef (τ := τ) .tc r ≠ Proc.devRef .tc main_v1_2 ∧ Proc.devRef (τ := τ) .tc r ≠ Proc.devRef .tc main_v1_3
  s1 : ∀ w : Fin cfg1.W, Pipeline.arrRef cfg1.spec w = r → (cfg1.win w).isOut = false
  s2 : ∀ w : Fin cfg2.W, Pipeline.arrRef cfg2.spec w = r → (cfg2.win w).isOut = false
  s3 : ∀ w : Fin cfg3.W, Pipeline.arrRef cfg3.spec w = r → (cfg3.win w).isOut = false
  s4 : ∀ w : Fin cfg4.W, Pipeline.arrRef cfg4.spec w = r → (cfg4.win w).isOut = false

section Args
variable {r : Ref sig .tc} (h : Kept r)
include h
theorem arg_1 : W1 m c (Proc.devRef .tc r) = m ((c : Thread nD τ).loc r) := W1_of m c _ h.ex.1 h.ex.2.1 h.ex.2.2.1 h.ex.2.2.2
theorem arg_2 : W2 m c (Proc.devRef .tc r) = m ((c : Thread nD τ).loc r) := (keep1 m c r h.s1).trans (arg_1 m c h)
theorem arg_3 : W3 m c (Proc.devRef .tc r) = m ((c : Thread nD τ).loc r) := (keep2 m c r h.s2).trans (arg_2 m c h)
theorem arg_4 : W4 m c (Proc.devRef .tc r) = m ((c : Thread nD τ).loc r) := (keep3 m c r h.s3).trans (arg_3 m c h)
theorem arg_5 : W5 m c (Proc.devRef .tc r) = m ((c : Thread nD τ).loc r) := (keep4 m c r h.s4).trans (arg_4 m c h)
end Args

theorem kept_0 : Kept main_arg0 := ⟨by decide, by decide, by decide, by decide, by decide⟩
theorem kept_1 : Kept main_arg1 := ⟨by decide, by decide, by decide, by decide, by decide⟩
theorem kept_2 : Kept main_arg2 := ⟨by decide, by decide, by decide, by decide, by decide⟩
theorem kept_3 : Kept main_arg3 := ⟨by decide, by decide, by decide, by decide, by decide⟩
theorem kept_4 : Kept main_arg4 := ⟨by decide, by decide, by decide, by decide, by decide⟩
theorem kept_5 : Kept main_arg5 := ⟨by decide, by decide, by decide, by decide, by decide⟩
theorem kept_6 : Kept main_arg6 := ⟨by decide, by decide, by decide, by decide, by decide⟩
theorem kept_7 : Kept main_arg7 := ⟨by decide, by decide, by decide, by decide, by decide⟩
theorem kept_8 : Kept main_arg8 := ⟨by decide, by decide, by decide, by decide, by decide⟩
theorem kept_9 : Kept main_arg9 := ⟨by decide, by decide, by decide, by decide, by decide⟩
theorem kept_10 : Kept main_arg10 := ⟨by decide, by decide, by decide, by decide, by decide⟩
theorem kept_11 : Kept main_arg11 := ⟨by decide, by decide, by decide, by decide, by decide⟩
theorem kept_12 : Kept main_arg12 := ⟨by decide, by decide, by decide, by decide, by decide⟩
theorem kept_13 : Kept main_arg13 := ⟨by decide, by decide, by decide, by decide, by decide⟩
theorem kept_14 : Kept main_arg14 := ⟨by decide, by decide, by decide, by decide, by decide⟩
theorem kept_15 : Kept main_arg15 := ⟨by decide, by decide, by decide, by decide, by decide⟩

/-! The gathered stacks, where each step finds them. -/

theorem stack_0 : W1 m c (Proc.devRef .tc main_v1_0) = res0 m c := W1_0 m c
theorem stack_1 : W2 m c (Proc.devRef .tc main_v1_1) = res1 m c := (keep1 m c _ (by decide)).trans (W1_1 m c)
theorem stack_2 : W3 m c (Proc.devRef .tc main_v1_2) = res2 m c :=
  (keep2 m c _ (by decide)).trans ((keep1 m c _ (by decide)).trans (W1_2 m c))
theorem stack_3 : W4 m c (Proc.devRef .tc main_v1_3) = res3 m c :=
  (keep3 m c _ (by decide)).trans ((keep2 m c _ (by decide)).trans ((keep1 m c _ (by decide)).trans (W1_3 m c)))

/-! The results. -/

theorem end_1_0 : W5 m c (Proc.devRef .tc main_v2_0) = gradV (res0 m c) :=
  (keep4 m c main_v2_0 (by decide)).trans ((keep3 m c main_v2_0 (by decide)).trans ((keep2 m c main_v2_0 (by decide)).trans ((Pipeline.afterRegion_arr (K1.dat (vals (W1 m)) c) (W1 m c) winFacts1.arr_inj 4).trans
    ((K1.out_4 (vals (W1 m)) c).trans (show gradV (W1 m c (Proc.devRef .tc main_v1_0)) = _ by rw [stack_0])))))
theorem end_1_1 : W5 m c (Proc.devRef .tc main_v2_1) = stepV (res0 m c) (m ((c : Thread nD τ).loc main_arg4)) (m ((c : Thread nD τ).loc main_arg8)) (m ((c : Thread nD τ).loc main_arg12)) :=
  (keep4 m c main_v2_1 (by decide)).trans ((keep3 m c main_v2_1 (by decide)).trans ((keep2 m c main_v2_1 (by decide)).trans ((Pipeline.afterRegion_arr (K1.dat (vals (W1 m)) c) (W1 m c) winFacts1.arr_inj 5).trans
    ((K1.out_5 (vals (W1 m)) c).trans (show stepV (W1 m c (Proc.devRef .tc main_v1_0)) (W1 m c (Proc.devRef .tc main_arg4)) (W1 m c (Proc.devRef .tc main_arg8)) (W1 m c (Proc.devRef .tc main_arg12)) = _ by rw [stack_0, arg_1 m c kept_4, arg_1 m c kept_8, arg_1 m c kept_12])))))
theorem end_1_2 : W5 m c (Proc.devRef .tc main_v2_2) = momV (res0 m c) (m ((c : Thread nD τ).loc main_arg8)) :=
  (keep4 m c main_v2_2 (by decide)).trans ((keep3 m c main_v2_2 (by decide)).trans ((keep2 m c main_v2_2 (by decide)).trans ((Pipeline.afterRegion_arr (K1.dat (vals (W1 m)) c) (W1 m c) winFacts1.arr_inj 6).trans
    ((K1.out_6 (vals (W1 m)) c).trans (show momV (W1 m c (Proc.devRef .tc main_v1_0)) (W1 m c (Proc.devRef .tc main_arg8)) = _ by rw [stack_0, arg_1 m c kept_8])))))
theorem end_1_3 : W5 m c (Proc.devRef .tc main_v2_3) = secV (res0 m c) (m ((c : Thread nD τ).loc main_arg12)) :=
  (keep4 m c main_v2_3 (by decide)).trans ((keep3 m c main_v2_3 (by decide)).trans ((keep2 m c main_v2_3 (by decide)).trans ((Pipeline.afterRegion_arr (K1.dat (vals (W1 m)) c) (W1 m c) winFacts1.arr_inj 7).trans
    ((K1.out_7 (vals (W1 m)) c).trans (show secV (W1 m c (Proc.devRef .tc main_v1_0)) (W1 m c (Proc.devRef .tc main_arg12)) = _ by rw [stack_0, arg_1 m c kept_12])))))
theorem end_2_0 : W5 m c (Proc.devRef .tc main_v3_0) = gradV (res1 m c) :=
  (keep4 m c main_v3_0 (by decide)).trans ((keep3 m c main_v3_0 (by decide)).trans ((Pipeline.afterRegion_arr (K2.dat (vals (W2 m)) c) (W2 m c) winFacts2.arr_inj 4).trans
    ((K2.out_4 (vals (W2 m)) c).trans (show gradV (W2 m c (Proc.devRef .tc main_v1_1)) = _ by rw [stack_1]))))
theorem end_2_1 : W5 m c (Proc.devRef .tc main_v3_1) = stepV (res1 m c) (m ((c : Thread nD τ).loc main_arg5)) (m ((c : Thread nD τ).loc main_arg9)) (m ((c : Thread nD τ).loc main_arg13)) :=
  (keep4 m c main_v3_1 (by decide)).trans ((keep3 m c main_v3_1 (by decide)).trans ((Pipeline.afterRegion_arr (K2.dat (vals (W2 m)) c) (W2 m c) winFacts2.arr_inj 5).trans
    ((K2.out_5 (vals (W2 m)) c).trans (show stepV (W2 m c (Proc.devRef .tc main_v1_1)) (W2 m c (Proc.devRef .tc main_arg5)) (W2 m c (Proc.devRef .tc main_arg9)) (W2 m c (Proc.devRef .tc main_arg13)) = _ by rw [stack_1, arg_2 m c kept_5, arg_2 m c kept_9, arg_2 m c kept_13]))))
theorem end_2_2 : W5 m c (Proc.devRef .tc main_v3_2) = momV (res1 m c) (m ((c : Thread nD τ).loc main_arg9)) :=
  (keep4 m c main_v3_2 (by decide)).trans ((keep3 m c main_v3_2 (by decide)).trans ((Pipeline.afterRegion_arr (K2.dat (vals (W2 m)) c) (W2 m c) winFacts2.arr_inj 6).trans
    ((K2.out_6 (vals (W2 m)) c).trans (show momV (W2 m c (Proc.devRef .tc main_v1_1)) (W2 m c (Proc.devRef .tc main_arg9)) = _ by rw [stack_1, arg_2 m c kept_9]))))
theorem end_2_3 : W5 m c (Proc.devRef .tc main_v3_3) = secV (res1 m c) (m ((c : Thread nD τ).loc main_arg13)) :=
  (keep4 m c main_v3_3 (by decide)).trans ((keep3 m c main_v3_3 (by decide)).trans ((Pipeline.afterRegion_arr (K2.dat (vals (W2 m)) c) (W2 m c) winFacts2.arr_inj 7).trans
    ((K2.out_7 (vals (W2 m)) c).trans (show secV (W2 m c (Proc.devRef .tc main_v1_1)) (W2 m c (Proc.devRef .tc main_arg13)) = _ by rw [stack_1, arg_2 m c kept_13]))))
theorem end_3_0 : W5 m c (Proc.devRef .tc main_v4_0) = gradV (res2 m c) :=
  (keep4 m c main_v4_0 (by decide)).trans ((Pipeline.afterRegion_arr (K3.dat (vals (W3 m)) c) (W3 m c) winFacts3.arr_inj 4).trans
    ((K3.out_4 (vals (W3 m)) c).trans (show gradV (W3 m c (Proc.devRef .tc main_v1_2)) = _ by rw [stack_2])))
theorem end_3_1 : W5 m c (Proc.devRef .tc main_v4_1) = stepV (res2 m c) (m ((c : Thread nD τ).loc main_arg6)) (m ((c : Thread nD τ).loc main_arg10)) (m ((c : Thread nD τ).loc main_arg14)) :=
  (keep4 m c main_v4_1 (by decide)).trans ((Pipeline.afterRegion_arr (K3.dat (vals (W3 m)) c) (W3 m c) winFacts3.arr_inj 5).trans
    ((K3.out_5 (vals (W3 m)) c).trans (show stepV (W3 m c (Proc.devRef .tc main_v1_2)) (W3 m c (Proc.devRef .tc main_arg6)) (W3 m c (Proc.devRef .tc main_arg10)) (W3 m c (Proc.devRef .tc main_arg14)) = _ by rw [stack_2, arg_3 m c kept_6, arg_3 m c kept_10, arg_3 m c kept_14])))
theorem end_3_2 : W5 m c (Proc.devRef .tc main_v4_2) = momV (res2 m c) (m ((c : Thread nD τ).loc main_arg10)) :=
  (keep4 m c main_v4_2 (by decide)).trans ((Pipeline.afterRegion_arr (K3.dat (vals (W3 m)) c) (W3 m c) winFacts3.arr_inj 6).trans
    ((K3.out_6 (vals (W3 m)) c).trans (show momV (W3 m c (Proc.devRef .tc main_v1_2)) (W3 m c (Proc.devRef .tc main_arg10)) = _ by rw [stack_2, arg_3 m c kept_10])))
theorem end_3_3 : W5 m c (Proc.devRef .tc main_v4_3) = secV (res2 m c) (m ((c : Thread nD τ).loc main_arg14)) :=
  (keep4 m c main_v4_3 (by decide)).trans ((Pipeline.afterRegion_arr (K3.dat (vals (W3 m)) c) (W3 m c) winFacts3.arr_inj 7).trans
    ((K3.out_7 (vals (W3 m)) c).trans (show secV (W3 m c (Proc.devRef .tc main_v1_2)) (W3 m c (Proc.devRef .tc main_arg14)) = _ by rw [stack_2, arg_3 m c kept_14])))
theorem end_4_0 : W5 m c (Proc.devRef .tc main_v5_0) = gradV (res3 m c) :=
  (Pipeline.afterRegion_arr (K4.dat (vals (W4 m)) c) (W4 m c) winFacts4.arr_inj 4).trans
    ((K4.out_4 (vals (W4 m)) c).trans (show gradV (W4 m c (Proc.devRef .tc main_v1_3)) = _ by rw [stack_3]))
theorem end_4_1 : W5 m c (Proc.devRef .tc main_v5_1) = stepV (res3 m c) (m ((c : Thread nD τ).loc main_arg7)) (m ((c : Thread nD τ).loc main_arg11)) (m ((c : Thread nD τ).loc main_arg15)) :=
  (Pipeline.afterRegion_arr (K4.dat (vals (W4 m)) c) (W4 m c) winFacts4.arr_inj 5).trans
    ((K4.out_5 (vals (W4 m)) c).trans (show stepV (W4 m c (Proc.devRef .tc main_v1_3)) (W4 m c (Proc.devRef .tc main_arg7)) (W4 m c (Proc.devRef .tc main_arg11)) (W4 m c (Proc.devRef .tc main_arg15)) = _ by rw [stack_3, arg_4 m c kept_7, arg_4 m c kept_11, arg_4 m c kept_15]))
theorem end_4_2 : W5 m c (Proc.devRef .tc main_v5_2) = momV (res3 m c) (m ((c : Thread nD τ).loc main_arg11)) :=
  (Pipeline.afterRegion_arr (K4.dat (vals (W4 m)) c) (W4 m c) winFacts4.arr_inj 6).trans
    ((K4.out_6 (vals (W4 m)) c).trans (show momV (W4 m c (Proc.devRef .tc main_v1_3)) (W4 m c (Proc.devRef .tc main_arg11)) = _ by rw [stack_3, arg_4 m c kept_11]))
theorem end_4_3 : W5 m c (Proc.devRef .tc main_v5_3) = secV (res3 m c) (m ((c : Thread nD τ).loc main_arg15)) :=
  (Pipeline.afterRegion_arr (K4.dat (vals (W4 m)) c) (W4 m c) winFacts4.arr_inj 7).trans
    ((K4.out_7 (vals (W4 m)) c).trans (show secV (W4 m c (Proc.devRef .tc main_v1_3)) (W4 m c (Proc.devRef .tc main_arg15)) = _ by rw [stack_3, arg_4 m c kept_15]))
end Cert.Exchange
-- ==== Proof.Target.lean ====
module

public import proofs.«01_k».proof.Proof.Final
public import proofs.«01_k».proof.Proof.Gen.ReferenceIdeal.Run
public import Idealize.ShloMosaic.Lib.Layout
public import Idealize.ShloMosaic.Lib.IdealHost
public import Idealize.ShloMosaic.Lib.Pointwise

@[expose] public section
noncomputable section

namespace Cert.Exchange.Target

open Cert.ReferenceIdeal Cert.ReferenceIdeal.Gen
open Idealize.ShloMosaic Idealize.ShloMosaic.TcCoe Idealize.ShloMosaic.ValueIdx

/-! The reference's arrays, element by element: the sums over the devices that supplied the partial
    gradients, and the optimiser step over them. -/

/-- Eight extended reals added from the first on are their sum, and adding them to nothing changes nothing. -/
theorem sum8_eq (f : Fin 8 → Ideal .f32) : (Scalar.ofBits .f32 0x00000000#32 : Ideal .f32) + ∑ k, f k = sum8 f := by
  have h0 : (Scalar.ofBits .f32 0x00000000#32 : Ideal .f32) = (0 : EReal) := by
    exact Ideal.ofBits_zero .f32
  rw [h0]
  refine (zero_add _).trans ?_
  rw [Fin.sum_univ_eight]
  rfl

/-- The sum over the supplying devices of the wide weight's partial gradients, its blocks laid side by side. -/
def gWide (x : Vec Ideal S64x1024x1152 .f32) : Vec Ideal S1024x9216 .f32 :=
  shapeCast _ (transpose S1024x8x1152 [1, 0, 2] (Host.reduceAdd (F := Ideal) (φ := .f32) (shapeCast _ x shapeCasts_S64x1024x1152_S8x8x1024x1152) (constant S_ .f32 0x00000000#32) reducesTo_S8x8x1024x1152_S8x1024x1152_d0 h_S_) transposes_S8x1024x1152_S1024x8x1152_1_0_2) shapeCasts_S1024x8x1152_S1024x9216

/-- The sum over the supplying devices of a tall weight's partial gradients. -/
def gTall (x : Vec Ideal S64x128x1024 .f32) : Vec Ideal S1024x1024 .f32 :=
  Host.reduceAdd (F := Ideal) (φ := .f32) (shapeCast _ x shapeCasts_S64x128x1024_S8x1024x1024) (constant S_ .f32 0x00000000#32) reducesTo_S8x1024x1024_S1024x1024_d0 h_S_

abbrev wideStack : Layout.Tiles ⟨3, ![8, 1024, 1152]⟩ ⟨3, ![64, 1024, 1152]⟩ 0 8 := by decide
abbrev tallStack : Layout.Tiles ⟨3, ![8, 128, 1024]⟩ ⟨3, ![64, 128, 1024]⟩ 0 8 := by decide
abbrev wideCols : Layout.Tiles ⟨2, ![1024, 1152]⟩ ⟨2, ![1024, 9216]⟩ 1 8 := by decide
abbrev tallRows : Layout.Tiles ⟨2, ![128, 1024]⟩ ⟨2, ![1024, 1024]⟩ 0 8 := by decide

theorem gWide_at (x : Vec Ideal S64x1024x1152 .f32) (c : Fin 8) (i : (⟨2, ![1024, 1152]⟩ : Shape).Idx) :
    gWide x (wideCols.idx c i) = sum8 (F := Ideal) fun k : Fin 8 =>
      x (wideStack.idx k (show (⟨3, ![8, 1024, 1152]⟩ : Shape).Idx from Fin.cons c i)) := by
  have hc := c.isLt
  have h0 : (i 0).val < 1024 := (i 0).isLt
  have h1 : (i 1).val < 1152 := (i 1).isLt
  unfold gWide
  rw [shapeCast_apply _ _ _ (ValueIdx.ix3 (i 0) c (i 1) : S1024x8x1152.Idx) (by
    rw [Shape.rowMajor_val_two, Shape.rowMajor_val_three]
    show ((i 0).val * 8 + c.val) * 1152 + (i 1).val = (i 0).val * 9216 + (c.val * 1152 + (i 1).val)
    omega)]
  rw [transpose_apply _ _ _ _ (ValueIdx.ix3 c (i 0) (i 1) : S8x1024x1152.Idx) (by
    intro b; match b with | 0 => rfl | 1 => rfl | 2 => rfl)]
  rw [hostReduceAdd_apply, Ideal.hostReduceAdd_r4_a0]
  refine Eq.trans ?_ (sum8_eq _)
  refine congrArg (_ + ·) (Finset.sum_congr rfl fun k _ => ?_)
  refine shapeCast_apply _ _ _ _ ?_
  rw [Shape.rowMajor_val_three, Shape.rowMajor_val_four]
  show ((k.val * 8 + c.val) * 1024 + (i 0).val) * 1152 + (i 1).val = ((k.val * 8 + c.val) * 1024 + (i 0).val) * 1152 + (i 1).val
  rfl

theorem gTall_at (x : Vec Ideal S64x128x1024 .f32) (c : Fin 8) (i : (⟨2, ![128, 1024]⟩ : Shape).Idx) :
    gTall x (tallRows.idx c i) = sum8 (F := Ideal) fun k : Fin 8 =>
      x (tallStack.idx k (show (⟨3, ![8, 128, 1024]⟩ : Shape).Idx from Fin.cons c i)) := by
  have hc := c.isLt
  have h0 : (i 0).val < 128 := (i 0).isLt
  have h1 : (i 1).val < 1024 := (i 1).isLt
  unfold gTall
  rw [hostReduceAdd_apply, Ideal.hostReduceAdd_r3_a0]
  refine Eq.trans ?_ (sum8_eq _)
  refine congrArg (_ + ·) (Finset.sum_congr rfl fun k _ => ?_)
  refine shapeCast_apply _ _ _ _ ?_
  rw [Shape.rowMajor_val_three, Shape.rowMajor_val_three]
  show ((k.val * 8 + c.val) * 128 + (i 0).val) * 1024 + (i 1).val = (k.val * 1024 + (c.val * 128 + (i 0).val)) * 1024 + (i 1).val
  omega

section Step
variable {S : Shape} (hb : S_.BroadcastsInDim S ![])

/-- The first moment after the step. -/
def rMom (g m : Vec Ideal S .f32) : Vec Ideal S .f32 :=
  addf (F := Ideal) (φ := .f32) (mulf (broadcastInDim S ![] hb (constant S_ .f32 0x3F666666#32)) m) (mulf (broadcastInDim S ![] hb (constant S_ .f32 0x3DCCCCCD#32)) g)

/-- The second moment after the step. -/
def rSec (g v : Vec Ideal S .f32) : Vec Ideal S .f32 :=
  addf (F := Ideal) (φ := .f32) (mulf (broadcastInDim S ![] hb (constant S_ .f32 0x3F7FBE77#32)) v) (mulf (broadcastInDim S ![] hb (constant S_ .f32 0x3A83126F#32)) (mulf g g))

/-- The change of the weight. -/
def rStep (g w m v : Vec Ideal S .f32) : Vec Ideal S .f32 :=
  mulf (F := Ideal) (φ := .f32) (broadcastInDim S ![] hb (constant S_ .f32 0xBA83126F#32)) (addf (Host.divf (Host.divf (rMom hb g m) (broadcastInDim S ![] hb (constant S_ .f32 0x3F26BD02#32))) (addf (Host.sqrt (Host.divf (rSec hb g v) (broadcastInDim S ![] hb (constant S_ .f32 0x3C231ACC#32)))) (broadcastInDim S ![] hb (constant S_ .f32 0x322BCC77#32)))) (mulf (broadcastInDim S ![] hb (constant S_ .f32 0x3C23D70A#32)) w))

theorem rMom_at (g m : Vec Ideal S .f32) (j : S.Idx) : rMom hb g m j = mom (F := Ideal) (g j) (m j) := rfl
theorem rSec_at (g v : Vec Ideal S .f32) (j : S.Idx) : rSec hb g v j = sec (F := Ideal) (g j) (v j) := rfl
theorem rStep_at (g w m v : Vec Ideal S .f32) (j : S.Idx) : rStep hb g w m v j = stp (F := Ideal) (g j) (w j) (m j) (v j) := rfl
end Step

end Cert.Exchange.Target
-- ==== Proof.Match.lean ====
module

public import proofs.«01_k».proof.Proof.Target

@[expose] public section
noncomputable section

namespace Cert.Exchange

open Cert.KernelIdeal Cert.KernelIdeal.Gen
open Idealize.ShloMosaic Idealize.ShloMosaic.TcCoe
open Target (gWide gTall gWide_at gTall_at rMom rSec rStep rMom_at rSec_at rStep_at)

/-! The devices' results are the blocks of the reference's arrays. -/

section Stack
variable {r k : ℕ}

/-- The gradient of a gathered stack, at an index: each device's own slice for this device, added up. -/
theorem grad_gath (f : Dev nD → (Sh3 r k).Idx → Ideal .f32) (c : Dev nD) (i : (⟨2, ![r, k]⟩ : Shape).Idx) :
    gradV (F := Ideal) (R := r) (C := k) (gathOf f c) i
      = sum8 (F := Ideal) fun d : Fin 8 => f d (show (Sh3 r k).Idx from Fin.cons c i) := by
  unfold gradV
  refine congrArg sum8 (funext fun d => ?_)
  refine congrArg (f d) (funext fun a => ?_)
  refine Fin.cases ?_ (fun b => ?_) a
  · exact Function.update_self (β := fun a => (Sh3 r k).Coord a) 0 c _
  · exact Function.update_of_ne (β := fun a => (Sh3 r k).Coord a) (Fin.succ_ne_zero b) c _
end Stack

section Blocks
variable (m : (ℓ : Loc nD τ sig) → Buf (Elt Ideal) ℓ)

theorem wide (x : Vec Ideal ⟨3, ![64, 1024, 1152]⟩ .f32)
    (hx : ∀ d : Dev nD, m ((d : Thread nD τ).loc main_arg0) = Layout.block ⟨3, ![8, 1024, 1152]⟩ ⟨3, ![64, 1024, 1152]⟩ 0 8 d x) (c : Dev nD)
    (i : (⟨2, ![1024, 1152]⟩ : Shape).Idx) :
    gradV (F := Ideal) (R := 1024) (C := 1152) (res0 m c) i = gWide x (Target.wideCols.idx c i) :=
  (grad_gath (r := 1024) (k := 1152) (fun s => m ((s : Thread nD τ).loc main_arg0)) c i).trans
    ((congrArg (sum8 (F := Ideal)) (funext fun d => congrFun (hx d) (show (Sh3 1024 1152).Idx from Fin.cons c i))).trans (gWide_at x c i).symm)

theorem tall_1 (x : Vec Ideal ⟨3, ![64, 128, 1024]⟩ .f32)
    (hx : ∀ d : Dev nD, m ((d : Thread nD τ).loc main_arg1) = Layout.block ⟨3, ![8, 128, 1024]⟩ ⟨3, ![64, 128, 1024]⟩ 0 8 d x) (c : Dev nD)
    (i : (⟨2, ![128, 1024]⟩ : Shape).Idx) :
    gradV (F := Ideal) (R := 128) (C := 1024) (res1 m c) i = gTall x (Target.tallRows.idx c i) :=
  (grad_gath (r := 128) (k := 1024) (fun s => m ((s : Thread nD τ).loc main_arg1)) c i).trans
    ((congrArg (sum8 (F := Ideal)) (funext fun d => congrFun (hx d) (show (Sh3 128 1024).Idx from Fin.cons c i))).trans (gTall_at x c i).symm)

theorem tall_2 (x : Vec Ideal ⟨3, ![64, 128, 1024]⟩ .f32)
    (hx : ∀ d : Dev nD, m ((d : Thread nD τ).loc main_arg2) = Layout.block ⟨3, ![8, 128, 1024]⟩ ⟨3, ![64, 128, 1024]⟩ 0 8 d x) (c : Dev nD)
    (i : (⟨2, ![128, 1024]⟩ : Shape).Idx) :
    gradV (F := Ideal) (R := 128) (C := 1024) (res2 m c) i = gTall x (Target.tallRows.idx c i) :=
  (grad_gath (r := 128) (k := 1024) (fun s => m ((s : Thread nD τ).loc main_arg2)) c i).trans
    ((congrArg (sum8 (F := Ideal)) (funext fun d => congrFun (hx d) (show (Sh3 128 1024).Idx from Fin.cons c i))).trans (gTall_at x c i).symm)

theorem tall_3 (x : Vec Ideal ⟨3, ![64, 128, 1024]⟩ .f32)
    (hx : ∀ d : Dev nD, m ((d : Thread nD τ).loc main_arg3) = Layout.block ⟨3, ![8, 128, 1024]⟩ ⟨3, ![64, 128, 1024]⟩ 0 8 d x) (c : Dev nD)
    (i : (⟨2, ![128, 1024]⟩ : Shape).Idx) :
    gradV (F := Ideal) (R := 128) (C := 1024) (res3 m c) i = gTall x (Target.tallRows.idx c i) :=
  (grad_gath (r := 128) (k := 1024) (fun s => m ((s : Thread nD τ).loc main_arg3)) c i).trans
    ((congrArg (sum8 (F := Ideal)) (funext fun d => congrFun (hx d) (show (Sh3 128 1024).Idx from Fin.cons c i))).trans (gTall_at x c i).symm)

end Blocks

/-! A step over arrays that are blocks of the whole ones, element by element. -/

section Steps
variable {R C : ℕ} {T : Shape} {a : ℕ} (h : Layout.Tiles ⟨2, ![R, C]⟩ T a 8)
  (hb : Cert.ReferenceIdeal.S_.BroadcastsInDim T ![]) (c : Fin 8)
  {x : Vec Ideal ⟨3, ![8, R, C]⟩ .f32} {w m v : Vec Ideal ⟨2, ![R, C]⟩ .f32} {G W M U : Vec Ideal T .f32}
  (hg : ∀ i, gradV (F := Ideal) x i = G (h.idx c i))

include hg in
theorem grad_block : gradV (F := Ideal) x = Layout.block ⟨2, ![R, C]⟩ T a 8 c G h := funext hg
include hg in
theorem step_block (hw : w = Layout.block ⟨2, ![R, C]⟩ T a 8 c W h) (hm : m = Layout.block ⟨2, ![R, C]⟩ T a 8 c M h)
    (hv : v = Layout.block ⟨2, ![R, C]⟩ T a 8 c U h) :
    stepV (F := Ideal) x w m v = Layout.block ⟨2, ![R, C]⟩ T a 8 c (rStep hb G W M U) h := by
  subst hw hm hv
  funext i
  show stp (gradV x i) _ _ _ = _
  rw [hg]; exact (rStep_at hb G W M U (h.idx c i)).symm
include hg in
theorem mom_block (hm : m = Layout.block ⟨2, ![R, C]⟩ T a 8 c M h) :
    momV (F := Ideal) x m = Layout.block ⟨2, ![R, C]⟩ T a 8 c (rMom hb G M) h := by
  subst hm
  funext i
  show mom (gradV x i) _ = _
  rw [hg]; exact (rMom_at hb G M (h.idx c i)).symm
include hg in
theorem sec_block (hv : v = Layout.block ⟨2, ![R, C]⟩ T a 8 c U h) :
    secV (F := Ideal) x v = Layout.block ⟨2, ![R, C]⟩ T a 8 c (rSec hb G U) h := by
  subst hv
  funext i
  show sec (gradV x i) _ = _
  rw [hg]; exact (rSec_at hb G U (h.idx c i)).symm
end Steps

end Cert.Exchange
-- ==== Proof.SameText.lean ====
module

public import proofs.«01_k».proof.Defs
public import proofs.«01_k».proof.Proof.Gen.Kernel
public import proofs.«01_k».proof.Proof.Gen.KernelIdeal

@[expose] public section
noncomputable section

namespace Cert.Exchange

open Idealize.ShloMosaic Idealize.SL.Sem

/-! No rewrite separates the program from its ideal form: the two are the same functions, so a fact about
    the runs of the one, over any float values, is a fact about the runs of the other. -/

local instance : Cert.Kernel.Facts := Cert.Kernel.Gen.facts
local instance : Cert.KernelIdeal.Facts := Cert.KernelIdeal.Gen.facts

set_option maxHeartbeats 8000000 in
theorem same_bodies : (Cert.Kernel.defs₀ (F := Bits)) = Cert.KernelIdeal.defs₀ (F := Bits) := by
  unfold Cert.Kernel.defs₀ Cert.KernelIdeal.defs₀
  refine congrArg Defs.onTc (funext fun l => funext fun x => ?_)
  match l, x with
  | 0, (t, s) => dsimp only; exact rfl
  | 1, (t, s) => dsimp only; exact rfl
  | 2, (t, s) => dsimp only; exact rfl
  | 3, (t, s) => dsimp only; exact rfl
  | 4, (t, s) => dsimp only; exact rfl

set_option maxHeartbeats 8000000 in
theorem same_defs : (Cert.Kernel.defs (F := Bits)) = Cert.KernelIdeal.defs (F := Bits) := by
  unfold Cert.Kernel.defs Cert.KernelIdeal.defs
  exact congrArg (Pipeline.defs (Cert.KernelIdeal.pcfgs (F := Bits))) same_bodies

set_option maxHeartbeats 8000000 in
theorem same_main : (Cert.Kernel.main (F := Bits)) = Cert.KernelIdeal.main (F := Bits) := rfl

/-- What holds of the runs of the ideal form's text holds of the runs of the program's. -/
theorem carry {d : Defs Cert.KernelIdeal.nD Cert.KernelIdeal.τ Cert.KernelIdeal.sig (Elt Bits) (Pipeline.Sig Cert.KernelIdeal.Λ₀ (Fin 5) fun p => (Cert.KernelIdeal.pcfgs (F := Bits) p).Adm)}
    {p : Dev Cert.KernelIdeal.nD → Prog (TpuEff Cert.KernelIdeal.nD Cert.KernelIdeal.τ Cert.KernelIdeal.sig (Elt Bits) (Pipeline.Sig Cert.KernelIdeal.Λ₀ (Fin 5) fun p => (Cert.KernelIdeal.pcfgs (F := Bits) p).Adm) .tc) PUnit}
    (hd : d = Cert.KernelIdeal.defs (F := Bits)) (hp : p = Cert.KernelIdeal.main (F := Bits))
    (s : MemSt Cert.KernelIdeal.nD Cert.KernelIdeal.τ Cert.KernelIdeal.sig (Elt Bits)) (post)
    (h : θ_run (Cert.KernelIdeal.defs (F := Bits)) (onTc (τ := Cert.KernelIdeal.τ) (Cert.KernelIdeal.main (F := Bits))) s post) :
    θ_run d (onTc (τ := Cert.KernelIdeal.τ) p) s post := by
  subst hd hp; exact h

end Cert.Exchange
-- ==== Proof.Small.lean ====
/-
  The optimiser's five calls on small arrays. Each is one block over whole arrays, so what it returns is the AdamW
  formula applied element by element, and the reference's formula is the same one.
-/
module

public import proofs.«01_k».proof.Defs
public import proofs.«01_k».proof.Proof.Gen.NormIn.Frame
public import proofs.«01_k».proof.Proof.Gen.NormInIdeal.Value
public import proofs.«01_k».proof.Proof.Gen.NormInStepIdeal.Run
public import proofs.«01_k».proof.Proof.Gen.NormV.Frame
public import proofs.«01_k».proof.Proof.Gen.NormVIdeal.Value
public import proofs.«01_k».proof.Proof.Gen.NormVStepIdeal.Run
public import proofs.«01_k».proof.Proof.Gen.NormFinal.Frame
public import proofs.«01_k».proof.Proof.Gen.NormFinalIdeal.Value
public import proofs.«01_k».proof.Proof.Gen.NormFinalStepIdeal.Run
public import proofs.«01_k».proof.Proof.Gen.Spatial.Frame
public import proofs.«01_k».proof.Proof.Gen.SpatialIdeal.Value
public import proofs.«01_k».proof.Proof.Gen.SpatialStepIdeal.Run
public import proofs.«01_k».proof.Proof.Gen.Bias.Frame
public import proofs.«01_k».proof.Proof.Gen.BiasIdeal.Value
public import proofs.«01_k».proof.Proof.Gen.BiasStepIdeal.Run
public import Idealize.ShloMosaic.Adequacy
public import Idealize.ShloMosaic.Init

@[expose] public section

noncomputable section

namespace Cert.Small

open Idealize.ShloMosaic Idealize.ShloMosaic.TcCoe Idealize.SL.Sem

/-! ## The first norm's scale -/

namespace NormIn

theorem frame_kernel : Cert.quiescent_NormIn := fun m ρ _ => Cert.NormIn.Gen.frame (F := Bits) m ρ
theorem frame_ideal : Cert.quiescent_NormInIdeal := fun m ρ _ => Cert.NormInIdeal.Gen.frame (F := Ideal) m ρ
theorem frame_reference : Cert.quiescent_NormInStepIdeal := fun m ρ _ =>
  (θ_run Cert.NormInStepIdeal.defs _ _).mono (fun r h => ⟨fun c => (h c).2.2.2.2, sem_eq_zero_of_no_sems (by decide) r.2⟩)
    (Cert.NormInStepIdeal.Value.run (F := Ideal) m ρ)

theorem same_values : Cert.algebraic_NormInIdeal_NormInStepIdeal := by
  intro m g m' g' _ hag
  refine ⟨_, _, _, _, Cert.NormInIdeal.Value.run (F := Ideal) m g, ?_⟩
  refine (θ_run Cert.NormInStepIdeal.defs _ _).mono (fun r h c => ?_) (Cert.NormInStepIdeal.Value.run (F := Ideal) m' g')
  obtain ⟨e0, e1, e2, e3⟩ := hag c
  obtain ⟨h0, h1, h2, h3, hk⟩ := h c
  rw [e0, e1, e2, e3] at h1
  rw [e0, e2] at h2
  rw [e0, e3] at h3
  exact ⟨h0.trans e0, h1.trans rfl, h2.trans rfl, h3.trans rfl, hk⟩

end NormIn

/-! ## The norm's scale before the spatial gating -/

namespace NormV

theorem frame_kernel : Cert.quiescent_NormV := fun m ρ _ => Cert.NormV.Gen.frame (F := Bits) m ρ
theorem frame_ideal : Cert.quiescent_NormVIdeal := fun m ρ _ => Cert.NormVIdeal.Gen.frame (F := Ideal) m ρ
theorem frame_reference : Cert.quiescent_NormVStepIdeal := fun m ρ _ =>
  (θ_run Cert.NormVStepIdeal.defs _ _).mono (fun r h => ⟨fun c => (h c).2.2.2.2, sem_eq_zero_of_no_sems (by decide) r.2⟩)
    (Cert.NormVStepIdeal.Value.run (F := Ideal) m ρ)

theorem same_values : Cert.algebraic_NormVIdeal_NormVStepIdeal := by
  intro m g m' g' _ hag
  refine ⟨_, _, _, _, Cert.NormVIdeal.Value.run (F := Ideal) m g, ?_⟩
  refine (θ_run Cert.NormVStepIdeal.defs _ _).mono (fun r h c => ?_) (Cert.NormVStepIdeal.Value.run (F := Ideal) m' g')
  obtain ⟨e0, e1, e2, e3⟩ := hag c
  obtain ⟨h0, h1, h2, h3, hk⟩ := h c
  rw [e0, e1, e2, e3] at h1
  rw [e0, e2] at h2
  rw [e0, e3] at h3
  exact ⟨h0.trans e0, h1.trans rfl, h2.trans rfl, h3.trans rfl, hk⟩

end NormV

/-! ## The last norm's scale -/

namespace NormFinal

theorem frame_kernel : Cert.quiescent_NormFinal := fun m ρ _ => Cert.NormFinal.Gen.frame (F := Bits) m ρ
theorem frame_ideal : Cert.quiescent_NormFinalIdeal := fun m ρ _ => Cert.NormFinalIdeal.Gen.frame (F := Ideal) m ρ
theorem frame_reference : Cert.quiescent_NormFinalStepIdeal := fun m ρ _ =>
  (θ_run Cert.NormFinalStepIdeal.defs _ _).mono (fun r h => ⟨fun c => (h c).2.2.2.2, sem_eq_zero_of_no_sems (by decide) r.2⟩)
    (Cert.NormFinalStepIdeal.Value.run (F := Ideal) m ρ)

theorem same_values : Cert.algebraic_NormFinalIdeal_NormFinalStepIdeal := by
  intro m g m' g' _ hag
  refine ⟨_, _, _, _, Cert.NormFinalIdeal.Value.run (F := Ideal) m g, ?_⟩
  refine (θ_run Cert.NormFinalStepIdeal.defs _ _).mono (fun r h c => ?_) (Cert.NormFinalStepIdeal.Value.run (F := Ideal) m' g')
  obtain ⟨e0, e1, e2, e3⟩ := hag c
  obtain ⟨h0, h1, h2, h3, hk⟩ := h c
  rw [e0, e1, e2, e3] at h1
  rw [e0, e2] at h2
  rw [e0, e3] at h3
  exact ⟨h0.trans e0, h1.trans rfl, h2.trans rfl, h3.trans rfl, hk⟩

end NormFinal

/-! ## The spatial weights -/

namespace Spatial

theorem frame_kernel : Cert.quiescent_Spatial := fun m ρ _ => Cert.Spatial.Gen.frame (F := Bits) m ρ
theorem frame_ideal : Cert.quiescent_SpatialIdeal := fun m ρ _ => Cert.SpatialIdeal.Gen.frame (F := Ideal) m ρ
theorem frame_reference : Cert.quiescent_SpatialStepIdeal := fun m ρ _ =>
  (θ_run Cert.SpatialStepIdeal.defs _ _).mono (fun r h => ⟨fun c => (h c).2.2.2.2, sem_eq_zero_of_no_sems (by decide) r.2⟩)
    (Cert.SpatialStepIdeal.Value.run (F := Ideal) m ρ)

theorem same_values : Cert.algebraic_SpatialIdeal_SpatialStepIdeal := by
  intro m g m' g' _ hag
  refine ⟨_, _, _, _, Cert.SpatialIdeal.Value.run (F := Ideal) m g, ?_⟩
  refine (θ_run Cert.SpatialStepIdeal.defs _ _).mono (fun r h c => ?_) (Cert.SpatialStepIdeal.Value.run (F := Ideal) m' g')
  obtain ⟨e0, e1, e2, e3⟩ := hag c
  obtain ⟨h0, h1, h2, h3, hk⟩ := h c
  rw [e0, e1, e2, e3] at h1
  rw [e0, e2] at h2
  rw [e0, e3] at h3
  exact ⟨h0.trans e0, h1.trans rfl, h2.trans rfl, h3.trans rfl, hk⟩

end Spatial

/-! ## The spatial bias -/

namespace Bias

theorem frame_kernel : Cert.quiescent_Bias := fun m ρ _ => Cert.Bias.Gen.frame (F := Bits) m ρ
theorem frame_ideal : Cert.quiescent_BiasIdeal := fun m ρ _ => Cert.BiasIdeal.Gen.frame (F := Ideal) m ρ
theorem frame_reference : Cert.quiescent_BiasStepIdeal := fun m ρ _ =>
  (θ_run Cert.BiasStepIdeal.defs _ _).mono (fun r h => ⟨fun c => (h c).2.2.2.2, sem_eq_zero_of_no_sems (by decide) r.2⟩)
    (Cert.BiasStepIdeal.Value.run (F := Ideal) m ρ)

theorem same_values : Cert.algebraic_BiasIdeal_BiasStepIdeal := by
  intro m g m' g' _ hag
  refine ⟨_, _, _, _, Cert.BiasIdeal.Value.run (F := Ideal) m g, ?_⟩
  refine (θ_run Cert.BiasStepIdeal.defs _ _).mono (fun r h c => ?_) (Cert.BiasStepIdeal.Value.run (F := Ideal) m' g')
  obtain ⟨e0, e1, e2, e3⟩ := hag c
  obtain ⟨h0, h1, h2, h3, hk⟩ := h c
  rw [e0, e1, e2, e3] at h1
  rw [e0, e2] at h2
  rw [e0, e3] at h3
  exact ⟨h0.trans e0, h1.trans rfl, h2.trans rfl, h3.trans rfl, hk⟩

end Bias

end Cert.Small

end
-- ==== Proof.DxCases.lean ====
/-
  What one grid point of the input gradient's call leaves, as values. At every point the accumulator receives one more
  product, started at zero when the point opens a block of rows; at a block's last point the gradient's block is
  written and the gain's gradient receives the block's column sums.
-/
module

public import proofs.«01_k».proof.Defs
public import proofs.«01_k».proof.Proof.Gen.DxIdeal.Frame
public import proofs.«01_k».proof.Proof.Gen.DxIdeal.Value
public import Idealize.ShloMosaic.Lib.VecWindow
public import Idealize.ShloMosaic.Lib.Tactic

@[expose] public section

noncomputable section

namespace Cert.DxCases

open Cert.DxIdeal Cert.DxIdeal.Gen Cert.DxIdeal.Value Idealize.ShloMosaic Idealize.ShloMosaic.TcCoe Idealize.SL.Sem

variable {F : FTy → Type} [FloatOps F]

set_option maxHeartbeats 1000000 in
theorem sout0_A_0_eq (c : Dev nD) (i : grid0.Coords) (arg2 : Memref sig .tc .vmem S1024x1152 .bf16) (harg2 : arg2.IsWhole) (arg3 : Memref sig .tc .vmem S1x1024x1152 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : cond0_0 i) (hc1 : cond0_1 i) (hc2 : ¬cond0_2 i)
    (x0 : Vec F S1024x1152 .bf16) (x1 : Vec F S1x1024x1152 .bf16) (x2 : Vec F S1024x1024 .f32) (x3 : Vec F S1024x1024 .f32) (x4 : Vec F S1x1024 .f32) :
    sout0_A_0 c i arg2 harg2 arg3 harg3 arg4 harg4 arg5 harg5 arg6 harg6 arg7 harg7 arg8 harg8 arg9 harg9 hc0 hc1 hc2 x0 x1 x2 x3 x4 = k0_pay3 k0_pay2 x0 x1 := by
  unfold sout0_A_0 kernelRun0_A
  dsimp only
  sl_unfold_words
  exact (View.read_writes_full ..).trans (congr (congr (congrArg k0_pay3 (View.readCov_full ..)) (View.readAt_full .. |>.trans (harg2.read_unread _))) (View.readAt_full .. |>.trans (harg3.read_unread _)))

set_option maxHeartbeats 1000000 in
theorem out0_A_6_eq (c : Dev nD) (i : grid0.Coords) (arg2 : Memref sig .tc .vmem S1024x1152 .bf16) (harg2 : arg2.IsWhole) (arg3 : Memref sig .tc .vmem S1x1024x1152 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : cond0_0 i) (hc1 : cond0_1 i) (hc2 : ¬cond0_2 i)
    (x0 : Vec F S1024x1152 .bf16) (x1 : Vec F S1x1024x1152 .bf16) (x2 : Vec F S1024x1024 .f32) (x3 : Vec F S1024x1024 .f32) (x4 : Vec F S1x1024 .f32) :
    out0_A_6 c i arg2 harg2 arg3 harg3 arg4 harg4 arg5 harg5 arg6 harg6 arg7 harg7 arg8 harg8 arg9 harg9 hc0 hc1 hc2 x0 x1 x2 x3 x4 = k0_pay1 := by
  unfold out0_A_6 kernelRun0_A
  dsimp only
  sl_unfold_words
  exact (View.read_writes_full ..)

set_option maxHeartbeats 1000000 in
theorem sout0_B_0_eq (c : Dev nD) (i : grid0.Coords) (arg2 : Memref sig .tc .vmem S1024x1152 .bf16) (harg2 : arg2.IsWhole) (arg3 : Memref sig .tc .vmem S1x1024x1152 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : ¬cond0_0 i) (hc1 : ¬cond0_1 i) (hc2 : ¬cond0_2 i)
    (x0 : Vec F S1024x1152 .bf16) (x1 : Vec F S1x1024x1152 .bf16) (x2 : Vec F S1024x1024 .f32) (x3 : Vec F S1024x1024 .f32) (x4 : Vec F S1x1024 .f32) (xs0 : Vec F S1024x1024 .f32) :
    sout0_B_0 c i arg2 harg2 arg3 harg3 arg4 harg4 arg5 harg5 arg6 harg6 arg7 harg7 arg8 harg8 arg9 harg9 hc0 hc1 hc2 x0 x1 x2 x3 x4 xs0 = k0_pay3 xs0 x0 x1 := by
  unfold sout0_B_0 kernelRun0_B
  dsimp only
  sl_unfold_words
  exact (View.read_writes_full ..).trans (congr (congr (congrArg k0_pay3 (View.readAt_full .. |>.trans (harg9.read_unread _))) (View.readAt_full .. |>.trans (harg2.read_unread _))) (View.readAt_full .. |>.trans (harg3.read_unread _)))

set_option maxHeartbeats 1000000 in
theorem sout0_C_0_eq (c : Dev nD) (i : grid0.Coords) (arg2 : Memref sig .tc .vmem S1024x1152 .bf16) (harg2 : arg2.IsWhole) (arg3 : Memref sig .tc .vmem S1x1024x1152 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : ¬cond0_0 i) (hc1 : ¬cond0_1 i) (hc2 : cond0_2 i)
    (x0 : Vec F S1024x1152 .bf16) (x1 : Vec F S1x1024x1152 .bf16) (x2 : Vec F S1024x1024 .f32) (x3 : Vec F S1024x1024 .f32) (x4 : Vec F S1x1024 .f32) (xo6 : Vec F S1x1024 .f32) (xs0 : Vec F S1024x1024 .f32) :
    sout0_C_0 c i arg2 harg2 arg3 harg3 arg4 harg4 arg5 harg5 arg6 harg6 arg7 harg7 arg8 harg8 arg9 harg9 hc0 hc1 hc2 x0 x1 x2 x3 x4 xo6 xs0 = k0_pay3 xs0 x0 x1 := by
  unfold sout0_C_0 kernelRun0_C
  dsimp only
  sl_unfold_words
  exact (View.read_writes_full ..).trans (congr (congr (congrArg k0_pay3 (View.readAt_full .. |>.trans (harg9.read_unread _))) (View.readAt_full .. |>.trans (harg2.read_unread _))) (View.readAt_full .. |>.trans (harg3.read_unread _)))

set_option maxHeartbeats 1000000 in
theorem out0_C_5_eq (c : Dev nD) (i : grid0.Coords) (arg2 : Memref sig .tc .vmem S1024x1152 .bf16) (harg2 : arg2.IsWhole) (arg3 : Memref sig .tc .vmem S1x1024x1152 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : ¬cond0_0 i) (hc1 : ¬cond0_1 i) (hc2 : cond0_2 i)
    (x0 : Vec F S1024x1152 .bf16) (x1 : Vec F S1x1024x1152 .bf16) (x2 : Vec F S1024x1024 .f32) (x3 : Vec F S1024x1024 .f32) (x4 : Vec F S1x1024 .f32) (xo6 : Vec F S1x1024 .f32) (xs0 : Vec F S1024x1024 .f32) :
    out0_C_5 c i arg2 harg2 arg3 harg3 arg4 harg4 arg5 harg5 arg6 harg6 arg7 harg7 arg8 harg8 arg9 harg9 hc0 hc1 hc2 x0 x1 x2 x3 x4 xo6 xs0 = k0_pay7 (k0_pay3 xs0 x0 x1) x2 x4 x3 := by
  unfold out0_C_5 kernelRun0_C
  dsimp only
  sl_unfold_words
  exact (View.read_writes_full ..).trans (congr (congr (congr (congrArg k0_pay7 (View.readCov_full .. |>.trans (congr (congr (congrArg k0_pay3 (View.readAt_full .. |>.trans (harg9.read_unread _))) (View.readAt_full .. |>.trans (harg2.read_unread _))) (View.readAt_full .. |>.trans (harg3.read_unread _))))) (View.readAt_full .. |>.trans (harg4.read_unread _))) (View.readAt_full .. |>.trans (harg6.read_unread _))) (View.readAt_full .. |>.trans (harg5.read_unread _)))

set_option maxHeartbeats 1000000 in
theorem out0_C_6_eq (c : Dev nD) (i : grid0.Coords) (arg2 : Memref sig .tc .vmem S1024x1152 .bf16) (harg2 : arg2.IsWhole) (arg3 : Memref sig .tc .vmem S1x1024x1152 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : ¬cond0_0 i) (hc1 : ¬cond0_1 i) (hc2 : cond0_2 i)
    (x0 : Vec F S1024x1152 .bf16) (x1 : Vec F S1x1024x1152 .bf16) (x2 : Vec F S1024x1024 .f32) (x3 : Vec F S1024x1024 .f32) (x4 : Vec F S1x1024 .f32) (xo6 : Vec F S1x1024 .f32) (xs0 : Vec F S1024x1024 .f32) :
    out0_C_6 c i arg2 harg2 arg3 harg3 arg4 harg4 arg5 harg5 arg6 harg6 arg7 harg7 arg8 harg8 arg9 harg9 hc0 hc1 hc2 x0 x1 x2 x3 x4 xo6 xs0 = k0_pay6 (k0_pay3 xs0 x0 x1) x2 xo6 := by
  unfold out0_C_6 kernelRun0_C
  dsimp only
  sl_unfold_words
  exact (View.read_writes_full ..).trans (congr (congr (congrArg k0_pay6 (View.readCov_full .. |>.trans (congr (congr (congrArg k0_pay3 (View.readAt_full .. |>.trans (harg9.read_unread _))) (View.readAt_full .. |>.trans (harg2.read_unread _))) (View.readAt_full .. |>.trans (harg3.read_unread _))))) (View.readAt_full .. |>.trans (harg4.read_unread _))) (View.readAt_full .. |>.trans (harg8.read_unread _)))

set_option maxHeartbeats 1000000 in
theorem sout0_D_0_eq (c : Dev nD) (i : grid0.Coords) (arg2 : Memref sig .tc .vmem S1024x1152 .bf16) (harg2 : arg2.IsWhole) (arg3 : Memref sig .tc .vmem S1x1024x1152 .bf16) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (hc0 : ¬cond0_0 i) (hc1 : cond0_1 i) (hc2 : ¬cond0_2 i)
    (x0 : Vec F S1024x1152 .bf16) (x1 : Vec F S1x1024x1152 .bf16) (x2 : Vec F S1024x1024 .f32) (x3 : Vec F S1024x1024 .f32) (x4 : Vec F S1x1024 .f32) :
    sout0_D_0 c i arg2 harg2 arg3 harg3 arg4 harg4 arg5 harg5 arg6 harg6 arg7 harg7 arg8 harg8 arg9 harg9 hc0 hc1 hc2 x0 x1 x2 x3 x4 = k0_pay3 k0_pay2 x0 x1 := by
  unfold sout0_D_0 kernelRun0_D
  dsimp only
  sl_unfold_words
  exact (View.read_writes_full ..).trans (congr (congr (congrArg k0_pay3 (View.readCov_full ..)) (View.readAt_full .. |>.trans (harg2.read_unread _))) (View.readAt_full .. |>.trans (harg3.read_unread _)))

end Cert.DxCases

end
-- ==== Proof.DxGrad.lean ====
/-
  The derivative of the root-mean-square norm, over the extended reals. The call multiplies each term by the inverse
  root before it sums; the derivative as it is derived from the norm multiplies afterwards, and takes the inverse root's own
  derivative as minus one half of the root over its argument. The two agree for every input, infinite ones included:
  the mean of squares is never negative, so the inverse root is a non-negative real and multiplies into every sum.
-/
module

public import Idealize.ShloMosaic.PureOps.Ideal
public import Idealize.ShloMosaic.PureOps.Ideal.Laws
public import Idealize.ShloMosaic.Lib.IdealHost

@[expose] public section

noncomputable section

namespace Cert.DxGrad

open Idealize.ShloMosaic

/-! ## The three constants -/

theorem count_eq : Ideal.ofBits .f32 0x44800000#32 = ((1024 : ℝ) : EReal) := by
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul, -EReal.coe_neg]; norm_num

theorem eps_pos : ∃ e : ℝ, 0 < e ∧ Ideal.ofBits .f32 0x358637BD#32 = (e : EReal) := by
  refine ⟨8796093 * (1 / 8796093022208), by norm_num, ?_⟩
  simp [Ideal.ofBits, Ideal.ieee, -EReal.coe_mul]
  norm_num

/-! ## Sums of squares and products with a non-negative real -/

theorem sq_nonneg (x : EReal) : 0 ≤ x * x := by
  induction x with
  | bot => simp
  | top => simp
  | coe r => exact_mod_cast mul_self_nonneg r

theorem coe_mul_add (r : ℝ) (h : 0 ≤ r) (x y : EReal) : (r : EReal) * (x + y) = r * x + r * y :=
  EReal.left_distrib_of_nonneg_of_ne_top (by exact_mod_cast h) (EReal.coe_ne_top r) x y

theorem sum_mul_coe {n : ℕ} (r : ℝ) (h : 0 ≤ r) (f : Fin n → EReal) : ∑ e, f e * (r : EReal) = (∑ e, f e) * r := by
  rw [mul_comm (∑ e, f e)]
  induction n with
  | zero => simp
  | succ k ih => rw [Fin.sum_univ_castSucc, Fin.sum_univ_castSucc, coe_mul_add r h, ih, mul_comm (f _)]

/-- The inverse root of a positive extended real and its quotient by its argument are non-negative reals, the quotient
    the root's cube. -/
theorem root_real (v : EReal) (h : 0 < v) :
    ∃ ρ : ℝ, 0 ≤ ρ ∧ Ideal.rsqrt v = ρ ∧ Ideal.div (Ideal.rsqrt v) v = ((ρ * ρ * ρ : ℝ) : EReal) := by
  induction v with
  | bot => simp at h
  | top => exact ⟨0, le_rfl, by simp, by simp [Ideal.div]⟩
  | coe r =>
    have hr : 0 < r := by exact_mod_cast h
    have hs : 0 < Real.sqrt r := Real.sqrt_pos.mpr hr
    refine ⟨(Real.sqrt r)⁻¹, inv_nonneg.mpr hs.le, ?_, ?_⟩
    · simp [Ideal.rsqrt_coe, not_lt.mpr hr.le, hr.ne']
    · rw [Ideal.div_coe hr.ne']
      simp only [Ideal.rsqrt_coe, not_lt.mpr hr.le, hr.ne', if_false]
      rw [← EReal.coe_mul]
      congr 1
      rw [mul_assoc, ← mul_inv, Real.mul_self_sqrt hr.le, one_div]

/-- The mean of squares with the small constant added. -/
abbrev level {n : ℕ} (x : Fin n → EReal) : EReal :=
  Ideal.div (∑ e, x e * x e) (Ideal.ofBits .f32 0x44800000#32) + Ideal.ofBits .f32 0x358637BD#32

theorem level_pos {n : ℕ} (x : Fin n → EReal) : 0 < level x := by
  obtain ⟨e, he, h⟩ := eps_pos
  have hs : 0 ≤ ∑ e, x e * x e := Finset.sum_nonneg fun e _ => sq_nonneg (x e)
  unfold level
  rw [h, count_eq, Ideal.div_coe (by norm_num)]
  have h1 : (0 : EReal) ≤ (∑ e, x e * x e) * ((1 / 1024 : ℝ) : EReal) := mul_nonneg hs (by exact_mod_cast (by norm_num : (0 : ℝ) ≤ 1 / 1024))
  exact lt_of_lt_of_le (by exact_mod_cast he : (0 : EReal) < (e : EReal)) (le_add_of_nonneg_left h1)

/-! ## The two forms of the gradient -/

/-- One entry of the gradient as the call computes it: from the row `x`, the cotangent `D` times the gain, and the residual's cotangent `b`. -/
abbrev blocked {n : ℕ} (b : EReal) (x D : Fin n → EReal) (d : Fin n) : EReal :=
  b + Ideal.rsqrt (level x) * (D d - x d * Ideal.rsqrt (level x)
    * Ideal.div (∑ e, D e * (x e * Ideal.rsqrt (level x))) (Ideal.ofBits .f32 0x44800000#32))

/-- The derivative through the mean of squares, the same for every entry of the row. -/
abbrev through {n : ℕ} (x D : Fin n → EReal) : EReal :=
  Ideal.div ((∑ e, x e * D e) * (Ideal.ofBits .f32 0xBF000000#32 * Ideal.div (Ideal.rsqrt (level x)) (level x)))
    (Ideal.ofBits .f32 0x44800000#32)

/-- One entry of the gradient as it is derived from the norm. -/
abbrev derived {n : ℕ} (b : EReal) (x D : Fin n → EReal) (d : Fin n) : EReal :=
  b + D d * Ideal.rsqrt (level x) + x d * through x D + through x D * x d

theorem blocked_eq_derived {n : ℕ} (b : EReal) (x D : Fin n → EReal) (d : Fin n) :
    blocked b x D d = derived b x D d := by
  obtain ⟨ρ, h0, h1, h2⟩ := root_real (level x) (level_pos x)
  unfold blocked derived through
  rw [h2, h1, count_eq, half_eq, Ideal.div_coe (by norm_num), Ideal.div_coe (by norm_num)]
  rw [show (∑ e, D e * (x e * (ρ : EReal))) = (∑ e, x e * D e) * ρ from by
    rw [← sum_mul_coe ρ h0]; exact Finset.sum_congr rfl fun e _ => by rw [← mul_assoc, mul_comm (D e)]]
  generalize (∑ e, x e * D e) = S
  generalize x d = y
  generalize D d = w
  rw [sub_eq_add_neg, coe_mul_add ρ h0]
  have e1 : (ρ : EReal) * -(y * ρ * (S * ρ * ((1 / 1024 : ℝ) : EReal))) = -((y * S) * ((2 * (ρ * ρ * ρ / 2048) : ℝ) : EReal)) := by
    rw [mul_neg, show (2 * (ρ * ρ * ρ / 2048) : ℝ) = ρ * ρ * ρ * (1 / 1024) from by ring]
    push_cast
    congr 1
    ac_rfl
  have e2 : S * (((-(1 / 2) : ℝ) : EReal) * ((ρ * ρ * ρ : ℝ) : EReal)) * ((1 / 1024 : ℝ) : EReal) = -(S * ((ρ * ρ * ρ / 2048 : ℝ) : EReal)) := by
    rw [← EReal.coe_mul, mul_assoc, ← EReal.coe_mul, ← mul_neg, ← EReal.coe_neg]
    congr 2
    ring
  rw [e1, e2, mul_neg, neg_mul]
  have hc : 0 ≤ ρ * ρ * ρ / 2048 := by positivity
  generalize ρ * ρ * ρ / 2048 = a at hc ⊢
  have ha : (0 : EReal) ≤ (a : EReal) := by exact_mod_cast hc
  rw [show (S * (a : EReal)) * y = (y * S) * a from by ac_rfl, show y * (S * (a : EReal)) = (y * S) * a from by ac_rfl]
  rw [show ((2 * a : ℝ) : EReal) = (a : EReal) + a from by rw [← EReal.coe_add]; congr 1; ring]
  rw [EReal.left_distrib_of_nonneg ha ha]
  generalize (y * S) * (a : EReal) = z
  rw [mul_comm w]
  have hz : -(z + z) = -z + -z := by
    rw [EReal.neg_add (by induction z <;> simp) (by induction z <;> simp), sub_eq_add_neg]
  rw [hz]
  ac_rfl

end Cert.DxGrad

end
-- ==== Proof.DxRef.lean ====
/-
  The derived gradient, read at an index: the norm's input receives the residual's cotangent and the derivative through the
  norm, the gain receives the column sums.
-/
module

public import proofs.«01_k».proof.Defs
public import proofs.«01_k».proof.Proof.DxGrad
public import Idealize.ShloMosaic.Lib.Pointwise
public import proofs.«01_k».proof.Proof.Gen.GradXIdeal.Run

@[expose] public section

noncomputable section

namespace Cert.DxRef

open Cert.GradXIdeal Cert.GradXIdeal.Gen Cert.GradXIdeal.Value Cert.DxGrad Idealize.ShloMosaic Idealize.ShloMosaic.TcCoe Idealize.SL.Sem

/-- The norm's cotangent: the projection's cotangent times the transposed weight. -/
def cot {F : FTy → Type} [FloatOps F] (x : FVec F S8192x9216 .bf16) (w : FVec F S8x1024x1152 .bf16) : FVec F S8192x1024 .f32 :=
  Host.dotGeneral dot_S8192x9216_S1024x9216_S8192x1024_1_1_0_0_n_n none (extf .f32 x bitsLt_bf16_f32)
    (shapeCast S1024x9216 (transpose S1024x8x1152 [1, 0, 2] (extf .f32 w bitsLt_bf16_f32) transposes_S8x1024x1152_S1024x8x1152_1_0_2)
      shapeCasts_S1024x8x1152_S1024x9216)

/-- The column of a whole row at a place of a stack's member. -/
abbrev col (k : Fin 8) (e : Fin 1152) : Fin 9216 := ⟨1152 * k.val + e.val, by omega⟩

/-- A sum over the whole row is the sum over the stack's members and the places in each. -/
theorem sum_cols (f : Fin 9216 → EReal) : ∑ q, f q = ∑ k : Fin 8, ∑ e : Fin 1152, f (col k e) := by
  rw [← Fintype.sum_prod_type' (f := fun k e => f (col k e))]
  refine (Fintype.sum_equiv (finProdFinEquiv (m := 8) (n := 1152)) _ _ fun p => ?_).symm
  congr 1
  apply Fin.ext
  show 1152 * p.1.val + p.2.val = p.2.val + 1152 * p.1.val
  omega

/-- One entry of that product, summed over the stack's members and the places in each. -/
abbrev cotSum (x : S8192x9216.Idx → EReal) (w : S8x1024x1152.Idx → EReal) (n : Fin 8192) (d : Fin 1024) : EReal :=
  ∑ k : Fin 8, ∑ e : Fin 1152, x (ix2 n (col k e)) * w (ix3 k d e)

/-- One term of that entry, at a column of the whole row. -/
def place (x : S8192x9216.Idx → EReal) (w : S8x1024x1152.Idx → EReal) (n : Fin 8192) (d : Fin 1024) (q : Fin 9216) : EReal :=
  x (ix2 n q) * w (ix3 ⟨q.val / 1152, by omega⟩ d ⟨q.val % 1152, by omega⟩)

theorem cot_apply (x : FVec Ideal S8192x9216 .bf16) (w : FVec Ideal S8x1024x1152 .bf16) (n : Fin 8192) (d : Fin 1024) :
    cot x w (ix2 n d) = cotSum x w n d := by
  have hf : ∀ (k : Fin 8) (e : Fin 1152), place x w n d (col k e) = x (ix2 n (col k e)) * w (ix3 k d e) := fun k e => by
    have h1 : (col k e).val / 1152 = k.val := by show (1152 * k.val + e.val) / 1152 = _; omega
    have h2 : (col k e).val % 1152 = e.val := by show (1152 * k.val + e.val) % 1152 = _; omega
    unfold place
    rw [show (⟨(col k e).val / 1152, by omega⟩ : Fin 8) = k from Fin.ext h1, show (⟨(col k e).val % 1152, by omega⟩ : Fin 1152) = e from Fin.ext h2]
  have h : (cot (F := Ideal) x w (ix2 n d) : EReal) = ∑ q, place x w n d q := by
    unfold cot
    simp only [pointwise, place]
    exact zero_add _
  rw [h, sum_cols]
  simp only [hf]

variable (m : (ℓ : Loc nD τ sig) → Buf (Elt Ideal) ℓ) (c : Dev nD)

/-- Row `n` of the norm's input. -/
abbrev row (n : Fin 8192) : Fin 1024 → EReal := fun e => m ((c.tc : Thread nD τ).loc main_arg2) (ix2 n e)

/-- Row `n` of the norm's cotangent. -/
abbrev cotRow (n : Fin 8192) : Fin 1024 → EReal :=
  fun e => cot (F := Ideal) (m ((c.tc : Thread nD τ).loc main_arg0)) (m ((c.tc : Thread nD τ).loc main_arg1)) (ix2 n e)

/-- The gain's entry. -/
abbrev gain (e : Fin 1024) : EReal := m ((c.tc : Thread nD τ).loc main_arg4) (ix2 0 e)

theorem grad_apply (n : Fin 8192) (d : Fin 1024) :
    res_main_v40 (F := Ideal) m c (ix2 n d)
      = derived (m ((c.tc : Thread nD τ).loc main_arg3) (ix2 n d)) (row m c n) (fun e => cotRow m c n e * gain m c e) d := by
  unfold res_main_v40
  unfold derived through level cotRow cot
  generalize Host.dotGeneral (F := Ideal) dot_S8192x9216_S1024x9216_S8192x1024_1_1_0_0_n_n none _ _ = dh
  simp only [pointwise, zero_add, Fin.sum_univ_one]
  rfl

/-- The gain's gradient as the reference leaves it. -/
def sums {F : FTy → Type} [FloatOps F] (m : (ℓ : Loc nD τ sig) → Buf (Elt F) ℓ) (c : Dev nD) : FVec F S1x1024 .f32 :=
  shapeCast S1x1024 (Host.reduceAdd (mulf (mulf (m ((c.tc : Thread nD τ).loc main_arg2)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg2)) (m ((c.tc : Thread nD τ).loc main_arg2))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (cot (m ((c.tc : Thread nD τ).loc main_arg0)) (m ((c.tc : Thread nD τ).loc main_arg1)))) (constant S_ .f32 0x00000000#32) reducesTo_S8192x1024_S1024_d0 h_S_) shapeCasts_S1024_S1x1024

theorem sums_apply (d : Fin 1024) :
    sums (F := Ideal) m c (ix2 0 d) = ∑ n : Fin 8192, (row m c n d * Ideal.rsqrt (level (row m c n))) * cotRow m c n d := by
  unfold sums level cotRow
  generalize cot (F := Ideal) _ _ = dh
  simp only [pointwise, zero_add]
  rfl

end Cert.DxRef

end
-- ==== Proof.DxFold.lean ====
/-
  What the input gradient's call leaves in its two arrays, as formulas of its arguments. The grid visits eight blocks of
  rows and, for each, the eight members of the weight's stack; the accumulator holds the products of the members visited so
  far, and the gain's gradient the column sums of the blocks finished so far.
-/
module

public import proofs.«01_k».proof.Proof.DxCases
public import proofs.«01_k».proof.Proof.DxRef
public import Idealize.ShloMosaic.Lib.Pointwise

@[expose] public section

noncomputable section

namespace Cert.DxFold

open Cert.DxIdeal Cert.DxIdeal.Gen Cert.DxIdeal.Value Cert.DxCases Cert.DxGrad Idealize.ShloMosaic Idealize.ShloMosaic.TcCoe Idealize.SL.Sem
open Cert.DxRef (col cotSum)

/-! ## The body's values at an index -/

theorem product_apply (v8 : Vec Ideal S1024x1024 .f32) (v9 : Vec Ideal S1024x1152 .bf16) (v10 : Vec Ideal S1x1024x1152 .bf16)
    (a d : Fin 1024) : k0_pay3 (F := Ideal) v8 v9 v10 (ix2 a d)
      = (v8 (ix2 a d) : EReal) + ∑ e : Fin 1152, (v9 (ix2 a e) : EReal) * (v10 (ix3 0 d e) : EReal) := by
  unfold k0_pay3
  simp only [pointwise]
  exact congrArg (_ + ·) (zero_add _)

theorem block_apply (v20 v21 v42 : Vec Ideal S1024x1024 .f32) (v39 : Vec Ideal S1x1024 .f32) (a d : Fin 1024) :
    k0_pay7 (F := Ideal) v20 v21 v39 v42 (ix2 a d)
      = blocked (v42 (ix2 a d)) (fun e => v21 (ix2 a e)) (fun e => (v20 (ix2 a e) : EReal) * v39 (ix2 0 e)) d := by
  unfold k0_pay7 k0_pay5 k0_pay4 blocked level
  simp only [pointwise]
  rfl

theorem column_apply (v20 v21 : Vec Ideal S1024x1024 .f32) (v32 : Vec Ideal S1x1024 .f32) (d : Fin 1024) :
    k0_pay6 (F := Ideal) v20 v21 v32 (ix2 0 d)
      = (v32 (ix2 0 d) : EReal) + ∑ a : Fin 1024, (v20 (ix2 a d) : EReal)
          * ((v21 (ix2 a d) : EReal) * Ideal.rsqrt (level fun e => v21 (ix2 a e))) := by
  unfold k0_pay6 k0_pay5 k0_pay4 level
  simp only [pointwise]
  rfl

theorem zero_row (j : S1x1024.Idx) : k0_pay1 (F := Ideal) j = (0 : EReal) := Ideal.ofBits_zero_f32
theorem zero_acc (j : S1024x1024.Idx) : k0_pay2 (F := Ideal) j = (0 : EReal) := by
  unfold k0_pay2
  simp only [pointwise]

/-! ## The blocks of the arguments -/

variable (m : (ℓ : Loc nD τ sig) → Buf (Elt Ideal) ℓ) (c : Dev nD)

/-- The block of rows, and the stack's member, that a point works on. -/
abbrev blockOf (n : ℕ) : Fin 8 := ⟨n / 8 % 8, Nat.mod_lt _ (by decide)⟩
abbrev memberOf (n : ℕ) : Fin 8 := ⟨n % 8, Nat.mod_lt _ (by decide)⟩
/-- A row of the whole array at its place in a block. -/
abbrev rowAt (i : Fin 8) (a : Fin 1024) : Fin 8192 := ⟨1024 * i.val + a.val, by omega⟩

theorem idx0 : ∀ t : Fin cfg0.N, win0_0.index t (0 : Fin 2) = t.val / 8 % 8 ∧ win0_0.index t (1 : Fin 2) = t.val % 8 :=
  (by decide +kernel : ∀ t : Fin grid0.N, _)
theorem idx1 : ∀ t : Fin cfg0.N, win0_1.index t (0 : Fin 3) = t.val % 8 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val / 8 % 8 ∧ win0_2.index t (1 : Fin 2) = 0 :=
  (by decide +kernel : ∀ t : Fin grid0.N, _)
theorem idx3 : ∀ t : Fin cfg0.N, win0_3.index t (0 : Fin 2) = t.val / 8 % 8 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

abbrev argX : S8192x9216.Idx → EReal := m ((c : Thread nD τ).loc main_arg0)
abbrev argW : S8x1024x1152.Idx → EReal := m ((c : Thread nD τ).loc main_arg1)
abbrev row (n : Fin 8192) : Fin 1024 → EReal := fun e => m ((c : Thread nD τ).loc main_arg2) (ix2 n e)
abbrev resid (n : Fin 8192) (d : Fin 1024) : EReal := m ((c : Thread nD τ).loc main_arg3) (ix2 n d)
abbrev gain (e : Fin 1024) : EReal := m ((c : Thread nD τ).loc main_arg4) (ix2 0 e)

theorem read0 (t : Fin cfg0.N) (a : Fin 1024) (e : Fin 1152) :
    (iblk m c 0 t : S1024x1152.Idx → EReal) (ix2 a e) = argX m c (ix2 (rowAt (blockOf t.val) a) (col (memberOf t.val) e)) := by
  show m ((c : Thread nD τ).loc main_arg0) (((cfg0.win 0).blk t).view.emb (ix2 a e)) = _
  obtain ⟨h0, h1⟩ := idx0 t
  refine congrArg (m ((c : Thread nD τ).loc main_arg0)) (funext fun ax => Fin.ext ?_)
  match ax with
  | ⟨0, _⟩ => show win0_0.index t (0 : Fin 2) * 1024 + 1 * a.val = 1024 * (t.val / 8 % 8) + a.val; omega
  | ⟨1, _⟩ => show win0_0.index t (1 : Fin 2) * 1152 + 1 * e.val = 1152 * (t.val % 8) + e.val; omega

theorem read1 (t : Fin cfg0.N) (d : Fin 1024) (e : Fin 1152) :
    (iblk m c 1 t : S1x1024x1152.Idx → EReal) (ix3 0 d e) = argW m c (ix3 (memberOf t.val) d e) := by
  show m ((c : Thread nD τ).loc main_arg1) (((cfg0.win 1).blk t).view.emb (ix3 0 d e)) = _
  obtain ⟨h0, h1, h2⟩ := idx1 t
  refine congrArg (m ((c : Thread nD τ).loc main_arg1)) (funext fun ax => Fin.ext ?_)
  match ax with
  | ⟨0, _⟩ => show win0_1.index t (0 : Fin 3) * 1 + 1 * 0 = t.val % 8; omega
  | ⟨1, _⟩ => show win0_1.index t (1 : Fin 3) * 1024 + 1 * d.val = d.val; omega
  | ⟨2, _⟩ => show win0_1.index t (2 : Fin 3) * 1152 + 1 * e.val = e.val; omega

theorem read2 (t : Fin cfg0.N) (a d : Fin 1024) :
    (iblk m c 2 t : S1024x1024.Idx → EReal) (ix2 a d) = row m c (rowAt (blockOf t.val) a) d := by
  show m ((c : Thread nD τ).loc main_arg2) (((cfg0.win 2).blk t).view.emb (ix2 a d)) = _
  obtain ⟨h0, h1⟩ := idx2 t
  refine congrArg (m ((c : Thread nD τ).loc main_arg2)) (funext fun ax => Fin.ext ?_)
  match ax with
  | ⟨0, _⟩ => show win0_2.index t (0 : Fin 2) * 1024 + 1 * a.val = 1024 * (t.val / 8 % 8) + a.val; omega
  | ⟨1, _⟩ => show win0_2.index t (1 : Fin 2) * 1024 + 1 * d.val = d.val; omega

theorem read3 (t : Fin cfg0.N) (a d : Fin 1024) :
    (iblk m c 3 t : S1024x1024.Idx → EReal) (ix2 a d) = resid m c (rowAt (blockOf t.val) a) d := by
  show m ((c : Thread nD τ).loc main_arg3) (((cfg0.win 3).blk t).view.emb (ix2 a d)) = _
  obtain ⟨h0, h1⟩ := idx3 t
  refine congrArg (m ((c : Thread nD τ).loc main_arg3)) (funext fun ax => Fin.ext ?_)
  match ax with
  | ⟨0, _⟩ => show win0_3.index t (0 : Fin 2) * 1024 + 1 * a.val = 1024 * (t.val / 8 % 8) + a.val; omega
  | ⟨1, _⟩ => show win0_3.index t (1 : Fin 2) * 1024 + 1 * d.val = d.val; omega

theorem read4 (t : Fin cfg0.N) (d : Fin 1024) :
    (iblk m c 4 t : S1x1024.Idx → EReal) (ix2 0 d) = gain m c d := by
  show m ((c : Thread nD τ).loc main_arg4) (((cfg0.win 4).blk t).view.emb (ix2 0 d)) = _
  obtain ⟨h0, h1⟩ := idx4 t
  refine congrArg (m ((c : Thread nD τ).loc main_arg4)) (funext fun ax => Fin.ext ?_)
  match ax with
  | ⟨0, _⟩ => show win0_4.index t (0 : Fin 2) * 1 + 1 * 0 = 0; omega
  | ⟨1, _⟩ => show win0_4.index t (1 : Fin 2) * 1024 + 1 * d.val = d.val; omega

/-! ## The carried state -/

/-- The product of one member, at a row and a column. -/
def part (i k : ℕ) (a d : Fin 1024) : EReal :=
  ∑ e : Fin 1152, argX m c (ix2 (rowAt ⟨i % 8, Nat.mod_lt _ (by decide)⟩ a) (col ⟨k % 8, Nat.mod_lt _ (by decide)⟩ e))
    * argW m c (ix3 ⟨k % 8, Nat.mod_lt _ (by decide)⟩ d e)

/-- The column sum of one block of rows. -/
def column (i : ℕ) (d : Fin 1024) : EReal :=
  ∑ a : Fin 1024, cotSum (argX m c) (argW m c) (rowAt ⟨i % 8, Nat.mod_lt _ (by decide)⟩ a) d
    * (row m c (rowAt ⟨i % 8, Nat.mod_lt _ (by decide)⟩ a) d * Ideal.rsqrt (level (row m c (rowAt ⟨i % 8, Nat.mod_lt _ (by decide)⟩ a))))

theorem parts_eq (i : ℕ) (a d : Fin 1024) :
    ∑ k ∈ Finset.range 8, part m c i k a d = cotSum (argX m c) (argW m c) (rowAt ⟨i % 8, Nat.mod_lt _ (by decide)⟩ a) d := by
  rw [Finset.sum_range]
  refine Fintype.sum_congr _ _ fun k => ?_
  unfold part
  rw [show (⟨k.val % 8, Nat.mod_lt _ (by decide)⟩ : Fin 8) = k from Fin.ext (Nat.mod_eq_of_lt k.isLt)]

theorem step_apply (t : Fin cfg0.N) (v : Vec Ideal S1024x1024 .f32) (a d : Fin 1024) :
    k0_pay3 (F := Ideal) v (iblk m c 0 t) (iblk m c 1 t) (ix2 a d) = (v (ix2 a d) : EReal) + part m c (t.val / 8) (t.val % 8) a d := by
  rw [product_apply]
  refine congrArg ((v (ix2 a d) : EReal) + ·) (Fintype.sum_congr _ _ fun e => ?_)
  rw [read0 m c t a e, read1 m c t d e]
  rw [show (⟨t.val % 8 % 8, Nat.mod_lt _ (by decide)⟩ : Fin 8) = memberOf t.val from Fin.ext (Nat.mod_mod _ _)]

/-- What the state holds after point `n`: the accumulator the members so far, the gain's gradient the finished blocks' column
    sums, and, at a block's last point, the gradient's block. -/
structure Holds (n : ℕ) (s : Vec Ideal S1024x1024 .f32 × Vec Ideal S1x1024 .f32 × Vec Ideal S1024x1024 .f32) : Prop where
  acc : ∀ a d : Fin 1024, s.2.2 (ix2 a d) = ∑ k ∈ Finset.range (n % 8 + 1), part m c (n / 8) k a d
  sums : ∀ d : Fin 1024, s.2.1 (ix2 0 d) = ∑ i ∈ Finset.range ((n + 1) / 8), column m c i d
  out : n % 8 = 7 → ∀ a d : Fin 1024, s.1 (ix2 a d) = blocked (resid m c (rowAt (blockOf n) a) d) (row m c (rowAt (blockOf n) a))
    (fun e => cotSum (argX m c) (argW m c) (rowAt (blockOf n) a) e * gain m c e) d

theorem holds_first (t : Fin cfg0.N) (h : t.val % 64 = 0) (s : Vec Ideal S1024x1024 .f32 × Vec Ideal S1x1024 .f32 × Vec Ideal S1024x1024 .f32) :
    Holds m c t.val (stAt0 m c t.val t.isLt s) := by
  have hN : t.val < 64 := lt_of_lt_of_eq t.isLt N_0
  have h0 : t.val = 0 := by omega
  rw [stAt0_A m c t s h (by omega) (by omega)]
  refine ⟨fun a d => ?_, fun d => ?_, fun h7 => absurd h7 (by omega)⟩
  · dsimp only
    rw [sout0_A_0_eq, step_apply, zero_acc, zero_add, h0]
    exact (Finset.sum_range_one (fun k => part m c (0 / 8) k a d)).symm
  · dsimp only
    rw [out0_A_6_eq, zero_row, h0]
    exact Finset.sum_range_zero _ |>.symm

theorem holds_next (t : Fin cfg0.N) (h : ¬t.val % 64 = 0) (s : Vec Ideal S1024x1024 .f32 × Vec Ideal S1x1024 .f32 × Vec Ideal S1024x1024 .f32)
    (hs : Holds m c (t.val - 1) s) : Holds m c t.val (stAt0 m c t.val t.isLt s) := by
  have hN : t.val < 64 := lt_of_lt_of_eq t.isLt N_0
  by_cases h8 : t.val % 8 = 0
  · rw [stAt0_D m c t s h h8 (by omega)]
    refine ⟨fun a d => ?_, fun d => ?_, fun h7 => absurd h7 (by omega)⟩
    · dsimp only
      rw [sout0_D_0_eq, step_apply, zero_acc, zero_add, h8]
      exact (Finset.sum_range_one (fun k => part m c (t.val / 8) k a d)).symm
    · refine (hs.sums d).trans ?_
      rw [show (t.val - 1 + 1) / 8 = (t.val + 1) / 8 from by omega]
  · have hd : (t.val - 1) / 8 = t.val / 8 := by omega
    have hm : (t.val - 1) % 8 + 1 = t.val % 8 := by omega
    have hacc : ∀ a d : Fin 1024, k0_pay3 (F := Ideal) s.2.2 (iblk m c 0 t) (iblk m c 1 t) (ix2 a d)
        = ∑ k ∈ Finset.range (t.val % 8 + 1), part m c (t.val / 8) k a d := fun a d => by
      rw [step_apply, hs.acc a d, hd, hm, ← Finset.sum_range_succ]
    by_cases h7 : t.val % 8 = 7
    · have hfull : ∀ a d : Fin 1024, k0_pay3 (F := Ideal) s.2.2 (iblk m c 0 t) (iblk m c 1 t) (ix2 a d)
          = cotSum (argX m c) (argW m c) (rowAt (blockOf t.val) a) d := fun a d => by
        rw [hacc a d, h7]; exact parts_eq m c (t.val / 8) a d
      rw [stAt0_C m c t s h h8 h7]
      refine ⟨fun a d => ?_, fun d => ?_, fun _ a d => ?_⟩
      · dsimp only
        rw [sout0_C_0_eq]; exact hacc a d
      · dsimp only
        rw [out0_C_6_eq, column_apply, hs.sums d, show (t.val - 1 + 1) / 8 = t.val / 8 from by omega,
          show (t.val + 1) / 8 = t.val / 8 + 1 from by omega, Finset.sum_range_succ]
        refine congrArg (_ + ·) (Fintype.sum_congr _ _ fun a => ?_)
        rw [hfull a d]
        simp only [read2 m c t]
      · dsimp only
        rw [out0_C_5_eq, block_apply]
        simp only [hfull, read2 m c t, read3 m c t, read4 m c t]
    · rw [stAt0_B m c t s h h8 h7]
      refine ⟨fun a d => ?_, fun d => ?_, fun h => absurd h h7⟩
      · dsimp only
        rw [sout0_B_0_eq]; exact hacc a d
      · refine (hs.sums d).trans ?_
        rw [show (t.val - 1 + 1) / 8 = (t.val + 1) / 8 from by omega]

theorem holds : ∀ (n : ℕ) (h : 0 + n < cfg0.N),
    Holds m c (0 + n) (Pipeline.accAt (fun n h => stAt0 m c n h junk0) (stAt0 m c) 0 n h)
  | 0, h => holds_first m c ⟨0 + 0, h⟩ rfl _
  | n + 1, h => by
    have hN : 0 + (n + 1) < 64 := lt_of_lt_of_eq h N_0
    exact holds_next m c ⟨0 + (n + 1), h⟩ (by dsimp only; omega) _ (holds n (Nat.lt_of_succ_lt h))

/-! ## The two arrays -/

/-- The block a row falls in, and its place there. -/
abbrev rowBlock (n : Fin 8192) : Fin 8 := ⟨n.val / 1024, by omega⟩
abbrev rowPlace (n : Fin 8192) : Fin 1024 := ⟨n.val % 1024, by omega⟩

theorem grad_apply (n : Fin 8192) (d : Fin 1024) :
    G5 m c (ix2 n d) = blocked (resid m c n d) (row m c n) (fun e => cotSum (argX m c) (argW m c) n e * gain m c e) d := by
  have hn := n.isLt
  have hd := d.isLt
  have hp : pt5Of (ix2 n d) = 8 * (n.val / 1024) + 7 := by
    show 8 * (1 * (n.val / 1024 - 0) + 1 * (d.val / 1024 - 0)) + 7 = _
    omega
  have hlt : 0 + (8 * (n.val / 1024) + 7) < cfg0.N := lt_of_lt_of_eq (by omega) N_0.symm
  have hl : loc5Of (ix2 n d) = ix2 (rowPlace n) d := by
    funext a; apply Fin.ext
    match a with
    | ⟨0, _⟩ => rfl
    | ⟨1, _⟩ => show d.val % 1024 = d.val; omega
  have hb : rowAt (blockOf (0 + (8 * (n.val / 1024) + 7))) (rowPlace n) = n := by
    apply Fin.ext
    show 1024 * ((0 + (8 * (n.val / 1024) + 7)) / 8 % 8) + n.val % 1024 = n.val
    omega
  unfold G5
  rw [dif_pos (by rw [hp, ← zero_add (8 * (n.val / 1024) + 7)]; exact hlt), hl, fold0_congr m c _ _ _ hlt hp]
  have h := (holds m c (8 * (n.val / 1024) + 7) hlt).out (by omega) (rowPlace n) d
  rw [hb] at h
  exact h

/-- A sum over all rows is the sum over the blocks and the places in each. -/
theorem sum_rows (f : Fin 8192 → EReal) : ∑ n, f n = ∑ i : Fin 8, ∑ a : Fin 1024, f (rowAt i a) := by
  rw [← Fintype.sum_prod_type' (f := fun i a => f (rowAt i a))]
  refine (Fintype.sum_equiv (finProdFinEquiv (m := 8) (n := 1024)) _ _ fun p => ?_).symm
  congr 1
  apply Fin.ext
  show 1024 * p.1.val + p.2.val = p.2.val + 1024 * p.1.val
  omega

theorem sums_apply (d : Fin 1024) :
    G6 m c (ix2 0 d) = ∑ n : Fin 8192, cotSum (argX m c) (argW m c) n d * (row m c n d * Ideal.rsqrt (level (row m c n))) := by
  have h : ∀ (k : ℕ) (hk : 0 + k < cfg0.N), k = 63 →
      (Pipeline.accAt (fun n h => stAt0 m c n h junk0) (stAt0 m c) 0 k hk).2.1 (ix2 0 d) = ∑ i ∈ Finset.range 8, column m c i d :=
    fun k hk e => by rw [(holds m c k hk).sums d, show (0 + k + 1) / 8 = 8 from by omega]
  rw [G6_last, sum_rows]
  refine (h 63 _ rfl).trans ?_
  rw [Finset.sum_range]
  refine Fintype.sum_congr _ _ fun i => ?_
  unfold column
  rw [show (⟨i.val % 8, Nat.mod_lt _ (by decide)⟩ : Fin 8) = i from Fin.ext (Nat.mod_eq_of_lt i.isLt)]

end Cert.DxFold

end
-- ==== Proof.DxEnd.lean ====
/-
  The input gradient's call against the gradient that differentiating the norm and the projection gives: what the call
  leaves in its two arrays is that gradient and the gain's, at every index.
-/
module

public import proofs.«01_k».proof.Defs
public import proofs.«01_k».proof.Proof.Gen.Dx
public import proofs.«01_k».proof.Proof.Gen.Dx.Frame
public import proofs.«01_k».proof.Proof.Gen.DxIdeal.Frame
public import proofs.«01_k».proof.Proof.Gen.DxIdeal.Value
public import proofs.«01_k».proof.Proof.Gen.GradXIdeal.Run
public import proofs.«01_k».proof.Proof.DxFold
public import Idealize.ShloMosaic.Adequacy
public import Idealize.ShloMosaic.Init

@[expose] public section

noncomputable section

namespace Cert.DxEnd

open Idealize.ShloMosaic Idealize.ShloMosaic.TcCoe Idealize.SL.Sem

theorem frame_kernel : Cert.quiescent_Dx := fun m ρ _ => Cert.Dx.Gen.frame (F := Bits) m ρ
theorem frame_ideal : Cert.quiescent_DxIdeal := fun m ρ _ => Cert.DxIdeal.Gen.frame (F := Ideal) m ρ
theorem frame_reference : Cert.quiescent_GradXIdeal := fun m ρ _ =>
  (θ_run Cert.GradXIdeal.defs _ _).mono (fun r h => ⟨fun c => (h c).2.2, sem_eq_zero_of_no_sems (by decide) r.2⟩)
    (Cert.GradXIdeal.Value.run (F := Ideal) m ρ)

theorem same_values : Cert.algebraic_DxIdeal_GradXIdeal := by
  intro m g m' g' _ hag
  refine ⟨_, _, Cert.DxIdeal.Value.run (F := Ideal) m g, ?_⟩
  refine (θ_run Cert.GradXIdeal.defs _ _).mono (fun r h c => ?_) (Cert.GradXIdeal.Value.run (F := Ideal) m' g')
  obtain ⟨e0, e1, e2, e3, e4⟩ := hag c
  obtain ⟨h0, h1, hk⟩ := h c
  have h1' : r.2.mem ((c.tc : Thread Cert.GradXIdeal.nD Cert.GradXIdeal.τ).loc Cert.GradXIdeal.main_v23) = Cert.DxRef.sums m' c := h1
  refine ⟨h0.trans (funext fun i => ?_), h1'.trans (funext fun i => ?_), hk⟩
  · obtain ⟨n, d, rfl⟩ : ∃ (n : Fin 8192) (d : Fin 1024), i = ix2 n d := ⟨i 0, i 1, by funext a; match a with | ⟨0, _⟩ => rfl | ⟨1, _⟩ => rfl⟩
    refine (Cert.DxRef.grad_apply m' c n d).trans ?_
    unfold Cert.DxRef.row Cert.DxRef.gain Cert.DxRef.cotRow
    simp only [Cert.DxRef.cot_apply]
    rw [e0, e1, e2, e3, e4, ← Cert.DxGrad.blocked_eq_derived]
    exact (Cert.DxFold.grad_apply m c n d).symm
  · obtain ⟨d, rfl⟩ : ∃ d : Fin 1024, i = ix2 0 d := ⟨i 1, by funext a; match a with | ⟨0, _⟩ => exact Subsingleton.elim (α := Fin 1) _ _ | ⟨1, _⟩ => rfl⟩
    refine (Cert.DxRef.sums_apply m' c d).trans ?_
    unfold Cert.DxRef.row Cert.DxRef.cotRow
    simp only [Cert.DxRef.cot_apply]
    rw [e0, e1, e2]
    refine Eq.trans ?_ (Cert.DxFold.sums_apply m c d).symm
    exact Fintype.sum_congr _ _ fun n => mul_comm _ _

end Cert.DxEnd

end
-- ==== Proof.Products.lean ====
/-
  The four calls that compute the partial weight gradients: each adds, over sixteen blocks of 512 rows, the products of the
  transposed activations' block with the gradients' block. At every index this is the sum over all rows, which is what
  transposing the projection gives.
-/
module

public import proofs.«01_k».proof.Defs
public import proofs.«01_k».proof.Proof.Gen.DwIn.Frame
public import proofs.«01_k».proof.Proof.Gen.DwInIdeal.Value
public import proofs.«01_k».proof.Proof.Gen.DwInRefIdeal.Run
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwA.Frame
public import proofs.«01_k».proof.Proof.Gen.DwAIdeal.Value
public import proofs.«01_k».proof.Proof.Gen.DwARefIdeal.Run
public import proofs.«01_k».proof.Proof.Gen.DwB.Frame
public import proofs.«01_k».proof.Proof.Gen.DwBIdeal.Value
public import proofs.«01_k».proof.Proof.Gen.DwBRefIdeal.Run
public import proofs.«01_k».proof.Proof.DxRef
public import Idealize.ShloMosaic.Lib.Pointwise
public import Idealize.ShloMosaic.Adequacy
public import Idealize.ShloMosaic.Init

@[expose] public section

noncomputable section

namespace Cert.Products

open Idealize.ShloMosaic Idealize.ShloMosaic.TcCoe Idealize.SL.Sem
open Cert.DxRef (col)

/-- A row of the whole array at its place in the block that a point works on. -/
abbrev rowAt (n : ℕ) (r : Fin 512) : Fin 8192 := ⟨512 * (n % 16) + r.val, by omega⟩

/-- The products of one block of rows, at a row of the gradient and for one column `b`. -/
def part (a : Cert.DwOutIdeal.S8192x1024.Idx → EReal) (b : Fin 8192 → EReal) (n : ℕ) (d : Fin 1024) : EReal :=
  ∑ r : Fin 512, a (ix2 (rowAt n r) d) * b (rowAt n r)

theorem part_mod (a : Cert.DwOutIdeal.S8192x1024.Idx → EReal) (b : Fin 8192 → EReal) (n k : ℕ) (d : Fin 1024) (h : n % 16 = k % 16) :
    part a b n d = part a b k d := by
  unfold part
  have e : ∀ r, rowAt n r = rowAt k r := fun r => by apply Fin.ext; show 512 * (n % 16) + r.val = _; rw [h]
  simp only [e]

/-- A sum over all rows is the sum over the sixteen blocks and the places in each. -/
theorem sum_rows (f : Fin 8192 → EReal) : ∑ n, f n = ∑ i : Fin 16, ∑ r : Fin 512, f (rowAt i.val r) := by
  rw [← Fintype.sum_prod_type' (f := fun (i : Fin 16) r => f (rowAt i.val r))]
  refine (Fintype.sum_equiv (finProdFinEquiv (m := 16) (n := 512)) _ _ fun p => ?_).symm
  congr 1
  apply Fin.ext
  have := p.1.isLt
  show 512 * (p.1.val % 16) + p.2.val = p.2.val + 512 * p.1.val
  omega

theorem parts_eq (a : Cert.DwOutIdeal.S8192x1024.Idx → EReal) (b : Fin 8192 → EReal) (d : Fin 1024) :
    ∑ i ∈ Finset.range 16, part a b i d = ∑ n : Fin 8192, a (ix2 n d) * b n := by
  rw [Finset.sum_range, sum_rows]
  rfl

/-- Blocks added one after the other from a zeroed one: after the sixteenth, the sum over all rows. -/
theorem fold_sum {α : Type} {N j : ℕ} (reset : (n : ℕ) → n < N → α) (step : (n : ℕ) → n < N → α → α) (val : α → EReal)
    (a : Cert.DwOutIdeal.S8192x1024.Idx → EReal) (b : Fin 8192 → EReal) (d : Fin 1024)
    (first : ∀ n h, n / 16 = j → val (reset n h) = part a b n d) (next : ∀ n h v, n / 16 = j → val (step n h v) = val v + part a b n d)
    (h : 16 * j + 15 < N) : val (Pipeline.accAt reset step (16 * j) 15 h) = ∑ n : Fin 8192, a (ix2 n d) * b n := by
  have main : ∀ (k : ℕ) (hk : 16 * j + k < N), k < 16 →
      val (Pipeline.accAt reset step (16 * j) k hk) = ∑ i ∈ Finset.range (k + 1), part a b i d := by
    intro k
    induction k with
    | zero =>
      intro hk _
      refine (first _ hk (by omega)).trans ((part_mod a b _ 0 d (by omega)).trans ?_)
      exact (Finset.sum_range_one (fun i => part a b i d)).symm
    | succ k ih =>
      intro hk _
      refine (next _ hk _ (by omega)).trans ?_
      rw [ih (Nat.lt_of_succ_lt hk) (by omega), part_mod a b _ (k + 1) d (by omega)]
      exact (Finset.sum_range_succ (fun i => part a b i d) (k + 1)).symm
  exact (main 15 h (by decide)).trans (parts_eq a b d)

/-! ## The transposed projections at an index -/

section Stacked
open Cert.DwInRefIdeal Cert.DwInRefIdeal.Gen

def stacked {F : FTy → Type} [FloatOps F] (a : FVec F S8192x1024 .bf16) (b : FVec F S8192x9216 .bf16) : FVec F S8x1024x1152 .f32 :=
  transpose S8x1024x1152 [1, 0, 2] (shapeCast S1024x8x1152 (transpose S1024x9216 [1, 0]
    (Host.dotGeneral dot_S8192x9216_S8192x1024_S9216x1024_0_0_1_1_n_n none (extf .f32 b bitsLt_bf16_f32) (extf .f32 a bitsLt_bf16_f32))
    transposes_S9216x1024_S1024x9216_1_0) shapeCasts_S1024x9216_S1024x8x1152) transposes_S1024x8x1152_S8x1024x1152_1_0_2

theorem stacked_apply (a : FVec Ideal S8192x1024 .bf16) (b : FVec Ideal S8192x9216 .bf16) (j : Fin 8) (d : Fin 1024) (q : Fin 1152) :
    stacked (F := Ideal) a b (ix3 j d q) = ∑ n : Fin 8192, (a (ix2 n d) : EReal) * (b (ix2 n (col j q)) : EReal) := by
  unfold stacked
  simp only [pointwise]
  refine (zero_add _).trans (Fintype.sum_congr _ _ fun n => (mul_comm _ _).trans ?_)
  rw [show (⟨j.val * 1152 + q.val, by omega⟩ : Fin 9216) = col j q from Fin.ext (by show j.val * 1152 + q.val = 1152 * j.val + q.val; omega)]

end Stacked

section Wide
open Cert.DwOutRefIdeal Cert.DwOutRefIdeal.Gen

def wide {F : FTy → Type} [FloatOps F] (a : FVec F S8192x1024 .bf16) (b : FVec F S8192x1024 .f32) : FVec F S1024x1024 .f32 :=
  transpose S1024x1024 [1, 0] (Host.dotGeneral dot_S8192x1024_S8192x1024_S1024x1024_0_0_1_1_n_n none b (extf .f32 a bitsLt_bf16_f32))
    transposes_S1024x1024_S1024x1024_1_0

theorem wide_apply (a : FVec Ideal S8192x1024 .bf16) (b : FVec Ideal S8192x1024 .f32) (d q : Fin 1024) :
    wide (F := Ideal) a b (ix2 d q) = ∑ n : Fin 8192, (a (ix2 n d) : EReal) * (b (ix2 n q) : EReal) := by
  unfold wide
  simp only [pointwise]
  exact (zero_add _).trans (Fintype.sum_congr _ _ fun n => mul_comm _ _)

end Wide

section Narrow
open Cert.DwARefIdeal Cert.DwARefIdeal.Gen

def narrow {F : FTy → Type} [FloatOps F] (a b : FVec F S8192x1024 .bf16) : FVec F S1024x1024 .f32 :=
  transpose S1024x1024 [1, 0] (Host.dotGeneral dot_S8192x1024_S8192x1024_S1024x1024_0_0_1_1_n_n none (extf .f32 b bitsLt_bf16_f32)
    (extf .f32 a bitsLt_bf16_f32)) transposes_S1024x1024_S1024x1024_1_0

theorem narrow_apply (a b : FVec Ideal S8192x1024 .bf16) (d q : Fin 1024) :
    narrow (F := Ideal) a b (ix2 d q) = ∑ n : Fin 8192, (a (ix2 n d) : EReal) * (b (ix2 n q) : EReal) := by
  unfold narrow
  simp only [pointwise]
  exact (zero_add _).trans (Fintype.sum_congr _ _ fun n => mul_comm _ _)

end Narrow

/-! ## `DwIn` -/

namespace DwIn

open Cert.DwInIdeal Cert.DwInIdeal.Gen Cert.DwInIdeal.Value

theorem product_apply (v3 : Vec Ideal S1x1024x1152 .f32) (v5 : Vec Ideal S512x1024 .bf16) (v6 : Vec Ideal S512x1152 .bf16) (d : Fin 1024) (q : Fin 1152) :
    k0_pay2 (F := Ideal) v3 v5 v6 (ix3 0 d q) = (v3 (ix3 0 d q) : EReal) + ∑ r : Fin 512, (v5 (ix2 r d) : EReal) * (v6 (ix2 r q) : EReal) := by
  unfold k0_pay2
  simp only [pointwise]
  exact congrArg (_ + ·) (zero_add _)

theorem zero_block (i : S1x1024x1152.Idx) : k0_pay1 (F := Ideal) i = (0 : EReal) := Ideal.ofBits_zero_f32

variable (m : (ℓ : Loc nD τ sig) → Buf (Elt Ideal) ℓ) (c : Dev nD)

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = t.val / 16 :=
  (by decide +kernel : ∀ t : Fin grid0.N, _)

abbrev argA : S8192x1024.Idx → EReal := m ((c : Thread nD τ).loc main_arg0)
abbrev argB : S8192x9216.Idx → EReal := m ((c : Thread nD τ).loc main_arg1)

theorem read0 (t : Fin cfg0.N) (r : Fin 512) (d : Fin 1024) :
    (iblk m c 0 t : S512x1024.Idx → EReal) (ix2 r d) = argA m c (ix2 (rowAt t.val r) d) := by
  show m ((c : Thread nD τ).loc main_arg0) (((cfg0.win 0).blk t).view.emb (ix2 r d)) = _
  obtain ⟨h0, h1⟩ := idx0 t
  refine congrArg (m ((c : Thread nD τ).loc main_arg0)) (funext fun ax => Fin.ext ?_)
  match ax with
  | ⟨0, _⟩ => show win0_0.index t (0 : Fin 2) * 512 + 1 * r.val = 512 * (t.val % 16) + r.val; omega
  | ⟨1, _⟩ => show win0_0.index t (1 : Fin 2) * 1024 + 1 * d.val = d.val; omega

theorem read1 (t : Fin cfg0.N) (j : Fin 8) (h : t.val / 16 = j.val) (r : Fin 512) (q : Fin 1152) :
    (iblk m c 1 t : S512x1152.Idx → EReal) (ix2 r q) = argB m c (ix2 (rowAt t.val r) (col j q)) := by
  show m ((c : Thread nD τ).loc main_arg1) (((cfg0.win 1).blk t).view.emb (ix2 r q)) = _
  obtain ⟨h0, h1⟩ := idx1 t
  refine congrArg (m ((c : Thread nD τ).loc main_arg1)) (funext fun ax => Fin.ext ?_)
  match ax with
  | ⟨0, _⟩ => show win0_1.index t (0 : Fin 2) * 512 + 1 * r.val = 512 * (t.val % 16) + r.val; omega
  | ⟨1, _⟩ => show win0_1.index t (1 : Fin 2) * 1152 + 1 * q.val = 1152 * j.val + q.val; omega

theorem step_apply (j : Fin 8) (n : ℕ) (hn : n < cfg0.N) (h : n / 16 = j.val) (v : Vec Ideal S1x1024x1152 .f32) (d : Fin 1024) (q : Fin 1152) :
    k0_pay2 (F := Ideal) v (iblk m c 0 ⟨n, hn⟩) (iblk m c 1 ⟨n, hn⟩) (ix3 0 d q)
      = (v (ix3 0 d q) : EReal) + part (argA m c) (fun r => argB m c (ix2 r (col j q))) n d := by
  rw [product_apply]
  refine congrArg ((v (ix3 0 d q) : EReal) + ·) (Fintype.sum_congr _ _ fun r => ?_)
  rw [read0 m c ⟨n, hn⟩ r d, read1 m c ⟨n, hn⟩ j h r q]

theorem grad_apply (j : Fin 8) (d : Fin 1024) (q : Fin 1152) :
    G2 m c (ix3 j d q) = ∑ n : Fin 8192, argA m c (ix2 n d) * argB m c (ix2 n (col j q)) := by
  have hd := d.isLt
  have hq := q.isLt
  have hp : ∀ k, k = run2Of (ix3 j d q) → k = j.val := fun k e => by
    rw [e]
    show 1 * (j.val / 1 - 0) + 1 * (d.val / 1024 - 0) + 1 * (q.val / 1152 - 0) = _
    omega
  have hl : loc2Of (ix3 j d q) = ix3 0 d q := by
    funext a; apply Fin.ext
    match a with
    | ⟨0, _⟩ => show j.val % 1 = 0; omega
    | ⟨1, _⟩ => show d.val % 1024 = d.val; omega
    | ⟨2, _⟩ => show q.val % 1152 = q.val; omega
  unfold G2
  rw [hl]
  generalize hk : run2Of (ix3 j d q) = k
  obtain rfl := hp k hk.symm
  rw [dif_pos (lt_of_lt_of_eq (by omega) N_0.symm)]
  exact fold_sum (reset2 m c) (step2 m c) (fun v => (v (ix3 0 d q) : EReal)) (argA m c) (fun r => argB m c (ix2 r (col j q))) d
    (fun n hn h => (step_apply m c j n hn h _ d q).trans (by rw [zero_block, zero_add])) (fun n hn v h => step_apply m c j n hn h v d q) _

theorem same_values : Cert.algebraic_DwInIdeal_DwInRefIdeal := by
  intro m g m' g' _ hag
  refine ⟨_, Cert.DwInIdeal.Value.run (F := Ideal) m g, ?_⟩
  refine (θ_run Cert.DwInRefIdeal.defs _ _).mono (fun r h c => ?_) (Cert.DwInRefIdeal.Value.run (F := Ideal) m' g')
  obtain ⟨e0, e1⟩ := hag c
  obtain ⟨h0, hk⟩ := h c
  suffices e : Cert.Products.stacked (F := Ideal) (m' ((c.tc : Thread Cert.DwInRefIdeal.nD Cert.DwInRefIdeal.τ).loc Cert.DwInRefIdeal.main_arg0))
      (m' ((c.tc : Thread Cert.DwInRefIdeal.nD Cert.DwInRefIdeal.τ).loc Cert.DwInRefIdeal.main_arg1)) = G2 m c from ⟨h0.trans e, hk⟩
  funext i
  obtain ⟨j, d, q, rfl⟩ : ∃ (j : Fin 8) (d : Fin 1024) (q : Fin 1152), i = ix3 j d q :=
    ⟨i 0, i 1, i 2, by funext a; match a with | ⟨0, _⟩ => rfl | ⟨1, _⟩ => rfl | ⟨2, _⟩ => rfl⟩
  refine (Cert.Products.stacked_apply _ _ j d q).trans ?_
  rw [e0, e1]
  exact (grad_apply m c j d q).symm

theorem frame_kernel : Cert.quiescent_DwIn := fun m ρ _ => Cert.DwIn.Gen.frame (F := Bits) m ρ
theorem frame_ideal : Cert.quiescent_DwInIdeal := fun m ρ _ => Cert.DwInIdeal.Gen.frame (F := Ideal) m ρ
theorem frame_reference : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

end DwIn

/-! ## `DwOut` -/

namespace DwOut

open Cert.DwOutIdeal Cert.DwOutIdeal.Gen Cert.DwOutIdeal.Value

theorem product_apply (v3 : Vec Ideal S1024x1024 .f32) (v5 : Vec Ideal S512x1024 .bf16) (v6 : Vec Ideal S512x1024 .f32) (d q : Fin 1024) :
    k0_pay2 (F := Ideal) v3 v5 v6 (ix2 d q) = (v3 (ix2 d q) : EReal) + ∑ r : Fin 512, (v5 (ix2 r d) : EReal) * (v6 (ix2 r q) : EReal) := by
  unfold k0_pay2
  simp only [pointwise]
  exact congrArg (_ + ·) (zero_add _)

theorem zero_block (i : S1024x1024.Idx) : k0_pay1 (F := Ideal) i = (0 : EReal) := Ideal.ofBits_zero_f32

variable (m : (ℓ : Loc nD τ sig) → Buf (Elt Ideal) ℓ) (c : Dev nD)

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = t.val / 16 :=
  (by decide +kernel : ∀ t : Fin grid0.N, _)

abbrev argA : S8192x1024.Idx → EReal := m ((c : Thread nD τ).loc main_arg0)
abbrev argB : S8192x1024.Idx → EReal := m ((c : Thread nD τ).loc main_arg1)

theorem read0 (t : Fin cfg0.N) (r : Fin 512) (d : Fin 1024) :
    (iblk m c 0 t : S512x1024.Idx → EReal) (ix2 r d) = argA m c (ix2 (rowAt t.val r) d) := by
  show m ((c : Thread nD τ).loc main_arg0) (((cfg0.win 0).blk t).view.emb (ix2 r d)) = _
  obtain ⟨h0, h1⟩ := idx0 t
  refine congrArg (m ((c : Thread nD τ).loc main_arg0)) (funext fun ax => Fin.ext ?_)
  match ax with
  | ⟨0, _⟩ => show win0_0.index t (0 : Fin 2) * 512 + 1 * r.val = 512 * (t.val % 16) + r.val; omega
  | ⟨1, _⟩ => show win0_0.index t (1 : Fin 2) * 1024 + 1 * d.val = d.val; omega

theorem read1 (t : Fin cfg0.N) (r : Fin 512) (q : Fin 1024) :
    (iblk m c 1 t : S512x1024.Idx → EReal) (ix2 r q) = argB m c (ix2 (rowAt t.val r) q) := by
  show m ((c : Thread nD τ).loc main_arg1) (((cfg0.win 1).blk t).view.emb (ix2 r q)) = _
  obtain ⟨h0, h1⟩ := idx1 t
  have ht : t.val < 16 := lt_of_lt_of_eq t.isLt N_0
  refine congrArg (m ((c : Thread nD τ).loc main_arg1)) (funext fun ax => Fin.ext ?_)
  match ax with
  | ⟨0, _⟩ => show win0_1.index t (0 : Fin 2) * 512 + 1 * r.val = 512 * (t.val % 16) + r.val; omega
  | ⟨1, _⟩ => show win0_1.index t (1 : Fin 2) * 1024 + 1 * q.val = q.val; omega

theorem step_apply (n : ℕ) (hn : n < cfg0.N) (v : Vec Ideal S1024x1024 .f32) (d q : Fin 1024) :
    k0_pay2 (F := Ideal) v (iblk m c 0 ⟨n, hn⟩) (iblk m c 1 ⟨n, hn⟩) (ix2 d q)
      = (v (ix2 d q) : EReal) + part (argA m c) (fun r => argB m c (ix2 r q)) n d := by
  rw [product_apply]
  refine congrArg ((v (ix2 d q) : EReal) + ·) (Fintype.sum_congr _ _ fun r => ?_)
  rw [read0 m c ⟨n, hn⟩ r d, read1 m c ⟨n, hn⟩ r q]

theorem grad_apply (d q : Fin 1024) : G2 m c (ix2 d q) = ∑ n : Fin 8192, argA m c (ix2 n d) * argB m c (ix2 n q) := by
  have hd := d.isLt
  have hq := q.isLt
  have hp : ∀ k, k = run2Of (ix2 d q) → k = 0 := fun k e => by
    rw [e]
    show 1 * (d.val / 1024 - 0) + 1 * (q.val / 1024 - 0) = _
    omega
  have hl : loc2Of (ix2 d q) = ix2 d q := by
    funext a; apply Fin.ext
    match a with
    | ⟨0, _⟩ => show d.val % 1024 = d.val; omega
    | ⟨1, _⟩ => show q.val % 1024 = q.val; omega
  unfold G2
  rw [hl]
  generalize hk : run2Of (ix2 d q) = k
  obtain rfl := hp k hk.symm
  rw [dif_pos (lt_of_lt_of_eq (by omega) N_0.symm)]
  exact fold_sum (j := 0) (reset2 m c) (step2 m c) (fun v => (v (ix2 d q) : EReal)) (argA m c) (fun r => argB m c (ix2 r q)) d
    (fun n hn _ => (step_apply m c n hn _ d q).trans (by rw [zero_block, zero_add])) (fun n hn v _ => step_apply m c n hn v d q)
    (lt_of_lt_of_eq (by omega) N_0.symm)

theorem same_values : Cert.algebraic_DwOutIdeal_DwOutRefIdeal := by
  intro m g m' g' _ hag
  refine ⟨_, Cert.DwOutIdeal.Value.run (F := Ideal) m g, ?_⟩
  refine (θ_run Cert.DwOutRefIdeal.defs _ _).mono (fun r h c => ?_) (Cert.DwOutRefIdeal.Value.run (F := Ideal) m' g')
  obtain ⟨e0, e1⟩ := hag c
  obtain ⟨h0, hk⟩ := h c
  suffices e : Cert.Products.wide (F := Ideal) (m' ((c.tc : Thread Cert.DwOutRefIdeal.nD Cert.DwOutRefIdeal.τ).loc Cert.DwOutRefIdeal.main_arg0))
      (m' ((c.tc : Thread Cert.DwOutRefIdeal.nD Cert.DwOutRefIdeal.τ).loc Cert.DwOutRefIdeal.main_arg1)) = G2 m c from ⟨h0.trans e, hk⟩
  funext i
  obtain ⟨d, q, rfl⟩ : ∃ d q : Fin 1024, i = ix2 d q := ⟨i 0, i 1, by funext a; match a with | ⟨0, _⟩ => rfl | ⟨1, _⟩ => rfl⟩
  refine (Cert.Products.wide_apply _ _ d q).trans ?_
  rw [e0, e1]
  exact (grad_apply m c d q).symm

theorem frame_kernel : Cert.quiescent_DwOut := fun m ρ _ => Cert.DwOut.Gen.frame (F := Bits) m ρ
theorem frame_ideal : Cert.quiescent_DwOutIdeal := fun m ρ _ => Cert.DwOutIdeal.Gen.frame (F := Ideal) m ρ
theorem frame_reference : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

end DwOut

/-! ## `DwA` -/

namespace DwA

open Cert.DwAIdeal Cert.DwAIdeal.Gen Cert.DwAIdeal.Value

theorem product_apply (v3 : Vec Ideal S1024x1024 .f32) (v5 : Vec Ideal S512x1024 .bf16) (v6 : Vec Ideal S512x1024 .bf16) (d q : Fin 1024) :
    k0_pay2 (F := Ideal) v3 v5 v6 (ix2 d q) = (v3 (ix2 d q) : EReal) + ∑ r : Fin 512, (v5 (ix2 r d) : EReal) * (v6 (ix2 r q) : EReal) := by
  unfold k0_pay2
  simp only [pointwise]
  exact congrArg (_ + ·) (zero_add _)

theorem zero_block (i : S1024x1024.Idx) : k0_pay1 (F := Ideal) i = (0 : EReal) := Ideal.ofBits_zero_f32

variable (m : (ℓ : Loc nD τ sig) → Buf (Elt Ideal) ℓ) (c : Dev nD)

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = t.val / 16 :=
  (by decide +kernel : ∀ t : Fin grid0.N, _)

abbrev argA : S8192x1024.Idx → EReal := m ((c : Thread nD τ).loc main_arg0)
abbrev argB : S8192x1024.Idx → EReal := m ((c : Thread nD τ).loc main_arg1)

theorem read0 (t : Fin cfg0.N) (r : Fin 512) (d : Fin 1024) :
    (iblk m c 0 t : S512x1024.Idx → EReal) (ix2 r d) = argA m c (ix2 (rowAt t.val r) d) := by
  show m ((c : Thread nD τ).loc main_arg0) (((cfg0.win 0).blk t).view.emb (ix2 r d)) = _
  obtain ⟨h0, h1⟩ := idx0 t
  refine congrArg (m ((c : Thread nD τ).loc main_arg0)) (funext fun ax => Fin.ext ?_)
  match ax with
  | ⟨0, _⟩ => show win0_0.index t (0 : Fin 2) * 512 + 1 * r.val = 512 * (t.val % 16) + r.val; omega
  | ⟨1, _⟩ => show win0_0.index t (1 : Fin 2) * 1024 + 1 * d.val = d.val; omega

theorem read1 (t : Fin cfg0.N) (r : Fin 512) (q : Fin 1024) :
    (iblk m c 1 t : S512x1024.Idx → EReal) (ix2 r q) = argB m c (ix2 (rowAt t.val r) q) := by
  show m ((c : Thread nD τ).loc main_arg1) (((cfg0.win 1).blk t).view.emb (ix2 r q)) = _
  obtain ⟨h0, h1⟩ := idx1 t
  have ht : t.val < 16 := lt_of_lt_of_eq t.isLt N_0
  refine congrArg (m ((c : Thread nD τ).loc main_arg1)) (funext fun ax => Fin.ext ?_)
  match ax with
  | ⟨0, _⟩ => show win0_1.index t (0 : Fin 2) * 512 + 1 * r.val = 512 * (t.val % 16) + r.val; omega
  | ⟨1, _⟩ => show win0_1.index t (1 : Fin 2) * 1024 + 1 * q.val = q.val; omega

theorem step_apply (n : ℕ) (hn : n < cfg0.N) (v : Vec Ideal S1024x1024 .f32) (d q : Fin 1024) :
    k0_pay2 (F := Ideal) v (iblk m c 0 ⟨n, hn⟩) (iblk m c 1 ⟨n, hn⟩) (ix2 d q)
      = (v (ix2 d q) : EReal) + part (argA m c) (fun r => argB m c (ix2 r q)) n d := by
  rw [product_apply]
  refine congrArg ((v (ix2 d q) : EReal) + ·) (Fintype.sum_congr _ _ fun r => ?_)
  rw [read0 m c ⟨n, hn⟩ r d, read1 m c ⟨n, hn⟩ r q]

theorem grad_apply (d q : Fin 1024) : G2 m c (ix2 d q) = ∑ n : Fin 8192, argA m c (ix2 n d) * argB m c (ix2 n q) := by
  have hd := d.isLt
  have hq := q.isLt
  have hp : ∀ k, k = run2Of (ix2 d q) → k = 0 := fun k e => by
    rw [e]
    show 1 * (d.val / 1024 - 0) + 1 * (q.val / 1024 - 0) = _
    omega
  have hl : loc2Of (ix2 d q) = ix2 d q := by
    funext a; apply Fin.ext
    match a with
    | ⟨0, _⟩ => show d.val % 1024 = d.val; omega
    | ⟨1, _⟩ => show q.val % 1024 = q.val; omega
  unfold G2
  rw [hl]
  generalize hk : run2Of (ix2 d q) = k
  obtain rfl := hp k hk.symm
  rw [dif_pos (lt_of_lt_of_eq (by omega) N_0.symm)]
  exact fold_sum (j := 0) (reset2 m c) (step2 m c) (fun v => (v (ix2 d q) : EReal)) (argA m c) (fun r => argB m c (ix2 r q)) d
    (fun n hn _ => (step_apply m c n hn _ d q).trans (by rw [zero_block, zero_add])) (fun n hn v _ => step_apply m c n hn v d q)
    (lt_of_lt_of_eq (by omega) N_0.symm)

theorem same_values : Cert.algebraic_DwAIdeal_DwARefIdeal := by
  intro m g m' g' _ hag
  refine ⟨_, Cert.DwAIdeal.Value.run (F := Ideal) m g, ?_⟩
  refine (θ_run Cert.DwARefIdeal.defs _ _).mono (fun r h c => ?_) (Cert.DwARefIdeal.Value.run (F := Ideal) m' g')
  obtain ⟨e0, e1⟩ := hag c
  obtain ⟨h0, hk⟩ := h c
  suffices e : Cert.Products.narrow (F := Ideal) (m' ((c.tc : Thread Cert.DwARefIdeal.nD Cert.DwARefIdeal.τ).loc Cert.DwARefIdeal.main_arg0))
      (m' ((c.tc : Thread Cert.DwARefIdeal.nD Cert.DwARefIdeal.τ).loc Cert.DwARefIdeal.main_arg1)) = G2 m c from ⟨h0.trans e, hk⟩
  funext i
  obtain ⟨d, q, rfl⟩ : ∃ d q : Fin 1024, i = ix2 d q := ⟨i 0, i 1, by funext a; match a with | ⟨0, _⟩ => rfl | ⟨1, _⟩ => rfl⟩
  refine (Cert.Products.narrow_apply _ _ d q).trans ?_
  rw [e0, e1]
  exact (grad_apply m c d q).symm

theorem frame_kernel : Cert.quiescent_DwA := fun m ρ _ => Cert.DwA.Gen.frame (F := Bits) m ρ
theorem frame_ideal : Cert.quiescent_DwAIdeal := fun m ρ _ => Cert.DwAIdeal.Gen.frame (F := Ideal) m ρ
theorem frame_reference : Cert.quiescent_DwARefIdeal := fun m ρ _ =>
  (θ_run Cert.DwARefIdeal.defs _ _).mono (fun r h => ⟨fun c => (h c).2, sem_eq_zero_of_no_sems (by decide) r.2⟩)
    (Cert.DwARefIdeal.Value.run (F := Ideal) m ρ)

end DwA

/-! ## `DwB` -/

namespace DwB

open Cert.DwBIdeal Cert.DwBIdeal.Gen Cert.DwBIdeal.Value

theorem product_apply (v3 : Vec Ideal S1024x1024 .f32) (v5 : Vec Ideal S512x1024 .bf16) (v6 : Vec Ideal S512x1024 .bf16) (d q : Fin 1024) :
    k0_pay2 (F := Ideal) v3 v5 v6 (ix2 d q) = (v3 (ix2 d q) : EReal) + ∑ r : Fin 512, (v5 (ix2 r d) : EReal) * (v6 (ix2 r q) : EReal) := by
  unfold k0_pay2
  simp only [pointwise]
  exact congrArg (_ + ·) (zero_add _)

theorem zero_block (i : S1024x1024.Idx) : k0_pay1 (F := Ideal) i = (0 : EReal) := Ideal.ofBits_zero_f32

variable (m : (ℓ : Loc nD τ sig) → Buf (Elt Ideal) ℓ) (c : Dev nD)

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = t.val / 16 :=
  (by decide +kernel : ∀ t : Fin grid0.N, _)

abbrev argA : S8192x1024.Idx → EReal := m ((c : Thread nD τ).loc main_arg0)
abbrev argB : S8192x1024.Idx → EReal := m ((c : Thread nD τ).loc main_arg1)

theorem read0 (t : Fin cfg0.N) (r : Fin 512) (d : Fin 1024) :
    (iblk m c 0 t : S512x1024.Idx → EReal) (ix2 r d) = argA m c (ix2 (rowAt t.val r) d) := by
  show m ((c : Thread nD τ).loc main_arg0) (((cfg0.win 0).blk t).view.emb (ix2 r d)) = _
  obtain ⟨h0, h1⟩ := idx0 t
  refine congrArg (m ((c : Thread nD τ).loc main_arg0)) (funext fun ax => Fin.ext ?_)
  match ax with
  | ⟨0, _⟩ => show win0_0.index t (0 : Fin 2) * 512 + 1 * r.val = 512 * (t.val % 16) + r.val; omega
  | ⟨1, _⟩ => show win0_0.index t (1 : Fin 2) * 1024 + 1 * d.val = d.val; omega

theorem read1 (t : Fin cfg0.N) (r : Fin 512) (q : Fin 1024) :
    (iblk m c 1 t : S512x1024.Idx → EReal) (ix2 r q) = argB m c (ix2 (rowAt t.val r) q) := by
  show m ((c : Thread nD τ).loc main_arg1) (((cfg0.win 1).blk t).view.emb (ix2 r q)) = _
  obtain ⟨h0, h1⟩ := idx1 t
  have ht : t.val < 16 := lt_of_lt_of_eq t.isLt N_0
  refine congrArg (m ((c : Thread nD τ).loc main_arg1)) (funext fun ax => Fin.ext ?_)
  match ax with
  | ⟨0, _⟩ => show win0_1.index t (0 : Fin 2) * 512 + 1 * r.val = 512 * (t.val % 16) + r.val; omega
  | ⟨1, _⟩ => show win0_1.index t (1 : Fin 2) * 1024 + 1 * q.val = q.val; omega

theorem step_apply (n : ℕ) (hn : n < cfg0.N) (v : Vec Ideal S1024x1024 .f32) (d q : Fin 1024) :
    k0_pay2 (F := Ideal) v (iblk m c 0 ⟨n, hn⟩) (iblk m c 1 ⟨n, hn⟩) (ix2 d q)
      = (v (ix2 d q) : EReal) + part (argA m c) (fun r => argB m c (ix2 r q)) n d := by
  rw [product_apply]
  refine congrArg ((v (ix2 d q) : EReal) + ·) (Fintype.sum_congr _ _ fun r => ?_)
  rw [read0 m c ⟨n, hn⟩ r d, read1 m c ⟨n, hn⟩ r q]

theorem grad_apply (d q : Fin 1024) : G2 m c (ix2 d q) = ∑ n : Fin 8192, argA m c (ix2 n d) * argB m c (ix2 n q) := by
  have hd := d.isLt
  have hq := q.isLt
  have hp : ∀ k, k = run2Of (ix2 d q) → k = 0 := fun k e => by
    rw [e]
    show 1 * (d.val / 1024 - 0) + 1 * (q.val / 1024 - 0) = _
    omega
  have hl : loc2Of (ix2 d q) = ix2 d q := by
    funext a; apply Fin.ext
    match a with
    | ⟨0, _⟩ => show d.val % 1024 = d.val; omega
    | ⟨1, _⟩ => show q.val % 1024 = q.val; omega
  unfold G2
  rw [hl]
  generalize hk : run2Of (ix2 d q) = k
  obtain rfl := hp k hk.symm
  rw [dif_pos (lt_of_lt_of_eq (by omega) N_0.symm)]
  exact fold_sum (j := 0) (reset2 m c) (step2 m c) (fun v => (v (ix2 d q) : EReal)) (argA m c) (fun r => argB m c (ix2 r q)) d
    (fun n hn _ => (step_apply m c n hn _ d q).trans (by rw [zero_block, zero_add])) (fun n hn v _ => step_apply m c n hn v d q)
    (lt_of_lt_of_eq (by omega) N_0.symm)

theorem same_values : Cert.algebraic_DwBIdeal_DwBRefIdeal := by
  intro m g m' g' _ hag
  refine ⟨_, Cert.DwBIdeal.Value.run (F := Ideal) m g, ?_⟩
  refine (θ_run Cert.DwBRefIdeal.defs _ _).mono (fun r h c => ?_) (Cert.DwBRefIdeal.Value.run (F := Ideal) m' g')
  obtain ⟨e0, e1⟩ := hag c
  obtain ⟨h0, hk⟩ := h c
  suffices e : Cert.Products.narrow (F := Ideal) (m' ((c.tc : Thread Cert.DwBRefIdeal.nD Cert.DwBRefIdeal.τ).loc Cert.DwBRefIdeal.main_arg0))
      (m' ((c.tc : Thread Cert.DwBRefIdeal.nD Cert.DwBRefIdeal.τ).loc Cert.DwBRefIdeal.main_arg1)) = G2 m c from ⟨h0.trans e, hk⟩
  funext i
  obtain ⟨d, q, rfl⟩ : ∃ d q : Fin 1024, i = ix2 d q := ⟨i 0, i 1, by funext a; match a with | ⟨0, _⟩ => rfl | ⟨1, _⟩ => rfl⟩
  refine (Cert.Products.narrow_apply _ _ d q).trans ?_
  rw [e0, e1]
  exact (grad_apply m c d q).symm

theorem frame_kernel : Cert.quiescent_DwB := fun m ρ _ => Cert.DwB.Gen.frame (F := Bits) m ρ
theorem frame_ideal : Cert.quiescent_DwBIdeal := fun m ρ _ => Cert.DwBIdeal.Gen.frame (F := Ideal) m ρ
theorem frame_reference : Cert.quiescent_DwBRefIdeal := fun m ρ _ =>
  (θ_run Cert.DwBRefIdeal.defs _ _).mono (fun r h => ⟨fun c => (h c).2, sem_eq_zero_of_no_sems (by decide) r.2⟩)
    (Cert.DwBRefIdeal.Value.run (F := Ideal) m ρ)

end DwB

end Cert.Products

end
-- ==== Proof.GatingRef.lean ====
/-
  The gated causal mixing of branch A as a formula of its arguments, and the reference's array read at an index.
-/
module

public import proofs.«01_k».proof.Defs
public import Idealize.ShloMosaic.Lib.Pointwise
public import proofs.«01_k».proof.Proof.Gen.BranchARefIdeal.Run

@[expose] public section

noncomputable section

namespace Cert.Gating

open Cert.BranchARefIdeal Cert.BranchARefIdeal.Gen Cert.BranchARefIdeal.Value Idealize.ShloMosaic Idealize.ShloMosaic.TcCoe Idealize.SL.Sem

/-- The Gaussian error unit by the hyperbolic tangent, and the sigmoid unit. -/
def gelu (x : EReal) : EReal :=
  x * (Ideal.ofBits FTy.f32 0x3F000000#32 * (1 + Ideal.tanh (Ideal.ofBits FTy.f32 0x3F4C422A#32 * (x + Ideal.ofBits FTy.f32 0x3D372713#32 * (x * (x * x))))))
def silu (x : EReal) : EReal := x * Ideal.div 1 (1 + Ideal.exp (-x))

/-- An entry of a row of units, normed and scaled by the gain. -/
def normed (v : Fin 1024 → EReal) (gain : EReal) (d : Fin 1024) : EReal :=
  gelu (v d) * Ideal.rsqrt (Ideal.div (∑ k, gelu (v k) * gelu (v k)) (Ideal.ofBits FTy.f32 0x44800000#32) + Ideal.ofBits FTy.f32 0x358637BD#32) * gain

/-- The group of a column, the place of a row in its chunk, and the row at a place of the same chunk. -/
abbrev group (d : Fin 1024) : Fin 8 := ⟨d.val / 128, by omega⟩
abbrev place {k : ℕ} (n : Fin (128 * k)) : Fin 128 := ⟨n.val % 128, by omega⟩
abbrev mate {k : ℕ} (n : Fin (128 * k)) (s : Fin 128) : Fin (128 * k) := ⟨n.val / 128 * 128 + s.val, by omega⟩

/-- A row's entry: the two gates times the chunk's rows up to this one, weighted, and the offset. -/
def mixed {k : ℕ} (p : EReal) (v : Fin (128 * k) → EReal) (w : S8x128x128.Idx → EReal) (b : S8x128x1.Idx → EReal) (n : Fin (128 * k)) (d : Fin 1024) : EReal :=
  p * ((∑ s : Fin 128, if s.val ≤ (place n).val then w (ix3 (group d) (place n) s) * v (mate n s) else 0) + b (ix3 (group d) (place n) 0))

theorem select_eq (p : Prop) [Decidable p] (x y : EReal) : Scalar.select (if p then 1#1 else 0#1) x y = if p then x else y := by
  split <;> rfl

variable (m : (ℓ : Loc nD τ sig) → Buf (Elt Ideal) ℓ) (c : Dev nD)

/-- The three segments of the projection. -/
abbrev segment (x : S8192x9216.Idx → EReal) (k : ℕ) (hk : k < 9) (n : Fin (128 * 64)) : Fin 1024 → EReal := fun d => x (ix2 n ⟨1024 * k + d.val, by omega⟩)

/-- An entry of the result. -/
def gated (x : S8192x9216.Idx → EReal) (g : S1x1024.Idx → EReal) (w : S8x128x128.Idx → EReal) (b : S8x128x1.Idx → EReal) (n : Fin (128 * 64)) (d : Fin 1024) : EReal :=
  mixed (gelu (segment x 0 (by decide) n d) * silu (segment x 2 (by decide) n d)) (fun r => normed (segment x 1 (by decide) r) (g (ix2 0 d)) d) w b n d

theorem mask_eq : ∀ t s : Fin 128, Scalar.select (IntOp.cmpi .sge (IntOp.addi (BitVec.ofNat 32 t.val) 0#32) (BitVec.ofNat 32 s.val)) 1#1 0#1 = if s.val ≤ t.val then 1#1 else 0#1 := by
  decide +kernel

theorem slice_apply (x : FVec Ideal S8192x9216 .f32) (k : ℕ) (hk : k < 9) (h) (r : Fin 8192) (e : Fin 1024) :
    extractStridedSlice (s := S8192x9216) S8192x1024 ![0, 1024 * k] x h (ix2 r e) = segment x k hk r e := by
  simp only [pointwise]
  refine congrArg x (funext fun ax => Fin.ext ?_)
  match ax with
  | ⟨0, _⟩ => exact zero_add _
  | ⟨1, _⟩ => rfl

theorem reference_apply (n : Fin 8192) (d : Fin 1024) :
    res_main_v57 (F := Ideal) m c (ix2 n d) = gated (m ((c.tc : Thread nD τ).loc main_arg0)) (m ((c.tc : Thread nD τ).loc main_arg1))
      (m ((c.tc : Thread nD τ).loc main_arg2)) (m ((c.tc : Thread nD τ).loc main_arg3)) n d := by
  have h0 := slice_apply (m ((c.tc : Thread nD τ).loc main_arg0)) 0 (by decide) slices_S8192x9216_S8192x1024_0_0
  have h1 := slice_apply (m ((c.tc : Thread nD τ).loc main_arg0)) 1 (by decide) slices_S8192x9216_S8192x1024_0_1024
  have h2 := slice_apply (m ((c.tc : Thread nD τ).loc main_arg0)) 2 (by decide) slices_S8192x9216_S8192x1024_0_2048
  unfold res_main_v57 gated
  generalize extractStridedSlice (s := S8192x9216) S8192x1024 ![0, 0] _ _ = u at h0 ⊢
  generalize extractStridedSlice (s := S8192x9216) S8192x1024 ![0, 1024] _ _ = v at h1 ⊢
  generalize extractStridedSlice (s := S8192x9216) S8192x1024 ![0, 2048] _ _ = z at h2 ⊢
  have hc : ∀ y : EReal, y * y * y = y * (y * y) := fun y => mul_assoc y y y
  simp only [pointwise, id_eq, zero_add, hc]
  refine (mul_right_comm (_ : EReal) _ _).trans ?_
  unfold mixed
  refine congrArg₂ (· * ·) (congrArg₂ (· * ·) (congrArg gelu (h0 n d)) (congrArg silu (h2 n d)))
    (congrArg₂ (· + ·) (Fintype.sum_congr _ _ fun s => ?_) rfl)
  refine (congrArg (fun q => Scalar.select q _ _) (mask_eq (place (k := 64) n) s)).trans ((select_eq _ _ _).trans (if_congr Iff.rfl ?_ rfl))
  exact (mul_comm (_ : EReal) _).trans (congrArg (fun q : EReal => (_ : EReal) * q) (congrArg (fun q => normed q _ d) (funext (h1 (mate (k := 64) n s)))))

end Cert.Gating

end
-- ==== Proof.GatingEnd.lean ====
/-
  What the kernel of branch A's gated mixing leaves in its array, and the claims: the body stores thirty-two blocks of
  128 × 128, each a masked group's weights times a chunk of the normed gate, offset and scaled by the two gates' product.
-/
module

public import proofs.«01_k».proof.Proof.GatingRef
public import proofs.«01_k».proof.Proof.Gen.BranchA.Frame
public import proofs.«01_k».proof.Proof.Gen.BranchAIdeal.Value
public import Idealize.ShloMosaic.Lib.Pipeline.ReadBack
public import Idealize.ShloMosaic.Adequacy
public import Idealize.ShloMosaic.Init

@[expose] public section

noncomputable section

namespace Cert.Gating

open Cert.BranchAIdeal Cert.BranchAIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window)

/-! ## One store -/

/-- The places that one store fills, and the layers of the weights and of the offsets that it uses. -/
abbrev box {k l : ℕ} (h : ∀ a, ![k, l] a + ![128, 128] a ≤ S512x1024.size a) : Rect S512x1024 := Rect.unit ![k, l] ![128, 128] h
abbrev boxW {g : ℕ} (h : ∀ a, ![g, 0, 0] a + ![1, 128, 128] a ≤ S8x128x128.size a) : Rect S8x128x128 := Rect.unit ![g, 0, 0] ![1, 128, 128] h
abbrev boxB {g : ℕ} (h : ∀ a, ![g, 0, 0] a + ![1, 128, 1] a ≤ S8x128x1.size a) : Rect S8x128x1 := Rect.unit ![g, 0, 0] ![1, 128, 1] h

/-- One entry of the block the body stores, of the gates' product `p` and the normed gate `v`. -/
def entry (p : FVec Ideal S512x1024 .f32) (v : FVec Ideal S512x1024 .bf16) (w : Vec Ideal S8x128x128 .f32) (b : Vec Ideal S8x128x1 .f32) (y : S512x1024.Idx) : EReal :=
  mixed (k := 4) (p y) (fun r => v (ix2 r (y 1))) w b (y 0) (y 1)

theorem pair_ext {a b : ℕ} {x y : Shape.Idx ⟨2, ![a, b]⟩} (h0 : (x 0).val = (y 0).val) (h1 : (x 1).val = (y 1).val) : x = y :=
  funext fun ax => Fin.ext (match ax with | ⟨0, _⟩ => h0 | ⟨1, _⟩ => h1)

theorem triple_ext {a b c : ℕ} {x y : Shape.Idx ⟨3, ![a, b, c]⟩} (h0 : (x 0).val = (y 0).val) (h1 : (x 1).val = (y 1).val) (h2 : (x 2).val = (y 2).val) : x = y :=
  funext fun ax => Fin.ext (match ax with | ⟨0, _⟩ => h0 | ⟨1, _⟩ => h1 | ⟨2, _⟩ => h2)

theorem mask_le : ∀ t s : Fin 128, IntOp.cmpi .sle (BitVec.ofNat 32 s.val) (BitVec.ofNat 32 t.val) = if s.val ≤ t.val then 1#1 else 0#1 := by
  decide +kernel

theorem piece {p : FVec Ideal S512x1024 .f32} {v : FVec Ideal S512x1024 .bf16} {w : Vec Ideal S8x128x128 .f32} {b : Vec Ideal S8x128x1 .f32} {k l : ℕ}
    (inb : ∀ a, ![k, l] a + ![128, 128] a ≤ S512x1024.size a)
    (inb4 : ∀ a, ![l / 128, 0, 0] a + ![1, 128, 128] a ≤ S8x128x128.size a) (inb5 : ∀ a, ![l / 128, 0, 0] a + ![1, 128, 1] a ≤ S8x128x1.size a)
    {P : Vec Ideal S128x128 .f32} {V : Vec Ideal S128x128 .bf16} {W : Vec Ideal S1x128x128 .f32} {B : Vec Ideal S1x128x1 .f32}
    (hP : P = View.ld (Val := Elt Ideal) (e' := .f32) p (box inb)) (hV : V = View.ld (Val := Elt Ideal) (e' := .bf16) v (box inb))
    (hW : W = View.ld (Val := Elt Ideal) (e' := .f32) w (boxW inb4)) (hB : B = View.ld (Val := Elt Ideal) (e' := .f32) b (boxB inb5))
    (hk : k % 128 = 0) (hl : l % 128 = 0) (x : (box inb).shape.Idx) :
    k0_pay8 (F := Ideal) k0_pay2 W V B P x = entry p v w b ((box inb).emb x) := by
  subst hW hV hB hP
  obtain ⟨g, rfl⟩ : ∃ g, l = 128 * g := ⟨l / 128, by omega⟩
  obtain ⟨t, q, rfl⟩ : ∃ (t q : Fin 128), x = ix2 t q := ⟨x 0, x 1, funext fun a => match a with | ⟨0, _⟩ => rfl | ⟨1, _⟩ => rfl⟩
  have hg : g < 8 := by have := inb4 0; change 128 * g / 128 + 1 ≤ 8 at this; omega
  have ht : (((box inb).emb (ix2 t q)) 0).val = k + t.val := by show k + 1 * t.val = _; omega
  have hq : (((box inb).emb (ix2 t q)) 1).val = 128 * g + q.val := by show 128 * g + 1 * q.val = _; omega
  have e1 : group (((box inb).emb (ix2 t q)) 1) = ⟨g, hg⟩ := Fin.ext (by show _ / 128 = g; omega)
  have e2 : place (k := 4) (((box inb).emb (ix2 t q)) 0) = t := Fin.ext (by show _ % 128 = t.val; omega)
  unfold k0_pay8 k0_pay7 k0_pay2 entry mixed
  rw [e1, e2]
  simp only [pointwise, zero_add, List.foldl_cons, List.foldl_nil, zero_mul]
  refine congrArg₂ (· * ·) (congrArg p (pair_ext rfl rfl)) (congrArg₂ (· + ·) (Fintype.sum_congr _ _ fun s => ?_) ?_)
  · refine (congrArg (fun q => Scalar.select q (_ : EReal) 0) (mask_le t s)).trans ((select_eq _ _ _).trans (if_congr Iff.rfl ?_ rfl))
    refine congrArg₂ (fun x y : EReal => x * y) (congrArg w (triple_ext (by show 128 * g / 128 + 1 * 0 = g; omega) (by show 0 + 1 * t.val = t.val; omega) (by show 0 + 1 * s.val = s.val; omega)))
      (congrArg v (pair_ext (by show k + 1 * s.val = (((box inb).emb (ix2 t q)) 0).val / 128 * 128 + s.val; omega) rfl))
  · exact congrArg b (triple_ext (by show 128 * g / 128 + 1 * 0 = g; omega) (by show 0 + 1 * t.val = t.val; omega) rfl)

/-! ## The body's stores -/

/-- The stores are blocks of one array. -/
theorem stores (c : Dev nD) (i : grid0.Coords) (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S1x1024 .f32) (harg4 : arg4.IsWhole)
    (arg5 : Memref sig .tc .vmem S8x128x128 .f32) (harg5 : arg5.IsWhole) (arg6 : Memref sig .tc .vmem S8x128x1 .f32) (harg6 : arg6.IsWhole)
    (arg7 : Memref sig .tc .vmem S512x1024 .bf16) (harg7 : arg7.IsWhole) (arg8 : Memref sig .tc .vmem S512x1024 .bf16) (harg8 : arg8.IsWhole)
    (arg9 : Memref sig .tc .vmem S512x1024 .f32) (harg9 : arg9.IsWhole)
    (x0 x1 x2 : Vec Ideal S512x1024 .f32) (x3 : Vec Ideal S1x1024 .f32) (x4 : Vec Ideal S8x128x128 .f32) (x5 : Vec Ideal S8x128x1 .f32) :
    View.PiecesOf (Val := Elt Ideal) (entry (k0_pay6 (F := Ideal) x0 (k0_pay4 x0) k0_pay5 x2) (k0_pay3 (F := Ideal) x1 x3) x4 x5)
      (kernelRun0_A c i arg1 harg1 arg2 harg2 arg3 harg3 arg4 harg4 arg5 harg5 arg6 harg6 arg7 harg7 arg8 harg8 arg9 harg9 x0 x1 x2 x3 x4 x5).1 := by
  have e5 : arg5.view.read (Elt Ideal) (harg5.unread x4) = x4 := harg5.read_unread x4
  have e6 : arg6.view.read (Elt Ideal) (harg6.unread x5) = x5 := harg6.read_unread x5
  have hz : (![0, 0] : Fin 2 → ℕ) = fun _ => 0 := by decide
  have e1 : arg1.view.readAt (Elt Ideal) (Rect.unit ![0, 0] S512x1024.size inb_S512x1024_S512x1024_0_0).toLoadRect (harg1.unread x0) = x0 := (View.ld_unit_zero hz _ _).trans (harg1.read_unread x0)
  have e2 : arg2.view.readAt (Elt Ideal) (Rect.unit ![0, 0] S512x1024.size inb_S512x1024_S512x1024_0_0).toLoadRect (harg2.unread x1) = x1 := (View.ld_unit_zero hz _ _).trans (harg2.read_unread x1)
  have e3 : arg3.view.readAt (Elt Ideal) (Rect.unit ![0, 0] S512x1024.size inb_S512x1024_S512x1024_0_0).toLoadRect (harg3.unread x2) = x2 := (View.ld_unit_zero hz _ _).trans (harg3.read_unread x2)
  have e4 : arg4.view.readAt (Elt Ideal) (Rect.unit ![0, 0] S1x1024.size inb_S1x1024_S1x1024_0_0).toLoadRect (harg4.unread x3) = x3 := (View.ld_unit_zero hz _ _).trans (harg4.read_unread x3)
  have hP : ∀ {k l : ℕ} (h : ∀ a, ![k, l] a + ![128, 128] a ≤ S512x1024.size a), arg9.view.readCov (kernelRun0_A.sl.HS1_1 (F := Ideal) c arg1 harg1 arg3 harg3 x0 x2) (box h).toLoadRect
      = View.ld (Val := Elt Ideal) (e' := .f32) (k0_pay6 (F := Ideal) x0 (k0_pay4 x0) k0_pay5 x2) (box h) := fun h => by
    unfold kernelRun0_A.sl.HS1_1
    rw [View.readCov_fill _ _ _ _ _ (by decide)]
    unfold kernelRun0_A.sl.r_1 kernelRun0_A.sl.r
    rw [e1, e3]
  have hV : ∀ {k l : ℕ} (h : ∀ a, ![k, l] a + ![128, 128] a ≤ S512x1024.size a), arg8.view.readCov (kernelRun0_A.sl.HS0_1 (F := Ideal) c arg2 harg2 arg4 harg4 x1 x3) (box h).toLoadRect
      = View.ld (Val := Elt Ideal) (e' := .bf16) (k0_pay3 (F := Ideal) x1 x3) (box h) := fun h => by
    unfold kernelRun0_A.sl.HS0_1
    rw [View.readCov_fill _ _ _ _ _ (by decide)]
    rw [e2, e4]
  unfold kernelRun0_A
  dsimp only
  iterate 32
    refine ⟨fun x => piece _ (by decide) (by decide) (by exact hP _) (by exact hV _)
      (by exact congrArg (fun f => View.ld (Val := Elt Ideal) (e' := .f32) f (boxW _)) e5)
      (by exact congrArg (fun f => View.ld (Val := Elt Ideal) (e' := .f32) f (boxB _)) e6) rfl rfl x, ?_⟩
  trivial

/-! ## The array -/

variable (m : (ℓ : Loc nD τ sig) → Buf (Elt Ideal) ℓ) (c : Dev nD)

/-- The contents of an output block: the entries. -/
theorem block_apply (t : Fin cfg0.N) (y : S512x1024.Idx) :
    (cfg0.win 6).cut (grid0.coords t) (outsAt0 m c t) y
      = entry (k0_pay6 (F := Ideal) (iblk m c 0 t) (k0_pay4 (iblk m c 0 t)) k0_pay5 (iblk m c 2 t)) (k0_pay3 (F := Ideal) (iblk m c 1 t) (iblk m c 3 t)) (iblk m c 4 t) (iblk m c 5 t) y := by
  show outsAt0 m c t y = _
  unfold outsAt0 out0_A_6
  have hc := cover0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) scM0_1 (Memref.isWhole_whole _) (iblk m c 0 t) (iblk m c 1 t) (iblk m c 2 t) (iblk m c 3 t) (iblk m c 4 t) (iblk m c 5 t) y
  exact (View.read_writes_apply_eq_canon _ _ y _ hc).trans (View.canon_apply_of_pieces _ _ (stores ..).mem y hc)

theorem normed_apply (v : Vec Ideal S512x1024 .f32) (g : Vec Ideal S1x1024 .f32) (r : Fin 512) (d : Fin 1024) :
    k0_pay3 (F := Ideal) v g (ix2 r d) = normed (fun e => v (ix2 r e)) (g (ix2 0 d)) d := by
  unfold k0_pay3 normed gelu
  simp only [pointwise]
  rfl

theorem product_apply (u z : Vec Ideal S512x1024 .f32) (r : Fin 512) (d : Fin 1024) :
    k0_pay6 (F := Ideal) u (k0_pay4 u) k0_pay5 z (ix2 r d) = gelu (u (ix2 r d)) * silu (z (ix2 r d)) := by
  unfold k0_pay6 k0_pay5 k0_pay4 gelu silu
  simp only [pointwise, zero_sub]

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 1 := (by decide +kernel : ∀ t : Fin grid0.N, _)
theorem idx2 : ∀ t : Fin cfg0.N, win0_2.index t (0 : Fin 2) = t.val ∧ win0_2.index t (1 : Fin 2) = 2 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 3) = 0 ∧ win0_4.index t (1 : Fin 3) = 0 ∧ win0_4.index t (2 : Fin 3) = 0 := (by decide +kernel : ∀ t : Fin grid0.N, _)
theorem idx5 : ∀ t : Fin cfg0.N, win0_5.index t (0 : Fin 3) = 0 ∧ win0_5.index t (1 : Fin 3) = 0 ∧ win0_5.index t (2 : Fin 3) = 0 := (by decide +kernel : ∀ t : Fin grid0.N, _)
theorem flushes : ∀ t : Fin cfg0.N, (cfg0.win 6).flush t = true := (by decide +kernel : ∀ t : Fin grid0.N, _)

/-- A row of the whole array at its place in a point's block. -/
abbrev rowOf (t : Fin cfg0.N) (r : Fin 512) : Fin 8192 := ⟨512 * t.val + r.val, by have : t.val < 16 := lt_of_lt_of_eq t.isLt N_0; omega⟩

/-- The four arguments. -/
abbrev argX : S8192x9216.Idx → EReal := m ((c : Thread nD τ).loc main_arg0)
abbrev argG : S1x1024.Idx → EReal := m ((c : Thread nD τ).loc main_arg1)
abbrev argW : S8x128x128.Idx → EReal := m ((c : Thread nD τ).loc main_arg2)
abbrev argB : S8x128x1.Idx → EReal := m ((c : Thread nD τ).loc main_arg3)

theorem read0 (t : Fin cfg0.N) (r : Fin 512) (e : Fin 1024) : (iblk m c 0 t : S512x1024.Idx → EReal) (ix2 r e) = segment (argX m c) 0 (by decide) (rowOf t r) e := by
  obtain ⟨h0, h1⟩ := idx0 t
  exact congrArg (argX m c) (pair_ext (by show win0_0.index t (0 : Fin 2) * 512 + 1 * r.val = 512 * t.val + r.val; omega)
    (by show win0_0.index t (1 : Fin 2) * 1024 + 1 * e.val = 1024 * 0 + e.val; omega))
theorem read1 (t : Fin cfg0.N) (r : Fin 512) (e : Fin 1024) : (iblk m c 1 t : S512x1024.Idx → EReal) (ix2 r e) = segment (argX m c) 1 (by decide) (rowOf t r) e := by
  obtain ⟨h0, h1⟩ := idx1 t
  exact congrArg (argX m c) (pair_ext (by show win0_1.index t (0 : Fin 2) * 512 + 1 * r.val = 512 * t.val + r.val; omega)
    (by show win0_1.index t (1 : Fin 2) * 1024 + 1 * e.val = 1024 * 1 + e.val; omega))
theorem read2 (t : Fin cfg0.N) (r : Fin 512) (e : Fin 1024) : (iblk m c 2 t : S512x1024.Idx → EReal) (ix2 r e) = segment (argX m c) 2 (by decide) (rowOf t r) e := by
  obtain ⟨h0, h1⟩ := idx2 t
  exact congrArg (argX m c) (pair_ext (by show win0_2.index t (0 : Fin 2) * 512 + 1 * r.val = 512 * t.val + r.val; omega)
    (by show win0_2.index t (1 : Fin 2) * 1024 + 1 * e.val = 1024 * 2 + e.val; omega))
theorem read3 (t : Fin cfg0.N) (e : Fin 1024) : (iblk m c 3 t : S1x1024.Idx → EReal) (ix2 0 e) = argG m c (ix2 0 e) := by
  obtain ⟨h0, h1⟩ := idx3 t
  exact congrArg (argG m c) (pair_ext (by show win0_3.index t (0 : Fin 2) * 1 + 1 * 0 = 0; omega) (by show win0_3.index t (1 : Fin 2) * 1024 + 1 * e.val = e.val; omega))
theorem read4 (t : Fin cfg0.N) (g : Fin 8) (a s : Fin 128) : (iblk m c 4 t : S8x128x128.Idx → EReal) (ix3 g a s) = argW m c (ix3 g a s) := by
  obtain ⟨h0, h1, h2⟩ := idx4 t
  exact congrArg (argW m c) (triple_ext (by show win0_4.index t (0 : Fin 3) * 8 + 1 * g.val = g.val; omega)
    (by show win0_4.index t (1 : Fin 3) * 128 + 1 * a.val = a.val; omega) (by show win0_4.index t (2 : Fin 3) * 128 + 1 * s.val = s.val; omega))
theorem read5 (t : Fin cfg0.N) (g : Fin 8) (a : Fin 128) : (iblk m c 5 t : S8x128x1.Idx → EReal) (ix3 g a 0) = argB m c (ix3 g a 0) := by
  obtain ⟨h0, h1, h2⟩ := idx5 t
  exact congrArg (argB m c) (triple_ext (by show win0_5.index t (0 : Fin 3) * 8 + 1 * g.val = g.val; omega)
    (by show win0_5.index t (1 : Fin 3) * 128 + 1 * a.val = a.val; omega) (by show win0_5.index t (2 : Fin 3) * 1 + 1 * 0 = 0; omega))

theorem entry_gated (t : Fin cfg0.N) (r : Fin 512) (d : Fin 1024) :
    entry (k0_pay6 (F := Ideal) (iblk m c 0 t) (k0_pay4 (iblk m c 0 t)) k0_pay5 (iblk m c 2 t)) (k0_pay3 (F := Ideal) (iblk m c 1 t) (iblk m c 3 t)) (iblk m c 4 t) (iblk m c 5 t) (ix2 r d)
      = gated (argX m c) (argG m c) (argW m c) (argB m c) (rowOf t r) d := by
  have hp : place (k := 64) (rowOf t r) = place (k := 4) r := Fin.ext (by show (512 * t.val + r.val) % 128 = r.val % 128; omega)
  have hm : ∀ s, mate (k := 64) (rowOf t r) s = rowOf t (mate (k := 4) r s) := fun s => Fin.ext (by
    show (512 * t.val + r.val) / 128 * 128 + s.val = 512 * t.val + (r.val / 128 * 128 + s.val); omega)
  unfold entry gated mixed
  rw [hp]
  refine congrArg₂ (fun x y : EReal => x * y) ((product_apply _ _ r d).trans (congrArg₂ (fun x y : EReal => x * y) (congrArg gelu (read0 m c t r d)) (congrArg silu (read2 m c t r d))))
    (congrArg₂ (fun x y : EReal => x + y) (Fintype.sum_congr _ _ fun s => if_congr Iff.rfl ?_ rfl) (read5 m c t (group d) (place (k := 4) r)))
  refine congrArg₂ (fun x y : EReal => x * y) (read4 m c t (group d) (place (k := 4) r) s) ((normed_apply _ _ (mate (k := 4) r s) d).trans ?_)
  rw [hm]
  exact congrArg₂ (fun x y => normed x y d) (funext (read1 m c t (mate (k := 4) r s))) (read3 m c t d)

theorem array_apply (n : Fin 8192) (d : Fin 1024) :
    ((dats m 0 c).arrAt 6 cfg0.N : S8192x1024.Idx → EReal) (ix2 n d) = gated (argX m c) (argG m c) (argW m c) (argB m c) n d := by
  have hn := n.isLt
  obtain ⟨t, r, rfl⟩ : ∃ (t : Fin cfg0.N) (r : Fin 512), n = rowOf t r :=
    ⟨⟨n.val / 512, lt_of_lt_of_eq (by omega : n.val / 512 < 16) N_0.symm⟩, ⟨n.val % 512, by omega⟩, Fin.ext (by show n.val = 512 * (n.val / 512) + n.val % 512; omega)⟩
  have h : ((dats m 0 c).arrAt 6 cfg0.N : S8192x1024.Idx → EReal) (((cfg0.win 6).blk t).view.emb (ix2 r d)) = _ :=
    (congrFun (Cert.BranchAIdeal.Value.blocks6 m c t (flushes t)) (ix2 r d)).trans ((congrFun (Cert.BranchAIdeal.Value.flushed6_A m c t) (ix2 r d)).trans ((block_apply m c t (ix2 r d)).trans (entry_gated m c t r d)))
  obtain ⟨h0, h1⟩ := idx6 t
  refine (congrArg ((dats m 0 c).arrAt 6 cfg0.N : S8192x1024.Idx → EReal) (pair_ext ?_ ?_)).trans h
  · show 512 * t.val + r.val = win0_6.index t (0 : Fin 2) * 512 + 1 * r.val; omega
  · show d.val = win0_6.index t (1 : Fin 2) * 1024 + 1 * d.val; omega

/-! ## The claims -/

theorem same_values : Cert.algebraic_BranchAIdeal_BranchARefIdeal := by
  intro m g m' g' _ hag
  refine ⟨_, Cert.BranchAIdeal.Value.run_blocks (F := Ideal) m g, ?_⟩
  refine (θ_run Cert.BranchARefIdeal.defs _ _).mono (fun r h c => ?_) (Cert.BranchARefIdeal.Value.run (F := Ideal) m' g')
  obtain ⟨e0, e1, e2, e3⟩ := hag c
  obtain ⟨h0, hk⟩ := h c
  refine ⟨h0.trans (funext fun i => ?_), hk⟩
  obtain ⟨n, d, rfl⟩ : ∃ (n : Fin 8192) (d : Fin 1024), i = ix2 n d := ⟨i 0, i 1, pair_ext rfl rfl⟩
  refine (reference_apply m' c n d).trans ?_
  rw [e0, e1, e2, e3]
  exact (array_apply m c n d).symm

theorem frame_kernel : Cert.quiescent_BranchA := fun m ρ _ => Cert.BranchA.Gen.frame (F := Bits) m ρ
theorem frame_ideal : Cert.quiescent_BranchAIdeal := fun m ρ _ => Cert.BranchAIdeal.Gen.frame (F := Ideal) m ρ
theorem frame_reference : Cert.quiescent_BranchARefIdeal := fun m ρ _ =>
  (θ_run Cert.BranchARefIdeal.defs _ _).mono (fun r h => ⟨fun c => (h c).2, sem_eq_zero_of_no_sems (by decide) r.2⟩)
    (Cert.BranchARefIdeal.Value.run (F := Ideal) m ρ)

end Cert.Gating

end
-- ==== Proof.ProjStep.lean ====
/-
  The input projection's run. The grid visits eight blocks of rows and, for each, the eight members of the weight's stack:
  a block's first point normalises its rows and keeps them in the second output's buffer, and every point multiplies the kept
  rows by its member. The kept rows are written back after the block's last point.
-/
module

public import proofs.«01_k».proof.Defs
public import proofs.«01_k».proof.Proof.Gen.InProjIdeal
public import Idealize.ShloMosaic.Lib.Pipeline.FrameBody
public import Idealize.ShloMosaic.Lib.Pipeline.ValueKit.Tiles
public import Idealize.ShloMosaic.Lib.Pipeline.ValueKit.Basic
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import Idealize.ShloMosaic.Lib.Tactic
public import Idealize.ShloMosaic.Lib.VecWindow
public import Idealize.ShloMosaic.Lib.WordCmp
public import Idealize.ShloMosaic.Lib.Exec

@[expose] public section
set_option maxRecDepth 16384
noncomputable section

namespace Cert.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- A load over the whole of a buffer of two axes reads what it holds. -/
theorem ld_whole {R C : ℕ} {e : EltTy} (x : Vec F ⟨2, ![R, C]⟩ e)
    (inb : ∀ a, (![0, 0] : Fin 2 → ℕ) a + (⟨2, ![R, C]⟩ : Shape).size a ≤ (⟨2, ![R, C]⟩ : Shape).size a) :
    View.ld (S := ⟨2, ![R, C]⟩) x (Rect.unit ![0, 0] (⟨2, ![R, C]⟩ : Shape).size inb) = x :=
  View.ld_unit_zero (by funext a; match a with | 0 => rfl | 1 => rfl) inb x

theorem ld_member (x : Vec F S1x1024x1152 .bf16) :
    View.ld (S := S1x1024x1152) x (Rect.unit (s := S1x1024x1152) ![0, 0, 0] S1x1024x1152.size inb_S1x1024x1152_S1x1024x1152_0_0_0) = x :=
  View.ld_unit_zero (by funext a; match a with | 0 => rfl | 1 => rfl | 2 => rfl) _ x

set_option maxHeartbeats 1600000 in
/-- A block's first point: the rows are normalised and kept, and multiplied by the member. -/
theorem step_first (c : Dev nD) (i : grid0.Coords) (hc : k0_cond1 i = 1#1) (arg2 : Memref sig .tc .vmem S1024x1024 .f32) (harg2 : arg2.IsWhole) (arg3 : Memref sig .tc .vmem S1x1024 .f32) (harg3 : arg3.IsWhole) (arg4 : Memref sig .tc .vmem S1x1024x1152 .bf16) (harg4 : arg4.IsWhole) (arg5 : Memref sig .tc .vmem S1024x1152 .f32) (harg5 : arg5.IsWhole) (arg6 : Memref sig .tc .vmem S1024x1024 .bf16) (harg6 : arg6.IsWhole)
    (x0 : Vec F S1024x1024 .f32) (x1 : Vec F S1x1024 .f32) (x2 : Vec F S1x1024x1152 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) Set.univ (cc0_in_proj i arg2 harg2 arg3 harg3 arg4 harg4 arg5 harg5 arg6 harg6) K := by
  simp only [cc0_in_proj_eq_skeleton]; unfold cc0_in_proj_skel
  rw [dif_pos hc]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    refine (View.read_writes_full _ _ _ _ _).trans ?_
    refine congr (congrArg k0_pay2 ?_) (ld_member _)
    unfold step_first.sl.v3 step_first.sl.H4_1
    refine (View.readCov_full _ _ _ _ _).trans ?_
    exact congr (congrArg k0_pay1 (ld_whole _ _)) (ld_whole _ _)
  iexists _; isplitr
  swap; · iexact H4
  ipureintro
  refine (View.read_writes_full _ _ _ _ _).trans ?_
  exact congr (congrArg k0_pay1 (ld_whole _ _)) (ld_whole _ _)

set_option maxHeartbeats 1600000 in
/-- Any other point: the kept rows are multiplied by the member. -/
theorem step_next (c : Dev nD) (i : grid0.Coords) (hc : ¬ k0_cond1 i = 1#1) (arg2 : Memref sig .tc .vmem S1024x1024 .f32) (harg2 : arg2.IsWhole) (arg3 : Memref sig .tc .vmem S1x1024 .f32) (harg3 : arg3.IsWhole) (arg4 : Memref sig .tc .vmem S1x1024x1152 .bf16) (harg4 : arg4.IsWhole) (arg5 : Memref sig .tc .vmem S1024x1152 .f32) (harg5 : arg5.IsWhole) (arg6 : Memref sig .tc .vmem S1024x1024 .bf16) (harg6 : arg6.IsWhole)
    (x0 : Vec F S1024x1024 .bf16) (x2 : Vec F S1x1024x1152 .bf16) (K : PUnit → sProp 𝕄) :
    iprop(owns (c : Thread nD τ) arg4 fullShare x2 ∗ (∃ d, owns (c : Thread nD τ) arg5 fullShare d) ∗ owns (c : Thread nD τ) arg6 fullShare x0
        ∗ (iprop(owns (c : Thread nD τ) arg4 fullShare x2 ∗ owns (c : Thread nD τ) arg5 fullShare (k0_pay2 x0 x2)
            ∗ owns (c : Thread nD τ) arg6 fullShare x0) -∗ K ⟨⟩))
      ⊢ wp frame (wpE (defs₀ (F := F)) Variants.none c none) Set.univ (cc0_in_proj i arg2 harg2 arg3 harg3 arg4 harg4 arg5 harg5 arg6 harg6) K := by
  simp only [cc0_in_proj_eq_skeleton]; unfold cc0_in_proj_skel
  rw [dif_neg hc]
  unfold owns
  iintro ⟨⟨%f2, %hf2, H2⟩, ⟨%d3, %f3, -, H3⟩, ⟨%f4, %hf4, H4⟩, Hk⟩
  subst hf2 hf4
  sl_exec
  sl_step
  iapply Hk
  isplitl [H2]; · iexists f2; isplitr; · ipureintro; rfl
                  iexact H2
  isplitl [H3]
  · iexists _; isplitr
    swap; · iexact H3
    ipureintro
    refine (View.read_writes_full _ _ _ _ _).trans ?_
    exact congr (congrArg k0_pay2 (ld_whole _ _)) (ld_member _)
  iexists f4; isplitr; · ipureintro; rfl
  iexact H4

end Cert.Proj

end
-- ==== Proof.ProjRun.lean ====
/-
  The input projection's run. The grid visits eight blocks of rows and, for each, the eight members of the weight's stack:
  a block's first point normalises its rows and keeps them in the second output's buffer, and every point multiplies the kept
  rows by its member. The kept rows are written back after the block's last point.
-/
module

public import proofs.«01_k».proof.Defs
public import proofs.«01_k».proof.Proof.Gen.InProjIdeal
public import Idealize.ShloMosaic.Lib.Pipeline.FrameBody
public import Idealize.ShloMosaic.Lib.Pipeline.ValueKit.Tiles
public import Idealize.ShloMosaic.Lib.Pipeline.ValueKit.Basic
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.ProjStep
public import Idealize.ShloMosaic.Lib.Tactic
public import Idealize.ShloMosaic.Lib.WordCmp
public import Idealize.ShloMosaic.Lib.Exec

@[expose] public section
set_option maxRecDepth 16384
noncomputable section

namespace Cert.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

theorem cond_iff : ∀ t : Fin cfg0.N, k0_cond1 (grid0.coords t) = 1#1 ↔ t.val % 8 = 0 :=
  (by decide +kernel : ∀ t : Fin grid0.N, _)

/-- The first point of a point's block. -/
def firstOf (t : Fin cfg0.N) : Fin cfg0.N := ⟨8 * (t.val / 8), by have := t.isLt; omega⟩

/-- The normalised rows of a point's block. -/
def hrow (c : Dev nD) (t : Fin cfg0.N) : Vec F S1024x1024 .bf16 := k0_pay1 (iblk m c 0 (firstOf t)) (iblk m c 1 (firstOf t))

theorem hrow_first (c : Dev nD) (t : Fin cfg0.N) (h : t.val % 8 = 0) : hrow m c t = k0_pay1 (iblk m c 0 t) (iblk m c 1 t) := by
  unfold hrow
  rw [show firstOf t = t from Fin.ext (by show 8 * (t.val / 8) = t.val; omega)]

theorem hrow_prev (c : Dev nD) (s t : Fin cfg0.N) (h : s.val / 8 = t.val / 8) : hrow m c s = hrow m c t := by
  unfold hrow
  rw [show firstOf s = firstOf t from Fin.ext (by show 8 * (s.val / 8) = 8 * (t.val / 8); rw [h])]

/-- The inputs' buffers keep their blocks, the second output's keeps the block's rows, the first gets their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (hrow m c t) (iblk m c 2 t)
    | ⟨4, _⟩ => hrow m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (hrow m c t) (iblk m c 2 t) := by dsimp only [dats]
theorem after_4 (c : Dev nD) (t : Fin cfg0.N) : (dats m 0 c).after 4 t = hrow m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

theorem kept_4 (c : Dev nD) (t : Fin cfg0.N) (d) : (dats m 0 c).kept 4 t d = hrow m c t := by
  unfold Dat.kept
  rw [Pipeline.fill_of_clip_none (cfg := cfg0) 4 (cfg0.grid.coords t) (fun _ => rfl) d ((dats m 0 c).after 4 t), Pipeline.Window.fill_cut]
  exact after_4 m c t

theorem idle_4 (t : Fin cfg0.N) : idle0 4 (grid0.coords t) = !decide (t.val % 8 = 0) := by
  show (!(k0_cond1 (grid0.coords t) == 1#1)) = _
  by_cases h : t.val % 8 = 0
  · rw [(cond_iff t).2 h]; simp [h]
  · have := fun e => h ((cond_iff t).1 e)
    simp only [h, decide_false, Bool.not_false, Bool.not_eq_true', beq_eq_false_iff_ne]
    exact this

theorem before_4 (c : Dev nD) : ∀ (n : ℕ) (t : Fin cfg0.N), t.val = n → ¬ t.val % 8 = 0 → ∀ d, (dats m 0 c).before 4 t d = hrow m c t := by
  intro n
  induction n with
  | zero => intro t h h0 d; exact absurd (by rw [h]) h0
  | succ n ih =>
    intro t ht h0 d
    have hlt : t.val - 1 < cfg0.N := by have := t.isLt; omega
    have hfl : (cfg0.win 4).flush ⟨t.val - 1, hlt⟩ = false := by
      rw [Bool.eq_false_iff]; intro h
      have : (t.val - 1) % 8 = 7 := (flush0_4 _).1 h
      omega
    rw [(dats m 0 c).before_of_pos 4 t (by omega) ((cfg0.win 4).fetch_out rfl t) d]
    rw [if_neg (by rw [hfl]; decide)]
    unfold Dat.left
    have hi := idle_4 ⟨t.val - 1, hlt⟩
    by_cases h1 : (t.val - 1) % 8 = 0
    · have hi' : idle0 4 (grid0.coords ⟨t.val - 1, hlt⟩) = false := hi.trans (by simp [h1])
      show (match idle0 4 (grid0.coords ⟨t.val - 1, hlt⟩) with | true => _ | false => _) = _
      rw [hi']
      exact (kept_4 m c _ _).trans (hrow_prev m c ⟨t.val - 1, hlt⟩ t (by show (t.val - 1) / 8 = _; omega))
    · have hi' : idle0 4 (grid0.coords ⟨t.val - 1, hlt⟩) = true := hi.trans (by simp [h1])
      show (match idle0 4 (grid0.coords ⟨t.val - 1, hlt⟩) with | true => _ | false => _) = _
      rw [hi']
      exact (ih ⟨t.val - 1, hlt⟩ (by show t.val - 1 = n; omega) h1 d).trans (hrow_prev m c ⟨t.val - 1, hlt⟩ t (by show (t.val - 1) / 8 = _; omega))

/-- What a point leaves: every buffer at its contents after the point. -/
abbrev Left (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

set_option maxHeartbeats 800000 in
/-- The body at any point of the grid, in the pipeline's terms. -/
theorem sound (c : Dev nD) (t : Fin cfg0.N) :
    iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
      ⊢ wp frame (wpE (defs₀ (F := F)) Variants.none c none) Set.univ (bodyAt0 t) (fun _ => Left m c t) := by
  unfold bodyAt0 Left
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  by_cases h : t.val % 8 = 0
  · rw [hrow_first m c t h]
    iintro ⟨HΦ, Ho, ⟨%d0, H0⟩, ⟨%d1, H1⟩, ⟨%d2, H2⟩, ⟨%d3, H3⟩, ⟨%d4, H4⟩⟩
    iapply (step_first c (grid0.coords t) ((cond_iff t).2 h) _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_4 m c _ t rfl h]
    iintro ⟨HΦ, Ho, ⟨%d0, H0⟩, ⟨%d1, H1⟩, ⟨%d2, H2⟩, ⟨%d3, H3⟩, ⟨%d4, H4⟩⟩
    iapply (step_next c (grid0.coords t) (fun e => h ((cond_iff t).1 e)) _ _ _ _ _ _ _ _ _ _ (hrow m c t) (iblk m c 2 t) _)
    isplitl [H2]; · iexact H2
    isplitl [H3]; · iexists _; iexact H3
    isplitl [H4]; · iexact H4
    iintro ⟨H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The pipeline's obligation for the body. -/
theorem body_obligation (c : Dev nD) : BodyObligation (dats m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  have hi := idle_4 t
  by_cases h : t.val % 8 = 0
  · have hi' : idle0 4 (grid0.coords t) = false := hi.trans (by simp [h])
    simp only [hi']
    exact triple_restated (sound m c t) rfl .rfl fun _ => .rfl
  · have hi' : idle0 4 (grid0.coords t) = true := hi.trans (by simp [h])
    by_cases h7 : t.val % 8 = 7
    · have hf : (win0 4).flush t = true := (flush0_4 t).2 h7
      simp only [hi', hf]
      exact triple_restated (sound m c t) rfl .rfl fun _ => .rfl
    · have hf : (win0 4).flush t = false := by
        rw [Bool.eq_false_iff]; exact fun e => h7 ((flush0_4 t).1 e)
      simp only [hi', hf]
      refine triple_restated (sound m c t) rfl .rfl fun _ => ?_
      unfold Left
      iintro ⟨HΦ, Ho, H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexists (Cert.Proj.hrow m c t)
      rw [before_4 m c _ t rfl h, after_4]
      iexact H4

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

end Cert.Proj

end
-- ==== Proof.ProjEnd.lean ====
/-
  The input projection's call against the norm and the product of the reference: what the call leaves in its two arrays is
  the product and the normalised rows, at every index.
-/
module

public import proofs.«01_k».proof.Defs
public import proofs.«01_k».proof.Proof.DxGrad
public import proofs.«01_k».proof.Proof.ProjRun
public import proofs.«01_k».proof.Proof.Gen.InProj
public import proofs.«01_k».proof.Proof.Gen.InProjRefIdeal
public import proofs.«01_k».proof.Proof.Gen.InProjRefIdeal.Run
public import Idealize.ShloMosaic.Lib.Pointwise
public import Idealize.ShloMosaic.Lib.Claim
public import Idealize.ShloMosaic.Lib.Pipeline.ValueKit.Geometry
public import Idealize.ShloMosaic.Adequacy
public import Idealize.ShloMosaic.Init

@[expose] public section
set_option maxRecDepth 16384
noncomputable section

namespace Cert.Proj

open Idealize.ShloMosaic Idealize.ShloMosaic.TcCoe Idealize.SL.Sem
open Cert.DxGrad (level)

/-! ## The two results, at an index -/

/-- One entry of the normalised rows. -/
def normed (x : (⟨2, ![8192, 1024]⟩ : Shape).Idx → EReal) (g : (⟨2, ![1, 1024]⟩ : Shape).Idx → EReal) (n : Fin 8192) (d : Fin 1024) : EReal :=
  x (ix2 n d) * Ideal.rsqrt (level fun e => x (ix2 n e)) * g (ix2 0 d)

/-- One entry of their product with the weight. -/
def projected (x : (⟨2, ![8192, 1024]⟩ : Shape).Idx → EReal) (g : (⟨2, ![1, 1024]⟩ : Shape).Idx → EReal)
    (w : (⟨3, ![8, 1024, 1152]⟩ : Shape).Idx → EReal) (n : Fin 8192) (q : Fin 9216) : EReal :=
  ∑ d : Fin 1024, normed x g n d * w (ix3 ⟨q.val / 1152, by omega⟩ d ⟨q.val % 1152, by omega⟩)

/-! ## The reference -/

section Reference
open Cert.InProjRefIdeal Cert.InProjRefIdeal.Gen

/-- The reference's normalised rows. -/
def refRows {F : FTy → Type} [FloatOps F] (x : FVec F S8192x1024 .f32) (g : FVec F S1x1024 .f32) : FVec F S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g)

/-- The product of rows with the weight laid out whole. -/
def refProduct {F : FTy → Type} [FloatOps F] (h : FVec F S8192x1024 .f32) (w : FVec F S8x1024x1152 .bf16) : FVec F S8192x9216 .f32 :=
  Host.dotGeneral dot_S8192x1024_S1024x9216_S8192x9216_1_0_0_1_n_n none h
    (shapeCast S1024x9216 (transpose S1024x8x1152 [1, 0, 2] (extf .f32 w bitsLt_bf16_f32) transposes_S8x1024x1152_S1024x8x1152_1_0_2)
      shapeCasts_S1024x8x1152_S1024x9216)

theorem refRows_apply (x : FVec Ideal S8192x1024 .f32) (g : FVec Ideal S1x1024 .f32) (n : Fin 8192) (d : Fin 1024) :
    refRows (F := Ideal) x g (ix2 n d) = normed x g n d := by
  unfold refRows normed level
  simp only [pointwise, zero_add]
  rfl

theorem refProduct_apply (h : FVec Ideal S8192x1024 .f32) (w : FVec Ideal S8x1024x1152 .bf16) (n : Fin 8192) (q : Fin 9216) :
    refProduct (F := Ideal) h w (ix2 n q)
      = ∑ d : Fin 1024, (h (ix2 n d) : EReal) * (w (ix3 ⟨q.val / 1152, by omega⟩ d ⟨q.val % 1152, by omega⟩) : EReal) := by
  unfold refProduct
  simp only [pointwise]
  exact zero_add _

end Reference

/-! ## The call -/

section Call
open Cert.InProjIdeal Cert.InProjIdeal.Gen

theorem rows_apply (v9 : Vec Ideal S1024x1024 .f32) (v20 : Vec Ideal S1x1024 .f32) (a d : Fin 1024) :
    k0_pay1 (F := Ideal) v9 v20 (ix2 a d) = (v9 (ix2 a d) : EReal) * Ideal.rsqrt (level fun e => v9 (ix2 a e)) * (v20 (ix2 0 d) : EReal) := by
  unfold k0_pay1 level
  simp only [pointwise, zero_add]
  rfl

theorem product_apply (v3 : Vec Ideal S1024x1024 .bf16) (v5 : Vec Ideal S1x1024x1152 .bf16) (a : Fin 1024) (e : Fin 1152) :
    k0_pay2 (F := Ideal) v3 v5 (ix2 a e) = ∑ d : Fin 1024, (v3 (ix2 a d) : EReal) * (v5 (ix3 0 d e) : EReal) := by
  unfold k0_pay2
  simp only [pointwise]
  exact zero_add _

variable (m : (ℓ : Loc nD τ sig) → Buf (Elt Ideal) ℓ) (c : Dev nD)

/-- A row of the whole array at its place in a point's block. -/
abbrev rowOf (t : Fin cfg0.N) (a : Fin 1024) : Fin 8192 := ⟨1024 * (t.val / 8 % 8) + a.val, by omega⟩
/-- A column of the whole array at its place in a point's member. -/
abbrev colOf (t : Fin cfg0.N) (e : Fin 1152) : Fin 9216 := ⟨1152 * (t.val % 8) + e.val, by omega⟩

theorem idx0 : ∀ t : Fin cfg0.N, win0_0.index t (0 : Fin 2) = t.val / 8 % 8 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val % 8 ∧ win0_2.index t (1 : Fin 3) = 0 ∧ win0_2.index t (2 : Fin 3) = 0 := (by decide +kernel : ∀ t : Fin grid0.N, _)
theorem idx3 : ∀ t : Fin cfg0.N, win0_3.index t (0 : Fin 2) = t.val / 8 % 8 ∧ win0_3.index t (1 : Fin 2) = t.val % 8 := (by decide +kernel : ∀ t : Fin grid0.N, _)
theorem idx4 : ∀ t : Fin cfg0.N, win0_4.index t (0 : Fin 2) = t.val / 8 % 8 ∧ win0_4.index t (1 : Fin 2) = 0 := (by decide +kernel : ∀ t : Fin grid0.N, _)

abbrev argX : S8192x1024.Idx → EReal := m ((c : Thread nD τ).loc main_arg0)
abbrev argG : S1x1024.Idx → EReal := m ((c : Thread nD τ).loc main_arg1)
abbrev argW : S8x1024x1152.Idx → EReal := m ((c : Thread nD τ).loc main_arg2)

theorem read0 (t : Fin cfg0.N) (a d : Fin 1024) : (iblk m c 0 t : S1024x1024.Idx → EReal) (ix2 a d) = argX m c (ix2 (rowOf t a) d) := by
  show m ((c : Thread nD τ).loc main_arg0) (((cfg0.win 0).blk t).view.emb (ix2 a d)) = _
  obtain ⟨h0, h1⟩ := idx0 t
  refine congrArg (m ((c : Thread nD τ).loc main_arg0)) (funext fun ax => Fin.ext ?_)
  match ax with
  | ⟨0, _⟩ => show win0_0.index t (0 : Fin 2) * 1024 + 1 * a.val = 1024 * (t.val / 8 % 8) + a.val; omega
  | ⟨1, _⟩ => show win0_0.index t (1 : Fin 2) * 1024 + 1 * d.val = d.val; omega

theorem read1 (t : Fin cfg0.N) (d : Fin 1024) : (iblk m c 1 t : S1x1024.Idx → EReal) (ix2 0 d) = argG m c (ix2 0 d) := by
  show m ((c : Thread nD τ).loc main_arg1) (((cfg0.win 1).blk t).view.emb (ix2 0 d)) = _
  obtain ⟨h0, h1⟩ := idx1 t
  refine congrArg (m ((c : Thread nD τ).loc main_arg1)) (funext fun ax => Fin.ext ?_)
  match ax with
  | ⟨0, _⟩ => show win0_1.index t (0 : Fin 2) * 1 + 1 * 0 = 0; omega
  | ⟨1, _⟩ => show win0_1.index t (1 : Fin 2) * 1024 + 1 * d.val = d.val; omega

theorem read2 (t : Fin cfg0.N) (d : Fin 1024) (e : Fin 1152) :
    (iblk m c 2 t : S1x1024x1152.Idx → EReal) (ix3 0 d e) = argW m c (ix3 ⟨t.val % 8, Nat.mod_lt _ (by decide)⟩ d e) := by
  show m ((c : Thread nD τ).loc main_arg2) (((cfg0.win 2).blk t).view.emb (ix3 0 d e)) = _
  obtain ⟨h0, h1, h2⟩ := idx2 t
  refine congrArg (m ((c : Thread nD τ).loc main_arg2)) (funext fun ax => Fin.ext ?_)
  match ax with
  | ⟨0, _⟩ => show win0_2.index t (0 : Fin 3) * 1 + 1 * 0 = t.val % 8; omega
  | ⟨1, _⟩ => show win0_2.index t (1 : Fin 3) * 1024 + 1 * d.val = d.val; omega
  | ⟨2, _⟩ => show win0_2.index t (2 : Fin 3) * 1152 + 1 * e.val = e.val; omega

theorem hrow_apply (t : Fin cfg0.N) (a d : Fin 1024) : (hrow m c t (ix2 a d) : EReal) = normed (argX m c) (argG m c) (rowOf t a) d := by
  have h : ∀ a, rowOf (firstOf t) a = rowOf t a := fun a => Fin.ext (by
    show 1024 * (8 * (t.val / 8) / 8 % 8) + a.val = 1024 * (t.val / 8 % 8) + a.val
    rw [Nat.mul_div_cancel_left _ (by decide)])
  unfold hrow normed
  rw [rows_apply]
  simp only [read0 m c, read1 m c, h]

/-- The rows' array after the run. -/
theorem rows_end : (dats m 0 c).arrAt 4 cfg0.N = fun i : S8192x1024.Idx => normed (argX m c) (argG m c) (i 0) (i 1) := by
  refine (dats m 0 c).arrAt_eq_of_covers 4 _ (by decide +kernel) fun t _ y => ?_
  rw [after_4]
  obtain ⟨a, d, rfl⟩ : ∃ (a d : Fin 1024), y = ix2 a d := ⟨y 0, y 1, by funext b; match b with | ⟨0, _⟩ => rfl | ⟨1, _⟩ => rfl⟩
  refine (hrow_apply m c t a d).trans ?_
  obtain ⟨h0, h1⟩ := idx4 t
  refine congr (congrArg _ (Fin.ext ?_)) (Fin.ext ?_)
  · show 1024 * (t.val / 8 % 8) + a.val = win0_4.index t (0 : Fin 2) * 1024 + 1 * a.val; omega
  · show d.val = win0_4.index t (1 : Fin 2) * 1024 + 1 * d.val; omega

/-- The product's array after the run. -/
theorem product_end : (dats m 0 c).arrAt 3 cfg0.N = fun i : S8192x9216.Idx => projected (argX m c) (argG m c) (argW m c) (i 0) (i 1) := by
  refine (dats m 0 c).arrAt_eq_of_covers 3 _ (by decide +kernel) fun t _ y => ?_
  rw [after_3]
  obtain ⟨a, e, rfl⟩ : ∃ (a : Fin 1024) (e : Fin 1152), y = ix2 a e := ⟨y 0, y 1, by funext b; match b with | ⟨0, _⟩ => rfl | ⟨1, _⟩ => rfl⟩
  refine (product_apply _ _ a e).trans ?_
  obtain ⟨h0, h1⟩ := idx3 t
  have hq : (colOf t e).val / 1152 = t.val % 8 ∧ (colOf t e).val % 1152 = e.val := by
    show (1152 * (t.val % 8) + e.val) / 1152 = _ ∧ (1152 * (t.val % 8) + e.val) % 1152 = _; omega
  refine Eq.trans (b := projected (argX m c) (argG m c) (argW m c) (rowOf t a) (colOf t e)) ?_ (congr (congrArg _ (Fin.ext ?_)) (Fin.ext ?_))
  · unfold projected
    refine Fintype.sum_congr _ _ fun d => ?_
    rw [hrow_apply, read2]
    exact congrArg (_ * argW m c ·) (congr (congrFun (congrArg _ (Fin.ext hq.1.symm)) d) (Fin.ext hq.2.symm))
  · show 1024 * (t.val / 8 % 8) + a.val = win0_3.index t (0 : Fin 2) * 1024 + 1 * a.val; omega
  · show 1152 * (t.val % 8) + e.val = win0_3.index t (1 : Fin 2) * 1152 + 1 * e.val; omega

end Call

/-! ## The frames -/

section Frames
open Cert.InProjIdeal Cert.InProjIdeal.Gen

/-- The frame, over any float values. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

theorem frame_ideal : Cert.quiescent_InProjIdeal := fun m ρ _ => frame_any (F := Ideal) m ρ

/-! No rewrite separates the program from its ideal form: the two are the same functions. -/

local instance : Cert.InProj.Facts := Cert.InProj.Gen.facts

set_option maxHeartbeats 8000000 in
theorem same_bodies : (Cert.InProj.defs₀ (F := Bits)) = defs₀ (F := Bits) := by
  unfold Cert.InProj.defs₀ defs₀
  refine congrArg Defs.onTc (funext fun l => funext fun x => ?_)
  match l, x with
  | 0, (t, s) => dsimp only; exact rfl

set_option maxHeartbeats 8000000 in
theorem same_defs : (Cert.InProj.defs (F := Bits)) = defs (F := Bits) := by
  unfold Cert.InProj.defs defs
  exact congrArg (Pipeline.defs (pcfgs (F := Bits))) same_bodies

set_option maxHeartbeats 8000000 in
theorem same_main : (Cert.InProj.main (F := Bits)) = main (F := Bits) := rfl

/-- What holds of the runs of the ideal form's text holds of the runs of the program's. -/
theorem carry {d : Defs nD τ sig (Elt Bits) (Pipeline.Sig Λ₀ (Fin 1) fun p => (pcfgs (F := Bits) p).Adm)}
    {p : Dev nD → Prog (TpuEff nD τ sig (Elt Bits) (Pipeline.Sig Λ₀ (Fin 1) fun p => (pcfgs (F := Bits) p).Adm) .tc) PUnit}
    (hd : d = defs (F := Bits)) (hp : p = main (F := Bits)) (s : MemSt nD τ sig (Elt Bits)) (post)
    (h : θ_run (defs (F := Bits)) (onTc (τ := τ) (main (F := Bits))) s post) :
    θ_run d (onTc (τ := τ) p) s post := by
  subst hd hp; exact h

set_option maxHeartbeats 4000000 in
theorem frame_kernel : Cert.quiescent_InProj := fun m ρ _ =>
  carry same_defs same_main ⟨m, fun _ => 0, ρ⟩ _ (frame_any (F := Bits) m ρ)

end Frames

theorem frame_reference : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

/-! ## The values -/

theorem same_values : Cert.algebraic_InProjIdeal_InProjRefIdeal := by
  intro m g m' g' _ hag
  refine ⟨fun c => fun i => projected (argX m c) (argG m c) (argW m c) (i 0) (i 1), fun c => fun i => normed (argX m c) (argG m c) (i 0) (i 1), ?_, ?_⟩
  · refine (θ_run Cert.InProjIdeal.defs _ _).mono (fun r h c => ?_)
      (θ_run_and (run_main (F := Ideal) m g) (Cert.InProjIdeal.Gen.frame_of m g (dats m) (A_eq m) (run_main m g)))
    exact ⟨((h.1 c).1 3).trans (product_end m c), ((h.1 c).1 4).trans (rows_end m c), h.2 c⟩
  · refine (θ_run Cert.InProjRefIdeal.defs _ _).mono (fun r h c => ?_) (Cert.InProjRefIdeal.Value.run (F := Ideal) m' g')
    obtain ⟨e0, e1, e2⟩ := hag c
    obtain ⟨h0, h1, hk⟩ := h c
    have h0' : r.2.mem (((c : Dev Cert.InProjRefIdeal.nD) : Thread Cert.InProjRefIdeal.nD Cert.InProjRefIdeal.τ).loc Cert.InProjRefIdeal.main_v15) = refProduct (F := Ideal) (refRows (m' (c.tc.loc Cert.InProjRefIdeal.main_arg0)) (m' (c.tc.loc Cert.InProjRefIdeal.main_arg1))) (m' (c.tc.loc Cert.InProjRefIdeal.main_arg2)) := h0
    have h1' : r.2.mem (((c : Dev Cert.InProjRefIdeal.nD) : Thread Cert.InProjRefIdeal.nD Cert.InProjRefIdeal.τ).loc Cert.InProjRefIdeal.main_v16) = refRows (F := Ideal) (m' (c.tc.loc Cert.InProjRefIdeal.main_arg0)) (m' (c.tc.loc Cert.InProjRefIdeal.main_arg1)) := h1
    rw [e0, e1, e2] at h0'
    rw [e0, e1] at h1'
    refine ⟨h0'.trans (funext fun i => ?_), h1'.trans (funext fun i => ?_), hk⟩
    · obtain ⟨n, q, rfl⟩ : ∃ (n : Fin 8192) (q : Fin 9216), i = ix2 n q := ⟨i 0, i 1, by funext a; match a with | ⟨0, _⟩ => rfl | ⟨1, _⟩ => rfl⟩
      refine (refProduct_apply _ _ n q).trans ?_
      simp only [refRows_apply]
      rfl
    · obtain ⟨n, d, rfl⟩ : ∃ (n : Fin 8192) (d : Fin 1024), i = ix2 n d := ⟨i 0, i 1, by funext a; match a with | ⟨0, _⟩ => rfl | ⟨1, _⟩ => rfl⟩
      exact refRows_apply _ _ n d

end Cert.Proj

end
-- ==== Proof.GatherProto.lean ====
/-
  The gathering of the weights, as a protocol. Every device holds one block of four arrays. It rounds its block into a
  local buffer, copies that buffer into its own slot of the gathered array on itself, and sends it to the four devices
  that differ from it in one, in another, in both and in the third of the mesh's axes. A block that has arrived over one
  of the first three directions is passed on along the third. So slot `s` of the gathered array on every device ends up
  with the rounded block of device `s`.

  Nobody asks for permission: a slot is written exactly once, by one device known in advance, so the slot is given to
  that device before anything runs. A device waits for what arrives (28 receive semaphores) — for three of the blocks
  before it passes them on —, for what it sent to have left (28 send semaphores) and for its own four local copies.
  A block is passed on only after it has arrived, so what arrives by being passed on is put one level above the rest.
-/
module

public import proofs.«01_k».proof.Proof.Gen.GatherIdeal
public import proofs.«01_k».proof.Proof.Gen.GatherIdeal.Skeleton
public import proofs.«01_k».proof.Proof.Gen.GatherIdeal.Launch
public import Idealize.ShloMosaic.Lib.Pipeline.Launch
public import Idealize.ShloMosaic.Lib.Pipeline.Kit
public import Idealize.ShloMosaic.Lib.ViewIndex
public import Idealize.ShloMosaic.Lib.ValueLayout
public import Idealize.ShloMosaic.Lib.Tactic

@[expose] public section

set_option Elab.async false

noncomputable section

namespace Cert.Gathering

open Cert.GatherIdeal Cert.GatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The two ghost states: the staging semaphores of the input blocks, and the exchange's semaphores. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Peers -/

def rb : Fin 7 → ℕ := ![1, 4, 2, 6, 5, 3, 7]
def fl : Fin 7 → ℕ := ![1, 4, 2, 6, 1, 1, 1]
def bl : Fin 7 → ℕ := ![0, 0, 0, 0, 4, 2, 6]

/-- The device whose block arrives `k`-th at `c`; the device the `k`-th transfer of `c` goes to; the block it carries. -/
def peer (c : Dev nD) (k : Fin 7) : Dev nD := ⟨c.val ^^^ rb k, by revert c k; decide +kernel⟩
def tgt (c : Dev nD) (k : Fin 7) : Dev nD := ⟨c.val ^^^ fl k, by revert c k; decide +kernel⟩
def blk (c : Dev nD) (k : Fin 7) : Dev nD := ⟨c.val ^^^ bl k, by revert c k; decide +kernel⟩

theorem peer_ne (c : Dev nD) (k : Fin 7) : peer c k ≠ c := by revert c k; decide +kernel
theorem peer_inj (c : Dev nD) : Function.Injective (peer c) := by revert c; decide +kernel
theorem tgt_tgt (c : Dev nD) (k : Fin 7) : tgt (tgt c k) k = c := by revert c k; decide +kernel
theorem tgt_ne (c : Dev nD) (k : Fin 7) : tgt c k ≠ c := by revert c k; decide +kernel
theorem peer_tgt (c : Dev nD) (k : Fin 7) : peer (tgt c k) k = blk c k := by revert c k; decide +kernel
theorem blk_own (c : Dev nD) (k : Fin 7) (h : k.val < 4) : blk c k = c := by revert c k; decide +kernel

/-- The `k`-th target as a permutation of the devices. -/
def flip (k : Fin 7) : Dev nD ≃ Dev nD := ⟨fun c => tgt c k, fun c => tgt c k, fun c => tgt_tgt c k, fun c => tgt_tgt c k⟩

/-- The devices are oneself and the seven whose blocks arrive. -/
theorem univ_eq (c : Dev nD) : (Finset.univ : Finset (Dev nD)) = insert c (Finset.univ.image (peer c)) := by revert c; decide +kernel

/-! ## The arrays and their slots -/

abbrev Sh3 (r k : ℕ) : Shape := ⟨3, ![8, r, k]⟩
abbrev Sh1 (r k : ℕ) : Shape := ⟨3, ![1, r, k]⟩
abbrev Sh2 (r k : ℕ) : Shape := ⟨2, ![r, k]⟩

/-- The rows and columns of one slot of the four arrays. -/
def rr : Fin 4 → ℕ | 0 => 1024 | _ => 128
def kk : Fin 4 → ℕ | 0 => 1152 | _ => 1024

/-- The four local buffers of rounded blocks, and the four gathered arrays. -/
def stM : (a : Fin 4) → Memref sig .tc .vmem (Sh2 (rr a) (kk a)) .bf16
  | 0 => Memref.whole cc0_scratch0 | 1 => Memref.whole cc0_scratch1 | 2 => Memref.whole cc0_scratch2 | 3 => Memref.whole cc0_scratch3
def outM : (a : Fin 4) → Memref sig .tc .hbm (Sh3 (rr a) (kk a)) .bf16
  | 0 => Memref.whole main_v1_0 | 1 => Memref.whole main_v1_1 | 2 => Memref.whole main_v1_2 | 3 => Memref.whole main_v1_3

theorem sq : (a : Fin 4) → (Sh1 (rr a) (kk a)).Squeezes (Sh2 (rr a) (kk a))
  | 0 => squeezes_S1x1024x1152_S1024x1152 | 1 => squeezes_S1x128x1024_S128x1024
  | 2 => squeezes_S1x128x1024_S128x1024 | 3 => squeezes_S1x128x1024_S128x1024

theorem slot_inb (r k : ℕ) (s : Dev nD) : ∀ a, (![s.val, 0, 0] : Fin 3 → ℕ) a + (Sh1 r k).size a ≤ (Sh3 r k).size a := by
  have hs : s.val < 8 := s.isLt
  intro a; fin_cases a <;> simp [Sh1, Sh3] ; omega

/-- One slot of an array, as the kernel names it: a slice of one slot with the unit axis dropped. -/
abbrev pc {r k : ℕ} (M : Memref sig .tc .hbm (Sh3 r k) .bf16) (off : Fin 3 → ℕ) (inb : ∀ a, off a + (Sh1 r k).size a ≤ (Sh3 r k).size a)
    (hq : (Sh1 r k).Squeezes (Sh2 r k)) : Memref sig .tc .hbm (Sh2 r k) .bf16 :=
  (M.slice (Rect.unit (s := Sh3 r k) off (Sh1 r k).size inb) (fun _ => rfl)).squeeze (Sh2 r k) hq

abbrev pO (a : Fin 4) (s : Dev nD) : Memref sig .tc .hbm (Sh2 (rr a) (kk a)) .bf16 := pc (outM a) ![s.val, 0, 0] (slot_inb _ _ s) (sq a)

/-- What one slot of array `a` credits a semaphore. -/
def amt (a : Fin 4) : ℕ := (pO a 0).view.dmaCredit
theorem amt_pos (a : Fin 4) : 0 < amt a := by
  refine View.dmaCredit_pos _ ?_
  fin_cases a <;> decide
theorem amt_out (a : Fin 4) (s : Dev nD) : (pO a s).view.dmaCredit = amt a := rfl
theorem amt_st (a : Fin 4) : (stM a).view.dmaCredit = amt a := by fin_cases a <;> rfl

/-! ## Contents -/

variable (m : (ℓ : Loc nD τ sig) → Buf (Elt F) ℓ)

/-- The blocks of device `d` as they are staged, and rounded. -/
def xin (w : Fin cfg0.W) (d : Dev nD) : ((cfg0.win w).xblock (cfg0.grid.coords t0_0)).Idx → Elt F (cfg0.win w).elt :=
  ((cfg0.win w).blk t0_0).view.read (Elt F) (m ((d : Thread nD τ).loc (Pipeline.arrRef spec0 w)))

def stV : (a : Fin 4) → (d : Dev nD) → (Sh2 (rr a) (kk a)).Idx → Elt F .bf16
  | 0, d => Gen.k0_pay1 (xin m 0 d)
  | 1, d => Gen.k0_pay3 (Gen.k0_pay2 (xin m 1 d))
  | 2, d => Gen.k0_pay4 (xin m 2 d)
  | 3, d => Gen.k0_pay5 (xin m 3 d)

/-- The local buffer `a` of device `d`, filled. -/
def stB : (a : Fin 4) → (d : Dev nD) → Buf (Elt F) ((stM a).view.loc (d : Thread nD τ))
  | 0, d => stV m 0 d | 1, d => stV m 1 d | 2, d => stV m 2 d | 3, d => stV m 3 d

/-- Slot `s` of the gathered array is the rounded block of device `s`. -/
def gathOf {r k : ℕ} {α : Type} (f : Dev nD → (Sh2 r k).Idx → α) : (Sh3 r k).Idx → α :=
  fun i => f (i 0) (ValueIdx.ix2 (i 1) (i 2))

def gath : (a : Fin 4) → (d : Dev nD) → Buf (Elt F) ((outM a).view.loc (d : Thread nD τ))
  | 0, _ => gathOf (r := 1024) (k := 1152) (α := Elt F .bf16) (stV m 0)
  | 1, _ => gathOf (r := 128) (k := 1024) (α := Elt F .bf16) (stV m 1)
  | 2, _ => gathOf (r := 128) (k := 1024) (α := Elt F .bf16) (stV m 2)
  | 3, _ => gathOf (r := 128) (k := 1024) (α := Elt F .bf16) (stV m 3)

theorem unit_emb_val {r k : ℕ} (s : Dev nD) (y : (Sh1 r k).Idx) :
    (((Rect.unit (s := Sh3 r k) ![s.val, 0, 0] (Sh1 r k).size (slot_inb r k s)).emb y) 0).val = s.val
    ∧ (((Rect.unit (s := Sh3 r k) ![s.val, 0, 0] (Sh1 r k).size (slot_inb r k s)).emb y) 1).val = (y 1).val
    ∧ (((Rect.unit (s := Sh3 r k) ![s.val, 0, 0] (Sh1 r k).size (slot_inb r k s)).emb y) 2).val = (y 2).val := by
  have h0 : (y 0).val < 1 := (y 0).isLt
  refine ⟨?_, ?_, ?_⟩ <;> rw [Rect.emb_apply] <;> simp [Rect.off_unit, Rect.stride_unit] <;> omega

theorem gathOf_unit {r k : ℕ} {α : Type} (f : Dev nD → (Sh2 r k).Idx → α) (c : Dev nD) (y : (Sh1 r k).Idx) :
    gathOf f ((Rect.unit (s := Sh3 r k) ![c.val, 0, 0] (Sh1 r k).size (slot_inb r k c)).emb y) = f c (ValueIdx.ix2 (y 1) (y 2)) := by
  obtain ⟨a0, a1, a2⟩ := unit_emb_val (r := r) (k := k) c y
  unfold gathOf
  have e0 : ((Rect.unit (s := Sh3 r k) ![c.val, 0, 0] (Sh1 r k).size (slot_inb r k c)).emb y) 0 = c := Fin.ext a0
  rw [e0]
  refine congrArg (f c) (funext fun b => Fin.ext ?_)
  fin_cases b
  · exact a1
  · exact a2

theorem gathOf_emb {r k : ℕ} {α : Type} (f : Dev nD → (Sh2 r k).Idx → α) (c : Dev nD) (hn : (Sh2 r k).numel = (Sh1 r k).numel) (x : (Sh2 r k).Idx) :
    gathOf f ((Rect.unit (s := Sh3 r k) ![c.val, 0, 0] (Sh1 r k).size (slot_inb r k c)).emb (Shape.reshapeEquiv hn x)) = f c x := by
  have hx : x = ValueIdx.ix2 (x 0) (x 1) := by funext b; fin_cases b <;> rfl
  have hr : Shape.reshapeEquiv hn x = ValueIdx.ix3 (⟨0, Nat.one_pos⟩ : Fin 1) (x 0) (x 1) := by
    conv_lhs => rw [hx]
    exact ValueIdx.reshapeEquiv_ix2_1ab hn (x 0) (x 1)
  refine (gathOf_unit f c _).trans (congrArg (f c) ?_)
  rw [hr]
  exact hx.symm

/-- The slot that lands is the block that was sent. -/
theorem read_gath (a : Fin 4) (c d : Dev nD) : (pO a c).view.read (Elt F) (gath m a d) = (stM a).view.read (Elt F) (stB m a c) := by
  funext x
  match a with
  | 0 => exact gathOf_emb (r := 1024) (k := 1152) (α := Elt F .bf16) (stV m 0) c _ x
  | 1 => exact gathOf_emb (r := 128) (k := 1024) (α := Elt F .bf16) (stV m 1) c _ x
  | 2 => exact gathOf_emb (r := 128) (k := 1024) (α := Elt F .bf16) (stV m 2) c _ x
  | 3 => exact gathOf_emb (r := 128) (k := 1024) (α := Elt F .bf16) (stV m 3) c _ x

theorem land {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  subst h
  rw [View.write_read_eq_piecewise]; exact Finset.piecewise_eq_of_mem _ _ _ hi

/-! ## Points-tos -/

/-- The parts a filled buffer is lent out in: one to each of four transfers, one to the local copy. -/
def sh : Fin 5 → PosShare TreeShare
  | 0 => fullShare.left
  | 1 => fullShare.right.left
  | 2 => fullShare.right.right.left
  | 3 => fullShare.right.right.right.left
  | 4 => fullShare.right.right.right.right

/-- A part of the local buffer `a` of device `d`, filled. -/
def stP (a : Fin 4) (d : Dev nD) (q : PosShare TreeShare) : sProp 𝕄 := (stM a).view.loc (d : Thread nD τ) ↦[(stM a).view.set]{q} stB m a d
/-- Slot `s` of the result `a` on device `d`, at given contents. -/
def outP (a : Fin 4) (d s : Dev nD) (f : Buf (Elt F) ((outM a).view.loc (d : Thread nD τ))) : sProp 𝕄 :=
  (pO a s).view.loc (d : Thread nD τ) ↦[(pO a s).view.set]{fullShare} f
/-- Slot `s` of the result `a` on device `d` at whatever it holds. -/
def outE (a : Fin 4) (d s : Dev nD) : sProp 𝕄 := iprop(∃ f, outP (F := F) a d s f)

instance stP_storable (a : Fin 4) (d : Dev nD) (q : PosShare TreeShare) : BI.Storable (upEmb : UEmb _ 𝕄) (stP (F := F) m a d q) := by unfold stP; infer_instance
omit [FloatOps F] in
instance outP_storable (a : Fin 4) (d s : Dev nD) (f) : BI.Storable (upEmb : UEmb _ 𝕄) (outP (F := F) a d s f) := by unfold outP; infer_instance

/-! ## The cells -/

/-- The 60 semaphores of the exchange: 28 to send with, 28 to receive with, 4 for the local copies. -/
def smm (j : Fin 60) : DmaSem sig := ⟨4 + j.val, by have := j.isLt; show 4 + j.val < 64; omega⟩
theorem smm_inj : Function.Injective smm := fun i j h => Fin.ext (Nat.add_left_cancel (show 4 + i.val = 4 + j.val from congrArg (fun x : DmaSem sig => x.val) h))

abbrev osem (j : Fin 60) : SemLoc sig := .dma (smm j)
abbrev cell (c : Dev nD) (j : Fin 60) : GSem nD τ sig := ((c : Thread nD τ), osem j)
abbrev kcell (ck : Dev nD × Fin 60) : GSem nD τ sig := cell ck.1 ck.2

def sC (a : Fin 4) (k : Fin 7) : Fin 60 := ⟨7 * a.val + k.val, by omega⟩
def rC (a : Fin 4) (k : Fin 7) : Fin 60 := ⟨28 + (7 * a.val + k.val), by omega⟩
def lC (a : Fin 4) : Fin 60 := ⟨56 + a.val, by omega⟩

/-- Which of the three a semaphore is. -/
inductive Role | send (a : Fin 4) (k : Fin 7) | recv (a : Fin 4) (k : Fin 7) | loc (a : Fin 4)

def role (j : Fin 60) : Role :=
  if h : j.val < 28 then .send ⟨j.val / 7, by omega⟩ ⟨j.val % 7, by omega⟩
  else if h : j.val < 56 then .recv ⟨(j.val - 28) / 7, by omega⟩ ⟨(j.val - 28) % 7, by omega⟩
  else .loc ⟨j.val - 56, by omega⟩

theorem role_sC (a : Fin 4) (k : Fin 7) : role (sC a k) = .send a k := by fin_cases a <;> fin_cases k <;> rfl
theorem role_rC (a : Fin 4) (k : Fin 7) : role (rC a k) = .recv a k := by fin_cases a <;> fin_cases k <;> rfl
theorem role_lC (a : Fin 4) : role (lC a) = .loc a := by fin_cases a <;> rfl

def roleAmt : Role → ℕ | .send a _ => amt a | .recv a _ => amt a | .loc a => amt a
/-- What a semaphore's one instalment hands its owner `c`. -/
def rolePay (c : Dev nD) : Role → sProp 𝕄
  | .send a k => if h : k.val < 4 then stP m a c (sh ⟨k.val, by omega⟩) else outP a c (blk c k) (gath m a c)
  | .recv a k => outP a c (peer c k) (gath m a c)
  | .loc a => iprop(stP m a c (sh 4) ∗ outP a c c (gath m a c))

def am (j : Fin 60) : ℕ := roleAmt (role j)
def pay (c : Dev nD) (j : Fin 60) : sProp 𝕄 := rolePay m c (role j)
theorem am_pos (j : Fin 60) : 0 < am j := by unfold am roleAmt; split <;> exact amt_pos _

instance pay_storable (c : Dev nD) (j : Fin 60) : BI.Storable (upEmb : UEmb _ 𝕄) (pay (F := F) m c j) := by
  unfold pay rolePay; split
  · split <;> infer_instance
  · infer_instance
  · infer_instance

/-! ## The schedule -/

abbrev IsOurs (g : GSem nD τ sig) : Prop := g.1.2 = .tc ∧ ∃ j, g.2 = osem j

open Classical in
/-- Each of the 60 semaphores of a device takes one instalment, in round 0. -/
def Rd : Rounds.Schedule (GSem nD τ sig) Unit 𝕄 where
  duties g r := if r = 0 ∧ IsOurs g then {()} else ∅
  unitless _ := False
  amount g _ _ := if h : IsOurs g then am h.2.choose else 1
  payload g _ _ := if h : IsOurs g then pay m g.1.1 h.2.choose else iprop(emp)
  amount_pos g _ _ _ := by
    by_cases h : IsOurs g
    · rw [dif_pos h]; exact am_pos _
    · rw [dif_neg h]; exact Nat.one_pos

instance Rd_payload_storable (g : GSem nD τ sig) (r : ℕ) (d : Unit) : BI.Storable (upEmb : UEmb _ 𝕄) ((Rd (F := F) m).payload g r d) := by
  unfold Rd; dsimp only; split <;> infer_instance

theorem ours (c : Dev nD) (j : Fin 60) : IsOurs (cell c j) := ⟨rfl, j, rfl⟩
theorem ours_choose (c : Dev nD) (j : Fin 60) (h : ∃ i, (cell c j).2 = osem i) : h.choose = j := by
  have hs := h.choose_spec
  have : smm j = smm h.choose := by injection hs
  exact (smm_inj this).symm

section Sched
variable (c : Dev nD) (j : Fin 60)

theorem duties_eq : (Rd (F := F) m).duties (cell c j) 0 = {()} := by dsimp only [Rd]; exact if_pos ⟨rfl, ours c j⟩
theorem duties_later (g : GSem nD τ sig) : ∀ r, 1 ≤ r → (Rd (F := F) m).duties g r = ∅ :=
  fun r hr => by dsimp only [Rd]; exact if_neg fun h => by omega
theorem mem_duties : () ∈ (Rd (F := F) m).duties (cell c j) 0 := by rw [duties_eq]; exact Finset.mem_singleton_self _
theorem amount_eq (u : Unit) : (Rd (F := F) m).amount (cell c j) 0 u = am j := by
  dsimp only [Rd]; rw [dif_pos (ours c j), ours_choose]
theorem payload_eq (u : Unit) : (Rd (F := F) m).payload (cell c j) 0 u = pay m c j := by
  dsimp only [Rd]; rw [dif_pos (ours c j), ours_choose]
theorem expect_eq : (Rd (F := F) m).expect (cell c j) 0 = am j := by
  unfold Schedule.expect Schedule.amountOf; rw [duties_eq, Finset.sum_singleton, amount_eq]
theorem rest_eq : bigSep ((Rd (F := F) m).duties (cell c j) 0 \ ∅) (fun u => (Rd (F := F) m).payload (cell c j) 0 u) = pay m c j := by
  rw [Finset.sdiff_empty, duties_eq, bigSep_singleton, payload_eq]

end Sched

theorem am_sC (a : Fin 4) (k : Fin 7) : am (sC a k) = amt a := by unfold am; rw [role_sC]; rfl
theorem am_rC (a : Fin 4) (k : Fin 7) : am (rC a k) = amt a := by unfold am; rw [role_rC]; rfl
theorem am_lC (a : Fin 4) : am (lC a) = amt a := by unfold am; rw [role_lC]; rfl
theorem pay_sC (c : Dev nD) (a : Fin 4) (k : Fin 7) (h : k.val < 4) : pay (F := F) m c (sC a k) = stP m a c (sh ⟨k.val, by omega⟩) := by
  unfold pay; rw [role_sC]; exact dif_pos h
theorem pay_sC' (c : Dev nD) (a : Fin 4) (k : Fin 7) (h : ¬ k.val < 4) : pay (F := F) m c (sC a k) = outP a c (blk c k) (gath m a c) := by
  unfold pay; rw [role_sC]; exact dif_neg h
theorem pay_rC (c : Dev nD) (a : Fin 4) (k : Fin 7) : pay (F := F) m c (rC a k) = outP a c (peer c k) (gath m a c) := by unfold pay; rw [role_rC]; rfl
theorem pay_lC (c : Dev nD) (a : Fin 4) : pay (F := F) m c (lC a) = iprop(stP m a c (sh 4) ∗ outP a c c (gath m a c)) := by unfold pay; rw [role_lC]; rfl

/-! ## What a device owes; the levels -/

def L (g : GSem nD τ sig) : Finset Unit := if g.1.2 = .tc then {()} else ∅
/-- The levels: the staging of the input blocks below everything, what arrives by being passed on above everything. -/
def semLv : SemLoc sig → ℕ
  | .dma q => if q.val < 4 then 0 else if 32 ≤ q.val ∧ q.val < 60 ∧ 4 ≤ (q.val - 32) % 7 then 2 else 1
  | _ => 1
def lv (g : GSem nD τ sig) (_ : Unit) : ℕ := semLv g.2
theorem L_of_ne (g : GSem nD τ sig) (h : g.1.2 ≠ .tc) : L g = ∅ := if_neg h

/-- The array and the direction of the `j`-th transfer: sixteen direct ones, then twelve that pass a block on. -/
def aOf (j : Fin 28) : Fin 4 := if h : j.val < 16 then ⟨j.val / 4, by omega⟩ else ⟨(j.val - 16) / 3, by omega⟩
def kOf (j : Fin 28) : Fin 7 := if h : j.val < 16 then ⟨j.val % 4, by omega⟩ else ⟨4 + (j.val - 16) % 3, by omega⟩
abbrev rOf (j : Fin 28) : Fin 60 := rC (aOf j) (kOf j)
abbrev sOf (j : Fin 28) : Fin 60 := sC (aOf j) (kOf j)
theorem kOf_lt (j : Fin 28) (h : j.val < 16) : (kOf j).val < 4 := by revert j; decide +kernel
theorem kOf_ge (j : Fin 28) (h : 16 ≤ j.val) : ¬ (kOf j).val < 4 := by revert j; decide +kernel

/-- What the `j`-th transfer of device `c` owes its target. -/
def tal (c : Dev nD) (j : Fin 28) : CellTallies nD τ sig Unit := tallyAt (cell (tgt c (kOf j)) (rOf j)) () (am (rOf j))
/-- What device `c` owes before its `n`-th transfer. -/
def O (c : Dev nD) (n : ℕ) : CellTallies nD τ sig Unit := ∑ j ∈ Finset.univ.filter (fun j : Fin 28 => n ≤ j.val), tal c j

theorem filter_step {N : ℕ} (n : ℕ) (h : n < N) :
    Finset.univ.filter (fun j : Fin N => n ≤ j.val) = insert ⟨n, h⟩ (Finset.univ.filter fun j : Fin N => n + 1 ≤ j.val) := by
  ext j; simp only [Finset.mem_filter, Finset.mem_univ, true_and, Finset.mem_insert, Fin.ext_iff]; omega
theorem filter_lt_step {N : ℕ} (n : ℕ) (h : n < N) :
    Finset.univ.filter (fun j : Fin N => j.val < n + 1) = insert ⟨n, h⟩ (Finset.univ.filter fun j : Fin N => j.val < n) := by
  ext j; simp only [Finset.mem_filter, Finset.mem_univ, true_and, Finset.mem_insert, Fin.ext_iff]; omega

theorem O_step (c : Dev nD) (n : ℕ) (h : n < 28) : O c n = O c (n + 1) + tal c ⟨n, h⟩ := by
  unfold O
  rw [filter_step n h, Finset.sum_insert (by simp), add_comm]
theorem O_end (c : Dev nD) : O c 28 = 0 := by
  unfold O
  rw [Finset.filter_false_of_mem (fun j _ => by omega), Finset.sum_empty]

/-! ## A list of things to do, some of them done -/

/-- The first `n` of `N` things are done. -/
def Two {N : ℕ} (A B : Fin N → sProp 𝕄) (n : ℕ) : sProp 𝕄 :=
  iprop((bigSep (Finset.univ.filter fun j : Fin N => n ≤ j.val) A) ∗ bigSep (Finset.univ.filter fun j : Fin N => j.val < n) B)

omit [FloatOps F] in
theorem two_start {N : ℕ} (A B : Fin N → sProp 𝕄) : bigSep Finset.univ A ⊢ Two A B 0 := by
  unfold Two
  rw [Finset.filter_true_of_mem (fun j _ => Nat.zero_le _), Finset.filter_false_of_mem (fun j _ => Nat.not_lt_zero _), bigSep_empty]
  iintro H
  isplitl [H]; · iexact H
  iempintro

omit [FloatOps F] in
theorem two_end {N : ℕ} (A B : Fin N → sProp 𝕄) : Two A B N ⊢ bigSep Finset.univ B := by
  unfold Two
  rw [Finset.filter_true_of_mem (p := fun j : Fin N => j.val < N) (fun j _ => j.isLt)]
  iintro ⟨-, H⟩
  iexact H

omit [FloatOps F] in
theorem two_step {N : ℕ} (A B : Fin N → sProp 𝕄) (n : ℕ) (h : n < N) :
    Two A B n ⊢ iprop(A ⟨n, h⟩ ∗ (B ⟨n, h⟩ -∗ Two A B (n + 1))) := by
  unfold Two
  rw [filter_step n h, filter_lt_step n h, bigSep_insert (by simp), bigSep_insert (by simp)]
  show iprop((A ⟨n, h⟩ ∗ bigSep _ A) ∗ bigSep _ B) ⊢ iprop(A ⟨n, h⟩ ∗ (B ⟨n, h⟩ -∗ (bigSep _ A) ∗ (B ⟨n, h⟩ ∗ bigSep _ B)))
  iintro ⟨⟨H1, H2⟩, H3⟩
  isplitl [H1]; · iexact H1
  iintro H4
  isplitl [H2]; · iexact H2
  isplitl [H4] <;> iassumption

end Cert.Gathering

end
-- ==== Proof.GatherSteps.lean ====
/-
  The gathering's operations, each as one step on what a device holds: starting a local copy, starting a transfer,
  waiting for a block that is then passed on, passing it on, waiting for anything else. A device keeps a list of each
  kind, and each operation ticks off the next entry of its list.
-/
module

public import proofs.«01_k».proof.Proof.GatherProto

@[expose] public section

set_option Elab.async false

noncomputable section

namespace Cert.Gathering

open Cert.GatherIdeal Cert.GatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Fin 60 → ℕ)

/-! ## What every device knows -/

def records : sProp 𝕄 :=
  iprop((bigSep Finset.univ fun ck : Dev nD × Fin 60 => cellInv ER (Rd m) (K ck) (kcell ck))
    ∗ (bigSep Finset.univ fun ck : Dev nD × Fin 60 => reached ER (kcell ck) 0) ∗ levAts L lv)
instance records_persistent : BI.Persistent (records m K) := by unfold records; infer_instance

theorem inv_at (c : Dev nD) (j : Fin 60) : records m K ⊢ cellInv ER (Rd m) (K (c, j)) (cell c j) := by
  have h : (bigSep Finset.univ fun ck : Dev nD × Fin 60 => (cellInv ER (Rd m) (K ck) (kcell ck) : sProp 𝕄)) ⊢ cellInv ER (Rd m) (K (c, j)) (cell c j) :=
    bigSep_elim (Finset.mem_univ (c, j))
  unfold records
  iintro ⟨H, -, -⟩
  iapply h; iexact H
theorem reached_at (c : Dev nD) (j : Fin 60) : records m K ⊢ reached ER (cell c j) 0 := by
  have h : (bigSep Finset.univ fun ck : Dev nD × Fin 60 => (reached ER (kcell ck) 0 : sProp 𝕄)) ⊢ reached ER (cell c j) 0 :=
    bigSep_elim (Finset.mem_univ (c, j))
  unfold records
  iintro ⟨-, H, -⟩
  iapply h; iexact H
theorem levels_at : records m K ⊢ levAts L lv := by
  unfold records
  iintro ⟨-, -, H⟩
  iexact H

/-! ## Lending a filled buffer out -/

/-- The parts that go to the four transfers. -/
def lent (a : Fin 4) (c : Dev nD) : sProp 𝕄 := iprop(stP m a c (sh 0) ∗ stP m a c (sh 1) ∗ stP m a c (sh 2) ∗ stP m a c (sh 3))

theorem lend (a : Fin 4) (c : Dev nD) : stP m a c fullShare ⊣⊢ iprop(lent m a c ∗ stP m a c (sh 4)) := by
  have h (q : PosShare TreeShare) : stP m a c q ⊣⊢ iprop(stP m a c q.left ∗ stP m a c q.right) := pointsTo_share (PosShare.mem_left_op_right q)
  constructor
  · unfold lent
    iintro H
    icases (h fullShare).1 $$ H with ⟨H0, H⟩
    icases (h fullShare.right).1 $$ H with ⟨H1, H⟩
    icases (h fullShare.right.right).1 $$ H with ⟨H2, H⟩
    icases (h fullShare.right.right.right).1 $$ H with ⟨H3, H⟩
    isplitr [H]
    · isplitl [H0]; · iexact H0
      isplitl [H1]; · iexact H1
      isplitl [H2]; · iexact H2
      iexact H3
    iexact H
  · unfold lent
    iintro ⟨⟨H0, H1, H2, H3⟩, H4⟩
    ihave H := (h fullShare.right.right.right).2 $$ [H3 H4]
    · isplitl [H3]; · iexact H3
      iexact H4
    ihave H := (h fullShare.right.right).2 $$ [H2 H]
    · isplitl [H2]; · iexact H2
      iexact H
    ihave H := (h fullShare.right).2 $$ [H1 H]
    · isplitl [H1]; · iexact H1
      iexact H
    iapply (h fullShare).2
    isplitl [H0]; · iexact H0
    iexact H

/-! ## The lists -/

def locPre (c : Dev nD) (a : Fin 4) : sProp 𝕄 := iprop(outE a c c ∗ dutyTok ER (cell c (lC a)) 0 ())
def locPost (c : Dev nD) (a : Fin 4) : sProp 𝕄 := cred (tallyAt (cell c (lC a)) () (am (lC a)))

/-- The direct transfers and those that pass a block on, among all. -/
def up (s : Fin 16) : Fin 28 := ⟨s.val, by omega⟩
def on (s : Fin 12) : Fin 28 := ⟨16 + s.val, by omega⟩
theorem up_lt (s : Fin 16) : (kOf (up s)).val < 4 := kOf_lt _ s.isLt
theorem on_ge (s : Fin 12) : ¬ (kOf (on s)).val < 4 := kOf_ge _ (Nat.le_add_right _ _)

/-- The part of the buffer that a direct transfer sends from. -/
def shOf (s : Fin 16) : PosShare TreeShare := sh ⟨(kOf (up s)).val, Nat.lt_of_lt_of_le (up_lt s) (by decide)⟩

def sendPre (c : Dev nD) (s : Fin 16) : sProp 𝕄 :=
  iprop(stP m (aOf (up s)) c (shOf s) ∗ outE (aOf (up s)) (tgt c (kOf (up s))) c
    ∗ dutyTok ER (cell c (sOf (up s))) 0 () ∗ dutyTok ER (cell (tgt c (kOf (up s))) (rOf (up s))) 0 ())
def sendPost (c : Dev nD) (s : Fin 16) : sProp 𝕄 := cred (tallyAt (cell c (sOf (up s))) () (am (sOf (up s))))

/-- The semaphore on which the block arrives that is then passed on. -/
def wOf (s : Fin 12) : Fin 60 := rC (aOf (on s)) ⟨(kOf (on s)).val - 3, by omega⟩

def onPre (c : Dev nD) (s : Fin 12) : sProp 𝕄 :=
  iprop((cred (tallyAt (cell c (wOf s)) () (am (wOf s))) ∗ atPos ER (cell c (wOf s)) 0 ∅ 0)
    ∗ outE (aOf (on s)) (tgt c (kOf (on s))) (blk c (kOf (on s)))
    ∗ dutyTok ER (cell c (sOf (on s))) 0 () ∗ dutyTok ER (cell (tgt c (kOf (on s))) (rOf (on s))) 0 ())
def onPost (c : Dev nD) (s : Fin 12) : sProp 𝕄 :=
  iprop(semVal (cell c (wOf s)) 0 ∗ cred (tallyAt (cell c (sOf (on s))) () (am (sOf (on s)))))

/-- The order of the other waits: receives, sends, local copies. -/
def ord (i : Fin 48) : Fin 60 :=
  if h : i.val < 16 then rC ⟨i.val / 4, by omega⟩ (![0, 4, 5, 6] ⟨i.val % 4, by omega⟩)
  else if h : i.val < 44 then sOf ⟨i.val - 16, by omega⟩
  else lC ⟨i.val - 44, by omega⟩

def waitPre (c : Dev nD) (i : Fin 48) : sProp 𝕄 := iprop(cred (tallyAt (cell c (ord i)) () (am (ord i))) ∗ atPos ER (cell c (ord i)) 0 ∅ 0)
def waitPost (c : Dev nD) (i : Fin 48) : sProp 𝕄 := iprop(pay m c (ord i) ∗ semVal (cell c (ord i)) 0)

def LS (c : Dev nD) (n : ℕ) : sProp 𝕄 := Two (locPre c) (locPost c) n
def SS (c : Dev nD) (n : ℕ) : sProp 𝕄 := iprop(Two (sendPre m c) (sendPost c) n ∗ ∃ W, owes (c : Thread nD τ) (O c n) W)
def RS (c : Dev nD) (n : ℕ) : sProp 𝕄 := iprop(Two (onPre c) (onPost c) n ∗ ∃ W, owes (c : Thread nD τ) (O c (16 + n)) W)
def WS (c : Dev nD) (n : ℕ) : sProp 𝕄 := iprop(Two (waitPre c) (waitPost m c) n ∗ ∃ W, owes (c : Thread nD τ) 0 W)

/-- The block for the `n`-th passing on is there. -/
def RM (c : Dev nD) (n : ℕ) (h : n < 12) : sProp 𝕄 :=
  iprop(outP (aOf (on ⟨n, h⟩)) c (blk c (kOf (on ⟨n, h⟩))) (gath m (aOf (on ⟨n, h⟩)) c)
    ∗ outE (aOf (on ⟨n, h⟩)) (tgt c (kOf (on ⟨n, h⟩))) (blk c (kOf (on ⟨n, h⟩)))
    ∗ dutyTok ER (cell c (sOf (on ⟨n, h⟩))) 0 () ∗ dutyTok ER (cell (tgt c (kOf (on ⟨n, h⟩))) (rOf (on ⟨n, h⟩))) 0 ()
    ∗ (cred (tallyAt (cell c (sOf (on ⟨n, h⟩))) () (am (sOf (on ⟨n, h⟩)))) -∗ Two (onPre c) (onPost c) (n + 1))
    ∗ ∃ W, owes (c : Thread nD τ) (O c (16 + n)) W)

/-! ## What may be waited for -/

theorem lv_cell (c : Dev nD) (j : Fin 60) : lv (cell c j) () = if 28 ≤ j.val ∧ j.val < 56 ∧ 4 ≤ (j.val - 28) % 7 then 2 else 1 := by
  revert j; have h : ∀ j : Fin 60, semLv (osem j) = if 28 ≤ j.val ∧ j.val < 56 ∧ 4 ≤ (j.val - 28) % 7 then 2 else 1 := by decide +kernel
  exact h

theorem lv_on (c : Dev nD) (j : Fin 28) (h : 16 ≤ j.val) : lv (cell c (rOf j)) () = 2 := by
  rw [lv_cell]; revert j; decide +kernel
theorem lv_wOf (c : Dev nD) (s : Fin 12) : lv (cell c (wOf s)) () = 1 := by
  rw [lv_cell]; revert s; decide +kernel
theorem lv_pos (c : Dev nD) (j : Fin 60) : 0 < lv (cell c j) () := by rw [lv_cell]; split <;> decide

/-- What is owed before the `n`-th transfer is owed to the targets of the later ones. -/
theorem O_pos (c : Dev nD) (n : ℕ) (g : GSem nD τ sig) (u : Unit) (h : 0 < O c n g u) : ∃ j : Fin 28, n ≤ j.val ∧ g = cell (tgt c (kOf j)) (rOf j) := by
  by_contra hno
  refine absurd h (Nat.not_lt.mpr (Nat.le_of_eq ?_))
  unfold O
  rw [Finset.sum_apply, Finsupp.finset_sum_apply]
  refine Finset.sum_eq_zero fun j hj => ?_
  have hg : g ≠ cell (tgt c (kOf j)) (rOf j) := fun e => hno ⟨j, (Finset.mem_filter.mp hj).2, e⟩
  unfold tal
  rw [tallyAt_apply]
  exact if_neg fun e => hg e.1

theorem mem_L_cell (c : Dev nD) (j : Fin 60) (u : Unit) : u ∈ L (cell c j) := by unfold L; rw [if_pos rfl]; exact Finset.mem_singleton.mpr rfl

/-- A block to be passed on may be waited for: only passing on is owed. -/
theorem may_on (c : Dev nD) (s : Fin 12) (n : ℕ) : (levAts L lv : sProp 𝕄) ⊢ MayWait (c : Thread nD τ) (osem (wOf s)) () (O c (16 + n)) :=
  MayOwe.of_cut (lev := lv) 1
    (fun p hp => by rw [Finset.mem_singleton.mp hp]; exact mem_L_cell c (wOf s) ())
    (fun g u hg => by obtain ⟨j, -, rfl⟩ := O_pos c _ g u hg; exact mem_L_cell _ _ _)
    (fun p hp => by rw [Finset.mem_singleton.mp hp]; exact Nat.le_of_eq (lv_wOf c s))
    (fun g u hg => by obtain ⟨j, hj, rfl⟩ := O_pos c _ g u hg; rw [lv_on _ j (by omega)]; decide)

/-! ## The steps -/

theorem pc_congr {r k : ℕ} (M : Memref sig .tc .hbm (Sh3 r k) .bf16) {off off' : Fin 3 → ℕ} (h : off = off')
    (i : ∀ a, off a + (Sh1 r k).size a ≤ (Sh3 r k).size a) (i' : ∀ a, off' a + (Sh1 r k).size a ≤ (Sh3 r k).size a)
    (hq : (Sh1 r k).Squeezes (Sh2 r k)) : pc M off i hq = pc M off' i' hq := by subst h; rfl

/-! ## The slots as the kernel names them -/

theorem slotO0 (s : Dev nD) {off : Fin 3 → ℕ} (h : off = ![s.val, 0, 0]) (i : ∀ a, off a + (Sh1 1024 1152).size a ≤ (Sh3 1024 1152).size a) :
    pc (r := 1024) (k := 1152) (Memref.whole main_v1_0) off i squeezes_S1x1024x1152_S1024x1152 = pO 0 s := pc_congr _ h _ _ _
theorem credO0 (s : Dev nD) {off : Fin 3 → ℕ} (h : off = ![s.val, 0, 0]) (i : ∀ a, off a + (Sh1 1024 1152).size a ≤ (Sh3 1024 1152).size a) :
    (pc (r := 1024) (k := 1152) (Memref.whole main_v1_0) off i squeezes_S1x1024x1152_S1024x1152).view.dmaCredit = amt 0 :=
  (congrArg (fun v : Memref sig .tc .hbm (Sh2 1024 1152) .bf16 => v.view.dmaCredit) (slotO0 s h i)).trans (amt_out 0 s)
theorem slotO1 (s : Dev nD) {off : Fin 3 → ℕ} (h : off = ![s.val, 0, 0]) (i : ∀ a, off a + (Sh1 128 1024).size a ≤ (Sh3 128 1024).size a) :
    pc (r := 128) (k := 1024) (Memref.whole main_v1_1) off i squeezes_S1x128x1024_S128x1024 = pO 1 s := pc_congr _ h _ _ _
theorem credO1 (s : Dev nD) {off : Fin 3 → ℕ} (h : off = ![s.val, 0, 0]) (i : ∀ a, off a + (Sh1 128 1024).size a ≤ (Sh3 128 1024).size a) :
    (pc (r := 128) (k := 1024) (Memref.whole main_v1_1) off i squeezes_S1x128x1024_S128x1024).view.dmaCredit = amt 1 :=
  (congrArg (fun v : Memref sig .tc .hbm (Sh2 128 1024) .bf16 => v.view.dmaCredit) (slotO1 s h i)).trans (amt_out 1 s)
theorem slotO2 (s : Dev nD) {off : Fin 3 → ℕ} (h : off = ![s.val, 0, 0]) (i : ∀ a, off a + (Sh1 128 1024).size a ≤ (Sh3 128 1024).size a) :
    pc (r := 128) (k := 1024) (Memref.whole main_v1_2) off i squeezes_S1x128x1024_S128x1024 = pO 2 s := pc_congr _ h _ _ _
theorem credO2 (s : Dev nD) {off : Fin 3 → ℕ} (h : off = ![s.val, 0, 0]) (i : ∀ a, off a + (Sh1 128 1024).size a ≤ (Sh3 128 1024).size a) :
    (pc (r := 128) (k := 1024) (Memref.whole main_v1_2) off i squeezes_S1x128x1024_S128x1024).view.dmaCredit = amt 2 :=
  (congrArg (fun v : Memref sig .tc .hbm (Sh2 128 1024) .bf16 => v.view.dmaCredit) (slotO2 s h i)).trans (amt_out 2 s)
theorem slotO3 (s : Dev nD) {off : Fin 3 → ℕ} (h : off = ![s.val, 0, 0]) (i : ∀ a, off a + (Sh1 128 1024).size a ≤ (Sh3 128 1024).size a) :
    pc (r := 128) (k := 1024) (Memref.whole main_v1_3) off i squeezes_S1x128x1024_S128x1024 = pO 3 s := pc_congr _ h _ _ _
theorem credO3 (s : Dev nD) {off : Fin 3 → ℕ} (h : off = ![s.val, 0, 0]) (i : ∀ a, off a + (Sh1 128 1024).size a ≤ (Sh3 128 1024).size a) :
    (pc (r := 128) (k := 1024) (Memref.whole main_v1_3) off i squeezes_S1x128x1024_S128x1024).view.dmaCredit = amt 3 :=
  (congrArg (fun v : Memref sig .tc .hbm (Sh2 128 1024) .bf16 => v.view.dmaCredit) (slotO3 s h i)).trans (amt_out 3 s)

/-! ## The operations -/

theorem wp_loc (c : Dev nD) (n : ℕ) (h : n < 4) (a : Fin 4) (ha : ⟨n, h⟩ = a) {src : Memref sig .tc .vmem (Sh2 (rr a) (kk a)) .bf16}
    {dst : Memref sig .tc .hbm (Sh2 (rr a) (kk a)) .bf16}
    (hs : src = stM a) (hd : dst = pO a c) {q : DmaSem sig} (hq : q = smm (lC a))
    {hsrc : src.view.WordExact} {hdst : dst.view.WordExact}
    {hsem : DmaTarget.Typed (nD := nD) (τ := τ) (p := .tc) .vmem (.dma q) (.here dst)}
    {α : Type} {Q : α → sProp 𝕄} {k : PUnit → Prog (TpuEff nD τ sig (Elt F) Λ₀ .tc) α} :
    iprop(records m K ∗ LS c n ∗ stP m a c fullShare)
      ⊢ iprop((iprop(LS c (n + 1) ∗ lent m a c) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma q) hsrc hdst hsem) k) Q) := by
  subst ha; subst hs; subst hd; subst hq
  unfold LS
  iintro ⟨#HR, HT, Hst⟩ Hk
  ihave H := (two_step (locPre c) (locPost c) n h) $$ HT
  unfold locPre locPost outE
  icases H with ⟨⟨⟨%f, Hout⟩, Htok⟩, Hback⟩
  icases (lend m ⟨n, h⟩ c).1 $$ Hst with ⟨Hlent, Hin⟩
  unfold stP outP
  have hN : (pO ⟨n, h⟩ c).view.amount (.dma (smm (lC ⟨n, h⟩)) : SemLoc sig) = am (lC ⟨n, h⟩) := (am_lC _).symm
  have hp : iprop(((pO ⟨n, h⟩ c).view.loc (c : Thread nD τ) ↦[(pO ⟨n, h⟩ c).view.set]{fullShare}
        ((pO ⟨n, h⟩ c).view.write (Elt F) f ((stM ⟨n, h⟩).view.read (Elt F) (stB m ⟨n, h⟩ c)) Finset.univ))
      ∗ ((stM ⟨n, h⟩).view.loc (c : Thread nD τ) ↦[(stM ⟨n, h⟩).view.set]{sh 4} stB m ⟨n, h⟩ c))
      ⊢ (Rd m).payload (cell c (lC ⟨n, h⟩)) 0 () := by
    rw [payload_eq, pay_lC]
    unfold stP outP
    rw [pointsTo_congr (land (pO ⟨n, h⟩ c).view f (gath m ⟨n, h⟩ c) _ (read_gath m ⟨n, h⟩ c c))]
    iintro ⟨H1, H2⟩
    isplitl [H2] <;> iassumption
  have ha := amount_eq m c (lC ⟨n, h⟩) ()
  have hm := mem_duties m c (lC ⟨n, h⟩)
  iapply (Rounds.wp_copy_pointsTo 𝒱₀ ER (Rd m) (c : Thread nD τ) none (src := stM ⟨n, h⟩) (dst := pO ⟨n, h⟩ c) (sem := .dma (smm (lC ⟨n, h⟩)))
      (q := sh 4) (fs := stB m ⟨n, h⟩ c) (fd := f) (κ := K (c, lC ⟨n, h⟩)) (r := 0) (d := ()) hm () (am (lC ⟨n, h⟩)) hN ha hp) $$ [Hin Hout Htok]
  · isplitr; · iapply (inv_at m K c (lC ⟨n, h⟩)); iexact HR
    isplitl [Hin]; · iexact Hin
    isplitl [Hout]; · iexact Hout
    isplitl [Htok]; · iexact Htok
    iapply (reached_at m K c (lC ⟨n, h⟩)); iexact HR
  iintro Hc
  iapply Hk
  isplitr [Hlent]
  · iapply Hback
    iexact Hc
  iexact Hlent

theorem wp_snd (c : Dev nD) (n : ℕ) (h : n < 16) (a : Fin 4) (p : Fin 7) (ha : aOf (up ⟨n, h⟩) = a) (hp : kOf (up ⟨n, h⟩) = p)
    {src : Memref sig .tc .vmem (Sh2 (rr a) (kk a)) .bf16} {dst : Memref sig .tc .hbm (Sh2 (rr a) (kk a)) .bf16} (hs : src = stM a) (hd : dst = pO a c)
    {d : Dev nD} (hdv : d = tgt c p) {q₁ q₂ : DmaSem sig} (hq₁ : q₁ = smm (sC a p)) (hq₂ : q₂ = smm (rC a p))
    {hsc : dst.view.ref.isScScratch = false} {hsrc : src.view.WordExact} {hdst : dst.view.WordExact}
    {hsem : DmaTarget.Typed (p := .tc) .vmem (.dma q₂) (.remote (Dev.tc d : Thread nD τ) dst (.dma q₁) hsc)}
    {α : Type} {Q : α → sProp 𝕄} {k : PUnit → Prog (TpuEff nD τ sig (Elt F) Λ₀ .tc) α} :
    iprop(records m K ∗ SS m c n)
      ⊢ iprop((SS m c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma q₁) hsc) (.dma q₂) hsrc hdst hsem) k) Q) := by
  subst ha; subst hp
  subst hs; subst hd; subst hdv; subst hq₁; subst hq₂
  unfold SS
  iintro ⟨#HR, HT, ⟨%W, Ho⟩⟩ Hk
  ihave H := (two_step (sendPre m c) (sendPost c) n h) $$ HT
  unfold sendPre sendPost outE
  icases H with ⟨⟨Hin, ⟨%f, Hout⟩, Ht1, Ht2⟩, Hback⟩
  unfold stP outP
  have hlt := up_lt ⟨n, h⟩
  have hsh : shOf ⟨n, h⟩ = sh ⟨(kOf (up ⟨n, h⟩)).val, Nat.lt_of_lt_of_le hlt (by decide)⟩ := rfl
  generalize shOf ⟨n, h⟩ = q at *
  have hO' : O c n = O c (n + 1) + tal c (up ⟨n, h⟩) := O_step c n (by omega)
  generalize hj : up ⟨n, h⟩ = j at *
  have hN : (pO (aOf j) c).view.amount (.dma (smm (rOf j)) : SemLoc sig) = am (rOf j) := (am_rC _ _).symm
  have hp₁ : ((stM (aOf j)).view.loc (c : Thread nD τ) ↦[(stM (aOf j)).view.set]{q} stB m (aOf j) c)
      ⊢ (Rd m).payload (cell c (sOf j)) 0 () := by
    rw [payload_eq, pay_sC m c _ _ hlt, hsh]; exact BI.Entails.refl _
  have hp₂ : ((pO (aOf j) c).view.loc (tgt c (kOf j) : Thread nD τ) ↦[(pO (aOf j) c).view.set]{fullShare}
        ((pO (aOf j) c).view.write (Elt F) f ((stM (aOf j)).view.read (Elt F) (stB m (aOf j) c)) Finset.univ))
      ⊢ (Rd m).payload (cell (tgt c (kOf j)) (rOf j)) 0 () := by
    rw [payload_eq, pay_rC, peer_tgt, blk_own _ _ hlt]
    unfold outP
    exact Entails.of_eq (pointsTo_congr (land (pO (aOf j) c).view f (gath m (aOf j) (tgt c (kOf j))) _ (read_gath m (aOf j) c (tgt c (kOf j)))))
  have ha₁ : (Rd m).amount (cell c (sOf j)) 0 () = am (rOf j) := by rw [amount_eq, am_rC, am_sC]
  have ha₂ : (Rd m).amount (cell (tgt c (kOf j)) (rOf j)) 0 () = am (rOf j) := amount_eq m _ _ ()
  have hm₁ := mem_duties m c (sOf j)
  have hm₂ := mem_duties m (tgt c (kOf j)) (rOf j)
  have hO : O c n = O c (n + 1) + tallyAt (cell (tgt c (kOf j)) (rOf j)) () (am (rOf j)) := hO'
  iapply (Rounds.wp_send_pointsTo 𝒱₀ ER (Rd m) (c : Thread nD τ) none (c' := (tgt c (kOf j) : Thread nD τ))
      (src := stM (aOf j)) (dst := pO (aOf j) c) (sS := .dma (smm (sOf j))) (sem := .dma (smm (rOf j)))
      (q := q) (fs := stB m (aOf j) c) (fd := f)
      (κ₁ := K (c, sOf j)) (κ₂ := K (tgt c (kOf j), rOf j)) (r₁ := 0) (r₂ := 0) (d₁ := ()) (d₂ := ())
      hm₁ hm₂ () () (am (rOf j)) hN ha₁ ha₂ (O c (n + 1)) hO (W := W) hp₁ hp₂) $$ [Hin Hout Ho Ht1 Ht2]
  · isplitr; · iapply (inv_at m K c (sOf j)); iexact HR
    isplitr; · iapply (inv_at m K (tgt c (kOf j)) (rOf j)); iexact HR
    isplitl [Hin]; · iexact Hin
    isplitl [Hout]; · iexact Hout
    isplitl [Ho]; · iexact Ho
    isplitl [Ht1]; · iexact Ht1
    isplitr; · iapply (reached_at m K c (sOf j)); iexact HR
    isplitl [Ht2]; · iexact Ht2
    iapply (reached_at m K (tgt c (kOf j)) (rOf j)); iexact HR
  rw [show am (rOf j) = am (sOf j) from by rw [am_rC, am_sC]]
  iintro ⟨Hc, Ho⟩
  iapply Hk
  isplitl [Hback Hc]
  · iapply Hback; iexact Hc
  iexists W; iexact Ho

theorem wp_on (c : Dev nD) (n : ℕ) (h : n < 12) (a : Fin 4) (p : Fin 7) (ha : aOf (on ⟨n, h⟩) = a) (hp : kOf (on ⟨n, h⟩) = p)
    {src dst : Memref sig .tc .hbm (Sh2 (rr a) (kk a)) .bf16} (hs : src = pO a (blk c p)) (hd : dst = pO a (blk c p))
    {d : Dev nD} (hdv : d = tgt c p) {q₁ q₂ : DmaSem sig} (hq₁ : q₁ = smm (sC a p)) (hq₂ : q₂ = smm (rC a p))
    {hsc : dst.view.ref.isScScratch = false} {hsrc : src.view.WordExact} {hdst : dst.view.WordExact}
    {hsem : DmaTarget.Typed (p := .tc) .hbm (.dma q₂) (.remote (Dev.tc d : Thread nD τ) dst (.dma q₁) hsc)}
    {α : Type} {Q : α → sProp 𝕄} {k : PUnit → Prog (TpuEff nD τ sig (Elt F) Λ₀ .tc) α} :
    iprop(records m K ∗ RM m c n h)
      ⊢ iprop((RS c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma q₁) hsc) (.dma q₂) hsrc hdst hsem) k) Q) := by
  subst ha; subst hp
  subst hs; subst hd; subst hdv; subst hq₁; subst hq₂
  unfold RS RM outE
  iintro ⟨#HR, Hin, ⟨%f, Hout⟩, Ht1, Ht2, Hback, ⟨%W, Ho⟩⟩ Hk
  unfold outP
  have hge := on_ge ⟨n, h⟩
  have hO' : O c (16 + n) = O c (16 + (n + 1)) + tal c (on ⟨n, h⟩) := O_step c (16 + n) (by omega)
  generalize hj : on ⟨n, h⟩ = j at *
  generalize hb : blk c (kOf j) = b at *
  have hN : (pO (aOf j) b).view.amount (.dma (smm (rOf j)) : SemLoc sig) = am (rOf j) := (am_rC _ _).symm
  have hp₁ : ((pO (aOf j) b).view.loc (c : Thread nD τ) ↦[(pO (aOf j) b).view.set]{fullShare} gath m (aOf j) c)
      ⊢ (Rd m).payload (cell c (sOf j)) 0 () := by
    rw [payload_eq, pay_sC' m c _ _ hge, hb]; exact BI.Entails.refl _
  have hp₂ : ((pO (aOf j) b).view.loc (tgt c (kOf j) : Thread nD τ) ↦[(pO (aOf j) b).view.set]{fullShare}
        ((pO (aOf j) b).view.write (Elt F) f ((pO (aOf j) b).view.read (Elt F) (gath m (aOf j) c)) Finset.univ))
      ⊢ (Rd m).payload (cell (tgt c (kOf j)) (rOf j)) 0 () := by
    rw [payload_eq, pay_rC, peer_tgt, hb]
    unfold outP
    exact Entails.of_eq (pointsTo_congr (land (pO (aOf j) b).view f (gath m (aOf j) (tgt c (kOf j))) _
      ((read_gath m (aOf j) b (tgt c (kOf j))).trans (read_gath m (aOf j) b c).symm)))
  have ha₁ : (Rd m).amount (cell c (sOf j)) 0 () = am (rOf j) := by rw [amount_eq, am_rC, am_sC]
  have ha₂ : (Rd m).amount (cell (tgt c (kOf j)) (rOf j)) 0 () = am (rOf j) := amount_eq m _ _ ()
  have hm₁ := mem_duties m c (sOf j)
  have hm₂ := mem_duties m (tgt c (kOf j)) (rOf j)
  have hO : O c (16 + n) = O c (16 + (n + 1)) + tallyAt (cell (tgt c (kOf j)) (rOf j)) () (am (rOf j)) := hO'
  iapply (Rounds.wp_send_pointsTo 𝒱₀ ER (Rd m) (c : Thread nD τ) none (c' := (tgt c (kOf j) : Thread nD τ))
      (src := pO (aOf j) b) (dst := pO (aOf j) b) (sS := .dma (smm (sOf j))) (sem := .dma (smm (rOf j)))
      (q := fullShare) (fs := gath m (aOf j) c) (fd := f)
      (κ₁ := K (c, sOf j)) (κ₂ := K (tgt c (kOf j), rOf j)) (r₁ := 0) (r₂ := 0) (d₁ := ()) (d₂ := ())
      hm₁ hm₂ () () (am (rOf j)) hN ha₁ ha₂ (O c (16 + (n + 1))) hO (W := W) hp₁ hp₂) $$ [Hin Hout Ho Ht1 Ht2]
  · isplitr; · iapply (inv_at m K c (sOf j)); iexact HR
    isplitr; · iapply (inv_at m K (tgt c (kOf j)) (rOf j)); iexact HR
    isplitl [Hin]; · iexact Hin
    isplitl [Hout]; · iexact Hout
    isplitl [Ho]; · iexact Ho
    isplitl [Ht1]; · iexact Ht1
    isplitr; · iapply (reached_at m K c (sOf j)); iexact HR
    isplitl [Ht2]; · iexact Ht2
    iapply (reached_at m K (tgt c (kOf j)) (rOf j)); iexact HR
  rw [show am (rOf j) = am (sOf j) from by rw [am_rC, am_sC]]
  iintro ⟨Hc, Ho⟩
  iapply Hk
  isplitl [Hback Hc]
  · iapply Hback; iexact Hc
  iexists W; iexact Ho

theorem pay_wOf (c : Dev nD) (s : Fin 12) : pay m c (wOf s) = outP (aOf (on s)) c (blk c (kOf (on s))) (gath m (aOf (on s)) c) := by
  unfold wOf
  rw [pay_rC]
  have h : ∀ (c : Dev nD) (s : Fin 12), peer c ⟨(kOf (on s)).val - 3, by omega⟩ = blk c (kOf (on s)) := by decide +kernel
  rw [h]

theorem wp_wt (c : Dev nD) (n : ℕ) (h : n < 48) (j : Fin 60) (hj : ord ⟨n, h⟩ = j) {q : DmaSem sig} (hq : q = smm j)
    {s s' : Shape} {e e' : EltTy} {sp sp' : Space} {src : Memref sig .tc sp' s' e'} {dst : Memref sig .tc sp s e} {hsrc : src.view.WordExact} {hdst : dst.view.WordExact}
    (hN : dst.view.dmaCredit = am j)
    {α : Type} {Q : α → sProp 𝕄} {k : PUnit → Prog (TpuEff nD τ sig (Elt F) Λ₀ .tc) α} :
    iprop(records m K ∗ WS m c n)
      ⊢ iprop((WS m c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hj; subst hq
  unfold WS
  iintro ⟨#HR, HT, ⟨%W, Ho⟩⟩ Hk
  ihave H := (two_step (waitPre c) (waitPost m c) n h) $$ HT
  unfold waitPre waitPost
  icases H with ⟨⟨Hc, Hat⟩, Hback⟩
  have hk : 0 + dst.view.dmaCredit = (Rd m).expect (cell c (ord ⟨n, h⟩)) 0 := by rw [Nat.zero_add, expect_eq, hN]
  iapply (Rounds.wp_wait_rest_token 𝒱₀ ER (Rd m) (c : Thread nD τ) none (κ := K (c, ord ⟨n, h⟩))
      (wpE_waitDma2_eq 𝒱₀ (c : Thread nD τ) none Set.univ) (Set.mem_univ _) () (O := 0) (W := W) (R := 0) (m := 0) (T := ∅)
      hk) $$ [Hc Ho Hat]
  · isplitr; · iapply (inv_at m K c (ord ⟨n, h⟩)); iexact HR
    isplitl [Hc]; · rw [hN]; iexact Hc
    isplitl [Ho]; · iexact Ho
    isplitr; · rw [MayWait_zero]; iempintro
    iexact Hat
  iintro ⟨Ho, Hat, -, Hpay⟩
  ihave Hp := (Entails.of_eq (rest_eq m c (ord ⟨n, h⟩))) $$ Hpay
  imod (Rounds.cell_close ER (Rd m) (Set.mem_univ (K (c, ord ⟨n, h⟩))) (fun h => h) (R := 0 + 1) (duties_later m (cell c (ord ⟨n, h⟩)))) $$ [Hat] with Hz
  · isplitr; · iapply (inv_at m K c (ord ⟨n, h⟩)); iexact HR
    iexact Hat
  iapply Hk
  isplitl [Hback Hp Hz]
  · iapply Hback
    isplitl [Hp] <;> iassumption
  iexists (insert (osem (ord ⟨n, h⟩), ()) W); iexact Ho

theorem wp_won (c : Dev nD) (n : ℕ) (h : n < 12) (j : Fin 60) (hj : wOf ⟨n, h⟩ = j) {q : DmaSem sig} (hq : q = smm j)
    {s s' : Shape} {e e' : EltTy} {sp sp' : Space} {src : Memref sig .tc sp' s' e'} {dst : Memref sig .tc sp s e} {hsrc : src.view.WordExact} {hdst : dst.view.WordExact}
    (hN : dst.view.dmaCredit = am j)
    {α : Type} {Q : α → sProp 𝕄} {k : PUnit → Prog (TpuEff nD τ sig (Elt F) Λ₀ .tc) α} :
    iprop(records m K ∗ RS c n)
      ⊢ iprop((RM m c n h -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hj; subst hq
  unfold RS RM
  iintro ⟨#HR, HT, ⟨%W, Ho⟩⟩ Hk
  ihave H := (two_step (onPre c) (onPost c) n h) $$ HT
  unfold onPre onPost
  icases H with ⟨⟨⟨Hc, Hat⟩, Hrest⟩, Hback⟩
  have hk : 0 + dst.view.dmaCredit = (Rd m).expect (cell c (wOf ⟨n, h⟩)) 0 := by rw [Nat.zero_add, expect_eq, hN]
  iapply (Rounds.wp_wait_rest_token 𝒱₀ ER (Rd m) (c : Thread nD τ) none (κ := K (c, wOf ⟨n, h⟩))
      (wpE_waitDma2_eq 𝒱₀ (c : Thread nD τ) none Set.univ) (Set.mem_univ _) () (O := O c (16 + n)) (W := W) (R := 0) (m := 0) (T := ∅)
      hk) $$ [Hc Ho Hat]
  · isplitr; · iapply (inv_at m K c (wOf ⟨n, h⟩)); iexact HR
    isplitl [Hc]; · rw [hN]; iexact Hc
    isplitl [Ho]; · iexact Ho
    isplitr; · iapply (may_on c ⟨n, h⟩ n); iapply (levels_at m K); iexact HR
    iexact Hat
  iintro ⟨Ho, Hat, -, Hpay⟩
  ihave Hp := (Entails.of_eq ((rest_eq m c (wOf ⟨n, h⟩)).trans (pay_wOf m c ⟨n, h⟩))) $$ Hpay
  imod (Rounds.cell_close ER (Rd m) (Set.mem_univ (K (c, wOf ⟨n, h⟩))) (fun h => h) (R := 0 + 1) (duties_later m (cell c (wOf ⟨n, h⟩)))) $$ [Hat] with Hz
  · isplitr; · iapply (inv_at m K c (wOf ⟨n, h⟩)); iexact HR
    iexact Hat
  iapply Hk
  icases Hrest with ⟨Ho1, Ht1, Ht2⟩
  isplitl [Hp]; · iexact Hp
  isplitl [Ho1]; · iexact Ho1
  isplitl [Ht1]; · iexact Ht1
  isplitl [Ht2]; · iexact Ht2
  isplitr [Ho]
  · iintro Hcr
    iapply Hback
    isplitl [Hz] <;> iassumption
  iexists (insert (osem (wOf ⟨n, h⟩), ()) W); iexact Ho

end Cert.Gathering

end
-- ==== Proof.GatherParts.lean ====
/-
  The gathering's body, part by part: each part of the printed body fills the next buffer, or starts or waits for the
  next few transfers on the device's lists.
-/
module

public import proofs.«01_k».proof.Proof.GatherSteps
public import proofs.«01_k».proof.Proof.Gen.GatherIdeal.Skeleton

@[expose] public section

noncomputable section

namespace Cert.Gathering

open Cert.GatherIdeal Cert.GatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 60 → ℕ)

variable (M0 : Memref sig .tc .vmem S1024x1152 .f32) (h0 : M0.IsWhole) (M1 : Memref sig .tc .vmem S128x1024 .f32) (h1 : M1.IsWhole)
  (M2 : Memref sig .tc .vmem S128x1024 .f32) (h2 : M2.IsWhole) (M3 : Memref sig .tc .vmem S128x1024 .f32) (h3 : M3.IsWhole)

set_option maxRecDepth 65536
set_option maxHeartbeats 1000000

/-! ## Slots and devices named -/

theorem off1_at : ∀ c : Dev nD, k0_off1 c = ![c.val, 0, 0] := by decide +kernel
theorem off2_at : ∀ c : Dev nD, k0_off2 c = ![c.val, 0, 0] := by decide +kernel
theorem off3_at : ∀ c : Dev nD, k0_off3 c = ![(blk c 4).val, 0, 0] := by decide +kernel
theorem off4_at : ∀ c : Dev nD, k0_off4 c = ![(blk c 5).val, 0, 0] := by decide +kernel
theorem off5_at : ∀ c : Dev nD, k0_off5 c = ![(blk c 6).val, 0, 0] := by decide +kernel
theorem off6_at : ∀ c : Dev nD, k0_off6 c = ![(blk c 4).val, 0, 0] := by decide +kernel
theorem off7_at : ∀ c : Dev nD, k0_off7 c = ![(blk c 5).val, 0, 0] := by decide +kernel
theorem off8_at : ∀ c : Dev nD, k0_off8 c = ![(blk c 6).val, 0, 0] := by decide +kernel
theorem off9_at : ∀ c : Dev nD, k0_off9 c = ![(peer c 0).val, 0, 0] := by decide +kernel
theorem off10_at : ∀ c : Dev nD, k0_off10 c = ![(peer c 4).val, 0, 0] := by decide +kernel
theorem off11_at : ∀ c : Dev nD, k0_off11 c = ![(peer c 5).val, 0, 0] := by decide +kernel
theorem off12_at : ∀ c : Dev nD, k0_off12 c = ![(peer c 6).val, 0, 0] := by decide +kernel
theorem off13_at : ∀ c : Dev nD, k0_off13 c = ![(peer c 0).val, 0, 0] := by decide +kernel
theorem off14_at : ∀ c : Dev nD, k0_off14 c = ![(peer c 4).val, 0, 0] := by decide +kernel
theorem off15_at : ∀ c : Dev nD, k0_off15 c = ![(peer c 5).val, 0, 0] := by decide +kernel
theorem off16_at : ∀ c : Dev nD, k0_off16 c = ![(peer c 6).val, 0, 0] := by decide +kernel
theorem dev1_at : ∀ c : Dev nD, (⟨k0_dev1 c, k0_dev1_lt c⟩ : Dev nD) = tgt c 0 := by decide +kernel
theorem dev2_at : ∀ c : Dev nD, (⟨k0_dev2 c, k0_dev2_lt c⟩ : Dev nD) = tgt c 1 := by decide +kernel
theorem dev3_at : ∀ c : Dev nD, (⟨k0_dev3 c, k0_dev3_lt c⟩ : Dev nD) = tgt c 2 := by decide +kernel
theorem dev4_at : ∀ c : Dev nD, (⟨k0_dev4 c, k0_dev4_lt c⟩ : Dev nD) = tgt c 3 := by decide +kernel
theorem dev5_at : ∀ c : Dev nD, (⟨k0_dev5 c, k0_dev5_lt c⟩ : Dev nD) = tgt c 0 := by decide +kernel
theorem dev6_at : ∀ c : Dev nD, (⟨k0_dev6 c, k0_dev6_lt c⟩ : Dev nD) = tgt c 1 := by decide +kernel
theorem dev7_at : ∀ c : Dev nD, (⟨k0_dev7 c, k0_dev7_lt c⟩ : Dev nD) = tgt c 2 := by decide +kernel
theorem dev8_at : ∀ c : Dev nD, (⟨k0_dev8 c, k0_dev8_lt c⟩ : Dev nD) = tgt c 3 := by decide +kernel
theorem dev9_at : ∀ c : Dev nD, (⟨k0_dev9 c, k0_dev9_lt c⟩ : Dev nD) = tgt c 0 := by decide +kernel
theorem dev10_at : ∀ c : Dev nD, (⟨k0_dev10 c, k0_dev10_lt c⟩ : Dev nD) = tgt c 1 := by decide +kernel
theorem dev11_at : ∀ c : Dev nD, (⟨k0_dev11 c, k0_dev11_lt c⟩ : Dev nD) = tgt c 2 := by decide +kernel
theorem dev12_at : ∀ c : Dev nD, (⟨k0_dev12 c, k0_dev12_lt c⟩ : Dev nD) = tgt c 3 := by decide +kernel
theorem dev13_at : ∀ c : Dev nD, (⟨k0_dev13 c, k0_dev13_lt c⟩ : Dev nD) = tgt c 0 := by decide +kernel
theorem dev14_at : ∀ c : Dev nD, (⟨k0_dev14 c, k0_dev14_lt c⟩ : Dev nD) = tgt c 1 := by decide +kernel
theorem dev15_at : ∀ c : Dev nD, (⟨k0_dev15 c, k0_dev15_lt c⟩ : Dev nD) = tgt c 2 := by decide +kernel
theorem dev16_at : ∀ c : Dev nD, (⟨k0_dev16 c, k0_dev16_lt c⟩ : Dev nD) = tgt c 3 := by decide +kernel
theorem dev17_at : ∀ c : Dev nD, (⟨k0_dev17 c, k0_dev17_lt c⟩ : Dev nD) = tgt c 4 := by decide +kernel
theorem dev18_at : ∀ c : Dev nD, (⟨k0_dev18 c, k0_dev18_lt c⟩ : Dev nD) = tgt c 5 := by decide +kernel
theorem dev19_at : ∀ c : Dev nD, (⟨k0_dev19 c, k0_dev19_lt c⟩ : Dev nD) = tgt c 6 := by decide +kernel
theorem dev20_at : ∀ c : Dev nD, (⟨k0_dev20 c, k0_dev20_lt c⟩ : Dev nD) = tgt c 4 := by decide +kernel
theorem dev21_at : ∀ c : Dev nD, (⟨k0_dev21 c, k0_dev21_lt c⟩ : Dev nD) = tgt c 5 := by decide +kernel
theorem dev22_at : ∀ c : Dev nD, (⟨k0_dev22 c, k0_dev22_lt c⟩ : Dev nD) = tgt c 6 := by decide +kernel
theorem dev23_at : ∀ c : Dev nD, (⟨k0_dev23 c, k0_dev23_lt c⟩ : Dev nD) = tgt c 4 := by decide +kernel
theorem dev24_at : ∀ c : Dev nD, (⟨k0_dev24 c, k0_dev24_lt c⟩ : Dev nD) = tgt c 5 := by decide +kernel
theorem dev25_at : ∀ c : Dev nD, (⟨k0_dev25 c, k0_dev25_lt c⟩ : Dev nD) = tgt c 6 := by decide +kernel
theorem dev26_at : ∀ c : Dev nD, (⟨k0_dev26 c, k0_dev26_lt c⟩ : Dev nD) = tgt c 4 := by decide +kernel
theorem dev27_at : ∀ c : Dev nD, (⟨k0_dev27 c, k0_dev27_lt c⟩ : Dev nD) = tgt c 5 := by decide +kernel
theorem dev28_at : ∀ c : Dev nD, (⟨k0_dev28 c, k0_dev28_lt c⟩ : Dev nD) = tgt c 6 := by decide +kernel

/-- A part of the body on the staging buffers, the gathered arrays, the rounded blocks and the transfer counts. -/
abbrev onBuffers {α : Sort*}
    (f : (a0 : Memref sig .tc .vmem S1024x1152 .f32) → a0.IsWhole → (a1 : Memref sig .tc .vmem S128x1024 .f32) → a1.IsWhole →
      (a2 : Memref sig .tc .vmem S128x1024 .f32) → a2.IsWhole → (a3 : Memref sig .tc .vmem S128x1024 .f32) → a3.IsWhole →
      (b0 : Memref sig .tc .hbm S8x1024x1152 .bf16) → b0.IsWhole → (b1 : Memref sig .tc .hbm S8x128x1024 .bf16) → b1.IsWhole →
      (b2 : Memref sig .tc .hbm S8x128x1024 .bf16) → b2.IsWhole → (b3 : Memref sig .tc .hbm S8x128x1024 .bf16) → b3.IsWhole →
      (c0 : Memref sig .tc .vmem S1024x1152 .bf16) → c0.IsWhole → (c1 : Memref sig .tc .vmem S128x1024 .bf16) → c1.IsWhole →
      (c2 : Memref sig .tc .vmem S128x1024 .bf16) → c2.IsWhole → (c3 : Memref sig .tc .vmem S128x1024 .bf16) → c3.IsWhole →
      DmaSems sig S28 → DmaSems sig S28 → DmaSems sig S4 → α) : α :=
  f M0 h0 M1 h1 M2 h2 M3 h3 (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6

theorem part3 (c : Dev nD) (v2 v5 v8 : BitVec 32) {Q : (PUnit) → sProp 𝕄} :
    iprop(records m K ∗ LS c 3 ∗ stP m 3 c fullShare)
      ⊢ iprop((∀ r, iprop(LS c 4 ∗ lent m 3 c) -∗ Q r) -∗ wp frame (wpE (defs₀ (F := F)) 𝒱₀ (c : Thread nD τ) none) Set.univ
          (onBuffers M0 h0 M1 h1 M2 h2 M3 h3 k0_part3 c v2 v5 v8) Q) := by
  rw [k0_part3_eq_skeleton]
  unfold onBuffers k0_part3_skel
  simp only [Prog.lift, Prog.bind_op, Prog.bind_ret, Prog.pure_eq_ret]
  iintro ⟨#HR, H⟩ HQ
  iapply (wp_loc m K c 3 (by decide) 3 rfl (src := Memref.whole cc0_scratch3) rfl (slotO3 c (off2_at c) (k0_off2_inb c)) rfl) $$ [H]
  · isplitr; · iexact HR
    iexact H
  iintro H
  rw [wp_ret]
  imodintro
  iapply HQ
  iexact H

theorem part4 (c : Dev nD) (v2 v5 v8 v9 : BitVec 32) {Q : (PUnit) → sProp 𝕄} :
    iprop(records m K ∗ emp)
      ⊢ iprop((∀ r, iprop(emp) -∗ Q r) -∗ wp frame (wpE (defs₀ (F := F)) 𝒱₀ (c : Thread nD τ) none) Set.univ
          (onBuffers M0 h0 M1 h1 M2 h2 M3 h3 k0_part4 v2 v5 v8 v9) Q) := by
  rw [k0_part4_eq_skeleton]
  unfold onBuffers k0_part4_skel
  simp only [Prog.lift, Prog.bind_op, Prog.bind_ret, Prog.pure_eq_ret]
  iintro ⟨#HR, H⟩ HQ
  rw [wp_ret]
  imodintro
  iapply HQ
  iexact H

theorem part5 (c : Dev nD) (v2 v5 v8 v10 v11 v12 v13 : BitVec 32) {Q : (PUnit) → sProp 𝕄} :
    iprop(records m K ∗ SS m c 0)
      ⊢ iprop((∀ r, iprop(SS m c 3) -∗ Q r) -∗ wp frame (wpE (defs₀ (F := F)) 𝒱₀ (c : Thread nD τ) none) Set.univ
          (onBuffers M0 h0 M1 h1 M2 h2 M3 h3 k0_part5 c v2 v5 v8 v10 v11 v12 v13) Q) := by
  rw [k0_part5_eq_skeleton]
  unfold onBuffers k0_part5_skel
  simp only [Prog.lift, Prog.bind_op, Prog.bind_ret, Prog.pure_eq_ret]
  iintro ⟨#HR, H⟩ HQ
  iapply (wp_snd m K c 0 (by decide) 0 0 rfl rfl (src := Memref.whole cc0_scratch0) rfl (slotO0 c (off1_at c) (k0_off1_inb c)) (dev1_at c) rfl rfl) $$ [H]
  · isplitr; · iexact HR
    iexact H
  iintro H
  iapply (wp_snd m K c 1 (by decide) 0 1 rfl rfl (src := Memref.whole cc0_scratch0) rfl (slotO0 c (off1_at c) (k0_off1_inb c)) (dev2_at c) rfl rfl) $$ [H]
  · isplitr; · iexact HR
    iexact H
  iintro H
  iapply (wp_snd m K c 2 (by decide) 0 2 rfl rfl (src := Memref.whole cc0_scratch0) rfl (slotO0 c (off1_at c) (k0_off1_inb c)) (dev3_at c) rfl rfl) $$ [H]
  · isplitr; · iexact HR
    iexact H
  iintro H
  rw [wp_ret]
  imodintro
  iapply HQ
  iexact H

theorem part6 (c : Dev nD) (v2 v5 v8 v9 v10 v11 : BitVec 32) {Q : (PUnit) → sProp 𝕄} :
    iprop(records m K ∗ SS m c 3)
      ⊢ iprop((∀ r, iprop(SS m c 6) -∗ Q r) -∗ wp frame (wpE (defs₀ (F := F)) 𝒱₀ (c : Thread nD τ) none) Set.univ
          (onBuffers M0 h0 M1 h1 M2 h2 M3 h3 k0_part6 c v2 v5 v8 v9 v10 v11) Q) := by
  rw [k0_part6_eq_skeleton]
  unfold onBuffers k0_part6_skel
  simp only [Prog.lift, Prog.bind_op, Prog.bind_ret, Prog.pure_eq_ret]
  iintro ⟨#HR, H⟩ HQ
  iapply (wp_snd m K c 3 (by decide) 0 3 rfl rfl (src := Memref.whole cc0_scratch0) rfl (slotO0 c (off1_at c) (k0_off1_inb c)) (dev4_at c) rfl rfl) $$ [H]
  · isplitr; · iexact HR
    iexact H
  iintro H
  iapply (wp_snd m K c 4 (by decide) 1 0 rfl rfl (src := Memref.whole cc0_scratch1) rfl (slotO1 c (off2_at c) (k0_off2_inb c)) (dev5_at c) rfl rfl) $$ [H]
  · isplitr; · iexact HR
    iexact H
  iintro H
  iapply (wp_snd m K c 5 (by decide) 1 1 rfl rfl (src := Memref.whole cc0_scratch1) rfl (slotO1 c (off2_at c) (k0_off2_inb c)) (dev6_at c) rfl rfl) $$ [H]
  · isplitr; · iexact HR
    iexact H
  iintro H
  rw [wp_ret]
  imodintro
  iapply HQ
  iexact H

theorem part7 (c : Dev nD) (v2 v5 v8 v9 v10 v12 v13 : BitVec 32) {Q : (BitVec 32) → sProp 𝕄} :
    iprop(records m K ∗ SS m c 6)
      ⊢ iprop((∀ r, iprop(SS m c 9) -∗ Q r) -∗ wp frame (wpE (defs₀ (F := F)) 𝒱₀ (c : Thread nD τ) none) Set.univ
          (onBuffers M0 h0 M1 h1 M2 h2 M3 h3 k0_part7 c v2 v5 v8 v9 v10 v12 v13) Q) := by
  rw [k0_part7_eq_skeleton]
  unfold onBuffers k0_part7_skel
  simp only [Prog.lift, Prog.bind_op, Prog.bind_ret, Prog.pure_eq_ret]
  iintro ⟨#HR, H⟩ HQ
  iapply (wp_snd m K c 6 (by decide) 1 2 rfl rfl (src := Memref.whole cc0_scratch1) rfl (slotO1 c (off2_at c) (k0_off2_inb c)) (dev7_at c) rfl rfl) $$ [H]
  · isplitr; · iexact HR
    iexact H
  iintro H
  iapply (wp_snd m K c 7 (by decide) 1 3 rfl rfl (src := Memref.whole cc0_scratch1) rfl (slotO1 c (off2_at c) (k0_off2_inb c)) (dev8_at c) rfl rfl) $$ [H]
  · isplitr; · iexact HR
    iexact H
  iintro H
  iapply (wp_snd m K c 8 (by decide) 2 0 rfl rfl (src := Memref.whole cc0_scratch2) rfl (slotO2 c (off2_at c) (k0_off2_inb c)) (dev9_at c) rfl rfl) $$ [H]
  · isplitr; · iexact HR
    iexact H
  iintro H
  rw [wp_ret]
  imodintro
  iapply HQ
  iexact H

theorem part8 (c : Dev nD) (v2 v8 v11 v12 v13 v245 : BitVec 32) {Q : (BitVec 32) → sProp 𝕄} :
    iprop(records m K ∗ SS m c 9)
      ⊢ iprop((∀ r, iprop(SS m c 12) -∗ Q r) -∗ wp frame (wpE (defs₀ (F := F)) 𝒱₀ (c : Thread nD τ) none) Set.univ
          (onBuffers M0 h0 M1 h1 M2 h2 M3 h3 k0_part8 c v2 v8 v11 v12 v13 v245) Q) := by
  rw [k0_part8_eq_skeleton]
  unfold onBuffers k0_part8_skel
  simp only [Prog.lift, Prog.bind_op, Prog.bind_ret, Prog.pure_eq_ret]
  iintro ⟨#HR, H⟩ HQ
  iapply (wp_snd m K c 9 (by decide) 2 1 rfl rfl (src := Memref.whole cc0_scratch2) rfl (slotO2 c (off2_at c) (k0_off2_inb c)) (dev10_at c) rfl rfl) $$ [H]
  · isplitr; · iexact HR
    iexact H
  iintro H
  iapply (wp_snd m K c 10 (by decide) 2 2 rfl rfl (src := Memref.whole cc0_scratch2) rfl (slotO2 c (off2_at c) (k0_off2_inb c)) (dev11_at c) rfl rfl) $$ [H]
  · isplitr; · iexact HR
    iexact H
  iintro H
  iapply (wp_snd m K c 11 (by decide) 2 3 rfl rfl (src := Memref.whole cc0_scratch2) rfl (slotO2 c (off2_at c) (k0_off2_inb c)) (dev12_at c) rfl rfl) $$ [H]
  · isplitr; · iexact HR
    iexact H
  iintro H
  rw [wp_ret]
  imodintro
  iapply HQ
  iexact H

theorem part9 (c : Dev nD) (v2 v5 v8 v9 v10 v11 v279 : BitVec 32) {Q : (BitVec 32) → sProp 𝕄} :
    iprop(records m K ∗ SS m c 12)
      ⊢ iprop((∀ r, iprop(SS m c 15) -∗ Q r) -∗ wp frame (wpE (defs₀ (F := F)) 𝒱₀ (c : Thread nD τ) none) Set.univ
          (onBuffers M0 h0 M1 h1 M2 h2 M3 h3 k0_part9 c v2 v5 v8 v9 v10 v11 v279) Q) := by
  rw [k0_part9_eq_skeleton]
  unfold onBuffers k0_part9_skel
  simp only [Prog.lift, Prog.bind_op, Prog.bind_ret, Prog.pure_eq_ret]
  iintro ⟨#HR, H⟩ HQ
  iapply (wp_snd m K c 12 (by decide) 3 0 rfl rfl (src := Memref.whole cc0_scratch3) rfl (slotO3 c (off2_at c) (k0_off2_inb c)) (dev13_at c) rfl rfl) $$ [H]
  · isplitr; · iexact HR
    iexact H
  iintro H
  iapply (wp_snd m K c 13 (by decide) 3 1 rfl rfl (src := Memref.whole cc0_scratch3) rfl (slotO3 c (off2_at c) (k0_off2_inb c)) (dev14_at c) rfl rfl) $$ [H]
  · isplitr; · iexact HR
    iexact H
  iintro H
  iapply (wp_snd m K c 14 (by decide) 3 2 rfl rfl (src := Memref.whole cc0_scratch3) rfl (slotO3 c (off2_at c) (k0_off2_inb c)) (dev15_at c) rfl rfl) $$ [H]
  · isplitr; · iexact HR
    iexact H
  iintro H
  rw [wp_ret]
  imodintro
  iapply HQ
  iexact H

theorem part10 (c : Dev nD) (v2 v5 v8 v10 v12 v13 c4_i32_183 : BitVec 32) {X Y : sProp 𝕄} (hX : iprop(SS m c 16 ∗ X) ⊢ iprop(RS c 0 ∗ Y)) {Q : (Σ' (v347 : BitVec 32), BitVec 32) → sProp 𝕄} :
    iprop(records m K ∗ SS m c 15 ∗ X)
      ⊢ iprop((∀ r, iprop(RM m c 0 (by decide) ∗ Y) -∗ Q r) -∗ wp frame (wpE (defs₀ (F := F)) 𝒱₀ (c : Thread nD τ) none) Set.univ
          (onBuffers M0 h0 M1 h1 M2 h2 M3 h3 k0_part10 c v2 v5 v8 v10 v12 v13 c4_i32_183) Q) := by
  rw [k0_part10_eq_skeleton]
  unfold onBuffers k0_part10_skel
  simp only [Prog.lift, Prog.bind_op, Prog.bind_ret, Prog.pure_eq_ret]
  iintro ⟨#HR, H, HX⟩ HQ
  iapply (wp_snd m K c 15 (by decide) 3 3 rfl rfl (src := Memref.whole cc0_scratch3) rfl (slotO3 c (off2_at c) (k0_off2_inb c)) (dev16_at c) rfl rfl) $$ [H]
  · isplitr; · iexact HR
    iexact H
  iintro H
  ihave H := hX $$ [H HX]
  · isplitl [H] <;> iassumption
  icases H with ⟨H, HY⟩
  iapply (wp_won m K c 0 (by decide) (rC 0 1) rfl rfl (src := (pc (Memref.whole main_v1_0) (k0_off3 c) (k0_off3_inb c) squeezes_S1x1024x1152_S1024x1152)) ((credO0 (blk c 4) (off3_at c) (k0_off3_inb c)).trans (am_rC 0 1).symm)) $$ [H]
  · isplitr; · iexact HR
    iexact H
  iintro H
  rw [wp_ret]
  imodintro
  iapply HQ
  isplitl [H] <;> iassumption

theorem part11 (c : Dev nD) (v2 v5 v8 v9 v11 v347 c2_i32_207 : BitVec 32) {Q : (Σ' (v381 : BitVec 32), BitVec 32) → sProp 𝕄} :
    iprop(records m K ∗ RM m c 0 (by decide))
      ⊢ iprop((∀ r, iprop(RM m c 1 (by decide)) -∗ Q r) -∗ wp frame (wpE (defs₀ (F := F)) 𝒱₀ (c : Thread nD τ) none) Set.univ
          (onBuffers M0 h0 M1 h1 M2 h2 M3 h3 k0_part11 c v2 v5 v8 v9 v11 v347 c2_i32_207) Q) := by
  rw [k0_part11_eq_skeleton]
  unfold onBuffers k0_part11_skel
  simp only [Prog.lift, Prog.bind_op, Prog.bind_ret, Prog.pure_eq_ret]
  iintro ⟨#HR, H⟩ HQ
  iapply (wp_on m K c 0 (by decide) 0 4 rfl rfl (slotO0 (blk c 4) (off3_at c) (k0_off3_inb c)) (slotO0 (blk c 4) (off3_at c) (k0_off3_inb c)) (dev17_at c) rfl rfl) $$ [H]
  · isplitr; · iexact HR
    iexact H
  iintro H
  iapply (wp_won m K c 1 (by decide) (rC 0 2) rfl rfl (src := (pc (Memref.whole main_v1_0) (k0_off4 c) (k0_off4_inb c) squeezes_S1x1024x1152_S1024x1152)) ((credO0 (blk c 5) (off4_at c) (k0_off4_inb c)).trans (am_rC 0 2).symm)) $$ [H]
  · isplitr; · iexact HR
    iexact H
  iintro H
  rw [wp_ret]
  imodintro
  iapply HQ
  iexact H

theorem part12 (c : Dev nD) (v2 v5 v8 v9 v12 v13 v381 c2_i32_230 : BitVec 32) {Q : (Σ' (v415 : BitVec 32), BitVec 32) → sProp 𝕄} :
    iprop(records m K ∗ RM m c 1 (by decide))
      ⊢ iprop((∀ r, iprop(RM m c 2 (by decide)) -∗ Q r) -∗ wp frame (wpE (defs₀ (F := F)) 𝒱₀ (c : Thread nD τ) none) Set.univ
          (onBuffers M0 h0 M1 h1 M2 h2 M3 h3 k0_part12 c v2 v5 v8 v9 v12 v13 v381 c2_i32_230) Q) := by
  rw [k0_part12_eq_skeleton]
  unfold onBuffers k0_part12_skel
  simp only [Prog.lift, Prog.bind_op, Prog.bind_ret, Prog.pure_eq_ret]
  iintro ⟨#HR, H⟩ HQ
  iapply (wp_on m K c 1 (by decide) 0 5 rfl rfl (slotO0 (blk c 5) (off4_at c) (k0_off4_inb c)) (slotO0 (blk c 5) (off4_at c) (k0_off4_inb c)) (dev18_at c) rfl rfl) $$ [H]
  · isplitr; · iexact HR
    iexact H
  iintro H
  iapply (wp_won m K c 2 (by decide) (rC 0 3) rfl rfl (src := (pc (Memref.whole main_v1_0) (k0_off5 c) (k0_off5_inb c) squeezes_S1x1024x1152_S1024x1152)) ((credO0 (blk c 6) (off5_at c) (k0_off5_inb c)).trans (am_rC 0 3).symm)) $$ [H]
  · isplitr; · iexact HR
    iexact H
  iintro H
  rw [wp_ret]
  imodintro
  iapply HQ
  iexact H

theorem part13 (c : Dev nD) (v2 v5 v8 v9 v10 v415 c2_i32_253 : BitVec 32) {Q : (Σ' (v449 : BitVec 32), BitVec 32) → sProp 𝕄} :
    iprop(records m K ∗ RM m c 2 (by decide))
      ⊢ iprop((∀ r, iprop(RM m c 3 (by decide)) -∗ Q r) -∗ wp frame (wpE (defs₀ (F := F)) 𝒱₀ (c : Thread nD τ) none) Set.univ
          (onBuffers M0 h0 M1 h1 M2 h2 M3 h3 k0_part13 c v2 v5 v8 v9 v10 v415 c2_i32_253) Q) := by
  rw [k0_part13_eq_skeleton]
  unfold onBuffers k0_part13_skel
  simp only [Prog.lift, Prog.bind_op, Prog.bind_ret, Prog.pure_eq_ret]
  iintro ⟨#HR, H⟩ HQ
  iapply (wp_on m K c 2 (by decide) 0 6 rfl rfl (slotO0 (blk c 6) (off5_at c) (k0_off5_inb c)) (slotO0 (blk c 6) (off5_at c) (k0_off5_inb c)) (dev19_at c) rfl rfl) $$ [H]
  · isplitr; · iexact HR
    iexact H
  iintro H
  iapply (wp_won m K c 3 (by decide) (rC 1 1) rfl rfl (src := (pc (Memref.whole main_v1_1) (k0_off6 c) (k0_off6_inb c) squeezes_S1x128x1024_S128x1024)) ((credO1 (blk c 4) (off6_at c) (k0_off6_inb c)).trans (am_rC 1 1).symm)) $$ [H]
  · isplitr; · iexact HR
    iexact H
  iintro H
  rw [wp_ret]
  imodintro
  iapply HQ
  iexact H

theorem part14 (c : Dev nD) (v2 v5 v8 v9 v11 v449 c2_i32_276 : BitVec 32) {Q : (Σ' (v483 : BitVec 32), BitVec 32) → sProp 𝕄} :
    iprop(records m K ∗ RM m c 3 (by decide))
      ⊢ iprop((∀ r, iprop(RM m c 4 (by decide)) -∗ Q r) -∗ wp frame (wpE (defs₀ (F := F)) 𝒱₀ (c : Thread nD τ) none) Set.univ
          (onBuffers M0 h0 M1 h1 M2 h2 M3 h3 k0_part14 c v2 v5 v8 v9 v11 v449 c2_i32_276) Q) := by
  rw [k0_part14_eq_skeleton]
  unfold onBuffers k0_part14_skel
  simp only [Prog.lift, Prog.bind_op, Prog.bind_ret, Prog.pure_eq_ret]
  iintro ⟨#HR, H⟩ HQ
  iapply (wp_on m K c 3 (by decide) 1 4 rfl rfl (slotO1 (blk c 4) (off6_at c) (k0_off6_inb c)) (slotO1 (blk c 4) (off6_at c) (k0_off6_inb c)) (dev20_at c) rfl rfl) $$ [H]
  · isplitr; · iexact HR
    iexact H
  iintro H
  iapply (wp_won m K c 4 (by decide) (rC 1 2) rfl rfl (src := (pc (Memref.whole main_v1_1) (k0_off7 c) (k0_off7_inb c) squeezes_S1x128x1024_S128x1024)) ((credO1 (blk c 5) (off7_at c) (k0_off7_inb c)).trans (am_rC 1 2).symm)) $$ [H]
  · isplitr; · iexact HR
    iexact H
  iintro H
  rw [wp_ret]
  imodintro
  iapply HQ
  iexact H

theorem part15 (c : Dev nD) (v2 v5 v8 v9 v12 v13 v483 c2_i32_299 : BitVec 32) {Q : (Σ' (v517 : BitVec 32), BitVec 32) → sProp 𝕄} :
    iprop(records m K ∗ RM m c 4 (by decide))
      ⊢ iprop((∀ r, iprop(RM m c 5 (by decide)) -∗ Q r) -∗ wp frame (wpE (defs₀ (F := F)) 𝒱₀ (c : Thread nD τ) none) Set.univ
          (onBuffers M0 h0 M1 h1 M2 h2 M3 h3 k0_part15 c v2 v5 v8 v9 v12 v13 v483 c2_i32_299) Q) := by
  rw [k0_part15_eq_skeleton]
  unfold onBuffers k0_part15_skel
  simp only [Prog.lift, Prog.bind_op, Prog.bind_ret, Prog.pure_eq_ret]
  iintro ⟨#HR, H⟩ HQ
  iapply (wp_on m K c 4 (by decide) 1 5 rfl rfl (slotO1 (blk c 5) (off7_at c) (k0_off7_inb c)) (slotO1 (blk c 5) (off7_at c) (k0_off7_inb c)) (dev21_at c) rfl rfl) $$ [H]
  · isplitr; · iexact HR
    iexact H
  iintro H
  iapply (wp_won m K c 5 (by decide) (rC 1 3) rfl rfl (src := (pc (Memref.whole main_v1_1) (k0_off8 c) (k0_off8_inb c) squeezes_S1x128x1024_S128x1024)) ((credO1 (blk c 6) (off8_at c) (k0_off8_inb c)).trans (am_rC 1 3).symm)) $$ [H]
  · isplitr; · iexact HR
    iexact H
  iintro H
  rw [wp_ret]
  imodintro
  iapply HQ
  iexact H

theorem part16 (c : Dev nD) (v2 v5 v8 v9 v10 v517 c2_i32_322 : BitVec 32) {Q : (Σ' (v551 : BitVec 32), BitVec 32) → sProp 𝕄} :
    iprop(records m K ∗ RM m c 5 (by decide))
      ⊢ iprop((∀ r, iprop(RM m c 6 (by decide)) -∗ Q r) -∗ wp frame (wpE (defs₀ (F := F)) 𝒱₀ (c : Thread nD τ) none) Set.univ
          (onBuffers M0 h0 M1 h1 M2 h2 M3 h3 k0_part16 c v2 v5 v8 v9 v10 v517 c2_i32_322) Q) := by
  rw [k0_part16_eq_skeleton]
  unfold onBuffers k0_part16_skel
  simp only [Prog.lift, Prog.bind_op, Prog.bind_ret, Prog.pure_eq_ret]
  iintro ⟨#HR, H⟩ HQ
  iapply (wp_on m K c 5 (by decide) 1 6 rfl rfl (slotO1 (blk c 6) (off8_at c) (k0_off8_inb c)) (slotO1 (blk c 6) (off8_at c) (k0_off8_inb c)) (dev22_at c) rfl rfl) $$ [H]
  · isplitr; · iexact HR
    iexact H
  iintro H
  iapply (wp_won m K c 6 (by decide) (rC 2 1) rfl rfl (src := (pc (Memref.whole main_v1_2) (k0_off6 c) (k0_off6_inb c) squeezes_S1x128x1024_S128x1024)) ((credO2 (blk c 4) (off6_at c) (k0_off6_inb c)).trans (am_rC 2 1).symm)) $$ [H]
  · isplitr; · iexact HR
    iexact H
  iintro H
  rw [wp_ret]
  imodintro
  iapply HQ
  iexact H

theorem part17 (c : Dev nD) (v2 v5 v8 v9 v11 v551 c2_i32_345 : BitVec 32) {Q : (Σ' (v585 : BitVec 32), BitVec 32) → sProp 𝕄} :
    iprop(records m K ∗ RM m c 6 (by decide))
      ⊢ iprop((∀ r, iprop(RM m c 7 (by decide)) -∗ Q r) -∗ wp frame (wpE (defs₀ (F := F)) 𝒱₀ (c : Thread nD τ) none) Set.univ
          (onBuffers M0 h0 M1 h1 M2 h2 M3 h3 k0_part17 c v2 v5 v8 v9 v11 v551 c2_i32_345) Q) := by
  rw [k0_part17_eq_skeleton]
  unfold onBuffers k0_part17_skel
  simp only [Prog.lift, Prog.bind_op, Prog.bind_ret, Prog.pure_eq_ret]
  iintro ⟨#HR, H⟩ HQ
  iapply (wp_on m K c 6 (by decide) 2 4 rfl rfl (slotO2 (blk c 4) (off6_at c) (k0_off6_inb c)) (slotO2 (blk c 4) (off6_at c) (k0_off6_inb c)) (dev23_at c) rfl rfl) $$ [H]
  · isplitr; · iexact HR
    iexact H
  iintro H
  iapply (wp_won m K c 7 (by decide) (rC 2 2) rfl rfl (src := (pc (Memref.whole main_v1_2) (k0_off7 c) (k0_off7_inb c) squeezes_S1x128x1024_S128x1024)) ((credO2 (blk c 5) (off7_at c) (k0_off7_inb c)).trans (am_rC 2 2).symm)) $$ [H]
  · isplitr; · iexact HR
    iexact H
  iintro H
  rw [wp_ret]
  imodintro
  iapply HQ
  iexact H

theorem part18 (c : Dev nD) (v2 v5 v8 v9 v12 v13 v585 c2_i32_368 : BitVec 32) {Q : (Σ' (v619 : BitVec 32), BitVec 32) → sProp 𝕄} :
    iprop(records m K ∗ RM m c 7 (by decide))
      ⊢ iprop((∀ r, iprop(RM m c 8 (by decide)) -∗ Q r) -∗ wp frame (wpE (defs₀ (F := F)) 𝒱₀ (c : Thread nD τ) none) Set.univ
          (onBuffers M0 h0 M1 h1 M2 h2 M3 h3 k0_part18 c v2 v5 v8 v9 v12 v13 v585 c2_i32_368) Q) := by
  rw [k0_part18_eq_skeleton]
  unfold onBuffers k0_part18_skel
  simp only [Prog.lift, Prog.bind_op, Prog.bind_ret, Prog.pure_eq_ret]
  iintro ⟨#HR, H⟩ HQ
  iapply (wp_on m K c 7 (by decide) 2 5 rfl rfl (slotO2 (blk c 5) (off7_at c) (k0_off7_inb c)) (slotO2 (blk c 5) (off7_at c) (k0_off7_inb c)) (dev24_at c) rfl rfl) $$ [H]
  · isplitr; · iexact HR
    iexact H
  iintro H
  iapply (wp_won m K c 8 (by decide) (rC 2 3) rfl rfl (src := (pc (Memref.whole main_v1_2) (k0_off8 c) (k0_off8_inb c) squeezes_S1x128x1024_S128x1024)) ((credO2 (blk c 6) (off8_at c) (k0_off8_inb c)).trans (am_rC 2 3).symm)) $$ [H]
  · isplitr; · iexact HR
    iexact H
  iintro H
  rw [wp_ret]
  imodintro
  iapply HQ
  iexact H

theorem part19 (c : Dev nD) (v2 v5 v8 v9 v10 v619 c2_i32_391 : BitVec 32) {Q : (Σ' (v653 : BitVec 32), BitVec 32) → sProp 𝕄} :
    iprop(records m K ∗ RM m c 8 (by decide))
      ⊢ iprop((∀ r, iprop(RM m c 9 (by decide)) -∗ Q r) -∗ wp frame (wpE (defs₀ (F := F)) 𝒱₀ (c : Thread nD τ) none) Set.univ
          (onBuffers M0 h0 M1 h1 M2 h2 M3 h3 k0_part19 c v2 v5 v8 v9 v10 v619 c2_i32_391) Q) := by
  rw [k0_part19_eq_skeleton]
  unfold onBuffers k0_part19_skel
  simp only [Prog.lift, Prog.bind_op, Prog.bind_ret, Prog.pure_eq_ret]
  iintro ⟨#HR, H⟩ HQ
  iapply (wp_on m K c 8 (by decide) 2 6 rfl rfl (slotO2 (blk c 6) (off8_at c) (k0_off8_inb c)) (slotO2 (blk c 6) (off8_at c) (k0_off8_inb c)) (dev25_at c) rfl rfl) $$ [H]
  · isplitr; · iexact HR
    iexact H
  iintro H
  iapply (wp_won m K c 9 (by decide) (rC 3 1) rfl rfl (src := (pc (Memref.whole main_v1_3) (k0_off6 c) (k0_off6_inb c) squeezes_S1x128x1024_S128x1024)) ((credO3 (blk c 4) (off6_at c) (k0_off6_inb c)).trans (am_rC 3 1).symm)) $$ [H]
  · isplitr; · iexact HR
    iexact H
  iintro H
  rw [wp_ret]
  imodintro
  iapply HQ
  iexact H

theorem part20 (c : Dev nD) (v2 v5 v8 v9 v11 v653 c2_i32_414 : BitVec 32) {Q : (Σ' (v687 : BitVec 32), BitVec 32) → sProp 𝕄} :
    iprop(records m K ∗ RM m c 9 (by decide))
      ⊢ iprop((∀ r, iprop(RM m c 10 (by decide)) -∗ Q r) -∗ wp frame (wpE (defs₀ (F := F)) 𝒱₀ (c : Thread nD τ) none) Set.univ
          (onBuffers M0 h0 M1 h1 M2 h2 M3 h3 k0_part20 c v2 v5 v8 v9 v11 v653 c2_i32_414) Q) := by
  rw [k0_part20_eq_skeleton]
  unfold onBuffers k0_part20_skel
  simp only [Prog.lift, Prog.bind_op, Prog.bind_ret, Prog.pure_eq_ret]
  iintro ⟨#HR, H⟩ HQ
  iapply (wp_on m K c 9 (by decide) 3 4 rfl rfl (slotO3 (blk c 4) (off6_at c) (k0_off6_inb c)) (slotO3 (blk c 4) (off6_at c) (k0_off6_inb c)) (dev26_at c) rfl rfl) $$ [H]
  · isplitr; · iexact HR
    iexact H
  iintro H
  iapply (wp_won m K c 10 (by decide) (rC 3 2) rfl rfl (src := (pc (Memref.whole main_v1_3) (k0_off7 c) (k0_off7_inb c) squeezes_S1x128x1024_S128x1024)) ((credO3 (blk c 5) (off7_at c) (k0_off7_inb c)).trans (am_rC 3 2).symm)) $$ [H]
  · isplitr; · iexact HR
    iexact H
  iintro H
  rw [wp_ret]
  imodintro
  iapply HQ
  iexact H

theorem part21 (c : Dev nD) (v2 v5 v8 v9 v12 v13 v687 c2_i32_437 : BitVec 32) {Q : (Σ' (v721 : BitVec 32), BitVec 32) → sProp 𝕄} :
    iprop(records m K ∗ RM m c 10 (by decide))
      ⊢ iprop((∀ r, iprop(RM m c 11 (by decide)) -∗ Q r) -∗ wp frame (wpE (defs₀ (F := F)) 𝒱₀ (c : Thread nD τ) none) Set.univ
          (onBuffers M0 h0 M1 h1 M2 h2 M3 h3 k0_part21 c v2 v5 v8 v9 v12 v13 v687 c2_i32_437) Q) := by
  rw [k0_part21_eq_skeleton]
  unfold onBuffers k0_part21_skel
  simp only [Prog.lift, Prog.bind_op, Prog.bind_ret, Prog.pure_eq_ret]
  iintro ⟨#HR, H⟩ HQ
  iapply (wp_on m K c 10 (by decide) 3 5 rfl rfl (slotO3 (blk c 5) (off7_at c) (k0_off7_inb c)) (slotO3 (blk c 5) (off7_at c) (k0_off7_inb c)) (dev27_at c) rfl rfl) $$ [H]
  · isplitr; · iexact HR
    iexact H
  iintro H
  iapply (wp_won m K c 11 (by decide) (rC 3 3) rfl rfl (src := (pc (Memref.whole main_v1_3) (k0_off8 c) (k0_off8_inb c) squeezes_S1x128x1024_S128x1024)) ((credO3 (blk c 6) (off8_at c) (k0_off8_inb c)).trans (am_rC 3 3).symm)) $$ [H]
  · isplitr; · iexact HR
    iexact H
  iintro H
  rw [wp_ret]
  imodintro
  iapply HQ
  iexact H

theorem part22 (c : Dev nD) (v2 v5 v8 v9 v10 v721 c2_i32_460 : BitVec 32) {X Y : sProp 𝕄} (hX : iprop(RS c 12 ∗ X) ⊢ iprop(WS m c 0 ∗ Y)) {Q : (Σ' (v755 : BitVec 32), BitVec 32) → sProp 𝕄} :
    iprop(records m K ∗ RM m c 11 (by decide) ∗ X)
      ⊢ iprop((∀ r, iprop(WS m c 1 ∗ Y) -∗ Q r) -∗ wp frame (wpE (defs₀ (F := F)) 𝒱₀ (c : Thread nD τ) none) Set.univ
          (onBuffers M0 h0 M1 h1 M2 h2 M3 h3 k0_part22 c v2 v5 v8 v9 v10 v721 c2_i32_460) Q) := by
  rw [k0_part22_eq_skeleton]
  unfold onBuffers k0_part22_skel
  simp only [Prog.lift, Prog.bind_op, Prog.bind_ret, Prog.pure_eq_ret]
  iintro ⟨#HR, H, HX⟩ HQ
  iapply (wp_on m K c 11 (by decide) 3 6 rfl rfl (slotO3 (blk c 6) (off8_at c) (k0_off8_inb c)) (slotO3 (blk c 6) (off8_at c) (k0_off8_inb c)) (dev28_at c) rfl rfl) $$ [H]
  · isplitr; · iexact HR
    iexact H
  iintro H
  ihave H := hX $$ [H HX]
  · isplitl [H] <;> iassumption
  icases H with ⟨H, HY⟩
  iapply (wp_wt m K c 0 (by decide) (rC 0 0) rfl rfl (src := (pc (Memref.whole main_v1_0) (k0_off9 c) (k0_off9_inb c) squeezes_S1x1024x1152_S1024x1152)) ((credO0 (peer c 0) (off9_at c) (k0_off9_inb c)).trans (am_rC 0 0).symm)) $$ [H]
  · isplitr; · iexact HR
    iexact H
  iintro H
  rw [wp_ret]
  imodintro
  iapply HQ
  isplitl [H] <;> iassumption

theorem part23 (c : Dev nD) (v2 v5 v8 v11 v12 v13 v755 c0_i32_484 : BitVec 32) {Q : (BitVec 32) → sProp 𝕄} :
    iprop(records m K ∗ WS m c 1)
      ⊢ iprop((∀ r, iprop(WS m c 3) -∗ Q r) -∗ wp frame (wpE (defs₀ (F := F)) 𝒱₀ (c : Thread nD τ) none) Set.univ
          (onBuffers M0 h0 M1 h1 M2 h2 M3 h3 k0_part23 c v2 v5 v8 v11 v12 v13 v755 c0_i32_484) Q) := by
  rw [k0_part23_eq_skeleton]
  unfold onBuffers k0_part23_skel
  simp only [Prog.lift, Prog.bind_op, Prog.bind_ret, Prog.pure_eq_ret]
  iintro ⟨#HR, H⟩ HQ
  iapply (wp_wt m K c 1 (by decide) (rC 0 4) rfl rfl (src := (pc (Memref.whole main_v1_0) (k0_off10 c) (k0_off10_inb c) squeezes_S1x1024x1152_S1024x1152)) ((credO0 (peer c 4) (off10_at c) (k0_off10_inb c)).trans (am_rC 0 4).symm)) $$ [H]
  · isplitr; · iexact HR
    iexact H
  iintro H
  iapply (wp_wt m K c 2 (by decide) (rC 0 5) rfl rfl (src := (pc (Memref.whole main_v1_0) (k0_off11 c) (k0_off11_inb c) squeezes_S1x1024x1152_S1024x1152)) ((credO0 (peer c 5) (off11_at c) (k0_off11_inb c)).trans (am_rC 0 5).symm)) $$ [H]
  · isplitr; · iexact HR
    iexact H
  iintro H
  rw [wp_ret]
  imodintro
  iapply HQ
  iexact H

theorem part24 (c : Dev nD) (v2 v5 v8 v9 v10 c4_i32_509 : BitVec 32) {Q : (BitVec 32) → sProp 𝕄} :
    iprop(records m K ∗ WS m c 3)
      ⊢ iprop((∀ r, iprop(WS m c 5) -∗ Q r) -∗ wp frame (wpE (defs₀ (F := F)) 𝒱₀ (c : Thread nD τ) none) Set.univ
          (onBuffers M0 h0 M1 h1 M2 h2 M3 h3 k0_part24 c v2 v5 v8 v9 v10 c4_i32_509) Q) := by
  rw [k0_part24_eq_skeleton]
  unfold onBuffers k0_part24_skel
  simp only [Prog.lift, Prog.bind_op, Prog.bind_ret, Prog.pure_eq_ret]
  iintro ⟨#HR, H⟩ HQ
  iapply (wp_wt m K c 3 (by decide) (rC 0 6) rfl rfl (src := (pc (Memref.whole main_v1_0) (k0_off12 c) (k0_off12_inb c) squeezes_S1x1024x1152_S1024x1152)) ((credO0 (peer c 6) (off12_at c) (k0_off12_inb c)).trans (am_rC 0 6).symm)) $$ [H]
  · isplitr; · iexact HR
    iexact H
  iintro H
  iapply (wp_wt m K c 4 (by decide) (rC 1 0) rfl rfl (src := (pc (Memref.whole main_v1_1) (k0_off13 c) (k0_off13_inb c) squeezes_S1x128x1024_S128x1024)) ((credO1 (peer c 0) (off13_at c) (k0_off13_inb c)).trans (am_rC 1 0).symm)) $$ [H]
  · isplitr; · iexact HR
    iexact H
  iintro H
  rw [wp_ret]
  imodintro
  iapply HQ
  iexact H

theorem part25 (c : Dev nD) (v2 v5 v8 v11 v12 v13 c4_i32_534 : BitVec 32) {Q : (PUnit) → sProp 𝕄} :
    iprop(records m K ∗ WS m c 5)
      ⊢ iprop((∀ r, iprop(WS m c 7) -∗ Q r) -∗ wp frame (wpE (defs₀ (F := F)) 𝒱₀ (c : Thread nD τ) none) Set.univ
          (onBuffers M0 h0 M1 h1 M2 h2 M3 h3 k0_part25 c v2 v5 v8 v11 v12 v13 c4_i32_534) Q) := by
  rw [k0_part25_eq_skeleton]
  unfold onBuffers k0_part25_skel
  simp only [Prog.lift, Prog.bind_op, Prog.bind_ret, Prog.pure_eq_ret]
  iintro ⟨#HR, H⟩ HQ
  iapply (wp_wt m K c 5 (by decide) (rC 1 4) rfl rfl (src := (pc (Memref.whole main_v1_1) (k0_off14 c) (k0_off14_inb c) squeezes_S1x128x1024_S128x1024)) ((credO1 (peer c 4) (off14_at c) (k0_off14_inb c)).trans (am_rC 1 4).symm)) $$ [H]
  · isplitr; · iexact HR
    iexact H
  iintro H
  iapply (wp_wt m K c 6 (by decide) (rC 1 5) rfl rfl (src := (pc (Memref.whole main_v1_1) (k0_off15 c) (k0_off15_inb c) squeezes_S1x128x1024_S128x1024)) ((credO1 (peer c 5) (off15_at c) (k0_off15_inb c)).trans (am_rC 1 5).symm)) $$ [H]
  · isplitr; · iexact HR
    iexact H
  iintro H
  rw [wp_ret]
  imodintro
  iapply HQ
  iexact H

theorem part26 (c : Dev nD) (v2 v5 v8 v9 v10 : BitVec 32) {Q : (PUnit) → sProp 𝕄} :
    iprop(records m K ∗ WS m c 7)
      ⊢ iprop((∀ r, iprop(WS m c 9) -∗ Q r) -∗ wp frame (wpE (defs₀ (F := F)) 𝒱₀ (c : Thread nD τ) none) Set.univ
          (onBuffers M0 h0 M1 h1 M2 h2 M3 h3 k0_part26 c v2 v5 v8 v9 v10) Q) := by
  rw [k0_part26_eq_skeleton]
  unfold onBuffers k0_part26_skel
  simp only [Prog.lift, Prog.bind_op, Prog.bind_ret, Prog.pure_eq_ret]
  iintro ⟨#HR, H⟩ HQ
  iapply (wp_wt m K c 7 (by decide) (rC 1 6) rfl rfl (src := (pc (Memref.whole main_v1_1) (k0_off16 c) (k0_off16_inb c) squeezes_S1x128x1024_S128x1024)) ((credO1 (peer c 6) (off16_at c) (k0_off16_inb c)).trans (am_rC 1 6).symm)) $$ [H]
  · isplitr; · iexact HR
    iexact H
  iintro H
  iapply (wp_wt m K c 8 (by decide) (rC 2 0) rfl rfl (src := (pc (Memref.whole main_v1_2) (k0_off13 c) (k0_off13_inb c) squeezes_S1x128x1024_S128x1024)) ((credO2 (peer c 0) (off13_at c) (k0_off13_inb c)).trans (am_rC 2 0).symm)) $$ [H]
  · isplitr; · iexact HR
    iexact H
  iintro H
  rw [wp_ret]
  imodintro
  iapply HQ
  iexact H

theorem part27 (c : Dev nD) (v2 v5 v8 v11 v12 v13 : BitVec 32) {Q : (Σ' (v918 : BitVec 32), BitVec 32) → sProp 𝕄} :
    iprop(records m K ∗ WS m c 9)
      ⊢ iprop((∀ r, iprop(WS m c 11) -∗ Q r) -∗ wp frame (wpE (defs₀ (F := F)) 𝒱₀ (c : Thread nD τ) none) Set.univ
          (onBuffers M0 h0 M1 h1 M2 h2 M3 h3 k0_part27 c v2 v5 v8 v11 v12 v13) Q) := by
  rw [k0_part27_eq_skeleton]
  unfold onBuffers k0_part27_skel
  simp only [Prog.lift, Prog.bind_op, Prog.bind_ret, Prog.pure_eq_ret]
  iintro ⟨#HR, H⟩ HQ
  iapply (wp_wt m K c 9 (by decide) (rC 2 4) rfl rfl (src := (pc (Memref.whole main_v1_2) (k0_off14 c) (k0_off14_inb c) squeezes_S1x128x1024_S128x1024)) ((credO2 (peer c 4) (off14_at c) (k0_off14_inb c)).trans (am_rC 2 4).symm)) $$ [H]
  · isplitr; · iexact HR
    iexact H
  iintro H
  iapply (wp_wt m K c 10 (by decide) (rC 2 5) rfl rfl (src := (pc (Memref.whole main_v1_2) (k0_off15 c) (k0_off15_inb c) squeezes_S1x128x1024_S128x1024)) ((credO2 (peer c 5) (off15_at c) (k0_off15_inb c)).trans (am_rC 2 5).symm)) $$ [H]
  · isplitr; · iexact HR
    iexact H
  iintro H
  rw [wp_ret]
  imodintro
  iapply HQ
  iexact H

theorem part28 (c : Dev nD) (v2 v5 v8 v9 v10 v918 v921 : BitVec 32) {Q : (Σ' (v951 : BitVec 32), BitVec 32) → sProp 𝕄} :
    iprop(records m K ∗ WS m c 11)
      ⊢ iprop((∀ r, iprop(WS m c 13) -∗ Q r) -∗ wp frame (wpE (defs₀ (F := F)) 𝒱₀ (c : Thread nD τ) none) Set.univ
          (onBuffers M0 h0 M1 h1 M2 h2 M3 h3 k0_part28 c v2 v5 v8 v9 v10 v918 v921) Q) := by
  rw [k0_part28_eq_skeleton]
  unfold onBuffers k0_part28_skel
  simp only [Prog.lift, Prog.bind_op, Prog.bind_ret, Prog.pure_eq_ret]
  iintro ⟨#HR, H⟩ HQ
  iapply (wp_wt m K c 11 (by decide) (rC 2 6) rfl rfl (src := (pc (Memref.whole main_v1_2) (k0_off16 c) (k0_off16_inb c) squeezes_S1x128x1024_S128x1024)) ((credO2 (peer c 6) (off16_at c) (k0_off16_inb c)).trans (am_rC 2 6).symm)) $$ [H]
  · isplitr; · iexact HR
    iexact H
  iintro H
  iapply (wp_wt m K c 12 (by decide) (rC 3 0) rfl rfl (src := (pc (Memref.whole main_v1_3) (k0_off13 c) (k0_off13_inb c) squeezes_S1x128x1024_S128x1024)) ((credO3 (peer c 0) (off13_at c) (k0_off13_inb c)).trans (am_rC 3 0).symm)) $$ [H]
  · isplitr; · iexact HR
    iexact H
  iintro H
  rw [wp_ret]
  imodintro
  iapply HQ
  iexact H

theorem part29 (c : Dev nD) (v2 v5 v8 v11 v12 v951 v954 : BitVec 32) {Q : (Σ' (v985 : BitVec 32) (v986 : BitVec 32), BitVec 32) → sProp 𝕄} :
    iprop(records m K ∗ WS m c 13)
      ⊢ iprop((∀ r, iprop(WS m c 15) -∗ Q r) -∗ wp frame (wpE (defs₀ (F := F)) 𝒱₀ (c : Thread nD τ) none) Set.univ
          (onBuffers M0 h0 M1 h1 M2 h2 M3 h3 k0_part29 c v2 v5 v8 v11 v12 v951 v954) Q) := by
  rw [k0_part29_eq_skeleton]
  unfold onBuffers k0_part29_skel
  simp only [Prog.lift, Prog.bind_op, Prog.bind_ret, Prog.pure_eq_ret]
  iintro ⟨#HR, H⟩ HQ
  iapply (wp_wt m K c 13 (by decide) (rC 3 4) rfl rfl (src := (pc (Memref.whole main_v1_3) (k0_off14 c) (k0_off14_inb c) squeezes_S1x128x1024_S128x1024)) ((credO3 (peer c 4) (off14_at c) (k0_off14_inb c)).trans (am_rC 3 4).symm)) $$ [H]
  · isplitr; · iexact HR
    iexact H
  iintro H
  iapply (wp_wt m K c 14 (by decide) (rC 3 5) rfl rfl (src := (pc (Memref.whole main_v1_3) (k0_off15 c) (k0_off15_inb c) squeezes_S1x128x1024_S128x1024)) ((credO3 (peer c 5) (off15_at c) (k0_off15_inb c)).trans (am_rC 3 5).symm)) $$ [H]
  · isplitr; · iexact HR
    iexact H
  iintro H
  rw [wp_ret]
  imodintro
  iapply HQ
  iexact H

theorem part30 (c : Dev nD) (v2 v5 v8 v13 v985 v986 c2_i32_659 : BitVec 32) {Q : (PUnit) → sProp 𝕄} :
    iprop(records m K ∗ WS m c 15)
      ⊢ iprop((∀ r, iprop(WS m c 19) -∗ Q r) -∗ wp frame (wpE (defs₀ (F := F)) 𝒱₀ (c : Thread nD τ) none) Set.univ
          (onBuffers M0 h0 M1 h1 M2 h2 M3 h3 k0_part30 c v2 v5 v8 v13 v985 v986 c2_i32_659) Q) := by
  rw [k0_part30_eq_skeleton]
  unfold onBuffers k0_part30_skel
  simp only [Prog.lift, Prog.bind_op, Prog.bind_ret, Prog.pure_eq_ret]
  iintro ⟨#HR, H⟩ HQ
  iapply (wp_wt m K c 15 (by decide) (rC 3 6) rfl rfl (src := (pc (Memref.whole main_v1_3) (k0_off16 c) (k0_off16_inb c) squeezes_S1x128x1024_S128x1024)) ((credO3 (peer c 6) (off16_at c) (k0_off16_inb c)).trans (am_rC 3 6).symm)) $$ [H]
  · isplitr; · iexact HR
    iexact H
  iintro H
  iapply (wp_wt m K c 16 (by decide) (sC 0 0) rfl rfl (src := (pc (Memref.whole main_v1_0) (k0_off1 c) (k0_off1_inb c) squeezes_S1x1024x1152_S1024x1152)) (dst := Memref.whole cc0_scratch0) ((amt_st 0).trans (am_sC 0 0).symm)) $$ [H]
  · isplitr; · iexact HR
    iexact H
  iintro H
  iapply (wp_wt m K c 17 (by decide) (sC 0 1) rfl rfl (src := (pc (Memref.whole main_v1_0) (k0_off1 c) (k0_off1_inb c) squeezes_S1x1024x1152_S1024x1152)) (dst := Memref.whole cc0_scratch0) ((amt_st 0).trans (am_sC 0 1).symm)) $$ [H]
  · isplitr; · iexact HR
    iexact H
  iintro H
  iapply (wp_wt m K c 18 (by decide) (sC 0 2) rfl rfl (src := (pc (Memref.whole main_v1_0) (k0_off1 c) (k0_off1_inb c) squeezes_S1x1024x1152_S1024x1152)) (dst := Memref.whole cc0_scratch0) ((amt_st 0).trans (am_sC 0 2).symm)) $$ [H]
  · isplitr; · iexact HR
    iexact H
  iintro H
  rw [wp_ret]
  imodintro
  iapply HQ
  iexact H

theorem part31 (c : Dev nD) {Q : (PUnit) → sProp 𝕄} :
    iprop(records m K ∗ WS m c 19)
      ⊢ iprop((∀ r, iprop(WS m c 25) -∗ Q r) -∗ wp frame (wpE (defs₀ (F := F)) 𝒱₀ (c : Thread nD τ) none) Set.univ
          (onBuffers M0 h0 M1 h1 M2 h2 M3 h3 k0_part31 c) Q) := by
  rw [k0_part31_eq_skeleton]
  unfold onBuffers k0_part31_skel
  simp only [Prog.lift, Prog.bind_op, Prog.bind_ret, Prog.pure_eq_ret]
  iintro ⟨#HR, H⟩ HQ
  iapply (wp_wt m K c 19 (by decide) (sC 0 3) rfl rfl (src := (pc (Memref.whole main_v1_0) (k0_off1 c) (k0_off1_inb c) squeezes_S1x1024x1152_S1024x1152)) (dst := Memref.whole cc0_scratch0) ((amt_st 0).trans (am_sC 0 3).symm)) $$ [H]
  · isplitr; · iexact HR
    iexact H
  iintro H
  iapply (wp_wt m K c 20 (by decide) (sC 1 0) rfl rfl (src := (pc (Memref.whole main_v1_1) (k0_off2 c) (k0_off2_inb c) squeezes_S1x128x1024_S128x1024)) (dst := Memref.whole cc0_scratch1) ((amt_st 1).trans (am_sC 1 0).symm)) $$ [H]
  · isplitr; · iexact HR
    iexact H
  iintro H
  iapply (wp_wt m K c 21 (by decide) (sC 1 1) rfl rfl (src := (pc (Memref.whole main_v1_1) (k0_off2 c) (k0_off2_inb c) squeezes_S1x128x1024_S128x1024)) (dst := Memref.whole cc0_scratch1) ((amt_st 1).trans (am_sC 1 1).symm)) $$ [H]
  · isplitr; · iexact HR
    iexact H
  iintro H
  iapply (wp_wt m K c 22 (by decide) (sC 1 2) rfl rfl (src := (pc (Memref.whole main_v1_1) (k0_off2 c) (k0_off2_inb c) squeezes_S1x128x1024_S128x1024)) (dst := Memref.whole cc0_scratch1) ((amt_st 1).trans (am_sC 1 2).symm)) $$ [H]
  · isplitr; · iexact HR
    iexact H
  iintro H
  iapply (wp_wt m K c 23 (by decide) (sC 1 3) rfl rfl (src := (pc (Memref.whole main_v1_1) (k0_off2 c) (k0_off2_inb c) squeezes_S1x128x1024_S128x1024)) (dst := Memref.whole cc0_scratch1) ((amt_st 1).trans (am_sC 1 3).symm)) $$ [H]
  · isplitr; · iexact HR
    iexact H
  iintro H
  iapply (wp_wt m K c 24 (by decide) (sC 2 0) rfl rfl (src := (pc (Memref.whole main_v1_2) (k0_off2 c) (k0_off2_inb c) squeezes_S1x128x1024_S128x1024)) (dst := Memref.whole cc0_scratch2) ((amt_st 2).trans (am_sC 2 0).symm)) $$ [H]
  · isplitr; · iexact HR
    iexact H
  iintro H
  rw [wp_ret]
  imodintro
  iapply HQ
  iexact H

theorem part32 (c : Dev nD) {Q : (PUnit) → sProp 𝕄} :
    iprop(records m K ∗ WS m c 25)
      ⊢ iprop((∀ r, iprop(WS m c 31) -∗ Q r) -∗ wp frame (wpE (defs₀ (F := F)) 𝒱₀ (c : Thread nD τ) none) Set.univ
          (onBuffers M0 h0 M1 h1 M2 h2 M3 h3 k0_part32 c) Q) := by
  rw [k0_part32_eq_skeleton]
  unfold onBuffers k0_part32_skel
  simp only [Prog.lift, Prog.bind_op, Prog.bind_ret, Prog.pure_eq_ret]
  iintro ⟨#HR, H⟩ HQ
  iapply (wp_wt m K c 25 (by decide) (sC 2 1) rfl rfl (src := (pc (Memref.whole main_v1_2) (k0_off2 c) (k0_off2_inb c) squeezes_S1x128x1024_S128x1024)) (dst := Memref.whole cc0_scratch2) ((amt_st 2).trans (am_sC 2 1).symm)) $$ [H]
  · isplitr; · iexact HR
    iexact H
  iintro H
  iapply (wp_wt m K c 26 (by decide) (sC 2 2) rfl rfl (src := (pc (Memref.whole main_v1_2) (k0_off2 c) (k0_off2_inb c) squeezes_S1x128x1024_S128x1024)) (dst := Memref.whole cc0_scratch2) ((amt_st 2).trans (am_sC 2 2).symm)) $$ [H]
  · isplitr; · iexact HR
    iexact H
  iintro H
  iapply (wp_wt m K c 27 (by decide) (sC 2 3) rfl rfl (src := (pc (Memref.whole main_v1_2) (k0_off2 c) (k0_off2_inb c) squeezes_S1x128x1024_S128x1024)) (dst := Memref.whole cc0_scratch2) ((amt_st 2).trans (am_sC 2 3).symm)) $$ [H]
  · isplitr; · iexact HR
    iexact H
  iintro H
  iapply (wp_wt m K c 28 (by decide) (sC 3 0) rfl rfl (src := (pc (Memref.whole main_v1_3) (k0_off2 c) (k0_off2_inb c) squeezes_S1x128x1024_S128x1024)) (dst := Memref.whole cc0_scratch3) ((amt_st 3).trans (am_sC 3 0).symm)) $$ [H]
  · isplitr; · iexact HR
    iexact H
  iintro H
  iapply (wp_wt m K c 29 (by decide) (sC 3 1) rfl rfl (src := (pc (Memref.whole main_v1_3) (k0_off2 c) (k0_off2_inb c) squeezes_S1x128x1024_S128x1024)) (dst := Memref.whole cc0_scratch3) ((amt_st 3).trans (am_sC 3 1).symm)) $$ [H]
  · isplitr; · iexact HR
    iexact H
  iintro H
  iapply (wp_wt m K c 30 (by decide) (sC 3 2) rfl rfl (src := (pc (Memref.whole main_v1_3) (k0_off2 c) (k0_off2_inb c) squeezes_S1x128x1024_S128x1024)) (dst := Memref.whole cc0_scratch3) ((amt_st 3).trans (am_sC 3 2).symm)) $$ [H]
  · isplitr; · iexact HR
    iexact H
  iintro H
  rw [wp_ret]
  imodintro
  iapply HQ
  iexact H

theorem part33 (c : Dev nD) {Q : (PUnit) → sProp 𝕄} :
    iprop(records m K ∗ WS m c 31)
      ⊢ iprop((∀ r, iprop(WS m c 35) -∗ Q r) -∗ wp frame (wpE (defs₀ (F := F)) 𝒱₀ (c : Thread nD τ) none) Set.univ
          (onBuffers M0 h0 M1 h1 M2 h2 M3 h3 k0_part33 c) Q) := by
  rw [k0_part33_eq_skeleton]
  unfold onBuffers k0_part33_skel
  simp only [Prog.lift, Prog.bind_op, Prog.bind_ret, Prog.pure_eq_ret]
  iintro ⟨#HR, H⟩ HQ
  iapply (wp_wt m K c 31 (by decide) (sC 3 3) rfl rfl (src := (pc (Memref.whole main_v1_3) (k0_off2 c) (k0_off2_inb c) squeezes_S1x128x1024_S128x1024)) (dst := Memref.whole cc0_scratch3) ((amt_st 3).trans (am_sC 3 3).symm)) $$ [H]
  · isplitr; · iexact HR
    iexact H
  iintro H
  iapply (wp_wt m K c 32 (by decide) (sC 0 4) rfl rfl (src := (pc (Memref.whole main_v1_0) (k0_off3 c) (k0_off3_inb c) squeezes_S1x1024x1152_S1024x1152)) ((credO0 (blk c 4) (off3_at c) (k0_off3_inb c)).trans (am_sC 0 4).symm)) $$ [H]
  · isplitr; · iexact HR
    iexact H
  iintro H
  iapply (wp_wt m K c 33 (by decide) (sC 0 5) rfl rfl (src := (pc (Memref.whole main_v1_0) (k0_off4 c) (k0_off4_inb c) squeezes_S1x1024x1152_S1024x1152)) ((credO0 (blk c 5) (off4_at c) (k0_off4_inb c)).trans (am_sC 0 5).symm)) $$ [H]
  · isplitr; · iexact HR
    iexact H
  iintro H
  iapply (wp_wt m K c 34 (by decide) (sC 0 6) rfl rfl (src := (pc (Memref.whole main_v1_0) (k0_off5 c) (k0_off5_inb c) squeezes_S1x1024x1152_S1024x1152)) ((credO0 (blk c 6) (off5_at c) (k0_off5_inb c)).trans (am_sC 0 6).symm)) $$ [H]
  · isplitr; · iexact HR
    iexact H
  iintro H
  rw [wp_ret]
  imodintro
  iapply HQ
  iexact H

theorem part34 (c : Dev nD) {Q : (PUnit) → sProp 𝕄} :
    iprop(records m K ∗ WS m c 35)
      ⊢ iprop((∀ r, iprop(WS m c 40) -∗ Q r) -∗ wp frame (wpE (defs₀ (F := F)) 𝒱₀ (c : Thread nD τ) none) Set.univ
          (onBuffers M0 h0 M1 h1 M2 h2 M3 h3 k0_part34 c) Q) := by
  rw [k0_part34_eq_skeleton]
  unfold onBuffers k0_part34_skel
  simp only [Prog.lift, Prog.bind_op, Prog.bind_ret, Prog.pure_eq_ret]
  iintro ⟨#HR, H⟩ HQ
  iapply (wp_wt m K c 35 (by decide) (sC 1 4) rfl rfl (src := (pc (Memref.whole main_v1_1) (k0_off6 c) (k0_off6_inb c) squeezes_S1x128x1024_S128x1024)) ((credO1 (blk c 4) (off6_at c) (k0_off6_inb c)).trans (am_sC 1 4).symm)) $$ [H]
  · isplitr; · iexact HR
    iexact H
  iintro H
  iapply (wp_wt m K c 36 (by decide) (sC 1 5) rfl rfl (src := (pc (Memref.whole main_v1_1) (k0_off7 c) (k0_off7_inb c) squeezes_S1x128x1024_S128x1024)) ((credO1 (blk c 5) (off7_at c) (k0_off7_inb c)).trans (am_sC 1 5).symm)) $$ [H]
  · isplitr; · iexact HR
    iexact H
  iintro H
  iapply (wp_wt m K c 37 (by decide) (sC 1 6) rfl rfl (src := (pc (Memref.whole main_v1_1) (k0_off8 c) (k0_off8_inb c) squeezes_S1x128x1024_S128x1024)) ((credO1 (blk c 6) (off8_at c) (k0_off8_inb c)).trans (am_sC 1 6).symm)) $$ [H]
  · isplitr; · iexact HR
    iexact H
  iintro H
  iapply (wp_wt m K c 38 (by decide) (sC 2 4) rfl rfl (src := (pc (Memref.whole main_v1_2) (k0_off6 c) (k0_off6_inb c) squeezes_S1x128x1024_S128x1024)) ((credO2 (blk c 4) (off6_at c) (k0_off6_inb c)).trans (am_sC 2 4).symm)) $$ [H]
  · isplitr; · iexact HR
    iexact H
  iintro H
  iapply (wp_wt m K c 39 (by decide) (sC 2 5) rfl rfl (src := (pc (Memref.whole main_v1_2) (k0_off7 c) (k0_off7_inb c) squeezes_S1x128x1024_S128x1024)) ((credO2 (blk c 5) (off7_at c) (k0_off7_inb c)).trans (am_sC 2 5).symm)) $$ [H]
  · isplitr; · iexact HR
    iexact H
  iintro H
  rw [wp_ret]
  imodintro
  iapply HQ
  iexact H

theorem part35 (c : Dev nD) {Q : (PUnit) → sProp 𝕄} :
    iprop(records m K ∗ WS m c 40)
      ⊢ iprop((∀ r, iprop(WS m c 44) -∗ Q r) -∗ wp frame (wpE (defs₀ (F := F)) 𝒱₀ (c : Thread nD τ) none) Set.univ
          (onBuffers M0 h0 M1 h1 M2 h2 M3 h3 k0_part35 c) Q) := by
  rw [k0_part35_eq_skeleton]
  unfold onBuffers k0_part35_skel
  simp only [Prog.lift, Prog.bind_op, Prog.bind_ret, Prog.pure_eq_ret]
  iintro ⟨#HR, H⟩ HQ
  iapply (wp_wt m K c 40 (by decide) (sC 2 6) rfl rfl (src := (pc (Memref.whole main_v1_2) (k0_off8 c) (k0_off8_inb c) squeezes_S1x128x1024_S128x1024)) ((credO2 (blk c 6) (off8_at c) (k0_off8_inb c)).trans (am_sC 2 6).symm)) $$ [H]
  · isplitr; · iexact HR
    iexact H
  iintro H
  iapply (wp_wt m K c 41 (by decide) (sC 3 4) rfl rfl (src := (pc (Memref.whole main_v1_3) (k0_off6 c) (k0_off6_inb c) squeezes_S1x128x1024_S128x1024)) ((credO3 (blk c 4) (off6_at c) (k0_off6_inb c)).trans (am_sC 3 4).symm)) $$ [H]
  · isplitr; · iexact HR
    iexact H
  iintro H
  iapply (wp_wt m K c 42 (by decide) (sC 3 5) rfl rfl (src := (pc (Memref.whole main_v1_3) (k0_off7 c) (k0_off7_inb c) squeezes_S1x128x1024_S128x1024)) ((credO3 (blk c 5) (off7_at c) (k0_off7_inb c)).trans (am_sC 3 5).symm)) $$ [H]
  · isplitr; · iexact HR
    iexact H
  iintro H
  iapply (wp_wt m K c 43 (by decide) (sC 3 6) rfl rfl (src := (pc (Memref.whole main_v1_3) (k0_off8 c) (k0_off8_inb c) squeezes_S1x128x1024_S128x1024)) ((credO3 (blk c 6) (off8_at c) (k0_off8_inb c)).trans (am_sC 3 6).symm)) $$ [H]
  · isplitr; · iexact HR
    iexact H
  iintro H
  rw [wp_ret]
  imodintro
  iapply HQ
  iexact H

end Cert.Gathering

end
-- ==== Proof.GatherFill.lean ====
/-
  The first two parts of the gathering's body: each staged block is loaded, rounded and stored into its local buffer,
  and the filled buffer is lent out — one part to the local copy, the others kept for the four transfers.
-/
module

public import proofs.«01_k».proof.Proof.GatherParts
public import Idealize.ShloMosaic.Lib.Exec

@[expose] public section

set_option Elab.async false

noncomputable section

namespace Cert.Gathering

open Cert.GatherIdeal Cert.GatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Whole
variable {R C : ℕ}

/-- A buffer of two axes filled by one store over the whole of it holds what was stored. -/
theorem read_store {e : EltTy} (v : View sig .tc .vmem ⟨2, ![R, C]⟩ e) (f : v.ty.Contents (Elt F)) (off : Fin 2 → ℕ)
    (ho : off = ![0, 0]) (inb : ∀ a, off a + (⟨2, ![R, C]⟩ : Shape).size a ≤ (⟨2, ![R, C]⟩ : Shape).size a)
    (p : Vec F ⟨2, ![R, C]⟩ e) :
    v.read (Elt F) (v.writes (Elt F) f [⟨Rect.unit (s := ⟨2, ![R, C]⟩) off (⟨2, ![R, C]⟩ : Shape).size inb, p⟩]) = p := by
  have hz : off = fun _ => 0 := by subst ho; funext a; match a with | 0 => rfl | 1 => rfl
  refine (View.read_writes_eq_canon _ _ _ fun y => ⟨_, List.mem_singleton_self _, ?_⟩).trans
    (View.canon_cons_unit_zero hz inb p [])
  subst hz
  show y ∈ (Rect.whole (⟨2, ![R, C]⟩ : Shape)).set
  rw [Rect.set_whole]; exact Finset.mem_univ y

/-- A load over the whole of a buffer of two axes reads what it holds. -/
theorem ld_whole {e : EltTy} (x : Vec F ⟨2, ![R, C]⟩ e) (off : Fin 2 → ℕ) (ho : off = ![0, 0])
    (inb : ∀ a, off a + (⟨2, ![R, C]⟩ : Shape).size a ≤ (⟨2, ![R, C]⟩ : Shape).size a) :
    View.ld (S := ⟨2, ![R, C]⟩) x (Rect.unit off (⟨2, ![R, C]⟩ : Shape).size inb) = x :=
  View.ld_unit_zero (by subst ho; funext a; match a with | 0 => rfl | 1 => rfl) inb x
end Whole

variable (m : (ℓ : Loc nD τ sig) → Buf (Elt F) ℓ) (K : Dev nD × Fin 60 → ℕ)
variable (M0 : Memref sig .tc .vmem S1024x1152 .f32) (h0 : M0.IsWhole) (M1 : Memref sig .tc .vmem S128x1024 .f32) (h1 : M1.IsWhole)
  (M2 : Memref sig .tc .vmem S128x1024 .f32) (h2 : M2.IsWhole) (M3 : Memref sig .tc .vmem S128x1024 .f32) (h3 : M3.IsWhole)

set_option maxRecDepth 65536
set_option maxHeartbeats 1600000

/-- A local buffer once filled is the buffer that is lent out. -/
theorem filled (a : Fin 4) (c : Dev nD) (W : Buf (Elt F) ((stM a).view.loc (c : Thread nD τ)))
    (h : (stM a).view.read (Elt F) W = (stM a).view.read (Elt F) (stB m a c)) :
    ((stM a).view.loc (c : Thread nD τ) ↦[(stM a).view.set]{fullShare} W) ⊢ stP m a c fullShare := by
  unfold stP
  refine Entails.of_eq (pointsTo_congr fun i hi => ?_)
  have e := land (stM a).view W (stB m a c) ((stM a).view.read (Elt F) W) h.symm i hi
  rw [View.write_read_eq_piecewise] at e
  exact (Finset.piecewise_eq_of_mem _ _ _ hi).symm.trans e

theorem filled0 (c : Dev nD) (W : Buf (Elt F) ((Memref.whole cc0_scratch0 : Memref sig .tc .vmem _ .bf16).view.loc (c : Thread nD τ)))
    (h : (Memref.whole cc0_scratch0 : Memref sig .tc .vmem _ .bf16).view.read (Elt F) W = stV m 0 c) :
    ((Memref.whole cc0_scratch0 : Memref sig .tc .vmem _ .bf16).view.loc (c : Thread nD τ) ↦[(Memref.whole cc0_scratch0 : Memref sig .tc .vmem _ .bf16).view.set]{fullShare} W)
      ⊢ stP m 0 c fullShare := filled m 0 c W h
theorem filled1 (c : Dev nD) (W : Buf (Elt F) ((Memref.whole cc0_scratch1 : Memref sig .tc .vmem _ .bf16).view.loc (c : Thread nD τ)))
    (h : (Memref.whole cc0_scratch1 : Memref sig .tc .vmem _ .bf16).view.read (Elt F) W = stV m 1 c) :
    ((Memref.whole cc0_scratch1 : Memref sig .tc .vmem _ .bf16).view.loc (c : Thread nD τ) ↦[(Memref.whole cc0_scratch1 : Memref sig .tc .vmem _ .bf16).view.set]{fullShare} W)
      ⊢ stP m 1 c fullShare := filled m 1 c W h
theorem filled2 (c : Dev nD) (W : Buf (Elt F) ((Memref.whole cc0_scratch2 : Memref sig .tc .vmem _ .bf16).view.loc (c : Thread nD τ)))
    (h : (Memref.whole cc0_scratch2 : Memref sig .tc .vmem _ .bf16).view.read (Elt F) W = stV m 2 c) :
    ((Memref.whole cc0_scratch2 : Memref sig .tc .vmem _ .bf16).view.loc (c : Thread nD τ) ↦[(Memref.whole cc0_scratch2 : Memref sig .tc .vmem _ .bf16).view.set]{fullShare} W)
      ⊢ stP m 2 c fullShare := filled m 2 c W h
theorem filled3 (c : Dev nD) (W : Buf (Elt F) ((Memref.whole cc0_scratch3 : Memref sig .tc .vmem _ .bf16).view.loc (c : Thread nD τ)))
    (h : (Memref.whole cc0_scratch3 : Memref sig .tc .vmem _ .bf16).view.read (Elt F) W = stV m 3 c) :
    ((Memref.whole cc0_scratch3 : Memref sig .tc .vmem _ .bf16).view.loc (c : Thread nD τ) ↦[(Memref.whole cc0_scratch3 : Memref sig .tc .vmem _ .bf16).view.set]{fullShare} W)
      ⊢ stP m 3 c fullShare := filled m 3 c W h

theorem part1 (c : Dev nD) {Q : (Σ' (d0 : Dev nD) (v2 : BitVec 32) (v5 : BitVec 32) (v8 : BitVec 32) (v9 : BitVec 32) (v10 : BitVec 32) (v11 : BitVec 32) (v12 : BitVec 32) (v13 : BitVec 32), FVec F S128x1024 .bf16) → sProp 𝕄} :
    iprop(records m K ∗ LS c 0 ∗ owns (c : Thread nD τ) M0 fullShare (xin m 0 c) ∗ owns (c : Thread nD τ) M1 fullShare (xin m 1 c)
        ∗ (∃ d, owns (c : Thread nD τ) (Memref.whole cc0_scratch0) fullShare d) ∗ (∃ d, owns (c : Thread nD τ) (Memref.whole cc0_scratch1) fullShare d))
      ⊢ iprop((∀ v2 v5 v8 v9 v10 v11 v12 v13, iprop((LS c 1 ∗ lent m 0 c) ∗ owns (c : Thread nD τ) M0 fullShare (xin m 0 c) ∗ owns (c : Thread nD τ) M1 fullShare (xin m 1 c)
              ∗ (∃ d, owns (c : Thread nD τ) (Memref.whole cc0_scratch1) fullShare d))
            -∗ Q ⟨c, v2, v5, v8, v9, v10, v11, v12, v13, k0_pay2 (xin m 1 c)⟩)
          -∗ wp frame (wpE (defs₀ (F := F)) 𝒱₀ (c : Thread nD τ) none) Set.univ
          (k0_part1 M0 h0 M1 h1 M2 h2 M3 h3 (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) Q) := by
  rw [k0_part1_eq_skeleton]
  unfold k0_part1_skel
  unfold owns
  iintro ⟨#HR, HL, ⟨%f0, %hf0, H0⟩, ⟨%f1, %hf1, H1⟩, ⟨%d4, %f4, -, H4⟩, ⟨%d5, %f5, %hf5, H5⟩⟩ HQ
  sl_exec
  ihave H4 := (filled0 m c ((Memref.whole cc0_scratch0 : Memref sig .tc .vmem S1024x1152 .bf16).view.writes (Elt F) f4 [⟨Rect.unit (s := S1024x1152) ![0, 0] S1024x1152.size inb_S1024x1152_S1024x1152_0_0, k0_pay1 (View.readAt (Elt F) M0.view (Rect.unit (s := S1024x1152) ![0, 0] S1024x1152.size inb_S1024x1152_S1024x1152_0_0).toLoadRect f0)⟩]) ((read_store _ _ _ rfl _ _).trans (congrArg k0_pay1 ((ld_whole _ _ rfl _).trans hf0)))) $$ H4
  iapply (wp_loc m K c 0 (by decide) 0 rfl (src := Memref.whole cc0_scratch0) rfl (slotO0 c (off1_at c) (k0_off1_inb c)) rfl) $$ [HL H4]
  · isplitr; · iexact HR
    isplitl [HL] <;> iassumption
  iintro H
  sl_exec
  sl_step
  have e1 : View.readAt (Elt F) M1.view (Rect.unit ![0, 0] S128x1024.size inb_S128x1024_S128x1024_0_0).toLoadRect f1 = xin m 1 c :=
    (ld_whole _ _ rfl _).trans hf1
  rw [e1]
  iapply HQ
  isplitl [H]; · iexact H
  isplitl [H0]; · iexists f0; isplitr; · ipureintro; exact hf0
                  iexact H0
  isplitl [H1]; · iexists f1; isplitr; · ipureintro; exact hf1
                  iexact H1
  iexists d5, f5
  isplitr; · ipureintro; assumption
  iexact H5

theorem part2 (c : Dev nD) (v2 v5 v8 : BitVec 32) {Q : PUnit → sProp 𝕄} :
    iprop(records m K ∗ LS c 1 ∗ owns (c : Thread nD τ) M2 fullShare (xin m 2 c) ∗ owns (c : Thread nD τ) M3 fullShare (xin m 3 c)
        ∗ (∃ d, owns (c : Thread nD τ) (Memref.whole cc0_scratch1) fullShare d) ∗ (∃ d, owns (c : Thread nD τ) (Memref.whole cc0_scratch2) fullShare d)
        ∗ (∃ d, owns (c : Thread nD τ) (Memref.whole cc0_scratch3) fullShare d))
      ⊢ iprop((∀ r, iprop((LS c 3 ∗ stP m 3 c fullShare) ∗ owns (c : Thread nD τ) M2 fullShare (xin m 2 c) ∗ owns (c : Thread nD τ) M3 fullShare (xin m 3 c)
              ∗ lent m 1 c ∗ lent m 2 c) -∗ Q r)
          -∗ wp frame (wpE (defs₀ (F := F)) 𝒱₀ (c : Thread nD τ) none) Set.univ
          (k0_part2 M0 h0 M1 h1 M2 h2 M3 h3 (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 c v2 v5 v8 (k0_pay2 (xin m 1 c))) Q) := by
  rw [k0_part2_eq_skeleton]
  unfold k0_part2_skel
  unfold owns
  iintro ⟨#HR, HL, ⟨%f2, %hf2, H2⟩, ⟨%f3, %hf3, H3⟩, ⟨%d5, %f5, -, H5⟩, ⟨%d6, %f6, -, H6⟩, ⟨%d7, %f7, -, H7⟩⟩ HQ
  sl_exec
  ihave H5 := (filled1 m c ((Memref.whole cc0_scratch1 : Memref sig .tc .vmem S128x1024 .bf16).view.writes (Elt F) f5 [⟨Rect.unit (s := S128x1024) ![0, 0] S128x1024.size inb_S128x1024_S128x1024_0_0, k0_pay3 (k0_pay2 (xin m 1 c))⟩]) (read_store _ _ _ rfl _ _)) $$ H5
  iapply (wp_loc m K c 1 (by decide) 1 rfl (src := Memref.whole cc0_scratch1) rfl (slotO1 c (off2_at c) (k0_off2_inb c)) rfl) $$ [HL H5]
  · isplitr; · iexact HR
    isplitl [HL] <;> iassumption
  iintro ⟨HL, Hl1⟩
  sl_exec
  ihave H6 := (filled2 m c ((Memref.whole cc0_scratch2 : Memref sig .tc .vmem S128x1024 .bf16).view.writes (Elt F) f6 [⟨Rect.unit (s := S128x1024) ![0, 0] S128x1024.size inb_S128x1024_S128x1024_0_0, k0_pay4 (View.readAt (Elt F) M2.view (Rect.unit (s := S128x1024) ![0, 0] S128x1024.size inb_S128x1024_S128x1024_0_0).toLoadRect f2)⟩]) ((read_store _ _ _ rfl _ _).trans (congrArg k0_pay4 ((ld_whole _ _ rfl _).trans hf2)))) $$ H6
  iapply (wp_loc m K c 2 (by decide) 2 rfl (src := Memref.whole cc0_scratch2) rfl (slotO2 c (off2_at c) (k0_off2_inb c)) rfl) $$ [HL H6]
  · isplitr; · iexact HR
    isplitl [HL] <;> iassumption
  iintro ⟨HL, Hl2⟩
  sl_exec
  sl_step
  ihave H7 := (filled3 m c ((Memref.whole cc0_scratch3 : Memref sig .tc .vmem S128x1024 .bf16).view.writes (Elt F) f7 [⟨Rect.unit (s := S128x1024) ![0, 0] S128x1024.size inb_S128x1024_S128x1024_0_0, k0_pay5 (View.readAt (Elt F) M3.view (Rect.unit (s := S128x1024) ![0, 0] S128x1024.size inb_S128x1024_S128x1024_0_0).toLoadRect f3)⟩]) ((read_store _ _ _ rfl _ _).trans (congrArg k0_pay5 ((ld_whole _ _ rfl _).trans hf3)))) $$ H7
  iapply HQ
  isplitl [HL H7]; · isplitl [HL] <;> iassumption
  isplitl [H2]; · iexists f2; isplitr; · ipureintro; exact hf2
                  iexact H2
  isplitl [H3]; · iexists f3; isplitr; · ipureintro; exact hf3
                  iexact H3
  isplitl [Hl1] <;> iassumption

end Cert.Gathering

end
-- ==== Proof.GatherBody.lean ====
/-
  The gathering's body put together: the buffers are filled and lent out, the sixteen direct transfers are started, the
  twelve blocks to be passed on are waited for and passed on, and then everything else is waited for.
-/
module

public import proofs.«01_k».proof.Proof.GatherFill

@[expose] public section

set_option Elab.async false

noncomputable section

namespace Cert.Gathering

open Cert.GatherIdeal Cert.GatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 60 → ℕ)

set_option maxRecDepth 65536
set_option maxHeartbeats 1000000

/-! ## The cells and the transfers sorted -/

omit [FloatOps F] in
theorem fin4 (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl

def half : Fin 16 ⊕ Fin 12 → Fin 28 | .inl s => up s | .inr s => on s
theorem half_bij : Function.Bijective half := by decide +kernel

omit [FloatOps F] in
/-- What is said of every transfer is said of the direct ones and of those that pass a block on. -/
theorem by_half (Φ : Fin 28 → sProp 𝕄) :
    bigSep Finset.univ Φ = iprop((bigSep Finset.univ fun s => Φ (up s)) ∗ bigSep Finset.univ fun s => Φ (on s)) := by
  rw [bigSep_univ_equiv (Equiv.ofBijective half half_bij) Φ, bigSep_univ_sum]
  rfl

/-- The receive semaphores of the blocks that are not passed on. -/
def rest (i : Fin 16) : Fin 60 := rC ⟨i.val / 4, by omega⟩ (![0, 4, 5, 6] ⟨i.val % 4, by omega⟩)

def arrive : Fin 16 ⊕ Fin 12 → Fin 28
  | .inl i => if h : i.val % 4 = 0 then ⟨i.val, by omega⟩ else ⟨16 + 3 * (i.val / 4) + (i.val % 4 - 1), by omega⟩
  | .inr s => ⟨4 * (s.val / 3) + 1 + s.val % 3, by omega⟩
theorem arrive_bij : Function.Bijective arrive := by decide +kernel
theorem arrive_l : ∀ i, rOf (arrive (.inl i)) = rest i := by decide +kernel
theorem arrive_r : ∀ s, rOf (arrive (.inr s)) = wOf s := by decide +kernel

omit [FloatOps F] in
/-- What is said of every receive semaphore, by whether its block is passed on. -/
theorem by_arrive (Φ : Fin 60 → sProp 𝕄) :
    (bigSep Finset.univ fun j => Φ (rOf j)) = iprop((bigSep Finset.univ fun i => Φ (rest i)) ∗ bigSep Finset.univ fun s => Φ (wOf s)) := by
  rw [bigSep_univ_equiv (Equiv.ofBijective arrive arrive_bij) (fun j => Φ (rOf j)), bigSep_univ_sum]
  refine congrArg₂ (fun a b : sProp 𝕄 => iprop(a ∗ b)) (congrArg _ (funext fun i => ?_)) (congrArg _ (funext fun s => ?_))
  · exact congrArg Φ (arrive_l i)
  · exact congrArg Φ (arrive_r s)

def cellOfOrd : Fin 48 ⊕ Fin 12 → Fin 60 | .inl i => ord i | .inr s => wOf s
theorem cellOfOrd_bij : Function.Bijective cellOfOrd := by decide +kernel

omit [FloatOps F] in
/-- What is said of every semaphore is said of those waited for last and of those whose blocks are passed on. -/
theorem by_cells (Φ : Fin 60 → sProp 𝕄) :
    bigSep Finset.univ Φ = iprop((bigSep Finset.univ fun i => Φ (ord i)) ∗ bigSep Finset.univ fun s => Φ (wOf s)) := by
  rw [bigSep_univ_equiv (Equiv.ofBijective cellOfOrd cellOfOrd_bij) Φ, bigSep_univ_sum]
  rfl

def place : Fin 16 ⊕ (Fin 16 ⊕ (Fin 12 ⊕ Fin 4)) → Fin 48
  | .inl i => ⟨i.val, by omega⟩ | .inr (.inl s) => ⟨16 + s.val, by omega⟩
  | .inr (.inr (.inl s)) => ⟨32 + s.val, by omega⟩ | .inr (.inr (.inr a)) => ⟨44 + a.val, by omega⟩
theorem place_bij : Function.Bijective place := by decide +kernel
theorem place_0 : ∀ i, ord (place (.inl i)) = rest i := by decide +kernel
theorem place_1 : ∀ s, ord (place (.inr (.inl s))) = sOf (up s) := by decide +kernel
theorem place_2 : ∀ s, ord (place (.inr (.inr (.inl s)))) = sOf (on s) := by decide +kernel
theorem place_3 : ∀ a, ord (place (.inr (.inr (.inr a)))) = lC a := by decide +kernel

omit [FloatOps F] in
/-- What is said of the semaphores waited for last, by what they are for. -/
theorem by_ord (Φ : Fin 60 → sProp 𝕄) :
    (bigSep Finset.univ fun i => Φ (ord i)) = iprop((bigSep Finset.univ fun i => Φ (rest i)) ∗ (bigSep Finset.univ fun s => Φ (sOf (up s)))
      ∗ (bigSep Finset.univ fun s => Φ (sOf (on s))) ∗ bigSep Finset.univ fun a => Φ (lC a)) := by
  rw [bigSep_univ_equiv (Equiv.ofBijective place place_bij) (fun i => Φ (ord i)), bigSep_univ_sum, bigSep_univ_sum, bigSep_univ_sum]
  refine congrArg₂ (fun a b : sProp 𝕄 => iprop(a ∗ b)) (congrArg _ (funext fun i => congrArg Φ (place_0 i)))
    (congrArg₂ (fun a b : sProp 𝕄 => iprop(a ∗ b)) (congrArg _ (funext fun i => congrArg Φ (place_1 i)))
      (congrArg₂ (fun a b : sProp 𝕄 => iprop(a ∗ b)) (congrArg _ (funext fun i => congrArg Φ (place_2 i)))
        (congrArg _ (funext fun i => congrArg Φ (place_3 i)))))

/-! ## The transfers ready -/

/-- What a direct transfer needs beside the buffer it sends from. -/
def sendRest (c : Dev nD) (s : Fin 16) : sProp 𝕄 :=
  iprop(outE (aOf (up s)) (tgt c (kOf (up s))) c
    ∗ dutyTok ER (cell c (sOf (up s))) 0 () ∗ dutyTok ER (cell (tgt c (kOf (up s))) (rOf (up s))) 0 ())

theorem up_a : ∀ ak : Fin 4 × Fin 4, aOf (up (finProdFinEquiv ak)) = ak.1 := by decide +kernel
theorem up_k : ∀ ak : Fin 4 × Fin 4, (kOf (up (finProdFinEquiv ak))).val = ak.2.val := by decide +kernel

theorem lent_all (c : Dev nD) :
    (bigSep Finset.univ fun s => stP m (aOf (up s)) c (shOf s)) = iprop(lent m 0 c ∗ lent m 1 c ∗ lent m 2 c ∗ lent m 3 c) := by
  have h : ∀ ak : Fin 4 × Fin 4, stP m (aOf (up (finProdFinEquiv ak))) c (shOf (finProdFinEquiv ak)) = stP m ak.1 c (sh ak.2.castSucc) := by
    intro ak
    have e : shOf (finProdFinEquiv ak) = sh ak.2.castSucc := congrArg sh (Fin.ext (up_k ak))
    rw [e, up_a ak]
  rw [bigSep_univ_equiv (finProdFinEquiv : Fin 4 × Fin 4 ≃ Fin 16), show (fun ak : Fin 4 × Fin 4 => stP m (aOf (up (finProdFinEquiv ak))) c (shOf (finProdFinEquiv ak)))
      = fun ak => stP m ak.1 c (sh ak.2.castSucc) from funext h, bigSep_univ_prod, fin4]
  simp only [fin4]
  rfl

theorem sends_ready (c : Dev nD) :
    iprop((lent m 0 c ∗ lent m 1 c ∗ lent m 2 c ∗ lent m 3 c) ∗ bigSep Finset.univ (sendRest c)) ⊢ (bigSep Finset.univ (sendPre m c) : sProp 𝕄) := by
  rw [← lent_all m c, ← bigSep_sep']
  exact BI.Entails.refl _

def onward (c : Dev nD) : sProp 𝕄 := bigSep Finset.univ (onPre c)
def closed (c : Dev nD) : sProp 𝕄 := bigSep Finset.univ fun s => semVal (cell c (wOf s)) 0
def recvCreds (c : Dev nD) : sProp 𝕄 := bigSep Finset.univ fun i : Fin 16 => cred (tallyAt (cell c (rest i)) () (am (rest i)))
def positions (c : Dev nD) : sProp 𝕄 := bigSep Finset.univ fun i : Fin 48 => atPos ER (cell c (ord i)) 0 ∅ 0

theorem on_ready (c : Dev nD) : iprop(SS m c 16 ∗ onward c) ⊢ iprop(RS c 0 ∗ Two (sendPre m c) (sendPost c) 16) := by
  unfold SS RS onward
  iintro ⟨⟨H, Ho⟩, Hn⟩
  isplitr [H]
  · isplitl [Hn]
    · iapply (two_start (onPre c) (onPost c)); iexact Hn
    iexact Ho
  iexact H

theorem waits_ready (c : Dev nD) :
    iprop(RS c 12 ∗ (LS c 4 ∗ Two (sendPre m c) (sendPost c) 16 ∗ recvCreds c ∗ positions c)) ⊢ iprop(WS m c 0 ∗ closed c) := by
  have h1 : (bigSep Finset.univ (waitPre c) : sProp 𝕄)
      = iprop((bigSep Finset.univ fun i : Fin 48 => cred (tallyAt (cell c (ord i)) () (am (ord i)))) ∗ positions c) := by
    unfold positions
    rw [← bigSep_sep']
    rfl
  have h2 : (bigSep Finset.univ (onPost c) : sProp 𝕄)
      = iprop(closed c ∗ bigSep Finset.univ fun s : Fin 12 => cred (tallyAt (cell c (sOf (on s))) () (am (sOf (on s))))) := by
    unfold closed
    rw [← bigSep_sep']
    rfl
  rw [by_ord (fun j => cred (tallyAt (cell c j) () (am j)))] at h1
  unfold RS LS WS recvCreds
  rw [show O c (16 + 12) = 0 from O_end c]
  iintro ⟨⟨HR, Ho⟩, HL, HS, H3, H4⟩
  ihave HRe := (two_end (onPre c) (onPost c)) $$ HR
  ihave HLe := (two_end (locPre c) (locPost c)) $$ HL
  ihave HSe := (two_end (sendPre m c) (sendPost c)) $$ HS
  icases (Entails.of_eq h2) $$ HRe with ⟨Hc, Hs⟩
  isplitr [Hc]
  · isplitr [Ho]
    · iapply (two_start (waitPre c) (waitPost m c))
      iapply (Entails.of_eq h1.symm)
      isplitr [H4]
      · isplitl [H3]; · iexact H3
        isplitl [HSe]; · iexact HSe
        isplitl [Hs]; · iexact Hs
        iexact HLe
      iexact H4
    iexact Ho
  iexact Hc

/-! ## The body -/

variable (M0 : Memref sig .tc .vmem S1024x1152 .f32) (h0 : M0.IsWhole) (M1 : Memref sig .tc .vmem S128x1024 .f32) (h1 : M1.IsWhole)
  (M2 : Memref sig .tc .vmem S128x1024 .f32) (h2 : M2.IsWhole) (M3 : Memref sig .tc .vmem S128x1024 .f32) (h3 : M3.IsWhole)

def blocks (c : Dev nD) : sProp 𝕄 :=
  iprop(owns (c : Thread nD τ) M0 fullShare (xin m 0 c) ∗ owns (c : Thread nD τ) M1 fullShare (xin m 1 c)
    ∗ owns (c : Thread nD τ) M2 fullShare (xin m 2 c) ∗ owns (c : Thread nD τ) M3 fullShare (xin m 3 c))
def buffers (c : Dev nD) : sProp 𝕄 :=
  iprop((∃ d, owns (c : Thread nD τ) (Memref.whole cc0_scratch0 : Memref sig .tc .vmem _ _) fullShare d) ∗ (∃ d, owns (c : Thread nD τ) (Memref.whole cc0_scratch1 : Memref sig .tc .vmem _ _) fullShare d)
    ∗ (∃ d, owns (c : Thread nD τ) (Memref.whole cc0_scratch2 : Memref sig .tc .vmem _ _) fullShare d) ∗ (∃ d, owns (c : Thread nD τ) (Memref.whole cc0_scratch3 : Memref sig .tc .vmem _ _) fullShare d))
/-- What the body starts from. -/
def bodyPre (c : Dev nD) : sProp 𝕄 :=
  iprop(LS c 0 ∗ (bigSep Finset.univ (sendRest c)) ∗ (∃ W, owes (c : Thread nD τ) (O c 0) W) ∗ onward c ∗ recvCreds c ∗ positions c)

theorem part36 (c : Dev nD) {Q : Dev nD → sProp 𝕄} :
    iprop(records m K ∗ blocks m M0 M1 M2 M3 c ∗ buffers c ∗ bodyPre c)
      ⊢ iprop((iprop(WS m c 47 ∗ closed c ∗ blocks m M0 M1 M2 M3 c) -∗ Q c) -∗ wp frame (wpE (defs₀ (F := F)) 𝒱₀ (c : Thread nD τ) none) Set.univ
          (k0_part36 M0 h0 M1 h1 M2 h2 M3 h3 (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) Q) := by
  rw [k0_part36_eq_skeleton]
  unfold k0_part36_skel blocks buffers bodyPre
  iintro ⟨#HR, ⟨HM0, HM1, HM2, HM3⟩, ⟨HB0, HB1, HB2, HB3⟩, HL, HS, Ho, Hn, Hrc, Hat⟩ HQ
  rw [wp_bind]
  iapply (part1 m K M0 h0 M1 h1 M2 h2 M3 h3 c) $$ [HL HM0 HM1 HB0 HB1]
  · isplitr; · iexact HR
    isplitl [HL]; · iexact HL
    isplitl [HM0]; · iexact HM0
    isplitl [HM1]; · iexact HM1
    isplitl [HB0] <;> iassumption
  iintro %v2 %v5 %v8 %v9 %v10 %v11 %v12 %v13 ⟨⟨HL, Hl0⟩, HM0, HM1, HB1⟩
  dsimp only
  rw [wp_bind]
  iapply (part2 m K M0 h0 M1 h1 M2 h2 M3 h3 c _ _ _) $$ [HL HM2 HM3 HB1 HB2 HB3]
  · isplitr; · iexact HR
    isplitl [HL]; · iexact HL
    isplitl [HM2]; · iexact HM2
    isplitl [HM3]; · iexact HM3
    isplitl [HB1]; · iexact HB1
    isplitl [HB2] <;> iassumption
  iintro %r ⟨HL, HM2, HM3, Hl1, Hl2⟩
  rw [wp_bind]
  iapply (part3 m K M0 h0 M1 h1 M2 h2 M3 h3 c _ _ _) $$ [HL]
  · isplitr; · iexact HR
    iexact HL
  iintro %r ⟨HL, Hl3⟩
  ihave HS := (sends_ready m c) $$ [HS Hl0 Hl1 Hl2 Hl3]
  · isplitr [HS]
    · isplitl [Hl0]; · iexact Hl0
      isplitl [Hl1]; · iexact Hl1
      isplitl [Hl2] <;> iassumption
    iexact HS
  ihave HS : SS m c 0 $$ [HS Ho]
  · unfold SS
    isplitl [HS]
    · iapply (two_start (sendPre m c) (sendPost c)); iexact HS
    iexact Ho
  rw [wp_bind]
  iapply (part4 m K M0 h0 M1 h1 M2 h2 M3 h3 c _ _ _ _) $$ []
  · isplitr; · iexact HR
    iempintro
  iintro %r -
  rw [wp_bind]
  iapply (part5 m K M0 h0 M1 h1 M2 h2 M3 h3 c _ _ _ _ _ _ _) $$ [HS]
  · isplitr; · iexact HR
    iexact HS
  iintro %r HS
  rw [wp_bind]
  iapply (part6 m K M0 h0 M1 h1 M2 h2 M3 h3 c _ _ _ _ _ _) $$ [HS]
  · isplitr; · iexact HR
    iexact HS
  iintro %r HS
  rw [wp_bind]
  iapply (part7 m K M0 h0 M1 h1 M2 h2 M3 h3 c _ _ _ _ _ _ _) $$ [HS]
  · isplitr; · iexact HR
    iexact HS
  iintro %r HS
  rw [wp_bind]
  iapply (part8 m K M0 h0 M1 h1 M2 h2 M3 h3 c _ _ _ _ _ _) $$ [HS]
  · isplitr; · iexact HR
    iexact HS
  iintro %r HS
  rw [wp_bind]
  iapply (part9 m K M0 h0 M1 h1 M2 h2 M3 h3 c _ _ _ _ _ _ _) $$ [HS]
  · isplitr; · iexact HR
    iexact HS
  iintro %r HS
  rw [wp_bind]
  iapply (part10 m K M0 h0 M1 h1 M2 h2 M3 h3 c _ _ _ _ _ _ _ (on_ready m c)) $$ [HS Hn]
  · isplitr; · iexact HR
    isplitl [HS] <;> iassumption
  iintro %r ⟨HS, HSd⟩
  obtain ⟨r0, r1⟩ := r
  dsimp only
  rw [wp_bind]
  iapply (part11 m K M0 h0 M1 h1 M2 h2 M3 h3 c _ _ _ _ _ _ _) $$ [HS]
  · isplitr; · iexact HR
    iexact HS
  iintro %r HS
  obtain ⟨r0, r1⟩ := r
  dsimp only
  rw [wp_bind]
  iapply (part12 m K M0 h0 M1 h1 M2 h2 M3 h3 c _ _ _ _ _ _ _ _) $$ [HS]
  · isplitr; · iexact HR
    iexact HS
  iintro %r HS
  obtain ⟨r0, r1⟩ := r
  dsimp only
  rw [wp_bind]
  iapply (part13 m K M0 h0 M1 h1 M2 h2 M3 h3 c _ _ _ _ _ _ _) $$ [HS]
  · isplitr; · iexact HR
    iexact HS
  iintro %r HS
  obtain ⟨r0, r1⟩ := r
  dsimp only
  rw [wp_bind]
  iapply (part14 m K M0 h0 M1 h1 M2 h2 M3 h3 c _ _ _ _ _ _ _) $$ [HS]
  · isplitr; · iexact HR
    iexact HS
  iintro %r HS
  obtain ⟨r0, r1⟩ := r
  dsimp only
  rw [wp_bind]
  iapply (part15 m K M0 h0 M1 h1 M2 h2 M3 h3 c _ _ _ _ _ _ _ _) $$ [HS]
  · isplitr; · iexact HR
    iexact HS
  iintro %r HS
  obtain ⟨r0, r1⟩ := r
  dsimp only
  rw [wp_bind]
  iapply (part16 m K M0 h0 M1 h1 M2 h2 M3 h3 c _ _ _ _ _ _ _) $$ [HS]
  · isplitr; · iexact HR
    iexact HS
  iintro %r HS
  obtain ⟨r0, r1⟩ := r
  dsimp only
  rw [wp_bind]
  iapply (part17 m K M0 h0 M1 h1 M2 h2 M3 h3 c _ _ _ _ _ _ _) $$ [HS]
  · isplitr; · iexact HR
    iexact HS
  iintro %r HS
  obtain ⟨r0, r1⟩ := r
  dsimp only
  rw [wp_bind]
  iapply (part18 m K M0 h0 M1 h1 M2 h2 M3 h3 c _ _ _ _ _ _ _ _) $$ [HS]
  · isplitr; · iexact HR
    iexact HS
  iintro %r HS
  obtain ⟨r0, r1⟩ := r
  dsimp only
  rw [wp_bind]
  iapply (part19 m K M0 h0 M1 h1 M2 h2 M3 h3 c _ _ _ _ _ _ _) $$ [HS]
  · isplitr; · iexact HR
    iexact HS
  iintro %r HS
  obtain ⟨r0, r1⟩ := r
  dsimp only
  rw [wp_bind]
  iapply (part20 m K M0 h0 M1 h1 M2 h2 M3 h3 c _ _ _ _ _ _ _) $$ [HS]
  · isplitr; · iexact HR
    iexact HS
  iintro %r HS
  obtain ⟨r0, r1⟩ := r
  dsimp only
  rw [wp_bind]
  iapply (part21 m K M0 h0 M1 h1 M2 h2 M3 h3 c _ _ _ _ _ _ _ _) $$ [HS]
  · isplitr; · iexact HR
    iexact HS
  iintro %r HS
  obtain ⟨r0, r1⟩ := r
  dsimp only
  rw [wp_bind]
  iapply (part22 m K M0 h0 M1 h1 M2 h2 M3 h3 c _ _ _ _ _ _ _ (waits_ready m c)) $$ [HS HL HSd Hrc Hat]
  · isplitr; · iexact HR
    isplitl [HS]; · iexact HS
    isplitl [HL]; · iexact HL
    isplitl [HSd]; · iexact HSd
    isplitl [Hrc] <;> iassumption
  iintro %r ⟨HS, Hcl⟩
  obtain ⟨r0, r1⟩ := r
  dsimp only
  rw [wp_bind]
  iapply (part23 m K M0 h0 M1 h1 M2 h2 M3 h3 c _ _ _ _ _ _ _ _) $$ [HS]
  · isplitr; · iexact HR
    iexact HS
  iintro %r HS
  rw [wp_bind]
  iapply (part24 m K M0 h0 M1 h1 M2 h2 M3 h3 c _ _ _ _ _ _) $$ [HS]
  · isplitr; · iexact HR
    iexact HS
  iintro %r HS
  rw [wp_bind]
  iapply (part25 m K M0 h0 M1 h1 M2 h2 M3 h3 c _ _ _ _ _ _ _) $$ [HS]
  · isplitr; · iexact HR
    iexact HS
  iintro %r HS
  rw [wp_bind]
  iapply (part26 m K M0 h0 M1 h1 M2 h2 M3 h3 c _ _ _ _ _) $$ [HS]
  · isplitr; · iexact HR
    iexact HS
  iintro %r HS
  rw [wp_bind]
  iapply (part27 m K M0 h0 M1 h1 M2 h2 M3 h3 c _ _ _ _ _ _) $$ [HS]
  · isplitr; · iexact HR
    iexact HS
  iintro %r HS
  obtain ⟨r0, r1⟩ := r
  dsimp only
  rw [wp_bind]
  iapply (part28 m K M0 h0 M1 h1 M2 h2 M3 h3 c _ _ _ _ _ _ _) $$ [HS]
  · isplitr; · iexact HR
    iexact HS
  iintro %r HS
  obtain ⟨r0, r1⟩ := r
  dsimp only
  rw [wp_bind]
  iapply (part29 m K M0 h0 M1 h1 M2 h2 M3 h3 c _ _ _ _ _ _ _) $$ [HS]
  · isplitr; · iexact HR
    iexact HS
  iintro %r HS
  obtain ⟨r0, r1, r2⟩ := r
  dsimp only
  rw [wp_bind]
  iapply (part30 m K M0 h0 M1 h1 M2 h2 M3 h3 c _ _ _ _ _ _ _) $$ [HS]
  · isplitr; · iexact HR
    iexact HS
  iintro %r HS
  rw [wp_bind]
  iapply (part31 m K M0 h0 M1 h1 M2 h2 M3 h3 c ) $$ [HS]
  · isplitr; · iexact HR
    iexact HS
  iintro %r HS
  rw [wp_bind]
  iapply (part32 m K M0 h0 M1 h1 M2 h2 M3 h3 c ) $$ [HS]
  · isplitr; · iexact HR
    iexact HS
  iintro %r HS
  rw [wp_bind]
  iapply (part33 m K M0 h0 M1 h1 M2 h2 M3 h3 c ) $$ [HS]
  · isplitr; · iexact HR
    iexact HS
  iintro %r HS
  rw [wp_bind]
  iapply (part34 m K M0 h0 M1 h1 M2 h2 M3 h3 c ) $$ [HS]
  · isplitr; · iexact HR
    iexact HS
  iintro %r HS
  rw [wp_bind]
  iapply (part35 m K M0 h0 M1 h1 M2 h2 M3 h3 c ) $$ [HS]
  · isplitr; · iexact HR
    iexact HS
  iintro %r HS
  simp only [Prog.lift, Prog.bind_op, Prog.bind_ret, Prog.pure_eq_ret]
  iapply (wp_wt m K c 44 (by decide) (lC 0) rfl rfl (src := Memref.whole cc0_scratch0) ((credO0 c (off1_at c) (k0_off1_inb c)).trans (am_lC 0).symm)) $$ [HS]
  · isplitr; · iexact HR
    iexact HS
  iintro HS
  iapply (wp_wt m K c 45 (by decide) (lC 1) rfl rfl (src := Memref.whole cc0_scratch1) ((credO1 c (off2_at c) (k0_off2_inb c)).trans (am_lC 1).symm)) $$ [HS]
  · isplitr; · iexact HR
    iexact HS
  iintro HS
  iapply (wp_wt m K c 46 (by decide) (lC 2) rfl rfl (src := Memref.whole cc0_scratch2) ((credO2 c (off2_at c) (k0_off2_inb c)).trans (am_lC 2).symm)) $$ [HS]
  · isplitr; · iexact HR
    iexact HS
  iintro HS
  rw [wp_ret]
  imodintro
  iapply HQ
  isplitl [HS]; · iexact HS
  isplitl [Hcl]; · iexact Hcl
  isplitl [HM0]; · iexact HM0
  isplitl [HM1]; · iexact HM1
  isplitl [HM2] <;> iassumption

theorem body (c : Dev nD) {Q : PUnit → sProp 𝕄} :
    iprop(records m K ∗ blocks m M0 M1 M2 M3 c ∗ buffers c ∗ bodyPre c)
      ⊢ iprop((∀ r, iprop(WS m c 48 ∗ closed c ∗ blocks m M0 M1 M2 M3 c) -∗ Q r) -∗ wp frame (wpE (defs₀ (F := F)) 𝒱₀ (c : Thread nD τ) none) Set.univ
          (cc0_gather_weights M0 h0 M1 h1 M2 h2 M3 h3 (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6) Q) := by
  rw [cc0_gather_weights_eq_skeleton]
  unfold cc0_gather_weights_skel
  iintro H HQ
  icases H with ⟨#HR, H⟩
  rw [wp_bind]
  iapply (part36 m K M0 h0 M1 h1 M2 h2 M3 h3 c) $$ [H]
  · isplitr; · iexact HR
    iexact H
  iintro ⟨HS, Hcl, HM⟩
  simp only [Prog.lift, Prog.bind_op, Prog.bind_ret, Prog.pure_eq_ret]
  iapply (wp_wt m K c 47 (by decide) (lC 3) rfl rfl (src := Memref.whole cc0_scratch3) ((credO3 c (off2_at c) (k0_off2_inb c)).trans (am_lC 3).symm)) $$ [HS]
  · isplitr; · iexact HR
    iexact HS
  iintro HS
  rw [wp_ret]
  imodintro
  iapply HQ
  isplitl [HS]; · iexact HS
  isplitl [Hcl] <;> iassumption

end Cert.Gathering

end
-- ==== Proof.GatherSlots.lean ====
module

public import proofs.«01_k».proof.Proof.GatherBody
public import Idealize.ShloMosaic.Lib.ViewIndex
public import Idealize.ShloMosaic.Lib.Pipeline.Frame
public import Idealize.ShloMosaic.Lib.Pipeline.RegionArraysS

/-! The gathered arrays as wholes and as slots: each array of a device is its eight slots, its own and the seven whose
    blocks arrive, and what every device keeps for another, every other has from that device. -/

@[expose] public section
noncomputable section

namespace Cert.Gathering

open Cert.GatherIdeal Cert.GatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices and transfers -/

omit [FloatOps F] in
/-- Said of every device: said of oneself and of the seven peers. -/
theorem by_peer (c : Dev nD) (Φ : Dev nD → sProp 𝕄) :
    bigSep Finset.univ Φ = iprop(Φ c ∗ bigSep Finset.univ fun k : Fin 7 => Φ (peer c k)) := by
  have hn : c ∉ Finset.univ.image (peer c) := by
    intro h
    obtain ⟨k, -, hk⟩ := Finset.mem_image.mp h
    exact peer_ne c k hk
  conv_lhs => rw [univ_eq c, bigSep_insert hn, bigSep_image_of_injOn (fun _ _ _ _ h => peer_inj c h)]
  rfl

theorem pair_bij : Function.Bijective (fun j : Fin 28 => (aOf j, kOf j)) := by decide +kernel

omit [FloatOps F] in
/-- Said of every array and every peer: said of every transfer. -/
theorem by_pair (Φ : Fin 4 → Fin 7 → sProp 𝕄) :
    (bigSep Finset.univ fun a => bigSep Finset.univ fun k => Φ a k) = bigSep Finset.univ fun j : Fin 28 => Φ (aOf j) (kOf j) := by
  rw [← bigSep_univ_prod (fun ak : Fin 4 × Fin 7 => Φ ak.1 ak.2), bigSep_univ_equiv (Equiv.ofBijective _ pair_bij)]
  rfl

omit [FloatOps F] in
/-- What each device has for the sender of a transfer goes to that sender. -/
theorem around (Ψ : Fin 28 → Dev nD → sProp 𝕄) :
    (bigSep Finset.univ fun c : Dev nD => bigSep Finset.univ fun j : Fin 28 => Ψ j c)
      = bigSep Finset.univ fun c : Dev nD => bigSep Finset.univ fun j : Fin 28 => Ψ j (tgt c (kOf j)) := by
  rw [bigSep_univ_comm, bigSep_univ_comm (fun (c : Dev nD) (j : Fin 28) => Ψ j (tgt c (kOf j)))]
  refine bigSep_congr fun j _ => ?_
  rw [bigSep_univ_equiv (flip (kOf j))]
  rfl

def ofRole : Fin 28 ⊕ (Fin 28 ⊕ Fin 4) → Fin 60 | .inl j => sOf j | .inr (.inl j) => rOf j | .inr (.inr a) => lC a
theorem ofRole_bij : Function.Bijective ofRole := by decide +kernel

omit [FloatOps F] in
/-- Said of every semaphore: said of those to send with, of those to receive with and of those of the local copies. -/
theorem by_role (Φ : Fin 60 → sProp 𝕄) :
    bigSep Finset.univ Φ = iprop((bigSep Finset.univ fun j => Φ (sOf j)) ∗ (bigSep Finset.univ fun j => Φ (rOf j)) ∗ bigSep Finset.univ fun a => Φ (lC a)) := by
  rw [bigSep_univ_equiv (Equiv.ofBijective ofRole ofRole_bij) Φ, bigSep_univ_sum, bigSep_univ_sum]
  rfl

/-! ## An array is its slots -/

section Pieces
variable {r k : ℕ} (M : Memref sig .tc .hbm (Sh3 r k) .bf16) (hM : M.IsWhole) (hq : (Sh1 r k).Squeezes (Sh2 r k))

/-- The elements of one slot. -/
abbrev pcSet (s : Dev nD) : Finset M.view.ty.Idx := (pc M ![s.val, 0, 0] (slot_inb r k s) hq).view.set

theorem pc_set (s : Dev nD) : pcSet M hq s = (Rect.unit (s := Sh3 r k) ![s.val, 0, 0] (Sh1 r k).size (slot_inb r k s)).set.map M.view.emb :=
  (View.set_reshape _ _).trans (View.set_slice _ _)

include hM in
theorem pc_cover : (Finset.univ : Finset (Dev nD)).biUnion (pcSet M hq) = Finset.univ := by
  refine Finset.eq_univ_iff_forall.mpr fun i => ?_
  have hi : i ∈ M.view.set := by rw [hM.set_eq_univ]; exact Finset.mem_univ i
  obtain ⟨x, -, rfl⟩ := Finset.mem_map.mp hi
  refine Finset.mem_biUnion.mpr ⟨(x 0 : Fin 8), Finset.mem_univ _, ?_⟩
  refine (Finset.ext_iff.mp (pc_set M hq (x 0 : Fin 8)) _).mpr (Finset.mem_map.mpr ⟨x, Rect.mem_set_unit.mpr fun a => ?_, rfl⟩)
  have h := (x a).isLt
  fin_cases a
  · exact ⟨le_refl _, Nat.lt_succ_self _⟩
  · exact ⟨Nat.zero_le _, by simpa using h⟩
  · exact ⟨Nat.zero_le _, by simpa using h⟩

theorem pc_disjoint (s s' : Dev nD) (h : s ≠ s') : Disjoint (pcSet M hq s) (pcSet M hq s') := by
  rw [pc_set, pc_set]
  refine (Finset.disjoint_map _).mpr (Rect.unit_disjoint (s := Sh3 r k) (0 : Fin 3) ?_)
  have : s.val ≠ s'.val := fun e => h (Fin.ext e)
  show s.val + 1 ≤ s'.val ∨ s'.val + 1 ≤ s.val
  omega

include hM in
omit [FloatOps F] in
theorem slots (d : Dev nD) (f : Buf (Elt F) (M.view.loc (d : Thread nD τ))) :
    ((M.view.loc (d : Thread nD τ) ↦{fullShare} f : sProp 𝕄))
      = bigSep Finset.univ fun s : Dev nD =>
          (pc M ![s.val, 0, 0] (slot_inb r k s) hq).view.loc (d : Thread nD τ) ↦[(pc M ![s.val, 0, 0] (slot_inb r k s) hq).view.set]{fullShare} f := by
  have h := pointsTo_biUnion (Ix := Unit) (Name := ℕ) (U := UU) (Lvl := ℕ) (ℓ := M.view.loc (d : Thread nD τ)) (q := fullShare) (f := f) (Finset.univ : Finset (Dev nD))
    (pcSet M hq) (fun s _ s' _ => pc_disjoint M hq s s')
  rw [pc_cover M hM hq] at h
  exact h

end Pieces

variable (m : (ℓ : Loc nD τ sig) → Buf (Elt F) ℓ)

theorem outM_whole : (a : Fin 4) → (outM a).IsWhole
  | 0 => Memref.isWhole_whole _ | 1 => Memref.isWhole_whole _ | 2 => Memref.isWhole_whole _ | 3 => Memref.isWhole_whole _

/-- The whole of gathered array `a` on device `d`, at given contents. -/
def outW (a : Fin 4) (d : Dev nD) (f : Buf (Elt F) ((outM a).view.loc (d : Thread nD τ))) : sProp 𝕄 :=
  (outM a).view.loc (d : Thread nD τ) ↦{fullShare} f

omit [FloatOps F] in
theorem outW_slots (a : Fin 4) (d : Dev nD) (f) : outW (F := F) a d f = iprop(outP a d d f ∗ bigSep Finset.univ fun k : Fin 7 => outP a d (peer d k) f) := by
  rw [← by_peer d (fun s => outP a d s f)]
  exact slots (outM a) (outM_whole a) (sq a) d f

/-! ## The arrays among the buffers of a device -/

def outR : Fin 4 → Ref sig .tc | 0 => main_v1_0 | 1 => main_v1_1 | 2 => main_v1_2 | 3 => main_v1_3

def exR (a : Fin 4) : DevRef τ sig := Proc.devRef .tc (outR a)
theorem exR_inj : Function.Injective exR := by decide +kernel
/-- The four gathered arrays. -/
def exch : Finset (DevRef τ sig) := Finset.univ.map ⟨exR, exR_inj⟩
theorem exch_sub : exch ⊆ Pipeline.ucRefs τ sig := by
  intro b hb
  obtain ⟨a, -, rfl⟩ := Finset.mem_map.mp hb
  fin_cases a <;> exact Finset.mem_filter.mpr ⟨StableHlo.devRef_mem_tcRefs _, by decide⟩

/-- The four results as the gathering leaves them, every other buffer as at launch. -/
abbrev W0 (c : Dev nD) : Valuation τ sig (Elt F) := fun b => m (c, b)
def res0 (c : Dev nD) : Buf (Elt F) ((c : Thread nD τ).loc main_v1_0) := gath m 0 c
def res1 (c : Dev nD) : Buf (Elt F) ((c : Thread nD τ).loc main_v1_1) := gath m 1 c
def res2 (c : Dev nD) : Buf (Elt F) ((c : Thread nD τ).loc main_v1_2) := gath m 2 c
def res3 (c : Dev nD) : Buf (Elt F) ((c : Thread nD τ).loc main_v1_3) := gath m 3 c
def W1 (c : Dev nD) : Valuation τ sig (Elt F) :=
  Function.update (Function.update (Function.update (Function.update (W0 m c) main_v1_0 (res0 m c)) main_v1_1 (res1 m c))
    main_v1_2 (res2 m c)) main_v1_3 (res3 m c)

section Val
variable (c : Dev nD)
theorem W1_of (b : DevRef τ sig) (h0 : b ≠ Proc.devRef .tc main_v1_0) (h1 : b ≠ Proc.devRef .tc main_v1_1) (h2 : b ≠ Proc.devRef .tc main_v1_2)
    (h3 : b ≠ Proc.devRef .tc main_v1_3) : W1 m c b = W0 m c b := by
  unfold W1
  rw [Function.update_of_ne h3, Function.update_of_ne h2, Function.update_of_ne h1, Function.update_of_ne h0]
theorem W1_0 : W1 m c (Proc.devRef .tc main_v1_0) = res0 m c := by
  unfold W1
  rw [Function.update_of_ne (by decide), Function.update_of_ne (by decide), Function.update_of_ne (by decide), Function.update_self]
theorem W1_1 : W1 m c (Proc.devRef .tc main_v1_1) = res1 m c := by
  unfold W1
  rw [Function.update_of_ne (by decide), Function.update_of_ne (by decide), Function.update_self]
theorem W1_2 : W1 m c (Proc.devRef .tc main_v1_2) = res2 m c := by
  unfold W1
  rw [Function.update_of_ne (by decide), Function.update_self]
theorem W1_3 : W1 m c (Proc.devRef .tc main_v1_3) = res3 m c := by
  unfold W1
  rw [Function.update_self]
end Val

omit [FloatOps F] in
theorem held_exch (c : Dev nD) (V : Valuation τ sig (Elt F)) :
    (StableHlo.held (c : Thread nD τ) exch V : sProp 𝕄) = bigSep Finset.univ fun a : Fin 4 => ((c, exR a) : Loc nD τ sig) ↦{fullShare} V (exR a) := by
  unfold StableHlo.held exch
  rw [bigSep_map]
  rfl

omit [FloatOps F] in
/-- Before the gathering, -/
theorem exch_before (c : Dev nD) :
    (StableHlo.held (c : Thread nD τ) exch (W0 m c) : sProp 𝕄) ⊢ bigSep Finset.univ fun a : Fin 4 => iprop(∃ f, outW (F := F) a c f) := by
  have h2 (a : Fin 4) : ((((c, exR a) : Loc nD τ sig) ↦{fullShare} W0 m c (exR a)) : sProp 𝕄) ⊢ iprop(∃ f, outW (F := F) a c f) := by
    have h3 (f) : outW (F := F) a c f ⊢ (iprop(∃ f, outW (F := F) a c f) : sProp 𝕄) := by iintro H; iexists f; iexact H
    match a with
    | 0 => exact h3 (m ((c : Thread nD τ).loc main_v1_0))
    | 1 => exact h3 (m ((c : Thread nD τ).loc main_v1_1))
    | 2 => exact h3 (m ((c : Thread nD τ).loc main_v1_2))
    | 3 => exact h3 (m ((c : Thread nD τ).loc main_v1_3))
  rw [held_exch]
  exact bigSep_mono fun a _ => h2 a

/-- and after it. -/
theorem exch_after (c : Dev nD) :
    (bigSep Finset.univ fun a : Fin 4 => outW (F := F) a c (gath m a c)) ⊢ (StableHlo.held (c : Thread nD τ) exch (W1 m c) : sProp 𝕄) := by
  have h2 (a : Fin 4) : outW (F := F) a c (gath m a c) ⊢ ((((c, exR a) : Loc nD τ sig) ↦{fullShare} W1 m c (exR a)) : sProp 𝕄) := by
    match a with
    | 0 => rw [show W1 m c (exR 0) = res0 m c from W1_0 m c]; exact BI.Entails.refl _
    | 1 => rw [show W1 m c (exR 1) = res1 m c from W1_1 m c]; exact BI.Entails.refl _
    | 2 => rw [show W1 m c (exR 2) = res2 m c from W1_2 m c]; exact BI.Entails.refl _
    | 3 => rw [show W1 m c (exR 3) = res3 m c from W1_3 m c]; exact BI.Entails.refl _
  rw [held_exch]
  exact bigSep_mono fun a _ => h2 a

/-- The blocks each device starts from. -/
abbrev ins : Finset (DevRef τ sig) := Pipeline.arrRefs spec0
theorem ins_sub : ins ⊆ Pipeline.ucRefs τ sig \ exch := by decide +kernel

/-- The other buffers are the same before and after. -/
theorem rest_same (c : Dev nD) (S : Finset (DevRef τ sig)) (hS : S ⊆ Pipeline.ucRefs τ sig \ exch) :
    (StableHlo.held (c : Thread nD τ) S (W0 m c) : sProp 𝕄) = StableHlo.held (c : Thread nD τ) S (W1 m c) := by
  refine StableHlo.held_congr _ fun b hb => ?_
  have hn := (Finset.mem_sdiff.mp (hS hb)).2
  have hx (a : Fin 4) : b ≠ exR a := fun e => hn (e ▸ Finset.mem_map.mpr ⟨a, Finset.mem_univ _, rfl⟩)
  exact (W1_of m c b (hx 0) (hx 1) (hx 2) (hx 3)).symm

/-! ## The launch arrays dealt out -/

omit [FloatOps F] in
/-- A device's own slots, and the slots of its results it is to receive into. -/
theorem arrays_deal (c : Dev nD) :
    (bigSep Finset.univ fun a : Fin 4 => iprop(∃ f, outW (F := F) a c f))
      ⊢ (iprop((bigSep Finset.univ fun a : Fin 4 => outE (F := F) a c c) ∗ bigSep Finset.univ fun j : Fin 28 => outE (F := F) (aOf j) c (peer c (kOf j))) : sProp 𝕄) := by
  have hp (a : Fin 4) (f) (s : Dev nD) : (outP a c s f : sProp 𝕄) ⊢ outE (F := F) a c s := by
    unfold outE; iintro H; iexists f; iexact H
  have h (a : Fin 4) : iprop(∃ f, outW (F := F) a c f) ⊢ (iprop(outE a c c ∗ bigSep Finset.univ fun k : Fin 7 => outE a c (peer c k)) : sProp 𝕄) := by
    iintro ⟨%f, H⟩
    ihave H' := (Entails.of_eq (outW_slots a c f)) $$ H
    icases H' with ⟨H1, H2⟩
    isplitl [H1]; · unfold outE; iexists f; iexact H1
    have hm : (bigSep Finset.univ fun k : Fin 7 => outP a c (peer c k) f) ⊢ (bigSep Finset.univ fun k : Fin 7 => outE (F := F) a c (peer c k) : sProp 𝕄) :=
      bigSep_mono fun k _ => hp a f (peer c k)
    iapply hm; iexact H2
  rw [← by_pair (fun a k => outE (F := F) a c (peer c k)), ← bigSep_sep']
  exact bigSep_mono fun a _ => h a

/-! ## The results put together -/

/-- What the waits hand out is the counters at zero, the local buffers and the gathered arrays full. -/
theorem waits_join (c : Dev nD) :
    iprop((bigSep Finset.univ (waitPost m c)) ∗ closed c)
      ⊢ (iprop((bigSep Finset.univ fun j : Fin 60 => semVal (cell c j) 0)
          ∗ (bigSep Finset.univ fun a : Fin 4 => stP m a c fullShare) ∗ bigSep Finset.univ fun a : Fin 4 => outW (F := F) a c (gath m a c)) : sProp 𝕄) := by
  have h1 : (bigSep Finset.univ (waitPost m c) : sProp 𝕄)
      = iprop((bigSep Finset.univ fun i : Fin 48 => pay m c (ord i)) ∗ bigSep Finset.univ fun i : Fin 48 => semVal (cell c (ord i)) 0) := by
    rw [← bigSep_sep']
    rfl
  have hs (s : Fin 16) : pay m c (sOf (up s)) = stP m (aOf (up s)) c (shOf s) := pay_sC m c _ _ (up_lt s)
  have hn (s : Fin 12) : pay m c (sOf (on s)) = pay m c (wOf s) := (pay_sC' m c _ _ (on_ge s)).trans (pay_wOf m c s).symm
  have h2 : (bigSep Finset.univ fun i : Fin 48 => pay m c (ord i))
      = (iprop((bigSep Finset.univ fun i : Fin 16 => pay m c (rest i)) ∗ (lent m 0 c ∗ lent m 1 c ∗ lent m 2 c ∗ lent m 3 c)
          ∗ (bigSep Finset.univ fun s : Fin 12 => pay m c (wOf s))
          ∗ bigSep Finset.univ fun a : Fin 4 => iprop(stP m a c (sh 4) ∗ outP a c c (gath m a c))) : sProp 𝕄) := by
    rw [by_ord, bigSep_congr (s := Finset.univ) (fun (s : Fin 16) _ => hs s), lent_all,
      bigSep_congr (s := Finset.univ) (fun (s : Fin 12) _ => hn s), bigSep_congr (s := Finset.univ) (fun (a : Fin 4) _ => pay_lC m c a)]
  have h3 : (iprop((bigSep Finset.univ fun i : Fin 16 => pay m c (rest i)) ∗ bigSep Finset.univ fun s : Fin 12 => pay m c (wOf s)) : sProp 𝕄)
      = bigSep Finset.univ fun a : Fin 4 => bigSep Finset.univ fun k : Fin 7 => outP a c (peer c k) (gath m a c) := by
    rw [by_pair (fun a k => outP a c (peer c k) (gath m a c)), ← by_arrive (fun j => pay m c j)]
    exact bigSep_congr fun j _ => pay_rC m c _ _
  have e1 : (iprop((bigSep Finset.univ fun a : Fin 4 => lent m a c) ∗ bigSep Finset.univ fun a : Fin 4 => stP m a c (sh 4)) : sProp 𝕄)
      ⊢ bigSep Finset.univ fun a : Fin 4 => stP m a c fullShare := by
    rw [← bigSep_sep']; exact bigSep_mono fun a _ => (lend m a c).2
  have e2 : (iprop((bigSep Finset.univ fun a : Fin 4 => outP a c c (gath m a c)) ∗ bigSep Finset.univ fun a : Fin 4 => bigSep Finset.univ fun k : Fin 7 => outP a c (peer c k) (gath m a c)) : sProp 𝕄)
      ⊢ bigSep Finset.univ fun a : Fin 4 => outW (F := F) a c (gath m a c) := by
    rw [← bigSep_sep']; exact bigSep_mono fun a _ => Entails.of_eq (outW_slots a c (gath m a c)).symm
  have e3 : (iprop(lent m 0 c ∗ lent m 1 c ∗ lent m 2 c ∗ lent m 3 c) : sProp 𝕄) = bigSep Finset.univ fun a : Fin 4 => lent m a c := (fin4 fun a => lent m a c).symm
  have e4 : (iprop((bigSep Finset.univ fun i : Fin 48 => semVal (cell c (ord i)) 0) ∗ closed c) : sProp 𝕄)
      = bigSep Finset.univ fun j : Fin 60 => semVal (cell c j) 0 := by
    rw [by_cells (fun j => semVal (cell c j) 0)]
    rfl
  rw [h1, h2, e3, bigSep_sep']
  iintro ⟨⟨⟨HA, HB, HC, HD, HE⟩, Hv⟩, Hc⟩
  isplitl [Hv Hc]
  · iapply (Entails.of_eq e4)
    isplitl [Hv] <;> iassumption
  isplitl [HB HD]
  · iapply e1; isplitl [HB] <;> iassumption
  iapply e2
  isplitl [HE]; · iexact HE
  iapply (Entails.of_eq h3)
  isplitl [HA] <;> iassumption

end Cert.Gathering
-- ==== Proof.GatherFund.lean ====
module

public import proofs.«01_k».proof.Proof.GatherSlots
public import proofs.«01_k».proof.Proof.Launch

/-! What the launch makes of the arrays, the counters and the credits: what each device holds when it enters the
    gathering, and what it holds when it has left it. -/

@[expose] public section
noncomputable section

namespace Cert.Gathering

open Cert.GatherIdeal Cert.GatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exchange (tableShare)

variable {F : FTy → Type} [FloatOps F]

local notation "𝕄" => MT nD τ sig Unit (Elt F) ℕ UU ℕ

variable (m : (ℓ : Loc nD τ sig) → Buf (Elt F) ℓ)

/-! ## The ghost state -/

theorem kcell_injective : Function.Injective kcell := by
  rintro ⟨c, j⟩ ⟨c', j'⟩ h
  have h1 : c = c' := congrArg (fun g : GSem nD τ sig => g.1.1) h
  subst h1
  have h2 : osem j = osem j' := congrArg Prod.snd h
  have h3 : smm j = smm j' := by injection h2
  rw [smm_inj h3]

def ourCells : Finset (GSem nD τ sig) := Finset.univ.map ⟨kcell, kcell_injective⟩
def ourToks : Finset (GSem nD τ sig × ℕ × Unit) :=
  Finset.univ.map ⟨fun ck : Dev nD × Fin 60 => (kcell ck, 0, ()), fun _ _ h => kcell_injective (congrArg Prod.fst h)⟩

/-- The initial ghost state: of the staging semaphores, and of the gathering's. -/
def u₀ : UU := (initOf (Pipeline.cells cfgs cellOf_inj) (Pipeline.launchToks cfgs cellOf_inj), initOf ourCells ourToks)

def places (c : Dev nD) : sProp 𝕄 := bigSep Finset.univ fun j : Fin 60 => atPos ER (cell c j) 0 ∅ 0
def tokens (c : Dev nD) : sProp 𝕄 := bigSep Finset.univ fun j : Fin 60 => dutyTok ER (cell c j) 0 ()

/-- What the ghost state gives device `c`. -/
def G (c : Dev nD) : sProp 𝕄 :=
  iprop((bigSep Finset.univ fun j : Fin 60 => roundState ER (Rd m) (cell c j) 0)
    ∗ places c ∗ (bigSep Finset.univ fun j : Fin 60 => reached ER (cell c j) 0) ∗ tokens c)

theorem fund_ours : BI.own (ER (initOf ourCells ourToks)) ⊢ (|==> bigSep Finset.univ (G m) : sProp 𝕄) := by
  have hX (Φ : GSem nD τ sig → sProp 𝕄) : bigSep ourCells Φ = bigSep Finset.univ fun c : Dev nD => bigSep Finset.univ fun j : Fin 60 => Φ (cell c j) := by
    unfold ourCells; rw [bigSep_map, bigSep_univ_prod]; rfl
  have hT : bigSep ourToks (fun x => (dutyTok ER x.1 x.2.1 x.2.2 : sProp 𝕄)) = bigSep Finset.univ fun c : Dev nD => tokens c := by
    unfold ourToks; rw [bigSep_map, bigSep_univ_prod]; rfl
  iintro HX
  imod (Rounds.fund ER (Rd m) ourCells ourToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat']; · iexact Hat'
  isplitl [Hr']; · iexact Hr'
  iexact Htok'

theorem hu₀ : (ownU u₀ : sProp 𝕄) ⊢ |={Set.univ}=> iprop(BI.own (EP (initOf (Pipeline.cells cfgs cellOf_inj) (Pipeline.launchToks cfgs cellOf_inj)))
    ∗ bigSep Finset.univ (G m)) := by
  have hp : (ownU u₀ : sProp 𝕄) ⊢ iprop(BI.own (EP (initOf (Pipeline.cells cfgs cellOf_inj) (Pipeline.launchToks cfgs cellOf_inj)))
      ∗ BI.own (ER (initOf ourCells ourToks))) := ownU_pair _ _
  iintro Hu
  ihave H := hp $$ Hu
  icases H with ⟨HP, HX⟩
  imod (fund_ours m) $$ HX with HG
  imodintro
  isplitl [HP]; · iexact HP
  iexact HG

/-! ## The credits -/

theorem rOf_inj : Function.Injective rOf := by decide +kernel

theorem rcell_iff (c d : Dev nD) (i j : Fin 28) : cell c (rOf i) = cell d (rOf j) ↔ c = d ∧ i = j := by
  constructor
  · intro h
    have h' := kcell_injective (a₁ := (c, rOf i)) (a₂ := (d, rOf j)) h
    have e1 : c = d := congrArg Prod.fst h'
    have e2 : rOf i = rOf j := congrArg Prod.snd h'
    exact ⟨e1, rOf_inj e2⟩
  · rintro ⟨rfl, rfl⟩; rfl

/-- Of a receive semaphore, the device that fills it owes the whole amount and no other device owes anything. -/
theorem owed (d c : Dev nD) (j : Fin 28) : O d 0 (cell c (rOf j)) () = if d = tgt c (kOf j) then am (rOf j) else 0 := by
  have ht (i : Fin 28) : tal d i (cell c (rOf j)) () = if i = j then (if d = tgt c (kOf j) then am (rOf j) else 0) else 0 := by
    unfold tal
    by_cases hi : i = j
    · subst hi
      rw [if_pos rfl]
      by_cases h : d = tgt c (kOf i)
      · subst h
        rw [tgt_tgt, if_pos rfl, tallyAt_apply, if_pos ⟨rfl, rfl⟩]
      · rw [if_neg h, tallyAt_ne_cell, Finsupp.zero_apply]
        intro e
        have := ((rcell_iff _ _ _ _).mp e).1
        exact h (by rw [this, tgt_tgt])
    · rw [if_neg hi, tallyAt_ne_cell, Finsupp.zero_apply]
      intro e
      first
        | exact hi ((rcell_iff _ _ _ _).mp e).2
        | exact hi ((rcell_iff _ _ _ _).mp e).2.symm
  unfold O
  rw [Finset.filter_true_of_mem (fun i _ => Nat.zero_le _), Finset.sum_apply, Finsupp.finsetSum_apply, Finset.sum_congr rfl fun i _ => ht i,
    Finset.sum_ite_eq' Finset.univ j, if_pos (Finset.mem_univ _)]

abbrev O₀ (c : Dev nD) : CellTallies nD τ sig Unit := O c 0

theorem launch_credit (c : Dev nD) (j : Fin 28) :
    tallyOn (cell c (rOf j)) (launchCredit (Pipeline.owing O₀) 0 (cell c (rOf j))) = (tallyAt (cell c (rOf j)) () (am (rOf j)) : CellTallies nD τ sig Unit) := by
  unfold tallyAt; refine congrArg _ (Finsupp.ext fun u => ?_); cases u
  rw [Pipeline.launchCredit_owing, Finsupp.single_eq_same, Finset.sum_congr rfl fun d _ => owed d c j,
    Finset.sum_ite_eq' Finset.univ (tgt c (kOf j)) fun _ => am (rOf j), if_pos (Finset.mem_univ _)]

theorem rsem_inj : Function.Injective (fun j : Fin 28 => osem (rOf j)) := by
  intro i j h
  have h3 : smm (rOf i) = smm (rOf j) := by injection h
  exact rOf_inj (smm_inj h3)

def allCreds (c : Dev nD) : sProp 𝕄 := bigSep Finset.univ fun j : Fin 28 => cred (tallyAt (cell c (rOf j)) () (am (rOf j)))

theorem credits (c : Dev nD) : (Pipeline.launchCred O₀ c : sProp 𝕄) ⊢ allCreds c := by
  unfold Pipeline.launchCred allCreds
  refine (bigSep_subset (Finset.subset_univ (Finset.univ.map ⟨_, rsem_inj⟩))).trans ?_
  rw [bigSep_map]
  exact bigSep_mono fun j _ => Entails.of_eq (congrArg cred (launch_credit c j))

/-! ## What a device holds on entering -/

/-- What is left beside the gathering on device `c`. -/
def aside (c : Dev nD) : sProp 𝕄 :=
  iprop(StableHlo.held (c : Thread nD τ) (Pipeline.ucRefs τ sig \ exch) (W0 m c) ∗ ∃ r, prngReg c r)

/-- What the gathering itself needs on device `c`, beside what is owed. -/
def readyOf (c : Dev nD) : sProp 𝕄 := iprop(LS c 0 ∗ (bigSep Finset.univ (sendRest c)) ∗ onward c ∗ recvCreds c ∗ positions c)

def T₀ (c : Dev nD) : sProp 𝕄 :=
  iprop((∃ K, records m K ∗ readyOf c) ∗ owes (c : Thread nD τ) (O c 0) ∅ ∗ aside m c)

/-- The share of one device, sorted; what is for another stands apart. -/
def sorted (c : Dev nD) : sProp 𝕄 :=
  iprop((bigSep Finset.univ fun a : Fin 4 => iprop(outE (F := F) a c c ∗ dutyTok ER (cell c (lC a)) 0 ()))
    ∗ (bigSep Finset.univ fun j : Fin 28 => dutyTok ER (cell c (sOf j)) 0 ())
    ∗ (bigSep Finset.univ fun j : Fin 28 => iprop(outE (F := F) (aOf j) c (peer c (kOf j)) ∗ dutyTok ER (cell c (rOf j)) 0 ()))
    ∗ (allCreds c ∗ places c) ∗ owes (c : Thread nD τ) (O c 0) ∅ ∗ aside m c)

theorem sort_one (g : Dev nD → PrngReg) (c : Dev nD) :
    iprop(unscopedBufs c (fun b => m ((c.tc : Thread nD τ).loc b)) ∗ owes (c.tc : Thread nD τ) (O₀ c) ∅ ∗ Pipeline.launchCred O₀ c ∗ prngReg c (g c)
        ∗ places c ∗ tokens c) ⊢ sorted m c := by
  have hb : (unscopedBufs (Ix := Unit) (Name := ℕ) (U := UU) (Lvl := ℕ) c (fun b => m ((c.tc : Thread nD τ).loc b)) : sProp 𝕄)
      ⊢ iprop(StableHlo.held (c : Thread nD τ) exch (W0 m c) ∗ StableHlo.held (c : Thread nD τ) (Pipeline.ucRefs τ sig \ exch) (W0 m c)) := by
    rw [← StableHlo.held_sub_split _ exch_sub (W0 m c), ← Pipeline.unscopedBufs_held]
  have h1 : iprop((bigSep Finset.univ fun a : Fin 4 => outE (F := F) a c c) ∗ bigSep Finset.univ fun a : Fin 4 => dutyTok ER (cell c (lC a)) 0 ())
      ⊢ bigSep Finset.univ fun a : Fin 4 => iprop(outE (F := F) a c c ∗ dutyTok ER (cell c (lC a)) 0 ()) := by
    rw [← bigSep_sep']
  have h3 : iprop((bigSep Finset.univ fun j : Fin 28 => outE (F := F) (aOf j) c (peer c (kOf j))) ∗ bigSep Finset.univ fun j : Fin 28 => dutyTok ER (cell c (rOf j)) 0 ())
      ⊢ bigSep Finset.univ fun j : Fin 28 => iprop(outE (F := F) (aOf j) c (peer c (kOf j)) ∗ dutyTok ER (cell c (rOf j)) 0 ()) := by
    rw [← bigSep_sep']
  unfold sorted aside
  iintro ⟨Hb, Ho, Hc, Hg, Hp, Ht⟩
  ihave Hb' := hb $$ Hb
  icases Hb' with ⟨He, Hr⟩
  ihave He' := ((exch_before m c).trans (arrays_deal c)) $$ He
  icases He' with ⟨H1, H3⟩
  unfold tokens
  ihave Ht' := (Entails.of_eq (by_role (fun j => dutyTok ER (cell c j) 0 ()))) $$ Ht
  icases Ht' with ⟨T1, T2, T3⟩
  ihave Hc' := (credits c) $$ Hc
  isplitl [H1 T3]
  · iapply h1; isplitl [H1] <;> iassumption
  isplitl [T1]; · iexact T1
  isplitl [H3 T2]
  · iapply h3; isplitl [H3] <;> iassumption
  isplitl [Hc' Hp]
  · isplitl [Hc'] <;> iassumption
  isplitl [Ho]; · iexact Ho
  isplitl [Hr]; · iexact Hr
  iexists _; iexact Hg

/-- The sixteen direct transfers and the twelve that pass a block on, made ready. -/
theorem transfers_ready (c : Dev nD) :
    iprop((bigSep Finset.univ fun j : Fin 28 => dutyTok ER (cell c (sOf j)) 0 ())
      ∗ (bigSep Finset.univ fun j : Fin 28 => iprop(outE (F := F) (aOf j) (tgt c (kOf j)) (blk c (kOf j)) ∗ dutyTok ER (cell (tgt c (kOf j)) (rOf j)) 0 ()))
      ∗ (allCreds c ∗ places c))
    ⊢ (iprop((bigSep Finset.univ (sendRest c)) ∗ onward c ∗ recvCreds c ∗ positions c) : sProp 𝕄) := by
  have hu (s : Fin 16) : iprop(dutyTok ER (cell c (sOf (up s))) 0 ()
      ∗ (outE (F := F) (aOf (up s)) (tgt c (kOf (up s))) (blk c (kOf (up s))) ∗ dutyTok ER (cell (tgt c (kOf (up s))) (rOf (up s))) 0 ())) ⊢ sendRest c s := by
    unfold sendRest
    rw [blk_own c _ (up_lt s)]
    iintro ⟨H1, H2, H3⟩
    isplitl [H2]; · iexact H2
    isplitl [H1] <;> iassumption
  have hn (s : Fin 12) : iprop((dutyTok ER (cell c (sOf (on s))) 0 ()
      ∗ (outE (F := F) (aOf (on s)) (tgt c (kOf (on s))) (blk c (kOf (on s))) ∗ dutyTok ER (cell (tgt c (kOf (on s))) (rOf (on s))) 0 ()))
      ∗ (cred (tallyAt (cell c (wOf s)) () (am (wOf s))) ∗ atPos ER (cell c (wOf s)) 0 ∅ 0)) ⊢ onPre c s := by
    unfold onPre
    iintro ⟨⟨H1, H2, H3⟩, H4⟩
    isplitl [H4]; · iexact H4
    isplitl [H2]; · iexact H2
    isplitl [H1] <;> iassumption
  have e1 : iprop((bigSep Finset.univ fun j : Fin 28 => dutyTok ER (cell c (sOf j)) 0 ())
      ∗ (bigSep Finset.univ fun j : Fin 28 => iprop(outE (F := F) (aOf j) (tgt c (kOf j)) (blk c (kOf j)) ∗ dutyTok ER (cell (tgt c (kOf j)) (rOf j)) 0 ())))
      ⊢ (iprop((bigSep Finset.univ fun s : Fin 16 => iprop(dutyTok ER (cell c (sOf (up s))) 0 ()
          ∗ (outE (F := F) (aOf (up s)) (tgt c (kOf (up s))) (blk c (kOf (up s))) ∗ dutyTok ER (cell (tgt c (kOf (up s))) (rOf (up s))) 0 ())))
        ∗ bigSep Finset.univ fun s : Fin 12 => iprop(dutyTok ER (cell c (sOf (on s))) 0 ()
          ∗ (outE (F := F) (aOf (on s)) (tgt c (kOf (on s))) (blk c (kOf (on s))) ∗ dutyTok ER (cell (tgt c (kOf (on s))) (rOf (on s))) 0 ()))) : sProp 𝕄) := by
    rw [← bigSep_sep']
    exact Entails.of_eq (by_half fun j : Fin 28 => iprop(dutyTok ER (cell c (sOf j)) 0 ()
      ∗ (outE (F := F) (aOf j) (tgt c (kOf j)) (blk c (kOf j)) ∗ dutyTok ER (cell (tgt c (kOf j)) (rOf j)) 0 ())))
  have e2 : (iprop(allCreds c ∗ places c) : sProp 𝕄)
      ⊢ iprop((recvCreds c ∗ bigSep Finset.univ fun s : Fin 12 => cred (tallyAt (cell c (wOf s)) () (am (wOf s))))
        ∗ (positions c ∗ bigSep Finset.univ fun s : Fin 12 => atPos ER (cell c (wOf s)) 0 ∅ 0)) :=
    BIClass.sep_mono (Entails.of_eq (by_arrive fun j => cred (tallyAt (cell c j) () (am j)))) (Entails.of_eq (by_cells fun j => atPos ER (cell c j) 0 ∅ 0))
  have e3 : iprop((bigSep Finset.univ fun s : Fin 12 => iprop(dutyTok ER (cell c (sOf (on s))) 0 ()
          ∗ (outE (F := F) (aOf (on s)) (tgt c (kOf (on s))) (blk c (kOf (on s))) ∗ dutyTok ER (cell (tgt c (kOf (on s))) (rOf (on s))) 0 ())))
        ∗ ((bigSep Finset.univ fun s : Fin 12 => cred (tallyAt (cell c (wOf s)) () (am (wOf s)))) ∗ bigSep Finset.univ fun s : Fin 12 => atPos ER (cell c (wOf s)) 0 ∅ 0))
      ⊢ (onward c : sProp 𝕄) := by
    unfold onward
    rw [← bigSep_sep', ← bigSep_sep']
    exact bigSep_mono fun s _ => hn s
  have e0 : (bigSep Finset.univ fun s : Fin 16 => iprop(dutyTok ER (cell c (sOf (up s))) 0 ()
          ∗ (outE (F := F) (aOf (up s)) (tgt c (kOf (up s))) (blk c (kOf (up s))) ∗ dutyTok ER (cell (tgt c (kOf (up s))) (rOf (up s))) 0 ())))
      ⊢ (bigSep Finset.univ (sendRest c) : sProp 𝕄) := bigSep_mono fun s _ => hu s
  iintro ⟨H1, H2, H3⟩
  icases e2 $$ H3 with ⟨⟨C1, C2⟩, P1, P2⟩
  ihave H := e1 $$ [H1 H2]
  · isplitl [H1] <;> iassumption
  icases H with ⟨HU, HN⟩
  isplitl [HU]; · iapply e0; iexact HU
  isplitl [HN C2 P2]
  · iapply e3
    isplitl [HN]; · iexact HN
    isplitl [C2] <;> iassumption
  isplitl [C1] <;> iassumption

/-- What stands apart goes to where it is wanted. -/
theorem handed_round : (bigSep Finset.univ fun c : Dev nD => sorted m c)
    ⊢ bigSep Finset.univ fun c : Dev nD => iprop(readyOf c ∗ owes (c : Thread nD τ) (O c 0) ∅ ∗ aside m c) := by
  have hLS (c : Dev nD) : (bigSep Finset.univ fun a : Fin 4 => iprop(outE (F := F) a c c ∗ dutyTok ER (cell c (lC a)) 0 ())) ⊢ (LS c 0 : sProp 𝕄) := by
    unfold LS
    exact two_start (locPre c) (locPost c)
  have hone (c : Dev nD) : iprop((bigSep Finset.univ fun a : Fin 4 => iprop(outE (F := F) a c c ∗ dutyTok ER (cell c (lC a)) 0 ()))
    ∗ (bigSep Finset.univ fun j : Fin 28 => dutyTok ER (cell c (sOf j)) 0 ())
    ∗ (bigSep Finset.univ fun j : Fin 28 => iprop(outE (F := F) (aOf j) (tgt c (kOf j)) (blk c (kOf j)) ∗ dutyTok ER (cell (tgt c (kOf j)) (rOf j)) 0 ()))
    ∗ (allCreds c ∗ places c) ∗ owes (c : Thread nD τ) (O c 0) ∅ ∗ aside m c) ⊢ iprop(readyOf c ∗ owes (c : Thread nD τ) (O c 0) ∅ ∗ aside m c) := by
    unfold readyOf
    iintro ⟨H1, H2, H3, H4, H5⟩
    isplitr [H5]
    · isplitl [H1]; · iapply (hLS c); iexact H1
      iapply (transfers_ready c)
      isplitl [H2]; · iexact H2
      isplitl [H3] <;> iassumption
    iexact H5
  have e : (bigSep Finset.univ fun c : Dev nD => sorted m c) = bigSep Finset.univ fun c : Dev nD =>
      (iprop((bigSep Finset.univ fun a : Fin 4 => iprop(outE (F := F) a c c ∗ dutyTok ER (cell c (lC a)) 0 ()))
      ∗ (bigSep Finset.univ fun j : Fin 28 => dutyTok ER (cell c (sOf j)) 0 ())
      ∗ (bigSep Finset.univ fun j : Fin 28 => iprop(outE (F := F) (aOf j) (tgt c (kOf j)) (blk c (kOf j)) ∗ dutyTok ER (cell (tgt c (kOf j)) (rOf j)) 0 ()))
      ∗ (allCreds c ∗ places c) ∗ owes (c : Thread nD τ) (O c 0) ∅ ∗ aside m c) : sProp 𝕄) := by
    have hr : (bigSep Finset.univ fun c : Dev nD => bigSep Finset.univ fun j : Fin 28 => (iprop(outE (F := F) (aOf j) c (peer c (kOf j)) ∗ dutyTok ER (cell c (rOf j)) 0 ()) : sProp 𝕄))
        = bigSep Finset.univ fun c : Dev nD => bigSep Finset.univ fun j : Fin 28 => iprop(outE (F := F) (aOf j) (tgt c (kOf j)) (blk c (kOf j)) ∗ dutyTok ER (cell (tgt c (kOf j)) (rOf j)) 0 ()) := by
      rw [around (fun j d => (iprop(outE (F := F) (aOf j) d (peer d (kOf j)) ∗ dutyTok ER (cell d (rOf j)) 0 ()) : sProp 𝕄))]
      refine bigSep_congr fun c _ => bigSep_congr fun j _ => ?_
      rw [peer_tgt]
    unfold sorted
    rw [bigSep_sep', bigSep_sep', bigSep_sep', hr, ← bigSep_sep', ← bigSep_sep', ← bigSep_sep']
  rw [e]
  exact bigSep_mono fun c _ => hone c

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BIClass.sep_mono (BI.bigSep_of_persistent S R) (BI.Entails.refl _)).trans (by rw [← bigSep_sep']; exact bigSep_mono h)

/-- The counters go into the invariants. -/
theorem allocate :
    iprop((bigSep Finset.univ fun c : Dev nD => bigSep Finset.univ fun j : Fin 60 => semVal (cell c j) 0)
        ∗ bigSep Finset.univ fun c : Dev nD => bigSep Finset.univ fun j : Fin 60 => roundState ER (Rd m) (cell c j) 0)
      ⊢ (|={Set.univ}=> (∃ K : Dev nD × Fin 60 → ℕ, bigSep Finset.univ fun ck : Dev nD × Fin 60 => cellInv ER (Rd m) (K ck) (kcell ck)) : sProp 𝕄) := by
  have h1 : iprop((bigSep Finset.univ fun c : Dev nD => bigSep Finset.univ fun j : Fin 60 => semVal (cell c j) 0)
        ∗ bigSep Finset.univ fun c : Dev nD => bigSep Finset.univ fun j : Fin 60 => roundState ER (Rd m) (cell c j) 0)
      ⊢ (|={Set.univ}=> bigSep Finset.univ fun ck : Dev nD × Fin 60 => iprop(∃ κ : ℕ, cellInv ER (Rd m) κ (kcell ck)) : sProp 𝕄) := by
    rw [← bigSep_univ_prod (fun ck : Dev nD × Fin 60 => (semVal (kcell ck) 0 : sProp 𝕄)),
      ← bigSep_univ_prod (fun ck : Dev nD × Fin 60 => (roundState ER (Rd m) (kcell ck) 0 : sProp 𝕄)), ← bigSep_sep']
    exact (bigSep_mono fun ck _ => (Rounds.body_intro ER (Rd m) (kcell ck)).trans inv_alloc).trans (bigSep_fupd _ _)
  iintro H
  imod h1 $$ H with HI
  imodintro
  iapply (BI.bigSep_exists_pi Finset.univ (fun (ck : Dev nD × Fin 60) (κ : ℕ) => (cellInv ER (Rd m) κ (kcell ck) : sProp 𝕄)))
  iexact HI

theorem deal (g : Dev nD → PrngReg) :
    iprop((bigSep Finset.univ fun c : Dev nD => iprop(tableShare osem O₀ m g c ∗ G m c)) ∗ levAts L lv) ⊢ (|={Set.univ}=> bigSep Finset.univ (T₀ m) : sProp 𝕄) := by
  have hs (c : Dev nD) : iprop(tableShare osem O₀ m g c ∗ G m c)
      ⊢ (iprop((bigSep Finset.univ fun j : Fin 60 => semVal (cell c j) 0) ∗ (bigSep Finset.univ fun j : Fin 60 => roundState ER (Rd m) (cell c j) 0)
          ∗ (bigSep Finset.univ fun j : Fin 60 => reached ER (cell c j) 0) ∗ sorted m c) : sProp 𝕄) := by
    unfold tableShare G
    iintro ⟨⟨Hv, Hb, -, Ho, Hc, Hg⟩, Hst, Hp, Hr, Ht⟩
    isplitl [Hv]; · unfold Pipeline.ownSems0; iexact Hv
    isplitl [Hst]; · iexact Hst
    isplitl [Hr]; · iexact Hr
    iapply (sort_one m g c)
    isplitl [Hb]; · iexact Hb
    isplitl [Ho]; · iexact Ho
    isplitl [Hc]; · iexact Hc
    isplitl [Hg]; · iexact Hg
    isplitl [Hp] <;> iassumption
  have ha : (bigSep Finset.univ fun c : Dev nD => iprop(tableShare osem O₀ m g c ∗ G m c))
      ⊢ (iprop((bigSep Finset.univ fun c : Dev nD => bigSep Finset.univ fun j : Fin 60 => semVal (cell c j) 0)
          ∗ (bigSep Finset.univ fun c : Dev nD => bigSep Finset.univ fun j : Fin 60 => roundState ER (Rd m) (cell c j) 0)
          ∗ (bigSep Finset.univ fun ck : Dev nD × Fin 60 => reached ER (kcell ck) 0) ∗ bigSep Finset.univ fun c : Dev nD => sorted m c) : sProp 𝕄) := by
    refine (bigSep_mono fun c _ => hs c).trans ?_
    rw [bigSep_sep', bigSep_sep', bigSep_sep', bigSep_univ_prod (fun ck : Dev nD × Fin 60 => (reached ER (kcell ck) 0 : sProp 𝕄))]
    exact BI.Entails.refl _
  have hK (K : Dev nD × Fin 60 → ℕ) (c : Dev nD) : iprop(records m K ∗ (readyOf c ∗ owes (c : Thread nD τ) (O c 0) ∅ ∗ aside m c)) ⊢ T₀ m c := by
    unfold T₀
    iintro ⟨HR, H1, H2⟩
    isplitr [H2]
    · iexists K
      isplitl [HR] <;> iassumption
    iexact H2
  iintro ⟨H, #HL⟩
  ihave H' := ha $$ H
  icases H' with ⟨Hv, Hst, #Hr, Hs⟩
  imod (allocate m) $$ [Hv Hst] with ⟨%K, #HI⟩
  · isplitl [Hv] <;> iassumption
  imodintro
  have hw : iprop(records m K ∗ bigSep Finset.univ fun c : Dev nD => iprop(readyOf c ∗ owes (c : Thread nD τ) (O c 0) ∅ ∗ aside m c)) ⊢ (bigSep Finset.univ (T₀ m) : sProp 𝕄) :=
    with_persistent fun c _ => hK K c
  iapply hw
  isplitr
  · unfold records; isplitl; · iexact HI
    isplitl; · iexact Hr
    iexact HL
  · iapply (handed_round m); iexact Hs

/-! ## What a device holds on leaving -/

/-- The gathered arrays of device `c` afterwards. -/
def arrived (c : Dev nD) : sProp 𝕄 := bigSep Finset.univ fun a : Fin 4 => outW a c (gath m a c)

theorem settle (c : Dev nD) :
    iprop(arrived m c ∗ StableHlo.held (c : Thread nD τ) ins (W0 m c) ∗ StableHlo.held (c : Thread nD τ) ((Pipeline.ucRefs τ sig \ exch) \ ins) (W0 m c))
      ⊢ (StableHlo.held (c : Thread nD τ) (Pipeline.ucRefs τ sig) (W1 m c) : sProp 𝕄) := by
  unfold arrived
  rw [rest_same m c ins ins_sub, rest_same m c _ Finset.sdiff_subset]
  iintro ⟨Ha, H3⟩
  ihave Ha' := (exch_after m c) $$ Ha
  ihave H3' := (Entails.of_eq (StableHlo.held_sub_split _ ins_sub (W1 m c)).symm) $$ H3
  iapply (Entails.of_eq (StableHlo.held_sub_split _ exch_sub (W1 m c)).symm)
  isplitl [Ha'] <;> iassumption

end Cert.Gathering
-- ==== Proof.GatherRun.lean ====
module

public import proofs.«01_k».proof.Proof.GatherFund
public import proofs.«01_k».proof.Proof.Gen.GatherIdeal.Points
public import Idealize.ShloMosaic.Lib.Pipeline.RegionArraysS

/-! The gathering as a pipeline of one point whose four windows stage the device's blocks, and its run on all devices, over
    any float values: it ends, every counter is zero, and every device holds the blocks it started from and the four
    gathered arrays. -/

@[expose] public section
noncomputable section

namespace Cert.Gathering

open Cert.GatherIdeal Cert.GatherIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Exchange (homeShare tableShare launch)

variable {F : FTy → Type} [FloatOps F]

local notation "𝕄" => MT nD τ sig Unit (Elt F) ℕ UU ℕ

variable (m : (ℓ : Loc nD τ sig) → Buf (Elt F) ℓ)

abbrev rests (c : Dev nD) : sProp 𝕄 := Pipeline.scopedRest (Ix := Unit) (Name := ℕ) (U := UU) (Lvl := ℕ) (Val := Elt F) cfg0.spec c

/-- What the gathering enters with, beside what it owes and its local buffers; what it leaves with. -/
def enterX (c : Dev nD) : sProp 𝕄 := iprop(∃ K, records m K ∗ readyOf c)
def leaveX (c : Dev nD) : sProp 𝕄 := iprop(Two (waitPre c) (waitPost m c) 48 ∗ closed c)

def iblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

def dat (c : Dev nD) : Dat τ (Elt F) Unit ℕ UU ℕ cfg0 c where
  A w := m ((c : Thread nD τ).loc (Pipeline.arrRef spec0 w))
  after w t := match w with
    | ⟨0, _⟩ => iblk m c 0 t
    | ⟨1, _⟩ => iblk m c 1 t
    | ⟨2, _⟩ => iblk m c 2 t
    | ⟨3, _⟩ => iblk m c 3 t
  Φ t := if t.val = 0 then iprop(rests c ∗ enterX m c) else leaveX m c
  q _ := fullShare
  owed t := if t.val = 0 then O c 0 else 0
  recorded t := if t.val = 0 then ∅ else Set.univ

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]

/-! A window's buffer holds its block when the body is entered. -/

theorem before_0 (c : Dev nD) (t : Fin cfg0.N) (d) : (dat m c).before 0 t d = iblk m c 0 t :=
  ((dat m c).before_in_eq_fetched 0 rfl (fun _ => rfl) (fun _ _ _ => rfl) (fun t => by rw [after_0]; rfl) t d).trans rfl
theorem before_1 (c : Dev nD) (t : Fin cfg0.N) (d) : (dat m c).before 1 t d = iblk m c 1 t :=
  ((dat m c).before_in_eq_fetched 1 rfl (fun _ => rfl) (fun _ _ _ => rfl) (fun t => by rw [after_1]; rfl) t d).trans rfl
theorem before_2 (c : Dev nD) (t : Fin cfg0.N) (d) : (dat m c).before 2 t d = iblk m c 2 t :=
  ((dat m c).before_in_eq_fetched 2 rfl (fun _ => rfl) (fun _ _ _ => rfl) (fun t => by rw [after_2]; rfl) t d).trans rfl
theorem before_3 (c : Dev nD) (t : Fin cfg0.N) (d) : (dat m c).before 3 t d = iblk m c 3 t :=
  ((dat m c).before_in_eq_fetched 3 rfl (fun _ => rfl) (fun _ _ _ => rfl) (fun t => by rw [after_3]; rfl) t d).trans rfl

/-! ## The local buffers -/

theorem buffers_of (c : Dev nD) : rests c ⊢ (buffers c : sProp 𝕄) := by
  show Pipeline.scopedRest (Ix := Unit) (Name := ℕ) (U := UU) (Lvl := ℕ) (Val := Elt F) spec0 c ⊢ _
  rw [scopedRest0_eq]
  unfold buffers
  simp only [owns_whole]
  exact BI.Entails.refl _

theorem rests_of (c : Dev nD) : (bigSep Finset.univ fun a : Fin 4 => stP m a c fullShare) ⊢ (rests c : sProp 𝕄) := by
  show _ ⊢ Pipeline.scopedRest (Ix := Unit) (Name := ℕ) (U := UU) (Lvl := ℕ) (Val := Elt F) spec0 c
  have h0 : stP m 0 c fullShare ⊢ (iprop(∃ f : Buf (Elt F) ((c : Thread nD τ).loc cc0_scratch0), ((c : Thread nD τ).loc cc0_scratch0) ↦{fullShare} f) : sProp 𝕄) := by
    unfold stP
    rw [show (stM 0).view.set = Finset.univ from (Memref.isWhole_whole (cc0_scratch0 : Ref sig .tc)).set_eq_univ]
    iintro H; iexists (stB m 0 c); iexact H
  have h1 : stP m 1 c fullShare ⊢ (iprop(∃ f : Buf (Elt F) ((c : Thread nD τ).loc cc0_scratch1), ((c : Thread nD τ).loc cc0_scratch1) ↦{fullShare} f) : sProp 𝕄) := by
    unfold stP
    rw [show (stM 1).view.set = Finset.univ from (Memref.isWhole_whole (cc0_scratch1 : Ref sig .tc)).set_eq_univ]
    iintro H; iexists (stB m 1 c); iexact H
  have h2 : stP m 2 c fullShare ⊢ (iprop(∃ f : Buf (Elt F) ((c : Thread nD τ).loc cc0_scratch2), ((c : Thread nD τ).loc cc0_scratch2) ↦{fullShare} f) : sProp 𝕄) := by
    unfold stP
    rw [show (stM 2).view.set = Finset.univ from (Memref.isWhole_whole (cc0_scratch2 : Ref sig .tc)).set_eq_univ]
    iintro H; iexists (stB m 2 c); iexact H
  have h3 : stP m 3 c fullShare ⊢ (iprop(∃ f : Buf (Elt F) ((c : Thread nD τ).loc cc0_scratch3), ((c : Thread nD τ).loc cc0_scratch3) ↦{fullShare} f) : sProp 𝕄) := by
    unfold stP
    rw [show (stM 3).view.set = Finset.univ from (Memref.isWhole_whole (cc0_scratch3 : Ref sig .tc)).set_eq_univ]
    iintro H; iexists (stB m 3 c); iexact H
  rw [scopedRest0_eq, fin4]
  exact BIClass.sep_mono h0 (BIClass.sep_mono h1 (BIClass.sep_mono h2 h3))

/-! ## The body in the pipeline's terms -/

theorem enter_body (c : Dev nD) :
    iprop((dat m c).Φ t0_0.castSucc ∗ (dat m c).owesAt () t0_0.castSucc) ⊢ iprop(∃ K, records m K ∗ buffers c ∗ bodyPre c) := by
  have e0 : (dat m c).Φ t0_0.castSucc = iprop(rests c ∗ enterX m c) := rfl
  have e1 : (dat m c).owesAt () t0_0.castSucc = (iprop(∃ W : Finset (SemLoc sig × Unit), ⌜(↑W : Set (SemLoc sig × Unit)) ⊆ ∅ ∪ cfg0.waitPairs ()⌝ ∗ owes (c : Thread nD τ) (O c 0) W) : sProp 𝕄) := rfl
  rw [e0, e1]
  unfold enterX readyOf bodyPre
  iintro ⟨⟨Hr, %K, #HR, HL, HS, Hn, Hc, Hp⟩, %W, -, Ho⟩
  iexists K
  isplitr; · iexact HR
  isplitl [Hr]; · iapply (buffers_of c); iexact Hr
  isplitl [HL]; · iexact HL
  isplitl [HS]; · iexact HS
  isplitl [Ho]; · iexists W; iexact Ho
  isplitl [Hn]; · iexact Hn
  isplitl [Hc] <;> iassumption

theorem leave_body (c : Dev nD) :
    iprop(WS m c 48 ∗ closed c) ⊢ iprop((dat m c).Φ t0_0.succ ∗ (dat m c).owesAt () t0_0.succ) := by
  have e0 : (dat m c).Φ t0_0.succ = leaveX m c := rfl
  have e1 : (dat m c).owesAt () t0_0.succ = (iprop(∃ W : Finset (SemLoc sig × Unit), ⌜(↑W : Set (SemLoc sig × Unit)) ⊆ Set.univ ∪ cfg0.waitPairs ()⌝ ∗ owes (c : Thread nD τ) 0 W) : sProp 𝕄) := rfl
  rw [e0, e1]
  unfold WS leaveX
  iintro ⟨⟨Hw, %W, Ho⟩, Hc⟩
  isplitl [Hw Hc]
  · isplitl [Hw] <;> iassumption
  iexists W
  isplitr
  · ipureintro; exact fun x _ => Or.inl (Set.mem_univ x)
  iexact Ho

set_option maxHeartbeats 1600000 in
theorem obligation (c : Dev nD) : BodyObligation (dat m c) (defs₀ (F := F)) 𝒱₀ () Set.univ := fun t => by
  obtain rfl : t = t0_0 := fin_N0 t
  have hrow : defs₀ (F := F) .tc cfg0.body (cfg0.bodyArgs t0_0 (cfg0.slots t0_0)) = bodyAt0 t0_0 := by
    unfold defs₀; rw [Defs.onTc_tc]
  rw [bigSep_W0, bigSep_W0, hrow]
  unfold bodyAt0
  simp only [before_0, before_1, before_2, before_3]
  iintro ⟨HΦ, Ho, ⟨%d0, H0⟩, ⟨%d1, H1⟩, ⟨%d2, H2⟩, ⟨%d3, H3⟩⟩
  ihave H := (enter_body m c) $$ [HΦ Ho]
  · isplitl [HΦ] <;> iassumption
  icases H with ⟨%K, #HR, Hb, Hp⟩
  iapply (body m K (win0_0.stage (cfg0.slots t0_0 0)) (hstage0_0 0) (win0_1.stage (cfg0.slots t0_0 1)) (hstage0_1 0)
    (win0_2.stage (cfg0.slots t0_0 2)) (hstage0_2 0) (win0_3.stage (cfg0.slots t0_0 3)) (hstage0_3 0) c) $$ [H0 H1 H2 H3 Hb Hp]
  · isplitr; · iexact HR
    isplitl [H0 H1 H2 H3]
    · unfold blocks
      isplitl [H0]; · iexact H0
      isplitl [H1]; · iexact H1
      isplitl [H2]; · iexact H2
      iexact H3
    isplitl [Hb] <;> iassumption
  iintro %r ⟨HW, Hc, HB⟩
  ihave H := (leave_body m c) $$ [HW Hc]
  · isplitl [HW] <;> iassumption
  icases H with ⟨H1, H2⟩
  isplitl [H1]; · iexact H1
  isplitl [H2]; · iexact H2
  unfold blocks
  icases HB with ⟨H0, H1, H2, H3⟩
  isplitl [H0]; · iexact H0
  isplitl [H1]; · iexact H1
  isplitl [H2]; · iexact H2
  iexact H3

/-! ## The run -/

def pdats : (p : Fin 1) → (c : Dev nD) → Dat τ (Elt F) Unit ℕ UU ℕ (cfgs p) c
  | 0, c => dat m c

abbrev adm : (p : Fin 1) → (pcfgs (F := F) p).Adm := fun p => (cfgs p).toPCfg_adm
theorem all_scoped : ∀ sm : SemLoc sig, sm.isScoped .tc = true := by decide

abbrev admD : Dev nD → (p : Fin 1) → (pcfgs (F := F) p).Adm := fun _ => adm

theorem cells_inj : Function.Injective (PerCore.cellOf (nD := nD) (τ := τ) (pinD (pcfgs (F := F)) admD)) := cellOf_inj

theorem own_facts : OwnSemFacts cfg0.spec osem := by decide

instance lands : (EP (F := F)).LandsIn (upEmb : UEmb _ 𝕄) := by unfold EP; infer_instance

def Tn (c : Dev nD) : sProp 𝕄 := StableHlo.held (c : Thread nD τ) (Pipeline.ucRefs τ sig) (W1 m c)

/-- What is left beside the gathering and the blocks it starts from. -/
def apart (c : Dev nD) : sProp 𝕄 := StableHlo.held (c : Thread nD τ) ((Pipeline.ucRefs τ sig \ exch) \ ins) (W0 m c)

theorem waits_allowed (c : Dev nD) : (levAts L lv : sProp 𝕄) ⊢ PerCore.cellsWaits (pinD (pcfgs (F := F)) admD) (pdats m) () 0 c := by
  have hp (n : ℕ) (g : GSem nD τ sig) (i : Unit) (h : 0 < O c n g i) : i ∈ L g ∧ 0 < lv g i := by
    obtain ⟨j, -, rfl⟩ := O_pos c n g i h
    exact ⟨mem_L_cell _ _ _, lv_pos _ _⟩
  have hD (t : Fin (cfg0.N + 1)) (g : GSem nD τ sig) (i : Unit) (h : 0 < (dat m c).owed t g i) : i ∈ L g ∧ 0 < lv g i := by
    have h' : 0 < (if t.val = 0 then O c 0 else 0 : CellTallies nD τ sig Unit) g i := h
    by_cases ht : t.val = 0
    · rw [if_pos ht] at h'; exact hp 0 g i h'
    · rw [if_neg ht] at h'; exact absurd h' (lt_irrefl 0)
  have hl (w : Fin cfg0.W) (s : Fin (cfg0.win w).nbuf) : lv ((c : Thread nD τ), .dma ((cfg0.win w).sem s)) () ≤ 0 := by
    have h : ∀ (w : Fin cfg0.W) (s : Fin (cfg0.win w).nbuf), semLv (.dma ((cfg0.win w).sem s)) ≤ 0 := by decide +kernel
    exact h w s
  refine PerCore.cellsWaits_intro (pinD (pcfgs (F := F)) admD) (pdats m) () 0 c fun w s t => ?_
  exact MayOwe.of_cut 0 (fun q hq => by rw [Finset.mem_singleton.mp hq]; unfold L; rw [if_pos rfl]; exact Finset.mem_singleton_self _)
    (fun g i hg => (hD t g i hg).1) (fun q hq => by rw [Finset.mem_singleton.mp hq]; exact hl w s) (fun g i hg => (hD t g i hg).2)

theorem arrays_at (c : Dev nD) (n : ℕ) : (StableHlo.held (c : Thread nD τ) ins (W0 m c) : sProp 𝕄) = (pdats m 0 c).arrays ((pdats m 0 c).arrAt · n) := by
  refine (Pipeline.arrays_held (pcfgs (F := F)) adm (pdats m) 0 launch0.toP c
    (fun w => show (dat m c).share w = fullShare by unfold Dat.share; exact ite_self _) _ (W0 m c) fun w => ?_).symm
  have h : (dat m c).arrAt w n = (dat m c).A w := (dat m c).arrAt_in w ((by decide : ∀ w : Fin cfg0.W, (cfg0.win w).isOut = false) w) n
  exact h

theorem hrun (c : Dev nD) :
    iprop(homeShare (pcfgs (F := F)) admD (cells_inj (F := F)) 0 own_facts c ∗ T₀ m c ∗ levAts L lv ∗ PerCore.ghostOn (pcfgs (F := F)) admD EP Finset.univ c)
      ⊢ wp frame (wpE (Pipeline.defs (pcfgs (F := F)) (defs₀ (F := F))) (Variants.lift 𝒱₀) (c.tc : Thread nD τ) none) Set.univ (main c)
          fun _ => iprop((Tn m c ∗ boundary (c.tc : Thread nD τ)) ∗ ∃ W, owes (c.tc : Thread nD τ) (0 : CellTallies nD τ sig Unit) W) := by
  have hss : (scopedSems0 (c.tc : Thread nD τ) : sProp 𝕄)
      = iprop((PerCore.cellsSems0 (pinD (pcfgs (F := F)) admD) 0 c ∗ ownSems0 osem c) ∗ PerCore.idleSems0 (pinD (pcfgs (F := F)) admD) (cells_inj (F := F)) 0 (fun _ : Dev nD => own_facts) c) :=
    PerCore.scopedSems0_split (pinD (pcfgs (F := F)) admD) (cells_inj (F := F)) 0 (fun _ => winFacts0.to₀) (fun _ : Dev nD => own_facts) c
  have hsb : (scopedBufs (c.tc : Thread nD τ) : sProp 𝕄) = iprop(Dat.staging (pinD (pcfgs (F := F)) admD c 0) c ∗ Pipeline.scopedRest (pinD (pcfgs (F := F)) admD c 0).spec c) :=
    PerCore.scopedBufs_split (pinD (pcfgs (F := F)) admD) 0 c winFacts0.stage_scoped winFacts0.stage_inj stage_whole0
  have hT : T₀ m c ⊢ (iprop(enterX m c ∗ owes (c : Thread nD τ) (O c 0) ∅ ∗ StableHlo.held (c : Thread nD τ) ins (W0 m c) ∗ apart m c) : sProp 𝕄) := by
    unfold T₀ enterX aside apart
    iintro ⟨HK, Ho, Hh, -⟩
    isplitl [HK]; · iexact HK
    isplitl [Ho]; · iexact Ho
    iapply (Entails.of_eq (StableHlo.held_sub_split _ ins_sub (W0 m c)))
    iexact Hh
  have hin : iprop(enterX m c ∗ prefHeld (pcfgs (F := F) 0).pre c (fun _ => fullShare) (admD (F := F) c 0).1 ∗ Pipeline.scopedRest (pinD (pcfgs (F := F)) admD c 0).spec c) ⊢ (pdats m 0 c).Φ 0 := by
    have e : (pdats m 0 c).Φ 0 = iprop(rests c ∗ enterX m c) := rfl
    rw [e]
    iintro ⟨HX, -, HR⟩
    isplitl [HR]; · iexact HR
    iexact HX
  have hout : iprop((pdats m 0 c).Φ (Fin.last (pinD (pcfgs (F := F)) admD c 0).N) ∗ PerCore.cellsSems0 (pinD (pcfgs (F := F)) admD) 0 c
        ∗ Dat.staging (pinD (pcfgs (F := F)) admD c 0) c ∗ PerCore.idleSems0 (pinD (pcfgs (F := F)) admD) (cells_inj (F := F)) 0 (fun _ : Dev nD => own_facts) c)
      ⊢ iprop(arrived m c ∗ scopedSems0 (c.tc : Thread nD τ) ∗ scopedBufs (c.tc : Thread nD τ)) := by
    have e : (pdats m 0 c).Φ (Fin.last (pinD (pcfgs (F := F)) admD c 0).N) = leaveX m c := rfl
    have hl : leaveX m c ⊢ iprop(ownSems0 osem c ∗ (bigSep Finset.univ fun a : Fin 4 => stP m a c fullShare) ∗ arrived m c) := by
      unfold leaveX ownSems0 arrived
      exact (BIClass.sep_mono (two_end (waitPre c) (waitPost m c)) (BI.Entails.refl _)).trans (waits_join m c)
    rw [e, hss, hsb]
    iintro ⟨Hx, Hcs, Hst, Hid⟩
    ihave Hx' := hl $$ Hx
    icases Hx' with ⟨Hos, Hr, Ha⟩
    isplitl [Ha]; · iexact Ha
    isplitl [Hcs Hos Hid]
    · isplitl [Hcs Hos]
      · isplitl [Hcs] <;> iassumption
      iexact Hid
    isplitl [Hst]; · iexact Hst
    iapply (rests_of m c); iexact Hr
  have hpf : (emp : sProp 𝕄) ⊢ prefHeld (pcfgs (F := F) 0).pre c (fun _ => fullShare) (admD (F := F) c 0).1 :=
    Entails.of_eq (prefHeld_of_none _ rfl c _ _).symm
  have hO : (owes (c : Thread nD τ) (O c 0) ∅ : sProp 𝕄) ⊢ (pdats m 0 c).owesAt () 0 := by
    have e : (pdats m 0 c).owesAt () 0 = (iprop(∃ W : Finset (SemLoc sig × Unit), ⌜(↑W : Set (SemLoc sig × Unit)) ⊆ ∅ ∪ cfg0.waitPairs ()⌝ ∗ owes (c : Thread nD τ) (O c 0) W) : sProp 𝕄) := rfl
    rw [e]
    iintro Ho
    iexists ∅
    isplitr; · ipureintro; rw [Finset.coe_empty]; exact Set.empty_subset _
    iexact Ho
  have hO' : (pdats m 0 c).owesAt () (Fin.last (pinD (pcfgs (F := F)) admD c 0).N) ⊢ (iprop(∃ W, owes (c : Thread nD τ) 0 W) : sProp 𝕄) := by
    have e : (pdats m 0 c).owesAt () (Fin.last (pinD (pcfgs (F := F)) admD c 0).N) = (iprop(∃ W : Finset (SemLoc sig × Unit), ⌜(↑W : Set (SemLoc sig × Unit)) ⊆ Set.univ ∪ cfg0.waitPairs ()⌝ ∗ owes (c : Thread nD τ) 0 W) : sProp 𝕄) := rfl
    rw [e]
    iintro ⟨%W, -, Ho⟩
    iexists W; iexact Ho
  rw [main_chain c, Pipeline.chain_cons, wp_bind]
  have hg : (PerCore.ghostOn (pcfgs (F := F)) admD EP Finset.univ c : sProp 𝕄)
      ⊢ iprop((PerCore.cellsGhost (pinD (pcfgs (F := F)) admD) EP 0 c ∗ PerCore.toksInit (pinD (pcfgs (F := F)) admD) EP 0 c)
          ∗ PerCore.ghostOn (pcfgs (F := F)) admD EP (Finset.univ.erase 0) c) :=
    Entails.of_eq (PerCore.ghostOn_erase (pcfgs (F := F)) admD EP (Finset.mem_univ 0) c)
  unfold homeShare
  iintro ⟨⟨Hsc, Hcells, Hidle, Hidl⟩, HT, #Hla, HG⟩
  ihave HT' := hT $$ HT
  icases HT' with ⟨HX, HO, HA, HZ⟩
  ihave HG' := hg $$ HG
  icases HG' with ⟨⟨Hg, Ht⟩, Hrest⟩
  ihave Hw := (waits_allowed m c) $$ Hla
  iapply (fupd_wp frame (wpE (Pipeline.defs (pcfgs (F := F)) (defs₀ (F := F))) (Variants.lift 𝒱₀) (c.tc : Thread nD τ) none) Set.univ _ _)
  imod (PerCore.cellsInit_alloc (pinD (pcfgs (F := F)) admD) (pdats m) EP (cells_inj (F := F)) 0 c) $$ [Hcells Hg] with ⟨%κ, -, Hinit⟩
  · isplitl [Hcells] <;> iassumption
  imodintro
  iapply (PerCore.wp_customCall_entry_frame (pcfgs (F := F)) admD (pdats m) () EP κ (cells_inj (F := F)) 0 defs₀ 𝒱₀ (fun _ => fullShare) c Set.univ (fun _ _ => Set.mem_univ _)
      (obligation m c).loose block_pos0 none (fun u h => nomatch h) (X := enterX m c) (Y := arrived m c)
      (R := Pipeline.scopedRest (pinD (pcfgs (F := F)) admD c 0).spec c) (I := PerCore.idleSems0 (pinD (pcfgs (F := F)) admD) (cells_inj (F := F)) 0 (fun _ : Dev nD => own_facts) c)
      (Entails.of_eq hsb) hin hout (k := fun r => .ret r)) $$ [HO HA Hinit Ht HX Hidle Hsc Hw]
  · isplitl [HO HA Hinit Ht Hw]
    · unfold PerCore.EntryPre
      isplitl [HA]; · iapply (Entails.of_eq (arrays_at m c 0)); iexact HA
      isplitl [HO]; · iapply hO; iexact HO
      isplitl [Hw]; · iexact Hw
      isplitl [Hinit] <;> iassumption
    isplitr; · iapply hpf; iempintro
    isplitl [HX]; · iexact HX
    isplitl [Hidle]; · iexact Hidle
    iexact Hsc
  iintro ⟨Hpost, HY, Hss2, Hsc2⟩
  unfold PerCore.EntryPost
  icases Hpost with ⟨HA, HO⟩
  ihave HA' := (Entails.of_eq (arrays_at m c _).symm) $$ HA
  ihave HO' := hO' $$ HO
  ihave Hb2 := (show iprop(scopedBufs (c.tc : Thread nD τ) ∗ scopedSems0 (c.tc : Thread nD τ) ∗ opIdle (c.tc : Thread nD τ))
      ⊢ boundary (c.tc : Thread nD τ) from BI.Entails.refl _) $$ [Hsc2 Hss2 Hidl]
  · isplitl [Hsc2]; · iexact Hsc2
    isplitl [Hss2]; · iexact Hss2
    iexact Hidl
  unfold apart
  ihave Hs := (settle m c) $$ [HY HZ HA']
  · isplitl [HY]; · iexact HY
    isplitl [HA'] <;> iassumption
  rw [wp_ret]
  imodintro
  rw [Pipeline.chain_nil, Prog.pure_eq_ret, wp_ret]
  imodintro
  isplitr [HO']
  · unfold Tn
    isplitl [Hs] <;> iassumption
  iexact HO'

/-- Device `c`'s memory is as the gathering leaves it. -/
def Done (c : Dev nD) (s : MemSt nD τ sig (Elt F)) : Prop :=
  ∀ b : Ref sig .tc, b.isScoped = false → s.mem ((c : Thread nD τ).loc b) = W1 m c (Proc.devRef .tc b)

theorem run_main (ρ : Dev nD → PrngReg) :
    θ_run (defs (F := F)) (onTc (τ := τ) (main (F := F))) ⟨m, fun _ => 0, ρ⟩ (fun r => (∀ c : Dev nD, Done m c r.2) ∧ r.2.sem = fun _ => 0) := by
  refine launch (pcfgs (F := F)) admD (cells_inj (F := F)) 0 winFacts0.to₀ own_facts EP defs₀ 𝒱₀ L lv m ρ main O₀ L_of_ne (G m) u₀ (hu₀ m) (T₀ m) (Tn m)
    (deal m ρ) (hrun m) (Done m) (fun c s' => ?_) fun s h hz => ⟨h, funext fun g => hz g (.inr (all_scoped g.2))⟩
  unfold Tn StableHlo.held
  iintro ⟨Hh, HSI⟩
  ihave Hr := (pointsTo_read_all (Pipeline.ucRefs τ sig) (fun b => ((c : Thread nD τ).1, b)) (W1 m c) s') $$ [Hh HSI]
  · isplitl [Hh] <;> iassumption
  icases Hr with ⟨%h, HSI⟩
  imodintro
  isplitr
  · ipureintro
    exact fun b hb => h (Proc.devRef .tc b) (Finset.mem_filter.mpr ⟨StableHlo.devRef_mem_tcRefs b, fun h' => Bool.false_ne_true (hb.symm.trans h')⟩)
  · iexact HSI

end Cert.Gathering
-- ==== Proof.GatherTarget.lean ====
module

public import proofs.«01_k».proof.Proof.Gen.GatheredIdeal.Run
public import Idealize.ShloMosaic.Lib.Layout
public import Idealize.ShloMosaic.Lib.Pointwise
public import Idealize.ShloMosaic.Lib.ValueIdx

@[expose] public section
noncomputable section

namespace Cert.Gathering.Target

open Cert.GatheredIdeal Cert.GatheredIdeal.Gen
open Idealize.ShloMosaic Idealize.ShloMosaic.ValueIdx

variable {F : FTy → Type} [FloatOps F]

abbrev wideStack : Layout.Tiles ⟨3, ![8, 1024, 1152]⟩ ⟨3, ![64, 1024, 1152]⟩ 0 8 := by decide
abbrev tallStack : Layout.Tiles ⟨3, ![8, 128, 1024]⟩ ⟨3, ![64, 128, 1024]⟩ 0 8 := by decide
abbrev wideCols : Layout.Tiles ⟨2, ![1024, 1152]⟩ ⟨2, ![1024, 9216]⟩ 1 8 := by decide
abbrev tallRows : Layout.Tiles ⟨2, ![128, 1024]⟩ ⟨2, ![1024, 1024]⟩ 0 8 := by decide

/-- Rounding to the storage format, element by element. -/
abbrev cut (x : F .f32) : F .bf16 := FloatOps.truncf .bf16 bitsLt_bf16_f32 x

/-! The reference's stacks, element by element. -/

/-- The wide weight rounded, its columns' blocks stacked, and the stack repeated for every device. -/
def gWide (x : Vec F S1024x9216 .f32) : Vec F S64x1024x1152 .bf16 :=
  shapeCast _ (broadcastInDim S8x8x1024x1152 ![0, 1, 2, 3] bcast_S1x8x1024x1152_S8x8x1024x1152_0_1_2_3 (broadcastInDim S1x8x1024x1152 ![1, 2, 3] bcast_S8x1024x1152_S1x8x1024x1152_1_2_3 (transpose S8x1024x1152 [1, 0, 2] (shapeCast _ (truncf .bf16 x bitsLt_bf16_f32) shapeCasts_S1024x9216_S1024x8x1152) transposes_S1024x8x1152_S8x1024x1152_1_0_2))) shapeCasts_S8x8x1024x1152_S64x1024x1152

/-- A tall weight rounded, its rows' blocks stacked, and the stack repeated for every device. -/
def gTall (x : Vec F S1024x1024 .f32) : Vec F S64x128x1024 .bf16 :=
  shapeCast _ (broadcastInDim S8x8x128x1024 ![0, 1, 2, 3] bcast_S1x8x128x1024_S8x8x128x1024_0_1_2_3 (broadcastInDim S1x8x128x1024 ![1, 2, 3] bcast_S8x128x1024_S1x8x128x1024_1_2_3 (shapeCast _ (truncf .bf16 x bitsLt_bf16_f32) shapeCasts_S1024x1024_S8x128x1024))) shapeCasts_S8x8x128x1024_S64x128x1024

theorem gWide_at (x : Vec F S1024x9216 .f32) (c : Fin 8) (i : (⟨3, ![8, 1024, 1152]⟩ : Shape).Idx) :
    gWide x (wideStack.idx c i) = cut (x (wideCols.idx (i 0) (ValueIdx.ix2 (i 1) (i 2)))) := by
  unfold gWide
  rw [shapeCast_apply _ _ _ (ValueIdx.ix4 c (i 0) (i 1) (i 2) : S8x8x1024x1152.Idx) (by
    rw [Shape.rowMajor_val_three, Shape.rowMajor_val_four]
    show ((c.val * 8 + (i 0).val) * 1024 + (i 1).val) * 1152 + (i 2).val = ((c.val * 8 + (i 0).val) * 1024 + (i 1).val) * 1152 + (i 2).val
    rfl)]
  rw [broadcastInDim_apply _ _ _ _ (ValueIdx.ix4 (0 : Fin 1) (i 0) (i 1) (i 2) : S1x8x1024x1152.Idx) (by
    intro a; match a with | 0 => exact (if_pos rfl).symm | 1 => exact (if_neg (by decide)).symm | 2 => exact (if_neg (by decide)).symm | 3 => exact (if_neg (by decide)).symm)]
  rw [broadcastInDim_apply _ _ _ _ (ValueIdx.ix3 (i 0) (i 1) (i 2) : S8x1024x1152.Idx) (by
    intro a; match a with | 0 => exact (if_neg (by decide)).symm | 1 => exact (if_neg (by decide)).symm | 2 => exact (if_neg (by decide)).symm)]
  rw [transpose_apply _ _ _ _ (ValueIdx.ix3 (i 1) (i 0) (i 2) : S1024x8x1152.Idx) (by
    intro b; match b with | 0 => rfl | 1 => rfl | 2 => rfl)]
  refine shapeCast_apply _ _ _ _ ?_
  have h0 : (i 0).val < 8 := (i 0).isLt
  rw [Shape.rowMajor_val_two, Shape.rowMajor_val_three]
  show (i 1).val * 9216 + ((i 0).val * 1152 + (i 2).val) = ((i 1).val * 8 + (i 0).val) * 1152 + (i 2).val
  omega

theorem gTall_at (x : Vec F S1024x1024 .f32) (c : Fin 8) (i : (⟨3, ![8, 128, 1024]⟩ : Shape).Idx) :
    gTall x (tallStack.idx c i) = cut (x (tallRows.idx (i 0) (ValueIdx.ix2 (i 1) (i 2)))) := by
  unfold gTall
  rw [shapeCast_apply _ _ _ (ValueIdx.ix4 c (i 0) (i 1) (i 2) : S8x8x128x1024.Idx) (by
    rw [Shape.rowMajor_val_three, Shape.rowMajor_val_four]
    show ((c.val * 8 + (i 0).val) * 128 + (i 1).val) * 1024 + (i 2).val = ((c.val * 8 + (i 0).val) * 128 + (i 1).val) * 1024 + (i 2).val
    rfl)]
  rw [broadcastInDim_apply _ _ _ _ (ValueIdx.ix4 (0 : Fin 1) (i 0) (i 1) (i 2) : S1x8x128x1024.Idx) (by
    intro a; match a with | 0 => exact (if_pos rfl).symm | 1 => exact (if_neg (by decide)).symm | 2 => exact (if_neg (by decide)).symm | 3 => exact (if_neg (by decide)).symm)]
  rw [broadcastInDim_apply _ _ _ _ (ValueIdx.ix3 (i 0) (i 1) (i 2) : S8x128x1024.Idx) (by
    intro a; match a with | 0 => exact (if_neg (by decide)).symm | 1 => exact (if_neg (by decide)).symm | 2 => exact (if_neg (by decide)).symm)]
  refine shapeCast_apply _ _ _ _ ?_
  rw [Shape.rowMajor_val_two, Shape.rowMajor_val_three]
  show ((i 0).val * 128 + (i 1).val) * 1024 + (i 2).val = ((i 0).val * 128 + (i 1).val) * 1024 + (i 2).val
  rfl

end Cert.Gathering.Target
-- ==== Proof.GatherEnd.lean ====
module

public import proofs.«01_k».proof.Defs
public import proofs.«01_k».proof.Proof.GatherRun
public import proofs.«01_k».proof.Proof.Gen.Gather
public import proofs.«01_k».proof.Proof.GatherTarget
public import proofs.«01_k».proof.Proof.Gen.Gathered.Run
public import Idealize.ShloMosaic.Lib.Layout
public import Idealize.ShloMosaic.Lib.Pointwise
public import Idealize.ShloMosaic.Lib.ValueIdx

/-!
  The claims of the weights' gather: its frames, and its value. A device's result is the stack of every device's
  block, rounded; the reference rounds each whole weight, cuts it into the devices' blocks, and hands every
  device the same stack.
-/

@[expose] public section
noncomputable section

namespace Cert.Gathering

open Target
open Cert.GatherIdeal Cert.GatherIdeal.Gen
open Idealize.ShloMosaic Idealize.ShloMosaic.TcCoe Idealize.ShloMosaic.ValueIdx Idealize.SL.Sem

variable {F : FTy → Type} [FloatOps F]

/-! ## What a device stages -/

variable (m : (ℓ : Loc nD τ sig) → Buf (Elt F) ℓ)

theorem still_0 (b : Fin 2) : win0_0.index t0_0 b = 0 := by revert b; decide
theorem xin_0 (d : Dev nD) (j : (⟨2, ![1024, 1152]⟩ : Shape).Idx) : xin m 0 d j = m ((d : Thread nD τ).loc main_arg0) j := by
  refine congrArg (m ((d : Thread nD τ).loc main_arg0)) (funext fun b => Fin.ext ((win0_0.rect_emb_val t0_0 j b).trans ?_))
  rw [still_0]
  match b with
  | 0 => show 0 * 1024 + (j 0).val = (j 0).val; omega
  | 1 => show 0 * 1152 + (j 1).val = (j 1).val; omega
theorem still_1 (b : Fin 2) : win0_1.index t0_0 b = 0 := by revert b; decide
theorem xin_1 (d : Dev nD) (j : (⟨2, ![128, 1024]⟩ : Shape).Idx) : xin m 1 d j = m ((d : Thread nD τ).loc main_arg1) j := by
  refine congrArg (m ((d : Thread nD τ).loc main_arg1)) (funext fun b => Fin.ext ((win0_1.rect_emb_val t0_0 j b).trans ?_))
  rw [still_1]
  match b with
  | 0 => show 0 * 128 + (j 0).val = (j 0).val; omega
  | 1 => show 0 * 1024 + (j 1).val = (j 1).val; omega
theorem still_2 (b : Fin 2) : win0_2.index t0_0 b = 0 := by revert b; decide
theorem xin_2 (d : Dev nD) (j : (⟨2, ![128, 1024]⟩ : Shape).Idx) : xin m 2 d j = m ((d : Thread nD τ).loc main_arg2) j := by
  refine congrArg (m ((d : Thread nD τ).loc main_arg2)) (funext fun b => Fin.ext ((win0_2.rect_emb_val t0_0 j b).trans ?_))
  rw [still_2]
  match b with
  | 0 => show 0 * 128 + (j 0).val = (j 0).val; omega
  | 1 => show 0 * 1024 + (j 1).val = (j 1).val; omega
theorem still_3 (b : Fin 2) : win0_3.index t0_0 b = 0 := by revert b; decide
theorem xin_3 (d : Dev nD) (j : (⟨2, ![128, 1024]⟩ : Shape).Idx) : xin m 3 d j = m ((d : Thread nD τ).loc main_arg3) j := by
  refine congrArg (m ((d : Thread nD τ).loc main_arg3)) (funext fun b => Fin.ext ((win0_3.rect_emb_val t0_0 j b).trans ?_))
  rw [still_3]
  match b with
  | 0 => show 0 * 128 + (j 0).val = (j 0).val; omega
  | 1 => show 0 * 1024 + (j 1).val = (j 1).val; omega
theorem staged_0 (d : Dev nD) (j : (⟨2, ![1024, 1152]⟩ : Shape).Idx) : stV m 0 d j = cut (m ((d : Thread nD τ).loc main_arg0) j) := by
  show k0_pay1 (xin m 0 d) j = _
  unfold k0_pay1
  refine (shapeCast_apply _ _ _ j rfl).trans ?_
  refine congrArg cut ((shapeCast_apply _ _ _ j rfl).trans (xin_0 m d j))

theorem staged_1 (d : Dev nD) (j : (⟨2, ![128, 1024]⟩ : Shape).Idx) : stV m 1 d j = cut (m ((d : Thread nD τ).loc main_arg1) j) := by
  show k0_pay3 (k0_pay2 (xin m 1 d)) j = _
  unfold k0_pay3 k0_pay2
  refine (shapeCast_apply _ _ _ j rfl).trans ?_
  refine congrArg cut ((shapeCast_apply _ _ _ j rfl).trans (xin_1 m d j))

theorem staged_2 (d : Dev nD) (j : (⟨2, ![128, 1024]⟩ : Shape).Idx) : stV m 2 d j = cut (m ((d : Thread nD τ).loc main_arg2) j) := by
  show k0_pay4 (xin m 2 d) j = _
  unfold k0_pay4
  refine (shapeCast_apply _ _ _ j rfl).trans ?_
  refine congrArg cut ((shapeCast_apply _ _ _ j rfl).trans (xin_2 m d j))

theorem staged_3 (d : Dev nD) (j : (⟨2, ![128, 1024]⟩ : Shape).Idx) : stV m 3 d j = cut (m ((d : Thread nD τ).loc main_arg3) j) := by
  show k0_pay5 (xin m 3 d) j = _
  unfold k0_pay5
  refine (shapeCast_apply _ _ _ j rfl).trans ?_
  refine congrArg cut ((shapeCast_apply _ _ _ j rfl).trans (xin_3 m d j))

/-! ## A device's results are the blocks of the reference's arrays -/

theorem match_0 (x : Vec F ⟨2, ![1024, 9216]⟩ .f32)
    (hx : ∀ d : Dev nD, m ((d : Thread nD τ).loc main_arg0) = Layout.block ⟨2, ![1024, 1152]⟩ ⟨2, ![1024, 9216]⟩ 1 8 d x) (c : Dev nD) :
    res0 m c = Layout.block ⟨3, ![8, 1024, 1152]⟩ ⟨3, ![64, 1024, 1152]⟩ 0 8 c (gWide x) wideStack := by
  funext i
  refine Eq.trans ?_ (gWide_at x c i).symm
  refine (staged_0 m (i 0) (ValueIdx.ix2 (i 1) (i 2))).trans (congrArg cut ?_)
  exact congrFun (hx (i 0)) (ValueIdx.ix2 (i 1) (i 2))

theorem match_1 (x : Vec F ⟨2, ![1024, 1024]⟩ .f32)
    (hx : ∀ d : Dev nD, m ((d : Thread nD τ).loc main_arg1) = Layout.block ⟨2, ![128, 1024]⟩ ⟨2, ![1024, 1024]⟩ 0 8 d x) (c : Dev nD) :
    res1 m c = Layout.block ⟨3, ![8, 128, 1024]⟩ ⟨3, ![64, 128, 1024]⟩ 0 8 c (gTall x) tallStack := by
  funext i
  refine Eq.trans ?_ (gTall_at x c i).symm
  refine (staged_1 m (i 0) (ValueIdx.ix2 (i 1) (i 2))).trans (congrArg cut ?_)
  exact congrFun (hx (i 0)) (ValueIdx.ix2 (i 1) (i 2))

theorem match_2 (x : Vec F ⟨2, ![1024, 1024]⟩ .f32)
    (hx : ∀ d : Dev nD, m ((d : Thread nD τ).loc main_arg2) = Layout.block ⟨2, ![128, 1024]⟩ ⟨2, ![1024, 1024]⟩ 0 8 d x) (c : Dev nD) :
    res2 m c = Layout.block ⟨3, ![8, 128, 1024]⟩ ⟨3, ![64, 128, 1024]⟩ 0 8 c (gTall x) tallStack := by
  funext i
  refine Eq.trans ?_ (gTall_at x c i).symm
  refine (staged_2 m (i 0) (ValueIdx.ix2 (i 1) (i 2))).trans (congrArg cut ?_)
  exact congrFun (hx (i 0)) (ValueIdx.ix2 (i 1) (i 2))

theorem match_3 (x : Vec F ⟨2, ![1024, 1024]⟩ .f32)
    (hx : ∀ d : Dev nD, m ((d : Thread nD τ).loc main_arg3) = Layout.block ⟨2, ![128, 1024]⟩ ⟨2, ![1024, 1024]⟩ 0 8 d x) (c : Dev nD) :
    res3 m c = Layout.block ⟨3, ![8, 128, 1024]⟩ ⟨3, ![64, 128, 1024]⟩ 0 8 c (gTall x) tallStack := by
  funext i
  refine Eq.trans ?_ (gTall_at x c i).symm
  refine (staged_3 m (i 0) (ValueIdx.ix2 (i 1) (i 2))).trans (congrArg cut ?_)
  exact congrFun (hx (i 0)) (ValueIdx.ix2 (i 1) (i 2))

/-! ## The frames -/

/-- Every argument ends as it began. -/
abbrev Same (s : MemSt nD τ sig (Elt F)) (c : Dev nD) : Prop :=
  s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)

theorem kept {s : MemSt nD τ sig (Elt F)} (c : Dev nD) (h : Done m c s) : Same m s c := ⟨
    (h main_arg0 rfl).trans (W1_of m c _ (by decide) (by decide) (by decide) (by decide)),
    (h main_arg1 rfl).trans (W1_of m c _ (by decide) (by decide) (by decide) (by decide)),
    (h main_arg2 rfl).trans (W1_of m c _ (by decide) (by decide) (by decide) (by decide)),
    (h main_arg3 rfl).trans (W1_of m c _ (by decide) (by decide) (by decide) (by decide))⟩

/-- The frame, over any float values. -/
theorem frame_any (ρ : Dev nD → PrngReg) :
    θ_run (defs (F := F)) (onTc (τ := τ) (main (F := F))) ⟨m, fun _ => 0, ρ⟩ fun r => (∀ c : Dev nD, Same m r.2 c) ∧ r.2.sem = fun _ => 0 :=
  (θ_run defs _ _).mono (fun _ h => ⟨fun c => kept m c (h.1 c), h.2⟩) (run_main m ρ)

theorem frame_ideal : Cert.quiescent_GatherIdeal := fun m ρ _ => frame_any (F := Ideal) m ρ

/-! No rewrite separates the program from its ideal form: the two are the same functions. -/

local instance : Cert.Gather.Facts := Cert.Gather.Gen.facts

set_option maxHeartbeats 8000000 in
theorem same_bodies : (Cert.Gather.defs₀ (F := Bits)) = defs₀ (F := Bits) := by
  unfold Cert.Gather.defs₀ defs₀
  refine congrArg Defs.onTc (funext fun l => funext fun x => ?_)
  match l, x with
  | 0, (t, s) => dsimp only; exact rfl

set_option maxHeartbeats 8000000 in
theorem same_defs : (Cert.Gather.defs (F := Bits)) = defs (F := Bits) := by
  unfold Cert.Gather.defs defs
  exact congrArg (Pipeline.defs (pcfgs (F := Bits))) same_bodies

set_option maxHeartbeats 8000000 in
theorem same_main : (Cert.Gather.main (F := Bits)) = main (F := Bits) := rfl

/-- What holds of the runs of the ideal form's text holds of the runs of the program's. -/
theorem carry {d : Defs nD τ sig (Elt Bits) (Pipeline.Sig Λ₀ (Fin 1) fun p => (pcfgs (F := Bits) p).Adm)}
    {p : Dev nD → Prog (TpuEff nD τ sig (Elt Bits) (Pipeline.Sig Λ₀ (Fin 1) fun p => (pcfgs (F := Bits) p).Adm) .tc) PUnit}
    (hd : d = defs (F := Bits)) (hp : p = main (F := Bits)) (s : MemSt nD τ sig (Elt Bits)) (post)
    (h : θ_run (defs (F := Bits)) (onTc (τ := τ) (main (F := Bits))) s post) :
    θ_run d (onTc (τ := τ) p) s post := by
  subst hd hp; exact h

set_option maxHeartbeats 4000000 in
theorem frame_kernel : Cert.quiescent_Gather := fun m ρ _ =>
  carry same_defs same_main ⟨m, fun _ => 0, ρ⟩ _ (frame_any (F := Bits) m ρ)

theorem frame_reference : Cert.quiescent_GatheredIdeal := fun m ρ _ =>
  (θ_run Cert.GatheredIdeal.defs _ _).mono
    (fun r h => ⟨fun c => (h c).2.2.2.2, sem_eq_zero_of_no_sems (by decide) r.2⟩)
    (Cert.GatheredIdeal.Value.run (F := Ideal) m ρ)

theorem frame_plain : Cert.quiescent_Gathered := fun m ρ _ =>
  (θ_run Cert.Gathered.defs _ _).mono
    (fun r h => ⟨fun c => (h c).2.2.2.2, sem_eq_zero_of_no_sems (by decide) r.2⟩)
    (Cert.Gathered.Value.run (F := Bits) m ρ)

/-! ## The values -/

theorem same_values : Cert.algebraic_GatherIdeal_GatheredIdeal := by
  intro m g m' g' _ hag
  refine ⟨gWide (m' (((0 : Dev Cert.GatheredIdeal.nD) : Thread Cert.GatheredIdeal.nD Cert.GatheredIdeal.τ).loc Cert.GatheredIdeal.main_arg0)),
    gTall (m' (((0 : Dev Cert.GatheredIdeal.nD) : Thread Cert.GatheredIdeal.nD Cert.GatheredIdeal.τ).loc Cert.GatheredIdeal.main_arg1)),
    gTall (m' (((0 : Dev Cert.GatheredIdeal.nD) : Thread Cert.GatheredIdeal.nD Cert.GatheredIdeal.τ).loc Cert.GatheredIdeal.main_arg2)),
    gTall (m' (((0 : Dev Cert.GatheredIdeal.nD) : Thread Cert.GatheredIdeal.nD Cert.GatheredIdeal.τ).loc Cert.GatheredIdeal.main_arg3)), ?_, ?_⟩
  · exact (θ_run defs _ _).mono (fun r h c => ⟨
      (h.1 c main_v1_0 rfl).trans ((W1_0 m c).trans (match_0 m _ (fun d => (hag d).1) c)),
      (h.1 c main_v1_1 rfl).trans ((W1_1 m c).trans (match_1 m _ (fun d => (hag d).2.1) c)),
      (h.1 c main_v1_2 rfl).trans ((W1_2 m c).trans (match_2 m _ (fun d => (hag d).2.2.1) c)),
      (h.1 c main_v1_3 rfl).trans ((W1_3 m c).trans (match_3 m _ (fun d => (hag d).2.2.2) c)),
      kept m c (h.1 c)⟩) (run_main (F := Ideal) m g)
  · exact (θ_run Cert.GatheredIdeal.defs _ _).mono (fun r h => h 0) (Cert.GatheredIdeal.Value.run (F := Ideal) m' g')

set_option maxHeartbeats 4000000 in
/-- The same of the words: the gather copies what the rounding gave. -/
theorem same_bits : Cert.bitexact_Gather_Gathered := by
  intro m g m' g' _ hag
  refine ⟨gWide (m' (((0 : Dev Cert.Gathered.nD) : Thread Cert.Gathered.nD Cert.Gathered.τ).loc Cert.Gathered.main_arg0)),
    gTall (m' (((0 : Dev Cert.Gathered.nD) : Thread Cert.Gathered.nD Cert.Gathered.τ).loc Cert.Gathered.main_arg1)),
    gTall (m' (((0 : Dev Cert.Gathered.nD) : Thread Cert.Gathered.nD Cert.Gathered.τ).loc Cert.Gathered.main_arg2)),
    gTall (m' (((0 : Dev Cert.Gathered.nD) : Thread Cert.Gathered.nD Cert.Gathered.τ).loc Cert.Gathered.main_arg3)), ?_, ?_⟩
  · exact carry same_defs same_main ⟨m, fun _ => 0, g⟩ _ ((θ_run defs _ _).mono (fun r h c => ⟨
      (h.1 c main_v1_0 rfl).trans ((W1_0 m c).trans (match_0 m _ (fun d => (hag d).1) c)),
      (h.1 c main_v1_1 rfl).trans ((W1_1 m c).trans (match_1 m _ (fun d => (hag d).2.1) c)),
      (h.1 c main_v1_2 rfl).trans ((W1_2 m c).trans (match_2 m _ (fun d => (hag d).2.2.1) c)),
      (h.1 c main_v1_3 rfl).trans ((W1_3 m c).trans (match_3 m _ (fun d => (hag d).2.2.2) c)),
      kept m c (h.1 c)⟩) (run_main (F := Bits) m g))
  · exact (θ_run Cert.Gathered.defs _ _).mono (fun r h => h 0) (Cert.Gathered.Value.run (F := Bits) m' g')

end Cert.Gathering
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Match
public import proofs.«01_k».proof.Proof.SameText
public import proofs.«01_k».proof.Proof.Small
public import proofs.«01_k».proof.Proof.DxEnd
public import proofs.«01_k».proof.Proof.Products
public import proofs.«01_k».proof.Proof.GatingEnd
public import proofs.«01_k».proof.Proof.ProjEnd
public import proofs.«01_k».proof.Proof.GatherEnd
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatheredIdeal
public import proofs.«01_k».proof.Proof.Gen.GatheredIdeal.Run
public import proofs.«01_k».proof.Proof.Gen.NormIn
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInIdeal.Value
public import proofs.«01_k».proof.Proof.Gen.NormInStepIdeal
public import proofs.«01_k».proof.Proof.Gen.NormInStepIdeal.Run
public import proofs.«01_k».proof.Proof.Gen.NormV
public import proofs.«01_k».proof.Proof.Gen.NormV.Skeleton
public import proofs.«01_k».proof.Proof.Gen.NormV.Launch
public import proofs.«01_k».proof.Proof.Gen.NormV.Points
public import proofs.«01_k».proof.Proof.Gen.NormV.Frame
public import proofs.«01_k».proof.Proof.Gen.NormVIdeal
public import proofs.«01_k».proof.Proof.Gen.NormVIdeal.Skeleton
public import proofs.«01_k».proof.Proof.Gen.NormVIdeal.Launch
public import proofs.«01_k».proof.Proof.Gen.NormVIdeal.Points
public import proofs.«01_k».proof.Proof.Gen.NormVIdeal.Frame
public import proofs.«01_k».proof.Proof.Gen.NormVIdeal.Value
public import proofs.«01_k».proof.Proof.Gen.NormVStepIdeal
public import proofs.«01_k».proof.Proof.Gen.NormVStepIdeal.Run
public import proofs.«01_k».proof.Proof.Gen.NormFinal
public import proofs.«01_k».proof.Proof.Gen.NormFinal.Skeleton
public import proofs.«01_k».proof.Proof.Gen.NormFinal.Launch
public import proofs.«01_k».proof.Proof.Gen.NormFinal.Points
public import proofs.«01_k».proof.Proof.Gen.NormFinal.Frame
public import proofs.«01_k».proof.Proof.Gen.NormFinalIdeal
public import proofs.«01_k».proof.Proof.Gen.NormFinalIdeal.Skeleton
public import proofs.«01_k».proof.Proof.Gen.NormFinalIdeal.Launch
public import proofs.«01_k».proof.Proof.Gen.NormFinalIdeal.Points
public import proofs.«01_k».proof.Proof.Gen.NormFinalIdeal.Frame
public import proofs.«01_k».proof.Proof.Gen.NormFinalIdeal.Value
public import proofs.«01_k».proof.Proof.Gen.NormFinalStepIdeal
public import proofs.«01_k».proof.Proof.Gen.NormFinalStepIdeal.Run
public import proofs.«01_k».proof.Proof.Gen.Spatial
public import proofs.«01_k».proof.Proof.Gen.Spatial.Skeleton
public import proofs.«01_k».proof.Proof.Gen.Spatial.Launch
public import proofs.«01_k».proof.Proof.Gen.Spatial.Points
public import proofs.«01_k».proof.Proof.Gen.Spatial.Frame
public import proofs.«01_k».proof.Proof.Gen.SpatialIdeal
public import proofs.«01_k».proof.Proof.Gen.SpatialIdeal.Skeleton
public import proofs.«01_k».proof.Proof.Gen.SpatialIdeal.Launch
public import proofs.«01_k».proof.Proof.Gen.SpatialIdeal.Points
public import proofs.«01_k».proof.Proof.Gen.SpatialIdeal.Frame
public import proofs.«01_k».proof.Proof.Gen.SpatialIdeal.Value
public import proofs.«01_k».proof.Proof.Gen.SpatialStepIdeal
public import proofs.«01_k».proof.Proof.Gen.SpatialStepIdeal.Run
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasIdeal.Value
public import proofs.«01_k».proof.Proof.Gen.BiasStepIdeal
public import proofs.«01_k».proof.Proof.Gen.BiasStepIdeal.Run
public import Idealize.ShloMosaic.Adequacy
public import Idealize.ShloMosaic.Init

@[expose] public section

noncomputable section

/-! The claims. One run of the exchange and the four optimiser steps, over any float values, gives both
    frames; at the extended reals its results are the blocks of the reference's arrays. -/

namespace Cert.Proof

open Idealize.ShloMosaic Idealize.ShloMosaic.TcCoe Idealize.SL.Sem
open Cert.Exchange
open Cert.Exchange.Target (gWide gTall rStep rMom rSec wideCols tallRows)

section Args
open Cert.KernelIdeal
variable {F : FTy → Type} [FloatOps F]

/-- Every argument ends as it began. -/
abbrev Same (m : (ℓ : Loc nD τ sig) → Buf (Elt F) ℓ) (s : MemSt nD τ sig (Elt F)) (c : Dev nD) : Prop :=
  s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6)
      ∧ s.mem ((c : Thread nD τ).loc main_arg7) = m ((c : Thread nD τ).loc main_arg7)
      ∧ s.mem ((c : Thread nD τ).loc main_arg8) = m ((c : Thread nD τ).loc main_arg8)
      ∧ s.mem ((c : Thread nD τ).loc main_arg9) = m ((c : Thread nD τ).loc main_arg9)
      ∧ s.mem ((c : Thread nD τ).loc main_arg10) = m ((c : Thread nD τ).loc main_arg10)
      ∧ s.mem ((c : Thread nD τ).loc main_arg11) = m ((c : Thread nD τ).loc main_arg11)
      ∧ s.mem ((c : Thread nD τ).loc main_arg12) = m ((c : Thread nD τ).loc main_arg12)
      ∧ s.mem ((c : Thread nD τ).loc main_arg13) = m ((c : Thread nD τ).loc main_arg13)
      ∧ s.mem ((c : Thread nD τ).loc main_arg14) = m ((c : Thread nD τ).loc main_arg14)
      ∧ s.mem ((c : Thread nD τ).loc main_arg15) = m ((c : Thread nD τ).loc main_arg15)

theorem args_same {m : (ℓ : Loc nD τ sig) → Buf (Elt F) ℓ} {s : MemSt nD τ sig (Elt F)} (c : Dev nD) (h : Done m c s) : Same m s c := ⟨
    (h main_arg0 rfl).trans (arg_5 m c Cert.Exchange.kept_0),
    (h main_arg1 rfl).trans (arg_5 m c Cert.Exchange.kept_1),
    (h main_arg2 rfl).trans (arg_5 m c Cert.Exchange.kept_2),
    (h main_arg3 rfl).trans (arg_5 m c Cert.Exchange.kept_3),
    (h main_arg4 rfl).trans (arg_5 m c Cert.Exchange.kept_4),
    (h main_arg5 rfl).trans (arg_5 m c Cert.Exchange.kept_5),
    (h main_arg6 rfl).trans (arg_5 m c Cert.Exchange.kept_6),
    (h main_arg7 rfl).trans (arg_5 m c Cert.Exchange.kept_7),
    (h main_arg8 rfl).trans (arg_5 m c Cert.Exchange.kept_8),
    (h main_arg9 rfl).trans (arg_5 m c Cert.Exchange.kept_9),
    (h main_arg10 rfl).trans (arg_5 m c Cert.Exchange.kept_10),
    (h main_arg11 rfl).trans (arg_5 m c Cert.Exchange.kept_11),
    (h main_arg12 rfl).trans (arg_5 m c Cert.Exchange.kept_12),
    (h main_arg13 rfl).trans (arg_5 m c Cert.Exchange.kept_13),
    (h main_arg14 rfl).trans (arg_5 m c Cert.Exchange.kept_14),
    (h main_arg15 rfl).trans (arg_5 m c Cert.Exchange.kept_15)⟩
end Args

/-- The frame, over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, Same m r.2 c) ∧ r.2.sem = fun _ => 0 :=
  (θ_run Cert.KernelIdeal.defs _ _).mono (fun _ h => ⟨fun c => args_same c (h.1 c), h.2⟩) (run_main m ρ)

set_option maxHeartbeats 4000000 in
theorem frame_kernel : Cert.quiescent_Kernel := fun m ρ _ =>
  Cert.Exchange.carry Cert.Exchange.same_defs Cert.Exchange.same_main ⟨m, fun _ => 0, ρ⟩ _ (frame_any (F := Bits) m ρ)

theorem frame_ideal : Cert.quiescent_KernelIdeal := fun m ρ _ => frame_any (F := Ideal) m ρ

theorem frame_reference : Cert.quiescent_ReferenceIdeal := fun m ρ _ =>
  (θ_run Cert.ReferenceIdeal.defs _ _).mono
    (fun r h => ⟨fun c => (h c).2.2.2.2.2.2.2.2.2.2.2.2.2.2.2.2, sem_eq_zero_of_no_sems (by decide) r.2⟩)
    (Cert.ReferenceIdeal.Value.run (F := Ideal) m ρ)

/-- The reference's one device. -/
abbrev first : Thread Cert.ReferenceIdeal.nD Cert.ReferenceIdeal.τ := ((0 : Dev Cert.ReferenceIdeal.nD) : Thread Cert.ReferenceIdeal.nD Cert.ReferenceIdeal.τ)

open Cert.ReferenceIdeal (main_arg0 main_arg1 main_arg2 main_arg3 main_arg4 main_arg5 main_arg6 main_arg7 main_arg8 main_arg9 main_arg10 main_arg11 main_arg12 main_arg13 main_arg14 main_arg15) in
open Cert.ReferenceIdeal.Gen (bcast_S_S1024x9216 bcast_S_S1024x1024) in
theorem same_values : Cert.algebraic_KernelIdeal_ReferenceIdeal := by
  intro m g m' g' _ hag
  refine ⟨gWide (m' (first.loc main_arg0)),
    rStep bcast_S_S1024x9216 (gWide (m' (first.loc main_arg0))) (m' (first.loc main_arg4)) (m' (first.loc main_arg8)) (m' (first.loc main_arg12)),
    rMom bcast_S_S1024x9216 (gWide (m' (first.loc main_arg0))) (m' (first.loc main_arg8)),
    rSec bcast_S_S1024x9216 (gWide (m' (first.loc main_arg0))) (m' (first.loc main_arg12)),
    gTall (m' (first.loc main_arg1)),
    rStep bcast_S_S1024x1024 (gTall (m' (first.loc main_arg1))) (m' (first.loc main_arg5)) (m' (first.loc main_arg9)) (m' (first.loc main_arg13)),
    rMom bcast_S_S1024x1024 (gTall (m' (first.loc main_arg1))) (m' (first.loc main_arg9)),
    rSec bcast_S_S1024x1024 (gTall (m' (first.loc main_arg1))) (m' (first.loc main_arg13)),
    gTall (m' (first.loc main_arg2)),
    rStep bcast_S_S1024x1024 (gTall (m' (first.loc main_arg2))) (m' (first.loc main_arg6)) (m' (first.loc main_arg10)) (m' (first.loc main_arg14)),
    rMom bcast_S_S1024x1024 (gTall (m' (first.loc main_arg2))) (m' (first.loc main_arg10)),
    rSec bcast_S_S1024x1024 (gTall (m' (first.loc main_arg2))) (m' (first.loc main_arg14)),
    gTall (m' (first.loc main_arg3)),
    rStep bcast_S_S1024x1024 (gTall (m' (first.loc main_arg3))) (m' (first.loc main_arg7)) (m' (first.loc main_arg11)) (m' (first.loc main_arg15)),
    rMom bcast_S_S1024x1024 (gTall (m' (first.loc main_arg3))) (m' (first.loc main_arg11)),
    rSec bcast_S_S1024x1024 (gTall (m' (first.loc main_arg3))) (m' (first.loc main_arg15)), ?_, ?_⟩
  · exact (θ_run Cert.KernelIdeal.defs _ _).mono (fun r h c => ⟨
      (h.1 c Cert.KernelIdeal.main_v2_0 rfl).trans ((end_1_0 m c).trans (grad_block wideCols c (wide m _ (fun d => (hag d).1) c) )),
      (h.1 c Cert.KernelIdeal.main_v2_1 rfl).trans ((end_1_1 m c).trans (step_block wideCols bcast_S_S1024x9216 c (wide m _ (fun d => (hag d).1) c) ((hag c).2.2.2.2.1) ((hag c).2.2.2.2.2.2.2.2.1) ((hag c).2.2.2.2.2.2.2.2.2.2.2.2.1))),
      (h.1 c Cert.KernelIdeal.main_v2_2 rfl).trans ((end_1_2 m c).trans (mom_block wideCols bcast_S_S1024x9216 c (wide m _ (fun d => (hag d).1) c) ((hag c).2.2.2.2.2.2.2.2.1))),
      (h.1 c Cert.KernelIdeal.main_v2_3 rfl).trans ((end_1_3 m c).trans (sec_block wideCols bcast_S_S1024x9216 c (wide m _ (fun d => (hag d).1) c) ((hag c).2.2.2.2.2.2.2.2.2.2.2.2.1))),
      (h.1 c Cert.KernelIdeal.main_v3_0 rfl).trans ((end_2_0 m c).trans (grad_block tallRows c (tall_1 m _ (fun d => (hag d).2.1) c) )),
      (h.1 c Cert.KernelIdeal.main_v3_1 rfl).trans ((end_2_1 m c).trans (step_block tallRows bcast_S_S1024x1024 c (tall_1 m _ (fun d => (hag d).2.1) c) ((hag c).2.2.2.2.2.1) ((hag c).2.2.2.2.2.2.2.2.2.1) ((hag c).2.2.2.2.2.2.2.2.2.2.2.2.2.1))),
      (h.1 c Cert.KernelIdeal.main_v3_2 rfl).trans ((end_2_2 m c).trans (mom_block tallRows bcast_S_S1024x1024 c (tall_1 m _ (fun d => (hag d).2.1) c) ((hag c).2.2.2.2.2.2.2.2.2.1))),
      (h.1 c Cert.KernelIdeal.main_v3_3 rfl).trans ((end_2_3 m c).trans (sec_block tallRows bcast_S_S1024x1024 c (tall_1 m _ (fun d => (hag d).2.1) c) ((hag c).2.2.2.2.2.2.2.2.2.2.2.2.2.1))),
      (h.1 c Cert.KernelIdeal.main_v4_0 rfl).trans ((end_3_0 m c).trans (grad_block tallRows c (tall_2 m _ (fun d => (hag d).2.2.1) c) )),
      (h.1 c Cert.KernelIdeal.main_v4_1 rfl).trans ((end_3_1 m c).trans (step_block tallRows bcast_S_S1024x1024 c (tall_2 m _ (fun d => (hag d).2.2.1) c) ((hag c).2.2.2.2.2.2.1) ((hag c).2.2.2.2.2.2.2.2.2.2.1) ((hag c).2.2.2.2.2.2.2.2.2.2.2.2.2.2.1))),
      (h.1 c Cert.KernelIdeal.main_v4_2 rfl).trans ((end_3_2 m c).trans (mom_block tallRows bcast_S_S1024x1024 c (tall_2 m _ (fun d => (hag d).2.2.1) c) ((hag c).2.2.2.2.2.2.2.2.2.2.1))),
      (h.1 c Cert.KernelIdeal.main_v4_3 rfl).trans ((end_3_3 m c).trans (sec_block tallRows bcast_S_S1024x1024 c (tall_2 m _ (fun d => (hag d).2.2.1) c) ((hag c).2.2.2.2.2.2.2.2.2.2.2.2.2.2.1))),
      (h.1 c Cert.KernelIdeal.main_v5_0 rfl).trans ((end_4_0 m c).trans (grad_block tallRows c (tall_3 m _ (fun d => (hag d).2.2.2.1) c) )),
      (h.1 c Cert.KernelIdeal.main_v5_1 rfl).trans ((end_4_1 m c).trans (step_block tallRows bcast_S_S1024x1024 c (tall_3 m _ (fun d => (hag d).2.2.2.1) c) ((hag c).2.2.2.2.2.2.2.1) ((hag c).2.2.2.2.2.2.2.2.2.2.2.1) ((hag c).2.2.2.2.2.2.2.2.2.2.2.2.2.2.2))),
      (h.1 c Cert.KernelIdeal.main_v5_2 rfl).trans ((end_4_2 m c).trans (mom_block tallRows bcast_S_S1024x1024 c (tall_3 m _ (fun d => (hag d).2.2.2.1) c) ((hag c).2.2.2.2.2.2.2.2.2.2.2.1))),
      (h.1 c Cert.KernelIdeal.main_v5_3 rfl).trans ((end_4_3 m c).trans (sec_block tallRows bcast_S_S1024x1024 c (tall_3 m _ (fun d => (hag d).2.2.2.1) c) ((hag c).2.2.2.2.2.2.2.2.2.2.2.2.2.2.2))),
      args_same c (h.1 c)⟩) (run_main (F := Ideal) m g)
  · exact (θ_run Cert.ReferenceIdeal.defs _ _).mono (fun r h => h 0) (Cert.ReferenceIdeal.Value.run (F := Ideal) m' g')

theorem claim : Cert.Claim := ⟨
    Cert.Kernel.Gen.facts, Cert.KernelIdeal.Gen.facts, Cert.ReferenceIdeal.Gen.facts,
    Cert.Gather.Gen.facts, Cert.GatherIdeal.Gen.facts, Cert.GatheredIdeal.Gen.facts,
    Cert.Gathered.Gen.facts, Cert.Dx.Gen.facts, Cert.DxIdeal.Gen.facts,
    Cert.GradXIdeal.Gen.facts, Cert.InProj.Gen.facts, Cert.InProjIdeal.Gen.facts, Cert.InProjRefIdeal.Gen.facts,
    Cert.DwIn.Gen.facts, Cert.DwInIdeal.Gen.facts,
    Cert.DwInRefIdeal.Gen.facts, Cert.DwOut.Gen.facts, Cert.DwOutIdeal.Gen.facts,
    Cert.DwOutRefIdeal.Gen.facts, Cert.DwA.Gen.facts, Cert.DwAIdeal.Gen.facts,
    Cert.DwARefIdeal.Gen.facts, Cert.DwB.Gen.facts, Cert.DwBIdeal.Gen.facts,
    Cert.DwBRefIdeal.Gen.facts, Cert.BranchA.Gen.facts, Cert.BranchAIdeal.Gen.facts,
    Cert.BranchARefIdeal.Gen.facts, Cert.NormIn.Gen.facts, Cert.NormInIdeal.Gen.facts,
    Cert.NormInStepIdeal.Gen.facts, Cert.NormV.Gen.facts, Cert.NormVIdeal.Gen.facts,
    Cert.NormVStepIdeal.Gen.facts, Cert.NormFinal.Gen.facts, Cert.NormFinalIdeal.Gen.facts,
    Cert.NormFinalStepIdeal.Gen.facts, Cert.Spatial.Gen.facts, Cert.SpatialIdeal.Gen.facts,
    Cert.SpatialStepIdeal.Gen.facts, Cert.Bias.Gen.facts, Cert.BiasIdeal.Gen.facts,
    Cert.BiasStepIdeal.Gen.facts,
    frame_kernel, frame_ideal, frame_reference,
    Cert.Gathering.frame_kernel, Cert.Gathering.frame_ideal, Cert.Gathering.frame_reference,
    Cert.Gathering.frame_plain, Cert.DxEnd.frame_kernel, Cert.DxEnd.frame_ideal,
    Cert.DxEnd.frame_reference, Cert.Proj.frame_kernel, Cert.Proj.frame_ideal, Cert.Proj.frame_reference,
    Cert.Products.DwIn.frame_kernel, Cert.Products.DwIn.frame_ideal,
    Cert.Products.DwIn.frame_reference, Cert.Products.DwOut.frame_kernel, Cert.Products.DwOut.frame_ideal,
    Cert.Products.DwOut.frame_reference, Cert.Products.DwA.frame_kernel, Cert.Products.DwA.frame_ideal,
    Cert.Products.DwA.frame_reference, Cert.Products.DwB.frame_kernel, Cert.Products.DwB.frame_ideal,
    Cert.Products.DwB.frame_reference, Cert.Gating.frame_kernel, Cert.Gating.frame_ideal,
    Cert.Gating.frame_reference, Cert.Small.NormIn.frame_kernel, Cert.Small.NormIn.frame_ideal,
    Cert.Small.NormIn.frame_reference, Cert.Small.NormV.frame_kernel, Cert.Small.NormV.frame_ideal,
    Cert.Small.NormV.frame_reference, Cert.Small.NormFinal.frame_kernel, Cert.Small.NormFinal.frame_ideal,
    Cert.Small.NormFinal.frame_reference, Cert.Small.Spatial.frame_kernel, Cert.Small.Spatial.frame_ideal,
    Cert.Small.Spatial.frame_reference, Cert.Small.Bias.frame_kernel, Cert.Small.Bias.frame_ideal,
    Cert.Small.Bias.frame_reference,
    trivial, same_values, trivial,
    Cert.Gathering.same_values, Cert.Gathering.same_bits, trivial,
    Cert.DxEnd.same_values, trivial, Cert.Proj.same_values, trivial, Cert.Products.DwIn.same_values,
    trivial, Cert.Products.DwOut.same_values, trivial,
    Cert.Products.DwA.same_values, trivial, Cert.Products.DwB.same_values,
    trivial, Cert.Gating.same_values, trivial,
    Cert.Small.NormIn.same_values, trivial, Cert.Small.NormV.same_values,
    trivial, Cert.Small.NormFinal.same_values, trivial,
    Cert.Small.Spatial.same_values, trivial, Cert.Small.Bias.same_values⟩

end Cert.Proof

end
